-- ==== Defs.lean ====
def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_finite_up [hPre_finite_up : Cert.Pre_finite_up.Facts] (m : (ℓ : Loc Cert.UpIdeal.nD Cert.UpIdeal.τ Cert.UpIdeal.sig) → Buf (Elt Ideal) ℓ) : Prop :=
  ∀ c : Dev Cert.UpIdeal.nD,
    (Cert.Pre_finite_up.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_finite_up [hPre_finite_up : Cert.Pre_finite_up.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_finite_up.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1))) = (fun _ => 1#1)

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownIdeal_finite_down [hPre_finite_down : Cert.Pre_finite_down.Facts] (m : (ℓ : Loc Cert.DownIdeal.nD Cert.DownIdeal.τ Cert.DownIdeal.sig) → Buf (Elt Ideal) ℓ) : Prop :=
  ∀ c : Dev Cert.DownIdeal.nD,
    (Cert.Pre_finite_down.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_finite_down [hPre_finite_down : Cert.Pre_finite_down.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_finite_down.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3))) = (fun _ => 1#1)

def Pre_BwdUp (m : (ℓ : Loc Cert.BwdUp.nD Cert.BwdUp.τ Cert.BwdUp.sig) → Buf (Elt Bits) ℓ) : Prop :=
  True

def Pre_BwdUpIdeal (m : (ℓ : Loc Cert.BwdUpIdeal.nD Cert.BwdUpIdeal.τ Cert.BwdUpIdeal.sig) → Buf (Elt Ideal) ℓ) : Prop :=
  True

def Pre_BwdUpRefIdeal (m : (ℓ : Loc Cert.BwdUpRefIdeal.nD Cert.BwdUpRefIdeal.τ Cert.BwdUpRefIdeal.sig) → Buf (Elt Ideal) ℓ) : Prop :=
  True

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_WFfnOut (m : (ℓ : Loc Cert.WFfnOut.nD Cert.WFfnOut.τ Cert.WFfnOut.sig) → Buf (Elt Bits) ℓ) : Prop :=
  True

def Pre_WFfnOutIdeal (m : (ℓ : Loc Cert.WFfnOutIdeal.nD Cert.WFfnOutIdeal.τ Cert.WFfnOutIdeal.sig) → Buf (Elt Ideal) ℓ) : Prop :=
  True

def Pre_WFfnOutRefIdeal (m : (ℓ : Loc Cert.WFfnOutRefIdeal.nD Cert.WFfnOutRefIdeal.τ Cert.WFfnOutRefIdeal.sig) → Buf (Elt Ideal) ℓ) : Prop :=
  True

def Pre_WFfnIn (m : (ℓ : Loc Cert.WFfnIn.nD Cert.WFfnIn.τ Cert.WFfnIn.sig) → Buf (Elt Bits) ℓ) : Prop :=
  True

def Pre_WFfnInIdeal (m : (ℓ : Loc Cert.WFfnInIdeal.nD Cert.WFfnInIdeal.τ Cert.WFfnInIdeal.sig) → Buf (Elt Ideal) ℓ) : Prop :=
  True

def Pre_WFfnInRefIdeal (m : (ℓ : Loc Cert.WFfnInRefIdeal.nD Cert.WFfnInRefIdeal.τ Cert.WFfnInRefIdeal.sig) → Buf (Elt Ideal) ℓ) : Prop :=
  True

def Pre_WO (m : (ℓ : Loc Cert.WO.nD Cert.WO.τ Cert.WO.sig) → Buf (Elt Bits) ℓ) : Prop :=
  True

def Pre_WOIdeal (m : (ℓ : Loc Cert.WOIdeal.nD Cert.WOIdeal.τ Cert.WOIdeal.sig) → Buf (Elt Ideal) ℓ) : Prop :=
  True

def Pre_WORefIdeal (m : (ℓ : Loc Cert.WORefIdeal.nD Cert.WORefIdeal.τ Cert.WORefIdeal.sig) → Buf (Elt Ideal) ℓ) : Prop :=
  True

def Pre_WPoolOut (m : (ℓ : Loc Cert.WPoolOut.nD Cert.WPoolOut.τ Cert.WPoolOut.sig) → Buf (Elt Bits) ℓ) : Prop :=
  True

def Pre_WPoolOutIdeal (m : (ℓ : Loc Cert.WPoolOutIdeal.nD Cert.WPoolOutIdeal.τ Cert.WPoolOutIdeal.sig) → Buf (Elt Ideal) ℓ) : Prop :=
  True

def Pre_WPoolOutRefIdeal (m : (ℓ : Loc Cert.WPoolOutRefIdeal.nD Cert.WPoolOutRefIdeal.τ Cert.WPoolOutRefIdeal.sig) → Buf (Elt Ideal) ℓ) : Prop :=
  True

def Pre_WRnnOut (m : (ℓ : Loc Cert.WRnnOut.nD Cert.WRnnOut.τ Cert.WRnnOut.sig) → Buf (Elt Bits) ℓ) : Prop :=
  True

def Pre_WRnnOutIdeal (m : (ℓ : Loc Cert.WRnnOutIdeal.nD Cert.WRnnOutIdeal.τ Cert.WRnnOutIdeal.sig) → Buf (Elt Ideal) ℓ) : Prop :=
  True

def Pre_WRnnOutRefIdeal (m : (ℓ : Loc Cert.WRnnOutRefIdeal.nD Cert.WRnnOutRefIdeal.τ Cert.WRnnOutRefIdeal.sig) → Buf (Elt Ideal) ℓ) : Prop :=
  True

def Pre_WIn (m : (ℓ : Loc Cert.WIn.nD Cert.WIn.τ Cert.WIn.sig) → Buf (Elt Bits) ℓ) : Prop :=
  True

def Pre_WInIdeal (m : (ℓ : Loc Cert.WInIdeal.nD Cert.WInIdeal.τ Cert.WInIdeal.sig) → Buf (Elt Ideal) ℓ) : Prop :=
  True

def Pre_WInRefIdeal (m : (ℓ : Loc Cert.WInRefIdeal.nD Cert.WInRefIdeal.τ Cert.WInRefIdeal.sig) → Buf (Elt Ideal) ℓ) : Prop :=
  True

def Pre_FIn [hPre_place_w_in : Cert.Pre_place_w_in.Facts] (m : (ℓ : Loc Cert.FIn.nD Cert.FIn.τ Cert.FIn.sig) → Buf (Elt Bits) ℓ) : Prop :=
  ∀ c : Dev Cert.FIn.nD,
    (Cert.Pre_place_w_in.fn (F := Bits) (m ((c.tc : Thread Cert.FIn.nD Cert.FIn.τ).loc Cert.FIn.main_arg0)) (m ((c.tc : Thread Cert.FIn.nD Cert.FIn.τ).loc Cert.FIn.main_arg1)) (m ((c.tc : Thread Cert.FIn.nD Cert.FIn.τ).loc Cert.FIn.main_arg2)) (m ((c.tc : Thread Cert.FIn.nD Cert.FIn.τ).loc Cert.FIn.main_arg3)) (m ((c.tc : Thread Cert.FIn.nD Cert.FIn.τ).loc Cert.FIn.main_arg4)) (m ((c.tc : Thread Cert.FIn.nD Cert.FIn.τ).loc Cert.FIn.main_arg5)) (m ((c.tc : Thread Cert.FIn.nD Cert.FIn.τ).loc Cert.FIn.main_arg6))) = (fun _ => 1#1)

def Pre_FInIdeal [hPre_place_w_in : Cert.Pre_place_w_in.Facts] (m : (ℓ : Loc Cert.FInIdeal.nD Cert.FInIdeal.τ Cert.FInIdeal.sig) → Buf (Elt Ideal) ℓ) : Prop :=
  ∀ c : Dev Cert.FInIdeal.nD,
    (Cert.Pre_place_w_in.fn (F := Ideal) (m ((c.tc : Thread Cert.FInIdeal.nD Cert.FInIdeal.τ).loc Cert.FInIdeal.main_arg0)) (m ((c.tc : Thread Cert.FInIdeal.nD Cert.FInIdeal.τ).loc Cert.FInIdeal.main_arg1)) (m ((c.tc : Thread Cert.FInIdeal.nD Cert.FInIdeal.τ).loc Cert.FInIdeal.main_arg2)) (m ((c.tc : Thread Cert.FInIdeal.nD Cert.FInIdeal.τ).loc Cert.FInIdeal.main_arg3)) (m ((c.tc : Thread Cert.FInIdeal.nD Cert.FInIdeal.τ).loc Cert.FInIdeal.main_arg4)) (m ((c.tc : Thread Cert.FInIdeal.nD Cert.FInIdeal.τ).loc Cert.FInIdeal.main_arg5)) (m ((c.tc : Thread Cert.FInIdeal.nD Cert.FInIdeal.τ).loc Cert.FInIdeal.main_arg6))) = (fun _ => 1#1)

def Pre_FInRefIdeal (m : (ℓ : Loc Cert.FInRefIdeal.nD Cert.FInRefIdeal.τ Cert.FInRefIdeal.sig) → Buf (Elt Ideal) ℓ) : Prop :=
  True

def Pre_FInRefIdeal_place_w_in [hPre_place_w_in : Cert.Pre_place_w_in.Facts] (m : (ℓ : Loc Cert.FInRefIdeal.nD Cert.FInRefIdeal.τ Cert.FInRefIdeal.sig) → Buf (Elt Ideal) ℓ) : Prop :=
  ∀ c : Dev Cert.FInRefIdeal.nD,
    (Cert.Pre_place_w_in.fn (F := Ideal) (m ((c.tc : Thread Cert.FInRefIdeal.nD Cert.FInRefIdeal.τ).loc Cert.FInRefIdeal.main_arg0)) (m ((c.tc : Thread Cert.FInRefIdeal.nD Cert.FInRefIdeal.τ).loc Cert.FInRefIdeal.main_arg1)) (m ((c.tc : Thread Cert.FInRefIdeal.nD Cert.FInRefIdeal.τ).loc Cert.FInRefIdeal.main_arg2)) (m ((c.tc : Thread Cert.FInRefIdeal.nD Cert.FInRefIdeal.τ).loc Cert.FInRefIdeal.main_arg3)) (m ((c.tc : Thread Cert.FInRefIdeal.nD Cert.FInRefIdeal.τ).loc Cert.FInRefIdeal.main_arg4)) (m ((c.tc : Thread Cert.FInRefIdeal.nD Cert.FInRefIdeal.τ).loc Cert.FInRefIdeal.main_arg5)) (m ((c.tc : Thread Cert.FInRefIdeal.nD Cert.FInRefIdeal.τ).loc Cert.FInRefIdeal.main_arg6))) = (fun _ => 1#1)

def Pre_FPoolOut [hPre_place_w_pool_out : Cert.Pre_place_w_pool_out.Facts] (m : (ℓ : Loc Cert.FPoolOut.nD Cert.FPoolOut.τ Cert.FPoolOut.sig) → Buf (Elt Bits) ℓ) : Prop :=
  ∀ c : Dev Cert.FPoolOut.nD,
    (Cert.Pre_place_w_pool_out.fn (F := Bits) (m ((c.tc : Thread Cert.FPoolOut.nD Cert.FPoolOut.τ).loc Cert.FPoolOut.main_arg0)) (m ((c.tc : Thread Cert.FPoolOut.nD Cert.FPoolOut.τ).loc Cert.FPoolOut.main_arg1)) (m ((c.tc : Thread Cert.FPoolOut.nD Cert.FPoolOut.τ).loc Cert.FPoolOut.main_arg2)) (m ((c.tc : Thread Cert.FPoolOut.nD Cert.FPoolOut.τ).loc Cert.FPoolOut.main_arg3)) (m ((c.tc : Thread Cert.FPoolOut.nD Cert.FPoolOut.τ).loc Cert.FPoolOut.main_arg4)) (m ((c.tc : Thread Cert.FPoolOut.nD Cert.FPoolOut.τ).loc Cert.FPoolOut.main_arg5)) (m ((c.tc : Thread Cert.FPoolOut.nD Cert.FPoolOut.τ).loc Cert.FPoolOut.main_arg6))) = (fun _ => 1#1)

def Pre_FPoolOutIdeal [hPre_place_w_pool_out : Cert.Pre_place_w_pool_out.Facts] (m : (ℓ : Loc Cert.FPoolOutIdeal.nD Cert.FPoolOutIdeal.τ Cert.FPoolOutIdeal.sig) → Buf (Elt Ideal) ℓ) : Prop :=
  ∀ c : Dev Cert.FPoolOutIdeal.nD,
    (Cert.Pre_place_w_pool_out.fn (F := Ideal) (m ((c.tc : Thread Cert.FPoolOutIdeal.nD Cert.FPoolOutIdeal.τ).loc Cert.FPoolOutIdeal.main_arg0)) (m ((c.tc : Thread Cert.FPoolOutIdeal.nD Cert.FPoolOutIdeal.τ).loc Cert.FPoolOutIdeal.main_arg1)) (m ((c.tc : Thread Cert.FPoolOutIdeal.nD Cert.FPoolOutIdeal.τ).loc Cert.FPoolOutIdeal.main_arg2)) (m ((c.tc : Thread Cert.FPoolOutIdeal.nD Cert.FPoolOutIdeal.τ).loc Cert.FPoolOutIdeal.main_arg3)) (m ((c.tc : Thread Cert.FPoolOutIdeal.nD Cert.FPoolOutIdeal.τ).loc Cert.FPoolOutIdeal.main_arg4)) (m ((c.tc : Thread Cert.FPoolOutIdeal.nD Cert.FPoolOutIdeal.τ).loc Cert.FPoolOutIdeal.main_arg5)) (m ((c.tc : Thread Cert.FPoolOutIdeal.nD Cert.FPoolOutIdeal.τ).loc Cert.FPoolOutIdeal.main_arg6))) = (fun _ => 1#1)

def Pre_FPoolOutRefIdeal (m : (ℓ : Loc Cert.FPoolOutRefIdeal.nD Cert.FPoolOutRefIdeal.τ Cert.FPoolOutRefIdeal.sig) → Buf (Elt Ideal) ℓ) : Prop :=
  True

def Pre_FPoolOutRefIdeal_place_w_pool_out [hPre_place_w_pool_out : Cert.Pre_place_w_pool_out.Facts] (m : (ℓ : Loc Cert.FPoolOutRefIdeal.nD Cert.FPoolOutRefIdeal.τ Cert.FPoolOutRefIdeal.sig) → Buf (Elt Ideal) ℓ) : Prop :=
  ∀ c : Dev Cert.FPoolOutRefIdeal.nD,
    (Cert.Pre_place_w_pool_out.fn (F := Ideal) (m ((c.tc : Thread Cert.FPoolOutRefIdeal.nD Cert.FPoolOutRefIdeal.τ).loc Cert.FPoolOutRefIdeal.main_arg0)) (m ((c.tc : Thread Cert.FPoolOutRefIdeal.nD Cert.FPoolOutRefIdeal.τ).loc Cert.FPoolOutRefIdeal.main_arg1)) (m ((c.tc : Thread Cert.FPoolOutRefIdeal.nD Cert.FPoolOutRefIdeal.τ).loc Cert.FPoolOutRefIdeal.main_arg2)) (m ((c.tc : Thread Cert.FPoolOutRefIdeal.nD Cert.FPoolOutRefIdeal.τ).loc Cert.FPoolOutRefIdeal.main_arg3)) (m ((c.tc : Thread Cert.FPoolOutRefIdeal.nD Cert.FPoolOutRefIdeal.τ).loc Cert.FPoolOutRefIdeal.main_arg4)) (m ((c.tc : Thread Cert.FPoolOutRefIdeal.nD Cert.FPoolOutRefIdeal.τ).loc Cert.FPoolOutRefIdeal.main_arg5)) (m ((c.tc : Thread Cert.FPoolOutRefIdeal.nD Cert.FPoolOutRefIdeal.τ).loc Cert.FPoolOutRefIdeal.main_arg6))) = (fun _ => 1#1)

def Pre_FRnnOut [hPre_place_w_rnn_out : Cert.Pre_place_w_rnn_out.Facts] (m : (ℓ : Loc Cert.FRnnOut.nD Cert.FRnnOut.τ Cert.FRnnOut.sig) → Buf (Elt Bits) ℓ) : Prop :=
  ∀ c : Dev Cert.FRnnOut.nD,
    (Cert.Pre_place_w_rnn_out.fn (F := Bits) (m ((c.tc : Thread Cert.FRnnOut.nD Cert.FRnnOut.τ).loc Cert.FRnnOut.main_arg0)) (m ((c.tc : Thread Cert.FRnnOut.nD Cert.FRnnOut.τ).loc Cert.FRnnOut.main_arg1)) (m ((c.tc : Thread Cert.FRnnOut.nD Cert.FRnnOut.τ).loc Cert.FRnnOut.main_arg2)) (m ((c.tc : Thread Cert.FRnnOut.nD Cert.FRnnOut.τ).loc Cert.FRnnOut.main_arg3)) (m ((c.tc : Thread Cert.FRnnOut.nD Cert.FRnnOut.τ).loc Cert.FRnnOut.main_arg4)) (m ((c.tc : Thread Cert.FRnnOut.nD Cert.FRnnOut.τ).loc Cert.FRnnOut.main_arg5)) (m ((c.tc : Thread Cert.FRnnOut.nD Cert.FRnnOut.τ).loc Cert.FRnnOut.main_arg6))) = (fun _ => 1#1)

def Pre_FRnnOutIdeal [hPre_place_w_rnn_out : Cert.Pre_place_w_rnn_out.Facts] (m : (ℓ : Loc Cert.FRnnOutIdeal.nD Cert.FRnnOutIdeal.τ Cert.FRnnOutIdeal.sig) → Buf (Elt Ideal) ℓ) : Prop :=
  ∀ c : Dev Cert.FRnnOutIdeal.nD,
    (Cert.Pre_place_w_rnn_out.fn (F := Ideal) (m ((c.tc : Thread Cert.FRnnOutIdeal.nD Cert.FRnnOutIdeal.τ).loc Cert.FRnnOutIdeal.main_arg0)) (m ((c.tc : Thread Cert.FRnnOutIdeal.nD Cert.FRnnOutIdeal.τ).loc Cert.FRnnOutIdeal.main_arg1)) (m ((c.tc : Thread Cert.FRnnOutIdeal.nD Cert.FRnnOutIdeal.τ).loc Cert.FRnnOutIdeal.main_arg2)) (m ((c.tc : Thread Cert.FRnnOutIdeal.nD Cert.FRnnOutIdeal.τ).loc Cert.FRnnOutIdeal.main_arg3)) (m ((c.tc : Thread Cert.FRnnOutIdeal.nD Cert.FRnnOutIdeal.τ).loc Cert.FRnnOutIdeal.main_arg4)) (m ((c.tc : Thread Cert.FRnnOutIdeal.nD Cert.FRnnOutIdeal.τ).loc Cert.FRnnOutIdeal.main_arg5)) (m ((c.tc : Thread Cert.FRnnOutIdeal.nD Cert.FRnnOutIdeal.τ).loc Cert.FRnnOutIdeal.main_arg6))) = (fun _ => 1#1)

def Pre_FRnnOutRefIdeal (m : (ℓ : Loc Cert.FRnnOutRefIdeal.nD Cert.FRnnOutRefIdeal.τ Cert.FRnnOutRefIdeal.sig) → Buf (Elt Ideal) ℓ) : Prop :=
  True

def Pre_FRnnOutRefIdeal_place_w_rnn_out [hPre_place_w_rnn_out : Cert.Pre_place_w_rnn_out.Facts] (m : (ℓ : Loc Cert.FRnnOutRefIdeal.nD Cert.FRnnOutRefIdeal.τ Cert.FRnnOutRefIdeal.sig) → Buf (Elt Ideal) ℓ) : Prop :=
  ∀ c : Dev Cert.FRnnOutRefIdeal.nD,
    (Cert.Pre_place_w_rnn_out.fn (F := Ideal) (m ((c.tc : Thread Cert.FRnnOutRefIdeal.nD Cert.FRnnOutRefIdeal.τ).loc Cert.FRnnOutRefIdeal.main_arg0)) (m ((c.tc : Thread Cert.FRnnOutRefIdeal.nD Cert.FRnnOutRefIdeal.τ).loc Cert.FRnnOutRefIdeal.main_arg1)) (m ((c.tc : Thread Cert.FRnnOutRefIdeal.nD Cert.FRnnOutRefIdeal.τ).loc Cert.FRnnOutRefIdeal.main_arg2)) (m ((c.tc : Thread Cert.FRnnOutRefIdeal.nD Cert.FRnnOutRefIdeal.τ).loc Cert.FRnnOutRefIdeal.main_arg3)) (m ((c.tc : Thread Cert.FRnnOutRefIdeal.nD Cert.FRnnOutRefIdeal.τ).loc Cert.FRnnOutRefIdeal.main_arg4)) (m ((c.tc : Thread Cert.FRnnOutRefIdeal.nD Cert.FRnnOutRefIdeal.τ).loc Cert.FRnnOutRefIdeal.main_arg5)) (m ((c.tc : Thread Cert.FRnnOutRefIdeal.nD Cert.FRnnOutRefIdeal.τ).loc Cert.FRnnOutRefIdeal.main_arg6))) = (fun _ => 1#1)

def Pre_FO [hPre_place_w_o : Cert.Pre_place_w_o.Facts] (m : (ℓ : Loc Cert.FO.nD Cert.FO.τ Cert.FO.sig) → Buf (Elt Bits) ℓ) : Prop :=
  ∀ c : Dev Cert.FO.nD,
    (Cert.Pre_place_w_o.fn (F := Bits) (m ((c.tc : Thread Cert.FO.nD Cert.FO.τ).loc Cert.FO.main_arg0)) (m ((c.tc : Thread Cert.FO.nD Cert.FO.τ).loc Cert.FO.main_arg1)) (m ((c.tc : Thread Cert.FO.nD Cert.FO.τ).loc Cert.FO.main_arg2)) (m ((c.tc : Thread Cert.FO.nD Cert.FO.τ).loc Cert.FO.main_arg3)) (m ((c.tc : Thread Cert.FO.nD Cert.FO.τ).loc Cert.FO.main_arg4)) (m ((c.tc : Thread Cert.FO.nD Cert.FO.τ).loc Cert.FO.main_arg5)) (m ((c.tc : Thread Cert.FO.nD Cert.FO.τ).loc Cert.FO.main_arg6))) = (fun _ => 1#1)

def Pre_FOIdeal [hPre_place_w_o : Cert.Pre_place_w_o.Facts] (m : (ℓ : Loc Cert.FOIdeal.nD Cert.FOIdeal.τ Cert.FOIdeal.sig) → Buf (Elt Ideal) ℓ) : Prop :=
  ∀ c : Dev Cert.FOIdeal.nD,
    (Cert.Pre_place_w_o.fn (F := Ideal) (m ((c.tc : Thread Cert.FOIdeal.nD Cert.FOIdeal.τ).loc Cert.FOIdeal.main_arg0)) (m ((c.tc : Thread Cert.FOIdeal.nD Cert.FOIdeal.τ).loc Cert.FOIdeal.main_arg1)) (m ((c.tc : Thread Cert.FOIdeal.nD Cert.FOIdeal.τ).loc Cert.FOIdeal.main_arg2)) (m ((c.tc : Thread Cert.FOIdeal.nD Cert.FOIdeal.τ).loc Cert.FOIdeal.main_arg3)) (m ((c.tc : Thread Cert.FOIdeal.nD Cert.FOIdeal.τ).loc Cert.FOIdeal.main_arg4)) (m ((c.tc : Thread Cert.FOIdeal.nD Cert.FOIdeal.τ).loc Cert.FOIdeal.main_arg5)) (m ((c.tc : Thread Cert.FOIdeal.nD Cert.FOIdeal.τ).loc Cert.FOIdeal.main_arg6))) = (fun _ => 1#1)

def Pre_FORefIdeal (m : (ℓ : Loc Cert.FORefIdeal.nD Cert.FORefIdeal.τ Cert.FORefIdeal.sig) → Buf (Elt Ideal) ℓ) : Prop :=
  True

def Pre_FORefIdeal_place_w_o [hPre_place_w_o : Cert.Pre_place_w_o.Facts] (m : (ℓ : Loc Cert.FORefIdeal.nD Cert.FORefIdeal.τ Cert.FORefIdeal.sig) → Buf (Elt Ideal) ℓ) : Prop :=
  ∀ c : Dev Cert.FORefIdeal.nD,
    (Cert.Pre_place_w_o.fn (F := Ideal) (m ((c.tc : Thread Cert.FORefIdeal.nD Cert.FORefIdeal.τ).loc Cert.FORefIdeal.main_arg0)) (m ((c.tc : Thread Cert.FORefIdeal.nD Cert.FORefIdeal.τ).loc Cert.FORefIdeal.main_arg1)) (m ((c.tc : Thread Cert.FORefIdeal.nD Cert.FORefIdeal.τ).loc Cert.FORefIdeal.main_arg2)) (m ((c.tc : Thread Cert.FORefIdeal.nD Cert.FORefIdeal.τ).loc Cert.FORefIdeal.main_arg3)) (m ((c.tc : Thread Cert.FORefIdeal.nD Cert.FORefIdeal.τ).loc Cert.FORefIdeal.main_arg4)) (m ((c.tc : Thread Cert.FORefIdeal.nD Cert.FORefIdeal.τ).loc Cert.FORefIdeal.main_arg5)) (m ((c.tc : Thread Cert.FORefIdeal.nD Cert.FORefIdeal.τ).loc Cert.FORefIdeal.main_arg6))) = (fun _ => 1#1)

def Pre_FFfnIn [hPre_place_w_ffn_in : Cert.Pre_place_w_ffn_in.Facts] (m : (ℓ : Loc Cert.FFfnIn.nD Cert.FFfnIn.τ Cert.FFfnIn.sig) → Buf (Elt Bits) ℓ) : Prop :=
  ∀ c : Dev Cert.FFfnIn.nD,
    (Cert.Pre_place_w_ffn_in.fn (F := Bits) (m ((c.tc : Thread Cert.FFfnIn.nD Cert.FFfnIn.τ).loc Cert.FFfnIn.main_arg0)) (m ((c.tc : Thread Cert.FFfnIn.nD Cert.FFfnIn.τ).loc Cert.FFfnIn.main_arg1)) (m ((c.tc : Thread Cert.FFfnIn.nD Cert.FFfnIn.τ).loc Cert.FFfnIn.main_arg2)) (m ((c.tc : Thread Cert.FFfnIn.nD Cert.FFfnIn.τ).loc Cert.FFfnIn.main_arg3)) (m ((c.tc : Thread Cert.FFfnIn.nD Cert.FFfnIn.τ).loc Cert.FFfnIn.main_arg4)) (m ((c.tc : Thread Cert.FFfnIn.nD Cert.FFfnIn.τ).loc Cert.FFfnIn.main_arg5)) (m ((c.tc : Thread Cert.FFfnIn.nD Cert.FFfnIn.τ).loc Cert.FFfnIn.main_arg6))) = (fun _ => 1#1)

def Pre_FFfnInIdeal [hPre_place_w_ffn_in : Cert.Pre_place_w_ffn_in.Facts] (m : (ℓ : Loc Cert.FFfnInIdeal.nD Cert.FFfnInIdeal.τ Cert.FFfnInIdeal.sig) → Buf (Elt Ideal) ℓ) : Prop :=
  ∀ c : Dev Cert.FFfnInIdeal.nD,
    (Cert.Pre_place_w_ffn_in.fn (F := Ideal) (m ((c.tc : Thread Cert.FFfnInIdeal.nD Cert.FFfnInIdeal.τ).loc Cert.FFfnInIdeal.main_arg0)) (m ((c.tc : Thread Cert.FFfnInIdeal.nD Cert.FFfnInIdeal.τ).loc Cert.FFfnInIdeal.main_arg1)) (m ((c.tc : Thread Cert.FFfnInIdeal.nD Cert.FFfnInIdeal.τ).loc Cert.FFfnInIdeal.main_arg2)) (m ((c.tc : Thread Cert.FFfnInIdeal.nD Cert.FFfnInIdeal.τ).loc Cert.FFfnInIdeal.main_arg3)) (m ((c.tc : Thread Cert.FFfnInIdeal.nD Cert.FFfnInIdeal.τ).loc Cert.FFfnInIdeal.main_arg4)) (m ((c.tc : Thread Cert.FFfnInIdeal.nD Cert.FFfnInIdeal.τ).loc Cert.FFfnInIdeal.main_arg5)) (m ((c.tc : Thread Cert.FFfnInIdeal.nD Cert.FFfnInIdeal.τ).loc Cert.FFfnInIdeal.main_arg6))) = (fun _ => 1#1)

def Pre_FFfnInRefIdeal (m : (ℓ : Loc Cert.FFfnInRefIdeal.nD Cert.FFfnInRefIdeal.τ Cert.FFfnInRefIdeal.sig) → Buf (Elt Ideal) ℓ) : Prop :=
  True

def Pre_FFfnInRefIdeal_place_w_ffn_in [hPre_place_w_ffn_in : Cert.Pre_place_w_ffn_in.Facts] (m : (ℓ : Loc Cert.FFfnInRefIdeal.nD Cert.FFfnInRefIdeal.τ Cert.FFfnInRefIdeal.sig) → Buf (Elt Ideal) ℓ) : Prop :=
  ∀ c : Dev Cert.FFfnInRefIdeal.nD,
    (Cert.Pre_place_w_ffn_in.fn (F := Ideal) (m ((c.tc : Thread Cert.FFfnInRefIdeal.nD Cert.FFfnInRefIdeal.τ).loc Cert.FFfnInRefIdeal.main_arg0)) (m ((c.tc : Thread Cert.FFfnInRefIdeal.nD Cert.FFfnInRefIdeal.τ).loc Cert.FFfnInRefIdeal.main_arg1)) (m ((c.tc : Thread Cert.FFfnInRefIdeal.nD Cert.FFfnInRefIdeal.τ).loc Cert.FFfnInRefIdeal.main_arg2)) (m ((c.tc : Thread Cert.FFfnInRefIdeal.nD Cert.FFfnInRefIdeal.τ).loc Cert.FFfnInRefIdeal.main_arg3)) (m ((c.tc : Thread Cert.FFfnInRefIdeal.nD Cert.FFfnInRefIdeal.τ).loc Cert.FFfnInRefIdeal.main_arg4)) (m ((c.tc : Thread Cert.FFfnInRefIdeal.nD Cert.FFfnInRefIdeal.τ).loc Cert.FFfnInRefIdeal.main_arg5)) (m ((c.tc : Thread Cert.FFfnInRefIdeal.nD Cert.FFfnInRefIdeal.τ).loc Cert.FFfnInRefIdeal.main_arg6))) = (fun _ => 1#1)

def Pre_FFfnOut [hPre_place_w_ffn_out : Cert.Pre_place_w_ffn_out.Facts] (m : (ℓ : Loc Cert.FFfnOut.nD Cert.FFfnOut.τ Cert.FFfnOut.sig) → Buf (Elt Bits) ℓ) : Prop :=
  ∀ c : Dev Cert.FFfnOut.nD,
    (Cert.Pre_place_w_ffn_out.fn (F := Bits) (m ((c.tc : Thread Cert.FFfnOut.nD Cert.FFfnOut.τ).loc Cert.FFfnOut.main_arg0)) (m ((c.tc : Thread Cert.FFfnOut.nD Cert.FFfnOut.τ).loc Cert.FFfnOut.main_arg1)) (m ((c.tc : Thread Cert.FFfnOut.nD Cert.FFfnOut.τ).loc Cert.FFfnOut.main_arg2)) (m ((c.tc : Thread Cert.FFfnOut.nD Cert.FFfnOut.τ).loc Cert.FFfnOut.main_arg3)) (m ((c.tc : Thread Cert.FFfnOut.nD Cert.FFfnOut.τ).loc Cert.FFfnOut.main_arg4)) (m ((c.tc : Thread Cert.FFfnOut.nD Cert.FFfnOut.τ).loc Cert.FFfnOut.main_arg5)) (m ((c.tc : Thread Cert.FFfnOut.nD Cert.FFfnOut.τ).loc Cert.FFfnOut.main_arg6))) = (fun _ => 1#1)

def Pre_FFfnOutIdeal [hPre_place_w_ffn_out : Cert.Pre_place_w_ffn_out.Facts] (m : (ℓ : Loc Cert.FFfnOutIdeal.nD Cert.FFfnOutIdeal.τ Cert.FFfnOutIdeal.sig) → Buf (Elt Ideal) ℓ) : Prop :=
  ∀ c : Dev Cert.FFfnOutIdeal.nD,
    (Cert.Pre_place_w_ffn_out.fn (F := Ideal) (m ((c.tc : Thread Cert.FFfnOutIdeal.nD Cert.FFfnOutIdeal.τ).loc Cert.FFfnOutIdeal.main_arg0)) (m ((c.tc : Thread Cert.FFfnOutIdeal.nD Cert.FFfnOutIdeal.τ).loc Cert.FFfnOutIdeal.main_arg1)) (m ((c.tc : Thread Cert.FFfnOutIdeal.nD Cert.FFfnOutIdeal.τ).loc Cert.FFfnOutIdeal.main_arg2)) (m ((c.tc : Thread Cert.FFfnOutIdeal.nD Cert.FFfnOutIdeal.τ).loc Cert.FFfnOutIdeal.main_arg3)) (m ((c.tc : Thread Cert.FFfnOutIdeal.nD Cert.FFfnOutIdeal.τ).loc Cert.FFfnOutIdeal.main_arg4)) (m ((c.tc : Thread Cert.FFfnOutIdeal.nD Cert.FFfnOutIdeal.τ).loc Cert.FFfnOutIdeal.main_arg5)) (m ((c.tc : Thread Cert.FFfnOutIdeal.nD Cert.FFfnOutIdeal.τ).loc Cert.FFfnOutIdeal.main_arg6))) = (fun _ => 1#1)

def Pre_FFfnOutRefIdeal (m : (ℓ : Loc Cert.FFfnOutRefIdeal.nD Cert.FFfnOutRefIdeal.τ Cert.FFfnOutRefIdeal.sig) → Buf (Elt Ideal) ℓ) : Prop :=
  True

def Pre_FFfnOutRefIdeal_place_w_ffn_out [hPre_place_w_ffn_out : Cert.Pre_place_w_ffn_out.Facts] (m : (ℓ : Loc Cert.FFfnOutRefIdeal.nD Cert.FFfnOutRefIdeal.τ Cert.FFfnOutRefIdeal.sig) → Buf (Elt Ideal) ℓ) : Prop :=
  ∀ c : Dev Cert.FFfnOutRefIdeal.nD,
    (Cert.Pre_place_w_ffn_out.fn (F := Ideal) (m ((c.tc : Thread Cert.FFfnOutRefIdeal.nD Cert.FFfnOutRefIdeal.τ).loc Cert.FFfnOutRefIdeal.main_arg0)) (m ((c.tc : Thread Cert.FFfnOutRefIdeal.nD Cert.FFfnOutRefIdeal.τ).loc Cert.FFfnOutRefIdeal.main_arg1)) (m ((c.tc : Thread Cert.FFfnOutRefIdeal.nD Cert.FFfnOutRefIdeal.τ).loc Cert.FFfnOutRefIdeal.main_arg2)) (m ((c.tc : Thread Cert.FFfnOutRefIdeal.nD Cert.FFfnOutRefIdeal.τ).loc Cert.FFfnOutRefIdeal.main_arg3)) (m ((c.tc : Thread Cert.FFfnOutRefIdeal.nD Cert.FFfnOutRefIdeal.τ).loc Cert.FFfnOutRefIdeal.main_arg4)) (m ((c.tc : Thread Cert.FFfnOutRefIdeal.nD Cert.FFfnOutRefIdeal.τ).loc Cert.FFfnOutRefIdeal.main_arg5)) (m ((c.tc : Thread Cert.FFfnOutRefIdeal.nD Cert.FFfnOutRefIdeal.τ).loc Cert.FFfnOutRefIdeal.main_arg6))) = (fun _ => 1#1)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpIdeal_pre_finite_up [hUpIdeal : Cert.UpIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg), Pre_UpIdeal_finite_up m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpRefIdeal_pre_finite_up [hUpRefIdeal : Cert.UpRefIdeal.Facts] [hPre_finite_up : Cert.Pre_finite_up.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_finite_up m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownIdeal_pre_finite_down [hDownIdeal : Cert.DownIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg), Pre_DownIdeal_finite_down m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_DownRefIdeal_pre_finite_down [hDownRefIdeal : Cert.DownRefIdeal.Facts] [hPre_finite_down : Cert.Pre_finite_down.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_finite_down m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_BwdUp [hBwdUp : Cert.BwdUp.Facts] : Prop :=
  ∀ (m : (ℓ : Loc Cert.BwdUp.nD Cert.BwdUp.τ Cert.BwdUp.sig) → Buf (Elt Bits) ℓ) (g : Dev Cert.BwdUp.nD → PrngReg), Pre_BwdUp m →
    θ_run (Cert.BwdUp.defs (F := Bits)) (onTc (τ := Cert.BwdUp.τ) (Cert.BwdUp.main (F := Bits))) ⟨m, fun _ => 0, g⟩ (fun r => (∀ c : Dev Cert.BwdUp.nD,
      r.2.mem ((c.tc : Thread Cert.BwdUp.nD Cert.BwdUp.τ).loc Cert.BwdUp.main_arg0) = m ((c.tc : Thread Cert.BwdUp.nD Cert.BwdUp.τ).loc Cert.BwdUp.main_arg0)
      ∧ r.2.mem ((c.tc : Thread Cert.BwdUp.nD Cert.BwdUp.τ).loc Cert.BwdUp.main_arg1) = m ((c.tc : Thread Cert.BwdUp.nD Cert.BwdUp.τ).loc Cert.BwdUp.main_arg1)
      ∧ r.2.mem ((c.tc : Thread Cert.BwdUp.nD Cert.BwdUp.τ).loc Cert.BwdUp.main_arg2) = m ((c.tc : Thread Cert.BwdUp.nD Cert.BwdUp.τ).loc Cert.BwdUp.main_arg2)
      ∧ r.2.mem ((c.tc : Thread Cert.BwdUp.nD Cert.BwdUp.τ).loc Cert.BwdUp.main_arg3) = m ((c.tc : Thread Cert.BwdUp.nD Cert.BwdUp.τ).loc Cert.BwdUp.main_arg3)
      ∧ r.2.mem ((c.tc : Thread Cert.BwdUp.nD Cert.BwdUp.τ).loc Cert.BwdUp.main_arg4) = m ((c.tc : Thread Cert.BwdUp.nD Cert.BwdUp.τ).loc Cert.BwdUp.main_arg4)
      ∧ r.2.mem ((c.tc : Thread Cert.BwdUp.nD Cert.BwdUp.τ).loc Cert.BwdUp.main_arg5) = m ((c.tc : Thread Cert.BwdUp.nD Cert.BwdUp.τ).loc Cert.BwdUp.main_arg5))
      ∧ r.2.sem = fun _ => 0)

def quiescent_BwdUpIdeal [hBwdUpIdeal : Cert.BwdUpIdeal.Facts] : Prop :=
  ∀ (m : (ℓ : Loc Cert.BwdUpIdeal.nD Cert.BwdUpIdeal.τ Cert.BwdUpIdeal.sig) → Buf (Elt Ideal) ℓ) (g : Dev Cert.BwdUpIdeal.nD → PrngReg), Pre_BwdUpIdeal m →
    θ_run (Cert.BwdUpIdeal.defs (F := Ideal)) (onTc (τ := Cert.BwdUpIdeal.τ) (Cert.BwdUpIdeal.main (F := Ideal))) ⟨m, fun _ => 0, g⟩ (fun r => (∀ c : Dev Cert.BwdUpIdeal.nD,
      r.2.mem ((c.tc : Thread Cert.BwdUpIdeal.nD Cert.BwdUpIdeal.τ).loc Cert.BwdUpIdeal.main_arg0) = m ((c.tc : Thread Cert.BwdUpIdeal.nD Cert.BwdUpIdeal.τ).loc Cert.BwdUpIdeal.main_arg0)
      ∧ r.2.mem ((c.tc : Thread Cert.BwdUpIdeal.nD Cert.BwdUpIdeal.τ).loc Cert.BwdUpIdeal.main_arg1) = m ((c.tc : Thread Cert.BwdUpIdeal.nD Cert.BwdUpIdeal.τ).loc Cert.BwdUpIdeal.main_arg1)
      ∧ r.2.mem ((c.tc : Thread Cert.BwdUpIdeal.nD Cert.BwdUpIdeal.τ).loc Cert.BwdUpIdeal.main_arg2) = m ((c.tc : Thread Cert.BwdUpIdeal.nD Cert.BwdUpIdeal.τ).loc Cert.BwdUpIdeal.main_arg2)
      ∧ r.2.mem ((c.tc : Thread Cert.BwdUpIdeal.nD Cert.BwdUpIdeal.τ).loc Cert.BwdUpIdeal.main_arg3) = m ((c.tc : Thread Cert.BwdUpIdeal.nD Cert.BwdUpIdeal.τ).loc Cert.BwdUpIdeal.main_arg3)
      ∧ r.2.mem ((c.tc : Thread Cert.BwdUpIdeal.nD Cert.BwdUpIdeal.τ).loc Cert.BwdUpIdeal.main_arg4) = m ((c.tc : Thread Cert.BwdUpIdeal.nD Cert.BwdUpIdeal.τ).loc Cert.BwdUpIdeal.main_arg4)
      ∧ r.2.mem ((c.tc : Thread Cert.BwdUpIdeal.nD Cert.BwdUpIdeal.τ).loc Cert.BwdUpIdeal.main_arg5) = m ((c.tc : Thread Cert.BwdUpIdeal.nD Cert.BwdUpIdeal.τ).loc Cert.BwdUpIdeal.main_arg5))
      ∧ r.2.sem = fun _ => 0)

def quiescent_BwdUpRefIdeal [hBwdUpRefIdeal : Cert.BwdUpRefIdeal.Facts] : Prop :=
  ∀ (m : (ℓ : Loc Cert.BwdUpRefIdeal.nD Cert.BwdUpRefIdeal.τ Cert.BwdUpRefIdeal.sig) → Buf (Elt Ideal) ℓ) (g : Dev Cert.BwdUpRefIdeal.nD → PrngReg), Pre_BwdUpRefIdeal m →
    θ_run (Cert.BwdUpRefIdeal.defs (F := Ideal)) (onTc (τ := Cert.BwdUpRefIdeal.τ) (Cert.BwdUpRefIdeal.main (F := Ideal))) ⟨m, fun _ => 0, g⟩ (fun r => (∀ c : Dev Cert.BwdUpRefIdeal.nD,
      r.2.mem ((c.tc : Thread Cert.BwdUpRefIdeal.nD Cert.BwdUpRefIdeal.τ).loc Cert.BwdUpRefIdeal.main_arg0) = m ((c.tc : Thread Cert.BwdUpRefIdeal.nD Cert.BwdUpRefIdeal.τ).loc Cert.BwdUpRefIdeal.main_arg0)
      ∧ r.2.mem ((c.tc : Thread Cert.BwdUpRefIdeal.nD Cert.BwdUpRefIdeal.τ).loc Cert.BwdUpRefIdeal.main_arg1) = m ((c.tc : Thread Cert.BwdUpRefIdeal.nD Cert.BwdUpRefIdeal.τ).loc Cert.BwdUpRefIdeal.main_arg1)
      ∧ r.2.mem ((c.tc : Thread Cert.BwdUpRefIdeal.nD Cert.BwdUpRefIdeal.τ).loc Cert.BwdUpRefIdeal.main_arg2) = m ((c.tc : Thread Cert.BwdUpRefIdeal.nD Cert.BwdUpRefIdeal.τ).loc Cert.BwdUpRefIdeal.main_arg2)
      ∧ r.2.mem ((c.tc : Thread Cert.BwdUpRefIdeal.nD Cert.BwdUpRefIdeal.τ).loc Cert.BwdUpRefIdeal.main_arg3) = m ((c.tc : Thread Cert.BwdUpRefIdeal.nD Cert.BwdUpRefIdeal.τ).loc Cert.BwdUpRefIdeal.main_arg3)
      ∧ r.2.mem ((c.tc : Thread Cert.BwdUpRefIdeal.nD Cert.BwdUpRefIdeal.τ).loc Cert.BwdUpRefIdeal.main_arg4) = m ((c.tc : Thread Cert.BwdUpRefIdeal.nD Cert.BwdUpRefIdeal.τ).loc Cert.BwdUpRefIdeal.main_arg4)
      ∧ r.2.mem ((c.tc : Thread Cert.BwdUpRefIdeal.nD Cert.BwdUpRefIdeal.τ).loc Cert.BwdUpRefIdeal.main_arg5) = m ((c.tc : Thread Cert.BwdUpRefIdeal.nD Cert.BwdUpRefIdeal.τ).loc Cert.BwdUpRefIdeal.main_arg5))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_WFfnOut [hWFfnOut : Cert.WFfnOut.Facts] : Prop :=
  ∀ (m : (ℓ : Loc Cert.WFfnOut.nD Cert.WFfnOut.τ Cert.WFfnOut.sig) → Buf (Elt Bits) ℓ) (g : Dev Cert.WFfnOut.nD → PrngReg), Pre_WFfnOut m →
    θ_run (Cert.WFfnOut.defs (F := Bits)) (onTc (τ := Cert.WFfnOut.τ) (Cert.WFfnOut.main (F := Bits))) ⟨m, fun _ => 0, g⟩ (fun r => (∀ c : Dev Cert.WFfnOut.nD,
      r.2.mem ((c.tc : Thread Cert.WFfnOut.nD Cert.WFfnOut.τ).loc Cert.WFfnOut.main_arg0) = m ((c.tc : Thread Cert.WFfnOut.nD Cert.WFfnOut.τ).loc Cert.WFfnOut.main_arg0)
      ∧ r.2.mem ((c.tc : Thread Cert.WFfnOut.nD Cert.WFfnOut.τ).loc Cert.WFfnOut.main_arg1) = m ((c.tc : Thread Cert.WFfnOut.nD Cert.WFfnOut.τ).loc Cert.WFfnOut.main_arg1))
      ∧ r.2.sem = fun _ => 0)

def quiescent_WFfnOutIdeal [hWFfnOutIdeal : Cert.WFfnOutIdeal.Facts] : Prop :=
  ∀ (m : (ℓ : Loc Cert.WFfnOutIdeal.nD Cert.WFfnOutIdeal.τ Cert.WFfnOutIdeal.sig) → Buf (Elt Ideal) ℓ) (g : Dev Cert.WFfnOutIdeal.nD → PrngReg), Pre_WFfnOutIdeal m →
    θ_run (Cert.WFfnOutIdeal.defs (F := Ideal)) (onTc (τ := Cert.WFfnOutIdeal.τ) (Cert.WFfnOutIdeal.main (F := Ideal))) ⟨m, fun _ => 0, g⟩ (fun r => (∀ c : Dev Cert.WFfnOutIdeal.nD,
      r.2.mem ((c.tc : Thread Cert.WFfnOutIdeal.nD Cert.WFfnOutIdeal.τ).loc Cert.WFfnOutIdeal.main_arg0) = m ((c.tc : Thread Cert.WFfnOutIdeal.nD Cert.WFfnOutIdeal.τ).loc Cert.WFfnOutIdeal.main_arg0)
      ∧ r.2.mem ((c.tc : Thread Cert.WFfnOutIdeal.nD Cert.WFfnOutIdeal.τ).loc Cert.WFfnOutIdeal.main_arg1) = m ((c.tc : Thread Cert.WFfnOutIdeal.nD Cert.WFfnOutIdeal.τ).loc Cert.WFfnOutIdeal.main_arg1))
      ∧ r.2.sem = fun _ => 0)

def quiescent_WFfnOutRefIdeal [hWFfnOutRefIdeal : Cert.WFfnOutRefIdeal.Facts] : Prop :=
  ∀ (m : (ℓ : Loc Cert.WFfnOutRefIdeal.nD Cert.WFfnOutRefIdeal.τ Cert.WFfnOutRefIdeal.sig) → Buf (Elt Ideal) ℓ) (g : Dev Cert.WFfnOutRefIdeal.nD → PrngReg), Pre_WFfnOutRefIdeal m →
    θ_run (Cert.WFfnOutRefIdeal.defs (F := Ideal)) (onTc (τ := Cert.WFfnOutRefIdeal.τ) (Cert.WFfnOutRefIdeal.main (F := Ideal))) ⟨m, fun _ => 0, g⟩ (fun r => (∀ c : Dev Cert.WFfnOutRefIdeal.nD,
      r.2.mem ((c.tc : Thread Cert.WFfnOutRefIdeal.nD Cert.WFfnOutRefIdeal.τ).loc Cert.WFfnOutRefIdeal.main_arg0) = m ((c.tc : Thread Cert.WFfnOutRefIdeal.nD Cert.WFfnOutRefIdeal.τ).loc Cert.WFfnOutRefIdeal.main_arg0)
      ∧ r.2.mem ((c.tc : Thread Cert.WFfnOutRefIdeal.nD Cert.WFfnOutRefIdeal.τ).loc Cert.WFfnOutRefIdeal.main_arg1) = m ((c.tc : Thread Cert.WFfnOutRefIdeal.nD Cert.WFfnOutRefIdeal.τ).loc Cert.WFfnOutRefIdeal.main_arg1))
      ∧ r.2.sem = fun _ => 0)

def quiescent_WFfnIn [hWFfnIn : Cert.WFfnIn.Facts] : Prop :=
  ∀ (m : (ℓ : Loc Cert.WFfnIn.nD Cert.WFfnIn.τ Cert.WFfnIn.sig) → Buf (Elt Bits) ℓ) (g : Dev Cert.WFfnIn.nD → PrngReg), Pre_WFfnIn m →
    θ_run (Cert.WFfnIn.defs (F := Bits)) (onTc (τ := Cert.WFfnIn.τ) (Cert.WFfnIn.main (F := Bits))) ⟨m, fun _ => 0, g⟩ (fun r => (∀ c : Dev Cert.WFfnIn.nD,
      r.2.mem ((c.tc : Thread Cert.WFfnIn.nD Cert.WFfnIn.τ).loc Cert.WFfnIn.main_arg0) = m ((c.tc : Thread Cert.WFfnIn.nD Cert.WFfnIn.τ).loc Cert.WFfnIn.main_arg0)
      ∧ r.2.mem ((c.tc : Thread Cert.WFfnIn.nD Cert.WFfnIn.τ).loc Cert.WFfnIn.main_arg1) = m ((c.tc : Thread Cert.WFfnIn.nD Cert.WFfnIn.τ).loc Cert.WFfnIn.main_arg1))
      ∧ r.2.sem = fun _ => 0)

def quiescent_WFfnInIdeal [hWFfnInIdeal : Cert.WFfnInIdeal.Facts] : Prop :=
  ∀ (m : (ℓ : Loc Cert.WFfnInIdeal.nD Cert.WFfnInIdeal.τ Cert.WFfnInIdeal.sig) → Buf (Elt Ideal) ℓ) (g : Dev Cert.WFfnInIdeal.nD → PrngReg), Pre_WFfnInIdeal m →
    θ_run (Cert.WFfnInIdeal.defs (F := Ideal)) (onTc (τ := Cert.WFfnInIdeal.τ) (Cert.WFfnInIdeal.main (F := Ideal))) ⟨m, fun _ => 0, g⟩ (fun r => (∀ c : Dev Cert.WFfnInIdeal.nD,
      r.2.mem ((c.tc : Thread Cert.WFfnInIdeal.nD Cert.WFfnInIdeal.τ).loc Cert.WFfnInIdeal.main_arg0) = m ((c.tc : Thread Cert.WFfnInIdeal.nD Cert.WFfnInIdeal.τ).loc Cert.WFfnInIdeal.main_arg0)
      ∧ r.2.mem ((c.tc : Thread Cert.WFfnInIdeal.nD Cert.WFfnInIdeal.τ).loc Cert.WFfnInIdeal.main_arg1) = m ((c.tc : Thread Cert.WFfnInIdeal.nD Cert.WFfnInIdeal.τ).loc Cert.WFfnInIdeal.main_arg1))
      ∧ r.2.sem = fun _ => 0)

def quiescent_WFfnInRefIdeal [hWFfnInRefIdeal : Cert.WFfnInRefIdeal.Facts] : Prop :=
  ∀ (m : (ℓ : Loc Cert.WFfnInRefIdeal.nD Cert.WFfnInRefIdeal.τ Cert.WFfnInRefIdeal.sig) → Buf (Elt Ideal) ℓ) (g : Dev Cert.WFfnInRefIdeal.nD → PrngReg), Pre_WFfnInRefIdeal m →
    θ_run (Cert.WFfnInRefIdeal.defs (F := Ideal)) (onTc (τ := Cert.WFfnInRefIdeal.τ) (Cert.WFfnInRefIdeal.main (F := Ideal))) ⟨m, fun _ => 0, g⟩ (fun r => (∀ c : Dev Cert.WFfnInRefIdeal.nD,
      r.2.mem ((c.tc : Thread Cert.WFfnInRefIdeal.nD Cert.WFfnInRefIdeal.τ).loc Cert.WFfnInRefIdeal.main_arg0) = m ((c.tc : Thread Cert.WFfnInRefIdeal.nD Cert.WFfnInRefIdeal.τ).loc Cert.WFfnInRefIdeal.main_arg0)
      ∧ r.2.mem ((c.tc : Thread Cert.WFfnInRefIdeal.nD Cert.WFfnInRefIdeal.τ).loc Cert.WFfnInRefIdeal.main_arg1) = m ((c.tc : Thread Cert.WFfnInRefIdeal.nD Cert.WFfnInRefIdeal.τ).loc Cert.WFfnInRefIdeal.main_arg1))
      ∧ r.2.sem = fun _ => 0)

def quiescent_WO [hWO : Cert.WO.Facts] : Prop :=
  ∀ (m : (ℓ : Loc Cert.WO.nD Cert.WO.τ Cert.WO.sig) → Buf (Elt Bits) ℓ) (g : Dev Cert.WO.nD → PrngReg), Pre_WO m →
    θ_run (Cert.WO.defs (F := Bits)) (onTc (τ := Cert.WO.τ) (Cert.WO.main (F := Bits))) ⟨m, fun _ => 0, g⟩ (fun r => (∀ c : Dev Cert.WO.nD,
      r.2.mem ((c.tc : Thread Cert.WO.nD Cert.WO.τ).loc Cert.WO.main_arg0) = m ((c.tc : Thread Cert.WO.nD Cert.WO.τ).loc Cert.WO.main_arg0)
      ∧ r.2.mem ((c.tc : Thread Cert.WO.nD Cert.WO.τ).loc Cert.WO.main_arg1) = m ((c.tc : Thread Cert.WO.nD Cert.WO.τ).loc Cert.WO.main_arg1))
      ∧ r.2.sem = fun _ => 0)

def quiescent_WOIdeal [hWOIdeal : Cert.WOIdeal.Facts] : Prop :=
  ∀ (m : (ℓ : Loc Cert.WOIdeal.nD Cert.WOIdeal.τ Cert.WOIdeal.sig) → Buf (Elt Ideal) ℓ) (g : Dev Cert.WOIdeal.nD → PrngReg), Pre_WOIdeal m →
    θ_run (Cert.WOIdeal.defs (F := Ideal)) (onTc (τ := Cert.WOIdeal.τ) (Cert.WOIdeal.main (F := Ideal))) ⟨m, fun _ => 0, g⟩ (fun r => (∀ c : Dev Cert.WOIdeal.nD,
      r.2.mem ((c.tc : Thread Cert.WOIdeal.nD Cert.WOIdeal.τ).loc Cert.WOIdeal.main_arg0) = m ((c.tc : Thread Cert.WOIdeal.nD Cert.WOIdeal.τ).loc Cert.WOIdeal.main_arg0)
      ∧ r.2.mem ((c.tc : Thread Cert.WOIdeal.nD Cert.WOIdeal.τ).loc Cert.WOIdeal.main_arg1) = m ((c.tc : Thread Cert.WOIdeal.nD Cert.WOIdeal.τ).loc Cert.WOIdeal.main_arg1))
      ∧ r.2.sem = fun _ => 0)

def quiescent_WORefIdeal [hWORefIdeal : Cert.WORefIdeal.Facts] : Prop :=
  ∀ (m : (ℓ : Loc Cert.WORefIdeal.nD Cert.WORefIdeal.τ Cert.WORefIdeal.sig) → Buf (Elt Ideal) ℓ) (g : Dev Cert.WORefIdeal.nD → PrngReg), Pre_WORefIdeal m →
    θ_run (Cert.WORefIdeal.defs (F := Ideal)) (onTc (τ := Cert.WORefIdeal.τ) (Cert.WORefIdeal.main (F := Ideal))) ⟨m, fun _ => 0, g⟩ (fun r => (∀ c : Dev Cert.WORefIdeal.nD,
      r.2.mem ((c.tc : Thread Cert.WORefIdeal.nD Cert.WORefIdeal.τ).loc Cert.WORefIdeal.main_arg0) = m ((c.tc : Thread Cert.WORefIdeal.nD Cert.WORefIdeal.τ).loc Cert.WORefIdeal.main_arg0)
      ∧ r.2.mem ((c.tc : Thread Cert.WORefIdeal.nD Cert.WORefIdeal.τ).loc Cert.WORefIdeal.main_arg1) = m ((c.tc : Thread Cert.WORefIdeal.nD Cert.WORefIdeal.τ).loc Cert.WORefIdeal.main_arg1))
      ∧ r.2.sem = fun _ => 0)

def quiescent_WPoolOut [hWPoolOut : Cert.WPoolOut.Facts] : Prop :=
  ∀ (m : (ℓ : Loc Cert.WPoolOut.nD Cert.WPoolOut.τ Cert.WPoolOut.sig) → Buf (Elt Bits) ℓ) (g : Dev Cert.WPoolOut.nD → PrngReg), Pre_WPoolOut m →
    θ_run (Cert.WPoolOut.defs (F := Bits)) (onTc (τ := Cert.WPoolOut.τ) (Cert.WPoolOut.main (F := Bits))) ⟨m, fun _ => 0, g⟩ (fun r => (∀ c : Dev Cert.WPoolOut.nD,
      r.2.mem ((c.tc : Thread Cert.WPoolOut.nD Cert.WPoolOut.τ).loc Cert.WPoolOut.main_arg0) = m ((c.tc : Thread Cert.WPoolOut.nD Cert.WPoolOut.τ).loc Cert.WPoolOut.main_arg0)
      ∧ r.2.mem ((c.tc : Thread Cert.WPoolOut.nD Cert.WPoolOut.τ).loc Cert.WPoolOut.main_arg1) = m ((c.tc : Thread Cert.WPoolOut.nD Cert.WPoolOut.τ).loc Cert.WPoolOut.main_arg1))
      ∧ r.2.sem = fun _ => 0)

def quiescent_WPoolOutIdeal [hWPoolOutIdeal : Cert.WPoolOutIdeal.Facts] : Prop :=
  ∀ (m : (ℓ : Loc Cert.WPoolOutIdeal.nD Cert.WPoolOutIdeal.τ Cert.WPoolOutIdeal.sig) → Buf (Elt Ideal) ℓ) (g : Dev Cert.WPoolOutIdeal.nD → PrngReg), Pre_WPoolOutIdeal m →
    θ_run (Cert.WPoolOutIdeal.defs (F := Ideal)) (onTc (τ := Cert.WPoolOutIdeal.τ) (Cert.WPoolOutIdeal.main (F := Ideal))) ⟨m, fun _ => 0, g⟩ (fun r => (∀ c : Dev Cert.WPoolOutIdeal.nD,
      r.2.mem ((c.tc : Thread Cert.WPoolOutIdeal.nD Cert.WPoolOutIdeal.τ).loc Cert.WPoolOutIdeal.main_arg0) = m ((c.tc : Thread Cert.WPoolOutIdeal.nD Cert.WPoolOutIdeal.τ).loc Cert.WPoolOutIdeal.main_arg0)
      ∧ r.2.mem ((c.tc : Thread Cert.WPoolOutIdeal.nD Cert.WPoolOutIdeal.τ).loc Cert.WPoolOutIdeal.main_arg1) = m ((c.tc : Thread Cert.WPoolOutIdeal.nD Cert.WPoolOutIdeal.τ).loc Cert.WPoolOutIdeal.main_arg1))
      ∧ r.2.sem = fun _ => 0)

def quiescent_WPoolOutRefIdeal [hWPoolOutRefIdeal : Cert.WPoolOutRefIdeal.Facts] : Prop :=
  ∀ (m : (ℓ : Loc Cert.WPoolOutRefIdeal.nD Cert.WPoolOutRefIdeal.τ Cert.WPoolOutRefIdeal.sig) → Buf (Elt Ideal) ℓ) (g : Dev Cert.WPoolOutRefIdeal.nD → PrngReg), Pre_WPoolOutRefIdeal m →
    θ_run (Cert.WPoolOutRefIdeal.defs (F := Ideal)) (onTc (τ := Cert.WPoolOutRefIdeal.τ) (Cert.WPoolOutRefIdeal.main (F := Ideal))) ⟨m, fun _ => 0, g⟩ (fun r => (∀ c : Dev Cert.WPoolOutRefIdeal.nD,
      r.2.mem ((c.tc : Thread Cert.WPoolOutRefIdeal.nD Cert.WPoolOutRefIdeal.τ).loc Cert.WPoolOutRefIdeal.main_arg0) = m ((c.tc : Thread Cert.WPoolOutRefIdeal.nD Cert.WPoolOutRefIdeal.τ).loc Cert.WPoolOutRefIdeal.main_arg0)
      ∧ r.2.mem ((c.tc : Thread Cert.WPoolOutRefIdeal.nD Cert.WPoolOutRefIdeal.τ).loc Cert.WPoolOutRefIdeal.main_arg1) = m ((c.tc : Thread Cert.WPoolOutRefIdeal.nD Cert.WPoolOutRefIdeal.τ).loc Cert.WPoolOutRefIdeal.main_arg1))
      ∧ r.2.sem = fun _ => 0)

def quiescent_WRnnOut [hWRnnOut : Cert.WRnnOut.Facts] : Prop :=
  ∀ (m : (ℓ : Loc Cert.WRnnOut.nD Cert.WRnnOut.τ Cert.WRnnOut.sig) → Buf (Elt Bits) ℓ) (g : Dev Cert.WRnnOut.nD → PrngReg), Pre_WRnnOut m →
    θ_run (Cert.WRnnOut.defs (F := Bits)) (onTc (τ := Cert.WRnnOut.τ) (Cert.WRnnOut.main (F := Bits))) ⟨m, fun _ => 0, g⟩ (fun r => (∀ c : Dev Cert.WRnnOut.nD,
      r.2.mem ((c.tc : Thread Cert.WRnnOut.nD Cert.WRnnOut.τ).loc Cert.WRnnOut.main_arg0) = m ((c.tc : Thread Cert.WRnnOut.nD Cert.WRnnOut.τ).loc Cert.WRnnOut.main_arg0)
      ∧ r.2.mem ((c.tc : Thread Cert.WRnnOut.nD Cert.WRnnOut.τ).loc Cert.WRnnOut.main_arg1) = m ((c.tc : Thread Cert.WRnnOut.nD Cert.WRnnOut.τ).loc Cert.WRnnOut.main_arg1))
      ∧ r.2.sem = fun _ => 0)

def quiescent_WRnnOutIdeal [hWRnnOutIdeal : Cert.WRnnOutIdeal.Facts] : Prop :=
  ∀ (m : (ℓ : Loc Cert.WRnnOutIdeal.nD Cert.WRnnOutIdeal.τ Cert.WRnnOutIdeal.sig) → Buf (Elt Ideal) ℓ) (g : Dev Cert.WRnnOutIdeal.nD → PrngReg), Pre_WRnnOutIdeal m →
    θ_run (Cert.WRnnOutIdeal.defs (F := Ideal)) (onTc (τ := Cert.WRnnOutIdeal.τ) (Cert.WRnnOutIdeal.main (F := Ideal))) ⟨m, fun _ => 0, g⟩ (fun r => (∀ c : Dev Cert.WRnnOutIdeal.nD,
      r.2.mem ((c.tc : Thread Cert.WRnnOutIdeal.nD Cert.WRnnOutIdeal.τ).loc Cert.WRnnOutIdeal.main_arg0) = m ((c.tc : Thread Cert.WRnnOutIdeal.nD Cert.WRnnOutIdeal.τ).loc Cert.WRnnOutIdeal.main_arg0)
      ∧ r.2.mem ((c.tc : Thread Cert.WRnnOutIdeal.nD Cert.WRnnOutIdeal.τ).loc Cert.WRnnOutIdeal.main_arg1) = m ((c.tc : Thread Cert.WRnnOutIdeal.nD Cert.WRnnOutIdeal.τ).loc Cert.WRnnOutIdeal.main_arg1))
      ∧ r.2.sem = fun _ => 0)

def quiescent_WRnnOutRefIdeal [hWRnnOutRefIdeal : Cert.WRnnOutRefIdeal.Facts] : Prop :=
  ∀ (m : (ℓ : Loc Cert.WRnnOutRefIdeal.nD Cert.WRnnOutRefIdeal.τ Cert.WRnnOutRefIdeal.sig) → Buf (Elt Ideal) ℓ) (g : Dev Cert.WRnnOutRefIdeal.nD → PrngReg), Pre_WRnnOutRefIdeal m →
    θ_run (Cert.WRnnOutRefIdeal.defs (F := Ideal)) (onTc (τ := Cert.WRnnOutRefIdeal.τ) (Cert.WRnnOutRefIdeal.main (F := Ideal))) ⟨m, fun _ => 0, g⟩ (fun r => (∀ c : Dev Cert.WRnnOutRefIdeal.nD,
      r.2.mem ((c.tc : Thread Cert.WRnnOutRefIdeal.nD Cert.WRnnOutRefIdeal.τ).loc Cert.WRnnOutRefIdeal.main_arg0) = m ((c.tc : Thread Cert.WRnnOutRefIdeal.nD Cert.WRnnOutRefIdeal.τ).loc Cert.WRnnOutRefIdeal.main_arg0)
      ∧ r.2.mem ((c.tc : Thread Cert.WRnnOutRefIdeal.nD Cert.WRnnOutRefIdeal.τ).loc Cert.WRnnOutRefIdeal.main_arg1) = m ((c.tc : Thread Cert.WRnnOutRefIdeal.nD Cert.WRnnOutRefIdeal.τ).loc Cert.WRnnOutRefIdeal.main_arg1))
      ∧ r.2.sem = fun _ => 0)

def quiescent_WIn [hWIn : Cert.WIn.Facts] : Prop :=
  ∀ (m : (ℓ : Loc Cert.WIn.nD Cert.WIn.τ Cert.WIn.sig) → Buf (Elt Bits) ℓ) (g : Dev Cert.WIn.nD → PrngReg), Pre_WIn m →
    θ_run (Cert.WIn.defs (F := Bits)) (onTc (τ := Cert.WIn.τ) (Cert.WIn.main (F := Bits))) ⟨m, fun _ => 0, g⟩ (fun r => (∀ c : Dev Cert.WIn.nD,
      r.2.mem ((c.tc : Thread Cert.WIn.nD Cert.WIn.τ).loc Cert.WIn.main_arg0) = m ((c.tc : Thread Cert.WIn.nD Cert.WIn.τ).loc Cert.WIn.main_arg0)
      ∧ r.2.mem ((c.tc : Thread Cert.WIn.nD Cert.WIn.τ).loc Cert.WIn.main_arg1) = m ((c.tc : Thread Cert.WIn.nD Cert.WIn.τ).loc Cert.WIn.main_arg1))
      ∧ r.2.sem = fun _ => 0)

def quiescent_WInIdeal [hWInIdeal : Cert.WInIdeal.Facts] : Prop :=
  ∀ (m : (ℓ : Loc Cert.WInIdeal.nD Cert.WInIdeal.τ Cert.WInIdeal.sig) → Buf (Elt Ideal) ℓ) (g : Dev Cert.WInIdeal.nD → PrngReg), Pre_WInIdeal m →
    θ_run (Cert.WInIdeal.defs (F := Ideal)) (onTc (τ := Cert.WInIdeal.τ) (Cert.WInIdeal.main (F := Ideal))) ⟨m, fun _ => 0, g⟩ (fun r => (∀ c : Dev Cert.WInIdeal.nD,
      r.2.mem ((c.tc : Thread Cert.WInIdeal.nD Cert.WInIdeal.τ).loc Cert.WInIdeal.main_arg0) = m ((c.tc : Thread Cert.WInIdeal.nD Cert.WInIdeal.τ).loc Cert.WInIdeal.main_arg0)
      ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ r.2.sem = fun _ => 0)

def quiescent_WInRefIdeal [hWInRefIdeal : Cert.WInRefIdeal.Facts] : Prop :=
  ∀ (m : (ℓ : Loc Cert.WInRefIdeal.nD Cert.WInRefIdeal.τ Cert.WInRefIdeal.sig) → Buf (Elt Ideal) ℓ) (g : Dev Cert.WInRefIdeal.nD → PrngReg), Pre_WInRefIdeal m →
    θ_run (Cert.WInRefIdeal.defs (F := Ideal)) (onTc (τ := Cert.WInRefIdeal.τ) (Cert.WInRefIdeal.main (F := Ideal))) ⟨m, fun _ => 0, g⟩ (fun r => (∀ c : Dev Cert.WInRefIdeal.nD,
      r.2.mem ((c.tc : Thread Cert.WInRefIdeal.nD Cert.WInRefIdeal.τ).loc Cert.WInRefIdeal.main_arg0) = m ((c.tc : Thread Cert.WInRefIdeal.nD Cert.WInRefIdeal.τ).loc Cert.WInRefIdeal.main_arg0)
      ∧ r.2.mem ((c.tc : Thread Cert.WInRefIdeal.nD Cert.WInRefIdeal.τ).loc Cert.WInRefIdeal.main_arg1) = m ((c.tc : Thread Cert.WInRefIdeal.nD Cert.WInRefIdeal.τ).loc Cert.WInRefIdeal.main_arg1))
      ∧ r.2.sem = fun _ => 0)

def quiescent_FIn [hFIn : Cert.FIn.Facts] [hPre_place_w_in : Cert.Pre_place_w_in.Facts] : Prop :=
  ∀ (m : (ℓ : Loc Cert.FIn.nD Cert.FIn.τ Cert.FIn.sig) → Buf (Elt Bits) ℓ) (g : Dev Cert.FIn.nD → PrngReg), Pre_FIn m →
    θ_run (Cert.FIn.defs (F := Bits)) (onTc (τ := Cert.FIn.τ) (Cert.FIn.main (F := Bits))) ⟨m, fun _ => 0, g⟩ (fun r => (∀ c : Dev Cert.FIn.nD,
      r.2.mem ((c.tc : Thread Cert.FIn.nD Cert.FIn.τ).loc Cert.FIn.main_arg0) = m ((c.tc : Thread Cert.FIn.nD Cert.FIn.τ).loc Cert.FIn.main_arg0)
      ∧ r.2.mem ((c.tc : Thread Cert.FIn.nD Cert.FIn.τ).loc Cert.FIn.main_arg1) = m ((c.tc : Thread Cert.FIn.nD Cert.FIn.τ).loc Cert.FIn.main_arg1)
      ∧ r.2.mem ((c.tc : Thread Cert.FIn.nD Cert.FIn.τ).loc Cert.FIn.main_arg2) = m ((c.tc : Thread Cert.FIn.nD Cert.FIn.τ).loc Cert.FIn.main_arg2)
      ∧ r.2.mem ((c.tc : Thread Cert.FIn.nD Cert.FIn.τ).loc Cert.FIn.main_arg3) = m ((c.tc : Thread Cert.FIn.nD Cert.FIn.τ).loc Cert.FIn.main_arg3)
      ∧ r.2.mem ((c.tc : Thread Cert.FIn.nD Cert.FIn.τ).loc Cert.FIn.main_arg4) = m ((c.tc : Thread Cert.FIn.nD Cert.FIn.τ).loc Cert.FIn.main_arg4)
      ∧ r.2.mem ((c.tc : Thread Cert.FIn.nD Cert.FIn.τ).loc Cert.FIn.main_arg5) = m ((c.tc : Thread Cert.FIn.nD Cert.FIn.τ).loc Cert.FIn.main_arg5)
      ∧ r.2.mem ((c.tc : Thread Cert.FIn.nD Cert.FIn.τ).loc Cert.FIn.main_arg6) = m ((c.tc : Thread Cert.FIn.nD Cert.FIn.τ).loc Cert.FIn.main_arg6))
      ∧ r.2.sem = fun _ => 0)

def quiescent_FInIdeal [hFInIdeal : Cert.FInIdeal.Facts] [hPre_place_w_in : Cert.Pre_place_w_in.Facts] : Prop :=
  ∀ (m : (ℓ : Loc Cert.FInIdeal.nD Cert.FInIdeal.τ Cert.FInIdeal.sig) → Buf (Elt Ideal) ℓ) (g : Dev Cert.FInIdeal.nD → PrngReg), Pre_FInIdeal m →
    θ_run (Cert.FInIdeal.defs (F := Ideal)) (onTc (τ := Cert.FInIdeal.τ) (Cert.FInIdeal.main (F := Ideal))) ⟨m, fun _ => 0, g⟩ (fun r => (∀ c : Dev Cert.FInIdeal.nD,
      r.2.mem ((c.tc : Thread Cert.FInIdeal.nD Cert.FInIdeal.τ).loc Cert.FInIdeal.main_arg0) = m ((c.tc : Thread Cert.FInIdeal.nD Cert.FInIdeal.τ).loc Cert.FInIdeal.main_arg0)
      ∧ r.2.mem ((c.tc : Thread Cert.FInIdeal.nD Cert.FInIdeal.τ).loc Cert.FInIdeal.main_arg1) = m ((c.tc : Thread Cert.FInIdeal.nD Cert.FInIdeal.τ).loc Cert.FInIdeal.main_arg1)
      ∧ r.2.mem ((c.tc : Thread Cert.FInIdeal.nD Cert.FInIdeal.τ).loc Cert.FInIdeal.main_arg2) = m ((c.tc : Thread Cert.FInIdeal.nD Cert.FInIdeal.τ).loc Cert.FInIdeal.main_arg2)
      ∧ r.2.mem ((c.tc : Thread Cert.FInIdeal.nD Cert.FInIdeal.τ).loc Cert.FInIdeal.main_arg3) = m ((c.tc : Thread Cert.FInIdeal.nD Cert.FInIdeal.τ).loc Cert.FInIdeal.main_arg3)
      ∧ r.2.mem ((c.tc : Thread Cert.FInIdeal.nD Cert.FInIdeal.τ).loc Cert.FInIdeal.main_arg4) = m ((c.tc : Thread Cert.FInIdeal.nD Cert.FInIdeal.τ).loc Cert.FInIdeal.main_arg4)
      ∧ r.2.mem ((c.tc : Thread Cert.FInIdeal.nD Cert.FInIdeal.τ).loc Cert.FInIdeal.main_arg5) = m ((c.tc : Thread Cert.FInIdeal.nD Cert.FInIdeal.τ).loc Cert.FInIdeal.main_arg5)
      ∧ r.2.mem ((c.tc : Thread Cert.FInIdeal.nD Cert.FInIdeal.τ).loc Cert.FInIdeal.main_arg6) = m ((c.tc : Thread Cert.FInIdeal.nD Cert.FInIdeal.τ).loc Cert.FInIdeal.main_arg6))
      ∧ r.2.sem = fun _ => 0)

def quiescent_FInRefIdeal [hFInRefIdeal : Cert.FInRefIdeal.Facts] : Prop :=
  ∀ (m : (ℓ : Loc Cert.FInRefIdeal.nD Cert.FInRefIdeal.τ Cert.FInRefIdeal.sig) → Buf (Elt Ideal) ℓ) (g : Dev Cert.FInRefIdeal.nD → PrngReg), Pre_FInRefIdeal m →
    θ_run (Cert.FInRefIdeal.defs (F := Ideal)) (onTc (τ := Cert.FInRefIdeal.τ) (Cert.FInRefIdeal.main (F := Ideal))) ⟨m, fun _ => 0, g⟩ (fun r => (∀ c : Dev Cert.FInRefIdeal.nD,
      r.2.mem ((c.tc : Thread Cert.FInRefIdeal.nD Cert.FInRefIdeal.τ).loc Cert.FInRefIdeal.main_arg0) = m ((c.tc : Thread Cert.FInRefIdeal.nD Cert.FInRefIdeal.τ).loc Cert.FInRefIdeal.main_arg0)
      ∧ r.2.mem ((c.tc : Thread Cert.FInRefIdeal.nD Cert.FInRefIdeal.τ).loc Cert.FInRefIdeal.main_arg1) = m ((c.tc : Thread Cert.FInRefIdeal.nD Cert.FInRefIdeal.τ).loc Cert.FInRefIdeal.main_arg1)
      ∧ r.2.mem ((c.tc : Thread Cert.FInRefIdeal.nD Cert.FInRefIdeal.τ).loc Cert.FInRefIdeal.main_arg2) = m ((c.tc : Thread Cert.FInRefIdeal.nD Cert.FInRefIdeal.τ).loc Cert.FInRefIdeal.main_arg2)
      ∧ r.2.mem ((c.tc : Thread Cert.FInRefIdeal.nD Cert.FInRefIdeal.τ).loc Cert.FInRefIdeal.main_arg3) = m ((c.tc : Thread Cert.FInRefIdeal.nD Cert.FInRefIdeal.τ).loc Cert.FInRefIdeal.main_arg3)
      ∧ r.2.mem ((c.tc : Thread Cert.FInRefIdeal.nD Cert.FInRefIdeal.τ).loc Cert.FInRefIdeal.main_arg4) = m ((c.tc : Thread Cert.FInRefIdeal.nD Cert.FInRefIdeal.τ).loc Cert.FInRefIdeal.main_arg4)
      ∧ r.2.mem ((c.tc : Thread Cert.FInRefIdeal.nD Cert.FInRefIdeal.τ).loc Cert.FInRefIdeal.main_arg5) = m ((c.tc : Thread Cert.FInRefIdeal.nD Cert.FInRefIdeal.τ).loc Cert.FInRefIdeal.main_arg5)
      ∧ r.2.mem ((c.tc : Thread Cert.FInRefIdeal.nD Cert.FInRefIdeal.τ).loc Cert.FInRefIdeal.main_arg6) = m ((c.tc : Thread Cert.FInRefIdeal.nD Cert.FInRefIdeal.τ).loc Cert.FInRefIdeal.main_arg6))
      ∧ r.2.sem = fun _ => 0)

def quiescent_FInRefIdeal_pre_place_w_in [hFInRefIdeal : Cert.FInRefIdeal.Facts] [hPre_place_w_in : Cert.Pre_place_w_in.Facts] : Prop :=
  ∀ (m : (ℓ : Loc Cert.FInRefIdeal.nD Cert.FInRefIdeal.τ Cert.FInRefIdeal.sig) → Buf (Elt Ideal) ℓ) (g : Dev Cert.FInRefIdeal.nD → PrngReg), Pre_FInRefIdeal_place_w_in m →
    θ_run (Cert.FInRefIdeal.defs (F := Ideal)) (onTc (τ := Cert.FInRefIdeal.τ) (Cert.FInRefIdeal.main (F := Ideal))) ⟨m, fun _ => 0, g⟩ (fun r => (∀ c : Dev Cert.FInRefIdeal.nD,
      r.2.mem ((c.tc : Thread Cert.FInRefIdeal.nD Cert.FInRefIdeal.τ).loc Cert.FInRefIdeal.main_arg0) = m ((c.tc : Thread Cert.FInRefIdeal.nD Cert.FInRefIdeal.τ).loc Cert.FInRefIdeal.main_arg0)
      ∧ r.2.mem ((c.tc : Thread Cert.FInRefIdeal.nD Cert.FInRefIdeal.τ).loc Cert.FInRefIdeal.main_arg1) = m ((c.tc : Thread Cert.FInRefIdeal.nD Cert.FInRefIdeal.τ).loc Cert.FInRefIdeal.main_arg1)
      ∧ r.2.mem ((c.tc : Thread Cert.FInRefIdeal.nD Cert.FInRefIdeal.τ).loc Cert.FInRefIdeal.main_arg2) = m ((c.tc : Thread Cert.FInRefIdeal.nD Cert.FInRefIdeal.τ).loc Cert.FInRefIdeal.main_arg2)
      ∧ r.2.mem ((c.tc : Thread Cert.FInRefIdeal.nD Cert.FInRefIdeal.τ).loc Cert.FInRefIdeal.main_arg3) = m ((c.tc : Thread Cert.FInRefIdeal.nD Cert.FInRefIdeal.τ).loc Cert.FInRefIdeal.main_arg3)
      ∧ r.2.mem ((c.tc : Thread Cert.FInRefIdeal.nD Cert.FInRefIdeal.τ).loc Cert.FInRefIdeal.main_arg4) = m ((c.tc : Thread Cert.FInRefIdeal.nD Cert.FInRefIdeal.τ).loc Cert.FInRefIdeal.main_arg4)
      ∧ r.2.mem ((c.tc : Thread Cert.FInRefIdeal.nD Cert.FInRefIdeal.τ).loc Cert.FInRefIdeal.main_arg5) = m ((c.tc : Thread Cert.FInRefIdeal.nD Cert.FInRefIdeal.τ).loc Cert.FInRefIdeal.main_arg5)
      ∧ r.2.mem ((c.tc : Thread Cert.FInRefIdeal.nD Cert.FInRefIdeal.τ).loc Cert.FInRefIdeal.main_arg6) = m ((c.tc : Thread Cert.FInRefIdeal.nD Cert.FInRefIdeal.τ).loc Cert.FInRefIdeal.main_arg6))
      ∧ r.2.sem = fun _ => 0)

def quiescent_FPoolOut [hFPoolOut : Cert.FPoolOut.Facts] [hPre_place_w_pool_out : Cert.Pre_place_w_pool_out.Facts] : Prop :=
  ∀ (m : (ℓ : Loc Cert.FPoolOut.nD Cert.FPoolOut.τ Cert.FPoolOut.sig) → Buf (Elt Bits) ℓ) (g : Dev Cert.FPoolOut.nD → PrngReg), Pre_FPoolOut m →
    θ_run (Cert.FPoolOut.defs (F := Bits)) (onTc (τ := Cert.FPoolOut.τ) (Cert.FPoolOut.main (F := Bits))) ⟨m, fun _ => 0, g⟩ (fun r => (∀ c : Dev Cert.FPoolOut.nD,
      r.2.mem ((c.tc : Thread Cert.FPoolOut.nD Cert.FPoolOut.τ).loc Cert.FPoolOut.main_arg0) = m ((c.tc : Thread Cert.FPoolOut.nD Cert.FPoolOut.τ).loc Cert.FPoolOut.main_arg0)
      ∧ r.2.mem ((c.tc : Thread Cert.FPoolOut.nD Cert.FPoolOut.τ).loc Cert.FPoolOut.main_arg1) = m ((c.tc : Thread Cert.FPoolOut.nD Cert.FPoolOut.τ).loc Cert.FPoolOut.main_arg1)
      ∧ r.2.mem ((c.tc : Thread Cert.FPoolOut.nD Cert.FPoolOut.τ).loc Cert.FPoolOut.main_arg2) = m ((c.tc : Thread Cert.FPoolOut.nD Cert.FPoolOut.τ).loc Cert.FPoolOut.main_arg2)
      ∧ r.2.mem ((c.tc : Thread Cert.FPoolOut.nD Cert.FPoolOut.τ).loc Cert.FPoolOut.main_arg3) = m ((c.tc : Thread Cert.FPoolOut.nD Cert.FPoolOut.τ).loc Cert.FPoolOut.main_arg3)
      ∧ r.2.mem ((c.tc : Thread Cert.FPoolOut.nD Cert.FPoolOut.τ).loc Cert.FPoolOut.main_arg4) = m ((c.tc : Thread Cert.FPoolOut.nD Cert.FPoolOut.τ).loc Cert.FPoolOut.main_arg4)
      ∧ r.2.mem ((c.tc : Thread Cert.FPoolOut.nD Cert.FPoolOut.τ).loc Cert.FPoolOut.main_arg5) = m ((c.tc : Thread Cert.FPoolOut.nD Cert.FPoolOut.τ).loc Cert.FPoolOut.main_arg5)
      ∧ r.2.mem ((c.tc : Thread Cert.FPoolOut.nD Cert.FPoolOut.τ).loc Cert.FPoolOut.main_arg6) = m ((c.tc : Thread Cert.FPoolOut.nD Cert.FPoolOut.τ).loc Cert.FPoolOut.main_arg6))
      ∧ r.2.sem = fun _ => 0)

def quiescent_FPoolOutIdeal [hFPoolOutIdeal : Cert.FPoolOutIdeal.Facts] [hPre_place_w_pool_out : Cert.Pre_place_w_pool_out.Facts] : Prop :=
  ∀ (m : (ℓ : Loc Cert.FPoolOutIdeal.nD Cert.FPoolOutIdeal.τ Cert.FPoolOutIdeal.sig) → Buf (Elt Ideal) ℓ) (g : Dev Cert.FPoolOutIdeal.nD → PrngReg), Pre_FPoolOutIdeal m →
    θ_run (Cert.FPoolOutIdeal.defs (F := Ideal)) (onTc (τ := Cert.FPoolOutIdeal.τ) (Cert.FPoolOutIdeal.main (F := Ideal))) ⟨m, fun _ => 0, g⟩ (fun r => (∀ c : Dev Cert.FPoolOutIdeal.nD,
      r.2.mem ((c.tc : Thread Cert.FPoolOutIdeal.nD Cert.FPoolOutIdeal.τ).loc Cert.FPoolOutIdeal.main_arg0) = m ((c.tc : Thread Cert.FPoolOutIdeal.nD Cert.FPoolOutIdeal.τ).loc Cert.FPoolOutIdeal.main_arg0)
      ∧ r.2.mem ((c.tc : Thread Cert.FPoolOutIdeal.nD Cert.FPoolOutIdeal.τ).loc Cert.FPoolOutIdeal.main_arg1) = m ((c.tc : Thread Cert.FPoolOutIdeal.nD Cert.FPoolOutIdeal.τ).loc Cert.FPoolOutIdeal.main_arg1)
      ∧ r.2.mem ((c.tc : Thread Cert.FPoolOutIdeal.nD Cert.FPoolOutIdeal.τ).loc Cert.FPoolOutIdeal.main_arg2) = m ((c.tc : Thread Cert.FPoolOutIdeal.nD Cert.FPoolOutIdeal.τ).loc Cert.FPoolOutIdeal.main_arg2)
      ∧ r.2.mem ((c.tc : Thread Cert.FPoolOutIdeal.nD Cert.FPoolOutIdeal.τ).loc Cert.FPoolOutIdeal.main_arg3) = m ((c.tc : Thread Cert.FPoolOutIdeal.nD Cert.FPoolOutIdeal.τ).loc Cert.FPoolOutIdeal.main_arg3)
      ∧ r.2.mem ((c.tc : Thread Cert.FPoolOutIdeal.nD Cert.FPoolOutIdeal.τ).loc Cert.FPoolOutIdeal.main_arg4) = m ((c.tc : Thread Cert.FPoolOutIdeal.nD Cert.FPoolOutIdeal.τ).loc Cert.FPoolOutIdeal.main_arg4)
      ∧ r.2.mem ((c.tc : Thread Cert.FPoolOutIdeal.nD Cert.FPoolOutIdeal.τ).loc Cert.FPoolOutIdeal.main_arg5) = m ((c.tc : Thread Cert.FPoolOutIdeal.nD Cert.FPoolOutIdeal.τ).loc Cert.FPoolOutIdeal.main_arg5)
      ∧ r.2.mem ((c.tc : Thread Cert.FPoolOutIdeal.nD Cert.FPoolOutIdeal.τ).loc Cert.FPoolOutIdeal.main_arg6) = m ((c.tc : Thread Cert.FPoolOutIdeal.nD Cert.FPoolOutIdeal.τ).loc Cert.FPoolOutIdeal.main_arg6))
      ∧ r.2.sem = fun _ => 0)

def quiescent_FPoolOutRefIdeal [hFPoolOutRefIdeal : Cert.FPoolOutRefIdeal.Facts] : Prop :=
  ∀ (m : (ℓ : Loc Cert.FPoolOutRefIdeal.nD Cert.FPoolOutRefIdeal.τ Cert.FPoolOutRefIdeal.sig) → Buf (Elt Ideal) ℓ) (g : Dev Cert.FPoolOutRefIdeal.nD → PrngReg), Pre_FPoolOutRefIdeal m →
    θ_run (Cert.FPoolOutRefIdeal.defs (F := Ideal)) (onTc (τ := Cert.FPoolOutRefIdeal.τ) (Cert.FPoolOutRefIdeal.main (F := Ideal))) ⟨m, fun _ => 0, g⟩ (fun r => (∀ c : Dev Cert.FPoolOutRefIdeal.nD,
      r.2.mem ((c.tc : Thread Cert.FPoolOutRefIdeal.nD Cert.FPoolOutRefIdeal.τ).loc Cert.FPoolOutRefIdeal.main_arg0) = m ((c.tc : Thread Cert.FPoolOutRefIdeal.nD Cert.FPoolOutRefIdeal.τ).loc Cert.FPoolOutRefIdeal.main_arg0)
      ∧ r.2.mem ((c.tc : Thread Cert.FPoolOutRefIdeal.nD Cert.FPoolOutRefIdeal.τ).loc Cert.FPoolOutRefIdeal.main_arg1) = m ((c.tc : Thread Cert.FPoolOutRefIdeal.nD Cert.FPoolOutRefIdeal.τ).loc Cert.FPoolOutRefIdeal.main_arg1)
      ∧ r.2.mem ((c.tc : Thread Cert.FPoolOutRefIdeal.nD Cert.FPoolOutRefIdeal.τ).loc Cert.FPoolOutRefIdeal.main_arg2) = m ((c.tc : Thread Cert.FPoolOutRefIdeal.nD Cert.FPoolOutRefIdeal.τ).loc Cert.FPoolOutRefIdeal.main_arg2)
      ∧ r.2.mem ((c.tc : Thread Cert.FPoolOutRefIdeal.nD Cert.FPoolOutRefIdeal.τ).loc Cert.FPoolOutRefIdeal.main_arg3) = m ((c.tc : Thread Cert.FPoolOutRefIdeal.nD Cert.FPoolOutRefIdeal.τ).loc Cert.FPoolOutRefIdeal.main_arg3)
      ∧ r.2.mem ((c.tc : Thread Cert.FPoolOutRefIdeal.nD Cert.FPoolOutRefIdeal.τ).loc Cert.FPoolOutRefIdeal.main_arg4) = m ((c.tc : Thread Cert.FPoolOutRefIdeal.nD Cert.FPoolOutRefIdeal.τ).loc Cert.FPoolOutRefIdeal.main_arg4)
      ∧ r.2.mem ((c.tc : Thread Cert.FPoolOutRefIdeal.nD Cert.FPoolOutRefIdeal.τ).loc Cert.FPoolOutRefIdeal.main_arg5) = m ((c.tc : Thread Cert.FPoolOutRefIdeal.nD Cert.FPoolOutRefIdeal.τ).loc Cert.FPoolOutRefIdeal.main_arg5)
      ∧ r.2.mem ((c.tc : Thread Cert.FPoolOutRefIdeal.nD Cert.FPoolOutRefIdeal.τ).loc Cert.FPoolOutRefIdeal.main_arg6) = m ((c.tc : Thread Cert.FPoolOutRefIdeal.nD Cert.FPoolOutRefIdeal.τ).loc Cert.FPoolOutRefIdeal.main_arg6))
      ∧ r.2.sem = fun _ => 0)

def quiescent_FPoolOutRefIdeal_pre_place_w_pool_out [hFPoolOutRefIdeal : Cert.FPoolOutRefIdeal.Facts] [hPre_place_w_pool_out : Cert.Pre_place_w_pool_out.Facts] : Prop :=
  ∀ (m : (ℓ : Loc Cert.FPoolOutRefIdeal.nD Cert.FPoolOutRefIdeal.τ Cert.FPoolOutRefIdeal.sig) → Buf (Elt Ideal) ℓ) (g : Dev Cert.FPoolOutRefIdeal.nD → PrngReg), Pre_FPoolOutRefIdeal_place_w_pool_out m →
    θ_run (Cert.FPoolOutRefIdeal.defs (F := Ideal)) (onTc (τ := Cert.FPoolOutRefIdeal.τ) (Cert.FPoolOutRefIdeal.main (F := Ideal))) ⟨m, fun _ => 0, g⟩ (fun r => (∀ c : Dev Cert.FPoolOutRefIdeal.nD,
      r.2.mem ((c.tc : Thread Cert.FPoolOutRefIdeal.nD Cert.FPoolOutRefIdeal.τ).loc Cert.FPoolOutRefIdeal.main_arg0) = m ((c.tc : Thread Cert.FPoolOutRefIdeal.nD Cert.FPoolOutRefIdeal.τ).loc Cert.FPoolOutRefIdeal.main_arg0)
      ∧ r.2.mem ((c.tc : Thread Cert.FPoolOutRefIdeal.nD Cert.FPoolOutRefIdeal.τ).loc Cert.FPoolOutRefIdeal.main_arg1) = m ((c.tc : Thread Cert.FPoolOutRefIdeal.nD Cert.FPoolOutRefIdeal.τ).loc Cert.FPoolOutRefIdeal.main_arg1)
      ∧ r.2.mem ((c.tc : Thread Cert.FPoolOutRefIdeal.nD Cert.FPoolOutRefIdeal.τ).loc Cert.FPoolOutRefIdeal.main_arg2) = m ((c.tc : Thread Cert.FPoolOutRefIdeal.nD Cert.FPoolOutRefIdeal.τ).loc Cert.FPoolOutRefIdeal.main_arg2)
      ∧ r.2.mem ((c.tc : Thread Cert.FPoolOutRefIdeal.nD Cert.FPoolOutRefIdeal.τ).loc Cert.FPoolOutRefIdeal.main_arg3) = m ((c.tc : Thread Cert.FPoolOutRefIdeal.nD Cert.FPoolOutRefIdeal.τ).loc Cert.FPoolOutRefIdeal.main_arg3)
      ∧ r.2.mem ((c.tc : Thread Cert.FPoolOutRefIdeal.nD Cert.FPoolOutRefIdeal.τ).loc Cert.FPoolOutRefIdeal.main_arg4) = m ((c.tc : Thread Cert.FPoolOutRefIdeal.nD Cert.FPoolOutRefIdeal.τ).loc Cert.FPoolOutRefIdeal.main_arg4)
      ∧ r.2.mem ((c.tc : Thread Cert.FPoolOutRefIdeal.nD Cert.FPoolOutRefIdeal.τ).loc Cert.FPoolOutRefIdeal.main_arg5) = m ((c.tc : Thread Cert.FPoolOutRefIdeal.nD Cert.FPoolOutRefIdeal.τ).loc Cert.FPoolOutRefIdeal.main_arg5)
      ∧ r.2.mem ((c.tc : Thread Cert.FPoolOutRefIdeal.nD Cert.FPoolOutRefIdeal.τ).loc Cert.FPoolOutRefIdeal.main_arg6) = m ((c.tc : Thread Cert.FPoolOutRefIdeal.nD Cert.FPoolOutRefIdeal.τ).loc Cert.FPoolOutRefIdeal.main_arg6))
      ∧ r.2.sem = fun _ => 0)

def quiescent_FRnnOut [hFRnnOut : Cert.FRnnOut.Facts] [hPre_place_w_rnn_out : Cert.Pre_place_w_rnn_out.Facts] : Prop :=
  ∀ (m : (ℓ : Loc Cert.FRnnOut.nD Cert.FRnnOut.τ Cert.FRnnOut.sig) → Buf (Elt Bits) ℓ) (g : Dev Cert.FRnnOut.nD → PrngReg), Pre_FRnnOut m →
    θ_run (Cert.FRnnOut.defs (F := Bits)) (onTc (τ := Cert.FRnnOut.τ) (Cert.FRnnOut.main (F := Bits))) ⟨m, fun _ => 0, g⟩ (fun r => (∀ c : Dev Cert.FRnnOut.nD,
      r.2.mem ((c.tc : Thread Cert.FRnnOut.nD Cert.FRnnOut.τ).loc Cert.FRnnOut.main_arg0) = m ((c.tc : Thread Cert.FRnnOut.nD Cert.FRnnOut.τ).loc Cert.FRnnOut.main_arg0)
      ∧ r.2.mem ((c.tc : Thread Cert.FRnnOut.nD Cert.FRnnOut.τ).loc Cert.FRnnOut.main_arg1) = m ((c.tc : Thread Cert.FRnnOut.nD Cert.FRnnOut.τ).loc Cert.FRnnOut.main_arg1)
      ∧ r.2.mem ((c.tc : Thread Cert.FRnnOut.nD Cert.FRnnOut.τ).loc Cert.FRnnOut.main_arg2) = m ((c.tc : Thread Cert.FRnnOut.nD Cert.FRnnOut.τ).loc Cert.FRnnOut.main_arg2)
      ∧ r.2.mem ((c.tc : Thread Cert.FRnnOut.nD Cert.FRnnOut.τ).loc Cert.FRnnOut.main_arg3) = m ((c.tc : Thread Cert.FRnnOut.nD Cert.FRnnOut.τ).loc Cert.FRnnOut.main_arg3)
      ∧ r.2.mem ((c.tc : Thread Cert.FRnnOut.nD Cert.FRnnOut.τ).loc Cert.FRnnOut.main_arg4) = m ((c.tc : Thread Cert.FRnnOut.nD Cert.FRnnOut.τ).loc Cert.FRnnOut.main_arg4)
      ∧ r.2.mem ((c.tc : Thread Cert.FRnnOut.nD Cert.FRnnOut.τ).loc Cert.FRnnOut.main_arg5) = m ((c.tc : Thread Cert.FRnnOut.nD Cert.FRnnOut.τ).loc Cert.FRnnOut.main_arg5)
      ∧ r.2.mem ((c.tc : Thread Cert.FRnnOut.nD Cert.FRnnOut.τ).loc Cert.FRnnOut.main_arg6) = m ((c.tc : Thread Cert.FRnnOut.nD Cert.FRnnOut.τ).loc Cert.FRnnOut.main_arg6))
      ∧ r.2.sem = fun _ => 0)

def quiescent_FRnnOutIdeal [hFRnnOutIdeal : Cert.FRnnOutIdeal.Facts] [hPre_place_w_rnn_out : Cert.Pre_place_w_rnn_out.Facts] : Prop :=
  ∀ (m : (ℓ : Loc Cert.FRnnOutIdeal.nD Cert.FRnnOutIdeal.τ Cert.FRnnOutIdeal.sig) → Buf (Elt Ideal) ℓ) (g : Dev Cert.FRnnOutIdeal.nD → PrngReg), Pre_FRnnOutIdeal m →
    θ_run (Cert.FRnnOutIdeal.defs (F := Ideal)) (onTc (τ := Cert.FRnnOutIdeal.τ) (Cert.FRnnOutIdeal.main (F := Ideal))) ⟨m, fun _ => 0, g⟩ (fun r => (∀ c : Dev Cert.FRnnOutIdeal.nD,
      r.2.mem ((c.tc : Thread Cert.FRnnOutIdeal.nD Cert.FRnnOutIdeal.τ).loc Cert.FRnnOutIdeal.main_arg0) = m ((c.tc : Thread Cert.FRnnOutIdeal.nD Cert.FRnnOutIdeal.τ).loc Cert.FRnnOutIdeal.main_arg0)
      ∧ r.2.mem ((c.tc : Thread Cert.FRnnOutIdeal.nD Cert.FRnnOutIdeal.τ).loc Cert.FRnnOutIdeal.main_arg1) = m ((c.tc : Thread Cert.FRnnOutIdeal.nD Cert.FRnnOutIdeal.τ).loc Cert.FRnnOutIdeal.main_arg1)
      ∧ r.2.mem ((c.tc : Thread Cert.FRnnOutIdeal.nD Cert.FRnnOutIdeal.τ).loc Cert.FRnnOutIdeal.main_arg2) = m ((c.tc : Thread Cert.FRnnOutIdeal.nD Cert.FRnnOutIdeal.τ).loc Cert.FRnnOutIdeal.main_arg2)
      ∧ r.2.mem ((c.tc : Thread Cert.FRnnOutIdeal.nD Cert.FRnnOutIdeal.τ).loc Cert.FRnnOutIdeal.main_arg3) = m ((c.tc : Thread Cert.FRnnOutIdeal.nD Cert.FRnnOutIdeal.τ).loc Cert.FRnnOutIdeal.main_arg3)
      ∧ r.2.mem ((c.tc : Thread Cert.FRnnOutIdeal.nD Cert.FRnnOutIdeal.τ).loc Cert.FRnnOutIdeal.main_arg4) = m ((c.tc : Thread Cert.FRnnOutIdeal.nD Cert.FRnnOutIdeal.τ).loc Cert.FRnnOutIdeal.main_arg4)
      ∧ r.2.mem ((c.tc : Thread Cert.FRnnOutIdeal.nD Cert.FRnnOutIdeal.τ).loc Cert.FRnnOutIdeal.main_arg5) = m ((c.tc : Thread Cert.FRnnOutIdeal.nD Cert.FRnnOutIdeal.τ).loc Cert.FRnnOutIdeal.main_arg5)
      ∧ r.2.mem ((c.tc : Thread Cert.FRnnOutIdeal.nD Cert.FRnnOutIdeal.τ).loc Cert.FRnnOutIdeal.main_arg6) = m ((c.tc : Thread Cert.FRnnOutIdeal.nD Cert.FRnnOutIdeal.τ).loc Cert.FRnnOutIdeal.main_arg6))
      ∧ r.2.sem = fun _ => 0)

def quiescent_FRnnOutRefIdeal [hFRnnOutRefIdeal : Cert.FRnnOutRefIdeal.Facts] : Prop :=
  ∀ (m : (ℓ : Loc Cert.FRnnOutRefIdeal.nD Cert.FRnnOutRefIdeal.τ Cert.FRnnOutRefIdeal.sig) → Buf (Elt Ideal) ℓ) (g : Dev Cert.FRnnOutRefIdeal.nD → PrngReg), Pre_FRnnOutRefIdeal m →
    θ_run (Cert.FRnnOutRefIdeal.defs (F := Ideal)) (onTc (τ := Cert.FRnnOutRefIdeal.τ) (Cert.FRnnOutRefIdeal.main (F := Ideal))) ⟨m, fun _ => 0, g⟩ (fun r => (∀ c : Dev Cert.FRnnOutRefIdeal.nD,
      r.2.mem ((c.tc : Thread Cert.FRnnOutRefIdeal.nD Cert.FRnnOutRefIdeal.τ).loc Cert.FRnnOutRefIdeal.main_arg0) = m ((c.tc : Thread Cert.FRnnOutRefIdeal.nD Cert.FRnnOutRefIdeal.τ).loc Cert.FRnnOutRefIdeal.main_arg0)
      ∧ r.2.mem ((c.tc : Thread Cert.FRnnOutRefIdeal.nD Cert.FRnnOutRefIdeal.τ).loc Cert.FRnnOutRefIdeal.main_arg1) = m ((c.tc : Thread Cert.FRnnOutRefIdeal.nD Cert.FRnnOutRefIdeal.τ).loc Cert.FRnnOutRefIdeal.main_arg1)
      ∧ r.2.mem ((c.tc : Thread Cert.FRnnOutRefIdeal.nD Cert.FRnnOutRefIdeal.τ).loc Cert.FRnnOutRefIdeal.main_arg2) = m ((c.tc : Thread Cert.FRnnOutRefIdeal.nD Cert.FRnnOutRefIdeal.τ).loc Cert.FRnnOutRefIdeal.main_arg2)
      ∧ r.2.mem ((c.tc : Thread Cert.FRnnOutRefIdeal.nD Cert.FRnnOutRefIdeal.τ).loc Cert.FRnnOutRefIdeal.main_arg3) = m ((c.tc : Thread Cert.FRnnOutRefIdeal.nD Cert.FRnnOutRefIdeal.τ).loc Cert.FRnnOutRefIdeal.main_arg3)
      ∧ r.2.mem ((c.tc : Thread Cert.FRnnOutRefIdeal.nD Cert.FRnnOutRefIdeal.τ).loc Cert.FRnnOutRefIdeal.main_arg4) = m ((c.tc : Thread Cert.FRnnOutRefIdeal.nD Cert.FRnnOutRefIdeal.τ).loc Cert.FRnnOutRefIdeal.main_arg4)
      ∧ r.2.mem ((c.tc : Thread Cert.FRnnOutRefIdeal.nD Cert.FRnnOutRefIdeal.τ).loc Cert.FRnnOutRefIdeal.main_arg5) = m ((c.tc : Thread Cert.FRnnOutRefIdeal.nD Cert.FRnnOutRefIdeal.τ).loc Cert.FRnnOutRefIdeal.main_arg5)
      ∧ r.2.mem ((c.tc : Thread Cert.FRnnOutRefIdeal.nD Cert.FRnnOutRefIdeal.τ).loc Cert.FRnnOutRefIdeal.main_arg6) = m ((c.tc : Thread Cert.FRnnOutRefIdeal.nD Cert.FRnnOutRefIdeal.τ).loc Cert.FRnnOutRefIdeal.main_arg6))
      ∧ r.2.sem = fun _ => 0)

def quiescent_FRnnOutRefIdeal_pre_place_w_rnn_out [hFRnnOutRefIdeal : Cert.FRnnOutRefIdeal.Facts] [hPre_place_w_rnn_out : Cert.Pre_place_w_rnn_out.Facts] : Prop :=
  ∀ (m : (ℓ : Loc Cert.FRnnOutRefIdeal.nD Cert.FRnnOutRefIdeal.τ Cert.FRnnOutRefIdeal.sig) → Buf (Elt Ideal) ℓ) (g : Dev Cert.FRnnOutRefIdeal.nD → PrngReg), Pre_FRnnOutRefIdeal_place_w_rnn_out m →
    θ_run (Cert.FRnnOutRefIdeal.defs (F := Ideal)) (onTc (τ := Cert.FRnnOutRefIdeal.τ) (Cert.FRnnOutRefIdeal.main (F := Ideal))) ⟨m, fun _ => 0, g⟩ (fun r => (∀ c : Dev Cert.FRnnOutRefIdeal.nD,
      r.2.mem ((c.tc : Thread Cert.FRnnOutRefIdeal.nD Cert.FRnnOutRefIdeal.τ).loc Cert.FRnnOutRefIdeal.main_arg0) = m ((c.tc : Thread Cert.FRnnOutRefIdeal.nD Cert.FRnnOutRefIdeal.τ).loc Cert.FRnnOutRefIdeal.main_arg0)
      ∧ r.2.mem ((c.tc : Thread Cert.FRnnOutRefIdeal.nD Cert.FRnnOutRefIdeal.τ).loc Cert.FRnnOutRefIdeal.main_arg1) = m ((c.tc : Thread Cert.FRnnOutRefIdeal.nD Cert.FRnnOutRefIdeal.τ).loc Cert.FRnnOutRefIdeal.main_arg1)
      ∧ r.2.mem ((c.tc : Thread Cert.FRnnOutRefIdeal.nD Cert.FRnnOutRefIdeal.τ).loc Cert.FRnnOutRefIdeal.main_arg2) = m ((c.tc : Thread Cert.FRnnOutRefIdeal.nD Cert.FRnnOutRefIdeal.τ).loc Cert.FRnnOutRefIdeal.main_arg2)
      ∧ r.2.mem ((c.tc : Thread Cert.FRnnOutRefIdeal.nD Cert.FRnnOutRefIdeal.τ).loc Cert.FRnnOutRefIdeal.main_arg3) = m ((c.tc : Thread Cert.FRnnOutRefIdeal.nD Cert.FRnnOutRefIdeal.τ).loc Cert.FRnnOutRefIdeal.main_arg3)
      ∧ r.2.mem ((c.tc : Thread Cert.FRnnOutRefIdeal.nD Cert.FRnnOutRefIdeal.τ).loc Cert.FRnnOutRefIdeal.main_arg4) = m ((c.tc : Thread Cert.FRnnOutRefIdeal.nD Cert.FRnnOutRefIdeal.τ).loc Cert.FRnnOutRefIdeal.main_arg4)
      ∧ r.2.mem ((c.tc : Thread Cert.FRnnOutRefIdeal.nD Cert.FRnnOutRefIdeal.τ).loc Cert.FRnnOutRefIdeal.main_arg5) = m ((c.tc : Thread Cert.FRnnOutRefIdeal.nD Cert.FRnnOutRefIdeal.τ).loc Cert.FRnnOutRefIdeal.main_arg5)
      ∧ r.2.mem ((c.tc : Thread Cert.FRnnOutRefIdeal.nD Cert.FRnnOutRefIdeal.τ).loc Cert.FRnnOutRefIdeal.main_arg6) = m ((c.tc : Thread Cert.FRnnOutRefIdeal.nD Cert.FRnnOutRefIdeal.τ).loc Cert.FRnnOutRefIdeal.main_arg6))
      ∧ r.2.sem = fun _ => 0)

def quiescent_FO [hFO : Cert.FO.Facts] [hPre_place_w_o : Cert.Pre_place_w_o.Facts] : Prop :=
  ∀ (m : (ℓ : Loc Cert.FO.nD Cert.FO.τ Cert.FO.sig) → Buf (Elt Bits) ℓ) (g : Dev Cert.FO.nD → PrngReg), Pre_FO m →
    θ_run (Cert.FO.defs (F := Bits)) (onTc (τ := Cert.FO.τ) (Cert.FO.main (F := Bits))) ⟨m, fun _ => 0, g⟩ (fun r => (∀ c : Dev Cert.FO.nD,
      r.2.mem ((c.tc : Thread Cert.FO.nD Cert.FO.τ).loc Cert.FO.main_arg0) = m ((c.tc : Thread Cert.FO.nD Cert.FO.τ).loc Cert.FO.main_arg0)
      ∧ r.2.mem ((c.tc : Thread Cert.FO.nD Cert.FO.τ).loc Cert.FO.main_arg1) = m ((c.tc : Thread Cert.FO.nD Cert.FO.τ).loc Cert.FO.main_arg1)
      ∧ r.2.mem ((c.tc : Thread Cert.FO.nD Cert.FO.τ).loc Cert.FO.main_arg2) = m ((c.tc : Thread Cert.FO.nD Cert.FO.τ).loc Cert.FO.main_arg2)
      ∧ r.2.mem ((c.tc : Thread Cert.FO.nD Cert.FO.τ).loc Cert.FO.main_arg3) = m ((c.tc : Thread Cert.FO.nD Cert.FO.τ).loc Cert.FO.main_arg3)
      ∧ r.2.mem ((c.tc : Thread Cert.FO.nD Cert.FO.τ).loc Cert.FO.main_arg4) = m ((c.tc : Thread Cert.FO.nD Cert.FO.τ).loc Cert.FO.main_arg4)
      ∧ r.2.mem ((c.tc : Thread Cert.FO.nD Cert.FO.τ).loc Cert.FO.main_arg5) = m ((c.tc : Thread Cert.FO.nD Cert.FO.τ).loc Cert.FO.main_arg5)
      ∧ r.2.mem ((c.tc : Thread Cert.FO.nD Cert.FO.τ).loc Cert.FO.main_arg6) = m ((c.tc : Thread Cert.FO.nD Cert.FO.τ).loc Cert.FO.main_arg6))
      ∧ r.2.sem = fun _ => 0)

def quiescent_FOIdeal [hFOIdeal : Cert.FOIdeal.Facts] [hPre_place_w_o : Cert.Pre_place_w_o.Facts] : Prop :=
  ∀ (m : (ℓ : Loc Cert.FOIdeal.nD Cert.FOIdeal.τ Cert.FOIdeal.sig) → Buf (Elt Ideal) ℓ) (g : Dev Cert.FOIdeal.nD → PrngReg), Pre_FOIdeal m →
    θ_run (Cert.FOIdeal.defs (F := Ideal)) (onTc (τ := Cert.FOIdeal.τ) (Cert.FOIdeal.main (F := Ideal))) ⟨m, fun _ => 0, g⟩ (fun r => (∀ c : Dev Cert.FOIdeal.nD,
      r.2.mem ((c.tc : Thread Cert.FOIdeal.nD Cert.FOIdeal.τ).loc Cert.FOIdeal.main_arg0) = m ((c.tc : Thread Cert.FOIdeal.nD Cert.FOIdeal.τ).loc Cert.FOIdeal.main_arg0)
      ∧ r.2.mem ((c.tc : Thread Cert.FOIdeal.nD Cert.FOIdeal.τ).loc Cert.FOIdeal.main_arg1) = m ((c.tc : Thread Cert.FOIdeal.nD Cert.FOIdeal.τ).loc Cert.FOIdeal.main_arg1)
      ∧ r.2.mem ((c.tc : Thread Cert.FOIdeal.nD Cert.FOIdeal.τ).loc Cert.FOIdeal.main_arg2) = m ((c.tc : Thread Cert.FOIdeal.nD Cert.FOIdeal.τ).loc Cert.FOIdeal.main_arg2)
      ∧ r.2.mem ((c.tc : Thread Cert.FOIdeal.nD Cert.FOIdeal.τ).loc Cert.FOIdeal.main_arg3) = m ((c.tc : Thread Cert.FOIdeal.nD Cert.FOIdeal.τ).loc Cert.FOIdeal.main_arg3)
      ∧ r.2.mem ((c.tc : Thread Cert.FOIdeal.nD Cert.FOIdeal.τ).loc Cert.FOIdeal.main_arg4) = m ((c.tc : Thread Cert.FOIdeal.nD Cert.FOIdeal.τ).loc Cert.FOIdeal.main_arg4)
      ∧ r.2.mem ((c.tc : Thread Cert.FOIdeal.nD Cert.FOIdeal.τ).loc Cert.FOIdeal.main_arg5) = m ((c.tc : Thread Cert.FOIdeal.nD Cert.FOIdeal.τ).loc Cert.FOIdeal.main_arg5)
      ∧ r.2.mem ((c.tc : Thread Cert.FOIdeal.nD Cert.FOIdeal.τ).loc Cert.FOIdeal.main_arg6) = m ((c.tc : Thread Cert.FOIdeal.nD Cert.FOIdeal.τ).loc Cert.FOIdeal.main_arg6))
      ∧ r.2.sem = fun _ => 0)

def quiescent_FORefIdeal [hFORefIdeal : Cert.FORefIdeal.Facts] : Prop :=
  ∀ (m : (ℓ : Loc Cert.FORefIdeal.nD Cert.FORefIdeal.τ Cert.FORefIdeal.sig) → Buf (Elt Ideal) ℓ) (g : Dev Cert.FORefIdeal.nD → PrngReg), Pre_FORefIdeal m →
    θ_run (Cert.FORefIdeal.defs (F := Ideal)) (onTc (τ := Cert.FORefIdeal.τ) (Cert.FORefIdeal.main (F := Ideal))) ⟨m, fun _ => 0, g⟩ (fun r => (∀ c : Dev Cert.FORefIdeal.nD,
      r.2.mem ((c.tc : Thread Cert.FORefIdeal.nD Cert.FORefIdeal.τ).loc Cert.FORefIdeal.main_arg0) = m ((c.tc : Thread Cert.FORefIdeal.nD Cert.FORefIdeal.τ).loc Cert.FORefIdeal.main_arg0)
      ∧ r.2.mem ((c.tc : Thread Cert.FORefIdeal.nD Cert.FORefIdeal.τ).loc Cert.FORefIdeal.main_arg1) = m ((c.tc : Thread Cert.FORefIdeal.nD Cert.FORefIdeal.τ).loc Cert.FORefIdeal.main_arg1)
      ∧ r.2.mem ((c.tc : Thread Cert.FORefIdeal.nD Cert.FORefIdeal.τ).loc Cert.FORefIdeal.main_arg2) = m ((c.tc : Thread Cert.FORefIdeal.nD Cert.FORefIdeal.τ).loc Cert.FORefIdeal.main_arg2)
      ∧ r.2.mem ((c.tc : Thread Cert.FORefIdeal.nD Cert.FORefIdeal.τ).loc Cert.FORefIdeal.main_arg3) = m ((c.tc : Thread Cert.FORefIdeal.nD Cert.FORefIdeal.τ).loc Cert.FORefIdeal.main_arg3)
      ∧ r.2.mem ((c.tc : Thread Cert.FORefIdeal.nD Cert.FORefIdeal.τ).loc Cert.FORefIdeal.main_arg4) = m ((c.tc : Thread Cert.FORefIdeal.nD Cert.FORefIdeal.τ).loc Cert.FORefIdeal.main_arg4)
      ∧ r.2.mem ((c.tc : Thread Cert.FORefIdeal.nD Cert.FORefIdeal.τ).loc Cert.FORefIdeal.main_arg5) = m ((c.tc : Thread Cert.FORefIdeal.nD Cert.FORefIdeal.τ).loc Cert.FORefIdeal.main_arg5)
      ∧ r.2.mem ((c.tc : Thread Cert.FORefIdeal.nD Cert.FORefIdeal.τ).loc Cert.FORefIdeal.main_arg6) = m ((c.tc : Thread Cert.FORefIdeal.nD Cert.FORefIdeal.τ).loc Cert.FORefIdeal.main_arg6))
      ∧ r.2.sem = fun _ => 0)

def quiescent_FORefIdeal_pre_place_w_o [hFORefIdeal : Cert.FORefIdeal.Facts] [hPre_place_w_o : Cert.Pre_place_w_o.Facts] : Prop :=
  ∀ (m : (ℓ : Loc Cert.FORefIdeal.nD Cert.FORefIdeal.τ Cert.FORefIdeal.sig) → Buf (Elt Ideal) ℓ) (g : Dev Cert.FORefIdeal.nD → PrngReg), Pre_FORefIdeal_place_w_o m →
    θ_run (Cert.FORefIdeal.defs (F := Ideal)) (onTc (τ := Cert.FORefIdeal.τ) (Cert.FORefIdeal.main (F := Ideal))) ⟨m, fun _ => 0, g⟩ (fun r => (∀ c : Dev Cert.FORefIdeal.nD,
      r.2.mem ((c.tc : Thread Cert.FORefIdeal.nD Cert.FORefIdeal.τ).loc Cert.FORefIdeal.main_arg0) = m ((c.tc : Thread Cert.FORefIdeal.nD Cert.FORefIdeal.τ).loc Cert.FORefIdeal.main_arg0)
      ∧ r.2.mem ((c.tc : Thread Cert.FORefIdeal.nD Cert.FORefIdeal.τ).loc Cert.FORefIdeal.main_arg1) = m ((c.tc : Thread Cert.FORefIdeal.nD Cert.FORefIdeal.τ).loc Cert.FORefIdeal.main_arg1)
      ∧ r.2.mem ((c.tc : Thread Cert.FORefIdeal.nD Cert.FORefIdeal.τ).loc Cert.FORefIdeal.main_arg2) = m ((c.tc : Thread Cert.FORefIdeal.nD Cert.FORefIdeal.τ).loc Cert.FORefIdeal.main_arg2)
      ∧ r.2.mem ((c.tc : Thread Cert.FORefIdeal.nD Cert.FORefIdeal.τ).loc Cert.FORefIdeal.main_arg3) = m ((c.tc : Thread Cert.FORefIdeal.nD Cert.FORefIdeal.τ).loc Cert.FORefIdeal.main_arg3)
      ∧ r.2.mem ((c.tc : Thread Cert.FORefIdeal.nD Cert.FORefIdeal.τ).loc Cert.FORefIdeal.main_arg4) = m ((c.tc : Thread Cert.FORefIdeal.nD Cert.FORefIdeal.τ).loc Cert.FORefIdeal.main_arg4)
      ∧ r.2.mem ((c.tc : Thread Cert.FORefIdeal.nD Cert.FORefIdeal.τ).loc Cert.FORefIdeal.main_arg5) = m ((c.tc : Thread Cert.FORefIdeal.nD Cert.FORefIdeal.τ).loc Cert.FORefIdeal.main_arg5)
      ∧ r.2.mem ((c.tc : Thread Cert.FORefIdeal.nD Cert.FORefIdeal.τ).loc Cert.FORefIdeal.main_arg6) = m ((c.tc : Thread Cert.FORefIdeal.nD Cert.FORefIdeal.τ).loc Cert.FORefIdeal.main_arg6))
      ∧ r.2.sem = fun _ => 0)

def quiescent_FFfnIn [hFFfnIn : Cert.FFfnIn.Facts] [hPre_place_w_ffn_in : Cert.Pre_place_w_ffn_in.Facts] : Prop :=
  ∀ (m : (ℓ : Loc Cert.FFfnIn.nD Cert.FFfnIn.τ Cert.FFfnIn.sig) → Buf (Elt Bits) ℓ) (g : Dev Cert.FFfnIn.nD → PrngReg), Pre_FFfnIn m →
    θ_run (Cert.FFfnIn.defs (F := Bits)) (onTc (τ := Cert.FFfnIn.τ) (Cert.FFfnIn.main (F := Bits))) ⟨m, fun _ => 0, g⟩ (fun r => (∀ c : Dev Cert.FFfnIn.nD,
      r.2.mem ((c.tc : Thread Cert.FFfnIn.nD Cert.FFfnIn.τ).loc Cert.FFfnIn.main_arg0) = m ((c.tc : Thread Cert.FFfnIn.nD Cert.FFfnIn.τ).loc Cert.FFfnIn.main_arg0)
      ∧ r.2.mem ((c.tc : Thread Cert.FFfnIn.nD Cert.FFfnIn.τ).loc Cert.FFfnIn.main_arg1) = m ((c.tc : Thread Cert.FFfnIn.nD Cert.FFfnIn.τ).loc Cert.FFfnIn.main_arg1)
      ∧ r.2.mem ((c.tc : Thread Cert.FFfnIn.nD Cert.FFfnIn.τ).loc Cert.FFfnIn.main_arg2) = m ((c.tc : Thread Cert.FFfnIn.nD Cert.FFfnIn.τ).loc Cert.FFfnIn.main_arg2)
      ∧ r.2.mem ((c.tc : Thread Cert.FFfnIn.nD Cert.FFfnIn.τ).loc Cert.FFfnIn.main_arg3) = m ((c.tc : Thread Cert.FFfnIn.nD Cert.FFfnIn.τ).loc Cert.FFfnIn.main_arg3)
      ∧ r.2.mem ((c.tc : Thread Cert.FFfnIn.nD Cert.FFfnIn.τ).loc Cert.FFfnIn.main_arg4) = m ((c.tc : Thread Cert.FFfnIn.nD Cert.FFfnIn.τ).loc Cert.FFfnIn.main_arg4)
      ∧ r.2.mem ((c.tc : Thread Cert.FFfnIn.nD Cert.FFfnIn.τ).loc Cert.FFfnIn.main_arg5) = m ((c.tc : Thread Cert.FFfnIn.nD Cert.FFfnIn.τ).loc Cert.FFfnIn.main_arg5)
      ∧ r.2.mem ((c.tc : Thread Cert.FFfnIn.nD Cert.FFfnIn.τ).loc Cert.FFfnIn.main_arg6) = m ((c.tc : Thread Cert.FFfnIn.nD Cert.FFfnIn.τ).loc Cert.FFfnIn.main_arg6))
      ∧ r.2.sem = fun _ => 0)

def quiescent_FFfnInIdeal [hFFfnInIdeal : Cert.FFfnInIdeal.Facts] [hPre_place_w_ffn_in : Cert.Pre_place_w_ffn_in.Facts] : Prop :=
  ∀ (m : (ℓ : Loc Cert.FFfnInIdeal.nD Cert.FFfnInIdeal.τ Cert.FFfnInIdeal.sig) → Buf (Elt Ideal) ℓ) (g : Dev Cert.FFfnInIdeal.nD → PrngReg), Pre_FFfnInIdeal m →
    θ_run (Cert.FFfnInIdeal.defs (F := Ideal)) (onTc (τ := Cert.FFfnInIdeal.τ) (Cert.FFfnInIdeal.main (F := Ideal))) ⟨m, fun _ => 0, g⟩ (fun r => (∀ c : Dev Cert.FFfnInIdeal.nD,
      r.2.mem ((c.tc : Thread Cert.FFfnInIdeal.nD Cert.FFfnInIdeal.τ).loc Cert.FFfnInIdeal.main_arg0) = m ((c.tc : Thread Cert.FFfnInIdeal.nD Cert.FFfnInIdeal.τ).loc Cert.FFfnInIdeal.main_arg0)
      ∧ r.2.mem ((c.tc : Thread Cert.FFfnInIdeal.nD Cert.FFfnInIdeal.τ).loc Cert.FFfnInIdeal.main_arg1) = m ((c.tc : Thread Cert.FFfnInIdeal.nD Cert.FFfnInIdeal.τ).loc Cert.FFfnInIdeal.main_arg1)
      ∧ r.2.mem ((c.tc : Thread Cert.FFfnInIdeal.nD Cert.FFfnInIdeal.τ).loc Cert.FFfnInIdeal.main_arg2) = m ((c.tc : Thread Cert.FFfnInIdeal.nD Cert.FFfnInIdeal.τ).loc Cert.FFfnInIdeal.main_arg2)
      ∧ r.2.mem ((c.tc : Thread Cert.FFfnInIdeal.nD Cert.FFfnInIdeal.τ).loc Cert.FFfnInIdeal.main_arg3) = m ((c.tc : Thread Cert.FFfnInIdeal.nD Cert.FFfnInIdeal.τ).loc Cert.FFfnInIdeal.main_arg3)
      ∧ r.2.mem ((c.tc : Thread Cert.FFfnInIdeal.nD Cert.FFfnInIdeal.τ).loc Cert.FFfnInIdeal.main_arg4) = m ((c.tc : Thread Cert.FFfnInIdeal.nD Cert.FFfnInIdeal.τ).loc Cert.FFfnInIdeal.main_arg4)
      ∧ r.2.mem ((c.tc : Thread Cert.FFfnInIdeal.nD Cert.FFfnInIdeal.τ).loc Cert.FFfnInIdeal.main_arg5) = m ((c.tc : Thread Cert.FFfnInIdeal.nD Cert.FFfnInIdeal.τ).loc Cert.FFfnInIdeal.main_arg5)
      ∧ r.2.mem ((c.tc : Thread Cert.FFfnInIdeal.nD Cert.FFfnInIdeal.τ).loc Cert.FFfnInIdeal.main_arg6) = m ((c.tc : Thread Cert.FFfnInIdeal.nD Cert.FFfnInIdeal.τ).loc Cert.FFfnInIdeal.main_arg6))
      ∧ r.2.sem = fun _ => 0)

def quiescent_FFfnInRefIdeal [hFFfnInRefIdeal : Cert.FFfnInRefIdeal.Facts] : Prop :=
  ∀ (m : (ℓ : Loc Cert.FFfnInRefIdeal.nD Cert.FFfnInRefIdeal.τ Cert.FFfnInRefIdeal.sig) → Buf (Elt Ideal) ℓ) (g : Dev Cert.FFfnInRefIdeal.nD → PrngReg), Pre_FFfnInRefIdeal m →
    θ_run (Cert.FFfnInRefIdeal.defs (F := Ideal)) (onTc (τ := Cert.FFfnInRefIdeal.τ) (Cert.FFfnInRefIdeal.main (F := Ideal))) ⟨m, fun _ => 0, g⟩ (fun r => (∀ c : Dev Cert.FFfnInRefIdeal.nD,
      r.2.mem ((c.tc : Thread Cert.FFfnInRefIdeal.nD Cert.FFfnInRefIdeal.τ).loc Cert.FFfnInRefIdeal.main_arg0) = m ((c.tc : Thread Cert.FFfnInRefIdeal.nD Cert.FFfnInRefIdeal.τ).loc Cert.FFfnInRefIdeal.main_arg0)
      ∧ r.2.mem ((c.tc : Thread Cert.FFfnInRefIdeal.nD Cert.FFfnInRefIdeal.τ).loc Cert.FFfnInRefIdeal.main_arg1) = m ((c.tc : Thread Cert.FFfnInRefIdeal.nD Cert.FFfnInRefIdeal.τ).loc Cert.FFfnInRefIdeal.main_arg1)
      ∧ r.2.mem ((c.tc : Thread Cert.FFfnInRefIdeal.nD Cert.FFfnInRefIdeal.τ).loc Cert.FFfnInRefIdeal.main_arg2) = m ((c.tc : Thread Cert.FFfnInRefIdeal.nD Cert.FFfnInRefIdeal.τ).loc Cert.FFfnInRefIdeal.main_arg2)
      ∧ r.2.mem ((c.tc : Thread Cert.FFfnInRefIdeal.nD Cert.FFfnInRefIdeal.τ).loc Cert.FFfnInRefIdeal.main_arg3) = m ((c.tc : Thread Cert.FFfnInRefIdeal.nD Cert.FFfnInRefIdeal.τ).loc Cert.FFfnInRefIdeal.main_arg3)
      ∧ r.2.mem ((c.tc : Thread Cert.FFfnInRefIdeal.nD Cert.FFfnInRefIdeal.τ).loc Cert.FFfnInRefIdeal.main_arg4) = m ((c.tc : Thread Cert.FFfnInRefIdeal.nD Cert.FFfnInRefIdeal.τ).loc Cert.FFfnInRefIdeal.main_arg4)
      ∧ r.2.mem ((c.tc : Thread Cert.FFfnInRefIdeal.nD Cert.FFfnInRefIdeal.τ).loc Cert.FFfnInRefIdeal.main_arg5) = m ((c.tc : Thread Cert.FFfnInRefIdeal.nD Cert.FFfnInRefIdeal.τ).loc Cert.FFfnInRefIdeal.main_arg5)
      ∧ r.2.mem ((c.tc : Thread Cert.FFfnInRefIdeal.nD Cert.FFfnInRefIdeal.τ).loc Cert.FFfnInRefIdeal.main_arg6) = m ((c.tc : Thread Cert.FFfnInRefIdeal.nD Cert.FFfnInRefIdeal.τ).loc Cert.FFfnInRefIdeal.main_arg6))
      ∧ r.2.sem = fun _ => 0)

def quiescent_FFfnInRefIdeal_pre_place_w_ffn_in [hFFfnInRefIdeal : Cert.FFfnInRefIdeal.Facts] [hPre_place_w_ffn_in : Cert.Pre_place_w_ffn_in.Facts] : Prop :=
  ∀ (m : (ℓ : Loc Cert.FFfnInRefIdeal.nD Cert.FFfnInRefIdeal.τ Cert.FFfnInRefIdeal.sig) → Buf (Elt Ideal) ℓ) (g : Dev Cert.FFfnInRefIdeal.nD → PrngReg), Pre_FFfnInRefIdeal_place_w_ffn_in m →
    θ_run (Cert.FFfnInRefIdeal.defs (F := Ideal)) (onTc (τ := Cert.FFfnInRefIdeal.τ) (Cert.FFfnInRefIdeal.main (F := Ideal))) ⟨m, fun _ => 0, g⟩ (fun r => (∀ c : Dev Cert.FFfnInRefIdeal.nD,
      r.2.mem ((c.tc : Thread Cert.FFfnInRefIdeal.nD Cert.FFfnInRefIdeal.τ).loc Cert.FFfnInRefIdeal.main_arg0) = m ((c.tc : Thread Cert.FFfnInRefIdeal.nD Cert.FFfnInRefIdeal.τ).loc Cert.FFfnInRefIdeal.main_arg0)
      ∧ r.2.mem ((c.tc : Thread Cert.FFfnInRefIdeal.nD Cert.FFfnInRefIdeal.τ).loc Cert.FFfnInRefIdeal.main_arg1) = m ((c.tc : Thread Cert.FFfnInRefIdeal.nD Cert.FFfnInRefIdeal.τ).loc Cert.FFfnInRefIdeal.main_arg1)
      ∧ r.2.mem ((c.tc : Thread Cert.FFfnInRefIdeal.nD Cert.FFfnInRefIdeal.τ).loc Cert.FFfnInRefIdeal.main_arg2) = m ((c.tc : Thread Cert.FFfnInRefIdeal.nD Cert.FFfnInRefIdeal.τ).loc Cert.FFfnInRefIdeal.main_arg2)
      ∧ r.2.mem ((c.tc : Thread Cert.FFfnInRefIdeal.nD Cert.FFfnInRefIdeal.τ).loc Cert.FFfnInRefIdeal.main_arg3) = m ((c.tc : Thread Cert.FFfnInRefIdeal.nD Cert.FFfnInRefIdeal.τ).loc Cert.FFfnInRefIdeal.main_arg3)
      ∧ r.2.mem ((c.tc : Thread Cert.FFfnInRefIdeal.nD Cert.FFfnInRefIdeal.τ).loc Cert.FFfnInRefIdeal.main_arg4) = m ((c.tc : Thread Cert.FFfnInRefIdeal.nD Cert.FFfnInRefIdeal.τ).loc Cert.FFfnInRefIdeal.main_arg4)
      ∧ r.2.mem ((c.tc : Thread Cert.FFfnInRefIdeal.nD Cert.FFfnInRefIdeal.τ).loc Cert.FFfnInRefIdeal.main_arg5) = m ((c.tc : Thread Cert.FFfnInRefIdeal.nD Cert.FFfnInRefIdeal.τ).loc Cert.FFfnInRefIdeal.main_arg5)
      ∧ r.2.mem ((c.tc : Thread Cert.FFfnInRefIdeal.nD Cert.FFfnInRefIdeal.τ).loc Cert.FFfnInRefIdeal.main_arg6) = m ((c.tc : Thread Cert.FFfnInRefIdeal.nD Cert.FFfnInRefIdeal.τ).loc Cert.FFfnInRefIdeal.main_arg6))
      ∧ r.2.sem = fun _ => 0)

def quiescent_FFfnOut [hFFfnOut : Cert.FFfnOut.Facts] [hPre_place_w_ffn_out : Cert.Pre_place_w_ffn_out.Facts] : Prop :=
  ∀ (m : (ℓ : Loc Cert.FFfnOut.nD Cert.FFfnOut.τ Cert.FFfnOut.sig) → Buf (Elt Bits) ℓ) (g : Dev Cert.FFfnOut.nD → PrngReg), Pre_FFfnOut m →
    θ_run (Cert.FFfnOut.defs (F := Bits)) (onTc (τ := Cert.FFfnOut.τ) (Cert.FFfnOut.main (F := Bits))) ⟨m, fun _ => 0, g⟩ (fun r => (∀ c : Dev Cert.FFfnOut.nD,
      r.2.mem ((c.tc : Thread Cert.FFfnOut.nD Cert.FFfnOut.τ).loc Cert.FFfnOut.main_arg0) = m ((c.tc : Thread Cert.FFfnOut.nD Cert.FFfnOut.τ).loc Cert.FFfnOut.main_arg0)
      ∧ r.2.mem ((c.tc : Thread Cert.FFfnOut.nD Cert.FFfnOut.τ).loc Cert.FFfnOut.main_arg1) = m ((c.tc : Thread Cert.FFfnOut.nD Cert.FFfnOut.τ).loc Cert.FFfnOut.main_arg1)
      ∧ r.2.mem ((c.tc : Thread Cert.FFfnOut.nD Cert.FFfnOut.τ).loc Cert.FFfnOut.main_arg2) = m ((c.tc : Thread Cert.FFfnOut.nD Cert.FFfnOut.τ).loc Cert.FFfnOut.main_arg2)
      ∧ r.2.mem ((c.tc : Thread Cert.FFfnOut.nD Cert.FFfnOut.τ).loc Cert.FFfnOut.main_arg3) = m ((c.tc : Thread Cert.FFfnOut.nD Cert.FFfnOut.τ).loc Cert.FFfnOut.main_arg3)
      ∧ r.2.mem ((c.tc : Thread Cert.FFfnOut.nD Cert.FFfnOut.τ).loc Cert.FFfnOut.main_arg4) = m ((c.tc : Thread Cert.FFfnOut.nD Cert.FFfnOut.τ).loc Cert.FFfnOut.main_arg4)
      ∧ r.2.mem ((c.tc : Thread Cert.FFfnOut.nD Cert.FFfnOut.τ).loc Cert.FFfnOut.main_arg5) = m ((c.tc : Thread Cert.FFfnOut.nD Cert.FFfnOut.τ).loc Cert.FFfnOut.main_arg5)
      ∧ r.2.mem ((c.tc : Thread Cert.FFfnOut.nD Cert.FFfnOut.τ).loc Cert.FFfnOut.main_arg6) = m ((c.tc : Thread Cert.FFfnOut.nD Cert.FFfnOut.τ).loc Cert.FFfnOut.main_arg6))
      ∧ r.2.sem = fun _ => 0)

def quiescent_FFfnOutIdeal [hFFfnOutIdeal : Cert.FFfnOutIdeal.Facts] [hPre_place_w_ffn_out : Cert.Pre_place_w_ffn_out.Facts] : Prop :=
  ∀ (m : (ℓ : Loc Cert.FFfnOutIdeal.nD Cert.FFfnOutIdeal.τ Cert.FFfnOutIdeal.sig) → Buf (Elt Ideal) ℓ) (g : Dev Cert.FFfnOutIdeal.nD → PrngReg), Pre_FFfnOutIdeal m →
    θ_run (Cert.FFfnOutIdeal.defs (F := Ideal)) (onTc (τ := Cert.FFfnOutIdeal.τ) (Cert.FFfnOutIdeal.main (F := Ideal))) ⟨m, fun _ => 0, g⟩ (fun r => (∀ c : Dev Cert.FFfnOutIdeal.nD,
      r.2.mem ((c.tc : Thread Cert.FFfnOutIdeal.nD Cert.FFfnOutIdeal.τ).loc Cert.FFfnOutIdeal.main_arg0) = m ((c.tc : Thread Cert.FFfnOutIdeal.nD Cert.FFfnOutIdeal.τ).loc Cert.FFfnOutIdeal.main_arg0)
      ∧ r.2.mem ((c.tc : Thread Cert.FFfnOutIdeal.nD Cert.FFfnOutIdeal.τ).loc Cert.FFfnOutIdeal.main_arg1) = m ((c.tc : Thread Cert.FFfnOutIdeal.nD Cert.FFfnOutIdeal.τ).loc Cert.FFfnOutIdeal.main_arg1)
      ∧ r.2.mem ((c.tc : Thread Cert.FFfnOutIdeal.nD Cert.FFfnOutIdeal.τ).loc Cert.FFfnOutIdeal.main_arg2) = m ((c.tc : Thread Cert.FFfnOutIdeal.nD Cert.FFfnOutIdeal.τ).loc Cert.FFfnOutIdeal.main_arg2)
      ∧ r.2.mem ((c.tc : Thread Cert.FFfnOutIdeal.nD Cert.FFfnOutIdeal.τ).loc Cert.FFfnOutIdeal.main_arg3) = m ((c.tc : Thread Cert.FFfnOutIdeal.nD Cert.FFfnOutIdeal.τ).loc Cert.FFfnOutIdeal.main_arg3)
      ∧ r.2.mem ((c.tc : Thread Cert.FFfnOutIdeal.nD Cert.FFfnOutIdeal.τ).loc Cert.FFfnOutIdeal.main_arg4) = m ((c.tc : Thread Cert.FFfnOutIdeal.nD Cert.FFfnOutIdeal.τ).loc Cert.FFfnOutIdeal.main_arg4)
      ∧ r.2.mem ((c.tc : Thread Cert.FFfnOutIdeal.nD Cert.FFfnOutIdeal.τ).loc Cert.FFfnOutIdeal.main_arg5) = m ((c.tc : Thread Cert.FFfnOutIdeal.nD Cert.FFfnOutIdeal.τ).loc Cert.FFfnOutIdeal.main_arg5)
      ∧ r.2.mem ((c.tc : Thread Cert.FFfnOutIdeal.nD Cert.FFfnOutIdeal.τ).loc Cert.FFfnOutIdeal.main_arg6) = m ((c.tc : Thread Cert.FFfnOutIdeal.nD Cert.FFfnOutIdeal.τ).loc Cert.FFfnOutIdeal.main_arg6))
      ∧ r.2.sem = fun _ => 0)

def quiescent_FFfnOutRefIdeal [hFFfnOutRefIdeal : Cert.FFfnOutRefIdeal.Facts] : Prop :=
  ∀ (m : (ℓ : Loc Cert.FFfnOutRefIdeal.nD Cert.FFfnOutRefIdeal.τ Cert.FFfnOutRefIdeal.sig) → Buf (Elt Ideal) ℓ) (g : Dev Cert.FFfnOutRefIdeal.nD → PrngReg), Pre_FFfnOutRefIdeal m →
    θ_run (Cert.FFfnOutRefIdeal.defs (F := Ideal)) (onTc (τ := Cert.FFfnOutRefIdeal.τ) (Cert.FFfnOutRefIdeal.main (F := Ideal))) ⟨m, fun _ => 0, g⟩ (fun r => (∀ c : Dev Cert.FFfnOutRefIdeal.nD,
      r.2.mem ((c.tc : Thread Cert.FFfnOutRefIdeal.nD Cert.FFfnOutRefIdeal.τ).loc Cert.FFfnOutRefIdeal.main_arg0) = m ((c.tc : Thread Cert.FFfnOutRefIdeal.nD Cert.FFfnOutRefIdeal.τ).loc Cert.FFfnOutRefIdeal.main_arg0)
      ∧ r.2.mem ((c.tc : Thread Cert.FFfnOutRefIdeal.nD Cert.FFfnOutRefIdeal.τ).loc Cert.FFfnOutRefIdeal.main_arg1) = m ((c.tc : Thread Cert.FFfnOutRefIdeal.nD Cert.FFfnOutRefIdeal.τ).loc Cert.FFfnOutRefIdeal.main_arg1)
      ∧ r.2.mem ((c.tc : Thread Cert.FFfnOutRefIdeal.nD Cert.FFfnOutRefIdeal.τ).loc Cert.FFfnOutRefIdeal.main_arg2) = m ((c.tc : Thread Cert.FFfnOutRefIdeal.nD Cert.FFfnOutRefIdeal.τ).loc Cert.FFfnOutRefIdeal.main_arg2)
      ∧ r.2.mem ((c.tc : Thread Cert.FFfnOutRefIdeal.nD Cert.FFfnOutRefIdeal.τ).loc Cert.FFfnOutRefIdeal.main_arg3) = m ((c.tc : Thread Cert.FFfnOutRefIdeal.nD Cert.FFfnOutRefIdeal.τ).loc Cert.FFfnOutRefIdeal.main_arg3)
      ∧ r.2.mem ((c.tc : Thread Cert.FFfnOutRefIdeal.nD Cert.FFfnOutRefIdeal.τ).loc Cert.FFfnOutRefIdeal.main_arg4) = m ((c.tc : Thread Cert.FFfnOutRefIdeal.nD Cert.FFfnOutRefIdeal.τ).loc Cert.FFfnOutRefIdeal.main_arg4)
      ∧ r.2.mem ((c.tc : Thread Cert.FFfnOutRefIdeal.nD Cert.FFfnOutRefIdeal.τ).loc Cert.FFfnOutRefIdeal.main_arg5) = m ((c.tc : Thread Cert.FFfnOutRefIdeal.nD Cert.FFfnOutRefIdeal.τ).loc Cert.FFfnOutRefIdeal.main_arg5)
      ∧ r.2.mem ((c.tc : Thread Cert.FFfnOutRefIdeal.nD Cert.FFfnOutRefIdeal.τ).loc Cert.FFfnOutRefIdeal.main_arg6) = m ((c.tc : Thread Cert.FFfnOutRefIdeal.nD Cert.FFfnOutRefIdeal.τ).loc Cert.FFfnOutRefIdeal.main_arg6))
      ∧ r.2.sem = fun _ => 0)

def quiescent_FFfnOutRefIdeal_pre_place_w_ffn_out [hFFfnOutRefIdeal : Cert.FFfnOutRefIdeal.Facts] [hPre_place_w_ffn_out : Cert.Pre_place_w_ffn_out.Facts] : Prop :=
  ∀ (m : (ℓ : Loc Cert.FFfnOutRefIdeal.nD Cert.FFfnOutRefIdeal.τ Cert.FFfnOutRefIdeal.sig) → Buf (Elt Ideal) ℓ) (g : Dev Cert.FFfnOutRefIdeal.nD → PrngReg), Pre_FFfnOutRefIdeal_place_w_ffn_out m →
    θ_run (Cert.FFfnOutRefIdeal.defs (F := Ideal)) (onTc (τ := Cert.FFfnOutRefIdeal.τ) (Cert.FFfnOutRefIdeal.main (F := Ideal))) ⟨m, fun _ => 0, g⟩ (fun r => (∀ c : Dev Cert.FFfnOutRefIdeal.nD,
      r.2.mem ((c.tc : Thread Cert.FFfnOutRefIdeal.nD Cert.FFfnOutRefIdeal.τ).loc Cert.FFfnOutRefIdeal.main_arg0) = m ((c.tc : Thread Cert.FFfnOutRefIdeal.nD Cert.FFfnOutRefIdeal.τ).loc Cert.FFfnOutRefIdeal.main_arg0)
      ∧ r.2.mem ((c.tc : Thread Cert.FFfnOutRefIdeal.nD Cert.FFfnOutRefIdeal.τ).loc Cert.FFfnOutRefIdeal.main_arg1) = m ((c.tc : Thread Cert.FFfnOutRefIdeal.nD Cert.FFfnOutRefIdeal.τ).loc Cert.FFfnOutRefIdeal.main_arg1)
      ∧ r.2.mem ((c.tc : Thread Cert.FFfnOutRefIdeal.nD Cert.FFfnOutRefIdeal.τ).loc Cert.FFfnOutRefIdeal.main_arg2) = m ((c.tc : Thread Cert.FFfnOutRefIdeal.nD Cert.FFfnOutRefIdeal.τ).loc Cert.FFfnOutRefIdeal.main_arg2)
      ∧ r.2.mem ((c.tc : Thread Cert.FFfnOutRefIdeal.nD Cert.FFfnOutRefIdeal.τ).loc Cert.FFfnOutRefIdeal.main_arg3) = m ((c.tc : Thread Cert.FFfnOutRefIdeal.nD Cert.FFfnOutRefIdeal.τ).loc Cert.FFfnOutRefIdeal.main_arg3)
      ∧ r.2.mem ((c.tc : Thread Cert.FFfnOutRefIdeal.nD Cert.FFfnOutRefIdeal.τ).loc Cert.FFfnOutRefIdeal.main_arg4) = m ((c.tc : Thread Cert.FFfnOutRefIdeal.nD Cert.FFfnOutRefIdeal.τ).loc Cert.FFfnOutRefIdeal.main_arg4)
      ∧ r.2.mem ((c.tc : Thread Cert.FFfnOutRefIdeal.nD Cert.FFfnOutRefIdeal.τ).loc Cert.FFfnOutRefIdeal.main_arg5) = m ((c.tc : Thread Cert.FFfnOutRefIdeal.nD Cert.FFfnOutRefIdeal.τ).loc Cert.FFfnOutRefIdeal.main_arg5)
      ∧ r.2.mem ((c.tc : Thread Cert.FFfnOutRefIdeal.nD Cert.FFfnOutRefIdeal.τ).loc Cert.FFfnOutRefIdeal.main_arg6) = m ((c.tc : Thread Cert.FFfnOutRefIdeal.nD Cert.FFfnOutRefIdeal.τ).loc Cert.FFfnOutRefIdeal.main_arg6))
      ∧ r.2.sem = fun _ => 0)

def preserves_Up_UpIdeal : Prop :=
  True

def algebraic_UpIdeal_UpRefIdeal_pre_finite_up [hUpIdeal : Cert.UpIdeal.Facts] [hUpRefIdeal : Cert.UpRefIdeal.Facts] [hPre_finite_up : Cert.Pre_finite_up.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal_finite_up m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v4_0)) (v1 : (c : Dev Cert.UpIdeal.nD) → Buf (Elt Ideal) ((c.tc : Thread Cert.UpIdeal.nD Cert.UpIdeal.τ).loc Cert.UpIdeal.main_v4_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v4_0) = v0 c
          ∧ r.2.mem ((c.tc : Thread Cert.UpIdeal.nD Cert.UpIdeal.τ).loc Cert.UpIdeal.main_v4_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v11) = v0 c
          ∧ r.2.mem ((c.tc : Thread Cert.UpRefIdeal.nD Cert.UpRefIdeal.τ).loc Cert.UpRefIdeal.main_v12) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v53) = v0 c
          ∧ r.2.mem ((c.tc : Thread Cert.LossRefIdeal.nD Cert.LossRefIdeal.τ).loc Cert.LossRefIdeal.main_v54) = v1 c
          ∧ r.2.mem ((c.tc : Thread Cert.LossRefIdeal.nD Cert.LossRefIdeal.τ).loc Cert.LossRefIdeal.main_v55) = v2 c
          ∧ r.2.mem ((c.tc : Thread Cert.LossRefIdeal.nD Cert.LossRefIdeal.τ).loc Cert.LossRefIdeal.main_v57) = v3 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4))

def preserves_Down_DownIdeal : Prop :=
  True

def algebraic_DownIdeal_DownRefIdeal_pre_finite_down [hDownIdeal : Cert.DownIdeal.Facts] [hDownRefIdeal : Cert.DownRefIdeal.Facts] [hPre_finite_down : Cert.Pre_finite_down.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal_finite_down m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v9)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v9) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v9) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_BwdUp_BwdUpIdeal : Prop :=
  True

def algebraic_BwdUpIdeal_BwdUpRefIdeal [hBwdUpIdeal : Cert.BwdUpIdeal.Facts] [hBwdUpRefIdeal : Cert.BwdUpRefIdeal.Facts] : Prop :=
  ∀ (m : (ℓ : Loc Cert.BwdUpIdeal.nD Cert.BwdUpIdeal.τ Cert.BwdUpIdeal.sig) → Buf (Elt Ideal) ℓ) (g : Dev Cert.BwdUpIdeal.nD → PrngReg)
    (m' : (ℓ : Loc Cert.BwdUpRefIdeal.nD Cert.BwdUpRefIdeal.τ Cert.BwdUpRefIdeal.sig) → Buf (Elt Ideal) ℓ) (g' : Dev Cert.BwdUpRefIdeal.nD → PrngReg), Pre_BwdUpIdeal m →
    (∀ c : Dev Cert.BwdUpIdeal.nD,
      m' ((c.tc : Thread Cert.BwdUpRefIdeal.nD Cert.BwdUpRefIdeal.τ).loc Cert.BwdUpRefIdeal.main_arg0) = m ((c.tc : Thread Cert.BwdUpIdeal.nD Cert.BwdUpIdeal.τ).loc Cert.BwdUpIdeal.main_arg0)
      ∧ m' ((c.tc : Thread Cert.BwdUpRefIdeal.nD Cert.BwdUpRefIdeal.τ).loc Cert.BwdUpRefIdeal.main_arg1) = m ((c.tc : Thread Cert.BwdUpIdeal.nD Cert.BwdUpIdeal.τ).loc Cert.BwdUpIdeal.main_arg1)
      ∧ m' ((c.tc : Thread Cert.BwdUpRefIdeal.nD Cert.BwdUpRefIdeal.τ).loc Cert.BwdUpRefIdeal.main_arg2) = m ((c.tc : Thread Cert.BwdUpIdeal.nD Cert.BwdUpIdeal.τ).loc Cert.BwdUpIdeal.main_arg2)
      ∧ m' ((c.tc : Thread Cert.BwdUpRefIdeal.nD Cert.BwdUpRefIdeal.τ).loc Cert.BwdUpRefIdeal.main_arg3) = m ((c.tc : Thread Cert.BwdUpIdeal.nD Cert.BwdUpIdeal.τ).loc Cert.BwdUpIdeal.main_arg3)
      ∧ m' ((c.tc : Thread Cert.BwdUpRefIdeal.nD Cert.BwdUpRefIdeal.τ).loc Cert.BwdUpRefIdeal.main_arg4) = m ((c.tc : Thread Cert.BwdUpIdeal.nD Cert.BwdUpIdeal.τ).loc Cert.BwdUpIdeal.main_arg4)
      ∧ m' ((c.tc : Thread Cert.BwdUpRefIdeal.nD Cert.BwdUpRefIdeal.τ).loc Cert.BwdUpRefIdeal.main_arg5) = m ((c.tc : Thread Cert.BwdUpIdeal.nD Cert.BwdUpIdeal.τ).loc Cert.BwdUpIdeal.main_arg5)) →
    ∃ (v0 : (c : Dev Cert.BwdUpIdeal.nD) → Buf (Elt Ideal) ((c.tc : Thread Cert.BwdUpIdeal.nD Cert.BwdUpIdeal.τ).loc Cert.BwdUpIdeal.main_v5_0)) (v1 : (c : Dev Cert.BwdUpIdeal.nD) → Buf (Elt Ideal) ((c.tc : Thread Cert.BwdUpIdeal.nD Cert.BwdUpIdeal.τ).loc Cert.BwdUpIdeal.main_v5_1)) (v2 : (c : Dev Cert.BwdUpIdeal.nD) → Buf (Elt Ideal) ((c.tc : Thread Cert.BwdUpIdeal.nD Cert.BwdUpIdeal.τ).loc Cert.BwdUpIdeal.main_v5_2)) (v3 : (c : Dev Cert.BwdUpIdeal.nD) → Buf (Elt Ideal) ((c.tc : Thread Cert.BwdUpIdeal.nD Cert.BwdUpIdeal.τ).loc Cert.BwdUpIdeal.main_v5_3)),
      θ_run (Cert.BwdUpIdeal.defs (F := Ideal)) (onTc (τ := Cert.BwdUpIdeal.τ) (Cert.BwdUpIdeal.main (F := Ideal))) ⟨m, fun _ => 0, g⟩ (fun r => ∀ c : Dev Cert.BwdUpIdeal.nD,
          r.2.mem ((c.tc : Thread Cert.BwdUpIdeal.nD Cert.BwdUpIdeal.τ).loc Cert.BwdUpIdeal.main_v5_0) = v0 c
          ∧ r.2.mem ((c.tc : Thread Cert.BwdUpIdeal.nD Cert.BwdUpIdeal.τ).loc Cert.BwdUpIdeal.main_v5_1) = v1 c
          ∧ r.2.mem ((c.tc : Thread Cert.BwdUpIdeal.nD Cert.BwdUpIdeal.τ).loc Cert.BwdUpIdeal.main_v5_2) = v2 c
          ∧ r.2.mem ((c.tc : Thread Cert.BwdUpIdeal.nD Cert.BwdUpIdeal.τ).loc Cert.BwdUpIdeal.main_v5_3) = v3 c
          ∧ r.2.mem ((c.tc : Thread Cert.BwdUpIdeal.nD Cert.BwdUpIdeal.τ).loc Cert.BwdUpIdeal.main_arg0) = m ((c.tc : Thread Cert.BwdUpIdeal.nD Cert.BwdUpIdeal.τ).loc Cert.BwdUpIdeal.main_arg0)
          ∧ r.2.mem ((c.tc : Thread Cert.BwdUpIdeal.nD Cert.BwdUpIdeal.τ).loc Cert.BwdUpIdeal.main_arg1) = m ((c.tc : Thread Cert.BwdUpIdeal.nD Cert.BwdUpIdeal.τ).loc Cert.BwdUpIdeal.main_arg1)
          ∧ r.2.mem ((c.tc : Thread Cert.BwdUpIdeal.nD Cert.BwdUpIdeal.τ).loc Cert.BwdUpIdeal.main_arg2) = m ((c.tc : Thread Cert.BwdUpIdeal.nD Cert.BwdUpIdeal.τ).loc Cert.BwdUpIdeal.main_arg2)
          ∧ r.2.mem ((c.tc : Thread Cert.BwdUpIdeal.nD Cert.BwdUpIdeal.τ).loc Cert.BwdUpIdeal.main_arg3) = m ((c.tc : Thread Cert.BwdUpIdeal.nD Cert.BwdUpIdeal.τ).loc Cert.BwdUpIdeal.main_arg3)
          ∧ r.2.mem ((c.tc : Thread Cert.BwdUpIdeal.nD Cert.BwdUpIdeal.τ).loc Cert.BwdUpIdeal.main_arg4) = m ((c.tc : Thread Cert.BwdUpIdeal.nD Cert.BwdUpIdeal.τ).loc Cert.BwdUpIdeal.main_arg4)
          ∧ r.2.mem ((c.tc : Thread Cert.BwdUpIdeal.nD Cert.BwdUpIdeal.τ).loc Cert.BwdUpIdeal.main_arg5) = m ((c.tc : Thread Cert.BwdUpIdeal.nD Cert.BwdUpIdeal.τ).loc Cert.BwdUpIdeal.main_arg5))
      ∧ θ_run (Cert.BwdUpRefIdeal.defs (F := Ideal)) (onTc (τ := Cert.BwdUpRefIdeal.τ) (Cert.BwdUpRefIdeal.main (F := Ideal))) ⟨m', fun _ => 0, g'⟩ (fun r => ∀ c : Dev Cert.BwdUpRefIdeal.nD,
          r.2.mem ((c.tc : Thread Cert.BwdUpRefIdeal.nD Cert.BwdUpRefIdeal.τ).loc Cert.BwdUpRefIdeal.main_v37) = v0 c
          ∧ r.2.mem ((c.tc : Thread Cert.BwdUpRefIdeal.nD Cert.BwdUpRefIdeal.τ).loc Cert.BwdUpRefIdeal.main_v41) = v1 c
          ∧ r.2.mem ((c.tc : Thread Cert.BwdUpRefIdeal.nD Cert.BwdUpRefIdeal.τ).loc Cert.BwdUpRefIdeal.main_v42) = v2 c
          ∧ r.2.mem ((c.tc : Thread Cert.BwdUpRefIdeal.nD Cert.BwdUpRefIdeal.τ).loc Cert.BwdUpRefIdeal.main_v43) = v3 c
          ∧ r.2.mem ((c.tc : Thread Cert.BwdUpRefIdeal.nD Cert.BwdUpRefIdeal.τ).loc Cert.BwdUpRefIdeal.main_arg0) = m' ((c.tc : Thread Cert.BwdUpRefIdeal.nD Cert.BwdUpRefIdeal.τ).loc Cert.BwdUpRefIdeal.main_arg0)
          ∧ r.2.mem ((c.tc : Thread Cert.BwdUpRefIdeal.nD Cert.BwdUpRefIdeal.τ).loc Cert.BwdUpRefIdeal.main_arg1) = m' ((c.tc : Thread Cert.BwdUpRefIdeal.nD Cert.BwdUpRefIdeal.τ).loc Cert.BwdUpRefIdeal.main_arg1)
          ∧ r.2.mem ((c.tc : Thread Cert.BwdUpRefIdeal.nD Cert.BwdUpRefIdeal.τ).loc Cert.BwdUpRefIdeal.main_arg2) = m' ((c.tc : Thread Cert.BwdUpRefIdeal.nD Cert.BwdUpRefIdeal.τ).loc Cert.BwdUpRefIdeal.main_arg2)
          ∧ r.2.mem ((c.tc : Thread Cert.BwdUpRefIdeal.nD Cert.BwdUpRefIdeal.τ).loc Cert.BwdUpRefIdeal.main_arg3) = m' ((c.tc : Thread Cert.BwdUpRefIdeal.nD Cert.BwdUpRefIdeal.τ).loc Cert.BwdUpRefIdeal.main_arg3)
          ∧ r.2.mem ((c.tc : Thread Cert.BwdUpRefIdeal.nD Cert.BwdUpRefIdeal.τ).loc Cert.BwdUpRefIdeal.main_arg4) = m' ((c.tc : Thread Cert.BwdUpRefIdeal.nD Cert.BwdUpRefIdeal.τ).loc Cert.BwdUpRefIdeal.main_arg4)
          ∧ r.2.mem ((c.tc : Thread Cert.BwdUpRefIdeal.nD Cert.BwdUpRefIdeal.τ).loc Cert.BwdUpRefIdeal.main_arg5) = m' ((c.tc : Thread Cert.BwdUpRefIdeal.nD Cert.BwdUpRefIdeal.τ).loc Cert.BwdUpRefIdeal.main_arg5))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v2_0)) (v1 : (c : Dev Cert.InBwdIdeal.nD) → Buf (Elt Ideal) ((c.tc : Thread Cert.InBwdIdeal.nD Cert.InBwdIdeal.τ).loc Cert.InBwdIdeal.main_v2_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v2_0) = v0 c
          ∧ r.2.mem ((c.tc : Thread Cert.InBwdIdeal.nD Cert.InBwdIdeal.τ).loc Cert.InBwdIdeal.main_v2_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v37) = v0 c
          ∧ r.2.mem ((c.tc : Thread Cert.InBwdRefIdeal.nD Cert.InBwdRefIdeal.τ).loc Cert.InBwdRefIdeal.main_v38) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)) (v2 : (c : Dev Cert.MergeIdeal.nD) → Buf (Elt Ideal) ((c.tc : Thread Cert.MergeIdeal.nD Cert.MergeIdeal.τ).loc Cert.MergeIdeal.main_v1_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_v1_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v19) = v0 c
          ∧ r.2.mem ((c.tc : Thread Cert.MergeRefIdeal.nD Cert.MergeRefIdeal.τ).loc Cert.MergeRefIdeal.main_v18) = v1 c
          ∧ r.2.mem ((c.tc : Thread Cert.MergeRefIdeal.nD Cert.MergeRefIdeal.τ).loc Cert.MergeRefIdeal.main_v32) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_WFfnOut_WFfnOutIdeal : Prop :=
  True

def algebraic_WFfnOutIdeal_WFfnOutRefIdeal [hWFfnOutIdeal : Cert.WFfnOutIdeal.Facts] [hWFfnOutRefIdeal : Cert.WFfnOutRefIdeal.Facts] : Prop :=
  ∀ (m : (ℓ : Loc Cert.WFfnOutIdeal.nD Cert.WFfnOutIdeal.τ Cert.WFfnOutIdeal.sig) → Buf (Elt Ideal) ℓ) (g : Dev Cert.WFfnOutIdeal.nD → PrngReg)
    (m' : (ℓ : Loc Cert.WFfnOutRefIdeal.nD Cert.WFfnOutRefIdeal.τ Cert.WFfnOutRefIdeal.sig) → Buf (Elt Ideal) ℓ) (g' : Dev Cert.WFfnOutRefIdeal.nD → PrngReg), Pre_WFfnOutIdeal m →
    (∀ c : Dev Cert.WFfnOutIdeal.nD,
      m' ((c.tc : Thread Cert.WFfnOutRefIdeal.nD Cert.WFfnOutRefIdeal.τ).loc Cert.WFfnOutRefIdeal.main_arg0) = m ((c.tc : Thread Cert.WFfnOutIdeal.nD Cert.WFfnOutIdeal.τ).loc Cert.WFfnOutIdeal.main_arg0)
      ∧ m' ((c.tc : Thread Cert.WFfnOutRefIdeal.nD Cert.WFfnOutRefIdeal.τ).loc Cert.WFfnOutRefIdeal.main_arg1) = m ((c.tc : Thread Cert.WFfnOutIdeal.nD Cert.WFfnOutIdeal.τ).loc Cert.WFfnOutIdeal.main_arg1)) →
    ∃ (v0 : (c : Dev Cert.WFfnOutIdeal.nD) → Buf (Elt Ideal) ((c.tc : Thread Cert.WFfnOutIdeal.nD Cert.WFfnOutIdeal.τ).loc Cert.WFfnOutIdeal.main_v0)),
      θ_run (Cert.WFfnOutIdeal.defs (F := Ideal)) (onTc (τ := Cert.WFfnOutIdeal.τ) (Cert.WFfnOutIdeal.main (F := Ideal))) ⟨m, fun _ => 0, g⟩ (fun r => ∀ c : Dev Cert.WFfnOutIdeal.nD,
          r.2.mem ((c.tc : Thread Cert.WFfnOutIdeal.nD Cert.WFfnOutIdeal.τ).loc Cert.WFfnOutIdeal.main_v0) = v0 c
          ∧ r.2.mem ((c.tc : Thread Cert.WFfnOutIdeal.nD Cert.WFfnOutIdeal.τ).loc Cert.WFfnOutIdeal.main_arg0) = m ((c.tc : Thread Cert.WFfnOutIdeal.nD Cert.WFfnOutIdeal.τ).loc Cert.WFfnOutIdeal.main_arg0)
          ∧ r.2.mem ((c.tc : Thread Cert.WFfnOutIdeal.nD Cert.WFfnOutIdeal.τ).loc Cert.WFfnOutIdeal.main_arg1) = m ((c.tc : Thread Cert.WFfnOutIdeal.nD Cert.WFfnOutIdeal.τ).loc Cert.WFfnOutIdeal.main_arg1))
      ∧ θ_run (Cert.WFfnOutRefIdeal.defs (F := Ideal)) (onTc (τ := Cert.WFfnOutRefIdeal.τ) (Cert.WFfnOutRefIdeal.main (F := Ideal))) ⟨m', fun _ => 0, g'⟩ (fun r => ∀ c : Dev Cert.WFfnOutRefIdeal.nD,
          r.2.mem ((c.tc : Thread Cert.WFfnOutRefIdeal.nD Cert.WFfnOutRefIdeal.τ).loc Cert.WFfnOutRefIdeal.main_v6) = v0 c
          ∧ r.2.mem ((c.tc : Thread Cert.WFfnOutRefIdeal.nD Cert.WFfnOutRefIdeal.τ).loc Cert.WFfnOutRefIdeal.main_arg0) = m' ((c.tc : Thread Cert.WFfnOutRefIdeal.nD Cert.WFfnOutRefIdeal.τ).loc Cert.WFfnOutRefIdeal.main_arg0)
          ∧ r.2.mem ((c.tc : Thread Cert.WFfnOutRefIdeal.nD Cert.WFfnOutRefIdeal.τ).loc Cert.WFfnOutRefIdeal.main_arg1) = m' ((c.tc : Thread Cert.WFfnOutRefIdeal.nD Cert.WFfnOutRefIdeal.τ).loc Cert.WFfnOutRefIdeal.main_arg1))

def preserves_WFfnIn_WFfnInIdeal : Prop :=
  True

def algebraic_WFfnInIdeal_WFfnInRefIdeal [hWFfnInIdeal : Cert.WFfnInIdeal.Facts] [hWFfnInRefIdeal : Cert.WFfnInRefIdeal.Facts] : Prop :=
  ∀ (m : (ℓ : Loc Cert.WFfnInIdeal.nD Cert.WFfnInIdeal.τ Cert.WFfnInIdeal.sig) → Buf (Elt Ideal) ℓ) (g : Dev Cert.WFfnInIdeal.nD → PrngReg)
    (m' : (ℓ : Loc Cert.WFfnInRefIdeal.nD Cert.WFfnInRefIdeal.τ Cert.WFfnInRefIdeal.sig) → Buf (Elt Ideal) ℓ) (g' : Dev Cert.WFfnInRefIdeal.nD → PrngReg), Pre_WFfnInIdeal m →
    (∀ c : Dev Cert.WFfnInIdeal.nD,
      m' ((c.tc : Thread Cert.WFfnInRefIdeal.nD Cert.WFfnInRefIdeal.τ).loc Cert.WFfnInRefIdeal.main_arg0) = m ((c.tc : Thread Cert.WFfnInIdeal.nD Cert.WFfnInIdeal.τ).loc Cert.WFfnInIdeal.main_arg0)
      ∧ m' ((c.tc : Thread Cert.WFfnInRefIdeal.nD Cert.WFfnInRefIdeal.τ).loc Cert.WFfnInRefIdeal.main_arg1) = m ((c.tc : Thread Cert.WFfnInIdeal.nD Cert.WFfnInIdeal.τ).loc Cert.WFfnInIdeal.main_arg1)) →
    ∃ (v0 : (c : Dev Cert.WFfnInIdeal.nD) → Buf (Elt Ideal) ((c.tc : Thread Cert.WFfnInIdeal.nD Cert.WFfnInIdeal.τ).loc Cert.WFfnInIdeal.main_v0)),
      θ_run (Cert.WFfnInIdeal.defs (F := Ideal)) (onTc (τ := Cert.WFfnInIdeal.τ) (Cert.WFfnInIdeal.main (F := Ideal))) ⟨m, fun _ => 0, g⟩ (fun r => ∀ c : Dev Cert.WFfnInIdeal.nD,
          r.2.mem ((c.tc : Thread Cert.WFfnInIdeal.nD Cert.WFfnInIdeal.τ).loc Cert.WFfnInIdeal.main_v0) = v0 c
          ∧ r.2.mem ((c.tc : Thread Cert.WFfnInIdeal.nD Cert.WFfnInIdeal.τ).loc Cert.WFfnInIdeal.main_arg0) = m ((c.tc : Thread Cert.WFfnInIdeal.nD Cert.WFfnInIdeal.τ).loc Cert.WFfnInIdeal.main_arg0)
          ∧ r.2.mem ((c.tc : Thread Cert.WFfnInIdeal.nD Cert.WFfnInIdeal.τ).loc Cert.WFfnInIdeal.main_arg1) = m ((c.tc : Thread Cert.WFfnInIdeal.nD Cert.WFfnInIdeal.τ).loc Cert.WFfnInIdeal.main_arg1))
      ∧ θ_run (Cert.WFfnInRefIdeal.defs (F := Ideal)) (onTc (τ := Cert.WFfnInRefIdeal.τ) (Cert.WFfnInRefIdeal.main (F := Ideal))) ⟨m', fun _ => 0, g'⟩ (fun r => ∀ c : Dev Cert.WFfnInRefIdeal.nD,
          r.2.mem ((c.tc : Thread Cert.WFfnInRefIdeal.nD Cert.WFfnInRefIdeal.τ).loc Cert.WFfnInRefIdeal.main_v7) = v0 c
          ∧ r.2.mem ((c.tc : Thread Cert.WFfnInRefIdeal.nD Cert.WFfnInRefIdeal.τ).loc Cert.WFfnInRefIdeal.main_arg0) = m' ((c.tc : Thread Cert.WFfnInRefIdeal.nD Cert.WFfnInRefIdeal.τ).loc Cert.WFfnInRefIdeal.main_arg0)
          ∧ r.2.mem ((c.tc : Thread Cert.WFfnInRefIdeal.nD Cert.WFfnInRefIdeal.τ).loc Cert.WFfnInRefIdeal.main_arg1) = m' ((c.tc : Thread Cert.WFfnInRefIdeal.nD Cert.WFfnInRefIdeal.τ).loc Cert.WFfnInRefIdeal.main_arg1))

def preserves_WO_WOIdeal : Prop :=
  True

def algebraic_WOIdeal_WORefIdeal [hWOIdeal : Cert.WOIdeal.Facts] [hWORefIdeal : Cert.WORefIdeal.Facts] : Prop :=
  ∀ (m : (ℓ : Loc Cert.WOIdeal.nD Cert.WOIdeal.τ Cert.WOIdeal.sig) → Buf (Elt Ideal) ℓ) (g : Dev Cert.WOIdeal.nD → PrngReg)
    (m' : (ℓ : Loc Cert.WORefIdeal.nD Cert.WORefIdeal.τ Cert.WORefIdeal.sig) → Buf (Elt Ideal) ℓ) (g' : Dev Cert.WORefIdeal.nD → PrngReg), Pre_WOIdeal m →
    (∀ c : Dev Cert.WOIdeal.nD,
      m' ((c.tc : Thread Cert.WORefIdeal.nD Cert.WORefIdeal.τ).loc Cert.WORefIdeal.main_arg0) = m ((c.tc : Thread Cert.WOIdeal.nD Cert.WOIdeal.τ).loc Cert.WOIdeal.main_arg0)
      ∧ m' ((c.tc : Thread Cert.WORefIdeal.nD Cert.WORefIdeal.τ).loc Cert.WORefIdeal.main_arg1) = m ((c.tc : Thread Cert.WOIdeal.nD Cert.WOIdeal.τ).loc Cert.WOIdeal.main_arg1)) →
    ∃ (v0 : (c : Dev Cert.WOIdeal.nD) → Buf (Elt Ideal) ((c.tc : Thread Cert.WOIdeal.nD Cert.WOIdeal.τ).loc Cert.WOIdeal.main_v0)),
      θ_run (Cert.WOIdeal.defs (F := Ideal)) (onTc (τ := Cert.WOIdeal.τ) (Cert.WOIdeal.main (F := Ideal))) ⟨m, fun _ => 0, g⟩ (fun r => ∀ c : Dev Cert.WOIdeal.nD,
          r.2.mem ((c.tc : Thread Cert.WOIdeal.nD Cert.WOIdeal.τ).loc Cert.WOIdeal.main_v0) = v0 c
          ∧ r.2.mem ((c.tc : Thread Cert.WOIdeal.nD Cert.WOIdeal.τ).loc Cert.WOIdeal.main_arg0) = m ((c.tc : Thread Cert.WOIdeal.nD Cert.WOIdeal.τ).loc Cert.WOIdeal.main_arg0)
          ∧ r.2.mem ((c.tc : Thread Cert.WOIdeal.nD Cert.WOIdeal.τ).loc Cert.WOIdeal.main_arg1) = m ((c.tc : Thread Cert.WOIdeal.nD Cert.WOIdeal.τ).loc Cert.WOIdeal.main_arg1))
      ∧ θ_run (Cert.WORefIdeal.defs (F := Ideal)) (onTc (τ := Cert.WORefIdeal.τ) (Cert.WORefIdeal.main (F := Ideal))) ⟨m', fun _ => 0, g'⟩ (fun r => ∀ c : Dev Cert.WORefIdeal.nD,
          r.2.mem ((c.tc : Thread Cert.WORefIdeal.nD Cert.WORefIdeal.τ).loc Cert.WORefIdeal.main_v6) = v0 c
          ∧ r.2.mem ((c.tc : Thread Cert.WORefIdeal.nD Cert.WORefIdeal.τ).loc Cert.WORefIdeal.main_arg0) = m' ((c.tc : Thread Cert.WORefIdeal.nD Cert.WORefIdeal.τ).loc Cert.WORefIdeal.main_arg0)
          ∧ r.2.mem ((c.tc : Thread Cert.WORefIdeal.nD Cert.WORefIdeal.τ).loc Cert.WORefIdeal.main_arg1) = m' ((c.tc : Thread Cert.WORefIdeal.nD Cert.WORefIdeal.τ).loc Cert.WORefIdeal.main_arg1))

def preserves_WPoolOut_WPoolOutIdeal : Prop :=
  True

def algebraic_WPoolOutIdeal_WPoolOutRefIdeal [hWPoolOutIdeal : Cert.WPoolOutIdeal.Facts] [hWPoolOutRefIdeal : Cert.WPoolOutRefIdeal.Facts] : Prop :=
  ∀ (m : (ℓ : Loc Cert.WPoolOutIdeal.nD Cert.WPoolOutIdeal.τ Cert.WPoolOutIdeal.sig) → Buf (Elt Ideal) ℓ) (g : Dev Cert.WPoolOutIdeal.nD → PrngReg)
    (m' : (ℓ : Loc Cert.WPoolOutRefIdeal.nD Cert.WPoolOutRefIdeal.τ Cert.WPoolOutRefIdeal.sig) → Buf (Elt Ideal) ℓ) (g' : Dev Cert.WPoolOutRefIdeal.nD → PrngReg), Pre_WPoolOutIdeal m →
    (∀ c : Dev Cert.WPoolOutIdeal.nD,
      m' ((c.tc : Thread Cert.WPoolOutRefIdeal.nD Cert.WPoolOutRefIdeal.τ).loc Cert.WPoolOutRefIdeal.main_arg0) = m ((c.tc : Thread Cert.WPoolOutIdeal.nD Cert.WPoolOutIdeal.τ).loc Cert.WPoolOutIdeal.main_arg0)
      ∧ m' ((c.tc : Thread Cert.WPoolOutRefIdeal.nD Cert.WPoolOutRefIdeal.τ).loc Cert.WPoolOutRefIdeal.main_arg1) = m ((c.tc : Thread Cert.WPoolOutIdeal.nD Cert.WPoolOutIdeal.τ).loc Cert.WPoolOutIdeal.main_arg1)) →
    ∃ (v0 : (c : Dev Cert.WPoolOutIdeal.nD) → Buf (Elt Ideal) ((c.tc : Thread Cert.WPoolOutIdeal.nD Cert.WPoolOutIdeal.τ).loc Cert.WPoolOutIdeal.main_v0)),
      θ_run (Cert.WPoolOutIdeal.defs (F := Ideal)) (onTc (τ := Cert.WPoolOutIdeal.τ) (Cert.WPoolOutIdeal.main (F := Ideal))) ⟨m, fun _ => 0, g⟩ (fun r => ∀ c : Dev Cert.WPoolOutIdeal.nD,
          r.2.mem ((c.tc : Thread Cert.WPoolOutIdeal.nD Cert.WPoolOutIdeal.τ).loc Cert.WPoolOutIdeal.main_v0) = v0 c
          ∧ r.2.mem ((c.tc : Thread Cert.WPoolOutIdeal.nD Cert.WPoolOutIdeal.τ).loc Cert.WPoolOutIdeal.main_arg0) = m ((c.tc : Thread Cert.WPoolOutIdeal.nD Cert.WPoolOutIdeal.τ).loc Cert.WPoolOutIdeal.main_arg0)
          ∧ r.2.mem ((c.tc : Thread Cert.WPoolOutIdeal.nD Cert.WPoolOutIdeal.τ).loc Cert.WPoolOutIdeal.main_arg1) = m ((c.tc : Thread Cert.WPoolOutIdeal.nD Cert.WPoolOutIdeal.τ).loc Cert.WPoolOutIdeal.main_arg1))
      ∧ θ_run (Cert.WPoolOutRefIdeal.defs (F := Ideal)) (onTc (τ := Cert.WPoolOutRefIdeal.τ) (Cert.WPoolOutRefIdeal.main (F := Ideal))) ⟨m', fun _ => 0, g'⟩ (fun r => ∀ c : Dev Cert.WPoolOutRefIdeal.nD,
          r.2.mem ((c.tc : Thread Cert.WPoolOutRefIdeal.nD Cert.WPoolOutRefIdeal.τ).loc Cert.WPoolOutRefIdeal.main_v6) = v0 c
          ∧ r.2.mem ((c.tc : Thread Cert.WPoolOutRefIdeal.nD Cert.WPoolOutRefIdeal.τ).loc Cert.WPoolOutRefIdeal.main_arg0) = m' ((c.tc : Thread Cert.WPoolOutRefIdeal.nD Cert.WPoolOutRefIdeal.τ).loc Cert.WPoolOutRefIdeal.main_arg0)
          ∧ r.2.mem ((c.tc : Thread Cert.WPoolOutRefIdeal.nD Cert.WPoolOutRefIdeal.τ).loc Cert.WPoolOutRefIdeal.main_arg1) = m' ((c.tc : Thread Cert.WPoolOutRefIdeal.nD Cert.WPoolOutRefIdeal.τ).loc Cert.WPoolOutRefIdeal.main_arg1))

def preserves_WRnnOut_WRnnOutIdeal : Prop :=
  True

def algebraic_WRnnOutIdeal_WRnnOutRefIdeal [hWRnnOutIdeal : Cert.WRnnOutIdeal.Facts] [hWRnnOutRefIdeal : Cert.WRnnOutRefIdeal.Facts] : Prop :=
  ∀ (m : (ℓ : Loc Cert.WRnnOutIdeal.nD Cert.WRnnOutIdeal.τ Cert.WRnnOutIdeal.sig) → Buf (Elt Ideal) ℓ) (g : Dev Cert.WRnnOutIdeal.nD → PrngReg)
    (m' : (ℓ : Loc Cert.WRnnOutRefIdeal.nD Cert.WRnnOutRefIdeal.τ Cert.WRnnOutRefIdeal.sig) → Buf (Elt Ideal) ℓ) (g' : Dev Cert.WRnnOutRefIdeal.nD → PrngReg), Pre_WRnnOutIdeal m →
    (∀ c : Dev Cert.WRnnOutIdeal.nD,
      m' ((c.tc : Thread Cert.WRnnOutRefIdeal.nD Cert.WRnnOutRefIdeal.τ).loc Cert.WRnnOutRefIdeal.main_arg0) = m ((c.tc : Thread Cert.WRnnOutIdeal.nD Cert.WRnnOutIdeal.τ).loc Cert.WRnnOutIdeal.main_arg0)
      ∧ m' ((c.tc : Thread Cert.WRnnOutRefIdeal.nD Cert.WRnnOutRefIdeal.τ).loc Cert.WRnnOutRefIdeal.main_arg1) = m ((c.tc : Thread Cert.WRnnOutIdeal.nD Cert.WRnnOutIdeal.τ).loc Cert.WRnnOutIdeal.main_arg1)) →
    ∃ (v0 : (c : Dev Cert.WRnnOutIdeal.nD) → Buf (Elt Ideal) ((c.tc : Thread Cert.WRnnOutIdeal.nD Cert.WRnnOutIdeal.τ).loc Cert.WRnnOutIdeal.main_v0)),
      θ_run (Cert.WRnnOutIdeal.defs (F := Ideal)) (onTc (τ := Cert.WRnnOutIdeal.τ) (Cert.WRnnOutIdeal.main (F := Ideal))) ⟨m, fun _ => 0, g⟩ (fun r => ∀ c : Dev Cert.WRnnOutIdeal.nD,
          r.2.mem ((c.tc : Thread Cert.WRnnOutIdeal.nD Cert.WRnnOutIdeal.τ).loc Cert.WRnnOutIdeal.main_v0) = v0 c
          ∧ r.2.mem ((c.tc : Thread Cert.WRnnOutIdeal.nD Cert.WRnnOutIdeal.τ).loc Cert.WRnnOutIdeal.main_arg0) = m ((c.tc : Thread Cert.WRnnOutIdeal.nD Cert.WRnnOutIdeal.τ).loc Cert.WRnnOutIdeal.main_arg0)
          ∧ r.2.mem ((c.tc : Thread Cert.WRnnOutIdeal.nD Cert.WRnnOutIdeal.τ).loc Cert.WRnnOutIdeal.main_arg1) = m ((c.tc : Thread Cert.WRnnOutIdeal.nD Cert.WRnnOutIdeal.τ).loc Cert.WRnnOutIdeal.main_arg1))
      ∧ θ_run (Cert.WRnnOutRefIdeal.defs (F := Ideal)) (onTc (τ := Cert.WRnnOutRefIdeal.τ) (Cert.WRnnOutRefIdeal.main (F := Ideal))) ⟨m', fun _ => 0, g'⟩ (fun r => ∀ c : Dev Cert.WRnnOutRefIdeal.nD,
          r.2.mem ((c.tc : Thread Cert.WRnnOutRefIdeal.nD Cert.WRnnOutRefIdeal.τ).loc Cert.WRnnOutRefIdeal.main_v6) = v0 c
          ∧ r.2.mem ((c.tc : Thread Cert.WRnnOutRefIdeal.nD Cert.WRnnOutRefIdeal.τ).loc Cert.WRnnOutRefIdeal.main_arg0) = m' ((c.tc : Thread Cert.WRnnOutRefIdeal.nD Cert.WRnnOutRefIdeal.τ).loc Cert.WRnnOutRefIdeal.main_arg0)
          ∧ r.2.mem ((c.tc : Thread Cert.WRnnOutRefIdeal.nD Cert.WRnnOutRefIdeal.τ).loc Cert.WRnnOutRefIdeal.main_arg1) = m' ((c.tc : Thread Cert.WRnnOutRefIdeal.nD Cert.WRnnOutRefIdeal.τ).loc Cert.WRnnOutRefIdeal.main_arg1))

def preserves_WIn_WInIdeal : Prop :=
  True

def algebraic_WInIdeal_WInRefIdeal [hWInIdeal : Cert.WInIdeal.Facts] [hWInRefIdeal : Cert.WInRefIdeal.Facts] : Prop :=
  ∀ (m : (ℓ : Loc Cert.WInIdeal.nD Cert.WInIdeal.τ Cert.WInIdeal.sig) → Buf (Elt Ideal) ℓ) (g : Dev Cert.WInIdeal.nD → PrngReg)
    (m' : (ℓ : Loc Cert.WInRefIdeal.nD Cert.WInRefIdeal.τ Cert.WInRefIdeal.sig) → Buf (Elt Ideal) ℓ) (g' : Dev Cert.WInRefIdeal.nD → PrngReg), Pre_WInIdeal m →
    (∀ c : Dev Cert.WInIdeal.nD,
      m' ((c.tc : Thread Cert.WInRefIdeal.nD Cert.WInRefIdeal.τ).loc Cert.WInRefIdeal.main_arg0) = m ((c.tc : Thread Cert.WInIdeal.nD Cert.WInIdeal.τ).loc Cert.WInIdeal.main_arg0)
      ∧ m' ((c.tc : Thread Cert.WInRefIdeal.nD Cert.WInRefIdeal.τ).loc Cert.WInRefIdeal.main_arg1) = m ((c.tc : Thread Cert.WInIdeal.nD Cert.WInIdeal.τ).loc Cert.WInIdeal.main_arg1)) →
    ∃ (v0 : (c : Dev Cert.WInIdeal.nD) → Buf (Elt Ideal) ((c.tc : Thread Cert.WInIdeal.nD Cert.WInIdeal.τ).loc Cert.WInIdeal.main_v0)),
      θ_run (Cert.WInIdeal.defs (F := Ideal)) (onTc (τ := Cert.WInIdeal.τ) (Cert.WInIdeal.main (F := Ideal))) ⟨m, fun _ => 0, g⟩ (fun r => ∀ c : Dev Cert.WInIdeal.nD,
          r.2.mem ((c.tc : Thread Cert.WInIdeal.nD Cert.WInIdeal.τ).loc Cert.WInIdeal.main_v0) = v0 c
          ∧ r.2.mem ((c.tc : Thread Cert.WInIdeal.nD Cert.WInIdeal.τ).loc Cert.WInIdeal.main_arg0) = m ((c.tc : Thread Cert.WInIdeal.nD Cert.WInIdeal.τ).loc Cert.WInIdeal.main_arg0)
          ∧ r.2.mem ((c.tc : Thread Cert.WInIdeal.nD Cert.WInIdeal.τ).loc Cert.WInIdeal.main_arg1) = m ((c.tc : Thread Cert.WInIdeal.nD Cert.WInIdeal.τ).loc Cert.WInIdeal.main_arg1))
      ∧ θ_run (Cert.WInRefIdeal.defs (F := Ideal)) (onTc (τ := Cert.WInRefIdeal.τ) (Cert.WInRefIdeal.main (F := Ideal))) ⟨m', fun _ => 0, g'⟩ (fun r => ∀ c : Dev Cert.WInRefIdeal.nD,
          r.2.mem ((c.tc : Thread Cert.WInRefIdeal.nD Cert.WInRefIdeal.τ).loc Cert.WInRefIdeal.main_v7) = v0 c
          ∧ r.2.mem ((c.tc : Thread Cert.WInRefIdeal.nD Cert.WInRefIdeal.τ).loc Cert.WInRefIdeal.main_arg0) = m' ((c.tc : Thread Cert.WInRefIdeal.nD Cert.WInRefIdeal.τ).loc Cert.WInRefIdeal.main_arg0)
          ∧ r.2.mem ((c.tc : Thread Cert.WInRefIdeal.nD Cert.WInRefIdeal.τ).loc Cert.WInRefIdeal.main_arg1) = m' ((c.tc : Thread Cert.WInRefIdeal.nD Cert.WInRefIdeal.τ).loc Cert.WInRefIdeal.main_arg1))

def preserves_FIn_FInIdeal : Prop :=
  True

def algebraic_FInIdeal_FInRefIdeal [hFInIdeal : Cert.FInIdeal.Facts] [hFInRefIdeal : Cert.FInRefIdeal.Facts] [hPre_place_w_in : Cert.Pre_place_w_in.Facts] : Prop :=
  ∀ (m : (ℓ : Loc Cert.FInIdeal.nD Cert.FInIdeal.τ Cert.FInIdeal.sig) → Buf (Elt Ideal) ℓ) (g : Dev Cert.FInIdeal.nD → PrngReg)
    (m' : (ℓ : Loc Cert.FInRefIdeal.nD Cert.FInRefIdeal.τ Cert.FInRefIdeal.sig) → Buf (Elt Ideal) ℓ) (g' : Dev Cert.FInRefIdeal.nD → PrngReg), Pre_FInIdeal m →
    (∀ c : Dev Cert.FInIdeal.nD,
      m' ((c.tc : Thread Cert.FInRefIdeal.nD Cert.FInRefIdeal.τ).loc Cert.FInRefIdeal.main_arg0) = m ((c.tc : Thread Cert.FInIdeal.nD Cert.FInIdeal.τ).loc Cert.FInIdeal.main_arg0)
      ∧ m' ((c.tc : Thread Cert.FInRefIdeal.nD Cert.FInRefIdeal.τ).loc Cert.FInRefIdeal.main_arg1) = m ((c.tc : Thread Cert.FInIdeal.nD Cert.FInIdeal.τ).loc Cert.FInIdeal.main_arg1)
      ∧ m' ((c.tc : Thread Cert.FInRefIdeal.nD Cert.FInRefIdeal.τ).loc Cert.FInRefIdeal.main_arg2) = m ((c.tc : Thread Cert.FInIdeal.nD Cert.FInIdeal.τ).loc Cert.FInIdeal.main_arg2)
      ∧ m' ((c.tc : Thread Cert.FInRefIdeal.nD Cert.FInRefIdeal.τ).loc Cert.FInRefIdeal.main_arg3) = m ((c.tc : Thread Cert.FInIdeal.nD Cert.FInIdeal.τ).loc Cert.FInIdeal.main_arg3)
      ∧ m' ((c.tc : Thread Cert.FInRefIdeal.nD Cert.FInRefIdeal.τ).loc Cert.FInRefIdeal.main_arg4) = m ((c.tc : Thread Cert.FInIdeal.nD Cert.FInIdeal.τ).loc Cert.FInIdeal.main_arg4)
      ∧ m' ((c.tc : Thread Cert.FInRefIdeal.nD Cert.FInRefIdeal.τ).loc Cert.FInRefIdeal.main_arg5) = m ((c.tc : Thread Cert.FInIdeal.nD Cert.FInIdeal.τ).loc Cert.FInIdeal.main_arg5)
      ∧ m' ((c.tc : Thread Cert.FInRefIdeal.nD Cert.FInRefIdeal.τ).loc Cert.FInRefIdeal.main_arg6) = m ((c.tc : Thread Cert.FInIdeal.nD Cert.FInIdeal.τ).loc Cert.FInIdeal.main_arg6)) →
    ∃ (v0 : (c : Dev Cert.FInIdeal.nD) → Buf (Elt Ideal) ((c.tc : Thread Cert.FInIdeal.nD Cert.FInIdeal.τ).loc Cert.FInIdeal.main_v3_0)) (v1 : (c : Dev Cert.FInIdeal.nD) → Buf (Elt Ideal) ((c.tc : Thread Cert.FInIdeal.nD Cert.FInIdeal.τ).loc Cert.FInIdeal.main_v3_1)) (v2 : (c : Dev Cert.FInIdeal.nD) → Buf (Elt Ideal) ((c.tc : Thread Cert.FInIdeal.nD Cert.FInIdeal.τ).loc Cert.FInIdeal.main_v3_2)) (v3 : (c : Dev Cert.FInIdeal.nD) → Buf (Elt Ideal) ((c.tc : Thread Cert.FInIdeal.nD Cert.FInIdeal.τ).loc Cert.FInIdeal.main_v3_3)),
      θ_run (Cert.FInIdeal.defs (F := Ideal)) (onTc (τ := Cert.FInIdeal.τ) (Cert.FInIdeal.main (F := Ideal))) ⟨m, fun _ => 0, g⟩ (fun r => ∀ c : Dev Cert.FInIdeal.nD,
          r.2.mem ((c.tc : Thread Cert.FInIdeal.nD Cert.FInIdeal.τ).loc Cert.FInIdeal.main_v3_0) = v0 c
          ∧ r.2.mem ((c.tc : Thread Cert.FInIdeal.nD Cert.FInIdeal.τ).loc Cert.FInIdeal.main_v3_1) = v1 c
          ∧ r.2.mem ((c.tc : Thread Cert.FInIdeal.nD Cert.FInIdeal.τ).loc Cert.FInIdeal.main_v3_2) = v2 c
          ∧ r.2.mem ((c.tc : Thread Cert.FInIdeal.nD Cert.FInIdeal.τ).loc Cert.FInIdeal.main_v3_3) = v3 c
          ∧ r.2.mem ((c.tc : Thread Cert.FInIdeal.nD Cert.FInIdeal.τ).loc Cert.FInIdeal.main_arg0) = m ((c.tc : Thread Cert.FInIdeal.nD Cert.FInIdeal.τ).loc Cert.FInIdeal.main_arg0)
          ∧ r.2.mem ((c.tc : Thread Cert.FInIdeal.nD Cert.FInIdeal.τ).loc Cert.FInIdeal.main_arg1) = m ((c.tc : Thread Cert.FInIdeal.nD Cert.FInIdeal.τ).loc Cert.FInIdeal.main_arg1)
          ∧ r.2.mem ((c.tc : Thread Cert.FInIdeal.nD Cert.FInIdeal.τ).loc Cert.FInIdeal.main_arg2) = m ((c.tc : Thread Cert.FInIdeal.nD Cert.FInIdeal.τ).loc Cert.FInIdeal.main_arg2)
          ∧ r.2.mem ((c.tc : Thread Cert.FInIdeal.nD Cert.FInIdeal.τ).loc Cert.FInIdeal.main_arg3) = m ((c.tc : Thread Cert.FInIdeal.nD Cert.FInIdeal.τ).loc Cert.FInIdeal.main_arg3)
          ∧ r.2.mem ((c.tc : Thread Cert.FInIdeal.nD Cert.FInIdeal.τ).loc Cert.FInIdeal.main_arg4) = m ((c.tc : Thread Cert.FInIdeal.nD Cert.FInIdeal.τ).loc Cert.FInIdeal.main_arg4)
          ∧ r.2.mem ((c.tc : Thread Cert.FInIdeal.nD Cert.FInIdeal.τ).loc Cert.FInIdeal.main_arg5) = m ((c.tc : Thread Cert.FInIdeal.nD Cert.FInIdeal.τ).loc Cert.FInIdeal.main_arg5)
          ∧ r.2.mem ((c.tc : Thread Cert.FInIdeal.nD Cert.FInIdeal.τ).loc Cert.FInIdeal.main_arg6) = m ((c.tc : Thread Cert.FInIdeal.nD Cert.FInIdeal.τ).loc Cert.FInIdeal.main_arg6))
      ∧ θ_run (Cert.FInRefIdeal.defs (F := Ideal)) (onTc (τ := Cert.FInRefIdeal.τ) (Cert.FInRefIdeal.main (F := Ideal))) ⟨m', fun _ => 0, g'⟩ (fun r => ∀ c : Dev Cert.FInRefIdeal.nD,
          r.2.mem ((c.tc : Thread Cert.FInRefIdeal.nD Cert.FInRefIdeal.τ).loc Cert.FInRefIdeal.main_v13) = v0 c
          ∧ r.2.mem ((c.tc : Thread Cert.FInRefIdeal.nD Cert.FInRefIdeal.τ).loc Cert.FInRefIdeal.main_v39) = v1 c
          ∧ r.2.mem ((c.tc : Thread Cert.FInRefIdeal.nD Cert.FInRefIdeal.τ).loc Cert.FInRefIdeal.main_v40) = v2 c
          ∧ r.2.mem ((c.tc : Thread Cert.FInRefIdeal.nD Cert.FInRefIdeal.τ).loc Cert.FInRefIdeal.main_v41) = v3 c
          ∧ r.2.mem ((c.tc : Thread Cert.FInRefIdeal.nD Cert.FInRefIdeal.τ).loc Cert.FInRefIdeal.main_arg0) = m' ((c.tc : Thread Cert.FInRefIdeal.nD Cert.FInRefIdeal.τ).loc Cert.FInRefIdeal.main_arg0)
          ∧ r.2.mem ((c.tc : Thread Cert.FInRefIdeal.nD Cert.FInRefIdeal.τ).loc Cert.FInRefIdeal.main_arg1) = m' ((c.tc : Thread Cert.FInRefIdeal.nD Cert.FInRefIdeal.τ).loc Cert.FInRefIdeal.main_arg1)
          ∧ r.2.mem ((c.tc : Thread Cert.FInRefIdeal.nD Cert.FInRefIdeal.τ).loc Cert.FInRefIdeal.main_arg2) = m' ((c.tc : Thread Cert.FInRefIdeal.nD Cert.FInRefIdeal.τ).loc Cert.FInRefIdeal.main_arg2)
          ∧ r.2.mem ((c.tc : Thread Cert.FInRefIdeal.nD Cert.FInRefIdeal.τ).loc Cert.FInRefIdeal.main_arg3) = m' ((c.tc : Thread Cert.FInRefIdeal.nD Cert.FInRefIdeal.τ).loc Cert.FInRefIdeal.main_arg3)
          ∧ r.2.mem ((c.tc : Thread Cert.FInRefIdeal.nD Cert.FInRefIdeal.τ).loc Cert.FInRefIdeal.main_arg4) = m' ((c.tc : Thread Cert.FInRefIdeal.nD Cert.FInRefIdeal.τ).loc Cert.FInRefIdeal.main_arg4)
          ∧ r.2.mem ((c.tc : Thread Cert.FInRefIdeal.nD Cert.FInRefIdeal.τ).loc Cert.FInRefIdeal.main_arg5) = m' ((c.tc : Thread Cert.FInRefIdeal.nD Cert.FInRefIdeal.τ).loc Cert.FInRefIdeal.main_arg5)
          ∧ r.2.mem ((c.tc : Thread Cert.FInRefIdeal.nD Cert.FInRefIdeal.τ).loc Cert.FInRefIdeal.main_arg6) = m' ((c.tc : Thread Cert.FInRefIdeal.nD Cert.FInRefIdeal.τ).loc Cert.FInRefIdeal.main_arg6))

def preserves_FPoolOut_FPoolOutIdeal : Prop :=
  True

def algebraic_FPoolOutIdeal_FPoolOutRefIdeal [hFPoolOutIdeal : Cert.FPoolOutIdeal.Facts] [hFPoolOutRefIdeal : Cert.FPoolOutRefIdeal.Facts] [hPre_place_w_pool_out : Cert.Pre_place_w_pool_out.Facts] : Prop :=
  ∀ (m : (ℓ : Loc Cert.FPoolOutIdeal.nD Cert.FPoolOutIdeal.τ Cert.FPoolOutIdeal.sig) → Buf (Elt Ideal) ℓ) (g : Dev Cert.FPoolOutIdeal.nD → PrngReg)
    (m' : (ℓ : Loc Cert.FPoolOutRefIdeal.nD Cert.FPoolOutRefIdeal.τ Cert.FPoolOutRefIdeal.sig) → Buf (Elt Ideal) ℓ) (g' : Dev Cert.FPoolOutRefIdeal.nD → PrngReg), Pre_FPoolOutIdeal m →
    (∀ c : Dev Cert.FPoolOutIdeal.nD,
      m' ((c.tc : Thread Cert.FPoolOutRefIdeal.nD Cert.FPoolOutRefIdeal.τ).loc Cert.FPoolOutRefIdeal.main_arg0) = m ((c.tc : Thread Cert.FPoolOutIdeal.nD Cert.FPoolOutIdeal.τ).loc Cert.FPoolOutIdeal.main_arg0)
      ∧ m' ((c.tc : Thread Cert.FPoolOutRefIdeal.nD Cert.FPoolOutRefIdeal.τ).loc Cert.FPoolOutRefIdeal.main_arg1) = m ((c.tc : Thread Cert.FPoolOutIdeal.nD Cert.FPoolOutIdeal.τ).loc Cert.FPoolOutIdeal.main_arg1)
      ∧ m' ((c.tc : Thread Cert.FPoolOutRefIdeal.nD Cert.FPoolOutRefIdeal.τ).loc Cert.FPoolOutRefIdeal.main_arg2) = m ((c.tc : Thread Cert.FPoolOutIdeal.nD Cert.FPoolOutIdeal.τ).loc Cert.FPoolOutIdeal.main_arg2)
      ∧ m' ((c.tc : Thread Cert.FPoolOutRefIdeal.nD Cert.FPoolOutRefIdeal.τ).loc Cert.FPoolOutRefIdeal.main_arg3) = m ((c.tc : Thread Cert.FPoolOutIdeal.nD Cert.FPoolOutIdeal.τ).loc Cert.FPoolOutIdeal.main_arg3)
      ∧ m' ((c.tc : Thread Cert.FPoolOutRefIdeal.nD Cert.FPoolOutRefIdeal.τ).loc Cert.FPoolOutRefIdeal.main_arg4) = m ((c.tc : Thread Cert.FPoolOutIdeal.nD Cert.FPoolOutIdeal.τ).loc Cert.FPoolOutIdeal.main_arg4)
      ∧ m' ((c.tc : Thread Cert.FPoolOutRefIdeal.nD Cert.FPoolOutRefIdeal.τ).loc Cert.FPoolOutRefIdeal.main_arg5) = m ((c.tc : Thread Cert.FPoolOutIdeal.nD Cert.FPoolOutIdeal.τ).loc Cert.FPoolOutIdeal.main_arg5)
      ∧ m' ((c.tc : Thread Cert.FPoolOutRefIdeal.nD Cert.FPoolOutRefIdeal.τ).loc Cert.FPoolOutRefIdeal.main_arg6) = m ((c.tc : Thread Cert.FPoolOutIdeal.nD Cert.FPoolOutIdeal.τ).loc Cert.FPoolOutIdeal.main_arg6)) →
    ∃ (v0 : (c : Dev Cert.FPoolOutIdeal.nD) → Buf (Elt Ideal) ((c.tc : Thread Cert.FPoolOutIdeal.nD Cert.FPoolOutIdeal.τ).loc Cert.FPoolOutIdeal.main_v0_0)) (v1 : (c : Dev Cert.FPoolOutIdeal.nD) → Buf (Elt Ideal) ((c.tc : Thread Cert.FPoolOutIdeal.nD Cert.FPoolOutIdeal.τ).loc Cert.FPoolOutIdeal.main_v0_1)) (v2 : (c : Dev Cert.FPoolOutIdeal.nD) → Buf (Elt Ideal) ((c.tc : Thread Cert.FPoolOutIdeal.nD Cert.FPoolOutIdeal.τ).loc Cert.FPoolOutIdeal.main_v0_2)) (v3 : (c : Dev Cert.FPoolOutIdeal.nD) → Buf (Elt Ideal) ((c.tc : Thread Cert.FPoolOutIdeal.nD Cert.FPoolOutIdeal.τ).loc Cert.FPoolOutIdeal.main_v0_3)),
      θ_run (Cert.FPoolOutIdeal.defs (F := Ideal)) (onTc (τ := Cert.FPoolOutIdeal.τ) (Cert.FPoolOutIdeal.main (F := Ideal))) ⟨m, fun _ => 0, g⟩ (fun r => ∀ c : Dev Cert.FPoolOutIdeal.nD,
          r.2.mem ((c.tc : Thread Cert.FPoolOutIdeal.nD Cert.FPoolOutIdeal.τ).loc Cert.FPoolOutIdeal.main_v0_0) = v0 c
          ∧ r.2.mem ((c.tc : Thread Cert.FPoolOutIdeal.nD Cert.FPoolOutIdeal.τ).loc Cert.FPoolOutIdeal.main_v0_1) = v1 c
          ∧ r.2.mem ((c.tc : Thread Cert.FPoolOutIdeal.nD Cert.FPoolOutIdeal.τ).loc Cert.FPoolOutIdeal.main_v0_2) = v2 c
          ∧ r.2.mem ((c.tc : Thread Cert.FPoolOutIdeal.nD Cert.FPoolOutIdeal.τ).loc Cert.FPoolOutIdeal.main_v0_3) = v3 c
          ∧ r.2.mem ((c.tc : Thread Cert.FPoolOutIdeal.nD Cert.FPoolOutIdeal.τ).loc Cert.FPoolOutIdeal.main_arg0) = m ((c.tc : Thread Cert.FPoolOutIdeal.nD Cert.FPoolOutIdeal.τ).loc Cert.FPoolOutIdeal.main_arg0)
          ∧ r.2.mem ((c.tc : Thread Cert.FPoolOutIdeal.nD Cert.FPoolOutIdeal.τ).loc Cert.FPoolOutIdeal.main_arg1) = m ((c.tc : Thread Cert.FPoolOutIdeal.nD Cert.FPoolOutIdeal.τ).loc Cert.FPoolOutIdeal.main_arg1)
          ∧ r.2.mem ((c.tc : Thread Cert.FPoolOutIdeal.nD Cert.FPoolOutIdeal.τ).loc Cert.FPoolOutIdeal.main_arg2) = m ((c.tc : Thread Cert.FPoolOutIdeal.nD Cert.FPoolOutIdeal.τ).loc Cert.FPoolOutIdeal.main_arg2)
          ∧ r.2.mem ((c.tc : Thread Cert.FPoolOutIdeal.nD Cert.FPoolOutIdeal.τ).loc Cert.FPoolOutIdeal.main_arg3) = m ((c.tc : Thread Cert.FPoolOutIdeal.nD Cert.FPoolOutIdeal.τ).loc Cert.FPoolOutIdeal.main_arg3)
          ∧ r.2.mem ((c.tc : Thread Cert.FPoolOutIdeal.nD Cert.FPoolOutIdeal.τ).loc Cert.FPoolOutIdeal.main_arg4) = m ((c.tc : Thread Cert.FPoolOutIdeal.nD Cert.FPoolOutIdeal.τ).loc Cert.FPoolOutIdeal.main_arg4)
          ∧ r.2.mem ((c.tc : Thread Cert.FPoolOutIdeal.nD Cert.FPoolOutIdeal.τ).loc Cert.FPoolOutIdeal.main_arg5) = m ((c.tc : Thread Cert.FPoolOutIdeal.nD Cert.FPoolOutIdeal.τ).loc Cert.FPoolOutIdeal.main_arg5)
          ∧ r.2.mem ((c.tc : Thread Cert.FPoolOutIdeal.nD Cert.FPoolOutIdeal.τ).loc Cert.FPoolOutIdeal.main_arg6) = m ((c.tc : Thread Cert.FPoolOutIdeal.nD Cert.FPoolOutIdeal.τ).loc Cert.FPoolOutIdeal.main_arg6))
      ∧ θ_run (Cert.FPoolOutRefIdeal.defs (F := Ideal)) (onTc (τ := Cert.FPoolOutRefIdeal.τ) (Cert.FPoolOutRefIdeal.main (F := Ideal))) ⟨m', fun _ => 0, g'⟩ (fun r => ∀ c : Dev Cert.FPoolOutRefIdeal.nD,
          r.2.mem ((c.tc : Thread Cert.FPoolOutRefIdeal.nD Cert.FPoolOutRefIdeal.τ).loc Cert.FPoolOutRefIdeal.main_v13) = v0 c
          ∧ r.2.mem ((c.tc : Thread Cert.FPoolOutRefIdeal.nD Cert.FPoolOutRefIdeal.τ).loc Cert.FPoolOutRefIdeal.main_v37) = v1 c
          ∧ r.2.mem ((c.tc : Thread Cert.FPoolOutRefIdeal.nD Cert.FPoolOutRefIdeal.τ).loc Cert.FPoolOutRefIdeal.main_v18) = v2 c
          ∧ r.2.mem ((c.tc : Thread Cert.FPoolOutRefIdeal.nD Cert.FPoolOutRefIdeal.τ).loc Cert.FPoolOutRefIdeal.main_v24) = v3 c
          ∧ r.2.mem ((c.tc : Thread Cert.FPoolOutRefIdeal.nD Cert.FPoolOutRefIdeal.τ).loc Cert.FPoolOutRefIdeal.main_arg0) = m' ((c.tc : Thread Cert.FPoolOutRefIdeal.nD Cert.FPoolOutRefIdeal.τ).loc Cert.FPoolOutRefIdeal.main_arg0)
          ∧ r.2.mem ((c.tc : Thread Cert.FPoolOutRefIdeal.nD Cert.FPoolOutRefIdeal.τ).loc Cert.FPoolOutRefIdeal.main_arg1) = m' ((c.tc : Thread Cert.FPoolOutRefIdeal.nD Cert.FPoolOutRefIdeal.τ).loc Cert.FPoolOutRefIdeal.main_arg1)
          ∧ r.2.mem ((c.tc : Thread Cert.FPoolOutRefIdeal.nD Cert.FPoolOutRefIdeal.τ).loc Cert.FPoolOutRefIdeal.main_arg2) = m' ((c.tc : Thread Cert.FPoolOutRefIdeal.nD Cert.FPoolOutRefIdeal.τ).loc Cert.FPoolOutRefIdeal.main_arg2)
          ∧ r.2.mem ((c.tc : Thread Cert.FPoolOutRefIdeal.nD Cert.FPoolOutRefIdeal.τ).loc Cert.FPoolOutRefIdeal.main_arg3) = m' ((c.tc : Thread Cert.FPoolOutRefIdeal.nD Cert.FPoolOutRefIdeal.τ).loc Cert.FPoolOutRefIdeal.main_arg3)
          ∧ r.2.mem ((c.tc : Thread Cert.FPoolOutRefIdeal.nD Cert.FPoolOutRefIdeal.τ).loc Cert.FPoolOutRefIdeal.main_arg4) = m' ((c.tc : Thread Cert.FPoolOutRefIdeal.nD Cert.FPoolOutRefIdeal.τ).loc Cert.FPoolOutRefIdeal.main_arg4)
          ∧ r.2.mem ((c.tc : Thread Cert.FPoolOutRefIdeal.nD Cert.FPoolOutRefIdeal.τ).loc Cert.FPoolOutRefIdeal.main_arg5) = m' ((c.tc : Thread Cert.FPoolOutRefIdeal.nD Cert.FPoolOutRefIdeal.τ).loc Cert.FPoolOutRefIdeal.main_arg5)
          ∧ r.2.mem ((c.tc : Thread Cert.FPoolOutRefIdeal.nD Cert.FPoolOutRefIdeal.τ).loc Cert.FPoolOutRefIdeal.main_arg6) = m' ((c.tc : Thread Cert.FPoolOutRefIdeal.nD Cert.FPoolOutRefIdeal.τ).loc Cert.FPoolOutRefIdeal.main_arg6))

def preserves_FRnnOut_FRnnOutIdeal : Prop :=
  True

def algebraic_FRnnOutIdeal_FRnnOutRefIdeal [hFRnnOutIdeal : Cert.FRnnOutIdeal.Facts] [hFRnnOutRefIdeal : Cert.FRnnOutRefIdeal.Facts] [hPre_place_w_rnn_out : Cert.Pre_place_w_rnn_out.Facts] : Prop :=
  ∀ (m : (ℓ : Loc Cert.FRnnOutIdeal.nD Cert.FRnnOutIdeal.τ Cert.FRnnOutIdeal.sig) → Buf (Elt Ideal) ℓ) (g : Dev Cert.FRnnOutIdeal.nD → PrngReg)
    (m' : (ℓ : Loc Cert.FRnnOutRefIdeal.nD Cert.FRnnOutRefIdeal.τ Cert.FRnnOutRefIdeal.sig) → Buf (Elt Ideal) ℓ) (g' : Dev Cert.FRnnOutRefIdeal.nD → PrngReg), Pre_FRnnOutIdeal m →
    (∀ c : Dev Cert.FRnnOutIdeal.nD,
      m' ((c.tc : Thread Cert.FRnnOutRefIdeal.nD Cert.FRnnOutRefIdeal.τ).loc Cert.FRnnOutRefIdeal.main_arg0) = m ((c.tc : Thread Cert.FRnnOutIdeal.nD Cert.FRnnOutIdeal.τ).loc Cert.FRnnOutIdeal.main_arg0)
      ∧ m' ((c.tc : Thread Cert.FRnnOutRefIdeal.nD Cert.FRnnOutRefIdeal.τ).loc Cert.FRnnOutRefIdeal.main_arg1) = m ((c.tc : Thread Cert.FRnnOutIdeal.nD Cert.FRnnOutIdeal.τ).loc Cert.FRnnOutIdeal.main_arg1)
      ∧ m' ((c.tc : Thread Cert.FRnnOutRefIdeal.nD Cert.FRnnOutRefIdeal.τ).loc Cert.FRnnOutRefIdeal.main_arg2) = m ((c.tc : Thread Cert.FRnnOutIdeal.nD Cert.FRnnOutIdeal.τ).loc Cert.FRnnOutIdeal.main_arg2)
      ∧ m' ((c.tc : Thread Cert.FRnnOutRefIdeal.nD Cert.FRnnOutRefIdeal.τ).loc Cert.FRnnOutRefIdeal.main_arg3) = m ((c.tc : Thread Cert.FRnnOutIdeal.nD Cert.FRnnOutIdeal.τ).loc Cert.FRnnOutIdeal.main_arg3)
      ∧ m' ((c.tc : Thread Cert.FRnnOutRefIdeal.nD Cert.FRnnOutRefIdeal.τ).loc Cert.FRnnOutRefIdeal.main_arg4) = m ((c.tc : Thread Cert.FRnnOutIdeal.nD Cert.FRnnOutIdeal.τ).loc Cert.FRnnOutIdeal.main_arg4)
      ∧ m' ((c.tc : Thread Cert.FRnnOutRefIdeal.nD Cert.FRnnOutRefIdeal.τ).loc Cert.FRnnOutRefIdeal.main_arg5) = m ((c.tc : Thread Cert.FRnnOutIdeal.nD Cert.FRnnOutIdeal.τ).loc Cert.FRnnOutIdeal.main_arg5)
      ∧ m' ((c.tc : Thread Cert.FRnnOutRefIdeal.nD Cert.FRnnOutRefIdeal.τ).loc Cert.FRnnOutRefIdeal.main_arg6) = m ((c.tc : Thread Cert.FRnnOutIdeal.nD Cert.FRnnOutIdeal.τ).loc Cert.FRnnOutIdeal.main_arg6)) →
    ∃ (v0 : (c : Dev Cert.FRnnOutIdeal.nD) → Buf (Elt Ideal) ((c.tc : Thread Cert.FRnnOutIdeal.nD Cert.FRnnOutIdeal.τ).loc Cert.FRnnOutIdeal.main_v0_0)) (v1 : (c : Dev Cert.FRnnOutIdeal.nD) → Buf (Elt Ideal) ((c.tc : Thread Cert.FRnnOutIdeal.nD Cert.FRnnOutIdeal.τ).loc Cert.FRnnOutIdeal.main_v0_1)) (v2 : (c : Dev Cert.FRnnOutIdeal.nD) → Buf (Elt Ideal) ((c.tc : Thread Cert.FRnnOutIdeal.nD Cert.FRnnOutIdeal.τ).loc Cert.FRnnOutIdeal.main_v0_2)) (v3 : (c : Dev Cert.FRnnOutIdeal.nD) → Buf (Elt Ideal) ((c.tc : Thread Cert.FRnnOutIdeal.nD Cert.FRnnOutIdeal.τ).loc Cert.FRnnOutIdeal.main_v0_3)),
      θ_run (Cert.FRnnOutIdeal.defs (F := Ideal)) (onTc (τ := Cert.FRnnOutIdeal.τ) (Cert.FRnnOutIdeal.main (F := Ideal))) ⟨m, fun _ => 0, g⟩ (fun r => ∀ c : Dev Cert.FRnnOutIdeal.nD,
          r.2.mem ((c.tc : Thread Cert.FRnnOutIdeal.nD Cert.FRnnOutIdeal.τ).loc Cert.FRnnOutIdeal.main_v0_0) = v0 c
          ∧ r.2.mem ((c.tc : Thread Cert.FRnnOutIdeal.nD Cert.FRnnOutIdeal.τ).loc Cert.FRnnOutIdeal.main_v0_1) = v1 c
          ∧ r.2.mem ((c.tc : Thread Cert.FRnnOutIdeal.nD Cert.FRnnOutIdeal.τ).loc Cert.FRnnOutIdeal.main_v0_2) = v2 c
          ∧ r.2.mem ((c.tc : Thread Cert.FRnnOutIdeal.nD Cert.FRnnOutIdeal.τ).loc Cert.FRnnOutIdeal.main_v0_3) = v3 c
          ∧ r.2.mem ((c.tc : Thread Cert.FRnnOutIdeal.nD Cert.FRnnOutIdeal.τ).loc Cert.FRnnOutIdeal.main_arg0) = m ((c.tc : Thread Cert.FRnnOutIdeal.nD Cert.FRnnOutIdeal.τ).loc Cert.FRnnOutIdeal.main_arg0)
          ∧ r.2.mem ((c.tc : Thread Cert.FRnnOutIdeal.nD Cert.FRnnOutIdeal.τ).loc Cert.FRnnOutIdeal.main_arg1) = m ((c.tc : Thread Cert.FRnnOutIdeal.nD Cert.FRnnOutIdeal.τ).loc Cert.FRnnOutIdeal.main_arg1)
          ∧ r.2.mem ((c.tc : Thread Cert.FRnnOutIdeal.nD Cert.FRnnOutIdeal.τ).loc Cert.FRnnOutIdeal.main_arg2) = m ((c.tc : Thread Cert.FRnnOutIdeal.nD Cert.FRnnOutIdeal.τ).loc Cert.FRnnOutIdeal.main_arg2)
          ∧ r.2.mem ((c.tc : Thread Cert.FRnnOutIdeal.nD Cert.FRnnOutIdeal.τ).loc Cert.FRnnOutIdeal.main_arg3) = m ((c.tc : Thread Cert.FRnnOutIdeal.nD Cert.FRnnOutIdeal.τ).loc Cert.FRnnOutIdeal.main_arg3)
          ∧ r.2.mem ((c.tc : Thread Cert.FRnnOutIdeal.nD Cert.FRnnOutIdeal.τ).loc Cert.FRnnOutIdeal.main_arg4) = m ((c.tc : Thread Cert.FRnnOutIdeal.nD Cert.FRnnOutIdeal.τ).loc Cert.FRnnOutIdeal.main_arg4)
          ∧ r.2.mem ((c.tc : Thread Cert.FRnnOutIdeal.nD Cert.FRnnOutIdeal.τ).loc Cert.FRnnOutIdeal.main_arg5) = m ((c.tc : Thread Cert.FRnnOutIdeal.nD Cert.FRnnOutIdeal.τ).loc Cert.FRnnOutIdeal.main_arg5)
          ∧ r.2.mem ((c.tc : Thread Cert.FRnnOutIdeal.nD Cert.FRnnOutIdeal.τ).loc Cert.FRnnOutIdeal.main_arg6) = m ((c.tc : Thread Cert.FRnnOutIdeal.nD Cert.FRnnOutIdeal.τ).loc Cert.FRnnOutIdeal.main_arg6))
      ∧ θ_run (Cert.FRnnOutRefIdeal.defs (F := Ideal)) (onTc (τ := Cert.FRnnOutRefIdeal.τ) (Cert.FRnnOutRefIdeal.main (F := Ideal))) ⟨m', fun _ => 0, g'⟩ (fun r => ∀ c : Dev Cert.FRnnOutRefIdeal.nD,
          r.2.mem ((c.tc : Thread Cert.FRnnOutRefIdeal.nD Cert.FRnnOutRefIdeal.τ).loc Cert.FRnnOutRefIdeal.main_v13) = v0 c
          ∧ r.2.mem ((c.tc : Thread Cert.FRnnOutRefIdeal.nD Cert.FRnnOutRefIdeal.τ).loc Cert.FRnnOutRefIdeal.main_v37) = v1 c
          ∧ r.2.mem ((c.tc : Thread Cert.FRnnOutRefIdeal.nD Cert.FRnnOutRefIdeal.τ).loc Cert.FRnnOutRefIdeal.main_v18) = v2 c
          ∧ r.2.mem ((c.tc : Thread Cert.FRnnOutRefIdeal.nD Cert.FRnnOutRefIdeal.τ).loc Cert.FRnnOutRefIdeal.main_v24) = v3 c
          ∧ r.2.mem ((c.tc : Thread Cert.FRnnOutRefIdeal.nD Cert.FRnnOutRefIdeal.τ).loc Cert.FRnnOutRefIdeal.main_arg0) = m' ((c.tc : Thread Cert.FRnnOutRefIdeal.nD Cert.FRnnOutRefIdeal.τ).loc Cert.FRnnOutRefIdeal.main_arg0)
          ∧ r.2.mem ((c.tc : Thread Cert.FRnnOutRefIdeal.nD Cert.FRnnOutRefIdeal.τ).loc Cert.FRnnOutRefIdeal.main_arg1) = m' ((c.tc : Thread Cert.FRnnOutRefIdeal.nD Cert.FRnnOutRefIdeal.τ).loc Cert.FRnnOutRefIdeal.main_arg1)
          ∧ r.2.mem ((c.tc : Thread Cert.FRnnOutRefIdeal.nD Cert.FRnnOutRefIdeal.τ).loc Cert.FRnnOutRefIdeal.main_arg2) = m' ((c.tc : Thread Cert.FRnnOutRefIdeal.nD Cert.FRnnOutRefIdeal.τ).loc Cert.FRnnOutRefIdeal.main_arg2)
          ∧ r.2.mem ((c.tc : Thread Cert.FRnnOutRefIdeal.nD Cert.FRnnOutRefIdeal.τ).loc Cert.FRnnOutRefIdeal.main_arg3) = m' ((c.tc : Thread Cert.FRnnOutRefIdeal.nD Cert.FRnnOutRefIdeal.τ).loc Cert.FRnnOutRefIdeal.main_arg3)
          ∧ r.2.mem ((c.tc : Thread Cert.FRnnOutRefIdeal.nD Cert.FRnnOutRefIdeal.τ).loc Cert.FRnnOutRefIdeal.main_arg4) = m' ((c.tc : Thread Cert.FRnnOutRefIdeal.nD Cert.FRnnOutRefIdeal.τ).loc Cert.FRnnOutRefIdeal.main_arg4)
          ∧ r.2.mem ((c.tc : Thread Cert.FRnnOutRefIdeal.nD Cert.FRnnOutRefIdeal.τ).loc Cert.FRnnOutRefIdeal.main_arg5) = m' ((c.tc : Thread Cert.FRnnOutRefIdeal.nD Cert.FRnnOutRefIdeal.τ).loc Cert.FRnnOutRefIdeal.main_arg5)
          ∧ r.2.mem ((c.tc : Thread Cert.FRnnOutRefIdeal.nD Cert.FRnnOutRefIdeal.τ).loc Cert.FRnnOutRefIdeal.main_arg6) = m' ((c.tc : Thread Cert.FRnnOutRefIdeal.nD Cert.FRnnOutRefIdeal.τ).loc Cert.FRnnOutRefIdeal.main_arg6))

def preserves_FO_FOIdeal : Prop :=
  True

def algebraic_FOIdeal_FORefIdeal [hFOIdeal : Cert.FOIdeal.Facts] [hFORefIdeal : Cert.FORefIdeal.Facts] [hPre_place_w_o : Cert.Pre_place_w_o.Facts] : Prop :=
  ∀ (m : (ℓ : Loc Cert.FOIdeal.nD Cert.FOIdeal.τ Cert.FOIdeal.sig) → Buf (Elt Ideal) ℓ) (g : Dev Cert.FOIdeal.nD → PrngReg)
    (m' : (ℓ : Loc Cert.FORefIdeal.nD Cert.FORefIdeal.τ Cert.FORefIdeal.sig) → Buf (Elt Ideal) ℓ) (g' : Dev Cert.FORefIdeal.nD → PrngReg), Pre_FOIdeal m →
    (∀ c : Dev Cert.FOIdeal.nD,
      m' ((c.tc : Thread Cert.FORefIdeal.nD Cert.FORefIdeal.τ).loc Cert.FORefIdeal.main_arg0) = m ((c.tc : Thread Cert.FOIdeal.nD Cert.FOIdeal.τ).loc Cert.FOIdeal.main_arg0)
      ∧ m' ((c.tc : Thread Cert.FORefIdeal.nD Cert.FORefIdeal.τ).loc Cert.FORefIdeal.main_arg1) = m ((c.tc : Thread Cert.FOIdeal.nD Cert.FOIdeal.τ).loc Cert.FOIdeal.main_arg1)
      ∧ m' ((c.tc : Thread Cert.FORefIdeal.nD Cert.FORefIdeal.τ).loc Cert.FORefIdeal.main_arg2) = m ((c.tc : Thread Cert.FOIdeal.nD Cert.FOIdeal.τ).loc Cert.FOIdeal.main_arg2)
      ∧ m' ((c.tc : Thread Cert.FORefIdeal.nD Cert.FORefIdeal.τ).loc Cert.FORefIdeal.main_arg3) = m ((c.tc : Thread Cert.FOIdeal.nD Cert.FOIdeal.τ).loc Cert.FOIdeal.main_arg3)
      ∧ m' ((c.tc : Thread Cert.FORefIdeal.nD Cert.FORefIdeal.τ).loc Cert.FORefIdeal.main_arg4) = m ((c.tc : Thread Cert.FOIdeal.nD Cert.FOIdeal.τ).loc Cert.FOIdeal.main_arg4)
      ∧ m' ((c.tc : Thread Cert.FORefIdeal.nD Cert.FORefIdeal.τ).loc Cert.FORefIdeal.main_arg5) = m ((c.tc : Thread Cert.FOIdeal.nD Cert.FOIdeal.τ).loc Cert.FOIdeal.main_arg5)
      ∧ m' ((c.tc : Thread Cert.FORefIdeal.nD Cert.FORefIdeal.τ).loc Cert.FORefIdeal.main_arg6) = m ((c.tc : Thread Cert.FOIdeal.nD Cert.FOIdeal.τ).loc Cert.FOIdeal.main_arg6)) →
    ∃ (v0 : (c : Dev Cert.FOIdeal.nD) → Buf (Elt Ideal) ((c.tc : Thread Cert.FOIdeal.nD Cert.FOIdeal.τ).loc Cert.FOIdeal.main_v0_0)) (v1 : (c : Dev Cert.FOIdeal.nD) → Buf (Elt Ideal) ((c.tc : Thread Cert.FOIdeal.nD Cert.FOIdeal.τ).loc Cert.FOIdeal.main_v0_1)) (v2 : (c : Dev Cert.FOIdeal.nD) → Buf (Elt Ideal) ((c.tc : Thread Cert.FOIdeal.nD Cert.FOIdeal.τ).loc Cert.FOIdeal.main_v0_2)) (v3 : (c : Dev Cert.FOIdeal.nD) → Buf (Elt Ideal) ((c.tc : Thread Cert.FOIdeal.nD Cert.FOIdeal.τ).loc Cert.FOIdeal.main_v0_3)),
      θ_run (Cert.FOIdeal.defs (F := Ideal)) (onTc (τ := Cert.FOIdeal.τ) (Cert.FOIdeal.main (F := Ideal))) ⟨m, fun _ => 0, g⟩ (fun r => ∀ c : Dev Cert.FOIdeal.nD,
          r.2.mem ((c.tc : Thread Cert.FOIdeal.nD Cert.FOIdeal.τ).loc Cert.FOIdeal.main_v0_0) = v0 c
          ∧ r.2.mem ((c.tc : Thread Cert.FOIdeal.nD Cert.FOIdeal.τ).loc Cert.FOIdeal.main_v0_1) = v1 c
          ∧ r.2.mem ((c.tc : Thread Cert.FOIdeal.nD Cert.FOIdeal.τ).loc Cert.FOIdeal.main_v0_2) = v2 c
          ∧ r.2.mem ((c.tc : Thread Cert.FOIdeal.nD Cert.FOIdeal.τ).loc Cert.FOIdeal.main_v0_3) = v3 c
          ∧ r.2.mem ((c.tc : Thread Cert.FOIdeal.nD Cert.FOIdeal.τ).loc Cert.FOIdeal.main_arg0) = m ((c.tc : Thread Cert.FOIdeal.nD Cert.FOIdeal.τ).loc Cert.FOIdeal.main_arg0)
          ∧ r.2.mem ((c.tc : Thread Cert.FOIdeal.nD Cert.FOIdeal.τ).loc Cert.FOIdeal.main_arg1) = m ((c.tc : Thread Cert.FOIdeal.nD Cert.FOIdeal.τ).loc Cert.FOIdeal.main_arg1)
          ∧ r.2.mem ((c.tc : Thread Cert.FOIdeal.nD Cert.FOIdeal.τ).loc Cert.FOIdeal.main_arg2) = m ((c.tc : Thread Cert.FOIdeal.nD Cert.FOIdeal.τ).loc Cert.FOIdeal.main_arg2)
          ∧ r.2.mem ((c.tc : Thread Cert.FOIdeal.nD Cert.FOIdeal.τ).loc Cert.FOIdeal.main_arg3) = m ((c.tc : Thread Cert.FOIdeal.nD Cert.FOIdeal.τ).loc Cert.FOIdeal.main_arg3)
          ∧ r.2.mem ((c.tc : Thread Cert.FOIdeal.nD Cert.FOIdeal.τ).loc Cert.FOIdeal.main_arg4) = m ((c.tc : Thread Cert.FOIdeal.nD Cert.FOIdeal.τ).loc Cert.FOIdeal.main_arg4)
          ∧ r.2.mem ((c.tc : Thread Cert.FOIdeal.nD Cert.FOIdeal.τ).loc Cert.FOIdeal.main_arg5) = m ((c.tc : Thread Cert.FOIdeal.nD Cert.FOIdeal.τ).loc Cert.FOIdeal.main_arg5)
          ∧ r.2.mem ((c.tc : Thread Cert.FOIdeal.nD Cert.FOIdeal.τ).loc Cert.FOIdeal.main_arg6) = m ((c.tc : Thread Cert.FOIdeal.nD Cert.FOIdeal.τ).loc Cert.FOIdeal.main_arg6))
      ∧ θ_run (Cert.FORefIdeal.defs (F := Ideal)) (onTc (τ := Cert.FORefIdeal.τ) (Cert.FORefIdeal.main (F := Ideal))) ⟨m', fun _ => 0, g'⟩ (fun r => ∀ c : Dev Cert.FORefIdeal.nD,
          r.2.mem ((c.tc : Thread Cert.FORefIdeal.nD Cert.FORefIdeal.τ).loc Cert.FORefIdeal.main_v13) = v0 c
          ∧ r.2.mem ((c.tc : Thread Cert.FORefIdeal.nD Cert.FORefIdeal.τ).loc Cert.FORefIdeal.main_v37) = v1 c
          ∧ r.2.mem ((c.tc : Thread Cert.FORefIdeal.nD Cert.FORefIdeal.τ).loc Cert.FORefIdeal.main_v18) = v2 c
          ∧ r.2.mem ((c.tc : Thread Cert.FORefIdeal.nD Cert.FORefIdeal.τ).loc Cert.FORefIdeal.main_v24) = v3 c
          ∧ r.2.mem ((c.tc : Thread Cert.FORefIdeal.nD Cert.FORefIdeal.τ).loc Cert.FORefIdeal.main_arg0) = m' ((c.tc : Thread Cert.FORefIdeal.nD Cert.FORefIdeal.τ).loc Cert.FORefIdeal.main_arg0)
          ∧ r.2.mem ((c.tc : Thread Cert.FORefIdeal.nD Cert.FORefIdeal.τ).loc Cert.FORefIdeal.main_arg1) = m' ((c.tc : Thread Cert.FORefIdeal.nD Cert.FORefIdeal.τ).loc Cert.FORefIdeal.main_arg1)
          ∧ r.2.mem ((c.tc : Thread Cert.FORefIdeal.nD Cert.FORefIdeal.τ).loc Cert.FORefIdeal.main_arg2) = m' ((c.tc : Thread Cert.FORefIdeal.nD Cert.FORefIdeal.τ).loc Cert.FORefIdeal.main_arg2)
          ∧ r.2.mem ((c.tc : Thread Cert.FORefIdeal.nD Cert.FORefIdeal.τ).loc Cert.FORefIdeal.main_arg3) = m' ((c.tc : Thread Cert.FORefIdeal.nD Cert.FORefIdeal.τ).loc Cert.FORefIdeal.main_arg3)
          ∧ r.2.mem ((c.tc : Thread Cert.FORefIdeal.nD Cert.FORefIdeal.τ).loc Cert.FORefIdeal.main_arg4) = m' ((c.tc : Thread Cert.FORefIdeal.nD Cert.FORefIdeal.τ).loc Cert.FORefIdeal.main_arg4)
          ∧ r.2.mem ((c.tc : Thread Cert.FORefIdeal.nD Cert.FORefIdeal.τ).loc Cert.FORefIdeal.main_arg5) = m' ((c.tc : Thread Cert.FORefIdeal.nD Cert.FORefIdeal.τ).loc Cert.FORefIdeal.main_arg5)
          ∧ r.2.mem ((c.tc : Thread Cert.FORefIdeal.nD Cert.FORefIdeal.τ).loc Cert.FORefIdeal.main_arg6) = m' ((c.tc : Thread Cert.FORefIdeal.nD Cert.FORefIdeal.τ).loc Cert.FORefIdeal.main_arg6))

def preserves_FFfnIn_FFfnInIdeal : Prop :=
  True

def algebraic_FFfnInIdeal_FFfnInRefIdeal [hFFfnInIdeal : Cert.FFfnInIdeal.Facts] [hFFfnInRefIdeal : Cert.FFfnInRefIdeal.Facts] [hPre_place_w_ffn_in : Cert.Pre_place_w_ffn_in.Facts] : Prop :=
  ∀ (m : (ℓ : Loc Cert.FFfnInIdeal.nD Cert.FFfnInIdeal.τ Cert.FFfnInIdeal.sig) → Buf (Elt Ideal) ℓ) (g : Dev Cert.FFfnInIdeal.nD → PrngReg)
    (m' : (ℓ : Loc Cert.FFfnInRefIdeal.nD Cert.FFfnInRefIdeal.τ Cert.FFfnInRefIdeal.sig) → Buf (Elt Ideal) ℓ) (g' : Dev Cert.FFfnInRefIdeal.nD → PrngReg), Pre_FFfnInIdeal m →
    (∀ c : Dev Cert.FFfnInIdeal.nD,
      m' ((c.tc : Thread Cert.FFfnInRefIdeal.nD Cert.FFfnInRefIdeal.τ).loc Cert.FFfnInRefIdeal.main_arg0) = m ((c.tc : Thread Cert.FFfnInIdeal.nD Cert.FFfnInIdeal.τ).loc Cert.FFfnInIdeal.main_arg0)
      ∧ m' ((c.tc : Thread Cert.FFfnInRefIdeal.nD Cert.FFfnInRefIdeal.τ).loc Cert.FFfnInRefIdeal.main_arg1) = m ((c.tc : Thread Cert.FFfnInIdeal.nD Cert.FFfnInIdeal.τ).loc Cert.FFfnInIdeal.main_arg1)
      ∧ m' ((c.tc : Thread Cert.FFfnInRefIdeal.nD Cert.FFfnInRefIdeal.τ).loc Cert.FFfnInRefIdeal.main_arg2) = m ((c.tc : Thread Cert.FFfnInIdeal.nD Cert.FFfnInIdeal.τ).loc Cert.FFfnInIdeal.main_arg2)
      ∧ m' ((c.tc : Thread Cert.FFfnInRefIdeal.nD Cert.FFfnInRefIdeal.τ).loc Cert.FFfnInRefIdeal.main_arg3) = m ((c.tc : Thread Cert.FFfnInIdeal.nD Cert.FFfnInIdeal.τ).loc Cert.FFfnInIdeal.main_arg3)
      ∧ m' ((c.tc : Thread Cert.FFfnInRefIdeal.nD Cert.FFfnInRefIdeal.τ).loc Cert.FFfnInRefIdeal.main_arg4) = m ((c.tc : Thread Cert.FFfnInIdeal.nD Cert.FFfnInIdeal.τ).loc Cert.FFfnInIdeal.main_arg4)
      ∧ m' ((c.tc : Thread Cert.FFfnInRefIdeal.nD Cert.FFfnInRefIdeal.τ).loc Cert.FFfnInRefIdeal.main_arg5) = m ((c.tc : Thread Cert.FFfnInIdeal.nD Cert.FFfnInIdeal.τ).loc Cert.FFfnInIdeal.main_arg5)
      ∧ m' ((c.tc : Thread Cert.FFfnInRefIdeal.nD Cert.FFfnInRefIdeal.τ).loc Cert.FFfnInRefIdeal.main_arg6) = m ((c.tc : Thread Cert.FFfnInIdeal.nD Cert.FFfnInIdeal.τ).loc Cert.FFfnInIdeal.main_arg6)) →
    ∃ (v0 : (c : Dev Cert.FFfnInIdeal.nD) → Buf (Elt Ideal) ((c.tc : Thread Cert.FFfnInIdeal.nD Cert.FFfnInIdeal.τ).loc Cert.FFfnInIdeal.main_v3_0)) (v1 : (c : Dev Cert.FFfnInIdeal.nD) → Buf (Elt Ideal) ((c.tc : Thread Cert.FFfnInIdeal.nD Cert.FFfnInIdeal.τ).loc Cert.FFfnInIdeal.main_v3_1)) (v2 : (c : Dev Cert.FFfnInIdeal.nD) → Buf (Elt Ideal) ((c.tc : Thread Cert.FFfnInIdeal.nD Cert.FFfnInIdeal.τ).loc Cert.FFfnInIdeal.main_v3_2)) (v3 : (c : Dev Cert.FFfnInIdeal.nD) → Buf (Elt Ideal) ((c.tc : Thread Cert.FFfnInIdeal.nD Cert.FFfnInIdeal.τ).loc Cert.FFfnInIdeal.main_v3_3)),
      θ_run (Cert.FFfnInIdeal.defs (F := Ideal)) (onTc (τ := Cert.FFfnInIdeal.τ) (Cert.FFfnInIdeal.main (F := Ideal))) ⟨m, fun _ => 0, g⟩ (fun r => ∀ c : Dev Cert.FFfnInIdeal.nD,
          r.2.mem ((c.tc : Thread Cert.FFfnInIdeal.nD Cert.FFfnInIdeal.τ).loc Cert.FFfnInIdeal.main_v3_0) = v0 c
          ∧ r.2.mem ((c.tc : Thread Cert.FFfnInIdeal.nD Cert.FFfnInIdeal.τ).loc Cert.FFfnInIdeal.main_v3_1) = v1 c
          ∧ r.2.mem ((c.tc : Thread Cert.FFfnInIdeal.nD Cert.FFfnInIdeal.τ).loc Cert.FFfnInIdeal.main_v3_2) = v2 c
          ∧ r.2.mem ((c.tc : Thread Cert.FFfnInIdeal.nD Cert.FFfnInIdeal.τ).loc Cert.FFfnInIdeal.main_v3_3) = v3 c
          ∧ r.2.mem ((c.tc : Thread Cert.FFfnInIdeal.nD Cert.FFfnInIdeal.τ).loc Cert.FFfnInIdeal.main_arg0) = m ((c.tc : Thread Cert.FFfnInIdeal.nD Cert.FFfnInIdeal.τ).loc Cert.FFfnInIdeal.main_arg0)
          ∧ r.2.mem ((c.tc : Thread Cert.FFfnInIdeal.nD Cert.FFfnInIdeal.τ).loc Cert.FFfnInIdeal.main_arg1) = m ((c.tc : Thread Cert.FFfnInIdeal.nD Cert.FFfnInIdeal.τ).loc Cert.FFfnInIdeal.main_arg1)
          ∧ r.2.mem ((c.tc : Thread Cert.FFfnInIdeal.nD Cert.FFfnInIdeal.τ).loc Cert.FFfnInIdeal.main_arg2) = m ((c.tc : Thread Cert.FFfnInIdeal.nD Cert.FFfnInIdeal.τ).loc Cert.FFfnInIdeal.main_arg2)
          ∧ r.2.mem ((c.tc : Thread Cert.FFfnInIdeal.nD Cert.FFfnInIdeal.τ).loc Cert.FFfnInIdeal.main_arg3) = m ((c.tc : Thread Cert.FFfnInIdeal.nD Cert.FFfnInIdeal.τ).loc Cert.FFfnInIdeal.main_arg3)
          ∧ r.2.mem ((c.tc : Thread Cert.FFfnInIdeal.nD Cert.FFfnInIdeal.τ).loc Cert.FFfnInIdeal.main_arg4) = m ((c.tc : Thread Cert.FFfnInIdeal.nD Cert.FFfnInIdeal.τ).loc Cert.FFfnInIdeal.main_arg4)
          ∧ r.2.mem ((c.tc : Thread Cert.FFfnInIdeal.nD Cert.FFfnInIdeal.τ).loc Cert.FFfnInIdeal.main_arg5) = m ((c.tc : Thread Cert.FFfnInIdeal.nD Cert.FFfnInIdeal.τ).loc Cert.FFfnInIdeal.main_arg5)
          ∧ r.2.mem ((c.tc : Thread Cert.FFfnInIdeal.nD Cert.FFfnInIdeal.τ).loc Cert.FFfnInIdeal.main_arg6) = m ((c.tc : Thread Cert.FFfnInIdeal.nD Cert.FFfnInIdeal.τ).loc Cert.FFfnInIdeal.main_arg6))
      ∧ θ_run (Cert.FFfnInRefIdeal.defs (F := Ideal)) (onTc (τ := Cert.FFfnInRefIdeal.τ) (Cert.FFfnInRefIdeal.main (F := Ideal))) ⟨m', fun _ => 0, g'⟩ (fun r => ∀ c : Dev Cert.FFfnInRefIdeal.nD,
          r.2.mem ((c.tc : Thread Cert.FFfnInRefIdeal.nD Cert.FFfnInRefIdeal.τ).loc Cert.FFfnInRefIdeal.main_v13) = v0 c
          ∧ r.2.mem ((c.tc : Thread Cert.FFfnInRefIdeal.nD Cert.FFfnInRefIdeal.τ).loc Cert.FFfnInRefIdeal.main_v39) = v1 c
          ∧ r.2.mem ((c.tc : Thread Cert.FFfnInRefIdeal.nD Cert.FFfnInRefIdeal.τ).loc Cert.FFfnInRefIdeal.main_v40) = v2 c
          ∧ r.2.mem ((c.tc : Thread Cert.FFfnInRefIdeal.nD Cert.FFfnInRefIdeal.τ).loc Cert.FFfnInRefIdeal.main_v41) = v3 c
          ∧ r.2.mem ((c.tc : Thread Cert.FFfnInRefIdeal.nD Cert.FFfnInRefIdeal.τ).loc Cert.FFfnInRefIdeal.main_arg0) = m' ((c.tc : Thread Cert.FFfnInRefIdeal.nD Cert.FFfnInRefIdeal.τ).loc Cert.FFfnInRefIdeal.main_arg0)
          ∧ r.2.mem ((c.tc : Thread Cert.FFfnInRefIdeal.nD Cert.FFfnInRefIdeal.τ).loc Cert.FFfnInRefIdeal.main_arg1) = m' ((c.tc : Thread Cert.FFfnInRefIdeal.nD Cert.FFfnInRefIdeal.τ).loc Cert.FFfnInRefIdeal.main_arg1)
          ∧ r.2.mem ((c.tc : Thread Cert.FFfnInRefIdeal.nD Cert.FFfnInRefIdeal.τ).loc Cert.FFfnInRefIdeal.main_arg2) = m' ((c.tc : Thread Cert.FFfnInRefIdeal.nD Cert.FFfnInRefIdeal.τ).loc Cert.FFfnInRefIdeal.main_arg2)
          ∧ r.2.mem ((c.tc : Thread Cert.FFfnInRefIdeal.nD Cert.FFfnInRefIdeal.τ).loc Cert.FFfnInRefIdeal.main_arg3) = m' ((c.tc : Thread Cert.FFfnInRefIdeal.nD Cert.FFfnInRefIdeal.τ).loc Cert.FFfnInRefIdeal.main_arg3)
          ∧ r.2.mem ((c.tc : Thread Cert.FFfnInRefIdeal.nD Cert.FFfnInRefIdeal.τ).loc Cert.FFfnInRefIdeal.main_arg4) = m' ((c.tc : Thread Cert.FFfnInRefIdeal.nD Cert.FFfnInRefIdeal.τ).loc Cert.FFfnInRefIdeal.main_arg4)
          ∧ r.2.mem ((c.tc : Thread Cert.FFfnInRefIdeal.nD Cert.FFfnInRefIdeal.τ).loc Cert.FFfnInRefIdeal.main_arg5) = m' ((c.tc : Thread Cert.FFfnInRefIdeal.nD Cert.FFfnInRefIdeal.τ).loc Cert.FFfnInRefIdeal.main_arg5)
          ∧ r.2.mem ((c.tc : Thread Cert.FFfnInRefIdeal.nD Cert.FFfnInRefIdeal.τ).loc Cert.FFfnInRefIdeal.main_arg6) = m' ((c.tc : Thread Cert.FFfnInRefIdeal.nD Cert.FFfnInRefIdeal.τ).loc Cert.FFfnInRefIdeal.main_arg6))

def preserves_FFfnOut_FFfnOutIdeal : Prop :=
  True

def algebraic_FFfnOutIdeal_FFfnOutRefIdeal [hFFfnOutIdeal : Cert.FFfnOutIdeal.Facts] [hFFfnOutRefIdeal : Cert.FFfnOutRefIdeal.Facts] [hPre_place_w_ffn_out : Cert.Pre_place_w_ffn_out.Facts] : Prop :=
  ∀ (m : (ℓ : Loc Cert.FFfnOutIdeal.nD Cert.FFfnOutIdeal.τ Cert.FFfnOutIdeal.sig) → Buf (Elt Ideal) ℓ) (g : Dev Cert.FFfnOutIdeal.nD → PrngReg)
    (m' : (ℓ : Loc Cert.FFfnOutRefIdeal.nD Cert.FFfnOutRefIdeal.τ Cert.FFfnOutRefIdeal.sig) → Buf (Elt Ideal) ℓ) (g' : Dev Cert.FFfnOutRefIdeal.nD → PrngReg), Pre_FFfnOutIdeal m →
    (∀ c : Dev Cert.FFfnOutIdeal.nD,
      m' ((c.tc : Thread Cert.FFfnOutRefIdeal.nD Cert.FFfnOutRefIdeal.τ).loc Cert.FFfnOutRefIdeal.main_arg0) = m ((c.tc : Thread Cert.FFfnOutIdeal.nD Cert.FFfnOutIdeal.τ).loc Cert.FFfnOutIdeal.main_arg0)
      ∧ m' ((c.tc : Thread Cert.FFfnOutRefIdeal.nD Cert.FFfnOutRefIdeal.τ).loc Cert.FFfnOutRefIdeal.main_arg1) = m ((c.tc : Thread Cert.FFfnOutIdeal.nD Cert.FFfnOutIdeal.τ).loc Cert.FFfnOutIdeal.main_arg1)
      ∧ m' ((c.tc : Thread Cert.FFfnOutRefIdeal.nD Cert.FFfnOutRefIdeal.τ).loc Cert.FFfnOutRefIdeal.main_arg2) = m ((c.tc : Thread Cert.FFfnOutIdeal.nD Cert.FFfnOutIdeal.τ).loc Cert.FFfnOutIdeal.main_arg2)
      ∧ m' ((c.tc : Thread Cert.FFfnOutRefIdeal.nD Cert.FFfnOutRefIdeal.τ).loc Cert.FFfnOutRefIdeal.main_arg3) = m ((c.tc : Thread Cert.FFfnOutIdeal.nD Cert.FFfnOutIdeal.τ).loc Cert.FFfnOutIdeal.main_arg3)
      ∧ m' ((c.tc : Thread Cert.FFfnOutRefIdeal.nD Cert.FFfnOutRefIdeal.τ).loc Cert.FFfnOutRefIdeal.main_arg4) = m ((c.tc : Thread Cert.FFfnOutIdeal.nD Cert.FFfnOutIdeal.τ).loc Cert.FFfnOutIdeal.main_arg4)
      ∧ m' ((c.tc : Thread Cert.FFfnOutRefIdeal.nD Cert.FFfnOutRefIdeal.τ).loc Cert.FFfnOutRefIdeal.main_arg5) = m ((c.tc : Thread Cert.FFfnOutIdeal.nD Cert.FFfnOutIdeal.τ).loc Cert.FFfnOutIdeal.main_arg5)
      ∧ m' ((c.tc : Thread Cert.FFfnOutRefIdeal.nD Cert.FFfnOutRefIdeal.τ).loc Cert.FFfnOutRefIdeal.main_arg6) = m ((c.tc : Thread Cert.FFfnOutIdeal.nD Cert.FFfnOutIdeal.τ).loc Cert.FFfnOutIdeal.main_arg6)) →
    ∃ (v0 : (c : Dev Cert.FFfnOutIdeal.nD) → Buf (Elt Ideal) ((c.tc : Thread Cert.FFfnOutIdeal.nD Cert.FFfnOutIdeal.τ).loc Cert.FFfnOutIdeal.main_v0_0)) (v1 : (c : Dev Cert.FFfnOutIdeal.nD) → Buf (Elt Ideal) ((c.tc : Thread Cert.FFfnOutIdeal.nD Cert.FFfnOutIdeal.τ).loc Cert.FFfnOutIdeal.main_v0_1)) (v2 : (c : Dev Cert.FFfnOutIdeal.nD) → Buf (Elt Ideal) ((c.tc : Thread Cert.FFfnOutIdeal.nD Cert.FFfnOutIdeal.τ).loc Cert.FFfnOutIdeal.main_v0_2)) (v3 : (c : Dev Cert.FFfnOutIdeal.nD) → Buf (Elt Ideal) ((c.tc : Thread Cert.FFfnOutIdeal.nD Cert.FFfnOutIdeal.τ).loc Cert.FFfnOutIdeal.main_v0_3)),
      θ_run (Cert.FFfnOutIdeal.defs (F := Ideal)) (onTc (τ := Cert.FFfnOutIdeal.τ) (Cert.FFfnOutIdeal.main (F := Ideal))) ⟨m, fun _ => 0, g⟩ (fun r => ∀ c : Dev Cert.FFfnOutIdeal.nD,
          r.2.mem ((c.tc : Thread Cert.FFfnOutIdeal.nD Cert.FFfnOutIdeal.τ).loc Cert.FFfnOutIdeal.main_v0_0) = v0 c
          ∧ r.2.mem ((c.tc : Thread Cert.FFfnOutIdeal.nD Cert.FFfnOutIdeal.τ).loc Cert.FFfnOutIdeal.main_v0_1) = v1 c
          ∧ r.2.mem ((c.tc : Thread Cert.FFfnOutIdeal.nD Cert.FFfnOutIdeal.τ).loc Cert.FFfnOutIdeal.main_v0_2) = v2 c
          ∧ r.2.mem ((c.tc : Thread Cert.FFfnOutIdeal.nD Cert.FFfnOutIdeal.τ).loc Cert.FFfnOutIdeal.main_v0_3) = v3 c
          ∧ r.2.mem ((c.tc : Thread Cert.FFfnOutIdeal.nD Cert.FFfnOutIdeal.τ).loc Cert.FFfnOutIdeal.main_arg0) = m ((c.tc : Thread Cert.FFfnOutIdeal.nD Cert.FFfnOutIdeal.τ).loc Cert.FFfnOutIdeal.main_arg0)
          ∧ r.2.mem ((c.tc : Thread Cert.FFfnOutIdeal.nD Cert.FFfnOutIdeal.τ).loc Cert.FFfnOutIdeal.main_arg1) = m ((c.tc : Thread Cert.FFfnOutIdeal.nD Cert.FFfnOutIdeal.τ).loc Cert.FFfnOutIdeal.main_arg1)
          ∧ r.2.mem ((c.tc : Thread Cert.FFfnOutIdeal.nD Cert.FFfnOutIdeal.τ).loc Cert.FFfnOutIdeal.main_arg2) = m ((c.tc : Thread Cert.FFfnOutIdeal.nD Cert.FFfnOutIdeal.τ).loc Cert.FFfnOutIdeal.main_arg2)
          ∧ r.2.mem ((c.tc : Thread Cert.FFfnOutIdeal.nD Cert.FFfnOutIdeal.τ).loc Cert.FFfnOutIdeal.main_arg3) = m ((c.tc : Thread Cert.FFfnOutIdeal.nD Cert.FFfnOutIdeal.τ).loc Cert.FFfnOutIdeal.main_arg3)
          ∧ r.2.mem ((c.tc : Thread Cert.FFfnOutIdeal.nD Cert.FFfnOutIdeal.τ).loc Cert.FFfnOutIdeal.main_arg4) = m ((c.tc : Thread Cert.FFfnOutIdeal.nD Cert.FFfnOutIdeal.τ).loc Cert.FFfnOutIdeal.main_arg4)
          ∧ r.2.mem ((c.tc : Thread Cert.FFfnOutIdeal.nD Cert.FFfnOutIdeal.τ).loc Cert.FFfnOutIdeal.main_arg5) = m ((c.tc : Thread Cert.FFfnOutIdeal.nD Cert.FFfnOutIdeal.τ).loc Cert.FFfnOutIdeal.main_arg5)
          ∧ r.2.mem ((c.tc : Thread Cert.FFfnOutIdeal.nD Cert.FFfnOutIdeal.τ).loc Cert.FFfnOutIdeal.main_arg6) = m ((c.tc : Thread Cert.FFfnOutIdeal.nD Cert.FFfnOutIdeal.τ).loc Cert.FFfnOutIdeal.main_arg6))
      ∧ θ_run (Cert.FFfnOutRefIdeal.defs (F := Ideal)) (onTc (τ := Cert.FFfnOutRefIdeal.τ) (Cert.FFfnOutRefIdeal.main (F := Ideal))) ⟨m', fun _ => 0, g'⟩ (fun r => ∀ c : Dev Cert.FFfnOutRefIdeal.nD,
          r.2.mem ((c.tc : Thread Cert.FFfnOutRefIdeal.nD Cert.FFfnOutRefIdeal.τ).loc Cert.FFfnOutRefIdeal.main_v13) = v0 c
          ∧ r.2.mem ((c.tc : Thread Cert.FFfnOutRefIdeal.nD Cert.FFfnOutRefIdeal.τ).loc Cert.FFfnOutRefIdeal.main_v37) = v1 c
          ∧ r.2.mem ((c.tc : Thread Cert.FFfnOutRefIdeal.nD Cert.FFfnOutRefIdeal.τ).loc Cert.FFfnOutRefIdeal.main_v18) = v2 c
          ∧ r.2.mem ((c.tc : Thread Cert.FFfnOutRefIdeal.nD Cert.FFfnOutRefIdeal.τ).loc Cert.FFfnOutRefIdeal.main_v24) = v3 c
          ∧ r.2.mem ((c.tc : Thread Cert.FFfnOutRefIdeal.nD Cert.FFfnOutRefIdeal.τ).loc Cert.FFfnOutRefIdeal.main_arg0) = m' ((c.tc : Thread Cert.FFfnOutRefIdeal.nD Cert.FFfnOutRefIdeal.τ).loc Cert.FFfnOutRefIdeal.main_arg0)
          ∧ r.2.mem ((c.tc : Thread Cert.FFfnOutRefIdeal.nD Cert.FFfnOutRefIdeal.τ).loc Cert.FFfnOutRefIdeal.main_arg1) = m' ((c.tc : Thread Cert.FFfnOutRefIdeal.nD Cert.FFfnOutRefIdeal.τ).loc Cert.FFfnOutRefIdeal.main_arg1)
          ∧ r.2.mem ((c.tc : Thread Cert.FFfnOutRefIdeal.nD Cert.FFfnOutRefIdeal.τ).loc Cert.FFfnOutRefIdeal.main_arg2) = m' ((c.tc : Thread Cert.FFfnOutRefIdeal.nD Cert.FFfnOutRefIdeal.τ).loc Cert.FFfnOutRefIdeal.main_arg2)
          ∧ r.2.mem ((c.tc : Thread Cert.FFfnOutRefIdeal.nD Cert.FFfnOutRefIdeal.τ).loc Cert.FFfnOutRefIdeal.main_arg3) = m' ((c.tc : Thread Cert.FFfnOutRefIdeal.nD Cert.FFfnOutRefIdeal.τ).loc Cert.FFfnOutRefIdeal.main_arg3)
          ∧ r.2.mem ((c.tc : Thread Cert.FFfnOutRefIdeal.nD Cert.FFfnOutRefIdeal.τ).loc Cert.FFfnOutRefIdeal.main_arg4) = m' ((c.tc : Thread Cert.FFfnOutRefIdeal.nD Cert.FFfnOutRefIdeal.τ).loc Cert.FFfnOutRefIdeal.main_arg4)
          ∧ r.2.mem ((c.tc : Thread Cert.FFfnOutRefIdeal.nD Cert.FFfnOutRefIdeal.τ).loc Cert.FFfnOutRefIdeal.main_arg5) = m' ((c.tc : Thread Cert.FFfnOutRefIdeal.nD Cert.FFfnOutRefIdeal.τ).loc Cert.FFfnOutRefIdeal.main_arg5)
          ∧ r.2.mem ((c.tc : Thread Cert.FFfnOutRefIdeal.nD Cert.FFfnOutRefIdeal.τ).loc Cert.FFfnOutRefIdeal.main_arg6) = m' ((c.tc : Thread Cert.FFfnOutRefIdeal.nD Cert.FFfnOutRefIdeal.τ).loc Cert.FFfnOutRefIdeal.main_arg6))

def Claim : Prop :=
  ∃ (hUp : Cert.Up.Facts) (hUpIdeal : Cert.UpIdeal.Facts) (hUpRefIdeal : Cert.UpRefIdeal.Facts) (hLoss : Cert.Loss.Facts) (hLossIdeal : Cert.LossIdeal.Facts) (hLossRefIdeal : Cert.LossRefIdeal.Facts) (hDown : Cert.Down.Facts) (hDownIdeal : Cert.DownIdeal.Facts) (hDownRefIdeal : Cert.DownRefIdeal.Facts) (hBwdUp : Cert.BwdUp.Facts) (hBwdUpIdeal : Cert.BwdUpIdeal.Facts) (hBwdUpRefIdeal : Cert.BwdUpRefIdeal.Facts) (hInBwd : Cert.InBwd.Facts) (hInBwdIdeal : Cert.InBwdIdeal.Facts) (hInBwdRefIdeal : Cert.InBwdRefIdeal.Facts) (hMerge : Cert.Merge.Facts) (hMergeIdeal : Cert.MergeIdeal.Facts) (hMergeRefIdeal : Cert.MergeRefIdeal.Facts) (hWFfnOut : Cert.WFfnOut.Facts) (hWFfnOutIdeal : Cert.WFfnOutIdeal.Facts) (hWFfnOutRefIdeal : Cert.WFfnOutRefIdeal.Facts) (hWFfnIn : Cert.WFfnIn.Facts) (hWFfnInIdeal : Cert.WFfnInIdeal.Facts) (hWFfnInRefIdeal : Cert.WFfnInRefIdeal.Facts) (hWO : Cert.WO.Facts) (hWOIdeal : Cert.WOIdeal.Facts) (hWORefIdeal : Cert.WORefIdeal.Facts) (hWPoolOut : Cert.WPoolOut.Facts) (hWPoolOutIdeal : Cert.WPoolOutIdeal.Facts) (hWPoolOutRefIdeal : Cert.WPoolOutRefIdeal.Facts) (hWRnnOut : Cert.WRnnOut.Facts) (hWRnnOutIdeal : Cert.WRnnOutIdeal.Facts) (hWRnnOutRefIdeal : Cert.WRnnOutRefIdeal.Facts) (hWIn : Cert.WIn.Facts) (hWInIdeal : Cert.WInIdeal.Facts) (hWInRefIdeal : Cert.WInRefIdeal.Facts) (hFIn : Cert.FIn.Facts) (hFInIdeal : Cert.FInIdeal.Facts) (hFInRefIdeal : Cert.FInRefIdeal.Facts) (hFPoolOut : Cert.FPoolOut.Facts) (hFPoolOutIdeal : Cert.FPoolOutIdeal.Facts) (hFPoolOutRefIdeal : Cert.FPoolOutRefIdeal.Facts) (hFRnnOut : Cert.FRnnOut.Facts) (hFRnnOutIdeal : Cert.FRnnOutIdeal.Facts) (hFRnnOutRefIdeal : Cert.FRnnOutRefIdeal.Facts) (hFO : Cert.FO.Facts) (hFOIdeal : Cert.FOIdeal.Facts) (hFORefIdeal : Cert.FORefIdeal.Facts) (hFFfnIn : Cert.FFfnIn.Facts) (hFFfnInIdeal : Cert.FFfnInIdeal.Facts) (hFFfnInRefIdeal : Cert.FFfnInRefIdeal.Facts) (hFFfnOut : Cert.FFfnOut.Facts) (hFFfnOutIdeal : Cert.FFfnOutIdeal.Facts) (hFFfnOutRefIdeal : Cert.FFfnOutRefIdeal.Facts) (hPre_finite_up : Cert.Pre_finite_up.Facts) (hPre_finite_down : Cert.Pre_finite_down.Facts) (hPre_place_w_in : Cert.Pre_place_w_in.Facts) (hPre_place_w_pool_out : Cert.Pre_place_w_pool_out.Facts) (hPre_place_w_rnn_out : Cert.Pre_place_w_rnn_out.Facts) (hPre_place_w_o : Cert.Pre_place_w_o.Facts) (hPre_place_w_ffn_in : Cert.Pre_place_w_ffn_in.Facts) (hPre_place_w_ffn_out : Cert.Pre_place_w_ffn_out.Facts),
    quiescent_Up (hUp := hUp)
    ∧ quiescent_UpIdeal (hUpIdeal := hUpIdeal)
    ∧ quiescent_UpIdeal_pre_finite_up (hUpIdeal := hUpIdeal) (hPre_finite_up := hPre_finite_up)
    ∧ quiescent_UpRefIdeal (hUpRefIdeal := hUpRefIdeal)
    ∧ quiescent_UpRefIdeal_pre_finite_up (hUpRefIdeal := hUpRefIdeal) (hPre_finite_up := hPre_finite_up)
    ∧ quiescent_Loss (hLoss := hLoss)
    ∧ quiescent_LossIdeal (hLossIdeal := hLossIdeal)
    ∧ quiescent_LossRefIdeal (hLossRefIdeal := hLossRefIdeal)
    ∧ quiescent_Down (hDown := hDown)
    ∧ quiescent_DownIdeal (hDownIdeal := hDownIdeal)
    ∧ quiescent_DownIdeal_pre_finite_down (hDownIdeal := hDownIdeal) (hPre_finite_down := hPre_finite_down)
    ∧ quiescent_DownRefIdeal (hDownRefIdeal := hDownRefIdeal)
    ∧ quiescent_DownRefIdeal_pre_finite_down (hDownRefIdeal := hDownRefIdeal) (hPre_finite_down := hPre_finite_down)
    ∧ quiescent_BwdUp (hBwdUp := hBwdUp)
    ∧ quiescent_BwdUpIdeal (hBwdUpIdeal := hBwdUpIdeal)
    ∧ quiescent_BwdUpRefIdeal (hBwdUpRefIdeal := hBwdUpRefIdeal)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_Merge (hMerge := hMerge)
    ∧ quiescent_MergeIdeal (hMergeIdeal := hMergeIdeal)
    ∧ quiescent_MergeRefIdeal (hMergeRefIdeal := hMergeRefIdeal)
    ∧ quiescent_WFfnOut (hWFfnOut := hWFfnOut)
    ∧ quiescent_WFfnOutIdeal (hWFfnOutIdeal := hWFfnOutIdeal)
    ∧ quiescent_WFfnOutRefIdeal (hWFfnOutRefIdeal := hWFfnOutRefIdeal)
    ∧ quiescent_WFfnIn (hWFfnIn := hWFfnIn)
    ∧ quiescent_WFfnInIdeal (hWFfnInIdeal := hWFfnInIdeal)
    ∧ quiescent_WFfnInRefIdeal (hWFfnInRefIdeal := hWFfnInRefIdeal)
    ∧ quiescent_WO (hWO := hWO)
    ∧ quiescent_WOIdeal (hWOIdeal := hWOIdeal)
    ∧ quiescent_WORefIdeal (hWORefIdeal := hWORefIdeal)
    ∧ quiescent_WPoolOut (hWPoolOut := hWPoolOut)
    ∧ quiescent_WPoolOutIdeal (hWPoolOutIdeal := hWPoolOutIdeal)
    ∧ quiescent_WPoolOutRefIdeal (hWPoolOutRefIdeal := hWPoolOutRefIdeal)
    ∧ quiescent_WRnnOut (hWRnnOut := hWRnnOut)
    ∧ quiescent_WRnnOutIdeal (hWRnnOutIdeal := hWRnnOutIdeal)
    ∧ quiescent_WRnnOutRefIdeal (hWRnnOutRefIdeal := hWRnnOutRefIdeal)
    ∧ quiescent_WIn (hWIn := hWIn)
    ∧ quiescent_WInIdeal (hWInIdeal := hWInIdeal)
    ∧ quiescent_WInRefIdeal (hWInRefIdeal := hWInRefIdeal)
    ∧ quiescent_FIn (hFIn := hFIn) (hPre_place_w_in := hPre_place_w_in)
    ∧ quiescent_FInIdeal (hFInIdeal := hFInIdeal) (hPre_place_w_in := hPre_place_w_in)
    ∧ quiescent_FInRefIdeal (hFInRefIdeal := hFInRefIdeal)
    ∧ quiescent_FInRefIdeal_pre_place_w_in (hFInRefIdeal := hFInRefIdeal) (hPre_place_w_in := hPre_place_w_in)
    ∧ quiescent_FPoolOut (hFPoolOut := hFPoolOut) (hPre_place_w_pool_out := hPre_place_w_pool_out)
    ∧ quiescent_FPoolOutIdeal (hFPoolOutIdeal := hFPoolOutIdeal) (hPre_place_w_pool_out := hPre_place_w_pool_out)
    ∧ quiescent_FPoolOutRefIdeal (hFPoolOutRefIdeal := hFPoolOutRefIdeal)
    ∧ quiescent_FPoolOutRefIdeal_pre_place_w_pool_out (hFPoolOutRefIdeal := hFPoolOutRefIdeal) (hPre_place_w_pool_out := hPre_place_w_pool_out)
    ∧ quiescent_FRnnOut (hFRnnOut := hFRnnOut) (hPre_place_w_rnn_out := hPre_place_w_rnn_out)
    ∧ quiescent_FRnnOutIdeal (hFRnnOutIdeal := hFRnnOutIdeal) (hPre_place_w_rnn_out := hPre_place_w_rnn_out)
    ∧ quiescent_FRnnOutRefIdeal (hFRnnOutRefIdeal := hFRnnOutRefIdeal)
    ∧ quiescent_FRnnOutRefIdeal_pre_place_w_rnn_out (hFRnnOutRefIdeal := hFRnnOutRefIdeal) (hPre_place_w_rnn_out := hPre_place_w_rnn_out)
    ∧ quiescent_FO (hFO := hFO) (hPre_place_w_o := hPre_place_w_o)
    ∧ quiescent_FOIdeal (hFOIdeal := hFOIdeal) (hPre_place_w_o := hPre_place_w_o)
    ∧ quiescent_FORefIdeal (hFORefIdeal := hFORefIdeal)
    ∧ quiescent_FORefIdeal_pre_place_w_o (hFORefIdeal := hFORefIdeal) (hPre_place_w_o := hPre_place_w_o)
    ∧ quiescent_FFfnIn (hFFfnIn := hFFfnIn) (hPre_place_w_ffn_in := hPre_place_w_ffn_in)
    ∧ quiescent_FFfnInIdeal (hFFfnInIdeal := hFFfnInIdeal) (hPre_place_w_ffn_in := hPre_place_w_ffn_in)
    ∧ quiescent_FFfnInRefIdeal (hFFfnInRefIdeal := hFFfnInRefIdeal)
    ∧ quiescent_FFfnInRefIdeal_pre_place_w_ffn_in (hFFfnInRefIdeal := hFFfnInRefIdeal) (hPre_place_w_ffn_in := hPre_place_w_ffn_in)
    ∧ quiescent_FFfnOut (hFFfnOut := hFFfnOut) (hPre_place_w_ffn_out := hPre_place_w_ffn_out)
    ∧ quiescent_FFfnOutIdeal (hFFfnOutIdeal := hFFfnOutIdeal) (hPre_place_w_ffn_out := hPre_place_w_ffn_out)
    ∧ quiescent_FFfnOutRefIdeal (hFFfnOutRefIdeal := hFFfnOutRefIdeal)
    ∧ quiescent_FFfnOutRefIdeal_pre_place_w_ffn_out (hFFfnOutRefIdeal := hFFfnOutRefIdeal) (hPre_place_w_ffn_out := hPre_place_w_ffn_out)
    ∧ preserves_Up_UpIdeal
    ∧ algebraic_UpIdeal_UpRefIdeal_pre_finite_up (hUpIdeal := hUpIdeal) (hUpRefIdeal := hUpRefIdeal) (hPre_finite_up := hPre_finite_up)
    ∧ preserves_Loss_LossIdeal
    ∧ algebraic_LossIdeal_LossRefIdeal (hLossIdeal := hLossIdeal) (hLossRefIdeal := hLossRefIdeal)
    ∧ preserves_Down_DownIdeal
    ∧ algebraic_DownIdeal_DownRefIdeal_pre_finite_down (hDownIdeal := hDownIdeal) (hDownRefIdeal := hDownRefIdeal) (hPre_finite_down := hPre_finite_down)
    ∧ preserves_BwdUp_BwdUpIdeal
    ∧ algebraic_BwdUpIdeal_BwdUpRefIdeal (hBwdUpIdeal := hBwdUpIdeal) (hBwdUpRefIdeal := hBwdUpRefIdeal)
    ∧ preserves_InBwd_InBwdIdeal
    ∧ algebraic_InBwdIdeal_InBwdRefIdeal (hInBwdIdeal := hInBwdIdeal) (hInBwdRefIdeal := hInBwdRefIdeal)
    ∧ preserves_Merge_MergeIdeal
    ∧ algebraic_MergeIdeal_MergeRefIdeal (hMergeIdeal := hMergeIdeal) (hMergeRefIdeal := hMergeRefIdeal)
    ∧ preserves_WFfnOut_WFfnOutIdeal
    ∧ algebraic_WFfnOutIdeal_WFfnOutRefIdeal (hWFfnOutIdeal := hWFfnOutIdeal) (hWFfnOutRefIdeal := hWFfnOutRefIdeal)
    ∧ preserves_WFfnIn_WFfnInIdeal
    ∧ algebraic_WFfnInIdeal_WFfnInRefIdeal (hWFfnInIdeal := hWFfnInIdeal) (hWFfnInRefIdeal := hWFfnInRefIdeal)
    ∧ preserves_WO_WOIdeal
    ∧ algebraic_WOIdeal_WORefIdeal (hWOIdeal := hWOIdeal) (hWORefIdeal := hWORefIdeal)
    ∧ preserves_WPoolOut_WPoolOutIdeal
    ∧ algebraic_WPoolOutIdeal_WPoolOutRefIdeal (hWPoolOutIdeal := hWPoolOutIdeal) (hWPoolOutRefIdeal := hWPoolOutRefIdeal)
    ∧ preserves_WRnnOut_WRnnOutIdeal
    ∧ algebraic_WRnnOutIdeal_WRnnOutRefIdeal (hWRnnOutIdeal := hWRnnOutIdeal) (hWRnnOutRefIdeal := hWRnnOutRefIdeal)
    ∧ preserves_WIn_WInIdeal
    ∧ algebraic_WInIdeal_WInRefIdeal (hWInIdeal := hWInIdeal) (hWInRefIdeal := hWInRefIdeal)
    ∧ preserves_FIn_FInIdeal
    ∧ algebraic_FInIdeal_FInRefIdeal (hFInIdeal := hFInIdeal) (hFInRefIdeal := hFInRefIdeal) (hPre_place_w_in := hPre_place_w_in)
    ∧ preserves_FPoolOut_FPoolOutIdeal
    ∧ algebraic_FPoolOutIdeal_FPoolOutRefIdeal (hFPoolOutIdeal := hFPoolOutIdeal) (hFPoolOutRefIdeal := hFPoolOutRefIdeal) (hPre_place_w_pool_out := hPre_place_w_pool_out)
    ∧ preserves_FRnnOut_FRnnOutIdeal
    ∧ algebraic_FRnnOutIdeal_FRnnOutRefIdeal (hFRnnOutIdeal := hFRnnOutIdeal) (hFRnnOutRefIdeal := hFRnnOutRefIdeal) (hPre_place_w_rnn_out := hPre_place_w_rnn_out)
    ∧ preserves_FO_FOIdeal
    ∧ algebraic_FOIdeal_FORefIdeal (hFOIdeal := hFOIdeal) (hFORefIdeal := hFORefIdeal) (hPre_place_w_o := hPre_place_w_o)
    ∧ preserves_FFfnIn_FFfnInIdeal
    ∧ algebraic_FFfnInIdeal_FFfnInRefIdeal (hFFfnInIdeal := hFFfnInIdeal) (hFFfnInRefIdeal := hFFfnInRefIdeal) (hPre_place_w_ffn_in := hPre_place_w_ffn_in)
    ∧ preserves_FFfnOut_FFfnOutIdeal
    ∧ algebraic_FFfnOutIdeal_FFfnOutRefIdeal (hFFfnOutIdeal := hFFfnOutIdeal) (hFFfnOutRefIdeal := hFFfnOutRefIdeal) (hPre_place_w_ffn_out := hPre_place_w_ffn_out)
-- ==== Pre_finite_down.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2816 : S_.BroadcastsInDim S4096x2816 (![] : Fin 0 → Fin S4096x2816.rank)
  reducesTo_S4096x2816_S_d0_1 : S4096x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S4096x1024 .bf16) (main_arg1 : FVec F S4096x2816 .f32) (main_arg2 : FVec F S4096x2816 .f32) (main_arg3 : FVec F S2816x1024 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S4096x2816 .f32 := Host.absf main_arg2
  let main_cst_0 : FVec F S_ .f32 := constant S_ .f32 0x7F800000#32
  let main_v6 : FVec F S4096x2816 .f32 := broadcastInDim S4096x2816 ![] bcast_S_S4096x2816 main_cst_0
  let main_v7 : IVec S4096x2816 1 := cmpf .olt main_v5 main_v6
  let main_c_1 : IVec S_ 1 := constantI S_ 1 1#1
  let main_v8 : IVec S_ 1 := (fun x v => Host.reduce IntOp.andi x v reducesTo_S4096x2816_S_d0_1 h_S_) main_v7 main_c_1
  let main_v9 : IVec S_ 1 := andi main_v4 main_v8
  let main_v10 : FVec F S2816x1024 .f32 := Host.absf main_arg3
  let main_cst_2 : FVec F S_ .f32 := constant S_ .f32 0x7F800000#32
  let main_v11 : FVec F S2816x1024 .f32 := broadcastInDim S2816x1024 ![] bcast_S_S2816x1024 main_cst_2
  let main_v12 : IVec S2816x1024 1 := cmpf .olt main_v10 main_v11
  let main_c_3 : IVec S_ 1 := constantI S_ 1 1#1
  let main_v13 : IVec S_ 1 := (fun x v => Host.reduce IntOp.andi x v reducesTo_S2816x1024_S_d0_1 h_S_) main_v12 main_c_3
  let main_v14 : IVec S_ 1 := andi main_v9 main_v13
  main_v14
-- ==== Pre_finite_up.lean ====
abbrev S4096x1024 : Shape := ⟨2, ![4096, 1024]⟩
abbrev S1024x5632 : Shape := ⟨2, ![1024, 5632]⟩
abbrev S_ : Shape := ⟨0, ![]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .bf16) (main_arg1 : FVec F S1024x5632 .f32) : IVec S_ 1 :=
  let main_v0 : FVec F S4096x1024 .f32 := (extf .f32 · bitsLt_bf16_f32) main_arg0
  let main_v1 : FVec F S4096x1024 .f32 := Host.absf main_v0
  let main_cst : FVec F S_ .f32 := constant S_ .f32 0x7F800000#32
  let main_v2 : FVec F S4096x1024 .f32 := broadcastInDim S4096x1024 ![] bcast_S_S4096x1024 main_cst
  let main_v3 : IVec S4096x1024 1 := cmpf .olt main_v1 main_v2
  let main_c : IVec S_ 1 := constantI S_ 1 1#1
  let main_v4 : IVec S_ 1 := (fun x v => Host.reduce IntOp.andi x v reducesTo_S4096x1024_S_d0_1 h_S_) main_v3 main_c
  let main_v5 : FVec F S1024x5632 .f32 := Host.absf main_arg1
  let main_cst_0 : FVec F S_ .f32 := constant S_ .f32 0x7F800000#32
  let main_v6 : FVec F S1024x5632 .f32 := broadcastInDim S1024x5632 ![] bcast_S_S1024x5632 main_cst_0
  let main_v7 : IVec S1024x5632 1 := cmpf .olt main_v5 main_v6
  let main_c_1 : IVec S_ 1 := constantI S_ 1 1#1
  let main_v8 : IVec S_ 1 := (fun x v => Host.reduce IntOp.andi x v reducesTo_S1024x5632_S_d0_1 h_S_) main_v7 main_c_1
  let main_v9 : IVec S_ 1 := andi main_v4 main_v8
  main_v9
-- ==== Pre_place_w_ffn_in.lean ====
abbrev S1 : Shape := ⟨1, ![1]⟩
abbrev S5632x1024 : Shape := ⟨2, ![5632, 1024]⟩
abbrev S704x1024 : Shape := ⟨2, ![704, 1024]⟩
abbrev S2x704x1024 : Shape := ⟨3, ![2, 704, 1024]⟩
abbrev S1024x704 : Shape := ⟨2, ![1024, 704]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S5632x1024 .bf16) (main_arg2 : FVec F S704x1024 .bf16) (main_arg3 : FVec F S2x704x1024 .bf16) (main_arg4 : FVec F S1024x704 .f32) (main_arg5 : FVec F S1024x704 .f32) (main_arg6 : FVec F S1024x704 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_w_ffn_out.lean ====
abbrev S1 : Shape := ⟨1, ![1]⟩
abbrev S2816x1024 : Shape := ⟨2, ![2816, 1024]⟩
abbrev S352x1024 : Shape := ⟨2, ![352, 1024]⟩
abbrev S2x352x1024 : Shape := ⟨3, ![2, 352, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S2816x1024 .bf16) (main_arg2 : FVec F S352x1024 .bf16) (main_arg3 : FVec F S2x352x1024 .bf16) (main_arg4 : FVec F S352x1024 .f32) (main_arg5 : FVec F S352x1024 .f32) (main_arg6 : FVec F S352x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_w_in.lean ====
abbrev S1 : Shape := ⟨1, ![1]⟩
abbrev S4608x1024 : Shape := ⟨2, ![4608, 1024]⟩
abbrev S576x1024 : Shape := ⟨2, ![576, 1024]⟩
abbrev S2x576x1024 : Shape := ⟨3, ![2, 576, 1024]⟩
abbrev S1024x576 : Shape := ⟨2, ![1024, 576]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S4608x1024 .bf16) (main_arg2 : FVec F S576x1024 .bf16) (main_arg3 : FVec F S2x576x1024 .bf16) (main_arg4 : FVec F S1024x576 .f32) (main_arg5 : FVec F S1024x576 .f32) (main_arg6 : FVec F S1024x576 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_w_o.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S1024x1024 .bf16) (main_arg2 : FVec F S128x1024 .bf16) (main_arg3 : FVec F S2x128x1024 .bf16) (main_arg4 : FVec F S128x1024 .f32) (main_arg5 : FVec F S128x1024 .f32) (main_arg6 : FVec F S128x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_w_pool_out.lean ====
abbrev S1 : Shape := ⟨1, ![1]⟩
abbrev S512x1024 : Shape := ⟨2, ![512, 1024]⟩
abbrev S512x128 : Shape := ⟨2, ![512, 128]⟩
abbrev S2x512x128 : Shape := ⟨3, ![2, 512, 128]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S512x1024 .bf16) (main_arg2 : FVec F S512x128 .bf16) (main_arg3 : FVec F S2x512x128 .bf16) (main_arg4 : FVec F S512x128 .f32) (main_arg5 : FVec F S512x128 .f32) (main_arg6 : FVec F S512x128 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Pre_place_w_rnn_out.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S_ : Shape := ⟨0, ![]⟩

class Facts : Prop where
  shapeCasts_S1_S_ : S1.ShapeCasts S_

variable [Facts]

def fn {F : FTy → Type} [FloatOps F] (main_arg0 : IVec S1 32) (main_arg1 : FVec F S1024x1024 .bf16) (main_arg2 : FVec F S128x1024 .bf16) (main_arg3 : FVec F S2x128x1024 .bf16) (main_arg4 : FVec F S128x1024 .f32) (main_arg5 : FVec F S128x1024 .f32) (main_arg6 : FVec F S128x1024 .f32) : IVec S_ 1 :=
  let main_v0 : IVec S_ 32 := shapeCast S_ main_arg0 shapeCasts_S1_S_
  let main_c : IVec S_ 32 := constantI S_ 32 0#32
  let main_v1 : IVec S_ 1 := cmpi .sge main_v0 main_c
  let main_v2 : IVec S_ 32 := shapeCast S_ main_arg0 shapeCasts_S1_S_
  let main_c_0 : IVec S_ 32 := constantI S_ 32 8#32
  let main_v3 : IVec S_ 1 := cmpi .slt main_v2 main_c_0
  let main_v4 : IVec S_ 1 := andi main_v1 main_v3
  main_v4
-- ==== Up.lean ====
abbrev S4096x1024 : Shape := ⟨2, ![4096, 1024]⟩
abbrev S1024x5632 : Shape := ⟨2, ![1024, 5632]⟩
abbrev S5632x1024 : Shape := ⟨2, ![5632, 1024]⟩
abbrev S5632x512 : Shape := ⟨2, ![5632, 512]⟩
abbrev S4096x5632 : Shape := ⟨2, ![4096, 5632]⟩
abbrev S4096x2816 : Shape := ⟨2, ![4096, 2816]⟩
abbrev S512x1024 : Shape := ⟨2, ![512, 1024]⟩
abbrev S512x5632 : Shape := ⟨2, ![512, 5632]⟩
abbrev S512x2816 : Shape := ⟨2, ![512, 2816]⟩
abbrev S512x512 : Shape := ⟨2, ![512, 512]⟩
abbrev S768x512 : Shape := ⟨2, ![768, 512]⟩
abbrev S512x768 : Shape := ⟨2, ![512, 768]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S5632x1024, .f32⟩
  | .hbm, ⟨3, _⟩ => ⟨S5632x1024, .bf16⟩
  | .hbm, ⟨4, _⟩ => ⟨S5632x512, .bf16⟩
  | .hbm, ⟨5, _⟩ => ⟨S5632x512, .bf16⟩
  | .hbm, ⟨6, _⟩ => ⟨S4096x5632, .bf16⟩
  | .hbm, ⟨7, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S5632x512, .bf16⟩
  | .local _ .vmem, ⟨3, _⟩ => ⟨S5632x512, .bf16⟩
  | .local _ .vmem, ⟨4, _⟩ => ⟨S512x5632, .bf16⟩
  | .local _ .vmem, ⟨5, _⟩ => ⟨S512x5632, .bf16⟩
  | .local _ .vmem, ⟨6, _⟩ => ⟨S512x2816, .bf16⟩
  | .local _ .vmem, ⟨7, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4_0 : Ref sig .tc := ⟨.hbm, 6, rfl⟩
abbrev main_v4_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== UpRefIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x1024, .f32⟩
  | .hbm, ⟨3, _⟩ => ⟨S4096x5632, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x5632, .f32⟩
  | .hbm, ⟨29, _⟩ => ⟨S4096x5632, .bf16⟩
  | .hbm, ⟨30, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v4_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v4_1 : Ref sig .tc := ⟨.hbm, 17, rfl⟩
abbrev main_v4_0 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩

abbrev nD : Nat := 1
abbrev τ : Topo := Topo.v7x

variable {F : FTy → Type} [FloatOps F]
-- ==== Loss.lean ====
abbrev S4096x2816 : Shape := ⟨2, ![4096, 2816]⟩
abbrev S4096x1024 : Shape := ⟨2, ![4096, 1024]⟩
abbrev S2816x1024 : Shape := ⟨2, ![2816, 1024]⟩
abbrev S1024 : Shape := ⟨1, ![1024]⟩
abbrev S1x1024 : Shape := ⟨2, ![1, 1024]⟩
abbrev S1x1 : Shape := ⟨2, ![1, 1]⟩
abbrev S8x1024 : Shape := ⟨2, ![8, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x1024, .f32⟩
  | .hbm, ⟨3, _⟩ => ⟨S2816x1024, .f32⟩
  | .hbm, ⟨4, _⟩ => ⟨S1024, .f32⟩
  | .hbm, ⟨5, _⟩ => ⟨S2816x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S1x1, .f32⟩
  | .hbm, ⟨10, _⟩ => ⟨S8x1024, .f32⟩
  | .local _ .vmem, ⟨0, _⟩ => ⟨S512x2816, .bf16⟩
  | .local _ .vmem, ⟨1, _⟩ => ⟨S512x2816, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S2816x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1, .f32⟩
  | .local _ .vmem, ⟨13, _⟩ => ⟨S8x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S4096x2816 : Shape := ⟨2, ![4096, 2816]⟩
abbrev S4096x1024 : Shape := ⟨2, ![4096, 1024]⟩
abbrev S2816x1024 : Shape := ⟨2, ![2816, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1x1 : Shape := ⟨2, ![1, 1]⟩
abbrev S8x1024 : Shape := ⟨2, ![8, 1024]⟩

abbrev nBuf : Space → Nat
  | .hbm => 82
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S4096x1024, .f32⟩
  | .hbm, ⟨3, _⟩ => ⟨S2816x1024, .f32⟩
  | .hbm, ⟨4, _⟩ => ⟨S1024, .f32⟩
  | .hbm, ⟨5, _⟩ => ⟨S4096x2816, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S4096, .f32⟩
  | .hbm, ⟨46, _⟩ => ⟨S_, .f32⟩
  | .hbm, ⟨47, _⟩ => ⟨S4096, .f32⟩
  | .hbm, ⟨48, _⟩ => ⟨S4096, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S1x1, .f32⟩
  | .hbm, ⟨78, _⟩ => ⟨S1x1024, .f32⟩
  | .hbm, ⟨79, _⟩ => ⟨S_, .i32⟩
  | .hbm, ⟨80, _⟩ => ⟨S_, .f32⟩
  | .hbm, ⟨81, _⟩ => ⟨S8x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_14 : Ref sig .tc := ⟨.hbm, 66, rfl⟩
abbrev main_v46 : Ref sig .tc := ⟨.hbm, 67, rfl⟩
abbrev main_v47 : Ref sig .tc := ⟨.hbm, 68, rfl⟩
abbrev main_cst_15 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c : Ref sig .tc := ⟨.hbm, 79, rfl⟩
abbrev main_call0_v0 : Ref sig .tc := ⟨.hbm, 80, rfl⟩
abbrev main_v57 : Ref sig .tc := ⟨.hbm, 81, rfl⟩

abbrev nD : Nat := 1
abbrev τ : Topo := Topo.v7x

variable {F : FTy → Type} [FloatOps F]
-- ==== Down.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096x5632 : Shape := ⟨2, ![4096, 5632]⟩
abbrev S512x1024 : Shape := ⟨2, ![512, 1024]⟩
abbrev S512x5632 : Shape := ⟨2, ![512, 5632]⟩
abbrev S768x1024 : Shape := ⟨2, ![768, 1024]⟩
abbrev S512x768 : Shape := ⟨2, ![512, 768]⟩
abbrev S512x512 : Shape := ⟨2, ![512, 512]⟩

abbrev nBuf : Space → Nat
  | .hbm => 30
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x5632, .f32⟩
  | .hbm, ⟨27, _⟩ => ⟨S4096x5632, .bf16⟩
  | .hbm, ⟨28, _⟩ => ⟨S2816x1024, .bf16⟩
  | .hbm, ⟨29, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S512x5632, .bf16⟩
  | .local _ .vmem, ⟨3, _⟩ => ⟨S512x5632, .bf16⟩
  | .local _ .vmem, ⟨4, _⟩ => ⟨S2816x1024, .bf16⟩
  | .local _ .vmem, ⟨5, _⟩ => ⟨S512x5632, .bf16⟩
  | .local _ .vmem, ⟨6, _⟩ => ⟨S512x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownRefIdeal.lean ====
abbrev S4096x1024 : Shape := ⟨2, ![4096, 1024]⟩
abbrev S4096x2816 : Shape := ⟨2, ![4096, 2816]⟩
abbrev S2816x1024 : Shape := ⟨2, ![2816, 1024]⟩
abbrev S_ : Shape := ⟨0, ![]⟩
abbrev S4096x5632 : Shape := ⟨2, ![4096, 5632]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .f32⟩
  | .hbm, ⟨2, _⟩ => ⟨S4096x2816, .f32⟩
  | .hbm, ⟨3, _⟩ => ⟨S2816x1024, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x1024, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== BwdUp.lean ====
abbrev S4096x5632 : Shape := ⟨2, ![4096, 5632]⟩
abbrev S4096x1024 : Shape := ⟨2, ![4096, 1024]⟩
abbrev S1024x5632 : Shape := ⟨2, ![1024, 5632]⟩
abbrev S1x1024 : Shape := ⟨2, ![1, 1024]⟩
abbrev S1024x1024 : Shape := ⟨2, ![1024, 1024]⟩
abbrev S5632x1024 : Shape := ⟨2, ![5632, 1024]⟩
abbrev S5632x512 : Shape := ⟨2, ![5632, 512]⟩
abbrev S8x1024 : Shape := ⟨2, ![8, 1024]⟩
abbrev S512x5632 : Shape := ⟨2, ![512, 5632]⟩
abbrev S512x1024 : Shape := ⟨2, ![512, 1024]⟩
abbrev S512x2816 : Shape := ⟨2, ![512, 2816]⟩
abbrev S2816x512 : Shape := ⟨2, ![2816, 512]⟩
abbrev S512x512 : Shape := ⟨2, ![512, 512]⟩
abbrev S512 : Shape := ⟨1, ![512]⟩
abbrev S512x1 : Shape := ⟨2, ![512, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S4096x1024, .f32⟩
  | .hbm, ⟨3, _⟩ => ⟨S1024x5632, .f32⟩
  | .hbm, ⟨4, _⟩ => ⟨S1x1024, .f32⟩
  | .hbm, ⟨5, _⟩ => ⟨S1024x1024, .f32⟩
  | .hbm, ⟨6, _⟩ => ⟨S5632x1024, .f32⟩
  | .hbm, ⟨7, _⟩ => ⟨S5632x1024, .bf16⟩
  | .hbm, ⟨8, _⟩ => ⟨S5632x512, .bf16⟩
  | .hbm, ⟨9, _⟩ => ⟨S5632x512, .bf16⟩
  | .hbm, ⟨10, _⟩ => ⟨S1024x1024, .bf16⟩
  | .hbm, ⟨11, _⟩ => ⟨S4096x1024, .f32⟩
  | .hbm, ⟨12, _⟩ => ⟨S4096x1024, .bf16⟩
  | .hbm, ⟨13, _⟩ => ⟨S4096x1024, .bf16⟩
  | .hbm, ⟨14, _⟩ => ⟨S8x1024, .f32⟩
  | .local _ .vmem, ⟨0, _⟩ => ⟨S512x5632, .bf16⟩
  | .local _ .vmem, ⟨1, _⟩ => ⟨S512x5632, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S5632x512, .bf16⟩
  | .local _ .vmem, ⟨7, _⟩ => ⟨S5632x512, .bf16⟩
  | .local _ .vmem, ⟨8, _⟩ => ⟨S1x1024, .f32⟩
  | .local _ .vmem, ⟨9, _⟩ => ⟨S1024x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S8x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S5632x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== BwdUpRefIdeal.lean ====
abbrev S4096x5632 : Shape := ⟨2, ![4096, 5632]⟩
abbrev S4096x1024 : Shape := ⟨2, ![4096, 1024]⟩
abbrev S1024x5632 : Shape := ⟨2, ![1024, 5632]⟩
abbrev S1x1024 : Shape := ⟨2, ![1, 1024]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 61
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S4096x1024, .f32⟩
  | .hbm, ⟨3, _⟩ => ⟨S1024x5632, .f32⟩
  | .hbm, ⟨4, _⟩ => ⟨S1x1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x5632, .f32⟩
  | .hbm, ⟨26, _⟩ => ⟨S4096x5632, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S_, .f32⟩
  | .hbm, ⟨46, _⟩ => ⟨S4096, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .bf16⟩
  | .hbm, ⟨57, _⟩ => ⟨S4096x1024, .bf16⟩
  | .hbm, ⟨58, _⟩ => ⟨S_, .i32⟩
  | .hbm, ⟨59, _⟩ => ⟨S_, .f32⟩
  | .hbm, ⟨60, _⟩ => ⟨S8x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_4 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_c : Ref sig .tc := ⟨.hbm, 58, rfl⟩
abbrev main_call0_v0 : Ref sig .tc := ⟨.hbm, 59, rfl⟩
abbrev main_v43 : Ref sig .tc := ⟨.hbm, 60, rfl⟩

abbrev nD : Nat := 1
abbrev τ : Topo := Topo.v7x

variable {F : FTy → Type} [FloatOps F]
-- ==== InBwd.lean ====
abbrev S4096x4608 : Shape := ⟨2, ![4096, 4608]⟩
abbrev S4096x1024 : Shape := ⟨2, ![4096, 1024]⟩
abbrev S1x1024 : Shape := ⟨2, ![1, 1024]⟩
abbrev S1024x4608 : Shape := ⟨2, ![1024, 4608]⟩
abbrev S4608x1024 : Shape := ⟨2, ![4608, 1024]⟩
abbrev S8x1024 : Shape := ⟨2, ![8, 1024]⟩
abbrev S512x4608 : Shape := ⟨2, ![512, 4608]⟩
abbrev S512x1024 : Shape := ⟨2, ![512, 1024]⟩
abbrev S512x1536 : Shape := ⟨2, ![512, 1536]⟩
abbrev S1536x1024 : Shape := ⟨2, ![1536, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 11
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4608, .f32⟩
  | .hbm, ⟨5, _⟩ => ⟨S4608x1024, .f32⟩
  | .hbm, ⟨6, _⟩ => ⟨S4608x1024, .bf16⟩
  | .hbm, ⟨7, _⟩ => ⟨S4096x1024, .f32⟩
  | .hbm, ⟨8, _⟩ => ⟨S8x1024, .f32⟩
  | .local _ .vmem, ⟨0, _⟩ => ⟨S512x4608, .bf16⟩
  | .local _ .vmem, ⟨1, _⟩ => ⟨S512x4608, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S4608x1024, .bf16⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4608x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InBwdRefIdeal.lean ====
abbrev S4096x4608 : Shape := ⟨2, ![4096, 4608]⟩
abbrev S4096x1024 : Shape := ⟨2, ![4096, 1024]⟩
abbrev S1x1024 : Shape := ⟨2, ![1, 1024]⟩
abbrev S1024x4608 : Shape := ⟨2, ![1024, 4608]⟩
abbrev S_ : Shape := ⟨0, ![]⟩
abbrev S4096 : Shape := ⟨1, ![4096]⟩
abbrev S4096x1 : Shape := ⟨2, ![4096, 1]⟩
abbrev S1024 : Shape := ⟨1, ![1024]⟩
abbrev S8x1024 : Shape := ⟨2, ![8, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4096x4608, .bf16⟩
  | .hbm, ⟨1, _⟩ => ⟨S4096x1024, .f32⟩
  | .hbm, ⟨2, _⟩ => ⟨S4096x1024, .f32⟩
  | .hbm, ⟨3, _⟩ => ⟨S1x1024, .f32⟩
  | .hbm, ⟨4, _⟩ => ⟨S1024x4608, .f32⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x4608, .f32⟩
  | .hbm, ⟨25, _⟩ => ⟨S4096x4608, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .i32⟩
  | .hbm, ⟨52, _⟩ => ⟨S_, .f32⟩
  | .hbm, ⟨53, _⟩ => ⟨S8x1024, .f32⟩
  | _, _ => ⟨S4096x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_c : Ref sig .tc := ⟨.hbm, 51, rfl⟩
abbrev main_call0_v0 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Merge.lean ====
abbrev S4096x1024 : Shape := ⟨2, ![4096, 1024]⟩
abbrev S4096x4608 : Shape := ⟨2, ![4096, 4608]⟩
abbrev S1024x1024 : Shape := ⟨2, ![1024, 1024]⟩
abbrev S1x1024 : Shape := ⟨2, ![1, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 10
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1x1024, .f32⟩
  | .hbm, ⟨6, _⟩ => ⟨S1024x1024, .bf16⟩
  | .hbm, ⟨7, _⟩ => ⟨S4096x1024, .bf16⟩
  | .hbm, ⟨8, _⟩ => ⟨S4096x1024, .f32⟩
  | .hbm, ⟨9, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== MergeRefIdeal.lean ====
abbrev S4096x1024 : Shape := ⟨2, ![4096, 1024]⟩
abbrev S4096x4608 : Shape := ⟨2, ![4096, 4608]⟩
abbrev S1024x1024 : Shape := ⟨2, ![1024, 1024]⟩
abbrev S1x1024 : Shape := ⟨2, ![1, 1024]⟩
abbrev S4096x2048 : Shape := ⟨2, ![4096, 2048]⟩
abbrev S4096x2x1024 : Shape := ⟨3, ![4096, 2, 1024]⟩
abbrev S_ : Shape := ⟨0, ![]⟩
abbrev S4096x1x1024 : Shape := ⟨3, ![4096, 1, 1024]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S4096x1024, .bf16⟩
  | .hbm, ⟨3, _⟩ => ⟨S4096x1024, .bf16⟩
  | .hbm, ⟨4, _⟩ => ⟨S1024x1024, .f32⟩
  | .hbm, ⟨5, _⟩ => ⟨S1x1024, .f32⟩
  | .hbm, ⟨6, _⟩ => ⟨S4096x2048, .f32⟩
  | .hbm, ⟨7, _⟩ => ⟨S4096x2x1024, .f32⟩
  | .hbm, ⟨8, _⟩ => ⟨S4096x2x1024, .f32⟩
  | .hbm, ⟨9, _⟩ => ⟨S4096x2x1024, .f32⟩
  | .hbm, ⟨10, _⟩ => ⟨S_, .f32⟩
  | .hbm, ⟨11, _⟩ => ⟨S4096x2x1024, .f32⟩
  | .hbm, ⟨12, _⟩ => ⟨S4096x2x1024, .f32⟩
  | .hbm, ⟨13, _⟩ => ⟨S_, .f32⟩
  | .hbm, ⟨14, _⟩ => ⟨S4096x2x1024, .f32⟩
  | .hbm, ⟨15, _⟩ => ⟨S4096x2x1024, .f32⟩
  | .hbm, ⟨16, _⟩ => ⟨S4096x1x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]
-- ==== WFfnOut.lean ====
abbrev S4096x2816 : Shape := ⟨2, ![4096, 2816]⟩
abbrev S4096x1024 : Shape := ⟨2, ![4096, 1024]⟩
abbrev S2816x1024 : Shape := ⟨2, ![2816, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WFfnOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WFfnIn.lean ====
abbrev S4096x1024 : Shape := ⟨2, ![4096, 1024]⟩
abbrev S4096x5632 : Shape := ⟨2, ![4096, 5632]⟩
abbrev S5632x1024 : Shape := ⟨2, ![5632, 1024]⟩
abbrev S4096x1408 : Shape := ⟨2, ![4096, 1408]⟩
abbrev S4096x512 : Shape := ⟨2, ![4096, 512]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S5632x1024, .bf16⟩
  | .local _ .vmem, ⟨0, _⟩ => ⟨S4096x1408, .bf16⟩
  | .local _ .vmem, ⟨1, _⟩ => ⟨S4096x1408, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .bf16⟩
  | .local _ .vmem, ⟨5, _⟩ => ⟨S1408x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WFfnInRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S_, .f32⟩
  | .hbm, ⟨3, _⟩ => ⟨S1024x5632, .f32⟩
  | .hbm, ⟨4, _⟩ => ⟨S4096x1024, .f32⟩
  | .hbm, ⟨5, _⟩ => ⟨S4096x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S1024x5632, .bf16⟩
  | .hbm, ⟨10, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WO.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WORefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WPoolOut.lean ====
abbrev S4096x512 : Shape := ⟨2, ![4096, 512]⟩
abbrev S4096x1024 : Shape := ⟨2, ![4096, 1024]⟩
abbrev S512x1024 : Shape := ⟨2, ![512, 1024]⟩
abbrev S4096x256 : Shape := ⟨2, ![4096, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S512x1024, .bf16⟩
  | .local _ .vmem, ⟨0, _⟩ => ⟨S4096x512, .bf16⟩
  | .local _ .vmem, ⟨1, _⟩ => ⟨S4096x256, .bf16⟩
  | .local _ .vmem, ⟨2, _⟩ => ⟨S4096x256, .bf16⟩
  | .local _ .vmem, ⟨3, _⟩ => ⟨S512x256, .bf16⟩
  | .local _ .vmem, ⟨4, _⟩ => ⟨S512x256, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WPoolOutRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x512, .f32⟩
  | .hbm, ⟨5, _⟩ => ⟨S4096x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WRnnOut.lean ====
abbrev S4096x1024 : Shape := ⟨2, ![4096, 1024]⟩
abbrev S1024x1024 : Shape := ⟨2, ![1024, 1024]⟩
abbrev S4096x256 : Shape := ⟨2, ![4096, 256]⟩
abbrev S1024x256 : Shape := ⟨2, ![1024, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x1024, .bf16⟩
  | .local _ .vmem, ⟨1, _⟩ => ⟨S4096x256, .bf16⟩
  | .local _ .vmem, ⟨2, _⟩ => ⟨S4096x256, .bf16⟩
  | .local _ .vmem, ⟨3, _⟩ => ⟨S1024x256, .bf16⟩
  | .local _ .vmem, ⟨4, _⟩ => ⟨S1024x256, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WRnnOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== WIn.lean ====
abbrev S4096x1024 : Shape := ⟨2, ![4096, 1024]⟩
abbrev S4096x4608 : Shape := ⟨2, ![4096, 4608]⟩
abbrev S4608x1024 : Shape := ⟨2, ![4608, 1024]⟩
abbrev S4096x1152 : Shape := ⟨2, ![4096, 1152]⟩
abbrev S1152x1024 : Shape := ⟨2, ![1152, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4608x1024, .bf16⟩
  | .local _ .vmem, ⟨0, _⟩ => ⟨S4096x1152, .bf16⟩
  | .local _ .vmem, ⟨1, _⟩ => ⟨S4096x1152, .bf16⟩
  | .local _ .vmem, ⟨2, _⟩ => ⟨S4096x1024, .bf16⟩
  | .local _ .vmem, ⟨3, _⟩ => ⟨S1152x1024, .bf16⟩
  | .local _ .vmem, ⟨4, _⟩ => ⟨S1152x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== WInRefIdeal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S_, .f32⟩
  | .hbm, ⟨3, _⟩ => ⟨S1024x4608, .f32⟩
  | .hbm, ⟨4, _⟩ => ⟨S4096x1024, .f32⟩
  | .hbm, ⟨5, _⟩ => ⟨S4096x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | .hbm, ⟨10, _⟩ => ⟨S4608x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FIn.lean ====
abbrev S1 : Shape := ⟨1, ![1]⟩
abbrev S4608x1024 : Shape := ⟨2, ![4608, 1024]⟩
abbrev S576x1024 : Shape := ⟨2, ![576, 1024]⟩
abbrev S2x576x1024 : Shape := ⟨3, ![2, 576, 1024]⟩
abbrev S1024x576 : Shape := ⟨2, ![1024, 576]⟩
abbrev S144x1024 : Shape := ⟨2, ![144, 1024]⟩
abbrev S2x144x1024 : Shape := ⟨3, ![2, 144, 1024]⟩
abbrev S1x144x1024 : Shape := ⟨3, ![1, 144, 1024]⟩

abbrev nBuf : Space → Nat
  | .hbm => 13
  | .vmem => 20
  | .smem => 1
  | _ => 0

abbrev bufTy : (tb : Table) → Fin (tcTables nBuf tb) → BufTy
  | .hbm, ⟨0, _⟩ => ⟨S4608x1024, .bf16⟩
  | .hbm, ⟨1, _⟩ => ⟨S576x1024, .bf16⟩
  | .hbm, ⟨2, _⟩ => ⟨S2x576x1024, .bf16⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S576x1024, .f32⟩
  | .hbm, ⟨7, _⟩ => ⟨S576x1024, .f32⟩
  | .hbm, ⟨8, _⟩ => ⟨S576x1024, .f32⟩
  | .hbm, ⟨9, _⟩ => ⟨S576x1024, .f32⟩
  | .hbm, ⟨10, _⟩ => ⟨S576x1024, .f32⟩
  | .hbm, ⟨11, _⟩ => ⟨S576x1024, .f32⟩
  | .hbm, ⟨12, _⟩ => ⟨S576x1024, .f32⟩
  | .local _ .vmem, ⟨0, _⟩ => ⟨S144x1024, .bf16⟩
  | .local _ .vmem, ⟨1, _⟩ => ⟨S144x1024, .bf16⟩
  | .local _ .vmem, ⟨2, _⟩ => ⟨S144x1024, .bf16⟩
  | .local _ .vmem, ⟨3, _⟩ => ⟨S144x1024, .bf16⟩
  | .local _ .vmem, ⟨4, _⟩ => ⟨S2x144x1024, .bf16⟩
  | .local _ .vmem, ⟨5, _⟩ => ⟨S2x144x1024, .bf16⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | .local _ .vmem, ⟨16, _⟩ => ⟨S144x1024, .f32⟩
  | .local _ .vmem, ⟨17, _⟩ => ⟨S144x1024, .f32⟩
  | .local _ .vmem, ⟨18, _⟩ => ⟨S144x1024, .f32⟩
  | .local _ .vmem, ⟨19, _⟩ => ⟨S144x1024, .f32⟩
  | .local _ .smem, ⟨0, _⟩ => ⟨S1, .i32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S144x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FInIdeal.lean ====
abbrev S1 : Shape := ⟨1, ![1]⟩
abbrev S4608x1024 : Shape := ⟨2, ![4608, 1024]⟩
abbrev S576x1024 : Shape := ⟨2, ![576, 1024]⟩
abbrev S2x576x1024 : Shape := ⟨3, ![2, 576, 1024]⟩
abbrev S1024x576 : Shape := ⟨2, ![1024, 576]⟩
abbrev S144x1024 : Shape := ⟨2, ![144, 1024]⟩
abbrev S2x144x1024 : Shape := ⟨3, ![2, 144, 1024]⟩
abbrev S1x144x1024 : Shape := ⟨3, ![1, 144, 1024]⟩

abbrev nBuf : Space → Nat
  | .hbm => 13
  | .vmem => 20
  | .smem => 1
  | _ => 0

abbrev bufTy : (tb : Table) → Fin (tcTables nBuf tb) → BufTy
  | .hbm, ⟨0, _⟩ => ⟨S4608x1024, .bf16⟩
  | .hbm, ⟨1, _⟩ => ⟨S576x1024, .bf16⟩
  | .hbm, ⟨2, _⟩ => ⟨S2x576x1024, .bf16⟩
  | .hbm, ⟨3, _⟩ => ⟨S1024x576, .f32⟩
  | .hbm, ⟨4, _⟩ => ⟨S1024x576, .f32⟩
  | .hbm, ⟨5, _⟩ => ⟨S1024x576, .f32⟩
  | .hbm, ⟨6, _⟩ => ⟨S576x1024, .f32⟩
  | .hbm, ⟨7, _⟩ => ⟨S576x1024, .f32⟩
  | .hbm, ⟨8, _⟩ => ⟨S576x1024, .f32⟩
  | .hbm, ⟨9, _⟩ => ⟨S576x1024, .f32⟩
  | .hbm, ⟨10, _⟩ => ⟨S576x1024, .f32⟩
  | .hbm, ⟨11, _⟩ => ⟨S576x1024, .f32⟩
  | .hbm, ⟨12, _⟩ => ⟨S576x1024, .f32⟩
  | .local _ .vmem, ⟨0, _⟩ => ⟨S144x1024, .bf16⟩
  | .local _ .vmem, ⟨1, _⟩ => ⟨S144x1024, .bf16⟩
  | .local _ .vmem, ⟨2, _⟩ => ⟨S144x1024, .bf16⟩
  | .local _ .vmem, ⟨3, _⟩ => ⟨S144x1024, .bf16⟩
  | .local _ .vmem, ⟨4, _⟩ => ⟨S2x144x1024, .bf16⟩
  | .local _ .vmem, ⟨5, _⟩ => ⟨S2x144x1024, .bf16⟩
  | .local _ .vmem, ⟨6, _⟩ => ⟨S144x1024, .f32⟩
  | .local _ .vmem, ⟨7, _⟩ => ⟨S144x1024, .f32⟩
  | .local _ .vmem, ⟨8, _⟩ => ⟨S144x1024, .f32⟩
  | .local _ .vmem, ⟨9, _⟩ => ⟨S144x1024, .f32⟩
  | .local _ .vmem, ⟨10, _⟩ => ⟨S144x1024, .f32⟩
  | .local _ .vmem, ⟨11, _⟩ => ⟨S144x1024, .f32⟩
  | .local _ .vmem, ⟨12, _⟩ => ⟨S144x1024, .f32⟩
  | .local _ .vmem, ⟨13, _⟩ => ⟨S144x1024, .f32⟩
  | .local _ .vmem, ⟨14, _⟩ => ⟨S144x1024, .f32⟩
  | .local _ .vmem, ⟨15, _⟩ => ⟨S144x1024, .f32⟩
  | .local _ .vmem, ⟨16, _⟩ => ⟨S144x1024, .f32⟩
  | .local _ .vmem, ⟨17, _⟩ => ⟨S144x1024, .f32⟩
  | .local _ .vmem, ⟨18, _⟩ => ⟨S144x1024, .f32⟩
  | .local _ .vmem, ⟨19, _⟩ => ⟨S144x1024, .f32⟩
  | .local _ .smem, ⟨0, _⟩ => ⟨S1, .i32⟩
  | _, _ => ⟨S4608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x144x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S144x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FInRefIdeal.lean ====
abbrev S1 : Shape := ⟨1, ![1]⟩
abbrev S4608x1024 : Shape := ⟨2, ![4608, 1024]⟩
abbrev S576x1024 : Shape := ⟨2, ![576, 1024]⟩
abbrev S2x576x1024 : Shape := ⟨3, ![2, 576, 1024]⟩
abbrev S1024x576 : Shape := ⟨2, ![1024, 576]⟩
abbrev S8x576x1024 : Shape := ⟨3, ![8, 576, 1024]⟩
abbrev S8 : Shape := ⟨1, ![8]⟩
abbrev S8x1x1 : Shape := ⟨3, ![8, 1, 1]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S1, .i32⟩
  | .hbm, ⟨1, _⟩ => ⟨S4608x1024, .bf16⟩
  | .hbm, ⟨2, _⟩ => ⟨S576x1024, .bf16⟩
  | .hbm, ⟨3, _⟩ => ⟨S2x576x1024, .bf16⟩
  | .hbm, ⟨4, _⟩ => ⟨S1024x576, .f32⟩
  | .hbm, ⟨5, _⟩ => ⟨S1024x576, .f32⟩
  | .hbm, ⟨6, _⟩ => ⟨S1024x576, .f32⟩
  | .hbm, ⟨7, _⟩ => ⟨S4608x1024, .f32⟩
  | .hbm, ⟨8, _⟩ => ⟨S8x576x1024, .f32⟩
  | .hbm, ⟨9, _⟩ => ⟨S8, .i32⟩
  | .hbm, ⟨10, _⟩ => ⟨S8x1x1, .i32⟩
  | .hbm, ⟨11, _⟩ => ⟨S_, .i32⟩
  | .hbm, ⟨12, _⟩ => ⟨S8x1x1, .i32⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x576x1024, .i1⟩
  | .hbm, ⟨17, _⟩ => ⟨S8x576x1024, .f32⟩
  | .hbm, ⟨18, _⟩ => ⟨S8x576x1024, .f32⟩
  | .hbm, ⟨19, _⟩ => ⟨S_, .f32⟩
  | .hbm, ⟨20, _⟩ => ⟨S576x1024, .f32⟩
  | .hbm, ⟨21, _⟩ => ⟨S576x1024, .f32⟩
  | .hbm, ⟨22, _⟩ => ⟨S576x1024, .f32⟩
  | .hbm, ⟨23, _⟩ => ⟨S2x576x1024, .f32⟩
  | .hbm, ⟨24, _⟩ => ⟨S_, .f32⟩
  | .hbm, ⟨25, _⟩ => ⟨S576x1024, .f32⟩
  | .hbm, ⟨26, _⟩ => ⟨S576x1024, .f32⟩
  | .hbm, ⟨27, _⟩ => ⟨S1024x576, .f32⟩
  | .hbm, ⟨28, _⟩ => ⟨S_, .f32⟩
  | .hbm, ⟨29, _⟩ => ⟨S1024x576, .f32⟩
  | .hbm, ⟨30, _⟩ => ⟨S1024x576, .f32⟩
  | .hbm, ⟨31, _⟩ => ⟨S_, .f32⟩
  | .hbm, ⟨32, _⟩ => ⟨S1024x576, .f32⟩
  | .hbm, ⟨33, _⟩ => ⟨S1024x576, .f32⟩
  | .hbm, ⟨34, _⟩ => ⟨S1024x576, .f32⟩
  | .hbm, ⟨35, _⟩ => ⟨S_, .f32⟩
  | .hbm, ⟨36, _⟩ => ⟨S1024x576, .f32⟩
  | .hbm, ⟨37, _⟩ => ⟨S1024x576, .f32⟩
  | .hbm, ⟨38, _⟩ => ⟨S1024x576, .f32⟩
  | .hbm, ⟨39, _⟩ => ⟨S_, .f32⟩
  | .hbm, ⟨40, _⟩ => ⟨S1024x576, .f32⟩
  | .hbm, ⟨41, _⟩ => ⟨S1024x576, .f32⟩
  | .hbm, ⟨42, _⟩ => ⟨S1024x576, .f32⟩
  | .hbm, ⟨43, _⟩ => ⟨S_, .f32⟩
  | .hbm, ⟨44, _⟩ => ⟨S1024x576, .f32⟩
  | .hbm, ⟨45, _⟩ => ⟨S1024x576, .f32⟩
  | .hbm, ⟨46, _⟩ => ⟨S_, .f32⟩
  | .hbm, ⟨47, _⟩ => ⟨S1024x576, .f32⟩
  | .hbm, ⟨48, _⟩ => ⟨S1024x576, .f32⟩
  | .hbm, ⟨49, _⟩ => ⟨S1024x576, .f32⟩
  | .hbm, ⟨50, _⟩ => ⟨S_, .f32⟩
  | .hbm, ⟨51, _⟩ => ⟨S1024x576, .f32⟩
  | .hbm, ⟨52, _⟩ => ⟨S1024x576, .f32⟩
  | .hbm, ⟨53, _⟩ => ⟨S1024x576, .f32⟩
  | .hbm, ⟨54, _⟩ => ⟨S_, .f32⟩
  | .hbm, ⟨55, _⟩ => ⟨S1024x576, .f32⟩
  | .hbm, ⟨56, _⟩ => ⟨S1024x576, .f32⟩
  | .hbm, ⟨57, _⟩ => ⟨S1024x576, .f32⟩
  | .hbm, ⟨58, _⟩ => ⟨S_, .f32⟩
  | .hbm, ⟨59, _⟩ => ⟨S1024x576, .f32⟩
  | .hbm, ⟨60, _⟩ => ⟨S1024x576, .f32⟩
  | .hbm, ⟨61, _⟩ => ⟨S576x1024, .f32⟩
  | .hbm, ⟨62, _⟩ => ⟨S576x1024, .f32⟩
  | .hbm, ⟨63, _⟩ => ⟨S576x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== FPoolOut.lean ====
abbrev S1 : Shape := ⟨1, ![1]⟩
abbrev S512x1024 : Shape := ⟨2, ![512, 1024]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 10
  | .vmem => 10
  | .smem => 1
  | _ => 0

abbrev bufTy : (tb : Table) → Fin (tcTables nBuf tb) → BufTy
  | .hbm, ⟨0, _⟩ => ⟨S512x1024, .bf16⟩
  | .hbm, ⟨1, _⟩ => ⟨S512x128, .bf16⟩
  | .hbm, ⟨2, _⟩ => ⟨S2x512x128, .bf16⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S512x128, .bf16⟩
  | .local _ .vmem, ⟨1, _⟩ => ⟨S512x128, .bf16⟩
  | .local _ .vmem, ⟨2, _⟩ => ⟨S2x512x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .smem, ⟨0, _⟩ => ⟨S1, .i32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FPoolOutIdeal.lean ====
abbrev S1 : Shape := ⟨1, ![1]⟩
abbrev S512x1024 : Shape := ⟨2, ![512, 1024]⟩
abbrev S512x128 : Shape := ⟨2, ![512, 128]⟩
abbrev S2x512x128 : Shape := ⟨3, ![2, 512, 128]⟩
abbrev S1x512x128 : Shape := ⟨3, ![1, 512, 128]⟩

abbrev nBuf : Space → Nat
  | .hbm => 10
  | .vmem => 10
  | .smem => 1
  | _ => 0

abbrev bufTy : (tb : Table) → Fin (tcTables nBuf tb) → BufTy
  | .hbm, ⟨0, _⟩ => ⟨S512x1024, .bf16⟩
  | .hbm, ⟨1, _⟩ => ⟨S512x128, .bf16⟩
  | .hbm, ⟨2, _⟩ => ⟨S2x512x128, .bf16⟩
  | .hbm, ⟨3, _⟩ => ⟨S512x128, .f32⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S512x128, .bf16⟩
  | .local _ .vmem, ⟨1, _⟩ => ⟨S512x128, .bf16⟩
  | .local _ .vmem, ⟨2, _⟩ => ⟨S2x512x128, .bf16⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .smem, ⟨0, _⟩ => ⟨S1, .i32⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S512x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S512x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S512x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FPoolOutRefIdeal.lean ====
abbrev S1 : Shape := ⟨1, ![1]⟩
abbrev S512x1024 : Shape := ⟨2, ![512, 1024]⟩
abbrev S512x128 : Shape := ⟨2, ![512, 128]⟩
abbrev S2x512x128 : Shape := ⟨3, ![2, 512, 128]⟩
abbrev S512x8x128 : Shape := ⟨3, ![512, 8, 128]⟩
abbrev S8 : Shape := ⟨1, ![8]⟩
abbrev S8x1 : Shape := ⟨2, ![8, 1]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S512x1024, .bf16⟩
  | .hbm, ⟨2, _⟩ => ⟨S512x128, .bf16⟩
  | .hbm, ⟨3, _⟩ => ⟨S2x512x128, .bf16⟩
  | .hbm, ⟨4, _⟩ => ⟨S512x128, .f32⟩
  | .hbm, ⟨5, _⟩ => ⟨S512x128, .f32⟩
  | .hbm, ⟨6, _⟩ => ⟨S512x128, .f32⟩
  | .hbm, ⟨7, _⟩ => ⟨S512x1024, .f32⟩
  | .hbm, ⟨8, _⟩ => ⟨S512x8x128, .f32⟩
  | .hbm, ⟨9, _⟩ => ⟨S8, .i32⟩
  | .hbm, ⟨10, _⟩ => ⟨S8x1, .i32⟩
  | .hbm, ⟨11, _⟩ => ⟨S_, .i32⟩
  | .hbm, ⟨12, _⟩ => ⟨S8x1, .i32⟩
  | .hbm, ⟨13, _⟩ => ⟨S8x1, .i1⟩
  | .hbm, ⟨14, _⟩ => ⟨S_, .f32⟩
  | .hbm, ⟨15, _⟩ => ⟨S_, .f32⟩
  | .hbm, ⟨16, _⟩ => ⟨S512x8x128, .i1⟩
  | .hbm, ⟨17, _⟩ => ⟨S512x8x128, .f32⟩
  | .hbm, ⟨18, _⟩ => ⟨S512x8x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S2x512x128, .f32⟩
  | .hbm, ⟨24, _⟩ => ⟨S_, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | .hbm, ⟨45, _⟩ => ⟨S_, .f32⟩
  | .hbm, ⟨46, _⟩ => ⟨S512x128, .f32⟩
  | .hbm, ⟨47, _⟩ => ⟨S512x128, .f32⟩
  | .hbm, ⟨48, _⟩ => ⟨S512x128, .f32⟩
  | .hbm, ⟨49, _⟩ => ⟨S_, .f32⟩
  | .hbm, ⟨50, _⟩ => ⟨S512x128, .f32⟩
  | .hbm, ⟨51, _⟩ => ⟨S512x128, .f32⟩
  | .hbm, ⟨52, _⟩ => ⟨S512x128, .f32⟩
  | .hbm, ⟨53, _⟩ => ⟨S_, .f32⟩
  | .hbm, ⟨54, _⟩ => ⟨S512x128, .f32⟩
  | .hbm, ⟨55, _⟩ => ⟨S512x128, .f32⟩
  | .hbm, ⟨56, _⟩ => ⟨S512x128, .f32⟩
  | .hbm, ⟨57, _⟩ => ⟨S_, .f32⟩
  | .hbm, ⟨58, _⟩ => ⟨S512x128, .f32⟩
  | .hbm, ⟨59, _⟩ => ⟨S512x128, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== FRnnOut.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S1x128x1024 : Shape := ⟨3, ![1, 128, 1024]⟩

abbrev nBuf : Space → Nat
  | .hbm => 10
  | .vmem => 10
  | .smem => 1
  | _ => 0

abbrev bufTy : (tb : Table) → Fin (tcTables nBuf tb) → BufTy
  | .hbm, ⟨0, _⟩ => ⟨S1024x1024, .bf16⟩
  | .hbm, ⟨1, _⟩ => ⟨S128x1024, .bf16⟩
  | .hbm, ⟨2, _⟩ => ⟨S2x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .bf16⟩
  | .local _ .vmem, ⟨1, _⟩ => ⟨S128x1024, .bf16⟩
  | .local _ .vmem, ⟨2, _⟩ => ⟨S2x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FRnnOutIdeal.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S1x128x1024 : Shape := ⟨3, ![1, 128, 1024]⟩

abbrev nBuf : Space → Nat
  | .hbm => 10
  | .vmem => 10
  | .smem => 1
  | _ => 0

abbrev bufTy : (tb : Table) → Fin (tcTables nBuf tb) → BufTy
  | .hbm, ⟨0, _⟩ => ⟨S1024x1024, .bf16⟩
  | .hbm, ⟨1, _⟩ => ⟨S128x1024, .bf16⟩
  | .hbm, ⟨2, _⟩ => ⟨S2x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .bf16⟩
  | .local _ .vmem, ⟨1, _⟩ => ⟨S128x1024, .bf16⟩
  | .local _ .vmem, ⟨2, _⟩ => ⟨S2x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FRnnOutRefIdeal.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S8x128x1024 : Shape := ⟨3, ![8, 128, 1024]⟩
abbrev S8 : Shape := ⟨1, ![8]⟩
abbrev S8x1x1 : Shape := ⟨3, ![8, 1, 1]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1024, .bf16⟩
  | .hbm, ⟨2, _⟩ => ⟨S128x1024, .bf16⟩
  | .hbm, ⟨3, _⟩ => ⟨S2x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S1024x1024, .f32⟩
  | .hbm, ⟨8, _⟩ => ⟨S8x128x1024, .f32⟩
  | .hbm, ⟨9, _⟩ => ⟨S8, .i32⟩
  | .hbm, ⟨10, _⟩ => ⟨S8x1x1, .i32⟩
  | .hbm, ⟨11, _⟩ => ⟨S_, .i32⟩
  | .hbm, ⟨12, _⟩ => ⟨S8x1x1, .i32⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x128x1024, .i1⟩
  | .hbm, ⟨17, _⟩ => ⟨S8x128x1024, .f32⟩
  | .hbm, ⟨18, _⟩ => ⟨S8x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S2x128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== FO.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S1x128x1024 : Shape := ⟨3, ![1, 128, 1024]⟩

abbrev nBuf : Space → Nat
  | .hbm => 10
  | .vmem => 10
  | .smem => 1
  | _ => 0

abbrev bufTy : (tb : Table) → Fin (tcTables nBuf tb) → BufTy
  | .hbm, ⟨0, _⟩ => ⟨S1024x1024, .bf16⟩
  | .hbm, ⟨1, _⟩ => ⟨S128x1024, .bf16⟩
  | .hbm, ⟨2, _⟩ => ⟨S2x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .bf16⟩
  | .local _ .vmem, ⟨1, _⟩ => ⟨S128x1024, .bf16⟩
  | .local _ .vmem, ⟨2, _⟩ => ⟨S2x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FOIdeal.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S1x128x1024 : Shape := ⟨3, ![1, 128, 1024]⟩

abbrev nBuf : Space → Nat
  | .hbm => 10
  | .vmem => 10
  | .smem => 1
  | _ => 0

abbrev bufTy : (tb : Table) → Fin (tcTables nBuf tb) → BufTy
  | .hbm, ⟨0, _⟩ => ⟨S1024x1024, .bf16⟩
  | .hbm, ⟨1, _⟩ => ⟨S128x1024, .bf16⟩
  | .hbm, ⟨2, _⟩ => ⟨S2x128x1024, .bf16⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S128x1024, .bf16⟩
  | .local _ .vmem, ⟨1, _⟩ => ⟨S128x1024, .bf16⟩
  | .local _ .vmem, ⟨2, _⟩ => ⟨S2x128x1024, .bf16⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .vmem, ⟨9, _⟩ => ⟨S128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FORefIdeal.lean ====
abbrev S1 : Shape := ⟨1, ![1]⟩
abbrev S1024x1024 : Shape := ⟨2, ![1024, 1024]⟩
abbrev S128x1024 : Shape := ⟨2, ![128, 1024]⟩
abbrev S2x128x1024 : Shape := ⟨3, ![2, 128, 1024]⟩
abbrev S8x128x1024 : Shape := ⟨3, ![8, 128, 1024]⟩
abbrev S8 : Shape := ⟨1, ![8]⟩
abbrev S8x1x1 : Shape := ⟨3, ![8, 1, 1]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S1024x1024, .bf16⟩
  | .hbm, ⟨2, _⟩ => ⟨S128x1024, .bf16⟩
  | .hbm, ⟨3, _⟩ => ⟨S2x128x1024, .bf16⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S1024x1024, .f32⟩
  | .hbm, ⟨8, _⟩ => ⟨S8x128x1024, .f32⟩
  | .hbm, ⟨9, _⟩ => ⟨S8, .i32⟩
  | .hbm, ⟨10, _⟩ => ⟨S8x1x1, .i32⟩
  | .hbm, ⟨11, _⟩ => ⟨S_, .i32⟩
  | .hbm, ⟨12, _⟩ => ⟨S8x1x1, .i32⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x128x1024, .i1⟩
  | .hbm, ⟨17, _⟩ => ⟨S8x128x1024, .f32⟩
  | .hbm, ⟨18, _⟩ => ⟨S8x128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S2x128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | .hbm, ⟨45, _⟩ => ⟨S_, .f32⟩
  | .hbm, ⟨46, _⟩ => ⟨S128x1024, .f32⟩
  | .hbm, ⟨47, _⟩ => ⟨S128x1024, .f32⟩
  | .hbm, ⟨48, _⟩ => ⟨S128x1024, .f32⟩
  | .hbm, ⟨49, _⟩ => ⟨S_, .f32⟩
  | .hbm, ⟨50, _⟩ => ⟨S128x1024, .f32⟩
  | .hbm, ⟨51, _⟩ => ⟨S128x1024, .f32⟩
  | .hbm, ⟨52, _⟩ => ⟨S128x1024, .f32⟩
  | .hbm, ⟨53, _⟩ => ⟨S_, .f32⟩
  | .hbm, ⟨54, _⟩ => ⟨S128x1024, .f32⟩
  | .hbm, ⟨55, _⟩ => ⟨S128x1024, .f32⟩
  | .hbm, ⟨56, _⟩ => ⟨S128x1024, .f32⟩
  | .hbm, ⟨57, _⟩ => ⟨S_, .f32⟩
  | .hbm, ⟨58, _⟩ => ⟨S128x1024, .f32⟩
  | .hbm, ⟨59, _⟩ => ⟨S128x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== FFfnIn.lean ====
abbrev S1 : Shape := ⟨1, ![1]⟩
abbrev S5632x1024 : Shape := ⟨2, ![5632, 1024]⟩
abbrev S704x1024 : Shape := ⟨2, ![704, 1024]⟩
abbrev S2x704x1024 : Shape := ⟨3, ![2, 704, 1024]⟩
abbrev S1024x704 : Shape := ⟨2, ![1024, 704]⟩
abbrev S176x1024 : Shape := ⟨2, ![176, 1024]⟩
abbrev S2x176x1024 : Shape := ⟨3, ![2, 176, 1024]⟩
abbrev S1x176x1024 : Shape := ⟨3, ![1, 176, 1024]⟩

abbrev nBuf : Space → Nat
  | .hbm => 13
  | .vmem => 20
  | .smem => 1
  | _ => 0

abbrev bufTy : (tb : Table) → Fin (tcTables nBuf tb) → BufTy
  | .hbm, ⟨0, _⟩ => ⟨S5632x1024, .bf16⟩
  | .hbm, ⟨1, _⟩ => ⟨S704x1024, .bf16⟩
  | .hbm, ⟨2, _⟩ => ⟨S2x704x1024, .bf16⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .local _ .vmem, ⟨0, _⟩ => ⟨S176x1024, .bf16⟩
  | .local _ .vmem, ⟨1, _⟩ => ⟨S176x1024, .bf16⟩
  | .local _ .vmem, ⟨2, _⟩ => ⟨S176x1024, .bf16⟩
  | .local _ .vmem, ⟨3, _⟩ => ⟨S176x1024, .bf16⟩
  | .local _ .vmem, ⟨4, _⟩ => ⟨S2x176x1024, .bf16⟩
  | .local _ .vmem, ⟨5, _⟩ => ⟨S2x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .smem, ⟨0, _⟩ => ⟨S1, .i32⟩
  | _, _ => ⟨S5632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FFfnInIdeal.lean ====
abbrev S1 : Shape := ⟨1, ![1]⟩
abbrev S5632x1024 : Shape := ⟨2, ![5632, 1024]⟩
abbrev S704x1024 : Shape := ⟨2, ![704, 1024]⟩
abbrev S2x704x1024 : Shape := ⟨3, ![2, 704, 1024]⟩
abbrev S1024x704 : Shape := ⟨2, ![1024, 704]⟩
abbrev S176x1024 : Shape := ⟨2, ![176, 1024]⟩
abbrev S2x176x1024 : Shape := ⟨3, ![2, 176, 1024]⟩
abbrev S1x176x1024 : Shape := ⟨3, ![1, 176, 1024]⟩

abbrev nBuf : Space → Nat
  | .hbm => 13
  | .vmem => 20
  | .smem => 1
  | _ => 0

abbrev bufTy : (tb : Table) → Fin (tcTables nBuf tb) → BufTy
  | .hbm, ⟨0, _⟩ => ⟨S5632x1024, .bf16⟩
  | .hbm, ⟨1, _⟩ => ⟨S704x1024, .bf16⟩
  | .hbm, ⟨2, _⟩ => ⟨S2x704x1024, .bf16⟩
  | .hbm, ⟨3, _⟩ => ⟨S1024x704, .f32⟩
  | .hbm, ⟨4, _⟩ => ⟨S1024x704, .f32⟩
  | .hbm, ⟨5, _⟩ => ⟨S1024x704, .f32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .local _ .vmem, ⟨0, _⟩ => ⟨S176x1024, .bf16⟩
  | .local _ .vmem, ⟨1, _⟩ => ⟨S176x1024, .bf16⟩
  | .local _ .vmem, ⟨2, _⟩ => ⟨S176x1024, .bf16⟩
  | .local _ .vmem, ⟨3, _⟩ => ⟨S176x1024, .bf16⟩
  | .local _ .vmem, ⟨4, _⟩ => ⟨S2x176x1024, .bf16⟩
  | .local _ .vmem, ⟨5, _⟩ => ⟨S2x176x1024, .bf16⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .vmem, ⟨18, _⟩ => ⟨S176x1024, .f32⟩
  | .local _ .vmem, ⟨19, _⟩ => ⟨S176x1024, .f32⟩
  | .local _ .smem, ⟨0, _⟩ => ⟨S1, .i32⟩
  | _, _ => ⟨S5632x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c4_i32 : BitVec 32 := 4#32
  let v1 : BitVec 32 := Scalar.muli v0 c4_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x176x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S176x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FFfnInRefIdeal.lean ====
abbrev S1 : Shape := ⟨1, ![1]⟩
abbrev S5632x1024 : Shape := ⟨2, ![5632, 1024]⟩
abbrev S704x1024 : Shape := ⟨2, ![704, 1024]⟩
abbrev S2x704x1024 : Shape := ⟨3, ![2, 704, 1024]⟩
abbrev S1024x704 : Shape := ⟨2, ![1024, 704]⟩
abbrev S8x704x1024 : Shape := ⟨3, ![8, 704, 1024]⟩
abbrev S8 : Shape := ⟨1, ![8]⟩
abbrev S8x1x1 : Shape := ⟨3, ![8, 1, 1]⟩
abbrev S_ : Shape := ⟨0, ![]⟩

abbrev nBuf : Space → Nat
  | .hbm => 64
  | .vmem => 0
  | .smem => 0
  | _ => 0

abbrev bufTy : (tb : Table) → Fin (tcTables nBuf tb) → BufTy
  | .hbm, ⟨0, _⟩ => ⟨S1, .i32⟩
  | .hbm, ⟨1, _⟩ => ⟨S5632x1024, .bf16⟩
  | .hbm, ⟨2, _⟩ => ⟨S704x1024, .bf16⟩
  | .hbm, ⟨3, _⟩ => ⟨S2x704x1024, .bf16⟩
  | .hbm, ⟨4, _⟩ => ⟨S1024x704, .f32⟩
  | .hbm, ⟨5, _⟩ => ⟨S1024x704, .f32⟩
  | .hbm, ⟨6, _⟩ => ⟨S1024x704, .f32⟩
  | .hbm, ⟨7, _⟩ => ⟨S5632x1024, .f32⟩
  | .hbm, ⟨8, _⟩ => ⟨S8x704x1024, .f32⟩
  | .hbm, ⟨9, _⟩ => ⟨S8, .i32⟩
  | .hbm, ⟨10, _⟩ => ⟨S8x1x1, .i32⟩
  | .hbm, ⟨11, _⟩ => ⟨S_, .i32⟩
  | .hbm, ⟨12, _⟩ => ⟨S8x1x1, .i32⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x704x1024, .i1⟩
  | .hbm, ⟨17, _⟩ => ⟨S8x704x1024, .f32⟩
  | .hbm, ⟨18, _⟩ => ⟨S8x704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S2x704x1024, .f32⟩
  | .hbm, ⟨24, _⟩ => ⟨S_, .f32⟩
  | .hbm, ⟨25, _⟩ => ⟨S704x1024, .f32⟩
  | .hbm, ⟨26, _⟩ => ⟨S704x1024, .f32⟩
  | .hbm, ⟨27, _⟩ => ⟨S1024x704, .f32⟩
  | .hbm, ⟨28, _⟩ => ⟨S_, .f32⟩
  | .hbm, ⟨29, _⟩ => ⟨S1024x704, .f32⟩
  | .hbm, ⟨30, _⟩ => ⟨S1024x704, .f32⟩
  | .hbm, ⟨31, _⟩ => ⟨S_, .f32⟩
  | .hbm, ⟨32, _⟩ => ⟨S1024x704, .f32⟩
  | .hbm, ⟨33, _⟩ => ⟨S1024x704, .f32⟩
  | .hbm, ⟨34, _⟩ => ⟨S1024x704, .f32⟩
  | .hbm, ⟨35, _⟩ => ⟨S_, .f32⟩
  | .hbm, ⟨36, _⟩ => ⟨S1024x704, .f32⟩
  | .hbm, ⟨37, _⟩ => ⟨S1024x704, .f32⟩
  | .hbm, ⟨38, _⟩ => ⟨S1024x704, .f32⟩
  | .hbm, ⟨39, _⟩ => ⟨S_, .f32⟩
  | .hbm, ⟨40, _⟩ => ⟨S1024x704, .f32⟩
  | .hbm, ⟨41, _⟩ => ⟨S1024x704, .f32⟩
  | .hbm, ⟨42, _⟩ => ⟨S1024x704, .f32⟩
  | .hbm, ⟨43, _⟩ => ⟨S_, .f32⟩
  | .hbm, ⟨44, _⟩ => ⟨S1024x704, .f32⟩
  | .hbm, ⟨45, _⟩ => ⟨S1024x704, .f32⟩
  | .hbm, ⟨46, _⟩ => ⟨S_, .f32⟩
  | .hbm, ⟨47, _⟩ => ⟨S1024x704, .f32⟩
  | .hbm, ⟨48, _⟩ => ⟨S1024x704, .f32⟩
  | .hbm, ⟨49, _⟩ => ⟨S1024x704, .f32⟩
  | .hbm, ⟨50, _⟩ => ⟨S_, .f32⟩
  | .hbm, ⟨51, _⟩ => ⟨S1024x704, .f32⟩
  | .hbm, ⟨52, _⟩ => ⟨S1024x704, .f32⟩
  | .hbm, ⟨53, _⟩ => ⟨S1024x704, .f32⟩
  | .hbm, ⟨54, _⟩ => ⟨S_, .f32⟩
  | .hbm, ⟨55, _⟩ => ⟨S1024x704, .f32⟩
  | .hbm, ⟨56, _⟩ => ⟨S1024x704, .f32⟩
  | .hbm, ⟨57, _⟩ => ⟨S1024x704, .f32⟩
  | .hbm, ⟨58, _⟩ => ⟨S_, .f32⟩
  | .hbm, ⟨59, _⟩ => ⟨S1024x704, .f32⟩
  | .hbm, ⟨60, _⟩ => ⟨S1024x704, .f32⟩
  | .hbm, ⟨61, _⟩ => ⟨S704x1024, .f32⟩
  | .hbm, ⟨62, _⟩ => ⟨S704x1024, .f32⟩
  | .hbm, ⟨63, _⟩ => ⟨S704x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_6 : Ref sig .tc := ⟨.hbm, 43, rfl⟩
abbrev main_v26 : Ref sig .tc := ⟨.hbm, 44, rfl⟩
abbrev main_v27 : Ref sig .tc := ⟨.hbm, 45, rfl⟩
abbrev main_cst_7 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_8 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_9 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_10 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩

abbrev nD : Nat := 1
abbrev τ : Topo := Topo.v7x

variable {F : FTy → Type} [FloatOps F]
-- ==== FFfnOut.lean ====
abbrev S1 : Shape := ⟨1, ![1]⟩
abbrev S2816x1024 : Shape := ⟨2, ![2816, 1024]⟩
abbrev S352x1024 : Shape := ⟨2, ![352, 1024]⟩
abbrev S2x352x1024 : Shape := ⟨3, ![2, 352, 1024]⟩
abbrev S1x352x1024 : Shape := ⟨3, ![1, 352, 1024]⟩

abbrev nBuf : Space → Nat
  | .hbm => 10
  | .vmem => 10
  | .smem => 1
  | _ => 0

abbrev bufTy : (tb : Table) → Fin (tcTables nBuf tb) → BufTy
  | .hbm, ⟨0, _⟩ => ⟨S2816x1024, .bf16⟩
  | .hbm, ⟨1, _⟩ => ⟨S352x1024, .bf16⟩
  | .hbm, ⟨2, _⟩ => ⟨S2x352x1024, .bf16⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S352x1024, .bf16⟩
  | .local _ .vmem, ⟨1, _⟩ => ⟨S352x1024, .bf16⟩
  | .local _ .vmem, ⟨2, _⟩ => ⟨S2x352x1024, .bf16⟩
  | .local _ .vmem, ⟨3, _⟩ => ⟨S352x1024, .f32⟩
  | .local _ .vmem, ⟨4, _⟩ => ⟨S352x1024, .f32⟩
  | .local _ .vmem, ⟨5, _⟩ => ⟨S352x1024, .f32⟩
  | .local _ .vmem, ⟨6, _⟩ => ⟨S352x1024, .f32⟩
  | .local _ .vmem, ⟨7, _⟩ => ⟨S352x1024, .f32⟩
  | .local _ .vmem, ⟨8, _⟩ => ⟨S352x1024, .f32⟩
  | .local _ .vmem, ⟨9, _⟩ => ⟨S352x1024, .f32⟩
  | .local _ .smem, ⟨0, _⟩ => ⟨S1, .i32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 32 := Scalar.muli v0 c1_i32
  let v2 : BitVec 32 := Scalar.addi v1 arg0
  let c0_i32 : BitVec 32 := 0#32
  let c0_i32_0 : BitVec 32 := 0#32
  ![v2.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== FFfnOutRefIdeal.lean ====
abbrev S1 : Shape := ⟨1, ![1]⟩
abbrev S2816x1024 : Shape := ⟨2, ![2816, 1024]⟩
abbrev S352x1024 : Shape := ⟨2, ![352, 1024]⟩
abbrev S2x352x1024 : Shape := ⟨3, ![2, 352, 1024]⟩
abbrev S8x352x1024 : Shape := ⟨3, ![8, 352, 1024]⟩
abbrev S8 : Shape := ⟨1, ![8]⟩
abbrev S8x1x1 : Shape := ⟨3, ![8, 1, 1]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S1, .i32⟩
  | .hbm, ⟨1, _⟩ => ⟨S2816x1024, .bf16⟩
  | .hbm, ⟨2, _⟩ => ⟨S352x1024, .bf16⟩
  | .hbm, ⟨3, _⟩ => ⟨S2x352x1024, .bf16⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S2816x1024, .f32⟩
  | .hbm, ⟨8, _⟩ => ⟨S8x352x1024, .f32⟩
  | .hbm, ⟨9, _⟩ => ⟨S8, .i32⟩
  | .hbm, ⟨10, _⟩ => ⟨S8x1x1, .i32⟩
  | .hbm, ⟨11, _⟩ => ⟨S_, .i32⟩
  | .hbm, ⟨12, _⟩ => ⟨S8x1x1, .i32⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x352x1024, .i1⟩
  | .hbm, ⟨17, _⟩ => ⟨S8x352x1024, .f32⟩
  | .hbm, ⟨18, _⟩ => ⟨S8x352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S2x352x1024, .f32⟩
  | .hbm, ⟨24, _⟩ => ⟨S_, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | .hbm, ⟨45, _⟩ => ⟨S_, .f32⟩
  | .hbm, ⟨46, _⟩ => ⟨S352x1024, .f32⟩
  | .hbm, ⟨47, _⟩ => ⟨S352x1024, .f32⟩
  | .hbm, ⟨48, _⟩ => ⟨S352x1024, .f32⟩
  | .hbm, ⟨49, _⟩ => ⟨S_, .f32⟩
  | .hbm, ⟨50, _⟩ => ⟨S352x1024, .f32⟩
  | .hbm, ⟨51, _⟩ => ⟨S352x1024, .f32⟩
  | .hbm, ⟨52, _⟩ => ⟨S352x1024, .f32⟩
  | .hbm, ⟨53, _⟩ => ⟨S_, .f32⟩
  | .hbm, ⟨54, _⟩ => ⟨S352x1024, .f32⟩
  | .hbm, ⟨55, _⟩ => ⟨S352x1024, .f32⟩
  | .hbm, ⟨56, _⟩ => ⟨S352x1024, .f32⟩
  | .hbm, ⟨57, _⟩ => ⟨S_, .f32⟩
  | .hbm, ⟨58, _⟩ => ⟨S352x1024, .f32⟩
  | .hbm, ⟨59, _⟩ => ⟨S352x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_4 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_6 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_8 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_9 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_10 : Ref sig .tc := ⟨.hbm, 57, rfl⟩
abbrev main_v36 : Ref sig .tc := ⟨.hbm, 58, rfl⟩
abbrev main_v37 : Ref sig .tc := ⟨.hbm, 59, rfl⟩

abbrev nD : Nat := 1
abbrev τ : Topo := Topo.v7x

variable {F : FTy → Type} [FloatOps F]
-- ==== Proof.Reals.lean ====
/-
  Facts about the extended reals used by the modules of the single calls: the constants the programs name by their bits,
  and the logistic function by the hyperbolic tangent.
-/
module

public import Idealize.ShloMosaic.PureOps.Ideal.Laws
public import Mathlib.Analysis.SpecialFunctions.Trigonometric.DerivHyp
public import Mathlib.Tactic.FieldSimp
public import Mathlib.Tactic.NormNum

@[expose] public section

noncomputable section

namespace Cert.Proof

open Idealize.ShloMosaic

/-- The bits of one half. -/
theorem bits_half : Ideal.ofBits .f32 0x3F000000#32 = (((1 : ℝ) / 2 : ℝ) : EReal) := by
  simp [Ideal.ofBits, Ideal.ieee, -EReal.coe_mul]; norm_num

/-- The bits of one. -/
theorem bits_one : Ideal.ofBits .f32 0x3F800000#32 = 1 := by
  rw [show (1 : EReal) = ((1 : ℝ) : EReal) by norm_cast]
  simp [Ideal.ofBits, Ideal.ieee, -EReal.coe_mul]; norm_num

/-- The bits of the row length, 1024. -/
theorem bits_1024 : Ideal.ofBits .f32 0x44800000#32 = ((1024 : ℝ) : EReal) := by
  simp [Ideal.ofBits, Ideal.ieee, -EReal.coe_mul]; norm_num

/-- The bits of zero. -/
theorem bits_zero : Ideal.ofBits .f32 0x00000000#32 = 0 := by
  simp [Ideal.ofBits, Ideal.ieee, -EReal.coe_mul]

/-- Over the reals: one half of the hyperbolic tangent of the half, and one half more, is the logistic function. -/
theorem half_tanh (r : ℝ) : 1 / 2 * Real.tanh (1 / 2 * r) + 1 / 2 = (1 + Real.exp (-r))⁻¹ := by
  rw [Real.tanh_eq_sinh_div_cosh, Real.sinh_eq, Real.cosh_eq]
  have e1 : Real.exp (-r) = Real.exp (-(1 / 2 * r)) * Real.exp (-(1 / 2 * r)) := by rw [← Real.exp_add]; congr 1; ring
  have e2 : Real.exp (1 / 2 * r) * Real.exp (-(1 / 2 * r)) = 1 := by rw [← Real.exp_add]; simp
  rw [e1]
  have hp := Real.exp_pos (1 / 2 * r)
  have hn := Real.exp_pos (-(1 / 2 * r))
  generalize Real.exp (1 / 2 * r) = a at *
  generalize Real.exp (-(1 / 2 * r)) = b at *
  have : 0 < a + b := by positivity
  have : 0 < 1 + b * b := by positivity
  field_simp
  linear_combination (2 * b) * e2

/-- The logistic function as the kernel writes it, at every extended real. -/
theorem sigmoid_eq (x : EReal) : Ideal.ofBits .f32 0x3F000000#32 * Ideal.tanh (Ideal.ofBits .f32 0x3F000000#32 * x)
    + Ideal.ofBits .f32 0x3F000000#32 = Ideal.logistic x := by
  rw [bits_half]
  induction x with
  | bot =>
    rw [EReal.coe_mul_bot_of_pos (by norm_num), Ideal.tanh_bot, Ideal.logistic_bot]
    rw [show (-1 : EReal) = ((-1 : ℝ) : EReal) by simp, ← EReal.coe_mul, ← EReal.coe_add]; norm_num
  | top =>
    rw [EReal.coe_mul_top_of_pos (by norm_num), Ideal.tanh_top, Ideal.logistic_top]
    rw [show (1 : EReal) = ((1 : ℝ) : EReal) by simp, ← EReal.coe_mul, ← EReal.coe_add]; norm_num
  | coe r =>
    rw [← EReal.coe_mul, Ideal.tanh_coe, Ideal.logistic_coe, ← EReal.coe_mul, ← EReal.coe_add, half_tanh]

/-- The logistic function as the reference writes it. -/
theorem logistic_eq (x : EReal) : Ideal.div (Ideal.ofBits .f32 0x3F800000#32) (Ideal.ofBits .f32 0x3F800000#32 + Ideal.exp (-x))
    = Ideal.logistic x := by
  rw [bits_one]; rfl

/-- An extended real that is a real number. -/
def IsReal (x : EReal) : Prop := ∃ r : ℝ, x = (r : EReal)

/-- Not either infinity is a real number. -/
theorem isReal_of_ne {x : EReal} (h₁ : x ≠ ⊤) (h₂ : x ≠ ⊥) : IsReal x := ⟨x.toReal, (EReal.coe_toReal h₁ h₂).symm⟩

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

/-- A finite sum of real numbers is their sum as real numbers. -/
theorem coe_sum {ι : Type} (s : Finset ι) (f : ι → ℝ) : ∑ k ∈ s, (f k : EReal) = ((∑ k ∈ s, f k : ℝ) : EReal) := by
  classical
  induction s using Finset.induction_on with
  | empty => simp
  | insert a s ha ih => rw [Finset.sum_insert ha, Finset.sum_insert ha, ih, EReal.coe_add]

/-- So it is real. -/
theorem isReal_sum {ι : Type} (s : Finset ι) (f : ι → EReal) (h : ∀ k, IsReal (f k)) : IsReal (∑ k ∈ s, f k) := by
  choose r hr using h
  exact ⟨∑ k ∈ s, r k, by rw [← coe_sum]; exact Finset.sum_congr rfl fun k _ => hr k⟩

/-- The pattern of infinity. -/
theorem bits_inf : (Ideal.ofBits .f32 0x7F800000#32 : EReal) = ⊤ := by
  simp [Ideal.ofBits, Ideal.ieee]

/-- An absolute value compared below infinity is a real number's. -/
theorem isReal_of_cmp {x : EReal} (h : Ideal.cmp .olt (max x (-x)) (Ideal.ofBits .f32 0x7F800000#32) = 1#1) : IsReal x := by
  rw [bits_inf] at h
  refine isReal_of_ne ?_ ?_ <;> rintro rfl <;> simp [Ideal.cmp] at h

/-- The bits of one, as a real number. -/
theorem bits_one_coe : Ideal.ofBits .f32 0x3F800000#32 = ((1 : ℝ) : EReal) := bits_one.trans (by norm_cast)

end Cert.Proof

end
-- ==== Proof.Up.lean ====
/-
  `Up`: the feed-forward input projection with its gated product and the factors its derivative needs (the call `ffn_up`).
  The kernel works on tiles of 512 rows, the contraction in two halves and the columns in four pieces; the reference is the plain
  product, `silu(gate) * up`, and the transpose of that map's linearisation at a cotangent of ones.  Of the derivative the kernel
  writes `up * (s * (1 + gate * (1 - s)))`, the reference `up * s + gate * up * (s * (1 - s))`; the two are one number when `up`
  is a real number, which the arguments being real numbers gives.
-/
module

public import proofs.«01_k».proof.Defs
public import proofs.«01_k».proof.Proof.Gen.Up
public import proofs.«01_k».proof.Proof.Gen.UpIdeal
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Reals
public import Idealize.ShloMosaic.Lib.Pointwise
public import Idealize.ShloMosaic.Lib.ReduceAll
public import Idealize.ShloMosaic.Lib.ValueLayout
public import Idealize.ShloMosaic.Lib.WholeRead
public import Idealize.ShloMosaic.Lib.Pipeline.ReadBack

@[expose] public section

set_option maxRecDepth 16384

noncomputable section

namespace Cert.Proof.Up

open Idealize.ShloMosaic Idealize.ShloMosaic.TcCoe Idealize.SL.Sem
open Cert.UpIdeal Cert.UpIdeal.Gen
open Idealize.ShloMosaic.Pipeline (Dat Cfg Window)

variable (m : (ℓ : Loc nD τ sig) → Buf (Elt Ideal) ℓ)

/-- The projection at an index. -/
def lin (h : Vec Ideal S4096x1024 .bf16) (w : Vec Ideal S1024x5632 .f32) (p : Fin 4096) (q : Fin 5632) : EReal :=
  ∑ k : Fin 1024, h (ix2 p k) * w (ix2 k q)

/-- The gate's function. -/
def silu (g : EReal) : EReal := g * Ideal.logistic g

/-- Its derivative times the other factor. -/
def dsilu (g u : EReal) : EReal :=
  u * (Ideal.logistic g * (Ideal.ofBits .f32 0x3F800000#32 + g * (Ideal.ofBits .f32 0x3F800000#32 - Ideal.logistic g)))

/-- The factors of the gated product's derivative: by the gate in the first half of the columns, by the other factor in the second. -/
def back (h : Vec Ideal S4096x1024 .bf16) (w : Vec Ideal S1024x5632 .f32) : Vec Ideal S4096x5632 .bf16 := fun i =>
  if hq : (i 1).val < 2816 then dsilu (lin h w (i 0) ⟨(i 1).val, by omega⟩) (lin h w (i 0) ⟨2816 + (i 1).val, by omega⟩)
  else silu (lin h w (i 0) ⟨(i 1).val - 2816, by have l : (i 1).val < 5632 := (i 1).isLt; omega⟩)

/-- The gated product. -/
def act (h : Vec Ideal S4096x1024 .bf16) (w : Vec Ideal S1024x5632 .f32) : Vec Ideal S4096x2816 .bf16 := fun i =>
  silu (lin h w (i 0) ⟨(i 1).val, by have l : (i 1).val < 2816 := (i 1).isLt; omega⟩)
    * lin h w (i 0) ⟨2816 + (i 1).val, by have l : (i 1).val < 2816 := (i 1).isLt; omega⟩

/-- The first half of the columns at an index, from its coordinates. -/
theorem back_lo (h : Vec Ideal S4096x1024 .bf16) (w : Vec Ideal S1024x5632 .f32) (i : S4096x5632.Idx) (p : Fin 4096) (q₁ q₂ : Fin 5632)
    (hp : p.val = (i 0).val) (h₁ : q₁.val = (i 1).val) (h₂ : q₂.val = 2816 + (i 1).val) (hq : (i 1).val < 2816) :
    dsilu (lin h w p q₁) (lin h w p q₂) = back h w i := by
  obtain rfl : p = i 0 := Fin.ext hp
  unfold back
  rw [dif_pos hq]
  exact congrArg₂ (fun a b => dsilu (lin h w (i 0) a) (lin h w (i 0) b)) (Fin.ext h₁) (Fin.ext h₂)

/-- The second half. -/
theorem back_hi (h : Vec Ideal S4096x1024 .bf16) (w : Vec Ideal S1024x5632 .f32) (i : S4096x5632.Idx) (p : Fin 4096) (q : Fin 5632)
    (hp : p.val = (i 0).val) (hq : (i 1).val = 2816 + q.val) : silu (lin h w p q) = back h w i := by
  obtain rfl : p = i 0 := Fin.ext hp
  unfold back
  rw [dif_neg (by omega)]
  exact congrArg (fun q => silu (lin h w (i 0) q)) (Fin.ext (by show q.val = (i 1).val - 2816; omega))

/-- The gated product at an index, from its coordinates. -/
theorem act_at (h : Vec Ideal S4096x1024 .bf16) (w : Vec Ideal S1024x5632 .f32) (i : S4096x2816.Idx) (p : Fin 4096) (q₁ q₂ : Fin 5632)
    (hp : p.val = (i 0).val) (h₁ : q₁.val = (i 1).val) (h₂ : q₂.val = 2816 + (i 1).val) :
    silu (lin h w p q₁) * lin h w p q₂ = act h w i := by
  obtain rfl : p = i 0 := Fin.ext hp
  exact congrArg₂ (fun a b => silu (lin h w (i 0) a) * lin h w (i 0) b) (Fin.ext h₁) (Fin.ext h₂)

/-- The weights transposed, half of their rows: what the two weight windows' arrays hold. -/
def half (o : Nat) (ho : o + 512 ≤ 1024) (w : Vec Ideal S1024x5632 .f32) : Vec Ideal S5632x512 .bf16 := fun i =>
  w (ix2 (⟨o + (i 1).val, by have l : (i 1).val < 512 := (i 1).isLt; omega⟩ : Fin 1024) (i 0))

/-- What the region finds in this weight window's array. -/
theorem V_v2 (c : Dev nD) : (V m c main_v2 : Vec Ideal S5632x512 .bf16) = half 0 (by omega) (m ((c : Thread nD τ).loc main_arg1)) := by
  unfold V
  after_results_simp
  funext i
  refine (extractStridedSlice_apply ![0, 0] _ slices_S5632x1024_S5632x512_0_0 i (ix2 (i 0) (⟨0 + (i 1).val, by have l : (i 1).val < 512 := (i 1).isLt; omega⟩ : Fin 1024)) (fun a => ?_)).trans ?_
  · match a with
    | ⟨0, _⟩ => exact (Nat.zero_add _).symm
    | ⟨1, _⟩ => rfl
  · exact ValueIdx.transpose_ix2_apply _ _ _ _

/-- What the region finds in this weight window's array. -/
theorem V_v3 (c : Dev nD) : (V m c main_v3 : Vec Ideal S5632x512 .bf16) = half 512 (by omega) (m ((c : Thread nD τ).loc main_arg1)) := by
  unfold V
  after_results_simp
  funext i
  refine (extractStridedSlice_apply ![0, 512] _ slices_S5632x1024_S5632x512_0_512 i (ix2 (i 0) (⟨512 + (i 1).val, by have l : (i 1).val < 512 := (i 1).isLt; omega⟩ : Fin 1024)) (fun a => ?_)).trans ?_
  · match a with
    | ⟨0, _⟩ => exact (Nat.zero_add _).symm
    | ⟨1, _⟩ => rfl
  · exact ValueIdx.transpose_ix2_apply _ _ _ _

/-- The array row that row `p` of point `t`'s block is. -/
abbrev row (t : Fin cfg0.N) (p : Fin 512) : Fin 4096 := ⟨t.val * 512 + p.val, by
  have h : t.val < 8 := t.isLt
  omega⟩

/-- Where window 0's block lies. -/
theorem idx0 : ∀ t : Fin cfg0.N, win0_0.index t (0 : Fin 2) = t.val ∧ win0_0.index t (1 : Fin 2) = 0 :=
  (by decide +kernel : ∀ t : Fin grid0.N, _)

/-- What window 0's block holds at point `t`. -/
theorem block0 (c : Dev nD) (t : Fin cfg0.N) (j : S512x1024.Idx) :
    (iblk m c 0 t : Vec Ideal S512x1024 .bf16) j = (m ((c : Thread nD τ).loc main_arg0)) (ix2 (row t (j 0)) (j 1)) := by
  have e : ((cfg0.win 0).blk t).view.emb j = (ix2 (row t (j 0)) (j 1)) := by
    refine Shape.idx_ext₂ ?_ ?_
    · refine (Window.rect_emb_val win0_0 t j (0 : Fin 2)).trans ?_
      rw [(idx0 t).1]; rfl
    · refine (Window.rect_emb_val win0_0 t j (1 : Fin 2)).trans ?_
      rw [(idx0 t).2]; rw [Nat.zero_mul, Nat.zero_add]; rfl
  exact (congrFun (V_main_arg0 m c) _).trans (congrArg ((m ((c : Thread nD τ).loc main_arg0))) e)

/-- Where window 1's block lies. -/
theorem idx1 : ∀ t : Fin cfg0.N, win0_1.index t (0 : Fin 2) = 0 ∧ win0_1.index t (1 : Fin 2) = 0 :=
  (by decide +kernel : ∀ t : Fin grid0.N, _)

/-- What window 1's block holds at point `t`. -/
theorem block1 (c : Dev nD) (t : Fin cfg0.N) (j : S5632x512.Idx) :
    (iblk m c 1 t : Vec Ideal S5632x512 .bf16) j = (half 0 (by omega) (m ((c : Thread nD τ).loc main_arg1))) j := by
  have e : ((cfg0.win 1).blk t).view.emb j = j := by
    refine Shape.idx_ext₂ ?_ ?_
    · refine (Window.rect_emb_val win0_1 t j (0 : Fin 2)).trans ?_
      rw [(idx1 t).1]
      rw [Nat.zero_mul, Nat.zero_add]
    · refine (Window.rect_emb_val win0_1 t j (1 : Fin 2)).trans ?_
      rw [(idx1 t).2]; rw [Nat.zero_mul, Nat.zero_add]
  exact (congrFun (V_v2 m c) _).trans (congrArg ((half 0 (by omega) (m ((c : Thread nD τ).loc main_arg1)))) e)

/-- Where window 2's block lies. -/
theorem idx2 : ∀ t : Fin cfg0.N, win0_2.index t (0 : Fin 2) = 0 ∧ win0_2.index t (1 : Fin 2) = 0 :=
  (by decide +kernel : ∀ t : Fin grid0.N, _)

/-- What window 2's block holds at point `t`. -/
theorem block2 (c : Dev nD) (t : Fin cfg0.N) (j : S5632x512.Idx) :
    (iblk m c 2 t : Vec Ideal S5632x512 .bf16) j = (half 512 (by omega) (m ((c : Thread nD τ).loc main_arg1))) j := by
  have e : ((cfg0.win 2).blk t).view.emb j = j := by
    refine Shape.idx_ext₂ ?_ ?_
    · refine (Window.rect_emb_val win0_2 t j (0 : Fin 2)).trans ?_
      rw [(idx2 t).1]
      rw [Nat.zero_mul, Nat.zero_add]
    · refine (Window.rect_emb_val win0_2 t j (1 : Fin 2)).trans ?_
      rw [(idx2 t).2]; rw [Nat.zero_mul, Nat.zero_add]
  exact (congrFun (V_v3 m c) _).trans (congrArg ((half 512 (by omega) (m ((c : Thread nD τ).loc main_arg1)))) e)

/-- Where window 3's block lies. -/
theorem idx3 : ∀ t : Fin cfg0.N, win0_3.index t (0 : Fin 2) = t.val ∧ win0_3.index t (1 : Fin 2) = 0 :=
  (by decide +kernel : ∀ t : Fin grid0.N, _)

/-- Where an index of window 3's block lies in the array. -/
theorem emb3 (t : Fin cfg0.N) (j : S512x5632.Idx) : ((cfg0.win 3).blk t).view.emb j = ix2 (row t (j 0)) (j 1) := by
  refine Shape.idx_ext₂ ?_ ?_
  · refine (Window.rect_emb_val win0_3 t j (0 : Fin 2)).trans ?_
    rw [(idx3 t).1]; rfl
  · refine (Window.rect_emb_val win0_3 t j (1 : Fin 2)).trans ?_
    rw [(idx3 t).2, Nat.zero_mul, Nat.zero_add]; rfl

/-- Every index of window 3's array is in some point's block. -/
theorem cover3 (i : S4096x5632.Idx) : ∃ t : Fin cfg0.N, (cfg0.win 3).flush t = true ∧ i ∈ ((cfg0.win 3).blk t).view.set := by
  have l0 : (i 0).val < 4096 := (i 0).isLt
  have l1 : (i 1).val < 5632 := (i 1).isLt
  have hN : cfg0.N = 8 := by decide +kernel
  let t : Fin cfg0.N := ⟨(i 0).val / 512, by rw [hN]; omega⟩
  refine ⟨t, (by decide +kernel : ∀ t : Fin grid0.N, (cfg0.win 3).flush t = true) t, ?_⟩
  show i ∈ ((View.whole (Pipeline.arrRef spec0 3)).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [(idx3 t).1]
    show (i 0).val / 512 * 512 ≤ (i 0).val ∧ (i 0).val < (i 0).val / 512 * 512 + 512
    omega
  | ⟨1, _⟩ =>
    show win0_3.index t (1 : Fin 2) * 5632 ≤ (i 1).val ∧ (i 1).val < win0_3.index t (1 : Fin 2) * 5632 + 5632
    rw [(idx3 t).2]
    omega

/-- Where window 4's block lies. -/
theorem idx4 : ∀ t : Fin cfg0.N, win0_4.index t (0 : Fin 2) = t.val ∧ win0_4.index t (1 : Fin 2) = 0 :=
  (by decide +kernel : ∀ t : Fin grid0.N, _)

/-- Where an index of window 4's block lies in the array. -/
theorem emb4 (t : Fin cfg0.N) (j : S512x2816.Idx) : ((cfg0.win 4).blk t).view.emb j = ix2 (row t (j 0)) (j 1) := by
  refine Shape.idx_ext₂ ?_ ?_
  · refine (Window.rect_emb_val win0_4 t j (0 : Fin 2)).trans ?_
    rw [(idx4 t).1]; rfl
  · refine (Window.rect_emb_val win0_4 t j (1 : Fin 2)).trans ?_
    rw [(idx4 t).2, Nat.zero_mul, Nat.zero_add]; rfl

/-- Every index of window 4's array is in some point's block. -/
theorem cover4 (i : S4096x2816.Idx) : ∃ t : Fin cfg0.N, (cfg0.win 4).flush t = true ∧ i ∈ ((cfg0.win 4).blk t).view.set := by
  have l0 : (i 0).val < 4096 := (i 0).isLt
  have l1 : (i 1).val < 2816 := (i 1).isLt
  have hN : cfg0.N = 8 := by decide +kernel
  let t : Fin cfg0.N := ⟨(i 0).val / 512, by rw [hN]; omega⟩
  refine ⟨t, (by decide +kernel : ∀ t : Fin grid0.N, (cfg0.win 4).flush t = true) t, ?_⟩
  show i ∈ ((View.whole (Pipeline.arrRef spec0 4)).slice (win0_4.rect t)).set
  rw [View.set_slice_whole, Rect.mem_set_unit]
  intro a
  match a with
  | ⟨0, _⟩ =>
    show win0_4.index t (0 : Fin 2) * 512 ≤ (i 0).val ∧ (i 0).val < win0_4.index t (0 : Fin 2) * 512 + 512
    rw [(idx4 t).1]
    show (i 0).val / 512 * 512 ≤ (i 0).val ∧ (i 0).val < (i 0).val / 512 * 512 + 512
    omega
  | ⟨1, _⟩ =>
    show win0_4.index t (1 : Fin 2) * 2816 ≤ (i 1).val ∧ (i 1).val < win0_4.index t (1 : Fin 2) * 2816 + 2816
    rw [(idx4 t).2]
    omega

/-- The two halves of a tile's contraction at an index. -/
def halves {n : Nat} (x0 x1 : Vec Ideal S512x512 .bf16) (y0 y1 : Vec Ideal ⟨2, ![n, 512]⟩ .bf16) (p : Fin 512) (q : Fin n) : EReal :=
  ∑ k : Fin 512, x0 (ix2 p k) * y0 (ix2 q k) + ∑ k : Fin 512, x1 (ix2 p k) * y1 (ix2 q k)

/-- A sum over the contraction in two halves. -/
theorem sum_halves (f : Fin 1024 → EReal) : ∑ k : Fin 1024, f k
    = ∑ k : Fin 512, f ⟨k.val, by omega⟩ + ∑ k : Fin 512, f ⟨512 + k.val, by omega⟩ := by
  exact Fin.sum_univ_add (a := 512) (b := 512) f

/-- The halves of point `t`'s loads are the projection. -/
theorem halves_at (c : Dev nD) (t : Fin cfg0.N) {n o : Nat} (inb : ∀ a, (![o, 0] : Fin 2 → Nat) a + (⟨2, ![n, 512]⟩ : Shape).size a ≤ S5632x512.size a)
    (p : Fin 512) (q : Fin n) (hq : o + q.val < 5632) :
    halves (View.readAt (Elt Ideal) (ms0_0 t).view (Rect.unit (s := S512x1024) ![0, 0] S512x512.size inb_S512x1024_S512x512_0_0).toLoadRect ((hs0_0 t).unread (iblk m c 0 t)))
      (View.readAt (Elt Ideal) (ms0_0 t).view (Rect.unit (s := S512x1024) ![0, 512] S512x512.size inb_S512x1024_S512x512_0_512).toLoadRect ((hs0_0 t).unread (iblk m c 0 t)))
      (View.readAt (Elt Ideal) (ms0_1 t).view (Rect.unit (s := S5632x512) ![o, 0] (⟨2, ![n, 512]⟩ : Shape).size inb).toLoadRect ((hs0_1 t).unread (iblk m c 1 t)))
      (View.readAt (Elt Ideal) (ms0_2 t).view (Rect.unit (s := S5632x512) ![o, 0] (⟨2, ![n, 512]⟩ : Shape).size inb).toLoadRect ((hs0_2 t).unread (iblk m c 2 t))) p q
      = lin (m ((c : Thread nD τ).loc main_arg0)) (m ((c : Thread nD τ).loc main_arg1)) (row t p) ⟨o + q.val, hq⟩ := by
  unfold halves lin
  rw [sum_halves]
  refine congrArg₂ (fun a b : EReal => a + b) (Finset.sum_congr rfl fun k _ => congrArg₂ (fun a b : EReal => a * b) ?_ ?_)
    (Finset.sum_congr rfl fun k _ => congrArg₂ (fun a b : EReal => a * b) ?_ ?_)
  · refine ((hs0_0 t).readAt_unread _ _ _).trans ((block0 m c t _).trans (congrArg (m ((c : Thread nD τ).loc main_arg0)) (Shape.idx_ext₂ ?_ ?_)))
    · exact congrArg (fun z => t.val * 512 + z) ((Nat.zero_add _).trans (Nat.one_mul _))
    · exact (Nat.zero_add _).trans (Nat.one_mul _)
  · refine ((hs0_1 t).readAt_unread _ _ _).trans ((block1 m c t _).trans (congrArg (m ((c : Thread nD τ).loc main_arg1)) (Shape.idx_ext₂ ?_ ?_)))
    · exact (Nat.zero_add _).trans ((Nat.zero_add _).trans (Nat.one_mul _))
    · exact congrArg (fun z => o + z) (Nat.one_mul _)
  · refine ((hs0_0 t).readAt_unread _ _ _).trans ((block0 m c t _).trans (congrArg (m ((c : Thread nD τ).loc main_arg0)) (Shape.idx_ext₂ ?_ ?_)))
    · exact congrArg (fun z => t.val * 512 + z) ((Nat.zero_add _).trans (Nat.one_mul _))
    · exact congrArg (fun z => 512 + z) (Nat.one_mul _)
  · refine ((hs0_2 t).readAt_unread _ _ _).trans ((block2 m c t _).trans (congrArg (m ((c : Thread nD τ).loc main_arg1)) (Shape.idx_ext₂ ?_ ?_)))
    · exact congrArg (fun z => 512 + z) ((Nat.zero_add _).trans (Nat.one_mul _))
    · exact congrArg (fun z => o + z) (Nat.one_mul _)

/-- One factor's tile. -/
theorem pay3_apply (x0 : Vec Ideal S512x512 .bf16) (x1 : Vec Ideal S512x512 .bf16) (y0 : Vec Ideal S768x512 .bf16) (y1 : Vec Ideal S768x512 .bf16) (j : S512x768.Idx) : k0_pay3 (F := Ideal) x0 x1 y0 y1 j = halves x0 x1 y0 y1 (j 0) (j 1) := by
  unfold k0_pay3 halves
  pointwise [dot_S512x512_S768x512_S512x768_1_1_0_0_n_n]

/-- One factor's tile. -/
theorem pay4_apply (x0 : Vec Ideal S512x512 .bf16) (x1 : Vec Ideal S512x512 .bf16) (y0 : Vec Ideal S768x512 .bf16) (y1 : Vec Ideal S768x512 .bf16) (j : S512x768.Idx) : k0_pay4 (F := Ideal) x0 x1 y0 y1 j = halves x0 x1 y0 y1 (j 0) (j 1) := by
  unfold k0_pay4 halves
  pointwise [dot_S512x512_S768x512_S512x768_1_1_0_0_n_n]

/-- The logistic function of the gate's tile. -/
theorem pay5_apply (x0 : Vec Ideal S512x512 .bf16) (x1 : Vec Ideal S512x512 .bf16) (y0 : Vec Ideal S768x512 .bf16) (y1 : Vec Ideal S768x512 .bf16) (j : S512x768.Idx) : k0_pay5 (F := Ideal) x0 x1 y0 y1 j = Ideal.logistic (halves x0 x1 y0 y1 (j 0) (j 1)) := by
  rw [← pay3_apply, ← sigmoid_eq]
  rfl

/-- The gate's function of its tile. -/
theorem pay6_apply (x0 : Vec Ideal S512x512 .bf16) (x1 : Vec Ideal S512x512 .bf16) (y0 : Vec Ideal S768x512 .bf16) (y1 : Vec Ideal S768x512 .bf16) (j : S512x768.Idx) : k0_pay6 (F := Ideal) x0 x1 y0 y1 j = silu (halves x0 x1 y0 y1 (j 0) (j 1)) := by
  unfold silu
  rw [← pay5_apply, ← pay3_apply]
  rfl

/-- The derivative's tile. -/
theorem pay7_apply (x0 : Vec Ideal S512x512 .bf16) (x1 : Vec Ideal S512x512 .bf16) (y0 : Vec Ideal S768x512 .bf16) (y1 : Vec Ideal S768x512 .bf16) (z0 : Vec Ideal S768x512 .bf16) (z1 : Vec Ideal S768x512 .bf16) (j : S512x768.Idx) : k0_pay7 (F := Ideal) x0 x1 y0 y1 z0 z1 j = dsilu (halves x0 x1 y0 y1 (j 0) (j 1)) (halves x0 x1 z0 z1 (j 0) (j 1)) := by
  unfold dsilu
  rw [← pay5_apply, ← pay3_apply, ← pay4_apply]
  rfl

/-- One factor's tile. -/
theorem pay10_apply (x0 : Vec Ideal S512x512 .bf16) (x1 : Vec Ideal S512x512 .bf16) (y0 : Vec Ideal S768x512 .bf16) (y1 : Vec Ideal S768x512 .bf16) (j : S512x768.Idx) : k0_pay10 (F := Ideal) x0 x1 y0 y1 j = halves x0 x1 y0 y1 (j 0) (j 1) := by
  unfold k0_pay10 halves
  pointwise [dot_S512x512_S768x512_S512x768_1_1_0_0_n_n]

/-- One factor's tile. -/
theorem pay11_apply (x0 : Vec Ideal S512x512 .bf16) (x1 : Vec Ideal S512x512 .bf16) (y0 : Vec Ideal S768x512 .bf16) (y1 : Vec Ideal S768x512 .bf16) (j : S512x768.Idx) : k0_pay11 (F := Ideal) x0 x1 y0 y1 j = halves x0 x1 y0 y1 (j 0) (j 1) := by
  unfold k0_pay11 halves
  pointwise [dot_S512x512_S768x512_S512x768_1_1_0_0_n_n]

/-- The logistic function of the gate's tile. -/
theorem pay12_apply (x0 : Vec Ideal S512x512 .bf16) (x1 : Vec Ideal S512x512 .bf16) (y0 : Vec Ideal S768x512 .bf16) (y1 : Vec Ideal S768x512 .bf16) (j : S512x768.Idx) : k0_pay12 (F := Ideal) x0 x1 y0 y1 j = Ideal.logistic (halves x0 x1 y0 y1 (j 0) (j 1)) := by
  rw [← pay10_apply, ← sigmoid_eq]
  rfl

/-- The gate's function of its tile. -/
theorem pay13_apply (x0 : Vec Ideal S512x512 .bf16) (x1 : Vec Ideal S512x512 .bf16) (y0 : Vec Ideal S768x512 .bf16) (y1 : Vec Ideal S768x512 .bf16) (j : S512x768.Idx) : k0_pay13 (F := Ideal) x0 x1 y0 y1 j = silu (halves x0 x1 y0 y1 (j 0) (j 1)) := by
  unfold silu
  rw [← pay12_apply, ← pay10_apply]
  rfl

/-- The derivative's tile. -/
theorem pay14_apply (x0 : Vec Ideal S512x512 .bf16) (x1 : Vec Ideal S512x512 .bf16) (y0 : Vec Ideal S768x512 .bf16) (y1 : Vec Ideal S768x512 .bf16) (z0 : Vec Ideal S768x512 .bf16) (z1 : Vec Ideal S768x512 .bf16) (j : S512x768.Idx) : k0_pay14 (F := Ideal) x0 x1 y0 y1 z0 z1 j = dsilu (halves x0 x1 y0 y1 (j 0) (j 1)) (halves x0 x1 z0 z1 (j 0) (j 1)) := by
  unfold dsilu
  rw [← pay12_apply, ← pay10_apply, ← pay11_apply]
  rfl

/-- One factor's tile. -/
theorem pay17_apply (x0 : Vec Ideal S512x512 .bf16) (x1 : Vec Ideal S512x512 .bf16) (y0 : Vec Ideal S768x512 .bf16) (y1 : Vec Ideal S768x512 .bf16) (j : S512x768.Idx) : k0_pay17 (F := Ideal) x0 x1 y0 y1 j = halves x0 x1 y0 y1 (j 0) (j 1) := by
  unfold k0_pay17 halves
  pointwise [dot_S512x512_S768x512_S512x768_1_1_0_0_n_n]

/-- One factor's tile. -/
theorem pay18_apply (x0 : Vec Ideal S512x512 .bf16) (x1 : Vec Ideal S512x512 .bf16) (y0 : Vec Ideal S768x512 .bf16) (y1 : Vec Ideal S768x512 .bf16) (j : S512x768.Idx) : k0_pay18 (F := Ideal) x0 x1 y0 y1 j = halves x0 x1 y0 y1 (j 0) (j 1) := by
  unfold k0_pay18 halves
  pointwise [dot_S512x512_S768x512_S512x768_1_1_0_0_n_n]

/-- The logistic function of the gate's tile. -/
theorem pay19_apply (x0 : Vec Ideal S512x512 .bf16) (x1 : Vec Ideal S512x512 .bf16) (y0 : Vec Ideal S768x512 .bf16) (y1 : Vec Ideal S768x512 .bf16) (j : S512x768.Idx) : k0_pay19 (F := Ideal) x0 x1 y0 y1 j = Ideal.logistic (halves x0 x1 y0 y1 (j 0) (j 1)) := by
  rw [← pay17_apply, ← sigmoid_eq]
  rfl

/-- The gate's function of its tile. -/
theorem pay20_apply (x0 : Vec Ideal S512x512 .bf16) (x1 : Vec Ideal S512x512 .bf16) (y0 : Vec Ideal S768x512 .bf16) (y1 : Vec Ideal S768x512 .bf16) (j : S512x768.Idx) : k0_pay20 (F := Ideal) x0 x1 y0 y1 j = silu (halves x0 x1 y0 y1 (j 0) (j 1)) := by
  unfold silu
  rw [← pay19_apply, ← pay17_apply]
  rfl

/-- The derivative's tile. -/
theorem pay21_apply (x0 : Vec Ideal S512x512 .bf16) (x1 : Vec Ideal S512x512 .bf16) (y0 : Vec Ideal S768x512 .bf16) (y1 : Vec Ideal S768x512 .bf16) (z0 : Vec Ideal S768x512 .bf16) (z1 : Vec Ideal S768x512 .bf16) (j : S512x768.Idx) : k0_pay21 (F := Ideal) x0 x1 y0 y1 z0 z1 j = dsilu (halves x0 x1 y0 y1 (j 0) (j 1)) (halves x0 x1 z0 z1 (j 0) (j 1)) := by
  unfold dsilu
  rw [← pay19_apply, ← pay17_apply, ← pay18_apply]
  rfl

/-- One factor's tile. -/
theorem pay24_apply (x0 : Vec Ideal S512x512 .bf16) (x1 : Vec Ideal S512x512 .bf16) (y0 : Vec Ideal S512x512 .bf16) (y1 : Vec Ideal S512x512 .bf16) (j : S512x512.Idx) : k0_pay24 (F := Ideal) x0 x1 y0 y1 j = halves x0 x1 y0 y1 (j 0) (j 1) := by
  unfold k0_pay24 halves
  pointwise [dot_S512x512_S512x512_S512x512_1_1_0_0_n_n]

/-- One factor's tile. -/
theorem pay25_apply (x0 : Vec Ideal S512x512 .bf16) (x1 : Vec Ideal S512x512 .bf16) (y0 : Vec Ideal S512x512 .bf16) (y1 : Vec Ideal S512x512 .bf16) (j : S512x512.Idx) : k0_pay25 (F := Ideal) x0 x1 y0 y1 j = halves x0 x1 y0 y1 (j 0) (j 1) := by
  unfold k0_pay25 halves
  pointwise [dot_S512x512_S512x512_S512x512_1_1_0_0_n_n]

/-- The logistic function of the gate's tile. -/
theorem pay26_apply (x0 : Vec Ideal S512x512 .bf16) (x1 : Vec Ideal S512x512 .bf16) (y0 : Vec Ideal S512x512 .bf16) (y1 : Vec Ideal S512x512 .bf16) (j : S512x512.Idx) : k0_pay26 (F := Ideal) x0 x1 y0 y1 j = Ideal.logistic (halves x0 x1 y0 y1 (j 0) (j 1)) := by
  rw [← pay24_apply, ← sigmoid_eq]
  rfl

/-- The gate's function of its tile. -/
theorem pay27_apply (x0 : Vec Ideal S512x512 .bf16) (x1 : Vec Ideal S512x512 .bf16) (y0 : Vec Ideal S512x512 .bf16) (y1 : Vec Ideal S512x512 .bf16) (j : S512x512.Idx) : k0_pay27 (F := Ideal) x0 x1 y0 y1 j = silu (halves x0 x1 y0 y1 (j 0) (j 1)) := by
  unfold silu
  rw [← pay26_apply, ← pay24_apply]
  rfl

/-- The derivative's tile. -/
theorem pay28_apply (x0 : Vec Ideal S512x512 .bf16) (x1 : Vec Ideal S512x512 .bf16) (y0 : Vec Ideal S512x512 .bf16) (y1 : Vec Ideal S512x512 .bf16) (z0 : Vec Ideal S512x512 .bf16) (z1 : Vec Ideal S512x512 .bf16) (j : S512x512.Idx) : k0_pay28 (F := Ideal) x0 x1 y0 y1 z0 z1 j = dsilu (halves x0 x1 y0 y1 (j 0) (j 1)) (halves x0 x1 z0 z1 (j 0) (j 1)) := by
  unfold dsilu
  rw [← pay26_apply, ← pay24_apply, ← pay25_apply]
  rfl

/-- What point `t`'s stores leave of output 3, piece by piece. -/
theorem tile3 (c : Dev nD) (t : Fin cfg0.N) (y : S512x5632.Idx) :
    (out0_A_3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) : Vec Ideal S512x5632 .bf16) y = back (m ((c : Thread nD τ).loc main_arg0)) (m ((c : Thread nD τ).loc main_arg1)) (ix2 (row t (y 0)) (y 1)) := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t))]
  have hp : View.PiecesOf (fun y : S512x5632.Idx => back (m ((c : Thread nD τ).loc main_arg0)) (m ((c : Thread nD τ).loc main_arg1)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)).1 := ?_
  · exact View.canon_apply_of_pieces (fun y : S512x5632.Idx => back (m ((c : Thread nD τ).loc main_arg0)) (m ((c : Thread nD τ).loc main_arg1)) (ix2 (row t (y 0)) (y 1))) _ (View.PiecesOf.mem hp) y (cover0_A_3 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y)
  unfold kernelRun0_A
  refine ⟨fun (x : S512x512.Idx) => ?_, fun (x : S512x512.Idx) => ?_, fun (x : S512x768.Idx) => ?_, fun (x : S512x768.Idx) => ?_, fun (x : S512x768.Idx) => ?_, fun (x : S512x768.Idx) => ?_, fun (x : S512x768.Idx) => ?_, fun (x : S512x768.Idx) => ?_, trivial⟩
  · exact (pay27_apply _ _ _ _ x).trans ((congrArg silu (halves_at m c t (o := 2304) (n := 512) inb_S5632x512_S512x512_2304_0 (x 0) (x 1) (by have l : (x 1).val < 512 := (x 1).isLt; omega))).trans (back_hi (m ((c : Thread nD τ).loc main_arg0)) (m ((c : Thread nD τ).loc main_arg1)) _ _ _ (by show t.val * 512 + (x 0).val = t.val * 512 + (0 + 1 * (x 0).val); omega)
      (by show 5120 + 1 * (x 1).val = 2816 + (2304 + (x 1).val); omega)))
  · exact (pay28_apply _ _ _ _ _ _ x).trans ((congrArg₂ dsilu (halves_at m c t (o := 2304) (n := 512) inb_S5632x512_S512x512_2304_0 (x 0) (x 1) (by have l : (x 1).val < 512 := (x 1).isLt; omega)) (halves_at m c t (o := 5120) (n := 512) inb_S5632x512_S512x512_5120_0 (x 0) (x 1) (by have l : (x 1).val < 512 := (x 1).isLt; omega))).trans (back_lo (m ((c : Thread nD τ).loc main_arg0)) (m ((c : Thread nD τ).loc main_arg1)) _ _ _ _ (by show t.val * 512 + (x 0).val = t.val * 512 + (0 + 1 * (x 0).val); omega)
      (by show 2304 + (x 1).val = 2304 + 1 * (x 1).val; omega) (by show 5120 + (x 1).val = 2816 + (2304 + 1 * (x 1).val); omega)
      (by have l : (x 1).val < 512 := (x 1).isLt; show 2304 + 1 * (x 1).val < 2816; omega)))
  · exact (pay20_apply _ _ _ _ x).trans ((congrArg silu (halves_at m c t (o := 1536) (n := 768) inb_S5632x512_S768x512_1536_0 (x 0) (x 1) (by have l : (x 1).val < 768 := (x 1).isLt; omega))).trans (back_hi (m ((c : Thread nD τ).loc main_arg0)) (m ((c : Thread nD τ).loc main_arg1)) _ _ _ (by show t.val * 512 + (x 0).val = t.val * 512 + (0 + 1 * (x 0).val); omega)
      (by show 4352 + 1 * (x 1).val = 2816 + (1536 + (x 1).val); omega)))
  · exact (pay21_apply _ _ _ _ _ _ x).trans ((congrArg₂ dsilu (halves_at m c t (o := 1536) (n := 768) inb_S5632x512_S768x512_1536_0 (x 0) (x 1) (by have l : (x 1).val < 768 := (x 1).isLt; omega)) (halves_at m c t (o := 4352) (n := 768) inb_S5632x512_S768x512_4352_0 (x 0) (x 1) (by have l : (x 1).val < 768 := (x 1).isLt; omega))).trans (back_lo (m ((c : Thread nD τ).loc main_arg0)) (m ((c : Thread nD τ).loc main_arg1)) _ _ _ _ (by show t.val * 512 + (x 0).val = t.val * 512 + (0 + 1 * (x 0).val); omega)
      (by show 1536 + (x 1).val = 1536 + 1 * (x 1).val; omega) (by show 4352 + (x 1).val = 2816 + (1536 + 1 * (x 1).val); omega)
      (by have l : (x 1).val < 768 := (x 1).isLt; show 1536 + 1 * (x 1).val < 2816; omega)))
  · exact (pay13_apply _ _ _ _ x).trans ((congrArg silu (halves_at m c t (o := 768) (n := 768) inb_S5632x512_S768x512_768_0 (x 0) (x 1) (by have l : (x 1).val < 768 := (x 1).isLt; omega))).trans (back_hi (m ((c : Thread nD τ).loc main_arg0)) (m ((c : Thread nD τ).loc main_arg1)) _ _ _ (by show t.val * 512 + (x 0).val = t.val * 512 + (0 + 1 * (x 0).val); omega)
      (by show 3584 + 1 * (x 1).val = 2816 + (768 + (x 1).val); omega)))
  · exact (pay14_apply _ _ _ _ _ _ x).trans ((congrArg₂ dsilu (halves_at m c t (o := 768) (n := 768) inb_S5632x512_S768x512_768_0 (x 0) (x 1) (by have l : (x 1).val < 768 := (x 1).isLt; omega)) (halves_at m c t (o := 3584) (n := 768) inb_S5632x512_S768x512_3584_0 (x 0) (x 1) (by have l : (x 1).val < 768 := (x 1).isLt; omega))).trans (back_lo (m ((c : Thread nD τ).loc main_arg0)) (m ((c : Thread nD τ).loc main_arg1)) _ _ _ _ (by show t.val * 512 + (x 0).val = t.val * 512 + (0 + 1 * (x 0).val); omega)
      (by show 768 + (x 1).val = 768 + 1 * (x 1).val; omega) (by show 3584 + (x 1).val = 2816 + (768 + 1 * (x 1).val); omega)
      (by have l : (x 1).val < 768 := (x 1).isLt; show 768 + 1 * (x 1).val < 2816; omega)))
  · exact (pay6_apply _ _ _ _ x).trans ((congrArg silu (halves_at m c t (o := 0) (n := 768) inb_S5632x512_S768x512_0_0 (x 0) (x 1) (by have l : (x 1).val < 768 := (x 1).isLt; omega))).trans (back_hi (m ((c : Thread nD τ).loc main_arg0)) (m ((c : Thread nD τ).loc main_arg1)) _ _ _ (by show t.val * 512 + (x 0).val = t.val * 512 + (0 + 1 * (x 0).val); omega)
      (by show 2816 + 1 * (x 1).val = 2816 + (0 + (x 1).val); omega)))
  · exact (pay7_apply _ _ _ _ _ _ x).trans ((congrArg₂ dsilu (halves_at m c t (o := 0) (n := 768) inb_S5632x512_S768x512_0_0 (x 0) (x 1) (by have l : (x 1).val < 768 := (x 1).isLt; omega)) (halves_at m c t (o := 2816) (n := 768) inb_S5632x512_S768x512_2816_0 (x 0) (x 1) (by have l : (x 1).val < 768 := (x 1).isLt; omega))).trans (back_lo (m ((c : Thread nD τ).loc main_arg0)) (m ((c : Thread nD τ).loc main_arg1)) _ _ _ _ (by show t.val * 512 + (x 0).val = t.val * 512 + (0 + 1 * (x 0).val); omega)
      (by show 0 + (x 1).val = 0 + 1 * (x 1).val; omega) (by show 2816 + (x 1).val = 2816 + (0 + 1 * (x 1).val); omega)
      (by have l : (x 1).val < 768 := (x 1).isLt; show 0 + 1 * (x 1).val < 2816; omega)))

/-- The array after the run. -/
theorem final3 (c : Dev nD) : (dats m 0 c).arrAt 3 cfg0.N = back (m ((c : Thread nD τ).loc main_arg0)) (m ((c : Thread nD τ).loc main_arg1)) := by
  refine (dats m 0 c).arrAt_eq_of_cover 3 _ (fun t _ => ?_) cover3
  rw [Value.flushed3_A]
  funext j
  show (out0_A_3 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) : Vec Ideal S512x5632 .bf16) j = back (m ((c : Thread nD τ).loc main_arg0)) (m ((c : Thread nD τ).loc main_arg1)) (((cfg0.win 3).blk t).view.emb j)
  rw [emb3, tile3]
  rfl

/-- What point `t`'s stores leave of output 4, piece by piece. -/
theorem tile4 (c : Dev nD) (t : Fin cfg0.N) (y : S512x2816.Idx) :
    (out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) : Vec Ideal S512x2816 .bf16) y = act (m ((c : Thread nD τ).loc main_arg0)) (m ((c : Thread nD τ).loc main_arg1)) (ix2 (row t (y 0)) (y 1)) := by
  unfold out0_A_4
  rw [View.read_writes_eq_canon _ _ _ (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t))]
  have hp : View.PiecesOf (fun y : S512x2816.Idx => act (m ((c : Thread nD τ).loc main_arg0)) (m ((c : Thread nD τ).loc main_arg1)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t)).2.1 := ?_
  · exact View.canon_apply_of_pieces (fun y : S512x2816.Idx => act (m ((c : Thread nD τ).loc main_arg0)) (m ((c : Thread nD τ).loc main_arg1)) (ix2 (row t (y 0)) (y 1))) _ (View.PiecesOf.mem hp) y (cover0_A_4 c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) y)
  unfold kernelRun0_A
  refine ⟨fun (x : S512x512.Idx) => ?_, fun (x : S512x768.Idx) => ?_, fun (x : S512x768.Idx) => ?_, fun (x : S512x768.Idx) => ?_, trivial⟩
  · exact (congrArg₂ (fun a b : EReal => a * b) ((pay27_apply _ _ _ _ x).trans (congrArg silu (halves_at m c t (o := 2304) (n := 512) inb_S5632x512_S512x512_2304_0 (x 0) (x 1) (by have l : (x 1).val < 512 := (x 1).isLt; omega)))) ((pay25_apply _ _ _ _ x).trans (halves_at m c t (o := 5120) (n := 512) inb_S5632x512_S512x512_5120_0 (x 0) (x 1) (by have l : (x 1).val < 512 := (x 1).isLt; omega)))).trans
      (act_at (m ((c : Thread nD τ).loc main_arg0)) (m ((c : Thread nD τ).loc main_arg1)) _ _ _ _ (by show t.val * 512 + (x 0).val = t.val * 512 + (0 + 1 * (x 0).val); omega) (by show 2304 + (x 1).val = 2304 + 1 * (x 1).val; omega) (by show 5120 + (x 1).val = 2816 + (2304 + 1 * (x 1).val); omega))
  · exact (congrArg₂ (fun a b : EReal => a * b) ((pay20_apply _ _ _ _ x).trans (congrArg silu (halves_at m c t (o := 1536) (n := 768) inb_S5632x512_S768x512_1536_0 (x 0) (x 1) (by have l : (x 1).val < 768 := (x 1).isLt; omega)))) ((pay18_apply _ _ _ _ x).trans (halves_at m c t (o := 4352) (n := 768) inb_S5632x512_S768x512_4352_0 (x 0) (x 1) (by have l : (x 1).val < 768 := (x 1).isLt; omega)))).trans
      (act_at (m ((c : Thread nD τ).loc main_arg0)) (m ((c : Thread nD τ).loc main_arg1)) _ _ _ _ (by show t.val * 512 + (x 0).val = t.val * 512 + (0 + 1 * (x 0).val); omega) (by show 1536 + (x 1).val = 1536 + 1 * (x 1).val; omega) (by show 4352 + (x 1).val = 2816 + (1536 + 1 * (x 1).val); omega))
  · exact (congrArg₂ (fun a b : EReal => a * b) ((pay13_apply _ _ _ _ x).trans (congrArg silu (halves_at m c t (o := 768) (n := 768) inb_S5632x512_S768x512_768_0 (x 0) (x 1) (by have l : (x 1).val < 768 := (x 1).isLt; omega)))) ((pay11_apply _ _ _ _ x).trans (halves_at m c t (o := 3584) (n := 768) inb_S5632x512_S768x512_3584_0 (x 0) (x 1) (by have l : (x 1).val < 768 := (x 1).isLt; omega)))).trans
      (act_at (m ((c : Thread nD τ).loc main_arg0)) (m ((c : Thread nD τ).loc main_arg1)) _ _ _ _ (by show t.val * 512 + (x 0).val = t.val * 512 + (0 + 1 * (x 0).val); omega) (by show 768 + (x 1).val = 768 + 1 * (x 1).val; omega) (by show 3584 + (x 1).val = 2816 + (768 + 1 * (x 1).val); omega))
  · exact (congrArg₂ (fun a b : EReal => a * b) ((pay6_apply _ _ _ _ x).trans (congrArg silu (halves_at m c t (o := 0) (n := 768) inb_S5632x512_S768x512_0_0 (x 0) (x 1) (by have l : (x 1).val < 768 := (x 1).isLt; omega)))) ((pay4_apply _ _ _ _ x).trans (halves_at m c t (o := 2816) (n := 768) inb_S5632x512_S768x512_2816_0 (x 0) (x 1) (by have l : (x 1).val < 768 := (x 1).isLt; omega)))).trans
      (act_at (m ((c : Thread nD τ).loc main_arg0)) (m ((c : Thread nD τ).loc main_arg1)) _ _ _ _ (by show t.val * 512 + (x 0).val = t.val * 512 + (0 + 1 * (x 0).val); omega) (by show 0 + (x 1).val = 0 + 1 * (x 1).val; omega) (by show 2816 + (x 1).val = 2816 + (0 + 1 * (x 1).val); omega))

/-- The array after the run. -/
theorem final4 (c : Dev nD) : (dats m 0 c).arrAt 4 cfg0.N = act (m ((c : Thread nD τ).loc main_arg0)) (m ((c : Thread nD τ).loc main_arg1)) := by
  refine (dats m 0 c).arrAt_eq_of_cover 4 _ (fun t _ => ?_) cover4
  rw [Value.flushed4_A]
  funext j
  show (out0_A_4 (F := Ideal) c (grid0.coords t) (ms0_0 t) (hs0_0 t) (ms0_1 t) (hs0_1 t) (ms0_2 t) (hs0_2 t) (ms0_3 t) (hs0_3 t) (ms0_4 t) (hs0_4 t) (iblk m c 0 t) (iblk m c 1 t) (iblk m c 2 t) : Vec Ideal S512x2816 .bf16) j = act (m ((c : Thread nD τ).loc main_arg0)) (m ((c : Thread nD τ).loc main_arg1)) (((cfg0.win 4).blk t).view.emb j)
  rw [emb4, tile4]
  rfl

section Reference

variable (x0 : Vec Ideal S4096x1024 .bf16) (x1 : Vec Ideal S1024x5632 .f32)

/-- The reference's gate. -/
theorem ref_gate (i : S4096x2816.Idx) : Cert.UpRefIdeal.Read.val_main_v2 (F := Ideal) x0 x1 i
    = lin x0 x1 (i 0) ⟨(i 1).val, by have l : (i 1).val < 2816 := (i 1).isLt; omega⟩ := by
  open Cert.UpRefIdeal.Read in
  rw [val_main_v2_apply, val_main_v1_apply]
  unfold lin
  refine Finset.sum_congr rfl fun k _ => ?_
  exact congrArg₂ (fun a b : EReal => a * b) (congrArg x0 (Shape.idx_ext₂ rfl rfl)) (congrArg x1 (Shape.idx_ext₂ rfl rfl))

/-- The reference's other factor. -/
theorem ref_up (i : S4096x2816.Idx) : Cert.UpRefIdeal.Read.val_main_v3 (F := Ideal) x0 x1 i
    = lin x0 x1 (i 0) ⟨2816 + (i 1).val, by have l : (i 1).val < 2816 := (i 1).isLt; omega⟩ := by
  open Cert.UpRefIdeal.Read in
  rw [val_main_v3_apply, val_main_v1_apply]
  unfold lin
  refine Finset.sum_congr rfl fun k _ => ?_
  exact congrArg₂ (fun a b : EReal => a * b) (congrArg x0 (Shape.idx_ext₂ rfl rfl)) (congrArg x1 (Shape.idx_ext₂ rfl rfl))

/-- The reference's logistic function. -/
theorem ref_sig (i : S4096x2816.Idx) : Cert.UpRefIdeal.Read.val_main_v4_2 (F := Ideal) x0 x1 i
    = Ideal.logistic (Cert.UpRefIdeal.Read.val_main_v2 (F := Ideal) x0 x1 i) := logistic_eq _

/-- The reference's gated product. -/
theorem ref_act : Cert.UpRefIdeal.Read.val_main_v12 (F := Ideal) x0 x1 = act x0 x1 := by
  funext i
  show (Cert.UpRefIdeal.Read.val_main_v2 (F := Ideal) x0 x1 i * Cert.UpRefIdeal.Read.val_main_v4_2 (F := Ideal) x0 x1 i : EReal)
    * Cert.UpRefIdeal.Read.val_main_v3 (F := Ideal) x0 x1 i = _
  rw [ref_sig, ref_gate, ref_up]
  rfl

/-- The reference's derivative by the gate. -/
theorem ref_dsilu (h0 : ∀ i, IsReal (x0 i)) (h1 : ∀ i, IsReal (x1 i)) (i : S4096x2816.Idx) :
    Cert.UpRefIdeal.Read.val_main_v9 (F := Ideal) x0 x1 i
      = dsilu (Cert.UpRefIdeal.Read.val_main_v2 (F := Ideal) x0 x1 i) (Cert.UpRefIdeal.Read.val_main_v3 (F := Ideal) x0 x1 i) := by
  show ((Ideal.ofBits .f32 0x3F800000#32 * Cert.UpRefIdeal.Read.val_main_v3 (F := Ideal) x0 x1 i) * Cert.UpRefIdeal.Read.val_main_v4_2 (F := Ideal) x0 x1 i : EReal)
    + (Cert.UpRefIdeal.Read.val_main_v2 (F := Ideal) x0 x1 i * (Ideal.ofBits .f32 0x3F800000#32 * Cert.UpRefIdeal.Read.val_main_v3 (F := Ideal) x0 x1 i))
      * (Cert.UpRefIdeal.Read.val_main_v4_2 (F := Ideal) x0 x1 i * (Ideal.ofBits .f32 0x3F800000#32 - Cert.UpRefIdeal.Read.val_main_v4_2 (F := Ideal) x0 x1 i)) = _
  rw [ref_sig]
  have lin_real : ∀ p q, IsReal (lin x0 x1 p q) := fun p q => isReal_sum _ _ fun k => (h0 _).mul (h1 _)
  obtain ⟨u, hu⟩ : IsReal (Cert.UpRefIdeal.Read.val_main_v3 (F := Ideal) x0 x1 i) := by rw [ref_up]; exact lin_real _ _
  obtain ⟨g, hg⟩ : IsReal (Cert.UpRefIdeal.Read.val_main_v2 (F := Ideal) x0 x1 i) := by rw [ref_gate]; exact lin_real _ _
  rw [hu, hg, dsilu, Ideal.logistic_coe, bits_one_coe]
  simp only [← EReal.coe_mul, ← EReal.coe_add, ← EReal.coe_sub]
  congr 1
  ring

/-- The reference's factors of the derivative. -/
theorem ref_back (h0 : ∀ i, IsReal (x0 i)) (h1 : ∀ i, IsReal (x1 i)) : Cert.UpRefIdeal.Read.val_main_v11 (F := Ideal) x0 x1 = back x0 x1 := by
  funext i
  have l1 : (i 1).val < 5632 := (i 1).isLt
  have e : Cert.UpRefIdeal.Read.val_main_v10 (F := Ideal) x0 x1 i
      = if h : (i 1).val < 2816 then Cert.UpRefIdeal.Read.val_main_v9 (F := Ideal) x0 x1 (ix2 (i 0) (⟨(i 1).val, h⟩ : Fin 2816))
        else Cert.UpRefIdeal.Read.val_main_v7 (F := Ideal) x0 x1 (ix2 (i 0) (⟨(i 1).val - 2816, by omega⟩ : Fin 2816)) := by
    unfold Cert.UpRefIdeal.Read.val_main_v10
    pointwise
  show Cert.UpRefIdeal.Read.val_main_v10 (F := Ideal) x0 x1 i = _
  rw [e]
  unfold back
  split
  · rw [ref_dsilu x0 x1 h0 h1, ref_gate, ref_up]
    rfl
  · show ((Cert.UpRefIdeal.Read.val_main_v2 (F := Ideal) x0 x1 _ * Cert.UpRefIdeal.Read.val_main_v4_2 (F := Ideal) x0 x1 _ : EReal)) * Ideal.ofBits .f32 0x3F800000#32 = _
    rw [ref_sig, ref_gate, bits_one, mul_one]
    rfl

end Reference

/-- The shape relations of the precondition's operations. -/
theorem pre_facts : Cert.Pre_finite_up.Facts := by
  constructor <;> decide

/-- What the precondition says: every entry of the arguments it is about is a real number. -/
theorem real_args [hPre : Cert.Pre_finite_up.Facts] (h : Cert.Pre_UpIdeal_finite_up m) (c : Dev nD) :
    (∀ i, IsReal (m ((c : Thread nD τ).loc main_arg0) i)) ∧ (∀ i, IsReal (m ((c : Thread nD τ).loc main_arg1) i)) := by
  have e := congrFun (h c) (fun a => a.elim0)
  obtain ⟨e1', e1⟩ := IntOp.andi_eq_one.1 e
  have e0 := e1'
  exact ⟨fun i => isReal_of_cmp (Host.reduce_andi_all _ _ _ _ _ e0 i), fun i => isReal_of_cmp (Host.reduce_andi_all _ _ _ _ _ e1 i)⟩

/-- The kernel's body table is the ideal kernel's, whose text is the same. -/
theorem defs₀_eq {F : FTy → Type} [FloatOps F] : Cert.Up.defs₀ (F := F) = Cert.UpIdeal.defs₀ (F := F) :=
  congrArg Defs.onTc (funext fun l => funext fun a => by
    match l, a with
    | 0, (t, s) => rfl)

/-- With the pipeline's labels, too. -/
theorem defs_eq {F : FTy → Type} [FloatOps F] : Cert.Up.defs (F := F) = Cert.UpIdeal.defs (F := F) :=
  congrArg (fun d => Pipeline.defs Cert.Up.pcfgs d) defs₀_eq

/-- The kernel's frame. -/
theorem frame_P : Cert.quiescent_Up := fun m ρ _ => by
  rw [defs_eq]
  exact Cert.UpIdeal.Gen.frame (F := Bits) m ρ

/-- The ideal kernel's frame. -/
theorem frame_PI : Cert.quiescent_UpIdeal := fun m ρ _ => Cert.UpIdeal.Gen.frame (F := Ideal) m ρ

/-- The reference's frame. -/
theorem frame_RI : Cert.quiescent_UpRefIdeal := fun m ρ _ =>
  (θ_run Cert.UpRefIdeal.defs _ _).mono (fun r h => ⟨fun c => (h c).2.2,
      Idealize.ShloMosaic.sem_eq_zero_of_no_sems (by decide) r.2⟩)
    (Cert.UpRefIdeal.Value.run (F := Ideal) m ρ)

/-- The ideal kernel's frame from the arguments the value claim is about. -/
theorem frame_PI_pre [hPre : Cert.Pre_finite_up.Facts] : Cert.quiescent_UpIdeal_pre_finite_up := fun m ρ _ => Cert.UpIdeal.Gen.frame (F := Ideal) m ρ

/-- The reference's frame from the arguments the value claim is about. -/
theorem frame_RI_pre [hPre : Cert.Pre_finite_up.Facts] : Cert.quiescent_UpRefIdeal_pre_finite_up := fun m ρ _ =>
  (θ_run Cert.UpRefIdeal.defs _ _).mono (fun r h => ⟨fun c => (h c).2.2,
      Idealize.ShloMosaic.sem_eq_zero_of_no_sems (by decide) r.2⟩)
    (Cert.UpRefIdeal.Value.run (F := Ideal) m ρ)

/-- Kernel and reference agree at every index of the two results. -/
theorem algebraic [hPre : Cert.Pre_finite_up.Facts] : Cert.algebraic_UpIdeal_UpRefIdeal_pre_finite_up := by
  intro m g m' g' hp hargs
  refine ⟨fun c => back (m ((c : Thread nD τ).loc main_arg0)) (m ((c : Thread nD τ).loc main_arg1)), fun c => act (m ((c : Thread nD τ).loc main_arg0)) (m ((c : Thread nD τ).loc main_arg1)), ?_, ?_⟩
  · exact (θ_run _ _ _).mono (fun r h c => ⟨(h c).1.trans (final3 m c), (h c).2.1.trans (final4 m c), (h c).2.2⟩)
      (Value.run_blocks (F := Ideal) m g)
  · refine (θ_run _ _ _).mono (fun r h c => ⟨?_, ?_, (h c).2.2⟩) (Cert.UpRefIdeal.Value.run (F := Ideal) m' g')
    all_goals obtain ⟨a0, a1⟩ := hargs c
    · refine (h c).1.trans ((Cert.UpRefIdeal.Read.val_main_v11_eq _ _).trans ?_)
      rw [a0, a1]
      exact ref_back _ _ (real_args m hp c).1 (real_args m hp c).2
    · refine (h c).2.1.trans ((Cert.UpRefIdeal.Read.val_main_v12_eq _ _).trans ?_)
      rw [a0, a1]
      exact ref_act _ _

end Cert.Proof.Up

end
-- ==== Proof.NormBack.lean ====
/-
  The gradient of the row normalisation over the extended reals, in the two ways the programs write it, and a sum over the rows of an array
  taken tile by tile.
-/
module

public import proofs.«01_k».proof.Proof.Reals

@[expose] public section

noncomputable section

namespace Cert.Proof

open Idealize.ShloMosaic

/-- The bits of the number added under the root. -/
theorem bits_eps : Ideal.ofBits .f32 0x358637BD#32 = ((8796093 / 8796093022208 : ℝ) : EReal) := by
  simp [Ideal.ofBits, Ideal.ieee, -EReal.coe_mul]; norm_num

/-- The bits of minus one half. -/
theorem bits_neg_half : Ideal.ofBits .f32 0xBF000000#32 = ((-(1 / 2) : ℝ) : EReal) := by
  simp [Ideal.ofBits, Ideal.ieee, -EReal.coe_mul]; norm_num

/-- A row's mean square and the small number. -/
def meanSq (x : Fin 1024 → EReal) : EReal :=
  Ideal.div (∑ k, x k * x k) (Ideal.ofBits .f32 0x44800000#32) + Ideal.ofBits .f32 0x358637BD#32

/-- The reciprocal of its root. -/
def rms (x : Fin 1024 → EReal) : EReal := Ideal.rsqrt (meanSq x)

/-- The gradient of the normalised row, added to a residual's, as the kernels write it. -/
def normBack (x dh g d : Fin 1024 → EReal) (q : Fin 1024) : EReal :=
  d q + rms x * (dh q * g q - x q * rms x
    * Ideal.div (∑ j, dh j * g j * (x j * rms x)) (Ideal.ofBits .f32 0x44800000#32))

/-- Equal rows have equal gradients. -/
theorem normBack_congr {x x' dh dh' g g' d d' : Fin 1024 → EReal} (hx : ∀ k, x k = x' k) (hdh : ∀ k, dh k = dh' k) (hg : ∀ k, g k = g' k)
    (hd : ∀ k, d k = d' k) (q : Fin 1024) : normBack x dh g d q = normBack x' dh' g' d' q := by
  rw [funext hx, funext hdh, funext hg, funext hd]

/-- The mean square's part of that gradient, as differentiation writes it. -/
def normMean (x dh g : Fin 1024 → EReal) : EReal :=
  Ideal.div ((∑ j, x j * (dh j * g j)) * (Ideal.ofBits .f32 0xBF000000#32 * Ideal.div (rms x) (meanSq x)))
    (Ideal.ofBits .f32 0x44800000#32)

/-- A row of real numbers has a positive real mean square. -/
theorem meanSq_real {x : Fin 1024 → EReal} {X : Fin 1024 → ℝ} (h : ∀ k, x k = (X k : EReal)) : ∃ M : ℝ, 0 < M ∧ meanSq x = (M : EReal) := by
  refine ⟨(∑ k, X k * X k) * (1 / 1024) + 8796093 / 8796093022208, ?_, ?_⟩
  · have : 0 ≤ ∑ k, X k * X k := Finset.sum_nonneg fun k _ => mul_self_nonneg _
    positivity
  · unfold meanSq
    rw [bits_1024, bits_eps, Ideal.div_coe (by norm_num)]
    simp only [h, ← EReal.coe_mul, coe_sum, ← EReal.coe_add]

/-- A real factor that is not negative comes out of a sum, whatever the summands. -/
theorem sum_mul_nonneg {ι : Type} (s : Finset ι) (f : ι → EReal) {r : ℝ} (hr : 0 ≤ r) : ∑ j ∈ s, f j * (r : EReal) = (∑ j ∈ s, f j) * (r : EReal) := by
  classical
  induction s using Finset.induction_on with
  | empty => simp
  | insert a s ha ih =>
    rw [Finset.sum_insert ha, Finset.sum_insert ha, ih]
    exact (EReal.right_distrib_of_nonneg_of_ne_top (EReal.coe_nonneg.2 hr) (EReal.coe_ne_top r) _ _).symm

/-- Twice an extended real. -/
theorem twice (a : EReal) : a + a = a * ((2 : ℝ) : EReal) := by
  induction a using EReal.rec with
  | bot => rw [EReal.bot_mul_coe_of_pos (by norm_num)]; rfl
  | top => rw [EReal.top_mul_coe_of_pos (by norm_num)]; rfl
  | coe x => rw [← EReal.coe_add, ← EReal.coe_mul, mul_two]

/-- A row with an infinite entry has an infinite mean square. -/
theorem meanSq_top {x : Fin 1024 → EReal} (h : ¬∀ k, IsReal (x k)) : meanSq x = ⊤ := by
  obtain ⟨k, hk⟩ := not_forall.1 h
  have e : x k * x k = ⊤ := by
    generalize x k = y at hk
    induction y using EReal.rec with
    | bot => rfl
    | top => rfl
    | coe r => exact absurd ⟨r, rfl⟩ hk
  have nn : ∀ j, 0 ≤ x j * x j := fun j => by
    generalize x j = y
    induction y using EReal.rec with
    | bot => exact le_top
    | top => exact le_top
    | coe r => rw [← EReal.coe_mul]; exact EReal.coe_nonneg.2 (mul_self_nonneg r)
  have s : ∑ j, x j * x j = ⊤ := top_le_iff.1 (e ▸ Finset.single_le_sum (fun j _ => nn j) (Finset.mem_univ k))
  unfold meanSq
  rw [s, bits_1024, bits_eps, Ideal.div_coe (by norm_num), EReal.top_mul_coe_of_pos (by norm_num), EReal.top_add_coe]

/-- The reciprocal root of a row of real numbers. -/
theorem rms_real {x : Fin 1024 → EReal} (h : ∀ k, IsReal (x k)) :
    ∃ r M : ℝ, 0 ≤ r ∧ M ≠ 0 ∧ r * r = 1 / M ∧ rms x = (r : EReal) ∧ meanSq x = (M : EReal) := by
  choose X hX using h
  obtain ⟨M, hM, e⟩ := meanSq_real hX
  refine ⟨(Real.sqrt M)⁻¹, M, inv_nonneg.2 (Real.sqrt_nonneg M), hM.ne', ?_, ?_, e⟩
  · rw [← mul_inv, Real.mul_self_sqrt hM.le, one_div]
  · unfold rms
    rw [e, Ideal.rsqrt_coe, if_neg hM.not_gt, if_neg hM.ne']

/-- The two forms are equal, for all extended reals: of a row of real numbers every factor outside the sum is real, and a row with an infinite entry has
the root zero. -/
theorem normBack_eq (x dh g d : Fin 1024 → EReal) (q : Fin 1024) :
    d q + dh q * g q * rms x + x q * normMean x dh g + normMean x dh g * x q = normBack x dh g d q := by
  by_cases h : ∀ k, IsReal (x k)
  · obtain ⟨r, M, hr0, hM, hr, er, eM⟩ := rms_real h
    obtain ⟨X, eX⟩ := h q
    have s : ∑ j, dh j * g j * (x j * (r : EReal)) = (∑ j, x j * (dh j * g j)) * (r : EReal) := by
      rw [← sum_mul_nonneg _ _ hr0]
      exact Finset.sum_congr rfl fun j _ => by ac_rfl
    unfold normBack normMean
    rw [er, eM, s, bits_1024, bits_neg_half, Ideal.div_coe hM, Ideal.div_coe (show (1024 : ℝ) ≠ 0 by norm_num), Ideal.div_coe (show (1024 : ℝ) ≠ 0 by norm_num), eX]
    generalize (∑ j, x j * (dh j * g j)) = S
    generalize dh q * g q = u
    rw [add_assoc, mul_comm _ (X : EReal), twice, add_assoc, sub_eq_add_neg,
      EReal.left_distrib_of_nonneg_of_ne_top (EReal.coe_nonneg.2 hr0) (EReal.coe_ne_top r), mul_comm (r : EReal) u]
    refine congrArg (fun z : EReal => d q + (u * (r : EReal) + z)) ?_
    have e1 : (X : EReal) * (S * (((-(1 / 2) : ℝ) : EReal) * ((r : EReal) * ((1 / M : ℝ) : EReal))) * ((1 / 1024 : ℝ) : EReal)) * ((2 : ℝ) : EReal)
        = S * ((X * (-(1 / 2) * (r * (1 / M))) * (1 / 1024) * 2 : ℝ) : EReal) := by
      simp only [EReal.coe_mul]; ac_rfl
    have e2 : (r : EReal) * -((X : EReal) * (r : EReal) * (S * (r : EReal) * ((1 / 1024 : ℝ) : EReal)))
        = S * ((-(r * X * r * r * (1 / 1024)) : ℝ) : EReal) := by
      rw [EReal.coe_neg, mul_neg, mul_neg]
      refine congrArg (fun z : EReal => -z) ?_
      simp only [EReal.coe_mul]; ac_rfl
    refine e1.trans (Eq.trans ?_ e2.symm)
    refine congrArg (fun z : ℝ => S * (z : EReal)) ?_
    rw [← hr]
    ring
  · have er : rms x = 0 := by unfold rms; rw [meanSq_top h, Ideal.rsqrt_top]
    unfold normBack normMean
    rw [er, meanSq_top h]
    have z : Ideal.div 0 ⊤ = 0 := by unfold Ideal.div; rw [if_neg EReal.top_ne_zero, zero_mul]
    rw [z, mul_zero, mul_zero, bits_1024, Ideal.div_coe (by norm_num)]
    simp

/-- A function of the rows, with zero past them. -/
def past (f : Fin 4096 → EReal) (n : ℕ) : EReal := if h : n < 4096 then f ⟨n, h⟩ else 0

/-- The sum over the first rows. -/
def upTo (f : Fin 4096 → EReal) (n : ℕ) : EReal := ∑ i ∈ Finset.range n, past f i

/-- Over none. -/
theorem upTo_zero (f : Fin 4096 → EReal) : upTo f 0 = 0 := Finset.sum_range_zero _

/-- Over one tile of rows more. -/
theorem upTo_add (f : Fin 4096 → EReal) (t : ℕ) (ht : t < 8) (g : Fin 512 → EReal)
    (hg : ∀ p : Fin 512, g p = f ⟨t * 512 + p.val, by omega⟩) : upTo f (t * 512) + ∑ p, g p = upTo f ((t + 1) * 512) := by
  unfold upTo
  rw [Nat.add_mul, Nat.one_mul, Finset.sum_range_add]
  refine congrArg (_ + ·) ?_
  rw [Finset.sum_range]
  refine Finset.sum_congr rfl fun p _ => ?_
  rw [hg, past, dif_pos]

/-- Over all of them. -/
theorem upTo_all (f : Fin 4096 → EReal) : upTo f 4096 = ∑ k, f k := by
  unfold upTo
  rw [Finset.sum_range]
  refine Finset.sum_congr rfl fun p _ => ?_
  rw [past, dif_pos p.isLt]

/-- The second of an equal pair. -/
theorem snd_of {α β : Type} {p : α × β} {a : α} {b : β} (h : p = (a, b)) : p.2 = b := by rw [h]

/-- The third of four. -/
theorem third_of {α β γ δ : Type} {p : α × β × γ × δ} {a : α} {b : β} {c : γ} {d : δ} (h : p = (a, b, c, d)) : p.2.2.1 = c := by rw [h]

/-- The last of four. -/
theorem last_of {α β γ δ : Type} {p : α × β × γ × δ} {a : α} {b : β} {c : γ} {d : δ} (h : p = (a, b, c, d)) : p.2.2.2 = d := by rw [h]

end Cert.Proof

end
-- ==== Proof.Loss.lean ====
/-
  `Loss`: the down projection, the last normalisation, the loss and its gradients (the call `ffn_down_loss`).
-/
module

public import proofs.«01_k».proof.Defs
public import proofs.«01_k».proof.Proof.Gen.Loss
public import proofs.«01_k».proof.Proof.Gen.LossIdeal
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Reals
public import Idealize.ShloMosaic.Lib.Pointwise
public import proofs.«01_k».proof.Proof.NormBack
public import Idealize.ShloMosaic.Lib.ValueIdx
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.Loss

open Idealize.ShloMosaic Idealize.ShloMosaic.TcCoe Idealize.SL.Sem
open Cert.LossIdeal Cert.LossIdeal.Gen
open Idealize.ShloMosaic.Pipeline (Dat Cfg Window)

variable (m : (ℓ : Loc nD τ sig) → Buf (Elt Ideal) ℓ)

/-- The bits of the reciprocal of the row length. -/
theorem bits_inv_1024 : Ideal.ofBits .f32 0x3A800000#32 = ((1 / 1024 : ℝ) : EReal) := by
  simp [Ideal.ofBits, Ideal.ieee, -EReal.coe_mul]; norm_num

/-- The bits of half of it. -/
theorem bits_inv_2048 : Ideal.ofBits .f32 0x3A000000#32 = ((1 / 2048 : ℝ) : EReal) := by
  simp [Ideal.ofBits, Ideal.ieee, -EReal.coe_mul]; norm_num

/-- The bits of two. -/
theorem bits_two : Ideal.ofBits .f32 0x40000000#32 = ((2 : ℝ) : EReal) := by
  simp [Ideal.ofBits, Ideal.ieee, -EReal.coe_mul]; norm_num

/-- The index of the norm's scale at a column. -/
def col (q : Fin 1024) : S1024.Idx := fun d => match d with | ⟨0, _⟩ => q

/-- An entry of the norm's scale. -/
def entry (g : Vec Ideal S1024 .f32) (q : Fin 1024) : EReal := g (col q)

/-- The residual stream after the down projection. -/
def out (a : Vec Ideal S4096x2816 .bf16) (x2 : Vec Ideal S4096x1024 .f32) (w : Vec Ideal S2816x1024 .f32) (p : Fin 4096) (q : Fin 1024) : EReal :=
  x2 (ix2 p q) + ∑ k : Fin 2816, (a (ix2 p k) * w (ix2 k q) : EReal)

/-- The error: the normalised and scaled row less the target. -/
def err (a : Vec Ideal S4096x2816 .bf16) (x2 : Vec Ideal S4096x1024 .f32) (y : Vec Ideal S4096x1024 .f32) (w : Vec Ideal S2816x1024 .f32) (g : Vec Ideal S1024 .f32) (p : Fin 4096) (q : Fin 1024) : EReal :=
  out a x2 w p q * rms (out a x2 w p) * entry g q - y (ix2 p q)

/-- The loss's gradient in the prediction. -/
def dpred (a : Vec Ideal S4096x2816 .bf16) (x2 : Vec Ideal S4096x1024 .f32) (y : Vec Ideal S4096x1024 .f32) (w : Vec Ideal S2816x1024 .f32) (g : Vec Ideal S1024 .f32) (p : Fin 4096) (q : Fin 1024) : EReal :=
  err a x2 y w g p q * Ideal.ofBits .f32 0x3A800000#32

/-- The loss's gradient in the residual stream. -/
def grad (a : Vec Ideal S4096x2816 .bf16) (x2 : Vec Ideal S4096x1024 .f32) (y : Vec Ideal S4096x1024 .f32) (w : Vec Ideal S2816x1024 .f32) (g : Vec Ideal S1024 .f32) : Vec Ideal S4096x1024 .f32 := fun i =>
  normBack (out a x2 w (i 0)) (dpred a x2 y w g (i 0)) (entry g) (fun _ => 0) (i 1)

/-- A row's part of the gradient of the normalisation's scale. -/
def term (a : Vec Ideal S4096x2816 .bf16) (x2 : Vec Ideal S4096x1024 .f32) (y : Vec Ideal S4096x1024 .f32) (w : Vec Ideal S2816x1024 .f32) (g : Vec Ideal S1024 .f32) (q : Fin 1024) (p : Fin 4096) : EReal :=
  dpred a x2 y w g p q * (out a x2 w p q * rms (out a x2 w p))

/-- The sum of the first rows' parts, in the first of eight rows; the others are zero. -/
def acc (a : Vec Ideal S4096x2816 .bf16) (x2 : Vec Ideal S4096x1024 .f32) (y : Vec Ideal S4096x1024 .f32) (w : Vec Ideal S2816x1024 .f32) (g : Vec Ideal S1024 .f32) (n : ℕ) : Vec Ideal S8x1024 .f32 := fun i =>
  if (i 0).val = 0 then upTo (term a x2 y w g (i 1)) n else 0

/-- A row's part of the loss. -/
def part (a : Vec Ideal S4096x2816 .bf16) (x2 : Vec Ideal S4096x1024 .f32) (y : Vec Ideal S4096x1024 .f32) (w : Vec Ideal S2816x1024 .f32) (g : Vec Ideal S1024 .f32) (p : Fin 4096) : EReal :=
  (∑ k, err a x2 y w g p k * err a x2 y w g p k) * ((1 / 2048 : ℝ) : EReal)

/-- The first rows' part of the loss. -/
def loss (a : Vec Ideal S4096x2816 .bf16) (x2 : Vec Ideal S4096x1024 .f32) (y : Vec Ideal S4096x1024 .f32) (w : Vec Ideal S2816x1024 .f32) (g : Vec Ideal S1024 .f32) (n : ℕ) : Vec Ideal S1x1 .f32 := fun _ =>
  upTo (part a x2 y w g) n

/-- The weights rounded: over the extended reals themselves. -/
def wts (w : Vec Ideal S2816x1024 .f32) : Vec Ideal S2816x1024 .bf16 := fun i => w i

/-- The scale as an array of one row. -/
def scale (g : Vec Ideal S1024 .f32) : Vec Ideal S1x1024 .f32 := fun i => entry g (i 1)

/-- What the region finds in the weights' array. -/
theorem V_v0 (c : Dev nD) : (V m c main_v0 : Vec Ideal S2816x1024 .bf16) = wts (m ((c : Thread nD τ).loc main_arg3)) := by
  unfold V
  after_results_simp
  rfl

/-- The scale's one row is the scale recast. -/
theorem recast (g : Vec Ideal S1024 .f32) (h : S1024.ShapeCasts S1x1024) : shapeCast S1x1024 g h = scale g := by
  funext i
  have l0 : (i 0).val < 1 := (i 0).isLt
  refine shapeCast_apply g h i (col (i 1)) ?_
  rw [Shape.rowMajor_val_one, Shape.rowMajor_val_two]
  show (i 1).val = (i 0).val * 1024 + (i 1).val
  omega

/-- What the region finds in the scale's array. -/
theorem V_v1 (c : Dev nD) : (V m c main_v1 : Vec Ideal S1x1024 .f32) = scale (m ((c : Thread nD τ).loc main_arg4)) := by
  unfold V
  after_results_simp
  exact recast _ _

/-- A tile of the residual stream. -/
theorem pay_x (x : Vec Ideal S512x1024 .f32) (a : Vec Ideal S512x2816 .bf16) (w : Vec Ideal S2816x1024 .bf16) (p : Fin 512) (q : Fin 1024) :
    k0_pay7 (F := Ideal) x a w (ix2 p q) = (x (ix2 p q) + ∑ k : Fin 2816, (a (ix2 p k) * w (ix2 k q) : EReal) : EReal) := by
  unfold k0_pay7
  pointwise [dot_S512x2816_S2816x1024_S512x1024_1_0_0_1_n_n]

/-- A tile's reciprocal roots. -/
theorem pay_r (x : Vec Ideal S512x1024 .f32) (a : Vec Ideal S512x2816 .bf16) (w : Vec Ideal S2816x1024 .bf16) (p : Fin 512) (q : Fin 1) :
    k0_pay8 (F := Ideal) x a w (ix2 p q) = rms fun k => k0_pay7 (F := Ideal) x a w (ix2 p k) := by
  unfold k0_pay8 rms meanSq
  generalize k0_pay7 (F := Ideal) x a w = z
  pointwise

/-- A tile's normalised rows. -/
theorem pay_xh (x : Vec Ideal S512x1024 .f32) (a : Vec Ideal S512x2816 .bf16) (w : Vec Ideal S2816x1024 .bf16) (p : Fin 512) (q : Fin 1024) :
    k0_pay9 (F := Ideal) x a w (ix2 p q) = k0_pay7 (F := Ideal) x a w (ix2 p q) * rms fun k => k0_pay7 (F := Ideal) x a w (ix2 p k) := by
  rw [← pay_r x a w p 0]
  unfold k0_pay9
  generalize k0_pay7 (F := Ideal) x a w = z
  generalize k0_pay8 (F := Ideal) x a w = r
  pointwise

/-- The scale's row. -/
theorem pay_g (g : Vec Ideal S1x1024 .f32) (j : S1x1024.Idx) : k0_pay10 (F := Ideal) g j = g j := by
  unfold k0_pay10
  pointwise

/-- A tile's error. -/
theorem pay_err (x : Vec Ideal S512x1024 .f32) (a : Vec Ideal S512x2816 .bf16) (w : Vec Ideal S2816x1024 .bf16) (g : Vec Ideal S1x1024 .f32) (y : Vec Ideal S512x1024 .f32) (p : Fin 512) (q : Fin 1024) :
    k0_pay11 (F := Ideal) x a w g y (ix2 p q) = (k0_pay9 (F := Ideal) x a w (ix2 p q) * g (ix2 0 q) - y (ix2 p q) : EReal) := by
  rw [← pay_g g (ix2 0 q)]
  unfold k0_pay11
  generalize k0_pay9 (F := Ideal) x a w = z
  generalize k0_pay10 (F := Ideal) g = r
  pointwise

/-- A tile's gradient in the prediction. -/
theorem pay_dpred (e : Vec Ideal S512x1024 .f32) (j : S512x1024.Idx) :
    k0_pay1 (F := Ideal) e j = (e j * Ideal.ofBits .f32 0x3A800000#32 : EReal) := rfl

/-- A tile's gradient in the residual stream. -/
theorem pay_grad (r : Vec Ideal S512x1 .f32) (z : Vec Ideal S512x1024 .f32) (g : Vec Ideal S1x1024 .f32) (e : Vec Ideal S512x1024 .f32) (p : Fin 512) (q : Fin 1024) :
    k0_pay3 (F := Ideal) r z g e (ix2 p q) = (r (ix2 p 0) * (k0_pay1 (F := Ideal) e (ix2 p q) * g (ix2 0 q) - z (ix2 p q)
      * Ideal.div (∑ k : Fin 1024, (k0_pay1 (F := Ideal) e (ix2 p k) * g (ix2 0 k) * z (ix2 p k) : EReal)) (Ideal.ofBits .f32 0x44800000#32)) : EReal) := by
  unfold k0_pay3
  generalize k0_pay1 (F := Ideal) e = d
  pointwise

/-- The accumulator's row with a tile's part of the gradient of the scale. -/
theorem pay_row (z e : Vec Ideal S512x1024 .f32) (v : Vec Ideal S1x1024 .f32) (o : Fin 1) (q : Fin 1024) :
    k0_pay2 (F := Ideal) z e v (ix2 o q) = (v (ix2 o q) + ∑ p : Fin 512, (k0_pay1 (F := Ideal) e (ix2 p q) * z (ix2 p q) : EReal) : EReal) := by
  unfold k0_pay2
  generalize k0_pay1 (F := Ideal) e = d
  pointwise

/-- The loss with a tile's part. -/
theorem pay_loss (x : Vec Ideal S512x1024 .f32) (a : Vec Ideal S512x2816 .bf16) (w : Vec Ideal S2816x1024 .bf16) (g : Vec Ideal S1x1024 .f32) (y : Vec Ideal S512x1024 .f32) (v : Vec Ideal S1x1 .f32) (j k : Fin 1) :
    k0_pay12 (F := Ideal) x a w g y v (ix2 j k) = (v (ix2 j k) + (∑ p : Fin 512, ∑ k : Fin 1024,
      (k0_pay11 (F := Ideal) x a w g y (ix2 p k) * k0_pay11 (F := Ideal) x a w g y (ix2 p k) : EReal)) * Ideal.ofBits .f32 0x3A000000#32 : EReal) := by
  unfold k0_pay12
  generalize k0_pay11 (F := Ideal) x a w g y = e
  pointwise

/-- The zeros the accumulator starts from. -/
theorem pay_zero (j : S8x1024.Idx) : k0_pay6 (F := Ideal) j = 0 := bits_zero

/-- The zero the loss starts from. -/
theorem pay_zero' (j : S1x1.Idx) : k0_pay5 (F := Ideal) j = 0 := bits_zero

/-- The array row that row `p` of point `t`'s block is. -/
abbrev row (t : Fin cfg0.N) (p : Fin 512) : Fin 4096 := ⟨t.val * 512 + p.val, by
  have h : t.val < 8 := t.isLt
  omega⟩

/-- Where window 0's block lies. -/
theorem idx0 : ∀ t : Fin cfg0.N, win0_0.index t (0 : Fin 2) = t.val ∧ win0_0.index t (1 : Fin 2) = 0 :=
  (by decide +kernel : ∀ t : Fin grid0.N, _)

/-- What window 0's block holds at point `t`. -/
theorem block0 (c : Dev nD) (t : Fin cfg0.N) (j : S512x2816.Idx) :
    (iblk m c 0 t : Vec Ideal S512x2816 .bf16) j = (m ((c : Thread nD τ).loc main_arg0)) (ix2 (row t (j 0)) (j 1)) := by
  have e : ((cfg0.win 0).blk t).view.emb j = (ix2 (row t (j 0)) (j 1)) := by
    refine Shape.idx_ext₂ ?_ ?_
    · refine (Window.rect_emb_val win0_0 t j (0 : Fin 2)).trans ?_
      rw [(idx0 t).1]; rfl
    · refine (Window.rect_emb_val win0_0 t j (1 : Fin 2)).trans ?_
      rw [(idx0 t).2]; rw [Nat.zero_mul, Nat.zero_add]; rfl
  exact (congrFun (V_main_arg0 m c) _).trans (congrArg ((m ((c : Thread nD τ).loc main_arg0))) e)

/-- Where window 1's block lies. -/
theorem idx1 : ∀ t : Fin cfg0.N, win0_1.index t (0 : Fin 2) = t.val ∧ win0_1.index t (1 : Fin 2) = 0 :=
  (by decide +kernel : ∀ t : Fin grid0.N, _)

/-- What window 1's block holds at point `t`. -/
theorem block1 (c : Dev nD) (t : Fin cfg0.N) (j : S512x1024.Idx) :
    (iblk m c 1 t : Vec Ideal S512x1024 .f32) j = (m ((c : Thread nD τ).loc main_arg1)) (ix2 (row t (j 0)) (j 1)) := by
  have e : ((cfg0.win 1).blk t).view.emb j = (ix2 (row t (j 0)) (j 1)) := by
    refine Shape.idx_ext₂ ?_ ?_
    · refine (Window.rect_emb_val win0_1 t j (0 : Fin 2)).trans ?_
      rw [(idx1 t).1]; rfl
    · refine (Window.rect_emb_val win0_1 t j (1 : Fin 2)).trans ?_
      rw [(idx1 t).2]; rw [Nat.zero_mul, Nat.zero_add]; rfl
  exact (congrFun (V_main_arg1 m c) _).trans (congrArg ((m ((c : Thread nD τ).loc main_arg1))) e)

/-- Where window 2's block lies. -/
theorem idx2 : ∀ t : Fin cfg0.N, win0_2.index t (0 : Fin 2) = t.val ∧ win0_2.index t (1 : Fin 2) = 0 :=
  (by decide +kernel : ∀ t : Fin grid0.N, _)

/-- What window 2's block holds at point `t`. -/
theorem block2 (c : Dev nD) (t : Fin cfg0.N) (j : S512x1024.Idx) :
    (iblk m c 2 t : Vec Ideal S512x1024 .f32) j = (m ((c : Thread nD τ).loc main_arg2)) (ix2 (row t (j 0)) (j 1)) := by
  have e : ((cfg0.win 2).blk t).view.emb j = (ix2 (row t (j 0)) (j 1)) := by
    refine Shape.idx_ext₂ ?_ ?_
    · refine (Window.rect_emb_val win0_2 t j (0 : Fin 2)).trans ?_
      rw [(idx2 t).1]; rfl
    · refine (Window.rect_emb_val win0_2 t j (1 : Fin 2)).trans ?_
      rw [(idx2 t).2]; rw [Nat.zero_mul, Nat.zero_add]; rfl
  exact (congrFun (V_main_arg2 m c) _).trans (congrArg ((m ((c : Thread nD τ).loc main_arg2))) e)

/-- Where window 3's block lies. -/
theorem idx3 : ∀ t : Fin cfg0.N, win0_3.index t (0 : Fin 2) = 0 ∧ win0_3.index t (1 : Fin 2) = 0 :=
  (by decide +kernel : ∀ t : Fin grid0.N, _)

/-- What window 3's block holds at point `t`. -/
theorem block3 (c : Dev nD) (t : Fin cfg0.N) (j : S2816x1024.Idx) :
    (iblk m c 3 t : Vec Ideal S2816x1024 .bf16) j = (wts (m ((c : Thread nD τ).loc main_arg3))) j := by
  have e : ((cfg0.win 3).blk t).view.emb j = j := by
    refine Shape.idx_ext₂ ?_ ?_
    · refine (Window.rect_emb_val win0_3 t j (0 : Fin 2)).trans ?_
      rw [(idx3 t).1]
      rw [Nat.zero_mul, Nat.zero_add]
    · refine (Window.rect_emb_val win0_3 t j (1 : Fin 2)).trans ?_
      rw [(idx3 t).2]; rw [Nat.zero_mul, Nat.zero_add]
  exact (congrFun (V_v0 m c) _).trans (congrArg ((wts (m ((c : Thread nD τ).loc main_arg3)))) e)

/-- Where window 4's block lies. -/
theorem idx4 : ∀ t : Fin cfg0.N, win0_4.index t (0 : Fin 2) = 0 ∧ win0_4.index t (1 : Fin 2) = 0 :=
  (by decide +kernel : ∀ t : Fin grid0.N, _)

/-- What window 4's block holds at point `t`. -/
theorem block4 (c : Dev nD) (t : Fin cfg0.N) (j : S1x1024.Idx) :
    (iblk m c 4 t : Vec Ideal S1x1024 .f32) j = (scale (m ((c : Thread nD τ).loc main_arg4))) j := by
  have e : ((cfg0.win 4).blk t).view.emb j = j := by
    refine Shape.idx_ext₂ ?_ ?_
    · refine (Window.rect_emb_val win0_4 t j (0 : Fin 2)).trans ?_
      rw [(idx4 t).1]
      rw [Nat.zero_mul, Nat.zero_add]
    · refine (Window.rect_emb_val win0_4 t j (1 : Fin 2)).trans ?_
      rw [(idx4 t).2]; rw [Nat.zero_mul, Nat.zero_add]
  exact (congrFun (V_v1 m c) _).trans (congrArg ((scale (m ((c : Thread nD τ).loc main_arg4)))) e)

/-- Where window 5's block lies. -/
theorem idx5 : ∀ t : Fin cfg0.N, win0_5.index t (0 : Fin 2) = t.val ∧ win0_5.index t (1 : Fin 2) = 0 :=
  (by decide +kernel : ∀ t : Fin grid0.N, _)

/-- Where an index of window 5's block lies in the array. -/
theorem emb5 (t : Fin cfg0.N) (j : S512x1024.Idx) : ((cfg0.win 5).blk t).view.emb j = ix2 (row t (j 0)) (j 1) := by
  refine Shape.idx_ext₂ ?_ ?_
  · refine (Window.rect_emb_val win0_5 t j (0 : Fin 2)).trans ?_
    rw [(idx5 t).1]; rfl
  · refine (Window.rect_emb_val win0_5 t j (1 : Fin 2)).trans ?_
    rw [(idx5 t).2, Nat.zero_mul, Nat.zero_add]; rfl

/-- Every index of window 5's array is in some point's block. -/
theorem cover5 (i : S4096x1024.Idx) : ∃ t : Fin cfg0.N, (cfg0.win 5).flush t = true ∧ i ∈ ((cfg0.win 5).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 5).flush t = true) t, ?_⟩
  show i ∈ ((View.whole (Pipeline.arrRef spec0 5)).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [(idx5 t).1]
    show (i 0).val / 512 * 512 ≤ (i 0).val ∧ (i 0).val < (i 0).val / 512 * 512 + 512
    omega
  | ⟨1, _⟩ =>
    show win0_5.index t (1 : Fin 2) * 1024 ≤ (i 1).val ∧ (i 1).val < win0_5.index t (1 : Fin 2) * 1024 + 1024
    rw [(idx5 t).2]
    omega

/-- Where window 6's block lies. -/
theorem idx6 : ∀ t : Fin cfg0.N, win0_6.index t (0 : Fin 2) = t.val ∧ win0_6.index t (1 : Fin 2) = 0 :=
  (by decide +kernel : ∀ t : Fin grid0.N, _)

/-- Where an index of window 6's block lies in the array. -/
theorem emb6 (t : Fin cfg0.N) (j : S512x1024.Idx) : ((cfg0.win 6).blk t).view.emb j = ix2 (row t (j 0)) (j 1) := by
  refine Shape.idx_ext₂ ?_ ?_
  · refine (Window.rect_emb_val win0_6 t j (0 : Fin 2)).trans ?_
    rw [(idx6 t).1]; rfl
  · refine (Window.rect_emb_val win0_6 t j (1 : Fin 2)).trans ?_
    rw [(idx6 t).2, Nat.zero_mul, Nat.zero_add]; rfl

/-- Every index of window 6's array is in some point's block. -/
theorem cover6 (i : S4096x1024.Idx) : ∃ t : Fin cfg0.N, (cfg0.win 6).flush t = true ∧ i ∈ ((cfg0.win 6).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 6).flush t = true) t, ?_⟩
  show i ∈ ((View.whole (Pipeline.arrRef spec0 6)).slice (win0_6.rect t)).set
  rw [View.set_slice_whole, Rect.mem_set_unit]
  intro a
  match a with
  | ⟨0, _⟩ =>
    show win0_6.index t (0 : Fin 2) * 512 ≤ (i 0).val ∧ (i 0).val < win0_6.index t (0 : Fin 2) * 512 + 512
    rw [(idx6 t).1]
    show (i 0).val / 512 * 512 ≤ (i 0).val ∧ (i 0).val < (i 0).val / 512 * 512 + 512
    omega
  | ⟨1, _⟩ =>
    show win0_6.index t (1 : Fin 2) * 1024 ≤ (i 1).val ∧ (i 1).val < win0_6.index t (1 : Fin 2) * 1024 + 1024
    rw [(idx6 t).2]
    omega

/-- Point `t`'s load of the activations. -/
theorem load0 (c : Dev nD) (t : Fin cfg0.N) (p : Fin 512) (q : Fin 2816) : ((View.readAt (Elt Ideal) (ms0_0 t).view (Rect.unit (s := S512x2816) ![0, 0] S512x2816.size inb_S512x2816_S512x2816_0_0).toLoadRect ((hs0_0 t).unread (iblk m c 0 t))) : Vec Ideal S512x2816 .bf16) (ix2 p q) = (m ((c : Thread nD τ).loc main_arg0)) (ix2 (row t p) q) := by
  refine ((hs0_0 t).readAt_unread _ _ _).trans ((block0 m c t _).trans (congrArg (m ((c : Thread nD τ).loc main_arg0)) (Shape.idx_ext₂ ?_ ?_)))
  · exact congrArg (fun z => t.val * 512 + z) ((Nat.zero_add _).trans (Nat.one_mul _))
  · exact (Nat.zero_add _).trans (Nat.one_mul _)

/-- Point `t`'s load of the residual stream. -/
theorem load1 (c : Dev nD) (t : Fin cfg0.N) (p : Fin 512) (q : Fin 1024) : ((View.readAt (Elt Ideal) (ms0_1 t).view (Rect.unit (s := S512x1024) ![0, 0] S512x1024.size inb_S512x1024_S512x1024_0_0).toLoadRect ((hs0_1 t).unread (iblk m c 1 t))) : Vec Ideal S512x1024 .f32) (ix2 p q) = (m ((c : Thread nD τ).loc main_arg1)) (ix2 (row t p) q) := by
  refine ((hs0_1 t).readAt_unread _ _ _).trans ((block1 m c t _).trans (congrArg (m ((c : Thread nD τ).loc main_arg1)) (Shape.idx_ext₂ ?_ ?_)))
  · exact congrArg (fun z => t.val * 512 + z) ((Nat.zero_add _).trans (Nat.one_mul _))
  · exact (Nat.zero_add _).trans (Nat.one_mul _)

/-- Point `t`'s load of the target. -/
theorem load2 (c : Dev nD) (t : Fin cfg0.N) (p : Fin 512) (q : Fin 1024) : ((View.readAt (Elt Ideal) (ms0_2 t).view (Rect.unit (s := S512x1024) ![0, 0] S512x1024.size inb_S512x1024_S512x1024_0_0).toLoadRect ((hs0_2 t).unread (iblk m c 2 t))) : Vec Ideal S512x1024 .f32) (ix2 p q) = (m ((c : Thread nD τ).loc main_arg2)) (ix2 (row t p) q) := by
  refine ((hs0_2 t).readAt_unread _ _ _).trans ((block2 m c t _).trans (congrArg (m ((c : Thread nD τ).loc main_arg2)) (Shape.idx_ext₂ ?_ ?_)))
  · exact congrArg (fun z => t.val * 512 + z) ((Nat.zero_add _).trans (Nat.one_mul _))
  · exact (Nat.zero_add _).trans (Nat.one_mul _)

/-- Point `t`'s load of the weights. -/
theorem load3 (c : Dev nD) (t : Fin cfg0.N) (p : Fin 2816) (q : Fin 1024) : ((View.readAt (Elt Ideal) (ms0_3 t).view (Rect.unit (s := S2816x1024) ![0, 0] S2816x1024.size inb_S2816x1024_S2816x1024_0_0).toLoadRect ((hs0_3 t).unread (iblk m c 3 t))) : Vec Ideal S2816x1024 .bf16) (ix2 p q) = (m ((c : Thread nD τ).loc main_arg3)) (ix2 p q) := by
  refine ((hs0_3 t).readAt_unread _ _ _).trans ((block3 m c t _).trans ((congrArg (wts (m ((c : Thread nD τ).loc main_arg3))) (Shape.idx_ext₂ ?_ ?_ : _ = ix2 p q)).trans rfl))
  · exact (Nat.zero_add _).trans (Nat.one_mul _)
  · exact (Nat.zero_add _).trans (Nat.one_mul _)

/-- Point `t`'s load of the scale. -/
theorem load4 (c : Dev nD) (t : Fin cfg0.N) (p : Fin 1) (q : Fin 1024) : ((View.readAt (Elt Ideal) (ms0_4 t).view (Rect.unit (s := S1x1024) ![0, 0] S1x1024.size inb_S1x1024_S1x1024_0_0).toLoadRect ((hs0_4 t).unread (iblk m c 4 t))) : Vec Ideal S1x1024 .f32) (ix2 p q) = entry (m ((c : Thread nD τ).loc main_arg4)) q := by
  refine ((hs0_4 t).readAt_unread _ _ _).trans ((block4 m c t _).trans ((congrArg (scale (m ((c : Thread nD τ).loc main_arg4))) (Shape.idx_ext₂ ?_ ?_ : _ = ix2 p q)).trans rfl))
  · exact (Nat.zero_add _).trans (Nat.one_mul _)
  · exact (Nat.zero_add _).trans (Nat.one_mul _)

/-- Point `t`'s tile of the residual stream. -/
theorem x_at (c : Dev nD) (t : Fin cfg0.N) (p : Fin 512) (q : Fin 1024) :
    k0_pay7 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (ix2 p q) = out (m ((c : Thread nD τ).loc main_arg0)) (m ((c : Thread nD τ).loc main_arg1)) (m ((c : Thread nD τ).loc main_arg3)) (row t p) q := by
  refine (pay_x _ _ _ p q).trans (congrArg₂ (fun a b : EReal => a + b) (load1 m c t p q) (Finset.sum_congr rfl fun k _ => ?_))
  exact congrArg₂ (fun a b : EReal => a * b) (load0 m c t p k) (load3 m c t k q)

/-- Its reciprocal roots. -/
theorem r_at (c : Dev nD) (t : Fin cfg0.N) (p : Fin 512) (q : Fin 1) : (k0_pay8 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (ix2 p q) = rms (out (m ((c : Thread nD τ).loc main_arg0)) (m ((c : Thread nD τ).loc main_arg1)) (m ((c : Thread nD τ).loc main_arg3)) (row t p)) :=
  (pay_r _ _ _ p q).trans (congrArg rms (funext fun k => x_at m c t p k))

/-- Its normalised rows. -/
theorem xh_at (c : Dev nD) (t : Fin cfg0.N) (p : Fin 512) (q : Fin 1024) :
    (k0_pay9 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (ix2 p q) = (out (m ((c : Thread nD τ).loc main_arg0)) (m ((c : Thread nD τ).loc main_arg1)) (m ((c : Thread nD τ).loc main_arg3)) (row t p) q * rms (out (m ((c : Thread nD τ).loc main_arg0)) (m ((c : Thread nD τ).loc main_arg1)) (m ((c : Thread nD τ).loc main_arg3)) (row t p)) : EReal) :=
  (pay_xh _ _ _ p q).trans (congrArg₂ (fun a b : EReal => a * b) (x_at m c t p q) (congrArg rms (funext fun k => x_at m c t p k)))

/-- Its error. -/
theorem err_at (c : Dev nD) (t : Fin cfg0.N) (p : Fin 512) (q : Fin 1024) : (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t)))) (ix2 p q) = err (m ((c : Thread nD τ).loc main_arg0)) (m ((c : Thread nD τ).loc main_arg1)) (m ((c : Thread nD τ).loc main_arg2)) (m ((c : Thread nD τ).loc main_arg3)) (m ((c : Thread nD τ).loc main_arg4)) (row t p) q :=
  (pay_err _ _ _ _ _ p q).trans (congrArg₂ (fun a b : EReal => a - b)
    (congrArg₂ (fun a b : EReal => a * b) (xh_at m c t p q) (load4 m c t 0 q)) (load2 m c t p q))

/-- Its gradient in the prediction. -/
theorem dpred_at (c : Dev nD) (t : Fin cfg0.N) (p : Fin 512) (q : Fin 1024) : k0_pay1 (F := Ideal) (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t)))) (ix2 p q) = dpred (m ((c : Thread nD τ).loc main_arg0)) (m ((c : Thread nD τ).loc main_arg1)) (m ((c : Thread nD τ).loc main_arg2)) (m ((c : Thread nD τ).loc main_arg3)) (m ((c : Thread nD τ).loc main_arg4)) (row t p) q :=
  (pay_dpred _ _).trans (congrArg (fun a : EReal => a * Ideal.ofBits .f32 0x3A800000#32) (err_at m c t p q))

/-- The scale. -/
theorem g_at (c : Dev nD) (t : Fin cfg0.N) (q : Fin 1024) : (k0_pay10 (F := Ideal) (View.readAt (Elt Ideal) (ms0_4 t).view (Rect.unit (s := S1x1024) ![0, 0] S1x1024.size inb_S1x1024_S1x1024_0_0).toLoadRect ((hs0_4 t).unread (iblk m c 4 t)))) (ix2 0 q) = entry (m ((c : Thread nD τ).loc main_arg4)) q :=
  (pay_g _ _).trans (load4 m c t 0 q)

/-- Point `t`'s tile of the gradient in the residual stream. -/
theorem grad_at (c : Dev nD) (t : Fin cfg0.N) (p : Fin 512) (q : Fin 1024) :
    k0_pay3 (F := Ideal) (k0_pay8 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay9 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay10 (F := Ideal) (View.readAt (Elt Ideal) (ms0_4 t).view (Rect.unit (s := S1x1024) ![0, 0] S1x1024.size inb_S1x1024_S1x1024_0_0).toLoadRect ((hs0_4 t).unread (iblk m c 4 t)))) (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t)))) (ix2 p q) = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t p) q) := by
  refine (pay_grad _ _ _ _ p q).trans ?_
  refine Eq.trans ?_ (zero_add _).symm
  refine congrArg₂ (fun a b : EReal => a * b) (r_at m c t p 0) (congrArg₂ (fun a b : EReal => a - b)
    (congrArg₂ (fun a b : EReal => a * b) (dpred_at m c t p q) (g_at m c t q)) (congrArg₂ (fun a b : EReal => a * b) (xh_at m c t p q) ?_))
  refine congrArg (fun a : EReal => Ideal.div a (Ideal.ofBits .f32 0x44800000#32)) (Finset.sum_congr rfl fun k _ => ?_)
  exact congrArg₂ (fun a b : EReal => a * b) (congrArg₂ (fun a b : EReal => a * b) (dpred_at m c t p k) (g_at m c t k)) (xh_at m c t p k)

/-- The same at an index. -/
theorem tile_at (c : Dev nD) (t : Fin cfg0.N) (j : S512x1024.Idx) :
    k0_pay3 (F := Ideal) (k0_pay8 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay9 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay10 (F := Ideal) (View.readAt (Elt Ideal) (ms0_4 t).view (Rect.unit (s := S1x1024) ![0, 0] S1x1024.size inb_S1x1024_S1x1024_0_0).toLoadRect ((hs0_4 t).unread (iblk m c 4 t)))) (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t)))) j = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (j 0)) (j 1)) := by
  have e : j = ix2 (j 0) (j 1) := Shape.idx_ext₂ rfl rfl
  exact (congrArg (k0_pay3 (F := Ideal) (k0_pay8 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay9 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay10 (F := Ideal) (View.readAt (Elt Ideal) (ms0_4 t).view (Rect.unit (s := S1x1024) ![0, 0] S1x1024.size inb_S1x1024_S1x1024_0_0).toLoadRect ((hs0_4 t).unread (iblk m c 4 t)))) (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t))))) e).trans (grad_at m c t (j 0) (j 1))

/-- Rounded. -/
theorem tile_at' (c : Dev nD) (t : Fin cfg0.N) (j : S512x1024.Idx) :
    k0_pay4 (F := Ideal) (k0_pay8 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay9 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay10 (F := Ideal) (View.readAt (Elt Ideal) (ms0_4 t).view (Rect.unit (s := S1x1024) ![0, 0] S1x1024.size inb_S1x1024_S1x1024_0_0).toLoadRect ((hs0_4 t).unread (iblk m c 4 t)))) (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t)))) j = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (j 0)) (j 1)) := tile_at m c t j

/-- The accumulator's row with point `t`'s part of the gradient of the scale, the loaded row's entry given. -/
theorem row_add (c : Dev nD) (t : Fin cfg0.N) (v : Vec Ideal S1x1024 .f32) (o : Fin 1) (q : Fin 1024) (z : EReal) (hv : v (ix2 o q) = z) :
    k0_pay2 (F := Ideal) (k0_pay9 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t)))) (k0_pay11 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t)))) v (ix2 o q) = z + ∑ p : Fin 512, term (m ((c : Thread nD τ).loc main_arg0)) (m ((c : Thread nD τ).loc main_arg1)) (m ((c : Thread nD τ).loc main_arg2)) (m ((c : Thread nD τ).loc main_arg3)) (m ((c : Thread nD τ).loc main_arg4)) q (row t p) := by
  refine (pay_row _ _ _ o q).trans (congrArg₂ (fun a b : EReal => a + b) hv (Finset.sum_congr rfl fun p _ => ?_))
  exact congrArg₂ (fun a b : EReal => a * b) (dpred_at m c t p q) (xh_at m c t p q)

/-- The loss with point `t`'s part, the loaded entry given. -/
theorem loss_add (c : Dev nD) (t : Fin cfg0.N) (v : Vec Ideal S1x1 .f32) (y : S1x1.Idx) (z : EReal) (hv : v y = z) :
    k0_pay12 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t))) v y = z + ∑ p : Fin 512, part (m ((c : Thread nD τ).loc main_arg0)) (m ((c : Thread nD τ).loc main_arg1)) (m ((c : Thread nD τ).loc main_arg2)) (m ((c : Thread nD τ).loc main_arg3)) (m ((c : Thread nD τ).loc main_arg4)) (row t p) := by
  have e : y = ix2 (y 0) (y 1) := Shape.idx_ext₂ rfl rfl
  refine (congrArg (k0_pay12 (F := Ideal) (View.readAt (Elt Ideal) (ms0_1 t).view (Rect.unit (s := S512x1024) ![0, 0] S512x1024.size inb_S512x1024_S512x1024_0_0).toLoadRect ((hs0_1 t).unread (iblk m c 1 t))) (View.readAt (Elt Ideal) (ms0_0 t).view (Rect.unit (s := S512x2816) ![0, 0] S512x2816.size inb_S512x2816_S512x2816_0_0).toLoadRect ((hs0_0 t).unread (iblk m c 0 t))) (View.readAt (Elt Ideal) (ms0_3 t).view (Rect.unit (s := S2816x1024) ![0, 0] S2816x1024.size inb_S2816x1024_S2816x1024_0_0).toLoadRect ((hs0_3 t).unread (iblk m c 3 t))) (View.readAt (Elt Ideal) (ms0_4 t).view (Rect.unit (s := S1x1024) ![0, 0] S1x1024.size inb_S1x1024_S1x1024_0_0).toLoadRect ((hs0_4 t).unread (iblk m c 4 t))) (View.readAt (Elt Ideal) (ms0_2 t).view (Rect.unit (s := S512x1024) ![0, 0] S512x1024.size inb_S512x1024_S512x1024_0_0).toLoadRect ((hs0_2 t).unread (iblk m c 2 t))) v) e).trans ((pay_loss _ _ _ _ _ _ (y 0) (y 1)).trans ?_)
  refine congrArg₂ (fun a b : EReal => a + b) ((congrArg v e.symm).trans hv) ?_
  rw [bits_inv_2048, ← sum_mul_nonneg _ _ (by norm_num)]
  refine Finset.sum_congr rfl fun p _ => congrArg (fun z : EReal => z * ((1 / 2048 : ℝ) : EReal)) (Finset.sum_congr rfl fun k _ => ?_)
  exact congrArg₂ (fun a b : EReal => a * b) (err_at m c t p k) (err_at m c t p k)

/-- What point `t`'s stores leave of this block. -/
theorem tile5_A (c : Dev nD) (t : Fin cfg0.N) (h0 : t.val % 8 = 0) (y : S512x1024.Idx) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S512x1024 .f32) y = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t))]
  have hp : View.PiecesOf (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)).1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) _ (View.PiecesOf.mem hp) y (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) y)
  unfold kernelRun0_A
  refine ⟨fun (x : S512x1024.Idx) => ?_, trivial⟩
  unfold kernelRun0_A.sl.r kernelRun0_A.sl.r_1 kernelRun0_A.sl.r_2 kernelRun0_A.sl.r_3
  refine (tile_at m c t x).trans (congrArg (grad (m ((c : Thread nD τ).loc main_arg0)) (m ((c : Thread nD τ).loc main_arg1)) (m ((c : Thread nD τ).loc main_arg2)) (m ((c : Thread nD τ).loc main_arg3)) (m ((c : Thread nD τ).loc main_arg4))) (Shape.idx_ext₂ ?_ ?_))
  · show t.val * 512 + (x 0).val = t.val * 512 + (0 + 1 * (x 0).val); omega
  · show (x 1).val = 0 + 1 * (x 1).val; omega

/-- What point `t`'s stores leave of this block. -/
theorem tile5_B (c : Dev nD) (t : Fin cfg0.N) (h0 : ¬t.val % 8 = 0) (xo7 : Vec Ideal S1x1 .f32) (xo8 : Vec Ideal S8x1024 .f32) (y : S512x1024.Idx) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8 : Vec Ideal S512x1024 .f32) y = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8)]
  have hp : View.PiecesOf (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8).1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) _ (View.PiecesOf.mem hp) y (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8 y)
  unfold kernelRun0_B
  refine ⟨fun (x : S512x1024.Idx) => ?_, trivial⟩
  unfold kernelRun0_B.sl.r kernelRun0_B.sl.r_1 kernelRun0_B.sl.r_2 kernelRun0_B.sl.r_3
  refine (tile_at m c t x).trans (congrArg (grad (m ((c : Thread nD τ).loc main_arg0)) (m ((c : Thread nD τ).loc main_arg1)) (m ((c : Thread nD τ).loc main_arg2)) (m ((c : Thread nD τ).loc main_arg3)) (m ((c : Thread nD τ).loc main_arg4))) (Shape.idx_ext₂ ?_ ?_))
  · show t.val * 512 + (x 0).val = t.val * 512 + (0 + 1 * (x 0).val); omega
  · show (x 1).val = 0 + 1 * (x 1).val; omega

/-- This output's array after the run. -/
theorem final5 (c : Dev nD) : (dats m 0 c).arrAt 5 cfg0.N = grad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 _ (fun t _ => ?_) cover5
  by_cases h0 : t.val % 8 = 0
  · rw [Value.flushed5_A m c t h0]
    funext j
    show (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S512x1024 .f32) j = grad (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
    rw [emb5, tile5_A (h0 := h0)]
    rfl
  · rw [Value.flushed5_B m c t h0]
    funext j
    show (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2 : Vec Ideal S512x1024 .f32) j = grad (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
    rw [emb5, tile5_B]
    rfl

/-- What point `t`'s stores leave of this block. -/
theorem tile6_A (c : Dev nD) (t : Fin cfg0.N) (h0 : t.val % 8 = 0) (y : S512x1024.Idx) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S512x1024 .bf16) y = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  unfold out0_A_6
  rw [View.read_writes_eq_canon _ _ _ (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t))]
  have hp : View.PiecesOf (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t)).2.1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) _ (View.PiecesOf.mem hp) y (cover0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) y)
  unfold kernelRun0_A
  refine ⟨fun (x : S512x1024.Idx) => ?_, trivial⟩
  unfold kernelRun0_A.sl.r kernelRun0_A.sl.r_1 kernelRun0_A.sl.r_2 kernelRun0_A.sl.r_3
  refine (tile_at' m c t x).trans (congrArg (grad (m ((c : Thread nD τ).loc main_arg0)) (m ((c : Thread nD τ).loc main_arg1)) (m ((c : Thread nD τ).loc main_arg2)) (m ((c : Thread nD τ).loc main_arg3)) (m ((c : Thread nD τ).loc main_arg4))) (Shape.idx_ext₂ ?_ ?_))
  · show t.val * 512 + (x 0).val = t.val * 512 + (0 + 1 * (x 0).val); omega
  · show (x 1).val = 0 + 1 * (x 1).val; omega

/-- What point `t`'s stores leave of this block. -/
theorem tile6_B (c : Dev nD) (t : Fin cfg0.N) (h0 : ¬t.val % 8 = 0) (xo7 : Vec Ideal S1x1 .f32) (xo8 : Vec Ideal S8x1024 .f32) (y : S512x1024.Idx) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8 : Vec Ideal S512x1024 .bf16) y = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  unfold out0_B_6
  rw [View.read_writes_eq_canon _ _ _ (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8)]
  have hp : View.PiecesOf (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8).2.1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) _ (View.PiecesOf.mem hp) y (cover0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8 y)
  unfold kernelRun0_B
  refine ⟨fun (x : S512x1024.Idx) => ?_, trivial⟩
  unfold kernelRun0_B.sl.r kernelRun0_B.sl.r_1 kernelRun0_B.sl.r_2 kernelRun0_B.sl.r_3
  refine (tile_at' m c t x).trans (congrArg (grad (m ((c : Thread nD τ).loc main_arg0)) (m ((c : Thread nD τ).loc main_arg1)) (m ((c : Thread nD τ).loc main_arg2)) (m ((c : Thread nD τ).loc main_arg3)) (m ((c : Thread nD τ).loc main_arg4))) (Shape.idx_ext₂ ?_ ?_))
  · show t.val * 512 + (x 0).val = t.val * 512 + (0 + 1 * (x 0).val); omega
  · show (x 1).val = 0 + 1 * (x 1).val; omega

/-- This output's array after the run. -/
theorem final6 (c : Dev nD) : (dats m 0 c).arrAt 6 cfg0.N = grad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 6 _ (fun t _ => ?_) cover6
  by_cases h0 : t.val % 8 = 0
  · rw [Value.flushed6_A m c t h0]
    funext j
    show (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S512x1024 .bf16) j = grad (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb j)
    rw [emb6, tile6_A (h0 := h0)]
    rfl
  · rw [Value.flushed6_B m c t h0]
    funext j
    show (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2.2.1 (outsAt0 m c (t.val - 1) (Nat.lt_of_le_of_lt (Nat.sub_le _ _) t.isLt)).2.2.2 : Vec Ideal S512x1024 .bf16) j = grad (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb j)
    rw [emb6, tile6_B]
    rfl

/-- The accumulator after the first point. -/
theorem acc_A (c : Dev nD) (t : Fin cfg0.N) (h0 : t.val % 8 = 0) (y : S8x1024.Idx) :
    (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S8x1024 .f32) y
      = if (y 0).val = 0 then 0 + ∑ p : Fin 512, term (m ((c : Thread nD τ).loc main_arg0)) (m ((c : Thread nD τ).loc main_arg1)) (m ((c : Thread nD τ).loc main_arg2)) (m ((c : Thread nD τ).loc main_arg3)) (m ((c : Thread nD τ).loc main_arg4)) (y 1) (row t p) else 0 := by
  unfold out0_A_8 kernelRun0_A
  by_cases h : (y 0).val = 0
  · refine Eq.trans ?_ (if_pos h).symm
    refine (View.read_writes_cons_unit_of_mem _ _ inb_S8x1024_S1x1024_0_0 _ _ y (ix2 (0 : Fin 1) (y 1)) rfl (fun a => ?_)).trans ?_
    · match a with
      | ⟨0, _⟩ => exact h
      | ⟨1, _⟩ => exact (Nat.zero_add _).symm
    · unfold kernelRun0_A.sl.r_1 kernelRun0_A.sl.r_3 kernelRun0_A.sl.v39 kernelRun0_A.sl.H8_1
      refine row_add m c t _ 0 (y 1) _ ?_
      refine (congrFun (View.readCov_eq_canon' _ _ _) _).trans ?_
      refine (congrFun (View.canon_unit_zero (funext fun a => by fin_cases a <;> rfl) _ _) _).trans ?_
      exact pay_zero _
  · refine Eq.trans ?_ (if_neg h).symm
    refine (View.read_writes_cons_unit_of_not_mem _ _ inb_S8x1024_S1x1024_0_0 _ _ y rfl (0 : Fin 2) (Or.inr ?_)).trans ?_
    · show 0 + 1 ≤ (y 0).val; omega
    · unfold kernelRun0_A.sl.H8_1
      refine (View.read_writes_cons_unit_of_mem _ _ inb_S8x1024_S8x1024_0_0 _ _ y y rfl (fun a => ?_)).trans (pay_zero _)
      match a with
      | ⟨0, _⟩ => exact (Nat.zero_add _).symm
      | ⟨1, _⟩ => exact (Nat.zero_add _).symm

/-- The accumulator after a later point. -/
theorem acc_B (c : Dev nD) (t : Fin cfg0.N) (h0 : ¬t.val % 8 = 0) (xo7 : Vec Ideal S1x1 .f32) (xo8 : Vec Ideal S8x1024 .f32) (y : S8x1024.Idx) :
    (out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8 : Vec Ideal S8x1024 .f32) y
      = if (y 0).val = 0 then xo8 y + ∑ p : Fin 512, term (m ((c : Thread nD τ).loc main_arg0)) (m ((c : Thread nD τ).loc main_arg1)) (m ((c : Thread nD τ).loc main_arg2)) (m ((c : Thread nD τ).loc main_arg3)) (m ((c : Thread nD τ).loc main_arg4)) (y 1) (row t p) else xo8 y := by
  unfold out0_B_8 kernelRun0_B
  by_cases h : (y 0).val = 0
  · refine Eq.trans ?_ (if_pos h).symm
    refine (View.read_writes_cons_unit_of_mem _ _ inb_S8x1024_S1x1024_0_0 _ _ y (ix2 (0 : Fin 1) (y 1)) rfl (fun a => ?_)).trans ?_
    · match a with
      | ⟨0, _⟩ => exact h
      | ⟨1, _⟩ => exact (Nat.zero_add _).symm
    · unfold kernelRun0_B.sl.r_1 kernelRun0_B.sl.r_3
      refine row_add m c t _ 0 (y 1) _ ?_
      refine ((hs0_8 t).readAt_unread _ _ _).trans (congrArg xo8 (Shape.idx_ext₂ ?_ ?_))
      · exact h.symm
      · exact (Nat.zero_add _).trans (Nat.one_mul _)
  · refine Eq.trans ?_ (if_neg h).symm
    refine (View.read_writes_cons_unit_of_not_mem _ _ inb_S8x1024_S1x1024_0_0 _ _ y rfl (0 : Fin 2) (Or.inr ?_)).trans ?_
    · show 0 + 1 ≤ (y 0).val; omega
    · exact congrFun ((hs0_8 t).read_unread xo8) y

/-- The first point's rows, as the sum over the rows so far. -/
theorem first_rows (f : Fin 4096 → EReal) (t : Fin cfg0.N) (ht : t.val = 0) : 0 + ∑ p : Fin 512, f (row t p) = upTo f ((t.val + 1) * 512) := by
  have e := upTo_add f t.val t.isLt (fun p => f (row t p)) fun p => rfl
  refine Eq.trans ?_ e
  refine congrArg (fun z : EReal => z + ∑ p : Fin 512, f (row t p)) ?_
  rw [ht, Nat.zero_mul]
  exact (upTo_zero f).symm

/-- The first point's accumulator at an index. -/
theorem acc_first_at (c : Dev nD) (t : Fin cfg0.N) (ht : t.val = 0) (h0 : t.val % 8 = 0) (y : S8x1024.Idx) :
    (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S8x1024 .f32) y = acc (m ((c : Thread nD τ).loc main_arg0)) (m ((c : Thread nD τ).loc main_arg1)) (m ((c : Thread nD τ).loc main_arg2)) (m ((c : Thread nD τ).loc main_arg3)) (m ((c : Thread nD τ).loc main_arg4)) ((t.val + 1) * 512) y := by
  refine (acc_A m c t h0 y).trans ?_
  unfold acc
  by_cases h : (y 0).val = 0
  · rw [if_pos h, if_pos h]
    exact first_rows _ t ht
  · rw [if_neg h, if_neg h]

/-- The accumulator after the first point, as a sum. -/
theorem acc_first (c : Dev nD) (t : Fin cfg0.N) (ht : t.val = 0) (h0 : t.val % 8 = 0) :
    (outsAt0 m c t.val t.isLt).2.2.2 = acc (m ((c : Thread nD τ).loc main_arg0)) (m ((c : Thread nD τ).loc main_arg1)) (m ((c : Thread nD τ).loc main_arg2)) (m ((c : Thread nD τ).loc main_arg3)) (m ((c : Thread nD τ).loc main_arg4)) ((t.val + 1) * 512) :=
  (last_of (outsAt0_A m c t h0)).trans (funext fun y => acc_first_at m c t ht h0 y)

/-- A later point adds its rows. -/
theorem acc_succ (c : Dev nD) (n : ℕ) (hN : n + 1 < 8) (hn : n + 1 < cfg0.N) (ih : (outsAt0 m c n (Nat.lt_of_succ_lt hn)).2.2.2 = acc (m ((c : Thread nD τ).loc main_arg0)) (m ((c : Thread nD τ).loc main_arg1)) (m ((c : Thread nD τ).loc main_arg2)) (m ((c : Thread nD τ).loc main_arg3)) (m ((c : Thread nD τ).loc main_arg4)) ((n + 1) * 512)) :
    (outsAt0 m c (n + 1) hn).2.2.2 = acc (m ((c : Thread nD τ).loc main_arg0)) (m ((c : Thread nD τ).loc main_arg1)) (m ((c : Thread nD τ).loc main_arg2)) (m ((c : Thread nD τ).loc main_arg3)) (m ((c : Thread nD τ).loc main_arg4)) ((n + 1 + 1) * 512) := by
  have h0 : ¬(⟨n + 1, hn⟩ : Fin cfg0.N).val % 8 = 0 := by show ¬(n + 1) % 8 = 0; omega
  refine (last_of (outsAt0_B m c ⟨n + 1, hn⟩ h0)).trans (funext fun y => ?_)
  refine (acc_B m c ⟨n + 1, hn⟩ h0 _ _ y).trans ?_
  have e := upTo_add (term (m ((c : Thread nD τ).loc main_arg0)) (m ((c : Thread nD τ).loc main_arg1)) (m ((c : Thread nD τ).loc main_arg2)) (m ((c : Thread nD τ).loc main_arg3)) (m ((c : Thread nD τ).loc main_arg4)) (y 1)) (n + 1) hN (fun p => term (m ((c : Thread nD τ).loc main_arg0)) (m ((c : Thread nD τ).loc main_arg1)) (m ((c : Thread nD τ).loc main_arg2)) (m ((c : Thread nD τ).loc main_arg3)) (m ((c : Thread nD τ).loc main_arg4)) (y 1) (row ⟨n + 1, hn⟩ p)) fun p => rfl
  have ihy : (outsAt0 m c n (Nat.lt_of_succ_lt hn)).2.2.2 y = if (y 0).val = 0 then upTo (term (m ((c : Thread nD τ).loc main_arg0)) (m ((c : Thread nD τ).loc main_arg1)) (m ((c : Thread nD τ).loc main_arg2)) (m ((c : Thread nD τ).loc main_arg3)) (m ((c : Thread nD τ).loc main_arg4)) (y 1)) ((n + 1) * 512) else 0 := congrFun ih y
  show (if (y 0).val = 0 then (outsAt0 m c n (Nat.lt_of_succ_lt hn)).2.2.2 y + ∑ p : Fin 512, term (m ((c : Thread nD τ).loc main_arg0)) (m ((c : Thread nD τ).loc main_arg1)) (m ((c : Thread nD τ).loc main_arg2)) (m ((c : Thread nD τ).loc main_arg3)) (m ((c : Thread nD τ).loc main_arg4)) (y 1) (row ⟨n + 1, hn⟩ p)
      else (outsAt0 m c n (Nat.lt_of_succ_lt hn)).2.2.2 y) = if (y 0).val = 0 then upTo (term (m ((c : Thread nD τ).loc main_arg0)) (m ((c : Thread nD τ).loc main_arg1)) (m ((c : Thread nD τ).loc main_arg2)) (m ((c : Thread nD τ).loc main_arg3)) (m ((c : Thread nD τ).loc main_arg4)) (y 1)) ((n + 1 + 1) * 512) else 0
  rw [ihy]
  by_cases h : (y 0).val = 0
  · rw [if_pos h, if_pos h, if_pos h, e]
  · rw [if_neg h, if_neg h, if_neg h]

/-- The accumulator after point `n`: the sum over the rows of the points so far. -/
theorem acc_at (c : Dev nD) (n : ℕ) : ∀ hn : n < cfg0.N, (outsAt0 m c n hn).2.2.2 = acc (m ((c : Thread nD τ).loc main_arg0)) (m ((c : Thread nD τ).loc main_arg1)) (m ((c : Thread nD τ).loc main_arg2)) (m ((c : Thread nD τ).loc main_arg3)) (m ((c : Thread nD τ).loc main_arg4)) ((n + 1) * 512) := by
  induction n with
  | zero => exact fun hn => acc_first m c ⟨0, hn⟩ rfl rfl
  | succ n ih => exact fun hn => acc_succ m c n hn hn (ih (Nat.lt_of_succ_lt hn))

/-- The block of window 8 is its array. -/
theorem idx8 : ∀ t : Fin cfg0.N, win0_8.index t (0 : Fin 2) = 0 ∧ win0_8.index t (1 : Fin 2) = 0 ∧ ((cfg0.win 8).flush t = true ↔ t.val = 7) :=
  (by decide +kernel : ∀ t : Fin grid0.N, _)

/-- So an index of the block is that index of the array. -/
theorem emb8 (t : Fin cfg0.N) (j : S8x1024.Idx) : ((cfg0.win 8).blk t).view.emb j = j := by
  refine Shape.idx_ext₂ ?_ ?_
  · refine (Window.rect_emb_val win0_8 t j (0 : Fin 2)).trans ?_
    rw [(idx8 t).1, Nat.zero_mul, Nat.zero_add]
  · refine (Window.rect_emb_val win0_8 t j (1 : Fin 2)).trans ?_
    rw [(idx8 t).2.1, Nat.zero_mul, Nat.zero_add]

/-- The last point writes all of it. -/
theorem cover8 (i : S8x1024.Idx) : ∃ t : Fin cfg0.N, (cfg0.win 8).flush t = true ∧ i ∈ ((cfg0.win 8).blk t).view.set := by
  have l0 : (i 0).val < 8 := (i 0).isLt
  have l1 : (i 1).val < 1024 := (i 1).isLt
  have hN : cfg0.N = 8 := by decide +kernel
  let t : Fin cfg0.N := ⟨7, by rw [hN]; omega⟩
  refine ⟨t, (idx8 t).2.2.2 rfl, ?_⟩
  show i ∈ ((View.whole (Pipeline.arrRef spec0 8)).slice (win0_8.rect t)).set
  rw [View.set_slice_whole, Rect.mem_set_unit]
  intro a
  match a with
  | ⟨0, _⟩ =>
    show win0_8.index t (0 : Fin 2) * 8 ≤ (i 0).val ∧ (i 0).val < win0_8.index t (0 : Fin 2) * 8 + 8
    rw [(idx8 t).1]
    omega
  | ⟨1, _⟩ =>
    show win0_8.index t (1 : Fin 2) * 1024 ≤ (i 1).val ∧ (i 1).val < win0_8.index t (1 : Fin 2) * 1024 + 1024
    rw [(idx8 t).2.1]
    omega

/-- The accumulator's array after the run. -/
theorem final8 (c : Dev nD) : (dats m 0 c).arrAt 8 cfg0.N = acc (m ((c : Thread nD τ).loc main_arg0)) (m ((c : Thread nD τ).loc main_arg1)) (m ((c : Thread nD τ).loc main_arg2)) (m ((c : Thread nD τ).loc main_arg3)) (m ((c : Thread nD τ).loc main_arg4)) 4096 := by
  refine (dats m 0 c).arrAt_eq_of_cover 8 _ (fun t hf => ?_) cover8
  have h7 : t.val = 7 := (idx8 t).2.2.1 hf
  rw [Value.flushed8]
  funext j
  show (outsAt0 m c t.val t.isLt).2.2.2 j = acc (m ((c : Thread nD τ).loc main_arg0)) (m ((c : Thread nD τ).loc main_arg1)) (m ((c : Thread nD τ).loc main_arg2)) (m ((c : Thread nD τ).loc main_arg3)) (m ((c : Thread nD τ).loc main_arg4)) 4096 (((cfg0.win 8).blk t).view.emb j)
  rw [acc_at, emb8]
  exact congrArg (fun n => acc (m ((c : Thread nD τ).loc main_arg0)) (m ((c : Thread nD τ).loc main_arg1)) (m ((c : Thread nD τ).loc main_arg2)) (m ((c : Thread nD τ).loc main_arg3)) (m ((c : Thread nD τ).loc main_arg4)) n j) (by rw [h7])

/-- The loss after the first point. -/
theorem loss_A (c : Dev nD) (t : Fin cfg0.N) (h0 : t.val % 8 = 0) (y : S1x1.Idx) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) ((hcond0_0 t).mpr h0) (iblk m c 0 t) (iblk m c 1 t) (iblk m c 2 t) (iblk m c 3 t) (iblk m c 4 t) : Vec Ideal S1x1 .f32) y = 0 + ∑ p : Fin 512, part (m ((c : Thread nD τ).loc main_arg0)) (m ((c : Thread nD τ).loc main_arg1)) (m ((c : Thread nD τ).loc main_arg2)) (m ((c : Thread nD τ).loc main_arg3)) (m ((c : Thread nD τ).loc main_arg4)) (row t p) := by
  unfold out0_A_7 kernelRun0_A
  refine (View.read_writes_cons_unit_of_mem _ _ inb_S1x1_S1x1_0_0 _ _ y y rfl (fun a => ?_)).trans ?_
  · match a with
    | ⟨0, _⟩ => exact (Nat.zero_add _).symm
    | ⟨1, _⟩ => exact (Nat.zero_add _).symm
  · unfold kernelRun0_A.sl.r_4 kernelRun0_A.sl.v25 kernelRun0_A.sl.H7_1
    refine loss_add m c t _ y _ ?_
    refine (congrFun (View.readCov_eq_canon' _ _ _) _).trans ?_
    refine (congrFun (View.canon_unit_zero (funext fun a => by fin_cases a <;> rfl) _ _) _).trans ?_
    exact pay_zero' _

/-- The loss after a later point. -/
theorem loss_B (c : Dev nD) (t : Fin cfg0.N) (h0 : ¬t.val % 8 = 0) (xo7 : Vec Ideal S1x1 .f32) (xo8 : Vec Ideal S8x1024 .f32) (y : S1x1.Idx) :
    (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (fun h => h0 ((hcond0_0 t).mp h)) (iblk m c 0 t) (iblk m c 1 t) (iblk m c 2 t) (iblk m c 3 t) (iblk m c 4 t) xo7 xo8 : Vec Ideal S1x1 .f32) y = xo7 y + ∑ p : Fin 512, part (m ((c : Thread nD τ).loc main_arg0)) (m ((c : Thread nD τ).loc main_arg1)) (m ((c : Thread nD τ).loc main_arg2)) (m ((c : Thread nD τ).loc main_arg3)) (m ((c : Thread nD τ).loc main_arg4)) (row t p) := by
  unfold out0_B_7 kernelRun0_B
  refine (View.read_writes_cons_unit_of_mem _ _ inb_S1x1_S1x1_0_0 _ _ y y rfl (fun a => ?_)).trans ?_
  · match a with
    | ⟨0, _⟩ => exact (Nat.zero_add _).symm
    | ⟨1, _⟩ => exact (Nat.zero_add _).symm
  · unfold kernelRun0_B.sl.r_4
    refine loss_add m c t _ y _ ?_
    refine ((hs0_7 t).readAt_unread _ _ _).trans (congrArg xo7 (Shape.idx_ext₂ ?_ ?_))
    · exact (Nat.zero_add _).trans (Nat.one_mul _)
    · exact (Nat.zero_add _).trans (Nat.one_mul _)

/-- The loss after point `n`: the sum over the rows of the points so far. -/
theorem loss_at (c : Dev nD) (n : ℕ) : ∀ hn : n < cfg0.N, (outsAt0 m c n hn).2.2.1 = loss (m ((c : Thread nD τ).loc main_arg0)) (m ((c : Thread nD τ).loc main_arg1)) (m ((c : Thread nD τ).loc main_arg2)) (m ((c : Thread nD τ).loc main_arg3)) (m ((c : Thread nD τ).loc main_arg4)) ((n + 1) * 512) := by
  induction n with
  | zero =>
    exact fun hn => (third_of (outsAt0_A m c ⟨0, hn⟩ rfl)).trans (funext fun y =>
      (loss_A m c ⟨0, hn⟩ rfl y).trans (first_rows (part (m ((c : Thread nD τ).loc main_arg0)) (m ((c : Thread nD τ).loc main_arg1)) (m ((c : Thread nD τ).loc main_arg2)) (m ((c : Thread nD τ).loc main_arg3)) (m ((c : Thread nD τ).loc main_arg4))) ⟨0, hn⟩ rfl))
  | succ n ih =>
    intro hn
    have hN : n + 1 < 8 := hn
    have h0 : ¬(⟨n + 1, hn⟩ : Fin cfg0.N).val % 8 = 0 := by show ¬(n + 1) % 8 = 0; omega
    refine (third_of (outsAt0_B m c ⟨n + 1, hn⟩ h0)).trans (funext fun y => ?_)
    refine (loss_B m c ⟨n + 1, hn⟩ h0 _ _ y).trans ?_
    refine Eq.trans ?_ (upTo_add (part (m ((c : Thread nD τ).loc main_arg0)) (m ((c : Thread nD τ).loc main_arg1)) (m ((c : Thread nD τ).loc main_arg2)) (m ((c : Thread nD τ).loc main_arg3)) (m ((c : Thread nD τ).loc main_arg4))) (n + 1) hN (fun p => part (m ((c : Thread nD τ).loc main_arg0)) (m ((c : Thread nD τ).loc main_arg1)) (m ((c : Thread nD τ).loc main_arg2)) (m ((c : Thread nD τ).loc main_arg3)) (m ((c : Thread nD τ).loc main_arg4)) (row ⟨n + 1, hn⟩ p)) fun p => rfl)
    exact congrArg (fun z : EReal => z + ∑ p : Fin 512, part (m ((c : Thread nD τ).loc main_arg0)) (m ((c : Thread nD τ).loc main_arg1)) (m ((c : Thread nD τ).loc main_arg2)) (m ((c : Thread nD τ).loc main_arg3)) (m ((c : Thread nD τ).loc main_arg4)) (row ⟨n + 1, hn⟩ p)) (congrFun (ih (Nat.lt_of_succ_lt hn)) y)

/-- The block of window 7 is its array. -/
theorem idx7 : ∀ t : Fin cfg0.N, win0_7.index t (0 : Fin 2) = 0 ∧ win0_7.index t (1 : Fin 2) = 0 ∧ ((cfg0.win 7).flush t = true ↔ t.val = 7) :=
  (by decide +kernel : ∀ t : Fin grid0.N, _)

/-- So an index of the block is that index of the array. -/
theorem emb7 (t : Fin cfg0.N) (j : S1x1.Idx) : ((cfg0.win 7).blk t).view.emb j = j := by
  refine Shape.idx_ext₂ ?_ ?_
  · refine (Window.rect_emb_val win0_7 t j (0 : Fin 2)).trans ?_
    rw [(idx7 t).1, Nat.zero_mul, Nat.zero_add]
  · refine (Window.rect_emb_val win0_7 t j (1 : Fin 2)).trans ?_
    rw [(idx7 t).2.1, Nat.zero_mul, Nat.zero_add]

/-- The last point writes all of it. -/
theorem cover7 (i : S1x1.Idx) : ∃ t : Fin cfg0.N, (cfg0.win 7).flush t = true ∧ i ∈ ((cfg0.win 7).blk t).view.set := by
  have l0 : (i 0).val < 1 := (i 0).isLt
  have l1 : (i 1).val < 1 := (i 1).isLt
  have hN : cfg0.N = 8 := by decide +kernel
  let t : Fin cfg0.N := ⟨7, by rw [hN]; omega⟩
  refine ⟨t, (idx7 t).2.2.2 rfl, ?_⟩
  show i ∈ ((View.whole (Pipeline.arrRef spec0 7)).slice (win0_7.rect t)).set
  rw [View.set_slice_whole, Rect.mem_set_unit]
  intro a
  match a with
  | ⟨0, _⟩ =>
    show win0_7.index t (0 : Fin 2) * 1 ≤ (i 0).val ∧ (i 0).val < win0_7.index t (0 : Fin 2) * 1 + 1
    rw [(idx7 t).1]
    omega
  | ⟨1, _⟩ =>
    show win0_7.index t (1 : Fin 2) * 1 ≤ (i 1).val ∧ (i 1).val < win0_7.index t (1 : Fin 2) * 1 + 1
    rw [(idx7 t).2.1]
    omega

/-- The loss's array after the run. -/
theorem final7 (c : Dev nD) : (dats m 0 c).arrAt 7 cfg0.N = loss (m ((c : Thread nD τ).loc main_arg0)) (m ((c : Thread nD τ).loc main_arg1)) (m ((c : Thread nD τ).loc main_arg2)) (m ((c : Thread nD τ).loc main_arg3)) (m ((c : Thread nD τ).loc main_arg4)) 4096 := by
  refine (dats m 0 c).arrAt_eq_of_cover 7 _ (fun t hf => ?_) cover7
  have h7 : t.val = 7 := (idx7 t).2.2.1 hf
  rw [Value.flushed7]
  funext j
  show (outsAt0 m c t.val t.isLt).2.2.1 j = loss (m ((c : Thread nD τ).loc main_arg0)) (m ((c : Thread nD τ).loc main_arg1)) (m ((c : Thread nD τ).loc main_arg2)) (m ((c : Thread nD τ).loc main_arg3)) (m ((c : Thread nD τ).loc main_arg4)) 4096 (((cfg0.win 7).blk t).view.emb j)
  rw [loss_at, emb7]
  exact congrArg (fun n => loss (m ((c : Thread nD τ).loc main_arg0)) (m ((c : Thread nD τ).loc main_arg1)) (m ((c : Thread nD τ).loc main_arg2)) (m ((c : Thread nD τ).loc main_arg3)) (m ((c : Thread nD τ).loc main_arg4)) n j) (by rw [h7])

section Reference

variable (x0 : Vec Ideal S4096x2816 .bf16) (x1 x2 : Vec Ideal S4096x1024 .f32) (x3 : Vec Ideal S2816x1024 .f32) (x4 : Vec Ideal S1024 .f32)

open Cert.LossRefIdeal.Read

/-- The reference's residual stream. -/
theorem ref_x (i : S4096x1024.Idx) : Cert.LossRefIdeal.Read.val_main_v2 (F := Ideal) x0 x1 x3 i = out x0 x1 x3 (i 0) (i 1) := by
  rw [val_main_v2_apply, val_main_v1_apply]
  refine congrArg₂ (fun a b : EReal => a + b) (congrArg x1 (Shape.idx_ext₂ rfl rfl)) (Finset.sum_congr rfl fun k _ => ?_)
  exact congrArg₂ (fun a b : EReal => a * b) (congrArg x0 (Shape.idx_ext₂ rfl rfl)) (congrArg x3 (Shape.idx_ext₂ rfl rfl))

/-- The reference's mean square. -/
theorem ref_ms (i : Cert.LossRefIdeal.S4096x1.Idx) : Cert.LossRefIdeal.Read.val_main_v9 (F := Ideal) x0 x1 x3 i = meanSq (out x0 x1 x3 (i 0)) := by
  rw [val_main_v9_apply, val_main_v7_apply, val_main_v5_apply, val_main_v4_apply]
  refine congrArg (fun z : EReal => Ideal.div z (Ideal.ofBits .f32 0x44800000#32) + Ideal.ofBits .f32 0x358637BD#32) ?_
  refine (congrArg₂ (fun a b : EReal => a + b) bits_zero (Finset.sum_congr rfl fun k _ => ?_)).trans (zero_add _)
  rw [val_main_v3_apply, ref_x]
  rfl

/-- The reference's reciprocal root. -/
theorem ref_rms (i : Cert.LossRefIdeal.S4096x1.Idx) : Cert.LossRefIdeal.Read.val_main_v10 (F := Ideal) x0 x1 x3 i = rms (out x0 x1 x3 (i 0)) := by
  rw [val_main_v10_apply]
  exact congrArg Ideal.rsqrt (ref_ms x0 x1 x3 i)

/-- The reference's normalised rows. -/
theorem ref_xh (i : S4096x1024.Idx) : Cert.LossRefIdeal.Read.val_main_v15 (F := Ideal) x0 x1 x3 i = (out x0 x1 x3 (i 0) (i 1) * rms (out x0 x1 x3 (i 0)) : EReal) := by
  rw [val_main_v15_apply, val_main_v14_apply, ref_x, ref_rms]
  rfl

/-- The reference's scale, along the rows. -/
theorem ref_g (i : S4096x1024.Idx) : Cert.LossRefIdeal.Read.val_main_v17 (F := Ideal) x4 i = entry x4 (i 1) := by
  rw [val_main_v17_apply, val_main_v16_apply]
  exact congrArg x4 (funext fun d => match d with | ⟨0, _⟩ => rfl)

/-- The reference's error. -/
theorem ref_err (i : S4096x1024.Idx) : Cert.LossRefIdeal.Read.val_main_v19 (F := Ideal) x0 x1 x2 x3 x4 i = err x0 x1 x2 x3 x4 (i 0) (i 1) := by
  rw [val_main_v19_apply, val_main_v18_apply, ref_xh, ref_g]
  exact congrArg (fun z : EReal => out x0 x1 x3 (i 0) (i 1) * rms (out x0 x1 x3 (i 0)) * entry x4 (i 1) - z) (congrArg x2 (Shape.idx_ext₂ rfl rfl))

/-- The reference's gradient in the prediction. -/
theorem ref_dpred (i : S4096x1024.Idx) : Cert.LossRefIdeal.Read.val_main_v33 (F := Ideal) x0 x1 x2 x3 x4 i = dpred x0 x1 x2 x3 x4 (i 0) (i 1) := by
  rw [val_main_v33_apply, val_main_v32_apply, val_main_v31_apply, val_main_v29_apply, val_main_v28_apply, val_main_v22_apply, ref_err]
  show (Ideal.div (Ideal.ofBits .f32 0x3F000000#32 * Ideal.ofBits .f32 0x3F800000#32) (Ideal.ofBits .f32 0x44800000#32)
    * (Ideal.ofBits .f32 0x40000000#32 * err x0 x1 x2 x3 x4 (i 0) (i 1)) : EReal) = err x0 x1 x2 x3 x4 (i 0) (i 1) * Ideal.ofBits .f32 0x3A800000#32
  rw [bits_half, bits_one, bits_1024, bits_two, bits_inv_1024, mul_one, Ideal.div_coe (by norm_num), ← EReal.coe_mul, ← mul_assoc, ← EReal.coe_mul, mul_comm]
  exact congrArg (fun r : ℝ => err x0 x1 x2 x3 x4 (i 0) (i 1) * (r : EReal)) (by norm_num)

/-- Times the scale. -/
theorem ref_dg (i : S4096x1024.Idx) : Cert.LossRefIdeal.Read.val_main_v38 (F := Ideal) x0 x1 x2 x3 x4 i = (dpred x0 x1 x2 x3 x4 (i 0) (i 1) * entry x4 (i 1) : EReal) := by
  rw [val_main_v38_apply, ref_dpred]
  exact congrArg (fun z : EReal => dpred x0 x1 x2 x3 x4 (i 0) (i 1) * z) (ref_g x4 i)

/-- The reference's gradient of the mean square. -/
theorem ref_mean (i : S4096x1024.Idx) : Cert.LossRefIdeal.Read.val_main_v49 (F := Ideal) x0 x1 x2 x3 x4 i
    = normMean (out x0 x1 x3 (i 0)) (dpred x0 x1 x2 x3 x4 (i 0)) (entry x4) := by
  rw [val_main_v49_apply, val_main_v48_apply, Fin.sum_univ_one, val_main_v47_apply, val_main_v45_apply, val_main_v42_apply, val_main_v41_apply,
    val_main_v13_apply, val_main_v11_apply, ref_rms, ref_ms]
  refine (congrArg₂ (fun a b : EReal => a + b) bits_zero ?_).trans (zero_add _)
  refine congrArg (fun z : EReal => Ideal.div z (Ideal.ofBits .f32 0x44800000#32)) ?_
  refine congrArg₂ (fun a b : EReal => a * b) ?_ rfl
  refine (congrArg₂ (fun a b : EReal => a + b) bits_zero (Finset.sum_congr rfl fun k _ => ?_)).trans (zero_add _)
  rw [val_main_v40_apply, ref_dg, ref_x]
  have e : idx_main_v41 (idx_main_v42 (idx_main_v48 (idx_main_v49 i) 0)) k = ix2 (i 0) k :=
    Shape.idx_ext₂ (by show (i 0).val * 1 + 0 = (i 0).val; omega) rfl
  rw [e]
  rfl

/-- The reference's gradient in the residual stream, at an index. -/
theorem ref_grad_at (p : Fin 4096) (q : Fin 1024) :
    Cert.LossRefIdeal.Read.val_main_v53 (F := Ideal) x0 x1 x2 x3 x4 (ix2 p q) = grad x0 x1 x2 x3 x4 (ix2 p q) := by
  rw [val_main_v53_apply, val_main_v52_apply, val_main_v51_apply, val_main_v50_apply, val_main_v44_apply, val_main_v43_apply, ref_mean, ref_dg, ref_rms, ref_x]
  refine Eq.trans ?_ (normBack_eq (out x0 x1 x3 p) (dpred x0 x1 x2 x3 x4 p) (entry x4) (fun _ => 0) q)
  rw [zero_add]
  rfl

/-- The reference's gradient in the residual stream. -/
theorem ref_grad : Cert.LossRefIdeal.Read.val_main_v53 (F := Ideal) x0 x1 x2 x3 x4 = grad x0 x1 x2 x3 x4 := by
  funext i
  have e : i = ix2 (i 0) (i 1) := Shape.idx_ext₂ rfl rfl
  exact (congrArg (Cert.LossRefIdeal.Read.val_main_v53 (F := Ideal) x0 x1 x2 x3 x4) e).trans ((ref_grad_at x0 x1 x2 x3 x4 (i 0) (i 1)).trans (congrArg (grad x0 x1 x2 x3 x4) e.symm))

/-- A sum over the indices of an array of one axis. -/
theorem sum_one (f : Cert.LossRefIdeal.S4096.Idx → EReal) : ∑ j, f j = ∑ p : Fin 4096, f (fun d => match d with | ⟨0, _⟩ => p) :=
  (Fintype.sum_equiv ⟨fun p : Fin 4096 => (fun d => match d with | ⟨0, _⟩ => p : Cert.LossRefIdeal.S4096.Idx), fun j => j 0, fun _ => rfl,
    fun j => funext fun d => match d with | ⟨0, _⟩ => rfl⟩ _ _ fun _ => rfl).symm

/-- An array without axes has an entry. -/
theorem one : 0 < Cert.LossRefIdeal.S_.numel := by decide

/-- The reference's loss. -/
theorem ref_loss : Cert.LossRefIdeal.Read.val_main_v55 (F := Ideal) x0 x1 x2 x3 x4 = loss x0 x1 x2 x3 x4 4096 := by
  funext i
  have h : Cert.LossRefIdeal.Read.val_main_v55 (F := Ideal) x0 x1 x2 x3 x4 i = Cert.LossRefIdeal.Read.val_main_v27 (F := Ideal) x0 x1 x2 x3 x4 (Shape.Idx.first one) := by
    unfold val_main_v55
    refine shapeCast_apply _ _ i (Shape.Idx.first one) ?_
    have l0 : (i 0).val < 1 := (i 0).isLt
    have l1 : (i 1).val < 1 := (i 1).isLt
    have l : (Shape.rowMajor _ (Shape.Idx.first one)).val < 1 := (Shape.rowMajor Cert.LossRefIdeal.S_ (Shape.Idx.first one)).isLt
    rw [Shape.rowMajor_val_two]
    show _ = (i 0).val * 1 + (i 1).val
    omega
  rw [h, val_main_v27_apply, val_main_v26_apply]
  unfold loss
  rw [upTo_all]
  show (Ideal.ofBits .f32 0x3F000000#32 * (Ideal.ofBits .f32 0x00000000#32 + ∑ j : Cert.LossRefIdeal.S4096.Idx, Cert.LossRefIdeal.Read.val_main_v25 (F := Ideal) x0 x1 x2 x3 x4 j) : EReal) = ∑ p, part x0 x1 x2 x3 x4 p
  rw [bits_zero, zero_add, bits_half, mul_comm, sum_one, ← sum_mul_nonneg _ _ (by norm_num)]
  refine Finset.sum_congr rfl fun p _ => ?_
  rw [val_main_v25_apply, val_main_v23_apply]
  unfold part
  have e : (Cert.LossRefIdeal.Read.val_main_v23 (F := Ideal) x0 x1 x2 x3 x4 (fun d => match d with | ⟨0, _⟩ => p) : EReal) = ∑ k, err x0 x1 x2 x3 x4 p k * err x0 x1 x2 x3 x4 p k := by
    rw [val_main_v23_apply]
    refine (congrArg₂ (fun a b : EReal => a + b) bits_zero (Finset.sum_congr rfl fun k _ => ?_)).trans (zero_add _)
    rw [val_main_v20_apply, ref_err]
    rfl
  rw [val_main_v23_apply] at e
  show Ideal.div _ (Ideal.ofBits .f32 0x44800000#32) * (((1 : ℝ) / 2 : ℝ) : EReal) = _
  rw [e, bits_1024, Ideal.div_coe (by norm_num), mul_assoc, ← EReal.coe_mul]
  exact congrArg (fun r : ℝ => (∑ k, err x0 x1 x2 x3 x4 p k * err x0 x1 x2 x3 x4 p k) * (r : EReal)) (by norm_num)

/-- The reference's gradient of the scale. -/
theorem ref_row (i : S1x1024.Idx) : Cert.LossRefIdeal.Read.val_main_v56 (F := Ideal) x0 x1 x2 x3 x4 i = ∑ k, term x0 x1 x2 x3 x4 (i 1) k := by
  rw [val_main_v56_apply, val_main_v39_apply, Fin.sum_univ_one, val_main_v36_apply, val_main_v35_apply]
  refine (congrArg₂ (fun a b : EReal => a + b) bits_zero ?_).trans (zero_add _)
  refine (congrArg₂ (fun a b : EReal => a + b) bits_zero (Finset.sum_congr rfl fun k _ => ?_)).trans (zero_add _)
  rw [val_main_v34_apply, ref_xh, ref_dpred]
  have e : idx_main_v35 (idx_main_v36 (idx_main_v39 (idx_main_v56 i) 0)) k = ix2 k (i 1) :=
    Shape.idx_ext₂ rfl (by show 0 * 1024 + (i 1).val = (i 1).val; omega)
  rw [e]
  exact mul_comm _ _

/-- The reference's gradient of the scale, in the first of eight rows. -/
theorem ref_acc : Cert.LossRefIdeal.Read.val_main_v57 (F := Ideal) x0 x1 x2 x3 x4 = acc x0 x1 x2 x3 x4 4096 := by
  funext y
  have l : (y 0).val < 8 := (y 0).isLt
  unfold val_main_v57 acc
  by_cases h : (y 0).val = 0
  · rw [if_pos h, upTo_all]
    refine (pad_apply_of_inside _ _ _ _ _ _ _ y (ix2 (0 : Fin 1) (y 1)) (fun a => ?_)).trans ?_
    · match a with
      | ⟨0, _⟩ => exact h
      | ⟨1, _⟩ => show (y 1).val = 0 + (y 1).val * (0 + 1); omega
    · exact ref_row x0 x1 x2 x3 x4 (ix2 (0 : Fin 1) (y 1))
  · rw [if_neg h]
    refine (pad_apply_of_not_inside _ _ _ _ _ _ _ y (0 : Fin 2) (fun hin => h ?_)).trans ?_
    · have e : ((y 0).val - 0) / (0 + 1) < 1 := hin.2.2
      omega
    · rw [val_main_call0_v0_apply, val_main_c_apply]
      show (((0#32 : BitVec 32).toInt : ℝ) : EReal) = 0
      simp

end Reference

/-- The kernel's body table is the ideal kernel's, whose text is the same. -/
theorem defs₀_eq {F : FTy → Type} [FloatOps F] : Cert.Loss.defs₀ (F := F) = Cert.LossIdeal.defs₀ (F := F) :=
  congrArg Defs.onTc (funext fun l => funext fun a => by
    match l, a with
    | 0, (t, s) => rfl)

/-- With the pipeline's labels, too. -/
theorem defs_eq {F : FTy → Type} [FloatOps F] : Cert.Loss.defs (F := F) = Cert.LossIdeal.defs (F := F) :=
  congrArg (fun d => Pipeline.defs Cert.Loss.pcfgs d) defs₀_eq

/-- The kernel's frame. -/
theorem frame_P : Cert.quiescent_Loss := fun m ρ _ => by
  rw [defs_eq]
  exact Cert.LossIdeal.Gen.frame (F := Bits) m ρ

/-- The ideal kernel's frame. -/
theorem frame_PI : Cert.quiescent_LossIdeal := fun m ρ _ => Cert.LossIdeal.Gen.frame (F := Ideal) m ρ

/-- The reference's frame. -/
theorem frame_RI : Cert.quiescent_LossRefIdeal := fun m ρ _ =>
  (θ_run Cert.LossRefIdeal.defs _ _).mono (fun r h => ⟨fun c => (h c).2.2.2.2,
      Idealize.ShloMosaic.sem_eq_zero_of_no_sems (by decide) r.2⟩)
    (Cert.LossRefIdeal.Value.run (F := Ideal) m ρ)

/-- Kernel and reference agree at every index. -/
theorem algebraic : Cert.algebraic_LossIdeal_LossRefIdeal := by
  intro m g m' g' _ hargs
  refine ⟨fun c => grad (m ((c : Thread nD τ).loc main_arg0)) (m ((c : Thread nD τ).loc main_arg1)) (m ((c : Thread nD τ).loc main_arg2)) (m ((c : Thread nD τ).loc main_arg3)) (m ((c : Thread nD τ).loc main_arg4)), fun c => grad (m ((c : Thread nD τ).loc main_arg0)) (m ((c : Thread nD τ).loc main_arg1)) (m ((c : Thread nD τ).loc main_arg2)) (m ((c : Thread nD τ).loc main_arg3)) (m ((c : Thread nD τ).loc main_arg4)), fun c => loss (m ((c : Thread nD τ).loc main_arg0)) (m ((c : Thread nD τ).loc main_arg1)) (m ((c : Thread nD τ).loc main_arg2)) (m ((c : Thread nD τ).loc main_arg3)) (m ((c : Thread nD τ).loc main_arg4)) 4096, fun c => acc (m ((c : Thread nD τ).loc main_arg0)) (m ((c : Thread nD τ).loc main_arg1)) (m ((c : Thread nD τ).loc main_arg2)) (m ((c : Thread nD τ).loc main_arg3)) (m ((c : Thread nD τ).loc main_arg4)) 4096, ?_, ?_⟩
  · exact (θ_run _ _ _).mono (fun r h c => ⟨(h c).1.trans (final5 m c), (h c).2.1.trans (final6 m c), (h c).2.2.1.trans (final7 m c), (h c).2.2.2.1.trans (final8 m c), (h c).2.2.2.2⟩)
      (Value.run_blocks (F := Ideal) m g)
  · refine (θ_run _ _ _).mono (fun r h c => ⟨?_, ?_, ?_, ?_, (h c).2.2.2.2⟩) (Cert.LossRefIdeal.Value.run (F := Ideal) m' g')
    · obtain ⟨b0, b1, b2, b3, b4⟩ := hargs c
      refine (h c).1.trans ((Cert.LossRefIdeal.Read.val_main_v53_eq _ _).trans ?_)
      rw [b0, b1, b2, b3, b4]
      exact ref_grad _ _ _ _ _
    · obtain ⟨b0, b1, b2, b3, b4⟩ := hargs c
      refine (h c).2.1.trans ((Cert.LossRefIdeal.Read.val_main_v54_eq _ _).trans ?_)
      rw [b0, b1, b2, b3, b4]
      exact ref_grad _ _ _ _ _
    · obtain ⟨b0, b1, b2, b3, b4⟩ := hargs c
      refine (h c).2.2.1.trans ((Cert.LossRefIdeal.Read.val_main_v55_eq _ _ _ _ _).trans ?_)
      rw [b0, b1, b2, b3, b4]
      exact ref_loss _ _ _ _ _
    · obtain ⟨b0, b1, b2, b3, b4⟩ := hargs c
      refine (h c).2.2.2.1.trans ((Cert.LossRefIdeal.Read.val_main_v57_eq _ _ _ _ _).trans ?_)
      rw [b0, b1, b2, b3, b4]
      exact ref_acc _ _ _ _ _

end Cert.Proof.Loss

end
-- ==== Proof.Down.lean ====
/-
  `Down`: the gradient of the down projection, carried through the gated product (the call `ffn_bwd_down`).
  The kernel multiplies, tile by tile of 512 rows and in four pieces of the columns, the projected cotangent into the factors of the
  gated product's derivative, which are the transpose of that product's linearisation at a cotangent of ones; the reference is the
  transpose of the whole map at the cotangent itself.  The two differ in where the cotangent stands in a product of real numbers and in
  one distributive law, which the arguments being real numbers gives.
-/
module

public import proofs.«01_k».proof.Defs
public import proofs.«01_k».proof.Proof.Gen.Down
public import proofs.«01_k».proof.Proof.Gen.DownIdeal
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Reals
public import Idealize.ShloMosaic.Lib.Pointwise
public import Idealize.ShloMosaic.Lib.ReduceAll
public import Idealize.ShloMosaic.Lib.ValueLayout
public import Idealize.ShloMosaic.Lib.WholeRead
public import Idealize.ShloMosaic.Lib.Pipeline.ReadBack

@[expose] public section

set_option maxRecDepth 16384

noncomputable section

namespace Cert.Proof.Down

open Idealize.ShloMosaic Idealize.ShloMosaic.TcCoe Idealize.SL.Sem
open Cert.DownIdeal Cert.DownIdeal.Gen
open Idealize.ShloMosaic.Pipeline (Dat Cfg Window)

variable (m : (ℓ : Loc nD τ sig) → Buf (Elt Ideal) ℓ)

/-- The projected cotangent at an index. -/
def dact (d : Vec Ideal S4096x1024 .bf16) (w : Vec Ideal S2816x1024 .f32) (p : Fin 4096) (q : Fin 2816) : EReal :=
  ∑ k : Fin 1024, d (ix2 p k) * w (ix2 q k)

/-- The number one as a constant's bits. -/
def one : EReal := Ideal.ofBits .f32 0x3F800000#32

/-- The gated product's derivative by its gate, at a cotangent of ones. -/
def byGate (g u : EReal) : EReal := one * u * Ideal.logistic g + g * (one * u) * (Ideal.logistic g * (one - Ideal.logistic g))

/-- By its other factor. -/
def byUp (g : EReal) : EReal := g * Ideal.logistic g * one

/-- Both, side by side. -/
def saved (g u : Vec Ideal S4096x2816 .f32) : Vec Ideal S4096x5632 .bf16 := fun i =>
  if hq : (i 1).val < 2816 then byGate (g (ix2 (i 0) (⟨(i 1).val, hq⟩ : Fin 2816))) (u (ix2 (i 0) (⟨(i 1).val, hq⟩ : Fin 2816)))
  else byUp (g (ix2 (i 0) (⟨(i 1).val - 2816, by have l : (i 1).val < 5632 := (i 1).isLt; omega⟩ : Fin 2816)))

/-- The gradient by gate and other factor, side by side. -/
def grad (d : Vec Ideal S4096x1024 .bf16) (g u : Vec Ideal S4096x2816 .f32) (w : Vec Ideal S2816x1024 .f32) : Vec Ideal S4096x5632 .bf16 := fun i =>
  dact d w (i 0) ⟨(i 1).val % 2816, Nat.mod_lt _ (by decide)⟩ * saved g u i

/-- The gradient at an index, from its coordinates. -/
theorem grad_at (d : Vec Ideal S4096x1024 .bf16) (g u : Vec Ideal S4096x2816 .f32) (w : Vec Ideal S2816x1024 .f32) (i j : S4096x5632.Idx) (p : Fin 4096)
    (q : Fin 2816) (hp : p.val = (i 0).val) (hq : q.val = (i 1).val % 2816) (h₀ : (j 0).val = (i 0).val) (h₁ : (j 1).val = (i 1).val) :
    dact d w p q * saved g u j = grad d g u w i := by
  obtain rfl : p = i 0 := Fin.ext hp
  obtain rfl : j = i := Shape.idx_ext₂ h₀ h₁
  exact congrArg (fun q => dact d w (j 0) q * saved g u j) (Fin.ext hq)

/-- What the region finds in the weight window's array. -/
theorem V_w (c : Dev nD) : (V m c main_v8 : Vec Ideal S2816x1024 .bf16) = (m ((c : Thread nD τ).loc main_arg3)) := by
  unfold V
  simp only [hostOps0, hostOps0_1, hostOps0_2, hostOps0_3, List.flatten_cons, List.flatten_nil, List.append_nil, List.cons_append, List.nil_append]
  after_results_simp
  rfl

/-- Two arrays side by side, at an index. -/
theorem concat_apply (a b : Vec Ideal S4096x2816 .f32) (i : S4096x5632.Idx) :
    concatenate S4096x5632 1 [⟨S4096x2816, a⟩, ⟨S4096x2816, b⟩] concatenates_S4096x2816_S4096x2816_S4096x5632_d1 i
      = if h : (i 1).val < 2816 then a (ix2 (i 0) (⟨(i 1).val, h⟩ : Fin 2816))
        else b (ix2 (i 0) (⟨(i 1).val - 2816, by have l : (i 1).val < 5632 := (i 1).isLt; omega⟩ : Fin 2816)) := by
  pointwise

/-- What the region finds in the saved factors' array. -/
theorem V_saved (c : Dev nD) : (V m c main_v7 : Vec Ideal S4096x5632 .bf16) = saved (m ((c : Thread nD τ).loc main_arg1)) (m ((c : Thread nD τ).loc main_arg2)) := by
  unfold V
  simp only [hostOps0, hostOps0_1, hostOps0_2, hostOps0_3, List.flatten_cons, List.flatten_nil, List.append_nil, List.cons_append, List.nil_append]
  after_results_simp
  funext i
  refine (concat_apply _ _ i).trans ?_
  after_results_simp
  unfold saved byGate byUp
  simp only [← logistic_eq]
  split
  · rfl
  · rfl

/-- The array row that row `p` of point `t`'s block is. -/
abbrev row (t : Fin cfg0.N) (p : Fin 512) : Fin 4096 := ⟨t.val * 512 + p.val, by
  have h : t.val < 8 := t.isLt
  omega⟩

/-- Where window 0's block lies. -/
theorem idx0 : ∀ t : Fin cfg0.N, win0_0.index t (0 : Fin 2) = t.val ∧ win0_0.index t (1 : Fin 2) = 0 :=
  (by decide +kernel : ∀ t : Fin grid0.N, _)

/-- What window 0's block holds at point `t`. -/
theorem block0 (c : Dev nD) (t : Fin cfg0.N) (j : S512x1024.Idx) :
    (iblk m c 0 t : Vec Ideal S512x1024 .bf16) j = (m ((c : Thread nD τ).loc main_arg0)) (ix2 (row t (j 0)) (j 1)) := by
  have e : ((cfg0.win 0).blk t).view.emb j = (ix2 (row t (j 0)) (j 1)) := by
    refine Shape.idx_ext₂ ?_ ?_
    · refine (Window.rect_emb_val win0_0 t j (0 : Fin 2)).trans ?_
      rw [(idx0 t).1]; rfl
    · refine (Window.rect_emb_val win0_0 t j (1 : Fin 2)).trans ?_
      rw [(idx0 t).2]; rw [Nat.zero_mul, Nat.zero_add]; rfl
  exact (congrFun (V_main_arg0 m c) _).trans (congrArg ((m ((c : Thread nD τ).loc main_arg0))) e)

/-- Where window 1's block lies. -/
theorem idx1 : ∀ t : Fin cfg0.N, win0_1.index t (0 : Fin 2) = t.val ∧ win0_1.index t (1 : Fin 2) = 0 :=
  (by decide +kernel : ∀ t : Fin grid0.N, _)

/-- What window 1's block holds at point `t`. -/
theorem block1 (c : Dev nD) (t : Fin cfg0.N) (j : S512x5632.Idx) :
    (iblk m c 1 t : Vec Ideal S512x5632 .bf16) j = (saved (m ((c : Thread nD τ).loc main_arg1)) (m ((c : Thread nD τ).loc main_arg2))) (ix2 (row t (j 0)) (j 1)) := by
  have e : ((cfg0.win 1).blk t).view.emb j = (ix2 (row t (j 0)) (j 1)) := by
    refine Shape.idx_ext₂ ?_ ?_
    · refine (Window.rect_emb_val win0_1 t j (0 : Fin 2)).trans ?_
      rw [(idx1 t).1]; rfl
    · refine (Window.rect_emb_val win0_1 t j (1 : Fin 2)).trans ?_
      rw [(idx1 t).2]; rw [Nat.zero_mul, Nat.zero_add]; rfl
  exact (congrFun (V_saved m c) _).trans (congrArg ((saved (m ((c : Thread nD τ).loc main_arg1)) (m ((c : Thread nD τ).loc main_arg2)))) e)

/-- Where window 2's block lies. -/
theorem idx2 : ∀ t : Fin cfg0.N, win0_2.index t (0 : Fin 2) = 0 ∧ win0_2.index t (1 : Fin 2) = 0 :=
  (by decide +kernel : ∀ t : Fin grid0.N, _)

/-- What window 2's block holds at point `t`. -/
theorem block2 (c : Dev nD) (t : Fin cfg0.N) (j : S2816x1024.Idx) :
    (iblk m c 2 t : Vec Ideal S2816x1024 .bf16) j = (m ((c : Thread nD τ).loc main_arg3)) j := by
  have e : ((cfg0.win 2).blk t).view.emb j = j := by
    refine Shape.idx_ext₂ ?_ ?_
    · refine (Window.rect_emb_val win0_2 t j (0 : Fin 2)).trans ?_
      rw [(idx2 t).1]
      rw [Nat.zero_mul, Nat.zero_add]
    · refine (Window.rect_emb_val win0_2 t j (1 : Fin 2)).trans ?_
      rw [(idx2 t).2]; rw [Nat.zero_mul, Nat.zero_add]
  exact (congrFun (V_w m c) _).trans (congrArg ((m ((c : Thread nD τ).loc main_arg3))) e)

/-- Where window 3's block lies. -/
theorem idx3 : ∀ t : Fin cfg0.N, win0_3.index t (0 : Fin 2) = t.val ∧ win0_3.index t (1 : Fin 2) = 0 :=
  (by decide +kernel : ∀ t : Fin grid0.N, _)

/-- Where an index of window 3's block lies in the array. -/
theorem emb3 (t : Fin cfg0.N) (j : S512x5632.Idx) : ((cfg0.win 3).blk t).view.emb j = ix2 (row t (j 0)) (j 1) := by
  refine Shape.idx_ext₂ ?_ ?_
  · refine (Window.rect_emb_val win0_3 t j (0 : Fin 2)).trans ?_
    rw [(idx3 t).1]; rfl
  · refine (Window.rect_emb_val win0_3 t j (1 : Fin 2)).trans ?_
    rw [(idx3 t).2, Nat.zero_mul, Nat.zero_add]; rfl

/-- Every index of window 3's array is in some point's block. -/
theorem cover3 (i : S4096x5632.Idx) : ∃ t : Fin cfg0.N, (cfg0.win 3).flush t = true ∧ i ∈ ((cfg0.win 3).blk t).view.set := by
  have l0 : (i 0).val < 4096 := (i 0).isLt
  have l1 : (i 1).val < 5632 := (i 1).isLt
  have hN : cfg0.N = 8 := by decide +kernel
  let t : Fin cfg0.N := ⟨(i 0).val / 512, by rw [hN]; omega⟩
  refine ⟨t, (by decide +kernel : ∀ t : Fin grid0.N, (cfg0.win 3).flush t = true) t, ?_⟩
  show i ∈ ((View.whole (Pipeline.arrRef spec0 3)).slice (win0_3.rect t)).set
  rw [View.set_slice_whole, Rect.mem_set_unit]
  intro a
  match a with
  | ⟨0, _⟩ =>
    show win0_3.index t (0 : Fin 2) * 512 ≤ (i 0).val ∧ (i 0).val < win0_3.index t (0 : Fin 2) * 512 + 512
    rw [(idx3 t).1]
    show (i 0).val / 512 * 512 ≤ (i 0).val ∧ (i 0).val < (i 0).val / 512 * 512 + 512
    omega
  | ⟨1, _⟩ =>
    show win0_3.index t (1 : Fin 2) * 5632 ≤ (i 1).val ∧ (i 1).val < win0_3.index t (1 : Fin 2) * 5632 + 5632
    rw [(idx3 t).2]
    omega

/-- A tile's product at an index. -/
def prod {n : Nat} (x : Vec Ideal S512x1024 .bf16) (y : Vec Ideal ⟨2, ![n, 1024]⟩ .bf16) (p : Fin 512) (q : Fin n) : EReal :=
  ∑ k : Fin 1024, x (ix2 p k) * y (ix2 q k)

/-- The product of point `t`'s loads is the projected cotangent. -/
theorem prod_at (c : Dev nD) (t : Fin cfg0.N) {n o : Nat} (inb : ∀ a, (![o, 0] : Fin 2 → Nat) a + (⟨2, ![n, 1024]⟩ : Shape).size a ≤ S2816x1024.size a)
    (p : Fin 512) (q : Fin n) (hq : o + q.val < 2816) :
    prod (View.readAt (Elt Ideal) (ms0_0 t).view (Rect.unit (s := S512x1024) ![0, 0] S512x1024.size inb_S512x1024_S512x1024_0_0).toLoadRect ((hs0_0 t).unread (iblk m c 0 t)))
      (View.readAt (Elt Ideal) (ms0_2 t).view (Rect.unit (s := S2816x1024) ![o, 0] (⟨2, ![n, 1024]⟩ : Shape).size inb).toLoadRect ((hs0_2 t).unread (iblk m c 2 t))) p q
      = dact (m ((c : Thread nD τ).loc main_arg0)) (m ((c : Thread nD τ).loc main_arg3)) (row t p) ⟨o + q.val, hq⟩ := by
  unfold prod dact
  refine Finset.sum_congr rfl fun k _ => congrArg₂ (fun a b : EReal => a * b) ?_ ?_
  · refine ((hs0_0 t).readAt_unread _ _ _).trans ((block0 m c t _).trans (congrArg (m ((c : Thread nD τ).loc main_arg0)) (Shape.idx_ext₂ ?_ ?_)))
    · exact congrArg (fun z => t.val * 512 + z) ((Nat.zero_add _).trans (Nat.one_mul _))
    · exact (Nat.zero_add _).trans (Nat.one_mul _)
  · refine ((hs0_2 t).readAt_unread _ _ _).trans ((block2 m c t _).trans (congrArg (m ((c : Thread nD τ).loc main_arg3)) (Shape.idx_ext₂ ?_ ?_)))
    · exact congrArg (fun z => o + z) (Nat.one_mul _)
    · exact (Nat.zero_add _).trans (Nat.one_mul _)

/-- Point `t`'s load of the saved factors. -/
theorem saved_at (c : Dev nD) (t : Fin cfg0.N) {n o : Nat} (inb : ∀ a, (![0, o] : Fin 2 → Nat) a + (⟨2, ![512, n]⟩ : Shape).size a ≤ S512x5632.size a)
    (x : (⟨2, ![512, n]⟩ : Shape).Idx) (hq : o + (x 1).val < 5632) :
    View.readAt (Elt Ideal) (ms0_1 t).view (Rect.unit (s := S512x5632) ![0, o] (⟨2, ![512, n]⟩ : Shape).size inb).toLoadRect ((hs0_1 t).unread (iblk m c 1 t)) x
      = saved (m ((c : Thread nD τ).loc main_arg1)) (m ((c : Thread nD τ).loc main_arg2)) (ix2 (row t (x 0)) (⟨o + (x 1).val, hq⟩ : Fin 5632)) := by
  refine ((hs0_1 t).readAt_unread _ _ _).trans ((block1 m c t _).trans (congrArg (saved (m ((c : Thread nD τ).loc main_arg1)) (m ((c : Thread nD τ).loc main_arg2))) (Shape.idx_ext₂ ?_ ?_)))
  · exact congrArg (fun z => t.val * 512 + z) ((Nat.zero_add _).trans (Nat.one_mul _))
  · exact congrArg (fun z => o + z) (Nat.one_mul _)

/-- A store's tile at an index. -/
theorem pay8_apply (x : Vec Ideal S512x1024 .bf16) (y : Vec Ideal S768x1024 .bf16) (z : Vec Ideal S512x768 .bf16) (j : S512x768.Idx) :
    k0_pay8 (F := Ideal) x y z j = prod x y (j 0) (j 1) * z j := by
  unfold k0_pay8 k0_pay7 prod
  pointwise [dot_S512x1024_S768x1024_S512x768_1_1_0_0_n_n]

/-- A store's tile at an index. -/
theorem pay9_apply (x : Vec Ideal S512x1024 .bf16) (y : Vec Ideal S768x1024 .bf16) (z : Vec Ideal S512x768 .bf16) (j : S512x768.Idx) :
    k0_pay9 (F := Ideal) x y z j = prod x y (j 0) (j 1) * z j := by
  unfold k0_pay9 k0_pay7 prod
  pointwise [dot_S512x1024_S768x1024_S512x768_1_1_0_0_n_n]

/-- A store's tile at an index. -/
theorem pay11_apply (x : Vec Ideal S512x1024 .bf16) (y : Vec Ideal S768x1024 .bf16) (z : Vec Ideal S512x768 .bf16) (j : S512x768.Idx) :
    k0_pay11 (F := Ideal) x y z j = prod x y (j 0) (j 1) * z j := by
  unfold k0_pay11 k0_pay10 prod
  pointwise [dot_S512x1024_S768x1024_S512x768_1_1_0_0_n_n]

/-- A store's tile at an index. -/
theorem pay12_apply (x : Vec Ideal S512x1024 .bf16) (y : Vec Ideal S768x1024 .bf16) (z : Vec Ideal S512x768 .bf16) (j : S512x768.Idx) :
    k0_pay12 (F := Ideal) x y z j = prod x y (j 0) (j 1) * z j := by
  unfold k0_pay12 k0_pay10 prod
  pointwise [dot_S512x1024_S768x1024_S512x768_1_1_0_0_n_n]

/-- A store's tile at an index. -/
theorem pay2_apply (x : Vec Ideal S512x1024 .bf16) (y : Vec Ideal S768x1024 .bf16) (z : Vec Ideal S512x768 .bf16) (j : S512x768.Idx) :
    k0_pay2 (F := Ideal) x y z j = prod x y (j 0) (j 1) * z j := by
  unfold k0_pay2 k0_pay1 prod
  pointwise [dot_S512x1024_S768x1024_S512x768_1_1_0_0_n_n]

/-- A store's tile at an index. -/
theorem pay3_apply (x : Vec Ideal S512x1024 .bf16) (y : Vec Ideal S768x1024 .bf16) (z : Vec Ideal S512x768 .bf16) (j : S512x768.Idx) :
    k0_pay3 (F := Ideal) x y z j = prod x y (j 0) (j 1) * z j := by
  unfold k0_pay3 k0_pay1 prod
  pointwise [dot_S512x1024_S768x1024_S512x768_1_1_0_0_n_n]

/-- A store's tile at an index. -/
theorem pay5_apply (x : Vec Ideal S512x1024 .bf16) (y : Vec Ideal S512x1024 .bf16) (z : Vec Ideal S512x512 .bf16) (j : S512x512.Idx) :
    k0_pay5 (F := Ideal) x y z j = prod x y (j 0) (j 1) * z j := by
  unfold k0_pay5 k0_pay4 prod
  pointwise [dot_S512x1024_S512x1024_S512x512_1_1_0_0_n_n]

/-- A store's tile at an index. -/
theorem pay6_apply (x : Vec Ideal S512x1024 .bf16) (y : Vec Ideal S512x1024 .bf16) (z : Vec Ideal S512x512 .bf16) (j : S512x512.Idx) :
    k0_pay6 (F := Ideal) x y z j = prod x y (j 0) (j 1) * z j := by
  unfold k0_pay6 k0_pay4 prod
  pointwise [dot_S512x1024_S512x1024_S512x512_1_1_0_0_n_n]

/-- What point `t`'s stores leave of the output, piece by piece. -/
theorem tile3 (c : Dev nD) (t : Fin cfg0.N) (y : S512x5632.Idx) :
    (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) : Vec Ideal S512x5632 .bf16) y = grad (m ((c : Thread nD τ).loc main_arg0)) (m ((c : Thread nD τ).loc main_arg1)) (m ((c : Thread nD τ).loc main_arg2)) (m ((c : Thread nD τ).loc main_arg3)) (ix2 (row t (y 0)) (y 1)) := by
  unfold out0_A_3
  rw [View.read_writes_eq_canon _ _ _ (cover0_A_3 c (grid0.coords t) (ms0_0 t) (hs0_0 t) (ms0_1 t) (hs0_1 t) (ms0_2 t) (hs0_2 t) (ms0_3 t) (hs0_3 t) (iblk m c 0 t) (iblk m c 1 t) (iblk m c 2 t))]
  have hp : View.PiecesOf (fun y : S512x5632.Idx => grad (m ((c : Thread nD τ).loc main_arg0)) (m ((c : Thread nD τ).loc main_arg1)) (m ((c : Thread nD τ).loc main_arg2)) (m ((c : Thread nD τ).loc main_arg3)) (ix2 (row t (y 0)) (y 1))) (kernelRun0_A (F := Ideal) c (grid0.coords t) (ms0_0 t) (hs0_0 t) (ms0_1 t) (hs0_1 t) (ms0_2 t) (hs0_2 t) (ms0_3 t) (hs0_3 t) (iblk m c 0 t) (iblk m c 1 t) (iblk m c 2 t)).1 := ?_
  · exact View.canon_apply_of_pieces (fun y : S512x5632.Idx => grad (m ((c : Thread nD τ).loc main_arg0)) (m ((c : Thread nD τ).loc main_arg1)) (m ((c : Thread nD τ).loc main_arg2)) (m ((c : Thread nD τ).loc main_arg3)) (ix2 (row t (y 0)) (y 1))) _ (View.PiecesOf.mem hp) y (cover0_A_3 c (grid0.coords t) (ms0_0 t) (hs0_0 t) (ms0_1 t) (hs0_1 t) (ms0_2 t) (hs0_2 t) (ms0_3 t) (hs0_3 t) (iblk m c 0 t) (iblk m c 1 t) (iblk m c 2 t) y)
  unfold kernelRun0_A
  refine ⟨fun (x : S512x512.Idx) => ?_, fun (x : S512x512.Idx) => ?_, fun (x : S512x768.Idx) => ?_, fun (x : S512x768.Idx) => ?_, fun (x : S512x768.Idx) => ?_, fun (x : S512x768.Idx) => ?_, fun (x : S512x768.Idx) => ?_, fun (x : S512x768.Idx) => ?_, trivial⟩
  · exact (pay6_apply _ _ _ x).trans ((congrArg₂ (fun a b : EReal => a * b)
        (prod_at m c t (o := 2304) (n := 512) inb_S2816x1024_S512x1024_2304_0 (x 0) (x 1) (by have l : (x 1).val < 512 := (x 1).isLt; omega))
        (saved_at m c t (o := 5120) (n := 512) inb_S512x5632_S512x512_0_5120 x (by have l : (x 1).val < 512 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 512 := (x 1).isLt; show 2304 + (x 1).val = (5120 + 1 * (x 1).val) % 2816; omega)
        (by show t.val * 512 + (x 0).val = t.val * 512 + (0 + 1 * (x 0).val); omega) (by show 5120 + (x 1).val = 5120 + 1 * (x 1).val; omega)))
  · exact (pay5_apply _ _ _ x).trans ((congrArg₂ (fun a b : EReal => a * b)
        (prod_at m c t (o := 2304) (n := 512) inb_S2816x1024_S512x1024_2304_0 (x 0) (x 1) (by have l : (x 1).val < 512 := (x 1).isLt; omega))
        (saved_at m c t (o := 2304) (n := 512) inb_S512x5632_S512x512_0_2304 x (by have l : (x 1).val < 512 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 512 := (x 1).isLt; show 2304 + (x 1).val = (2304 + 1 * (x 1).val) % 2816; omega)
        (by show t.val * 512 + (x 0).val = t.val * 512 + (0 + 1 * (x 0).val); omega) (by show 2304 + (x 1).val = 2304 + 1 * (x 1).val; omega)))
  · exact (pay3_apply _ _ _ x).trans ((congrArg₂ (fun a b : EReal => a * b)
        (prod_at m c t (o := 1536) (n := 768) inb_S2816x1024_S768x1024_1536_0 (x 0) (x 1) (by have l : (x 1).val < 768 := (x 1).isLt; omega))
        (saved_at m c t (o := 4352) (n := 768) inb_S512x5632_S512x768_0_4352 x (by have l : (x 1).val < 768 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 768 := (x 1).isLt; show 1536 + (x 1).val = (4352 + 1 * (x 1).val) % 2816; omega)
        (by show t.val * 512 + (x 0).val = t.val * 512 + (0 + 1 * (x 0).val); omega) (by show 4352 + (x 1).val = 4352 + 1 * (x 1).val; omega)))
  · exact (pay2_apply _ _ _ x).trans ((congrArg₂ (fun a b : EReal => a * b)
        (prod_at m c t (o := 1536) (n := 768) inb_S2816x1024_S768x1024_1536_0 (x 0) (x 1) (by have l : (x 1).val < 768 := (x 1).isLt; omega))
        (saved_at m c t (o := 1536) (n := 768) inb_S512x5632_S512x768_0_1536 x (by have l : (x 1).val < 768 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 768 := (x 1).isLt; show 1536 + (x 1).val = (1536 + 1 * (x 1).val) % 2816; omega)
        (by show t.val * 512 + (x 0).val = t.val * 512 + (0 + 1 * (x 0).val); omega) (by show 1536 + (x 1).val = 1536 + 1 * (x 1).val; omega)))
  · exact (pay12_apply _ _ _ x).trans ((congrArg₂ (fun a b : EReal => a * b)
        (prod_at m c t (o := 768) (n := 768) inb_S2816x1024_S768x1024_768_0 (x 0) (x 1) (by have l : (x 1).val < 768 := (x 1).isLt; omega))
        (saved_at m c t (o := 3584) (n := 768) inb_S512x5632_S512x768_0_3584 x (by have l : (x 1).val < 768 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 768 := (x 1).isLt; show 768 + (x 1).val = (3584 + 1 * (x 1).val) % 2816; omega)
        (by show t.val * 512 + (x 0).val = t.val * 512 + (0 + 1 * (x 0).val); omega) (by show 3584 + (x 1).val = 3584 + 1 * (x 1).val; omega)))
  · exact (pay11_apply _ _ _ x).trans ((congrArg₂ (fun a b : EReal => a * b)
        (prod_at m c t (o := 768) (n := 768) inb_S2816x1024_S768x1024_768_0 (x 0) (x 1) (by have l : (x 1).val < 768 := (x 1).isLt; omega))
        (saved_at m c t (o := 768) (n := 768) inb_S512x5632_S512x768_0_768 x (by have l : (x 1).val < 768 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 768 := (x 1).isLt; show 768 + (x 1).val = (768 + 1 * (x 1).val) % 2816; omega)
        (by show t.val * 512 + (x 0).val = t.val * 512 + (0 + 1 * (x 0).val); omega) (by show 768 + (x 1).val = 768 + 1 * (x 1).val; omega)))
  · exact (pay9_apply _ _ _ x).trans ((congrArg₂ (fun a b : EReal => a * b)
        (prod_at m c t (o := 0) (n := 768) inb_S2816x1024_S768x1024_0_0 (x 0) (x 1) (by have l : (x 1).val < 768 := (x 1).isLt; omega))
        (saved_at m c t (o := 2816) (n := 768) inb_S512x5632_S512x768_0_2816 x (by have l : (x 1).val < 768 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 768 := (x 1).isLt; show 0 + (x 1).val = (2816 + 1 * (x 1).val) % 2816; omega)
        (by show t.val * 512 + (x 0).val = t.val * 512 + (0 + 1 * (x 0).val); omega) (by show 2816 + (x 1).val = 2816 + 1 * (x 1).val; omega)))
  · exact (pay8_apply _ _ _ x).trans ((congrArg₂ (fun a b : EReal => a * b)
        (prod_at m c t (o := 0) (n := 768) inb_S2816x1024_S768x1024_0_0 (x 0) (x 1) (by have l : (x 1).val < 768 := (x 1).isLt; omega))
        (saved_at m c t (o := 0) (n := 768) inb_S512x5632_S512x768_0_0 x (by have l : (x 1).val < 768 := (x 1).isLt; omega))).trans
      (grad_at (m ((c : Thread nD τ).loc main_arg0)) (m ((c : Thread nD τ).loc main_arg1)) (m ((c : Thread nD τ).loc main_arg2)) (m ((c : Thread nD τ).loc main_arg3)) _ _ _ _ (by show t.val * 512 + (x 0).val = t.val * 512 + (0 + 1 * (x 0).val); omega)
        (by have l : (x 1).val < 768 := (x 1).isLt; show 0 + (x 1).val = (0 + 1 * (x 1).val) % 2816; omega)
        (by show t.val * 512 + (x 0).val = t.val * 512 + (0 + 1 * (x 0).val); omega) (by show 0 + (x 1).val = 0 + 1 * (x 1).val; omega)))

/-- The array after the run. -/
theorem final3 (c : Dev nD) : (dats m 0 c).arrAt 3 cfg0.N = grad (m ((c : Thread nD τ).loc main_arg0)) (m ((c : Thread nD τ).loc main_arg1)) (m ((c : Thread nD τ).loc main_arg2)) (m ((c : Thread nD τ).loc main_arg3)) := by
  refine (dats m 0 c).arrAt_eq_of_cover 3 _ (fun t _ => ?_) cover3
  rw [Value.flushed3]
  funext j
  show (out0_A_3 (F := Ideal) c (grid0.coords t) (ms0_0 t) (hs0_0 t) (ms0_1 t) (hs0_1 t) (ms0_2 t) (hs0_2 t) (ms0_3 t) (hs0_3 t) (iblk m c 0 t) (iblk m c 1 t) (iblk m c 2 t) : Vec Ideal S512x5632 .bf16) j = grad (m ((c : Thread nD τ).loc main_arg0)) (m ((c : Thread nD τ).loc main_arg1)) (m ((c : Thread nD τ).loc main_arg2)) (m ((c : Thread nD τ).loc main_arg3)) (((cfg0.win 3).blk t).view.emb j)
  rw [emb3, tile3]
  rfl

section Reference

variable (x0 : Vec Ideal S4096x1024 .bf16) (x1 x2 : Vec Ideal S4096x2816 .f32) (x3 : Vec Ideal S2816x1024 .f32)

/-- The reference's projected cotangent. -/
theorem ref_dact (i : S4096x2816.Idx) : Cert.DownRefIdeal.Read.val_main_v4 (F := Ideal) x0 x3 i = dact x0 x3 (i 0) (i 1) := by
  open Cert.DownRefIdeal.Read in
  rw [val_main_v4_apply]
  unfold dact
  refine Finset.sum_congr rfl fun k _ => ?_
  exact congrArg₂ (fun a b : EReal => a * b) (congrArg x0 (Shape.idx_ext₂ rfl rfl)) (congrArg x3 (Shape.idx_ext₂ rfl rfl))

/-- The reference's logistic function. -/
theorem ref_sig (i : S4096x2816.Idx) : Cert.DownRefIdeal.Read.val_main_v0_2 (F := Ideal) x1 i = Ideal.logistic (x1 i) := logistic_eq _

/-- The reference's gradient by the gate. -/
theorem ref_gate (h0 : ∀ i, IsReal (x0 i)) (h2 : ∀ i, IsReal (x2 i)) (h3 : ∀ i, IsReal (x3 i)) (i : S4096x2816.Idx) :
    Cert.DownRefIdeal.Read.val_main_v7 (F := Ideal) x0 x1 x2 x3 i = dact x0 x3 (i 0) (i 1) * byGate (x1 i) (x2 i) := by
  show (Cert.DownRefIdeal.Read.val_main_v4 (F := Ideal) x0 x3 i * x2 i * Cert.DownRefIdeal.Read.val_main_v0_2 (F := Ideal) x1 i : EReal)
    + (x1 i * (Cert.DownRefIdeal.Read.val_main_v4 (F := Ideal) x0 x3 i * x2 i))
      * (Cert.DownRefIdeal.Read.val_main_v0_2 (F := Ideal) x1 i * (Ideal.ofBits .f32 0x3F800000#32 - Cert.DownRefIdeal.Read.val_main_v0_2 (F := Ideal) x1 i)) = _
  rw [ref_sig, ref_dact]
  obtain ⟨d, hd⟩ : IsReal (dact x0 x3 (i 0) (i 1)) := isReal_sum _ _ fun k => (h0 _).mul (h3 _)
  obtain ⟨u, hu⟩ := h2 i
  rw [hd, hu, byGate, one, bits_one_coe]
  generalize x1 i = g
  induction g using EReal.rec with
  | bot => rw [Ideal.logistic_bot, zero_mul, mul_zero, mul_zero, mul_zero, mul_zero, add_zero, mul_zero]
  | top =>
    have z' : ((1 : ℝ) : EReal) - (1 : EReal) = 0 := by rw [← EReal.coe_one, ← EReal.coe_sub, sub_self, EReal.coe_zero]
    rw [Ideal.logistic_top, z', mul_zero, mul_zero, mul_zero, add_zero, add_zero, mul_one, mul_one, EReal.coe_one, one_mul]
  | coe g =>
    rw [Ideal.logistic_coe]
    simp only [← EReal.coe_mul, ← EReal.coe_add, ← EReal.coe_sub]
    congr 1
    ring

/-- The reference's gradient by the other factor. -/
theorem ref_up (i : S4096x2816.Idx) :
    Cert.DownRefIdeal.Read.val_main_v5 (F := Ideal) x0 x1 x3 i = dact x0 x3 (i 0) (i 1) * byUp (x1 i) := by
  show (x1 i * Cert.DownRefIdeal.Read.val_main_v0_2 (F := Ideal) x1 i * Cert.DownRefIdeal.Read.val_main_v4 (F := Ideal) x0 x3 i : EReal) = _
  rw [ref_sig, ref_dact, byUp, one, bits_one, mul_one]
  exact mul_comm _ _

/-- The reference's gradient. -/
theorem ref_grad (h0 : ∀ i, IsReal (x0 i)) (h2 : ∀ i, IsReal (x2 i)) (h3 : ∀ i, IsReal (x3 i)) :
    Cert.DownRefIdeal.Read.val_main_v9 (F := Ideal) x0 x1 x2 x3 = grad x0 x1 x2 x3 := by
  funext i
  have l1 : (i 1).val < 5632 := (i 1).isLt
  have e : Cert.DownRefIdeal.Read.val_main_v8 (F := Ideal) x0 x1 x2 x3 i
      = if h : (i 1).val < 2816 then Cert.DownRefIdeal.Read.val_main_v7 (F := Ideal) x0 x1 x2 x3 (ix2 (i 0) (⟨(i 1).val, h⟩ : Fin 2816))
        else Cert.DownRefIdeal.Read.val_main_v5 (F := Ideal) x0 x1 x3 (ix2 (i 0) (⟨(i 1).val - 2816, by omega⟩ : Fin 2816)) := by
    unfold Cert.DownRefIdeal.Read.val_main_v8
    pointwise
  show Cert.DownRefIdeal.Read.val_main_v8 (F := Ideal) x0 x1 x2 x3 i = _
  rw [e]
  unfold grad saved
  split
  · rename_i h
    rw [ref_gate x0 x1 x2 x3 h0 h2 h3]
    exact congrArg (fun q => dact x0 x3 (i 0) q * _) (Fin.ext (by show (i 1).val = (i 1).val % 2816; omega))
  · rename_i h
    rw [ref_up]
    exact congrArg (fun q => dact x0 x3 (i 0) q * _) (Fin.ext (by show (i 1).val - 2816 = (i 1).val % 2816; omega))

end Reference

/-- The shape relations of the precondition's operations. -/
theorem pre_facts : Cert.Pre_finite_down.Facts := by
  constructor <;> decide

/-- What the precondition says: every entry of the arguments it is about is a real number. -/
theorem real_args [hPre : Cert.Pre_finite_down.Facts] (h : Cert.Pre_DownIdeal_finite_down m) (c : Dev nD) :
    (∀ i, IsReal (m ((c : Thread nD τ).loc main_arg0) i)) ∧ (∀ i, IsReal (m ((c : Thread nD τ).loc main_arg2) i)) ∧ (∀ i, IsReal (m ((c : Thread nD τ).loc main_arg3) i)) := by
  have e := congrFun (h c) (fun a => a.elim0)
  obtain ⟨e2', e2⟩ := IntOp.andi_eq_one.1 e
  obtain ⟨e1', e1⟩ := IntOp.andi_eq_one.1 e2'
  have e0 := e1'
  exact ⟨fun i => isReal_of_cmp (Host.reduce_andi_all _ _ _ _ _ e0 i), fun i => isReal_of_cmp (Host.reduce_andi_all _ _ _ _ _ e1 i), fun i => isReal_of_cmp (Host.reduce_andi_all _ _ _ _ _ e2 i)⟩

/-- The kernel's body table is the ideal kernel's, whose text is the same. -/
theorem defs₀_eq {F : FTy → Type} [FloatOps F] : Cert.Down.defs₀ (F := F) = Cert.DownIdeal.defs₀ (F := F) :=
  congrArg Defs.onTc (funext fun l => funext fun a => by
    match l, a with
    | 0, (t, s) => rfl)

/-- With the pipeline's labels, too. -/
theorem defs_eq {F : FTy → Type} [FloatOps F] : Cert.Down.defs (F := F) = Cert.DownIdeal.defs (F := F) :=
  congrArg (fun d => Pipeline.defs Cert.Down.pcfgs d) defs₀_eq

/-- The kernel's frame. -/
theorem frame_P : Cert.quiescent_Down := fun m ρ _ => by
  rw [defs_eq]
  exact Cert.DownIdeal.Gen.frame (F := Bits) m ρ

/-- The ideal kernel's frame. -/
theorem frame_PI : Cert.quiescent_DownIdeal := fun m ρ _ => Cert.DownIdeal.Gen.frame (F := Ideal) m ρ

/-- The reference's frame. -/
theorem frame_RI : Cert.quiescent_DownRefIdeal := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

/-- The ideal kernel's frame from the arguments the value claim is about. -/
theorem frame_PI_pre [hPre : Cert.Pre_finite_down.Facts] : Cert.quiescent_DownIdeal_pre_finite_down := fun m ρ _ => Cert.DownIdeal.Gen.frame (F := Ideal) m ρ

/-- The reference's frame from the arguments the value claim is about. -/
theorem frame_RI_pre [hPre : Cert.Pre_finite_down.Facts] : Cert.quiescent_DownRefIdeal_pre_finite_down := fun m ρ _ =>
  (θ_run Cert.DownRefIdeal.defs _ _).mono (fun r h => ⟨fun c => (h c).2,
      Idealize.ShloMosaic.sem_eq_zero_of_no_sems (by decide) r.2⟩)
    (Cert.DownRefIdeal.Value.run (F := Ideal) m ρ)

/-- Kernel and reference agree at every index. -/
theorem algebraic [hPre : Cert.Pre_finite_down.Facts] : Cert.algebraic_DownIdeal_DownRefIdeal_pre_finite_down := by
  intro m g m' g' hp hargs
  refine ⟨fun c => grad (m ((c : Thread nD τ).loc main_arg0)) (m ((c : Thread nD τ).loc main_arg1)) (m ((c : Thread nD τ).loc main_arg2)) (m ((c : Thread nD τ).loc main_arg3)), ?_, ?_⟩
  · exact (θ_run _ _ _).mono (fun r h c => ⟨(h c).1.trans (final3 m c), (h c).2⟩)
      (Value.run_blocks (F := Ideal) m g)
  · refine (θ_run _ _ _).mono (fun r h c => ⟨?_, (h c).2⟩) (Cert.DownRefIdeal.Value.run (F := Ideal) m' g')
    obtain ⟨a0, a1, a2, a3⟩ := hargs c
    refine (h c).1.trans ((Cert.DownRefIdeal.Read.val_main_v9_eq _ _ _ _).trans ?_)
    rw [a0, a1, a2, a3]
    obtain ⟨r0, r2, r3⟩ := real_args m hp c
    exact ref_grad _ _ _ _ r0 r2 r3

end Cert.Proof.Down

end
-- ==== Proof.BwdUp.lean ====
/-
  `BwdUp`: the gradient of the up projection, of the normalisation before it and of the output projection before that
  (the call `ffn_bwd_up`).
-/
module

public import proofs.«01_k».proof.Defs
public import proofs.«01_k».proof.Proof.Gen.BwdUp
public import proofs.«01_k».proof.Proof.Gen.BwdUpIdeal
public import proofs.«01_k».proof.Proof.Gen.BwdUpIdeal.Value
public import proofs.«01_k».proof.Proof.Gen.BwdUpRefIdeal
public import proofs.«01_k».proof.Proof.Gen.BwdUpRefIdeal.Run
public import proofs.«01_k».proof.Proof.Gen.BwdUpRefIdeal.Read
public import proofs.«01_k».proof.Proof.Reals
public import Idealize.ShloMosaic.Lib.Pointwise
public import proofs.«01_k».proof.Proof.NormBack
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.BwdUp

open Idealize.ShloMosaic Idealize.ShloMosaic.TcCoe Idealize.SL.Sem
open Cert.BwdUpIdeal Cert.BwdUpIdeal.Gen
open Idealize.ShloMosaic.Pipeline (Dat Cfg Window)

variable (m : (ℓ : Loc nD τ sig) → Buf (Elt Ideal) ℓ)

/-- One product of the projection's gradient. -/
def prod (a : Vec Ideal S4096x5632 .bf16) (w : Vec Ideal S1024x5632 .f32) (p : Fin 4096) (q : Fin 1024) (k : Fin 5632) : EReal :=
  a (ix2 p k) * w (ix2 q k)

/-- The gradient of the normalised row at an index: the cotangent through the projection. -/
def dh (a : Vec Ideal S4096x5632 .bf16) (w : Vec Ideal S1024x5632 .f32) (p : Fin 4096) (q : Fin 1024) : EReal :=
  ∑ k : Fin 5632, prod a w p q k

/-- The gradient of the row before the normalisation, with the residual's. -/
def grad (a : Vec Ideal S4096x5632 .bf16) (x d : Vec Ideal S4096x1024 .f32) (g : Vec Ideal S1x1024 .f32) (w : Vec Ideal S1024x5632 .f32) :
    Vec Ideal S4096x1024 .f32 := fun i =>
  normBack (fun k => x (ix2 (i 0) k)) (fun k => dh a w (i 0) k) (fun k => g (ix2 0 k)) (fun k => d (ix2 (i 0) k)) (i 1)

/-- A row's part of the gradient of the normalisation's scale. -/
def term (a : Vec Ideal S4096x5632 .bf16) (x : Vec Ideal S4096x1024 .f32) (w : Vec Ideal S1024x5632 .f32) (q : Fin 1024) (p : Fin 4096) : EReal :=
  dh a w p q * (x (ix2 p q) * rms fun k => x (ix2 p k))

/-- The sum of the first rows' parts, in the first of eight rows; the others are zero. -/
def acc (a : Vec Ideal S4096x5632 .bf16) (x : Vec Ideal S4096x1024 .f32) (w : Vec Ideal S1024x5632 .f32) (n : ℕ) : Vec Ideal S8x1024 .f32 := fun i =>
  if (i 0).val = 0 then upTo (term a x w (i 1)) n else 0

/-- The gradient through the output projection. -/
def outer (a : Vec Ideal S4096x5632 .bf16) (x d : Vec Ideal S4096x1024 .f32) (g : Vec Ideal S1x1024 .f32) (w : Vec Ideal S1024x5632 .f32)
    (o : Vec Ideal S1024x1024 .f32) : Vec Ideal S4096x1024 .bf16 := fun i =>
  ∑ k : Fin 1024, (grad a x d g w (ix2 (i 0) k) * o (ix2 (i 1) k) : EReal)

/-- The weights transposed, half of their columns: what the two weight windows' arrays hold. -/
def half (o : Nat) (ho : o + 512 ≤ 1024) (w : Vec Ideal S1024x5632 .f32) : Vec Ideal S5632x512 .bf16 := fun i =>
  w (ix2 (⟨o + (i 1).val, by have l : (i 1).val < 512 := (i 1).isLt; omega⟩ : Fin 1024) (i 0))

/-- What the region finds in this weight window's array. -/
theorem V_v2 (c : Dev nD) : (V m c main_v2 : Vec Ideal S5632x512 .bf16) = half 0 (by omega) (m ((c : Thread nD τ).loc main_arg3)) := by
  unfold V
  after_results_simp
  funext i
  refine (extractStridedSlice_apply ![0, 0] _ slices_S5632x1024_S5632x512_0_0 i (ix2 (i 0) (⟨0 + (i 1).val, by have l : (i 1).val < 512 := (i 1).isLt; omega⟩ : Fin 1024)) (fun a => ?_)).trans ?_
  · match a with
    | ⟨0, _⟩ => exact (Nat.zero_add _).symm
    | ⟨1, _⟩ => rfl
  · exact ValueIdx.transpose_ix2_apply _ _ _ _

/-- What the region finds in this weight window's array. -/
theorem V_v3 (c : Dev nD) : (V m c main_v3 : Vec Ideal S5632x512 .bf16) = half 512 (by omega) (m ((c : Thread nD τ).loc main_arg3)) := by
  unfold V
  after_results_simp
  funext i
  refine (extractStridedSlice_apply ![0, 512] _ slices_S5632x1024_S5632x512_0_512 i (ix2 (i 0) (⟨512 + (i 1).val, by have l : (i 1).val < 512 := (i 1).isLt; omega⟩ : Fin 1024)) (fun a => ?_)).trans ?_
  · match a with
    | ⟨0, _⟩ => exact (Nat.zero_add _).symm
    | ⟨1, _⟩ => rfl
  · exact ValueIdx.transpose_ix2_apply _ _ _ _

/-- The output projection, rounded: over the extended reals itself. -/
def wo (o : Vec Ideal S1024x1024 .f32) : Vec Ideal S1024x1024 .bf16 := fun i => o i

/-- What the region finds in the output projection's array. -/
theorem V_v4 (c : Dev nD) : (V m c main_v4 : Vec Ideal S1024x1024 .bf16) = wo (m ((c : Thread nD τ).loc main_arg5)) := by
  unfold V
  after_results_simp
  rfl

/-- A tile's reciprocal roots. -/
theorem pay_r (x : Vec Ideal S512x1024 .f32) (p : Fin 512) (q : Fin 1) : k0_pay7 (F := Ideal) x (ix2 p q) = rms fun k => x (ix2 p k) := by
  unfold k0_pay7 rms meanSq
  pointwise

/-- A tile's normalised rows. -/
theorem pay_xh (x : Vec Ideal S512x1024 .f32) (p : Fin 512) (q : Fin 1024) :
    k0_pay8 (F := Ideal) x (ix2 p q) = x (ix2 p q) * rms fun k => x (ix2 p k) := by
  rw [← pay_r x p 0]
  unfold k0_pay8
  generalize k0_pay7 (F := Ideal) x = r
  pointwise

/-- The accumulator's row. -/
theorem pay_acc (x : Vec Ideal S1x1024 .f32) (j : S1x1024.Idx) : k0_pay9 (F := Ideal) x j = x j := by
  unfold k0_pay9
  pointwise

/-- The zeros the accumulator starts from. -/
theorem pay_zero (j : S8x1024.Idx) : k0_pay5 (F := Ideal) j = 0 := bits_zero

/-- A tile's gradient of the row before the normalisation. -/
theorem pay_grad (a x : Vec Ideal S512x1024 .f32) (g : Vec Ideal S1x1024 .f32) (d : Vec Ideal S512x1024 .f32) (p : Fin 512) (q : Fin 1024) :
    k0_pay2 (F := Ideal) a (k0_pay7 (F := Ideal) x) (k0_pay8 (F := Ideal) x) d g (ix2 p q)
      = normBack (fun k => x (ix2 p k)) (fun k => a (ix2 p k)) (fun k => g (ix2 0 k)) (fun k => d (ix2 p k)) q := by
  have e : k0_pay2 (F := Ideal) a (k0_pay7 (F := Ideal) x) (k0_pay8 (F := Ideal) x) d g (ix2 p q)
      = (d (ix2 p q) : EReal) + k0_pay7 (F := Ideal) x (ix2 p 0) * (a (ix2 p q) * g (ix2 0 q) - k0_pay8 (F := Ideal) x (ix2 p q)
          * Ideal.div (∑ k : Fin 1024, (a (ix2 p k) * g (ix2 0 k) * k0_pay8 (F := Ideal) x (ix2 p k) : EReal)) (Ideal.ofBits .f32 0x44800000#32)) := by
    generalize k0_pay7 (F := Ideal) x = r
    generalize k0_pay8 (F := Ideal) x = y
    unfold k0_pay2
    pointwise
  rw [e, pay_r]
  simp only [pay_xh]
  rfl

/-- A tile's product, half of the columns from each weight window, each in two pieces of the contraction. -/
theorem pay_dh (a1 a2 : Vec Ideal S512x2816 .bf16) (b1 b2 b3 b4 : Vec Ideal S2816x512 .bf16) (p : Fin 512) (q : Fin 1024) :
    k0_pay6 (F := Ideal) a1 a2 b1 b2 b3 b4 (ix2 p q)
      = if h : q.val < 512 then (∑ k : Fin 2816, (a1 (ix2 p k) * b1 (ix2 k (⟨q.val, h⟩ : Fin 512)) : EReal)) + ∑ k : Fin 2816, (a2 (ix2 p k) * b2 (ix2 k (⟨q.val, h⟩ : Fin 512)) : EReal)
        else (∑ k : Fin 2816, (a1 (ix2 p k) * b3 (ix2 k (⟨q.val - 512, by omega⟩ : Fin 512)) : EReal)) + ∑ k : Fin 2816, (a2 (ix2 p k) * b4 (ix2 k (⟨q.val - 512, by omega⟩ : Fin 512)) : EReal) := by
  unfold k0_pay6
  pointwise [dot_S512x2816_S2816x512_S512x512_1_0_0_1_n_n]

/-- The accumulator's row with a tile's part of the gradient of the scale. -/
theorem pay_row (u x : Vec Ideal S512x1024 .f32) (v : Vec Ideal S1x1024 .f32) (o : Fin 1) (q : Fin 1024) :
    k0_pay1 (F := Ideal) u (k0_pay8 (F := Ideal) x) v (ix2 o q)
      = (v (ix2 o q) + ∑ p : Fin 512, (u (ix2 p q) * (x (ix2 p q) * rms fun k => x (ix2 p k)) : EReal) : EReal) := by
  refine Eq.trans ?_ (congrArg (fun z : EReal => v (ix2 o q) + z) (Finset.sum_congr rfl fun p _ => congrArg (fun z : EReal => u (ix2 p q) * z) (pay_xh x p q)))
  unfold k0_pay1
  generalize k0_pay8 (F := Ideal) x = y
  pointwise

/-- A tile's gradient through the output projection. -/
theorem pay_outer (u : Vec Ideal S512x1024 .f32) (r : Vec Ideal S512x1 .f32) (y d : Vec Ideal S512x1024 .f32) (g : Vec Ideal S1x1024 .f32)
    (w : Vec Ideal S1024x1024 .bf16) (p : Fin 512) (q : Fin 1024) :
    k0_pay4 (F := Ideal) u r y d g w (ix2 p q) = ∑ k : Fin 1024, (k0_pay2 (F := Ideal) u r y d g (ix2 p k) * w (ix2 q k) : EReal) := by
  unfold k0_pay4 k0_pay3
  generalize k0_pay2 (F := Ideal) u r y d g = z
  pointwise [dot_S512x1024_S1024x1024_S512x1024_1_1_0_0_n_n]

/-- The array row that row `p` of point `t`'s block is. -/
abbrev row (t : Fin cfg0.N) (p : Fin 512) : Fin 4096 := ⟨t.val * 512 + p.val, by
  have h : t.val < 8 := t.isLt
  omega⟩

/-- Where window 0's block lies. -/
theorem idx0 : ∀ t : Fin cfg0.N, win0_0.index t (0 : Fin 2) = t.val ∧ win0_0.index t (1 : Fin 2) = 0 :=
  (by decide +kernel : ∀ t : Fin grid0.N, _)

/-- What window 0's block holds at point `t`. -/
theorem block0 (c : Dev nD) (t : Fin cfg0.N) (j : S512x5632.Idx) :
    (iblk m c 0 t : Vec Ideal S512x5632 .bf16) j = (m ((c : Thread nD τ).loc main_arg0)) (ix2 (row t (j 0)) (j 1)) := by
  have e : ((cfg0.win 0).blk t).view.emb j = (ix2 (row t (j 0)) (j 1)) := by
    refine Shape.idx_ext₂ ?_ ?_
    · refine (Window.rect_emb_val win0_0 t j (0 : Fin 2)).trans ?_
      rw [(idx0 t).1]; rfl
    · refine (Window.rect_emb_val win0_0 t j (1 : Fin 2)).trans ?_
      rw [(idx0 t).2]; rw [Nat.zero_mul, Nat.zero_add]; rfl
  exact (congrFun (V_main_arg0 m c) _).trans (congrArg ((m ((c : Thread nD τ).loc main_arg0))) e)

/-- Where window 1's block lies. -/
theorem idx1 : ∀ t : Fin cfg0.N, win0_1.index t (0 : Fin 2) = t.val ∧ win0_1.index t (1 : Fin 2) = 0 :=
  (by decide +kernel : ∀ t : Fin grid0.N, _)

/-- What window 1's block holds at point `t`. -/
theorem block1 (c : Dev nD) (t : Fin cfg0.N) (j : S512x1024.Idx) :
    (iblk m c 1 t : Vec Ideal S512x1024 .f32) j = (m ((c : Thread nD τ).loc main_arg1)) (ix2 (row t (j 0)) (j 1)) := by
  have e : ((cfg0.win 1).blk t).view.emb j = (ix2 (row t (j 0)) (j 1)) := by
    refine Shape.idx_ext₂ ?_ ?_
    · refine (Window.rect_emb_val win0_1 t j (0 : Fin 2)).trans ?_
      rw [(idx1 t).1]; rfl
    · refine (Window.rect_emb_val win0_1 t j (1 : Fin 2)).trans ?_
      rw [(idx1 t).2]; rw [Nat.zero_mul, Nat.zero_add]; rfl
  exact (congrFun (V_main_arg1 m c) _).trans (congrArg ((m ((c : Thread nD τ).loc main_arg1))) e)

/-- Where window 2's block lies. -/
theorem idx2 : ∀ t : Fin cfg0.N, win0_2.index t (0 : Fin 2) = t.val ∧ win0_2.index t (1 : Fin 2) = 0 :=
  (by decide +kernel : ∀ t : Fin grid0.N, _)

/-- What window 2's block holds at point `t`. -/
theorem block2 (c : Dev nD) (t : Fin cfg0.N) (j : S512x1024.Idx) :
    (iblk m c 2 t : Vec Ideal S512x1024 .f32) j = (m ((c : Thread nD τ).loc main_arg2)) (ix2 (row t (j 0)) (j 1)) := by
  have e : ((cfg0.win 2).blk t).view.emb j = (ix2 (row t (j 0)) (j 1)) := by
    refine Shape.idx_ext₂ ?_ ?_
    · refine (Window.rect_emb_val win0_2 t j (0 : Fin 2)).trans ?_
      rw [(idx2 t).1]; rfl
    · refine (Window.rect_emb_val win0_2 t j (1 : Fin 2)).trans ?_
      rw [(idx2 t).2]; rw [Nat.zero_mul, Nat.zero_add]; rfl
  exact (congrFun (V_main_arg2 m c) _).trans (congrArg ((m ((c : Thread nD τ).loc main_arg2))) e)

/-- Where window 3's block lies. -/
theorem idx3 : ∀ t : Fin cfg0.N, win0_3.index t (0 : Fin 2) = 0 ∧ win0_3.index t (1 : Fin 2) = 0 :=
  (by decide +kernel : ∀ t : Fin grid0.N, _)

/-- What window 3's block holds at point `t`. -/
theorem block3 (c : Dev nD) (t : Fin cfg0.N) (j : S5632x512.Idx) :
    (iblk m c 3 t : Vec Ideal S5632x512 .bf16) j = (half 0 (by omega) (m ((c : Thread nD τ).loc main_arg3))) j := by
  have e : ((cfg0.win 3).blk t).view.emb j = j := by
    refine Shape.idx_ext₂ ?_ ?_
    · refine (Window.rect_emb_val win0_3 t j (0 : Fin 2)).trans ?_
      rw [(idx3 t).1]
      rw [Nat.zero_mul, Nat.zero_add]
    · refine (Window.rect_emb_val win0_3 t j (1 : Fin 2)).trans ?_
      rw [(idx3 t).2]; rw [Nat.zero_mul, Nat.zero_add]
  exact (congrFun (V_v2 m c) _).trans (congrArg ((half 0 (by omega) (m ((c : Thread nD τ).loc main_arg3)))) e)

/-- Where window 4's block lies. -/
theorem idx4 : ∀ t : Fin cfg0.N, win0_4.index t (0 : Fin 2) = 0 ∧ win0_4.index t (1 : Fin 2) = 0 :=
  (by decide +kernel : ∀ t : Fin grid0.N, _)

/-- What window 4's block holds at point `t`. -/
theorem block4 (c : Dev nD) (t : Fin cfg0.N) (j : S5632x512.Idx) :
    (iblk m c 4 t : Vec Ideal S5632x512 .bf16) j = (half 512 (by omega) (m ((c : Thread nD τ).loc main_arg3))) j := by
  have e : ((cfg0.win 4).blk t).view.emb j = j := by
    refine Shape.idx_ext₂ ?_ ?_
    · refine (Window.rect_emb_val win0_4 t j (0 : Fin 2)).trans ?_
      rw [(idx4 t).1]
      rw [Nat.zero_mul, Nat.zero_add]
    · refine (Window.rect_emb_val win0_4 t j (1 : Fin 2)).trans ?_
      rw [(idx4 t).2]; rw [Nat.zero_mul, Nat.zero_add]
  exact (congrFun (V_v3 m c) _).trans (congrArg ((half 512 (by omega) (m ((c : Thread nD τ).loc main_arg3)))) e)

/-- Where window 5's block lies. -/
theorem idx5 : ∀ t : Fin cfg0.N, win0_5.index t (0 : Fin 2) = 0 ∧ win0_5.index t (1 : Fin 2) = 0 :=
  (by decide +kernel : ∀ t : Fin grid0.N, _)

/-- What window 5's block holds at point `t`. -/
theorem block5 (c : Dev nD) (t : Fin cfg0.N) (j : S1x1024.Idx) :
    (iblk m c 5 t : Vec Ideal S1x1024 .f32) j = (m ((c : Thread nD τ).loc main_arg4)) j := by
  have e : ((cfg0.win 5).blk t).view.emb j = j := by
    refine Shape.idx_ext₂ ?_ ?_
    · refine (Window.rect_emb_val win0_5 t j (0 : Fin 2)).trans ?_
      rw [(idx5 t).1]
      rw [Nat.zero_mul, Nat.zero_add]
    · refine (Window.rect_emb_val win0_5 t j (1 : Fin 2)).trans ?_
      rw [(idx5 t).2]; rw [Nat.zero_mul, Nat.zero_add]
  exact (congrFun (V_main_arg4 m c) _).trans (congrArg ((m ((c : Thread nD τ).loc main_arg4))) e)

/-- Where window 6's block lies. -/
theorem idx6 : ∀ t : Fin cfg0.N, win0_6.index t (0 : Fin 2) = 0 ∧ win0_6.index t (1 : Fin 2) = 0 :=
  (by decide +kernel : ∀ t : Fin grid0.N, _)

/-- What window 6's block holds at point `t`. -/
theorem block6 (c : Dev nD) (t : Fin cfg0.N) (j : S1024x1024.Idx) :
    (iblk m c 6 t : Vec Ideal S1024x1024 .bf16) j = (wo (m ((c : Thread nD τ).loc main_arg5))) j := by
  have e : ((cfg0.win 6).blk t).view.emb j = j := by
    refine Shape.idx_ext₂ ?_ ?_
    · refine (Window.rect_emb_val win0_6 t j (0 : Fin 2)).trans ?_
      rw [(idx6 t).1]
      rw [Nat.zero_mul, Nat.zero_add]
    · refine (Window.rect_emb_val win0_6 t j (1 : Fin 2)).trans ?_
      rw [(idx6 t).2]; rw [Nat.zero_mul, Nat.zero_add]
  exact (congrFun (V_v4 m c) _).trans (congrArg ((wo (m ((c : Thread nD τ).loc main_arg5)))) e)

/-- Where window 7's block lies. -/
theorem idx7 : ∀ t : Fin cfg0.N, win0_7.index t (0 : Fin 2) = t.val ∧ win0_7.index t (1 : Fin 2) = 0 :=
  (by decide +kernel : ∀ t : Fin grid0.N, _)

/-- Where an index of window 7's block lies in the array. -/
theorem emb7 (t : Fin cfg0.N) (j : S512x1024.Idx) : ((cfg0.win 7).blk t).view.emb j = ix2 (row t (j 0)) (j 1) := by
  refine Shape.idx_ext₂ ?_ ?_
  · refine (Window.rect_emb_val win0_7 t j (0 : Fin 2)).trans ?_
    rw [(idx7 t).1]; rfl
  · refine (Window.rect_emb_val win0_7 t j (1 : Fin 2)).trans ?_
    rw [(idx7 t).2, Nat.zero_mul, Nat.zero_add]; rfl

/-- Every index of window 7's array is in some point's block. -/
theorem cover7 (i : S4096x1024.Idx) : ∃ t : Fin cfg0.N, (cfg0.win 7).flush t = true ∧ i ∈ ((cfg0.win 7).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 7).flush t = true) t, ?_⟩
  show i ∈ ((View.whole (Pipeline.arrRef spec0 7)).slice (win0_7.rect t)).set
  rw [View.set_slice_whole, Rect.mem_set_unit]
  intro a
  match a with
  | ⟨0, _⟩ =>
    show win0_7.index t (0 : Fin 2) * 512 ≤ (i 0).val ∧ (i 0).val < win0_7.index t (0 : Fin 2) * 512 + 512
    rw [(idx7 t).1]
    show (i 0).val / 512 * 512 ≤ (i 0).val ∧ (i 0).val < (i 0).val / 512 * 512 + 512
    omega
  | ⟨1, _⟩ =>
    show win0_7.index t (1 : Fin 2) * 1024 ≤ (i 1).val ∧ (i 1).val < win0_7.index t (1 : Fin 2) * 1024 + 1024
    rw [(idx7 t).2]
    omega

/-- Where window 8's block lies. -/
theorem idx8 : ∀ t : Fin cfg0.N, win0_8.index t (0 : Fin 2) = t.val ∧ win0_8.index t (1 : Fin 2) = 0 :=
  (by decide +kernel : ∀ t : Fin grid0.N, _)

/-- Where an index of window 8's block lies in the array. -/
theorem emb8 (t : Fin cfg0.N) (j : S512x1024.Idx) : ((cfg0.win 8).blk t).view.emb j = ix2 (row t (j 0)) (j 1) := by
  refine Shape.idx_ext₂ ?_ ?_
  · refine (Window.rect_emb_val win0_8 t j (0 : Fin 2)).trans ?_
    rw [(idx8 t).1]; rfl
  · refine (Window.rect_emb_val win0_8 t j (1 : Fin 2)).trans ?_
    rw [(idx8 t).2, Nat.zero_mul, Nat.zero_add]; rfl

/-- Every index of window 8's array is in some point's block. -/
theorem cover8 (i : S4096x1024.Idx) : ∃ t : Fin cfg0.N, (cfg0.win 8).flush t = true ∧ i ∈ ((cfg0.win 8).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 8).flush t = true) t, ?_⟩
  show i ∈ ((View.whole (Pipeline.arrRef spec0 8)).slice (win0_8.rect t)).set
  rw [View.set_slice_whole, Rect.mem_set_unit]
  intro a
  match a with
  | ⟨0, _⟩ =>
    show win0_8.index t (0 : Fin 2) * 512 ≤ (i 0).val ∧ (i 0).val < win0_8.index t (0 : Fin 2) * 512 + 512
    rw [(idx8 t).1]
    show (i 0).val / 512 * 512 ≤ (i 0).val ∧ (i 0).val < (i 0).val / 512 * 512 + 512
    omega
  | ⟨1, _⟩ =>
    show win0_8.index t (1 : Fin 2) * 1024 ≤ (i 1).val ∧ (i 1).val < win0_8.index t (1 : Fin 2) * 1024 + 1024
    rw [(idx8 t).2]
    omega

/-- Where window 9's block lies. -/
theorem idx9 : ∀ t : Fin cfg0.N, win0_9.index t (0 : Fin 2) = t.val ∧ win0_9.index t (1 : Fin 2) = 0 :=
  (by decide +kernel : ∀ t : Fin grid0.N, _)

/-- Where an index of window 9's block lies in the array. -/
theorem emb9 (t : Fin cfg0.N) (j : S512x1024.Idx) : ((cfg0.win 9).blk t).view.emb j = ix2 (row t (j 0)) (j 1) := by
  refine Shape.idx_ext₂ ?_ ?_
  · refine (Window.rect_emb_val win0_9 t j (0 : Fin 2)).trans ?_
    rw [(idx9 t).1]; rfl
  · refine (Window.rect_emb_val win0_9 t j (1 : Fin 2)).trans ?_
    rw [(idx9 t).2, Nat.zero_mul, Nat.zero_add]; rfl

/-- Every index of window 9's array is in some point's block. -/
theorem cover9 (i : S4096x1024.Idx) : ∃ t : Fin cfg0.N, (cfg0.win 9).flush t = true ∧ i ∈ ((cfg0.win 9).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 9).flush t = true) t, ?_⟩
  show i ∈ ((View.whole (Pipeline.arrRef spec0 9)).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [(idx9 t).1]
    show (i 0).val / 512 * 512 ≤ (i 0).val ∧ (i 0).val < (i 0).val / 512 * 512 + 512
    omega
  | ⟨1, _⟩ =>
    show win0_9.index t (1 : Fin 2) * 1024 ≤ (i 1).val ∧ (i 1).val < win0_9.index t (1 : Fin 2) * 1024 + 1024
    rw [(idx9 t).2]
    omega

/-- Point `t`'s load of the row stream. -/
theorem load1 (c : Dev nD) (t : Fin cfg0.N) (p : Fin 512) (q : Fin 1024) : ((View.readAt (Elt Ideal) (ms0_1 t).view (Rect.unit (s := S512x1024) ![0, 0] S512x1024.size inb_S512x1024_S512x1024_0_0).toLoadRect ((hs0_1 t).unread (iblk m c 1 t))) : Vec Ideal S512x1024 .f32) (ix2 p q) = (m ((c : Thread nD τ).loc main_arg1)) (ix2 (row t p) q) := by
  refine ((hs0_1 t).readAt_unread _ _ _).trans ((block1 m c t _).trans (congrArg (m ((c : Thread nD τ).loc main_arg1)) (Shape.idx_ext₂ ?_ ?_)))
  · exact congrArg (fun z => t.val * 512 + z) ((Nat.zero_add _).trans (Nat.one_mul _))
  · exact (Nat.zero_add _).trans (Nat.one_mul _)

/-- Point `t`'s load of the residual's gradient. -/
theorem load2 (c : Dev nD) (t : Fin cfg0.N) (p : Fin 512) (q : Fin 1024) : ((View.readAt (Elt Ideal) (ms0_2 t).view (Rect.unit (s := S512x1024) ![0, 0] S512x1024.size inb_S512x1024_S512x1024_0_0).toLoadRect ((hs0_2 t).unread (iblk m c 2 t))) : Vec Ideal S512x1024 .f32) (ix2 p q) = (m ((c : Thread nD τ).loc main_arg2)) (ix2 (row t p) q) := by
  refine ((hs0_2 t).readAt_unread _ _ _).trans ((block2 m c t _).trans (congrArg (m ((c : Thread nD τ).loc main_arg2)) (Shape.idx_ext₂ ?_ ?_)))
  · exact congrArg (fun z => t.val * 512 + z) ((Nat.zero_add _).trans (Nat.one_mul _))
  · exact (Nat.zero_add _).trans (Nat.one_mul _)

/-- Point `t`'s load of the scale. -/
theorem load5 (c : Dev nD) (t : Fin cfg0.N) (p : Fin 1) (q : Fin 1024) : ((View.readAt (Elt Ideal) (ms0_5 t).view (Rect.unit (s := S1x1024) ![0, 0] S1x1024.size inb_S1x1024_S1x1024_0_0).toLoadRect ((hs0_5 t).unread (iblk m c 5 t))) : Vec Ideal S1x1024 .f32) (ix2 p q) = (m ((c : Thread nD τ).loc main_arg4)) (ix2 p q) := by
  refine ((hs0_5 t).readAt_unread _ _ _).trans ((block5 m c t _).trans (congrArg (m ((c : Thread nD τ).loc main_arg4)) (Shape.idx_ext₂ ?_ ?_)))
  · exact (Nat.zero_add _).trans (Nat.one_mul _)
  · exact (Nat.zero_add _).trans (Nat.one_mul _)

/-- Point `t`'s load of the output projection. -/
theorem load6 (c : Dev nD) (t : Fin cfg0.N) (p : Fin 1024) (q : Fin 1024) : ((View.readAt (Elt Ideal) (ms0_6 t).view (Rect.unit (s := S1024x1024) ![0, 0] S1024x1024.size inb_S1024x1024_S1024x1024_0_0).toLoadRect ((hs0_6 t).unread (iblk m c 6 t))) : Vec Ideal S1024x1024 .bf16) (ix2 p q) = (m ((c : Thread nD τ).loc main_arg5)) (ix2 p q) := by
  refine ((hs0_6 t).readAt_unread _ _ _).trans ((block6 m c t _).trans (congrArg (m ((c : Thread nD τ).loc main_arg5)) (Shape.idx_ext₂ ?_ ?_)))
  · exact (Nat.zero_add _).trans (Nat.one_mul _)
  · exact (Nat.zero_add _).trans (Nat.one_mul _)

/-- One piece of point `t`'s product, by window 3. -/
theorem piece3 (c : Dev nD) (t : Fin cfg0.N) (o : Nat) (ho : o + 2816 ≤ 5632) (ia : ∀ a, (![0, o] : Fin 2 → Nat) a + S512x2816.size a ≤ S512x5632.size a)
    (iw : ∀ a, (![o, 0] : Fin 2 → Nat) a + S2816x512.size a ≤ S5632x512.size a) (p : Fin 512) (q : Fin 512) :
    (∑ k : Fin 2816, ((View.readAt (Elt Ideal) (ms0_0 t).view (Rect.unit (s := S512x5632) ![0, o] S512x2816.size ia).toLoadRect ((hs0_0 t).unread (iblk m c 0 t)) : Vec Ideal S512x2816 .bf16) (ix2 p k)
        * (View.readAt (Elt Ideal) (ms0_3 t).view (Rect.unit (s := S5632x512) ![o, 0] S2816x512.size iw).toLoadRect ((hs0_3 t).unread (iblk m c 3 t)) : Vec Ideal S2816x512 .bf16) (ix2 k q) : EReal))
      = ∑ k : Fin 2816, prod (m ((c : Thread nD τ).loc main_arg0)) (m ((c : Thread nD τ).loc main_arg3)) (row t p) ⟨0 + q.val, by omega⟩ ⟨o + k.val, by omega⟩ := by
  refine Finset.sum_congr rfl fun k _ => congrArg₂ (fun a b : EReal => a * b) ?_ ?_
  · refine ((hs0_0 t).readAt_unread _ _ _).trans ((block0 m c t _).trans (congrArg (m ((c : Thread nD τ).loc main_arg0)) (Shape.idx_ext₂ ?_ ?_)))
    · exact congrArg (fun z => t.val * 512 + z) ((Nat.zero_add _).trans (Nat.one_mul _))
    · exact congrArg (fun z => o + z) (Nat.one_mul _)
  · refine ((hs0_3 t).readAt_unread _ _ _).trans ((block3 m c t _).trans (congrArg (m ((c : Thread nD τ).loc main_arg3)) (Shape.idx_ext₂ ?_ ?_)))
    · exact congrArg (fun z => 0 + z) ((Nat.zero_add _).trans (Nat.one_mul _))
    · exact congrArg (fun z => o + z) (Nat.one_mul _)

/-- One piece of point `t`'s product, by window 4. -/
theorem piece4 (c : Dev nD) (t : Fin cfg0.N) (o : Nat) (ho : o + 2816 ≤ 5632) (ia : ∀ a, (![0, o] : Fin 2 → Nat) a + S512x2816.size a ≤ S512x5632.size a)
    (iw : ∀ a, (![o, 0] : Fin 2 → Nat) a + S2816x512.size a ≤ S5632x512.size a) (p : Fin 512) (q : Fin 512) :
    (∑ k : Fin 2816, ((View.readAt (Elt Ideal) (ms0_0 t).view (Rect.unit (s := S512x5632) ![0, o] S512x2816.size ia).toLoadRect ((hs0_0 t).unread (iblk m c 0 t)) : Vec Ideal S512x2816 .bf16) (ix2 p k)
        * (View.readAt (Elt Ideal) (ms0_4 t).view (Rect.unit (s := S5632x512) ![o, 0] S2816x512.size iw).toLoadRect ((hs0_4 t).unread (iblk m c 4 t)) : Vec Ideal S2816x512 .bf16) (ix2 k q) : EReal))
      = ∑ k : Fin 2816, prod (m ((c : Thread nD τ).loc main_arg0)) (m ((c : Thread nD τ).loc main_arg3)) (row t p) ⟨512 + q.val, by omega⟩ ⟨o + k.val, by omega⟩ := by
  refine Finset.sum_congr rfl fun k _ => congrArg₂ (fun a b : EReal => a * b) ?_ ?_
  · refine ((hs0_0 t).readAt_unread _ _ _).trans ((block0 m c t _).trans (congrArg (m ((c : Thread nD τ).loc main_arg0)) (Shape.idx_ext₂ ?_ ?_)))
    · exact congrArg (fun z => t.val * 512 + z) ((Nat.zero_add _).trans (Nat.one_mul _))
    · exact congrArg (fun z => o + z) (Nat.one_mul _)
  · refine ((hs0_4 t).readAt_unread _ _ _).trans ((block4 m c t _).trans (congrArg (m ((c : Thread nD τ).loc main_arg3)) (Shape.idx_ext₂ ?_ ?_)))
    · exact congrArg (fun z => 512 + z) ((Nat.zero_add _).trans (Nat.one_mul _))
    · exact congrArg (fun z => o + z) (Nat.one_mul _)

/-- A sum over the contraction is the sum of its two pieces. -/
theorem two (f : Fin 5632 → EReal) : (∑ k : Fin 2816, f ⟨0 + k.val, by omega⟩) + (∑ k : Fin 2816, f ⟨2816 + k.val, by omega⟩) = ∑ k, f k := by
  refine Eq.trans ?_ (Fin.sum_univ_add (a := 2816) (b := 2816) f).symm
  exact congrArg₂ (fun a b : EReal => a + b) (Finset.sum_congr rfl fun k _ => congrArg f (Fin.ext (Nat.zero_add _))) rfl

/-- Point `t`'s product. -/
theorem dh_at (c : Dev nD) (t : Fin cfg0.N) (p : Fin 512) (q : Fin 1024) :
    (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (ix2 p q) = dh (m ((c : Thread nD τ).loc main_arg0)) (m ((c : Thread nD τ).loc main_arg3)) (row t p) q := by
  refine (pay_dh _ _ _ _ _ _ _ _).trans ?_
  by_cases h : q.val < 512
  · rw [dif_pos h]
    refine (congrArg₂ (fun a b : EReal => a + b) (piece3 m c t 0 (by omega) _ _ p ⟨q.val, h⟩) (piece3 m c t 2816 (by omega) _ _ p ⟨q.val, h⟩)).trans ?_
    refine (two (prod (m ((c : Thread nD τ).loc main_arg0)) (m ((c : Thread nD τ).loc main_arg3)) (row t p) ⟨0 + q.val, by omega⟩)).trans ?_
    exact congrArg (dh (m ((c : Thread nD τ).loc main_arg0)) (m ((c : Thread nD τ).loc main_arg3)) (row t p)) (Fin.ext (Nat.zero_add _))
  · rw [dif_neg h]
    refine (congrArg₂ (fun a b : EReal => a + b) (piece4 m c t 0 (by omega) _ _ p ⟨q.val - 512, by omega⟩) (piece4 m c t 2816 (by omega) _ _ p ⟨q.val - 512, by omega⟩)).trans ?_
    refine (two (prod (m ((c : Thread nD τ).loc main_arg0)) (m ((c : Thread nD τ).loc main_arg3)) (row t p) ⟨512 + (q.val - 512), by omega⟩)).trans ?_
    exact congrArg (dh (m ((c : Thread nD τ).loc main_arg0)) (m ((c : Thread nD τ).loc main_arg3)) (row t p)) (Fin.ext (by show 512 + (q.val - 512) = q.val; omega))

/-- Point `t`'s tile of the gradient. -/
theorem grad_at (c : Dev nD) (t : Fin cfg0.N) (p : Fin 512) (q : Fin 1024) :
    k0_pay2 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay7 (F := Ideal) (View.readAt (Elt Ideal) (ms0_1 t).view (Rect.unit (s := S512x1024) ![0, 0] S512x1024.size inb_S512x1024_S512x1024_0_0).toLoadRect ((hs0_1 t).unread (iblk m c 1 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_2 t).view (Rect.unit (s := S512x1024) ![0, 0] S512x1024.size inb_S512x1024_S512x1024_0_0).toLoadRect ((hs0_2 t).unread (iblk m c 2 t))) (View.readAt (Elt Ideal) (ms0_5 t).view (Rect.unit (s := S1x1024) ![0, 0] S1x1024.size inb_S1x1024_S1x1024_0_0).toLoadRect ((hs0_5 t).unread (iblk m c 5 t))) (ix2 p q) = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t p) q) := by
  refine (pay_grad _ _ _ _ p q).trans ?_
  exact normBack_congr (fun k => load1 m c t p k) (fun k => dh_at m c t p k) (fun k => load5 m c t 0 k) (fun k => load2 m c t p k) q

/-- The same at an index. -/
theorem tile_at (c : Dev nD) (t : Fin cfg0.N) (j : S512x1024.Idx) :
    k0_pay2 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay7 (F := Ideal) (View.readAt (Elt Ideal) (ms0_1 t).view (Rect.unit (s := S512x1024) ![0, 0] S512x1024.size inb_S512x1024_S512x1024_0_0).toLoadRect ((hs0_1 t).unread (iblk m c 1 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_2 t).view (Rect.unit (s := S512x1024) ![0, 0] S512x1024.size inb_S512x1024_S512x1024_0_0).toLoadRect ((hs0_2 t).unread (iblk m c 2 t))) (View.readAt (Elt Ideal) (ms0_5 t).view (Rect.unit (s := S1x1024) ![0, 0] S1x1024.size inb_S1x1024_S1x1024_0_0).toLoadRect ((hs0_5 t).unread (iblk m c 5 t))) j = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (j 0)) (j 1)) := by
  have e : j = ix2 (j 0) (j 1) := Shape.idx_ext₂ rfl rfl
  exact (congrArg (k0_pay2 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay7 (F := Ideal) (View.readAt (Elt Ideal) (ms0_1 t).view (Rect.unit (s := S512x1024) ![0, 0] S512x1024.size inb_S512x1024_S512x1024_0_0).toLoadRect ((hs0_1 t).unread (iblk m c 1 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_2 t).view (Rect.unit (s := S512x1024) ![0, 0] S512x1024.size inb_S512x1024_S512x1024_0_0).toLoadRect ((hs0_2 t).unread (iblk m c 2 t))) (View.readAt (Elt Ideal) (ms0_5 t).view (Rect.unit (s := S1x1024) ![0, 0] S1x1024.size inb_S1x1024_S1x1024_0_0).toLoadRect ((hs0_5 t).unread (iblk m c 5 t)))) e).trans (grad_at m c t (j 0) (j 1))

/-- Rounded. -/
theorem tile_at' (c : Dev nD) (t : Fin cfg0.N) (j : S512x1024.Idx) :
    k0_pay3 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay7 (F := Ideal) (View.readAt (Elt Ideal) (ms0_1 t).view (Rect.unit (s := S512x1024) ![0, 0] S512x1024.size inb_S512x1024_S512x1024_0_0).toLoadRect ((hs0_1 t).unread (iblk m c 1 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_2 t).view (Rect.unit (s := S512x1024) ![0, 0] S512x1024.size inb_S512x1024_S512x1024_0_0).toLoadRect ((hs0_2 t).unread (iblk m c 2 t))) (View.readAt (Elt Ideal) (ms0_5 t).view (Rect.unit (s := S1x1024) ![0, 0] S1x1024.size inb_S1x1024_S1x1024_0_0).toLoadRect ((hs0_5 t).unread (iblk m c 5 t))) j = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (j 0)) (j 1)) := tile_at m c t j

/-- Point `t`'s tile of the gradient through the output projection. -/
theorem outer_at (c : Dev nD) (t : Fin cfg0.N) (j : S512x1024.Idx) :
    k0_pay4 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay7 (F := Ideal) (View.readAt (Elt Ideal) (ms0_1 t).view (Rect.unit (s := S512x1024) ![0, 0] S512x1024.size inb_S512x1024_S512x1024_0_0).toLoadRect ((hs0_1 t).unread (iblk m c 1 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_2 t).view (Rect.unit (s := S512x1024) ![0, 0] S512x1024.size inb_S512x1024_S512x1024_0_0).toLoadRect ((hs0_2 t).unread (iblk m c 2 t))) (View.readAt (Elt Ideal) (ms0_5 t).view (Rect.unit (s := S1x1024) ![0, 0] S1x1024.size inb_S1x1024_S1x1024_0_0).toLoadRect ((hs0_5 t).unread (iblk m c 5 t))) (View.readAt (Elt Ideal) (ms0_6 t).view (Rect.unit (s := S1024x1024) ![0, 0] S1024x1024.size inb_S1024x1024_S1024x1024_0_0).toLoadRect ((hs0_6 t).unread (iblk m c 6 t))) j = outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (j 0)) (j 1)) := by
  have e : j = ix2 (j 0) (j 1) := Shape.idx_ext₂ rfl rfl
  refine (congrArg (k0_pay4 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay7 (F := Ideal) (View.readAt (Elt Ideal) (ms0_1 t).view (Rect.unit (s := S512x1024) ![0, 0] S512x1024.size inb_S512x1024_S512x1024_0_0).toLoadRect ((hs0_1 t).unread (iblk m c 1 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_2 t).view (Rect.unit (s := S512x1024) ![0, 0] S512x1024.size inb_S512x1024_S512x1024_0_0).toLoadRect ((hs0_2 t).unread (iblk m c 2 t))) (View.readAt (Elt Ideal) (ms0_5 t).view (Rect.unit (s := S1x1024) ![0, 0] S1x1024.size inb_S1x1024_S1x1024_0_0).toLoadRect ((hs0_5 t).unread (iblk m c 5 t))) (View.readAt (Elt Ideal) (ms0_6 t).view (Rect.unit (s := S1024x1024) ![0, 0] S1024x1024.size inb_S1024x1024_S1024x1024_0_0).toLoadRect ((hs0_6 t).unread (iblk m c 6 t)))) e).trans ((pay_outer _ _ _ _ _ _ (j 0) (j 1)).trans ?_)
  exact Finset.sum_congr rfl fun k _ => congrArg₂ (fun a b : EReal => a * b) (grad_at m c t (j 0) k) (load6 m c t (j 1) k)

/-- The accumulator's row with point `t`'s part of the gradient of the scale. -/
theorem row_at (c : Dev nD) (t : Fin cfg0.N) (v : Vec Ideal S1x1024 .f32) (o : Fin 1) (q : Fin 1024) :
    k0_pay1 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) v (ix2 o q) = (v (ix2 o q) + ∑ p : Fin 512, term (m ((c : Thread nD τ).loc main_arg0)) (m ((c : Thread nD τ).loc main_arg1)) (m ((c : Thread nD τ).loc main_arg3)) q (row t p) : EReal) := by
  refine (pay_row _ _ _ o q).trans (congrArg (fun z : EReal => v (ix2 o q) + z) (Finset.sum_congr rfl fun p _ => ?_))
  exact congrArg₂ (fun a b : EReal => a * b) (dh_at m c t p q) (congrArg₂ (fun a b : EReal => a * b) (load1 m c t p q) (congrArg rms (funext fun k => load1 m c t p k)))

/-- The same, with the loaded row's entry given. -/
theorem row_add (c : Dev nD) (t : Fin cfg0.N) (v : Vec Ideal S1x1024 .f32) (o : Fin 1) (q : Fin 1024) (z : EReal) (hv : v (ix2 o q) = z) :
    k0_pay1 (F := Ideal) (k0_pay6 (F := Ideal) (View.readAt (Elt Ideal) (ms0_0 t).view (Rect.unit (s := S512x5632) ![0, 0] S512x2816.size inb_S512x5632_S512x2816_0_0).toLoadRect ((hs0_0 t).unread (iblk m c 0 t))) (View.readAt (Elt Ideal) (ms0_0 t).view (Rect.unit (s := S512x5632) ![0, 2816] S512x2816.size inb_S512x5632_S512x2816_0_2816).toLoadRect ((hs0_0 t).unread (iblk m c 0 t))) (View.readAt (Elt Ideal) (ms0_3 t).view (Rect.unit (s := S5632x512) ![0, 0] S2816x512.size inb_S5632x512_S2816x512_0_0).toLoadRect ((hs0_3 t).unread (iblk m c 3 t))) (View.readAt (Elt Ideal) (ms0_3 t).view (Rect.unit (s := S5632x512) ![2816, 0] S2816x512.size inb_S5632x512_S2816x512_2816_0).toLoadRect ((hs0_3 t).unread (iblk m c 3 t))) (View.readAt (Elt Ideal) (ms0_4 t).view (Rect.unit (s := S5632x512) ![0, 0] S2816x512.size inb_S5632x512_S2816x512_0_0).toLoadRect ((hs0_4 t).unread (iblk m c 4 t))) (View.readAt (Elt Ideal) (ms0_4 t).view (Rect.unit (s := S5632x512) ![2816, 0] S2816x512.size inb_S5632x512_S2816x512_2816_0).toLoadRect ((hs0_4 t).unread (iblk m c 4 t)))) (k0_pay8 (F := Ideal) (View.readAt (Elt Ideal) (ms0_1 t).view (Rect.unit (s := S512x1024) ![0, 0] S512x1024.size inb_S512x1024_S512x1024_0_0).toLoadRect ((hs0_1 t).unread (iblk m c 1 t)))) v (ix2 o q) = z + ∑ p : Fin 512, term (m ((c : Thread nD τ).loc main_arg0)) (m ((c : Thread nD τ).loc main_arg1)) (m ((c : Thread nD τ).loc main_arg3)) q (row t p) :=
  (row_at m c t v o q).trans (congrArg (fun z : EReal => z + ∑ p : Fin 512, term (m ((c : Thread nD τ).loc main_arg0)) (m ((c : Thread nD τ).loc main_arg1)) (m ((c : Thread nD τ).loc main_arg3)) q (row t p)) hv)

/-- What point `t`'s stores leave of this block. -/
theorem tile7_A (c : Dev nD) (t : Fin cfg0.N) (h0 : t.val % 8 = 0) (y : S512x1024.Idx) :
    (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S512x1024 .f32) y = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1)) := by
  unfold out0_A_7
  rw [View.read_writes_eq_canon _ _ _ (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t))]
  have hp : View.PiecesOf (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t)).1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) _ (View.PiecesOf.mem hp) y (cover0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) y)
  unfold kernelRun0_A
  refine ⟨fun (x : S512x1024.Idx) => ?_, trivial⟩
  unfold kernelRun0_A.sl.r kernelRun0_A.sl.r_1 kernelRun0_A.sl.r_2
  refine (tile_at m c t x).trans (congrArg (grad (m ((c : Thread nD τ).loc main_arg0)) (m ((c : Thread nD τ).loc main_arg1)) (m ((c : Thread nD τ).loc main_arg2)) (m ((c : Thread nD τ).loc main_arg4)) (m ((c : Thread nD τ).loc main_arg3))) (Shape.idx_ext₂ ?_ ?_))
  · show t.val * 512 + (x 0).val = t.val * 512 + (0 + 1 * (x 0).val); omega
  · show (x 1).val = 0 + 1 * (x 1).val; omega

/-- What point `t`'s stores leave of this block. -/
theorem tile7_B (c : Dev nD) (t : Fin cfg0.N) (h0 : ¬t.val % 8 = 0) (xo10 : Vec Ideal S8x1024 .f32) (y : S512x1024.Idx) :
    (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 : Vec Ideal S512x1024 .f32) y = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1)) := by
  unfold out0_B_7
  rw [View.read_writes_eq_canon _ _ _ (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10)]
  have hp : View.PiecesOf (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10).1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) _ (View.PiecesOf.mem hp) y (cover0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 y)
  unfold kernelRun0_B
  refine ⟨fun (x : S512x1024.Idx) => ?_, trivial⟩
  unfold kernelRun0_B.sl.r kernelRun0_B.sl.r_1 kernelRun0_B.sl.r_2
  refine (tile_at m c t x).trans (congrArg (grad (m ((c : Thread nD τ).loc main_arg0)) (m ((c : Thread nD τ).loc main_arg1)) (m ((c : Thread nD τ).loc main_arg2)) (m ((c : Thread nD τ).loc main_arg4)) (m ((c : Thread nD τ).loc main_arg3))) (Shape.idx_ext₂ ?_ ?_))
  · show t.val * 512 + (x 0).val = t.val * 512 + (0 + 1 * (x 0).val); omega
  · show (x 1).val = 0 + 1 * (x 1).val; omega

/-- This output's array after the run. -/
theorem final7 (c : Dev nD) : (dats m 0 c).arrAt 7 cfg0.N = grad (m ((c : Thread nD τ).loc main_arg0)) (m ((c : Thread nD τ).loc main_arg1)) (m ((c : Thread nD τ).loc main_arg2)) (m ((c : Thread nD τ).loc main_arg4)) (m ((c : Thread nD τ).loc main_arg3)) := by
  refine (dats m 0 c).arrAt_eq_of_cover 7 _ (fun t _ => ?_) cover7
  by_cases h0 : t.val % 8 = 0
  · rw [Value.flushed7_A m c t h0]
    funext j
    show (out0_A_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S512x1024 .f32) j = grad (m ((c : Thread nD τ).loc main_arg0)) (m ((c : Thread nD τ).loc main_arg1)) (m ((c : Thread nD τ).loc main_arg2)) (m ((c : Thread nD τ).loc main_arg4)) (m ((c : Thread nD τ).loc main_arg3)) (((cfg0.win 7).blk t).view.emb j)
    rw [emb7, tile7_A (h0 := h0)]
    rfl
  · rw [Value.flushed7_B m c t h0]
    funext j
    show (out0_B_7 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 : Vec Ideal S512x1024 .f32) j = grad (m ((c : Thread nD τ).loc main_arg0)) (m ((c : Thread nD τ).loc main_arg1)) (m ((c : Thread nD τ).loc main_arg2)) (m ((c : Thread nD τ).loc main_arg4)) (m ((c : Thread nD τ).loc main_arg3)) (((cfg0.win 7).blk t).view.emb j)
    rw [emb7, tile7_B]
    rfl

/-- What point `t`'s stores leave of this block. -/
theorem tile8_A (c : Dev nD) (t : Fin cfg0.N) (h0 : t.val % 8 = 0) (y : S512x1024.Idx) :
    (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S512x1024 .bf16) y = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1)) := by
  unfold out0_A_8
  rw [View.read_writes_eq_canon _ _ _ (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t))]
  have hp : View.PiecesOf (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t)).2.1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) _ (View.PiecesOf.mem hp) y (cover0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) y)
  unfold kernelRun0_A
  refine ⟨fun (x : S512x1024.Idx) => ?_, trivial⟩
  unfold kernelRun0_A.sl.r kernelRun0_A.sl.r_1 kernelRun0_A.sl.r_2
  refine (tile_at' m c t x).trans (congrArg (grad (m ((c : Thread nD τ).loc main_arg0)) (m ((c : Thread nD τ).loc main_arg1)) (m ((c : Thread nD τ).loc main_arg2)) (m ((c : Thread nD τ).loc main_arg4)) (m ((c : Thread nD τ).loc main_arg3))) (Shape.idx_ext₂ ?_ ?_))
  · show t.val * 512 + (x 0).val = t.val * 512 + (0 + 1 * (x 0).val); omega
  · show (x 1).val = 0 + 1 * (x 1).val; omega

/-- What point `t`'s stores leave of this block. -/
theorem tile8_B (c : Dev nD) (t : Fin cfg0.N) (h0 : ¬t.val % 8 = 0) (xo10 : Vec Ideal S8x1024 .f32) (y : S512x1024.Idx) :
    (out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 : Vec Ideal S512x1024 .bf16) y = grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1)) := by
  unfold out0_B_8
  rw [View.read_writes_eq_canon _ _ _ (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10)]
  have hp : View.PiecesOf (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10).2.1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg4)) (m ((c : Thread nD τ).loc main_arg3)) (ix2 (row t (y 0)) (y 1))) _ (View.PiecesOf.mem hp) y (cover0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 y)
  unfold kernelRun0_B
  refine ⟨fun (x : S512x1024.Idx) => ?_, trivial⟩
  unfold kernelRun0_B.sl.r kernelRun0_B.sl.r_1 kernelRun0_B.sl.r_2
  refine (tile_at' m c t x).trans (congrArg (grad (m ((c : Thread nD τ).loc main_arg0)) (m ((c : Thread nD τ).loc main_arg1)) (m ((c : Thread nD τ).loc main_arg2)) (m ((c : Thread nD τ).loc main_arg4)) (m ((c : Thread nD τ).loc main_arg3))) (Shape.idx_ext₂ ?_ ?_))
  · show t.val * 512 + (x 0).val = t.val * 512 + (0 + 1 * (x 0).val); omega
  · show (x 1).val = 0 + 1 * (x 1).val; omega

/-- This output's array after the run. -/
theorem final8 (c : Dev nD) : (dats m 0 c).arrAt 8 cfg0.N = grad (m ((c : Thread nD τ).loc main_arg0)) (m ((c : Thread nD τ).loc main_arg1)) (m ((c : Thread nD τ).loc main_arg2)) (m ((c : Thread nD τ).loc main_arg4)) (m ((c : Thread nD τ).loc main_arg3)) := by
  refine (dats m 0 c).arrAt_eq_of_cover 8 _ (fun t _ => ?_) cover8
  by_cases h0 : t.val % 8 = 0
  · rw [Value.flushed8_A m c t h0]
    funext j
    show (out0_A_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S512x1024 .bf16) j = grad (m ((c : Thread nD τ).loc main_arg0)) (m ((c : Thread nD τ).loc main_arg1)) (m ((c : Thread nD τ).loc main_arg2)) (m ((c : Thread nD τ).loc main_arg4)) (m ((c : Thread nD τ).loc main_arg3)) (((cfg0.win 8).blk t).view.emb j)
    rw [emb8, tile8_A (h0 := h0)]
    rfl
  · rw [Value.flushed8_B m c t h0]
    funext j
    show (out0_B_8 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 : Vec Ideal S512x1024 .bf16) j = grad (m ((c : Thread nD τ).loc main_arg0)) (m ((c : Thread nD τ).loc main_arg1)) (m ((c : Thread nD τ).loc main_arg2)) (m ((c : Thread nD τ).loc main_arg4)) (m ((c : Thread nD τ).loc main_arg3)) (((cfg0.win 8).blk t).view.emb j)
    rw [emb8, tile8_B]
    rfl

/-- What point `t`'s stores leave of this block. -/
theorem tile9_A (c : Dev nD) (t : Fin cfg0.N) (h0 : t.val % 8 = 0) (y : S512x1024.Idx) :
    (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S512x1024 .bf16) y = outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (y 0)) (y 1)) := by
  unfold out0_A_9
  rw [View.read_writes_eq_canon _ _ _ (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t))]
  have hp : View.PiecesOf (fun y : S512x1024.Idx => outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t)).2.2.1 := ?_
  · exact View.canon_apply_of_pieces (fun y : S512x1024.Idx => outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (y 0)) (y 1))) _ (View.PiecesOf.mem hp) y (cover0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) y)
  unfold kernelRun0_A
  refine ⟨fun (x : S512x1024.Idx) => ?_, trivial⟩
  unfold kernelRun0_A.sl.r kernelRun0_A.sl.r_1 kernelRun0_A.sl.r_2
  refine (outer_at m c t x).trans (congrArg (outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5))) (Shape.idx_ext₂ ?_ ?_))
  · show t.val * 512 + (x 0).val = t.val * 512 + (0 + 1 * (x 0).val); omega
  · show (x 1).val = 0 + 1 * (x 1).val; omega

/-- What point `t`'s stores leave of this block. -/
theorem tile9_B (c : Dev nD) (t : Fin cfg0.N) (h0 : ¬t.val % 8 = 0) (xo10 : Vec Ideal S8x1024 .f32) (y : S512x1024.Idx) :
    (out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 : Vec Ideal S512x1024 .bf16) y = outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (y 0)) (y 1)) := by
  unfold out0_B_9
  rw [View.read_writes_eq_canon _ _ _ (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10)]
  have hp : View.PiecesOf (fun y : S512x1024.Idx => outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (y 0)) (y 1))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10).2.2.1 := ?_
  · exact View.canon_apply_of_pieces (fun y : S512x1024.Idx => outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (ix2 (row t (y 0)) (y 1))) _ (View.PiecesOf.mem hp) y (cover0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 y)
  unfold kernelRun0_B
  refine ⟨fun (x : S512x1024.Idx) => ?_, trivial⟩
  unfold kernelRun0_B.sl.r kernelRun0_B.sl.r_1 kernelRun0_B.sl.r_2
  refine (outer_at m c t x).trans (congrArg (outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5))) (Shape.idx_ext₂ ?_ ?_))
  · show t.val * 512 + (x 0).val = t.val * 512 + (0 + 1 * (x 0).val); omega
  · show (x 1).val = 0 + 1 * (x 1).val; omega

/-- This output's array after the run. -/
theorem final9 (c : Dev nD) : (dats m 0 c).arrAt 9 cfg0.N = outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) := by
  refine (dats m 0 c).arrAt_eq_of_cover 9 _ (fun t _ => ?_) cover9
  by_cases h0 : t.val % 8 = 0
  · rw [Value.flushed9_A m c t h0]
    funext j
    show (out0_A_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S512x1024 .bf16) j = outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (((cfg0.win 9).blk t).view.emb j)
    rw [emb9, tile9_A (h0 := h0)]
    rfl
  · rw [Value.flushed9_B m c t h0]
    funext j
    show (out0_B_9 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.2.2 : Vec Ideal S512x1024 .bf16) j = outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)) (((cfg0.win 9).blk t).view.emb j)
    rw [emb9, tile9_B]
    rfl

/-- The accumulator after the first point. -/
theorem acc_A (c : Dev nD) (t : Fin cfg0.N) (h0 : t.val % 8 = 0) (y : S8x1024.Idx) :
    (out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S8x1024 .f32) y
      = if (y 0).val = 0 then 0 + ∑ p : Fin 512, term (m ((c : Thread nD τ).loc main_arg0)) (m ((c : Thread nD τ).loc main_arg1)) (m ((c : Thread nD τ).loc main_arg3)) (y 1) (row t p) else 0 := by
  unfold out0_A_10 kernelRun0_A
  by_cases h : (y 0).val = 0
  · refine Eq.trans ?_ (if_pos h).symm
    refine (View.read_writes_cons_unit_of_mem _ _ inb_S8x1024_S1x1024_0_0 _ _ y (ix2 (0 : Fin 1) (y 1)) rfl (fun a => ?_)).trans ?_
    · match a with
      | ⟨0, _⟩ => exact h
      | ⟨1, _⟩ => exact (Nat.zero_add _).symm
    · unfold kernelRun0_A.sl.r kernelRun0_A.sl.r_2 kernelRun0_A.sl.r_3 kernelRun0_A.sl.v31 kernelRun0_A.sl.H10_1
      refine row_add m c t _ 0 (y 1) _ ?_
      refine (pay_acc _ _).trans ?_
      refine (congrFun (View.readCov_eq_canon' _ _ _) _).trans ?_
      refine (congrFun (View.canon_unit_zero (funext fun a => by fin_cases a <;> rfl) _ _) _).trans ?_
      exact pay_zero _
  · refine Eq.trans ?_ (if_neg h).symm
    refine (View.read_writes_cons_unit_of_not_mem _ _ inb_S8x1024_S1x1024_0_0 _ _ y rfl (0 : Fin 2) (Or.inr ?_)).trans ?_
    · show 0 + 1 ≤ (y 0).val; omega
    · unfold kernelRun0_A.sl.H10_1
      refine (View.read_writes_cons_unit_of_mem _ _ inb_S8x1024_S8x1024_0_0 _ _ y y rfl (fun a => ?_)).trans (pay_zero _)
      match a with
      | ⟨0, _⟩ => exact (Nat.zero_add _).symm
      | ⟨1, _⟩ => exact (Nat.zero_add _).symm

/-- The accumulator after a later point. -/
theorem acc_B (c : Dev nD) (t : Fin cfg0.N) (h0 : ¬t.val % 8 = 0) (xo10 : Vec Ideal S8x1024 .f32) (y : S8x1024.Idx) :
    (out0_B_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h => h0 ((hcond0_0 t).mp h)) (iblk m c 0 t) (iblk m c 1 t) (iblk m c 2 t) (iblk m c 3 t) (iblk m c 4 t) (iblk m c 5 t) (iblk m c 6 t) xo10 : Vec Ideal S8x1024 .f32) y
      = if (y 0).val = 0 then xo10 y + ∑ p : Fin 512, term (m ((c : Thread nD τ).loc main_arg0)) (m ((c : Thread nD τ).loc main_arg1)) (m ((c : Thread nD τ).loc main_arg3)) (y 1) (row t p) else xo10 y := by
  unfold out0_B_10 kernelRun0_B
  by_cases h : (y 0).val = 0
  · refine Eq.trans ?_ (if_pos h).symm
    refine (View.read_writes_cons_unit_of_mem _ _ inb_S8x1024_S1x1024_0_0 _ _ y (ix2 (0 : Fin 1) (y 1)) rfl (fun a => ?_)).trans ?_
    · match a with
      | ⟨0, _⟩ => exact h
      | ⟨1, _⟩ => exact (Nat.zero_add _).symm
    · unfold kernelRun0_B.sl.r kernelRun0_B.sl.r_2 kernelRun0_B.sl.r_3
      refine row_add m c t _ 0 (y 1) _ ?_
      refine (pay_acc _ _).trans ?_
      refine ((hs0_10 t).readAt_unread _ _ _).trans (congrArg xo10 (Shape.idx_ext₂ ?_ ?_))
      · exact h.symm
      · exact (Nat.zero_add _).trans (Nat.one_mul _)
  · refine Eq.trans ?_ (if_neg h).symm
    refine (View.read_writes_cons_unit_of_not_mem _ _ inb_S8x1024_S1x1024_0_0 _ _ y rfl (0 : Fin 2) (Or.inr ?_)).trans ?_
    · show 0 + 1 ≤ (y 0).val; omega
    · exact congrFun ((hs0_10 t).read_unread xo10) y

/-- The first point's rows, as the sum over the rows so far. -/
theorem first_rows (f : Fin 4096 → EReal) (t : Fin cfg0.N) (ht : t.val = 0) : 0 + ∑ p : Fin 512, f (row t p) = upTo f ((t.val + 1) * 512) := by
  have e := upTo_add f t.val t.isLt (fun p => f (row t p)) fun p => rfl
  refine Eq.trans ?_ e
  refine congrArg (fun z : EReal => z + ∑ p : Fin 512, f (row t p)) ?_
  rw [ht, Nat.zero_mul]
  exact (upTo_zero f).symm

/-- The first point's accumulator at an index. -/
theorem acc_first_at (c : Dev nD) (t : Fin cfg0.N) (ht : t.val = 0) (h0 : t.val % 8 = 0) (y : S8x1024.Idx) :
    (out0_A_10 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h0) (iblk m c 0 t) (iblk m c 1 t) (iblk m c 2 t) (iblk m c 3 t) (iblk m c 4 t) (iblk m c 5 t) (iblk m c 6 t) : Vec Ideal S8x1024 .f32) y = acc (m ((c : Thread nD τ).loc main_arg0)) (m ((c : Thread nD τ).loc main_arg1)) (m ((c : Thread nD τ).loc main_arg3)) ((t.val + 1) * 512) y := by
  refine (acc_A m c t h0 y).trans ?_
  unfold acc
  by_cases h : (y 0).val = 0
  · rw [if_pos h, if_pos h]
    exact first_rows _ t ht
  · rw [if_neg h, if_neg h]

/-- The accumulator after the first point, as a sum. -/
theorem acc_first (c : Dev nD) (t : Fin cfg0.N) (ht : t.val = 0) (h0 : t.val % 8 = 0) :
    (outsAt0 m c t.val t.isLt).2.2.2 = acc (m ((c : Thread nD τ).loc main_arg0)) (m ((c : Thread nD τ).loc main_arg1)) (m ((c : Thread nD τ).loc main_arg3)) ((t.val + 1) * 512) :=
  (last_of (outsAt0_A m c t h0)).trans (funext fun y => acc_first_at m c t ht h0 y)

/-- A later point adds its rows. -/
theorem acc_succ (c : Dev nD) (n : ℕ) (hN : n + 1 < 8) (hn : n + 1 < cfg0.N) (ih : (outsAt0 m c n (Nat.lt_of_succ_lt hn)).2.2.2 = acc (m ((c : Thread nD τ).loc main_arg0)) (m ((c : Thread nD τ).loc main_arg1)) (m ((c : Thread nD τ).loc main_arg3)) ((n + 1) * 512)) :
    (outsAt0 m c (n + 1) hn).2.2.2 = acc (m ((c : Thread nD τ).loc main_arg0)) (m ((c : Thread nD τ).loc main_arg1)) (m ((c : Thread nD τ).loc main_arg3)) ((n + 1 + 1) * 512) := by
  have h0 : ¬(⟨n + 1, hn⟩ : Fin cfg0.N).val % 8 = 0 := by show ¬(n + 1) % 8 = 0; omega
  refine (last_of (outsAt0_B m c ⟨n + 1, hn⟩ h0)).trans (funext fun y => ?_)
  refine (acc_B m c ⟨n + 1, hn⟩ h0 _ y).trans ?_
  have e := upTo_add (term (m ((c : Thread nD τ).loc main_arg0)) (m ((c : Thread nD τ).loc main_arg1)) (m ((c : Thread nD τ).loc main_arg3)) (y 1)) (n + 1) hN (fun p => term (m ((c : Thread nD τ).loc main_arg0)) (m ((c : Thread nD τ).loc main_arg1)) (m ((c : Thread nD τ).loc main_arg3)) (y 1) (row ⟨n + 1, hn⟩ p)) fun p => rfl
  have ihy : (outsAt0 m c n (Nat.lt_of_succ_lt hn)).2.2.2 y = if (y 0).val = 0 then upTo (term (m ((c : Thread nD τ).loc main_arg0)) (m ((c : Thread nD τ).loc main_arg1)) (m ((c : Thread nD τ).loc main_arg3)) (y 1)) ((n + 1) * 512) else 0 := congrFun ih y
  show (if (y 0).val = 0 then (outsAt0 m c n (Nat.lt_of_succ_lt hn)).2.2.2 y + ∑ p : Fin 512, term (m ((c : Thread nD τ).loc main_arg0)) (m ((c : Thread nD τ).loc main_arg1)) (m ((c : Thread nD τ).loc main_arg3)) (y 1) (row ⟨n + 1, hn⟩ p)
      else (outsAt0 m c n (Nat.lt_of_succ_lt hn)).2.2.2 y) = if (y 0).val = 0 then upTo (term (m ((c : Thread nD τ).loc main_arg0)) (m ((c : Thread nD τ).loc main_arg1)) (m ((c : Thread nD τ).loc main_arg3)) (y 1)) ((n + 1 + 1) * 512) else 0
  rw [ihy]
  by_cases h : (y 0).val = 0
  · rw [if_pos h, if_pos h, if_pos h, e]
  · rw [if_neg h, if_neg h, if_neg h]

/-- The accumulator after point `n`: the sum over the rows of the points so far. -/
theorem acc_at (c : Dev nD) (n : ℕ) : ∀ hn : n < cfg0.N, (outsAt0 m c n hn).2.2.2 = acc (m ((c : Thread nD τ).loc main_arg0)) (m ((c : Thread nD τ).loc main_arg1)) (m ((c : Thread nD τ).loc main_arg3)) ((n + 1) * 512) := by
  induction n with
  | zero => exact fun hn => acc_first m c ⟨0, hn⟩ rfl rfl
  | succ n ih => exact fun hn => acc_succ m c n hn hn (ih (Nat.lt_of_succ_lt hn))

/-- The block of window 10 is its array. -/
theorem idx10 : ∀ t : Fin cfg0.N, win0_10.index t (0 : Fin 2) = 0 ∧ win0_10.index t (1 : Fin 2) = 0 ∧ ((cfg0.win 10).flush t = true ↔ t.val = 7) :=
  (by decide +kernel : ∀ t : Fin grid0.N, _)

/-- So an index of the block is that index of the array. -/
theorem emb10 (t : Fin cfg0.N) (j : S8x1024.Idx) : ((cfg0.win 10).blk t).view.emb j = j := by
  refine Shape.idx_ext₂ ?_ ?_
  · refine (Window.rect_emb_val win0_10 t j (0 : Fin 2)).trans ?_
    rw [(idx10 t).1, Nat.zero_mul, Nat.zero_add]
  · refine (Window.rect_emb_val win0_10 t j (1 : Fin 2)).trans ?_
    rw [(idx10 t).2.1, Nat.zero_mul, Nat.zero_add]

/-- The last point writes all of it. -/
theorem cover10 (i : S8x1024.Idx) : ∃ t : Fin cfg0.N, (cfg0.win 10).flush t = true ∧ i ∈ ((cfg0.win 10).blk t).view.set := by
  have l0 : (i 0).val < 8 := (i 0).isLt
  have l1 : (i 1).val < 1024 := (i 1).isLt
  have hN : cfg0.N = 8 := by decide +kernel
  let t : Fin cfg0.N := ⟨7, by rw [hN]; omega⟩
  refine ⟨t, (idx10 t).2.2.2 rfl, ?_⟩
  show i ∈ ((View.whole (Pipeline.arrRef spec0 10)).slice (win0_10.rect t)).set
  rw [View.set_slice_whole, Rect.mem_set_unit]
  intro a
  match a with
  | ⟨0, _⟩ =>
    show win0_10.index t (0 : Fin 2) * 8 ≤ (i 0).val ∧ (i 0).val < win0_10.index t (0 : Fin 2) * 8 + 8
    rw [(idx10 t).1]
    omega
  | ⟨1, _⟩ =>
    show win0_10.index t (1 : Fin 2) * 1024 ≤ (i 1).val ∧ (i 1).val < win0_10.index t (1 : Fin 2) * 1024 + 1024
    rw [(idx10 t).2.1]
    omega

/-- The accumulator's array after the run. -/
theorem final10 (c : Dev nD) : (dats m 0 c).arrAt 10 cfg0.N = acc (m ((c : Thread nD τ).loc main_arg0)) (m ((c : Thread nD τ).loc main_arg1)) (m ((c : Thread nD τ).loc main_arg3)) 4096 := by
  refine (dats m 0 c).arrAt_eq_of_cover 10 _ (fun t hf => ?_) cover10
  have h7 : t.val = 7 := (idx10 t).2.2.1 hf
  rw [Value.flushed10]
  funext j
  show (outsAt0 m c t.val t.isLt).2.2.2 j = acc (m ((c : Thread nD τ).loc main_arg0)) (m ((c : Thread nD τ).loc main_arg1)) (m ((c : Thread nD τ).loc main_arg3)) 4096 (((cfg0.win 10).blk t).view.emb j)
  rw [acc_at, emb10]
  exact congrArg (fun n => acc (m ((c : Thread nD τ).loc main_arg0)) (m ((c : Thread nD τ).loc main_arg1)) (m ((c : Thread nD τ).loc main_arg3)) n j) (by rw [h7])

section Reference

variable (x0 : Vec Ideal S4096x5632 .bf16) (x1 x2 : Vec Ideal S4096x1024 .f32) (x3 : Vec Ideal S1024x5632 .f32) (x4 : Vec Ideal S1x1024 .f32)

open Cert.BwdUpRefIdeal.Read

/-- The reference's mean square. -/
theorem ref_ms (i : Cert.BwdUpRefIdeal.S4096x1.Idx) : Cert.BwdUpRefIdeal.Read.val_main_v6 (F := Ideal) x1 i = meanSq fun k => x1 (ix2 (i 0) k) := by
  rw [val_main_v6_apply, val_main_v4_apply, val_main_v2_apply, val_main_v1_apply]
  refine congrArg (fun z : EReal => Ideal.div z (Ideal.ofBits .f32 0x44800000#32) + Ideal.ofBits .f32 0x358637BD#32) ?_
  refine (congrArg₂ (fun a b : EReal => a + b) bits_zero (Finset.sum_congr rfl fun k _ => ?_)).trans (zero_add _)
  exact congrArg (fun z : S4096x1024.Idx => (x1 z * x1 z : EReal)) (Shape.idx_ext₂ rfl rfl)

/-- The reference's reciprocal root. -/
theorem ref_rms (i : Cert.BwdUpRefIdeal.S4096x1.Idx) : Cert.BwdUpRefIdeal.Read.val_main_v7 (F := Ideal) x1 i = rms fun k => x1 (ix2 (i 0) k) := by
  rw [val_main_v7_apply]
  exact congrArg Ideal.rsqrt (ref_ms x1 i)

/-- The reference's normalised rows. -/
theorem ref_xh (i : S4096x1024.Idx) : Cert.BwdUpRefIdeal.Read.val_main_v12 (F := Ideal) x1 i = (x1 i * rms fun k => x1 (ix2 (i 0) k) : EReal) := by
  rw [val_main_v12_apply, val_main_v11_apply]
  exact congrArg (fun z : EReal => x1 i * z) (ref_rms x1 _)

/-- The reference's projected cotangent. -/
theorem ref_dh (i : S4096x1024.Idx) : Cert.BwdUpRefIdeal.Read.val_main_v17 (F := Ideal) x0 x3 i = dh x0 x3 (i 0) (i 1) := by
  rw [val_main_v17_apply]
  refine Finset.sum_congr rfl fun k _ => ?_
  exact congrArg₂ (fun a b : EReal => a * b) (congrArg x0 (Shape.idx_ext₂ rfl rfl)) (congrArg x3 (Shape.idx_ext₂ rfl rfl))

/-- Times the scale. -/
theorem ref_dhg (i : S4096x1024.Idx) : Cert.BwdUpRefIdeal.Read.val_main_v22 (F := Ideal) x0 x3 x4 i = (dh x0 x3 (i 0) (i 1) * x4 (ix2 0 (i 1)) : EReal) := by
  rw [val_main_v22_apply, val_main_v21_apply]
  exact congrArg₂ (fun a b : EReal => a * b) (ref_dh x0 x3 i) (congrArg x4 (Shape.idx_ext₂ rfl rfl))

/-- The reference's gradient of the mean square. -/
theorem ref_mean (i : S4096x1024.Idx) : Cert.BwdUpRefIdeal.Read.val_main_v33 (F := Ideal) x0 x1 x3 x4 i
    = normMean (fun k => x1 (ix2 (i 0) k)) (fun k => dh x0 x3 (i 0) k) (fun k => x4 (ix2 0 k)) := by
  rw [val_main_v33_apply, val_main_v32_apply, Fin.sum_univ_one, val_main_v31_apply, val_main_v29_apply, val_main_v25_apply, val_main_v24_apply,
    val_main_v10_apply, val_main_v8_apply, ref_rms, ref_ms]
  refine (congrArg₂ (fun a b : EReal => a + b) bits_zero ?_).trans (zero_add _)
  refine congrArg (fun z : EReal => Ideal.div z (Ideal.ofBits .f32 0x44800000#32)) ?_
  refine congrArg₂ (fun a b : EReal => a * b) ?_ rfl
  refine (congrArg₂ (fun a b : EReal => a + b) bits_zero (Finset.sum_congr rfl fun k _ => ?_)).trans (zero_add _)
  rw [val_main_v23_apply, ref_dhg]
  have e : idx_main_v24 (idx_main_v25 (idx_main_v32 (idx_main_v33 i) 0)) k = ix2 (i 0) k :=
    Shape.idx_ext₂ (by show (i 0).val * 1 + 0 = (i 0).val; omega) rfl
  rw [e]
  rfl

/-- The reference's gradient of the rows, at an index. -/
theorem ref_grad_at (p : Fin 4096) (q : Fin 1024) :
    Cert.BwdUpRefIdeal.Read.val_main_v37 (F := Ideal) x0 x1 x2 x3 x4 (ix2 p q) = grad x0 x1 x2 x4 x3 (ix2 p q) := by
  rw [val_main_v37_apply, val_main_v36_apply, val_main_v35_apply, val_main_v34_apply, val_main_v28_apply, val_main_v27_apply, val_main_v26_apply,
    ref_mean, ref_dhg, ref_rms]
  exact normBack_eq (fun k => x1 (ix2 p k)) (fun k => dh x0 x3 p k) (fun k => x4 (ix2 0 k)) (fun k => x2 (ix2 p k)) q

/-- The reference's gradient of the rows. -/
theorem ref_grad :
    Cert.BwdUpRefIdeal.Read.val_main_v37 (F := Ideal) x0 x1 x2 x3 x4 = grad x0 x1 x2 x4 x3 := by
  funext i
  have e : i = ix2 (i 0) (i 1) := Shape.idx_ext₂ rfl rfl
  exact (congrArg (Cert.BwdUpRefIdeal.Read.val_main_v37 (F := Ideal) x0 x1 x2 x3 x4) e).trans ((ref_grad_at x0 x1 x2 x3 x4 (i 0) (i 1)).trans (congrArg (grad x0 x1 x2 x4 x3) e.symm))

/-- The reference's gradient of the scale. -/
theorem ref_row (i : S1x1024.Idx) : Cert.BwdUpRefIdeal.Read.val_main_v20 (F := Ideal) x0 x1 x3 i = ∑ k, term x0 x1 x3 (i 1) k := by
  have l0 : (i 0).val < 1 := (i 0).isLt
  rw [val_main_v20_apply, val_main_v19_apply]
  refine (congrArg₂ (fun a b : EReal => a + b) bits_zero (Finset.sum_congr rfl fun k _ => ?_)).trans (zero_add _)
  rw [val_main_v18_apply, ref_xh, ref_dh]
  have e : idx_main_v19 (idx_main_v20 i) k = ix2 k (i 1) :=
    Shape.idx_ext₂ rfl (by show (i 0).val * 1024 + (i 1).val = (i 1).val; omega)
  rw [e]
  exact mul_comm _ _

/-- The reference's gradient of the scale, in the first of eight rows. -/
theorem ref_acc : Cert.BwdUpRefIdeal.Read.val_main_v43 (F := Ideal) x0 x1 x3 = acc x0 x1 x3 4096 := by
  funext y
  have l : (y 0).val < 8 := (y 0).isLt
  unfold val_main_v43 acc
  by_cases h : (y 0).val = 0
  · rw [if_pos h, upTo_all]
    refine (pad_apply_of_inside _ _ _ _ _ _ _ y (ix2 (0 : Fin 1) (y 1)) (fun a => ?_)).trans ?_
    · match a with
      | ⟨0, _⟩ => exact h
      | ⟨1, _⟩ => show (y 1).val = 0 + (y 1).val * (0 + 1); omega
    · exact ref_row x0 x1 x3 (ix2 (0 : Fin 1) (y 1))
  · rw [if_neg h]
    refine (pad_apply_of_not_inside _ _ _ _ _ _ _ y (0 : Fin 2) (fun hin => h ?_)).trans ?_
    · have e : ((y 0).val - 0) / (0 + 1) < 1 := hin.2.2
      omega
    · rw [val_main_call0_v0_apply, val_main_c_apply]
      show (((0#32 : BitVec 32).toInt : ℝ) : EReal) = 0
      simp

/-- The reference's gradient through the output projection. -/
theorem ref_outer (x5 : Vec Ideal S1024x1024 .f32) :
    Cert.BwdUpRefIdeal.Read.val_main_v42 (F := Ideal) x0 x1 x2 x3 x4 x5 = outer x0 x1 x2 x4 x3 x5 := by
  funext i
  rw [val_main_v42_apply]
  refine (val_main_v40_apply x0 x1 x2 x3 x4 x5 i).trans (Finset.sum_congr rfl fun k _ => ?_)
  rw [ref_grad x0 x1 x2 x3 x4]
  exact congrArg₂ (fun a b : EReal => a * b) (congrArg (grad x0 x1 x2 x4 x3) (Shape.idx_ext₂ rfl rfl)) (congrArg x5 (Shape.idx_ext₂ rfl rfl))

end Reference

/-- The kernel's body table is the ideal kernel's, whose text is the same. -/
theorem defs₀_eq {F : FTy → Type} [FloatOps F] : Cert.BwdUp.defs₀ (F := F) = Cert.BwdUpIdeal.defs₀ (F := F) :=
  congrArg Defs.onTc (funext fun l => funext fun a => by
    match l, a with
    | 0, (t, s) => rfl)

/-- With the pipeline's labels, too. -/
theorem defs_eq {F : FTy → Type} [FloatOps F] : Cert.BwdUp.defs (F := F) = Cert.BwdUpIdeal.defs (F := F) :=
  congrArg (fun d => Pipeline.defs Cert.BwdUp.pcfgs d) defs₀_eq

/-- The kernel's frame. -/
theorem frame_P : Cert.quiescent_BwdUp := fun m ρ _ => by
  rw [defs_eq]
  exact Cert.BwdUpIdeal.Gen.frame (F := Bits) m ρ

/-- The ideal kernel's frame. -/
theorem frame_PI : Cert.quiescent_BwdUpIdeal := fun m ρ _ => Cert.BwdUpIdeal.Gen.frame (F := Ideal) m ρ

/-- The reference's frame. -/
theorem frame_RI : Cert.quiescent_BwdUpRefIdeal := fun m ρ _ =>
  (θ_run Cert.BwdUpRefIdeal.defs _ _).mono (fun r h => ⟨fun c => (h c).2.2.2.2,
      Idealize.ShloMosaic.sem_eq_zero_of_no_sems (by decide) r.2⟩)
    (Cert.BwdUpRefIdeal.Value.run (F := Ideal) m ρ)

/-- Kernel and reference agree at every index. -/
theorem algebraic : Cert.algebraic_BwdUpIdeal_BwdUpRefIdeal := by
  intro m g m' g' _ hargs
  refine ⟨fun c => grad (m ((c : Thread nD τ).loc main_arg0)) (m ((c : Thread nD τ).loc main_arg1)) (m ((c : Thread nD τ).loc main_arg2)) (m ((c : Thread nD τ).loc main_arg4)) (m ((c : Thread nD τ).loc main_arg3)), fun c => grad (m ((c : Thread nD τ).loc main_arg0)) (m ((c : Thread nD τ).loc main_arg1)) (m ((c : Thread nD τ).loc main_arg2)) (m ((c : Thread nD τ).loc main_arg4)) (m ((c : Thread nD τ).loc main_arg3)), fun c => outer (m ((c : Thread nD τ).loc main_arg0)) (m ((c : Thread nD τ).loc main_arg1)) (m ((c : Thread nD τ).loc main_arg2)) (m ((c : Thread nD τ).loc main_arg4)) (m ((c : Thread nD τ).loc main_arg3)) (m ((c : Thread nD τ).loc main_arg5)), fun c => acc (m ((c : Thread nD τ).loc main_arg0)) (m ((c : Thread nD τ).loc main_arg1)) (m ((c : Thread nD τ).loc main_arg3)) 4096, ?_, ?_⟩
  · exact (θ_run _ _ _).mono (fun r h c => ⟨(h c).1.trans (final7 m c), (h c).2.1.trans (final8 m c), (h c).2.2.1.trans (final9 m c), (h c).2.2.2.1.trans (final10 m c), (h c).2.2.2.2⟩)
      (Value.run_blocks (F := Ideal) m g)
  · refine (θ_run _ _ _).mono (fun r h c => ⟨?_, ?_, ?_, ?_, (h c).2.2.2.2⟩) (Cert.BwdUpRefIdeal.Value.run (F := Ideal) m' g')
    · obtain ⟨a0, a1, a2, a3, a4, a5⟩ := hargs c
      refine (h c).1.trans ((Cert.BwdUpRefIdeal.Read.val_main_v37_eq _ _).trans ?_)
      rw [a0, a1, a2, a3, a4]
      exact ref_grad _ _ _ _ _
    · obtain ⟨a0, a1, a2, a3, a4, a5⟩ := hargs c
      refine (h c).2.1.trans ((Cert.BwdUpRefIdeal.Read.val_main_v41_eq _ _).trans ?_)
      rw [a0, a1, a2, a3, a4]
      exact ref_grad _ _ _ _ _
    · obtain ⟨a0, a1, a2, a3, a4, a5⟩ := hargs c
      refine (h c).2.2.1.trans ((Cert.BwdUpRefIdeal.Read.val_main_v42_eq _ _).trans ?_)
      rw [a0, a1, a2, a3, a4, a5]
      exact ref_outer _ _ _ _ _ _
    · obtain ⟨a0, a1, a2, a3, a4, a5⟩ := hargs c
      refine (h c).2.2.2.1.trans ((Cert.BwdUpRefIdeal.Read.val_main_v43_eq _ _ _).trans ?_)
      rw [a0, a1, a3]
      exact ref_acc _ _ _

end Cert.Proof.BwdUp

end
-- ==== Proof.InBwd.lean ====
/-
  `InBwd`: the gradient of the input projection and of the normalisation before it (the call `in_bwd`).
-/
module

public import proofs.«01_k».proof.Defs
public import proofs.«01_k».proof.Proof.Gen.InBwd
public import proofs.«01_k».proof.Proof.Gen.InBwdIdeal
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Reals
public import Idealize.ShloMosaic.Lib.Pointwise
public import proofs.«01_k».proof.Proof.NormBack
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.InBwd

open Idealize.ShloMosaic Idealize.ShloMosaic.TcCoe Idealize.SL.Sem
open Cert.InBwdIdeal Cert.InBwdIdeal.Gen
open Idealize.ShloMosaic.Pipeline (Dat Cfg Window)

variable (m : (ℓ : Loc nD τ sig) → Buf (Elt Ideal) ℓ)

/-- One product of the projection's gradient. -/
def prod (a : Vec Ideal S4096x4608 .bf16) (w : Vec Ideal S1024x4608 .f32) (p : Fin 4096) (q : Fin 1024) (k : Fin 4608) : EReal :=
  a (ix2 p k) * w (ix2 q k)

/-- The gradient of the normalised row at an index: the cotangent through the projection. -/
def dh (a : Vec Ideal S4096x4608 .bf16) (w : Vec Ideal S1024x4608 .f32) (p : Fin 4096) (q : Fin 1024) : EReal :=
  ∑ k : Fin 4608, prod a w p q k

/-- The gradient of the row before the normalisation, with the residual's. -/
def grad (a : Vec Ideal S4096x4608 .bf16) (x d : Vec Ideal S4096x1024 .f32) (g : Vec Ideal S1x1024 .f32) (w : Vec Ideal S1024x4608 .f32) :
    Vec Ideal S4096x1024 .f32 := fun i =>
  normBack (fun k => x (ix2 (i 0) k)) (fun k => dh a w (i 0) k) (fun k => g (ix2 0 k)) (fun k => d (ix2 (i 0) k)) (i 1)

/-- A row's part of the gradient of the normalisation's scale. -/
def term (a : Vec Ideal S4096x4608 .bf16) (x : Vec Ideal S4096x1024 .f32) (w : Vec Ideal S1024x4608 .f32) (q : Fin 1024) (p : Fin 4096) : EReal :=
  dh a w p q * (x (ix2 p q) * rms fun k => x (ix2 p k))

/-- The sum of the first rows' parts, in the first of eight rows; the others are zero. -/
def acc (a : Vec Ideal S4096x4608 .bf16) (x : Vec Ideal S4096x1024 .f32) (w : Vec Ideal S1024x4608 .f32) (n : ℕ) : Vec Ideal S8x1024 .f32 := fun i =>
  if (i 0).val = 0 then upTo (term a x w (i 1)) n else 0

/-- The weights transposed, as the weight window's array holds them. -/
def wT (w : Vec Ideal S1024x4608 .f32) : Vec Ideal S4608x1024 .bf16 := fun i => w (ix2 (i 1) (i 0))

/-- What the region finds in the weight window's array. -/
theorem V_w (c : Dev nD) : (V m c main_v1 : Vec Ideal S4608x1024 .bf16) = wT (m ((c : Thread nD τ).loc main_arg4)) := by
  unfold V
  after_results_simp
  funext i
  exact congrArg (m ((c : Thread nD τ).loc main_arg4)) (Shape.idx_ext₂ rfl rfl)

/-- A tile's reciprocal roots. -/
theorem pay_r (x : Vec Ideal S512x1024 .f32) (p : Fin 512) (q : Fin 1) : k0_pay5 (F := Ideal) x (ix2 p q) = rms fun k => x (ix2 p k) := by
  unfold k0_pay5 rms meanSq
  pointwise

/-- A tile's normalised rows. -/
theorem pay_xh (x : Vec Ideal S512x1024 .f32) (p : Fin 512) (q : Fin 1024) :
    k0_pay6 (F := Ideal) x (ix2 p q) = x (ix2 p q) * rms fun k => x (ix2 p k) := by
  rw [← pay_r x p 0]
  unfold k0_pay6
  generalize k0_pay5 (F := Ideal) x = r
  pointwise

/-- The accumulator's row. -/
theorem pay_acc (x : Vec Ideal S1x1024 .f32) (j : S1x1024.Idx) : k0_pay7 (F := Ideal) x j = x j := by
  unfold k0_pay7
  pointwise

/-- The zeros the accumulator starts from. -/
theorem pay_zero (j : S8x1024.Idx) : k0_pay3 (F := Ideal) j = 0 := bits_zero

/-- A tile's gradient of the row before the normalisation. -/
theorem pay_grad (a x : Vec Ideal S512x1024 .f32) (g : Vec Ideal S1x1024 .f32) (d : Vec Ideal S512x1024 .f32) (p : Fin 512) (q : Fin 1024) :
    k0_pay2 (F := Ideal) a (k0_pay5 (F := Ideal) x) (k0_pay6 (F := Ideal) x) g d (ix2 p q)
      = normBack (fun k => x (ix2 p k)) (fun k => a (ix2 p k)) (fun k => g (ix2 0 k)) (fun k => d (ix2 p k)) q := by
  have e : k0_pay2 (F := Ideal) a (k0_pay5 (F := Ideal) x) (k0_pay6 (F := Ideal) x) g d (ix2 p q)
      = (d (ix2 p q) : EReal) + k0_pay5 (F := Ideal) x (ix2 p 0) * (a (ix2 p q) * g (ix2 0 q) - k0_pay6 (F := Ideal) x (ix2 p q)
          * Ideal.div (∑ k : Fin 1024, (a (ix2 p k) * g (ix2 0 k) * k0_pay6 (F := Ideal) x (ix2 p k) : EReal)) (Ideal.ofBits .f32 0x44800000#32)) := by
    generalize k0_pay5 (F := Ideal) x = r
    generalize k0_pay6 (F := Ideal) x = y
    unfold k0_pay2
    pointwise
  rw [e, pay_r]
  simp only [pay_xh]
  rfl

/-- A tile's product in three pieces of the contraction. -/
theorem pay_dh (a1 : Vec Ideal S512x1536 .bf16) (b1 : Vec Ideal S1536x1024 .bf16) (a2 : Vec Ideal S512x1536 .bf16) (b2 : Vec Ideal S1536x1024 .bf16)
    (a3 : Vec Ideal S512x1536 .bf16) (b3 : Vec Ideal S1536x1024 .bf16) (j : S512x1024.Idx) :
    k0_pay4 (F := Ideal) a1 b1 a2 b2 a3 b3 j
      = (∑ k : Fin 1536, (a1 (ix2 (j 0) k) * b1 (ix2 k (j 1)) : EReal)) + (∑ k : Fin 1536, (a2 (ix2 (j 0) k) * b2 (ix2 k (j 1)) : EReal))
        + ∑ k : Fin 1536, (a3 (ix2 (j 0) k) * b3 (ix2 k (j 1)) : EReal) := by
  unfold k0_pay4
  pointwise [dot_S512x1536_S1536x1024_S512x1024_1_0_0_1_n_n]

/-- A tile's part of the gradient of the scale. -/
theorem pay_row (a1 : Vec Ideal S512x1536 .bf16) (b1 : Vec Ideal S1536x1024 .bf16) (a2 : Vec Ideal S512x1536 .bf16) (b2 : Vec Ideal S1536x1024 .bf16)
    (a3 : Vec Ideal S512x1536 .bf16) (b3 : Vec Ideal S1536x1024 .bf16) (x : Vec Ideal S512x1024 .f32) (o : Fin 1) (q : Fin 1024) :
    k0_pay8 (F := Ideal) a1 b1 a2 b2 a3 b3 x (ix2 o q)
      = ∑ p : Fin 512, (k0_pay4 (F := Ideal) a1 b1 a2 b2 a3 b3 (ix2 p q) * (x (ix2 p q) * rms fun k => x (ix2 p k)) : EReal) := by
  refine Eq.trans ?_ (Finset.sum_congr rfl fun p _ => congrArg (fun z : EReal => k0_pay4 (F := Ideal) a1 b1 a2 b2 a3 b3 (ix2 p q) * z) (pay_xh x p q))
  unfold k0_pay8
  generalize k0_pay4 (F := Ideal) a1 b1 a2 b2 a3 b3 = u
  generalize k0_pay6 (F := Ideal) x = v
  pointwise

/-- The array row that row `p` of point `t`'s block is. -/
abbrev row (t : Fin cfg0.N) (p : Fin 512) : Fin 4096 := ⟨t.val * 512 + p.val, by
  have h : t.val < 8 := t.isLt
  omega⟩

/-- Where window 0's block lies. -/
theorem idx0 : ∀ t : Fin cfg0.N, win0_0.index t (0 : Fin 2) = t.val ∧ win0_0.index t (1 : Fin 2) = 0 :=
  (by decide +kernel : ∀ t : Fin grid0.N, _)

/-- What window 0's block holds at point `t`. -/
theorem block0 (c : Dev nD) (t : Fin cfg0.N) (j : S512x4608.Idx) :
    (iblk m c 0 t : Vec Ideal S512x4608 .bf16) j = (m ((c : Thread nD τ).loc main_arg0)) (ix2 (row t (j 0)) (j 1)) := by
  have e : ((cfg0.win 0).blk t).view.emb j = (ix2 (row t (j 0)) (j 1)) := by
    refine Shape.idx_ext₂ ?_ ?_
    · refine (Window.rect_emb_val win0_0 t j (0 : Fin 2)).trans ?_
      rw [(idx0 t).1]; rfl
    · refine (Window.rect_emb_val win0_0 t j (1 : Fin 2)).trans ?_
      rw [(idx0 t).2]; rw [Nat.zero_mul, Nat.zero_add]; rfl
  exact (congrFun (V_main_arg0 m c) _).trans (congrArg ((m ((c : Thread nD τ).loc main_arg0))) e)

/-- Where window 1's block lies. -/
theorem idx1 : ∀ t : Fin cfg0.N, win0_1.index t (0 : Fin 2) = t.val ∧ win0_1.index t (1 : Fin 2) = 0 :=
  (by decide +kernel : ∀ t : Fin grid0.N, _)

/-- What window 1's block holds at point `t`. -/
theorem block1 (c : Dev nD) (t : Fin cfg0.N) (j : S512x1024.Idx) :
    (iblk m c 1 t : Vec Ideal S512x1024 .f32) j = (m ((c : Thread nD τ).loc main_arg1)) (ix2 (row t (j 0)) (j 1)) := by
  have e : ((cfg0.win 1).blk t).view.emb j = (ix2 (row t (j 0)) (j 1)) := by
    refine Shape.idx_ext₂ ?_ ?_
    · refine (Window.rect_emb_val win0_1 t j (0 : Fin 2)).trans ?_
      rw [(idx1 t).1]; rfl
    · refine (Window.rect_emb_val win0_1 t j (1 : Fin 2)).trans ?_
      rw [(idx1 t).2]; rw [Nat.zero_mul, Nat.zero_add]; rfl
  exact (congrFun (V_main_arg1 m c) _).trans (congrArg ((m ((c : Thread nD τ).loc main_arg1))) e)

/-- Where window 2's block lies. -/
theorem idx2 : ∀ t : Fin cfg0.N, win0_2.index t (0 : Fin 2) = t.val ∧ win0_2.index t (1 : Fin 2) = 0 :=
  (by decide +kernel : ∀ t : Fin grid0.N, _)

/-- What window 2's block holds at point `t`. -/
theorem block2 (c : Dev nD) (t : Fin cfg0.N) (j : S512x1024.Idx) :
    (iblk m c 2 t : Vec Ideal S512x1024 .f32) j = (m ((c : Thread nD τ).loc main_arg2)) (ix2 (row t (j 0)) (j 1)) := by
  have e : ((cfg0.win 2).blk t).view.emb j = (ix2 (row t (j 0)) (j 1)) := by
    refine Shape.idx_ext₂ ?_ ?_
    · refine (Window.rect_emb_val win0_2 t j (0 : Fin 2)).trans ?_
      rw [(idx2 t).1]; rfl
    · refine (Window.rect_emb_val win0_2 t j (1 : Fin 2)).trans ?_
      rw [(idx2 t).2]; rw [Nat.zero_mul, Nat.zero_add]; rfl
  exact (congrFun (V_main_arg2 m c) _).trans (congrArg ((m ((c : Thread nD τ).loc main_arg2))) e)

/-- Where window 3's block lies. -/
theorem idx3 : ∀ t : Fin cfg0.N, win0_3.index t (0 : Fin 2) = 0 ∧ win0_3.index t (1 : Fin 2) = 0 :=
  (by decide +kernel : ∀ t : Fin grid0.N, _)

/-- What window 3's block holds at point `t`. -/
theorem block3 (c : Dev nD) (t : Fin cfg0.N) (j : S1x1024.Idx) :
    (iblk m c 3 t : Vec Ideal S1x1024 .f32) j = (m ((c : Thread nD τ).loc main_arg3)) j := by
  have e : ((cfg0.win 3).blk t).view.emb j = j := by
    refine Shape.idx_ext₂ ?_ ?_
    · refine (Window.rect_emb_val win0_3 t j (0 : Fin 2)).trans ?_
      rw [(idx3 t).1]
      rw [Nat.zero_mul, Nat.zero_add]
    · refine (Window.rect_emb_val win0_3 t j (1 : Fin 2)).trans ?_
      rw [(idx3 t).2]; rw [Nat.zero_mul, Nat.zero_add]
  exact (congrFun (V_main_arg3 m c) _).trans (congrArg ((m ((c : Thread nD τ).loc main_arg3))) e)

/-- Where window 4's block lies. -/
theorem idx4 : ∀ t : Fin cfg0.N, win0_4.index t (0 : Fin 2) = 0 ∧ win0_4.index t (1 : Fin 2) = 0 :=
  (by decide +kernel : ∀ t : Fin grid0.N, _)

/-- What window 4's block holds at point `t`. -/
theorem block4 (c : Dev nD) (t : Fin cfg0.N) (j : S4608x1024.Idx) :
    (iblk m c 4 t : Vec Ideal S4608x1024 .bf16) j = (wT (m ((c : Thread nD τ).loc main_arg4))) j := by
  have e : ((cfg0.win 4).blk t).view.emb j = j := by
    refine Shape.idx_ext₂ ?_ ?_
    · refine (Window.rect_emb_val win0_4 t j (0 : Fin 2)).trans ?_
      rw [(idx4 t).1]
      rw [Nat.zero_mul, Nat.zero_add]
    · refine (Window.rect_emb_val win0_4 t j (1 : Fin 2)).trans ?_
      rw [(idx4 t).2]; rw [Nat.zero_mul, Nat.zero_add]
  exact (congrFun (V_w m c) _).trans (congrArg ((wT (m ((c : Thread nD τ).loc main_arg4)))) e)

/-- Where window 5's block lies. -/
theorem idx5 : ∀ t : Fin cfg0.N, win0_5.index t (0 : Fin 2) = t.val ∧ win0_5.index t (1 : Fin 2) = 0 :=
  (by decide +kernel : ∀ t : Fin grid0.N, _)

/-- Where an index of window 5's block lies in the array. -/
theorem emb5 (t : Fin cfg0.N) (j : S512x1024.Idx) : ((cfg0.win 5).blk t).view.emb j = ix2 (row t (j 0)) (j 1) := by
  refine Shape.idx_ext₂ ?_ ?_
  · refine (Window.rect_emb_val win0_5 t j (0 : Fin 2)).trans ?_
    rw [(idx5 t).1]; rfl
  · refine (Window.rect_emb_val win0_5 t j (1 : Fin 2)).trans ?_
    rw [(idx5 t).2, Nat.zero_mul, Nat.zero_add]; rfl

/-- Every index of window 5's array is in some point's block. -/
theorem cover5 (i : S4096x1024.Idx) : ∃ t : Fin cfg0.N, (cfg0.win 5).flush t = true ∧ i ∈ ((cfg0.win 5).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 5).flush t = true) t, ?_⟩
  show i ∈ ((View.whole (Pipeline.arrRef spec0 5)).slice (win0_5.rect t)).set
  rw [View.set_slice_whole, Rect.mem_set_unit]
  intro a
  match a with
  | ⟨0, _⟩ =>
    show win0_5.index t (0 : Fin 2) * 512 ≤ (i 0).val ∧ (i 0).val < win0_5.index t (0 : Fin 2) * 512 + 512
    rw [(idx5 t).1]
    show (i 0).val / 512 * 512 ≤ (i 0).val ∧ (i 0).val < (i 0).val / 512 * 512 + 512
    omega
  | ⟨1, _⟩ =>
    show win0_5.index t (1 : Fin 2) * 1024 ≤ (i 1).val ∧ (i 1).val < win0_5.index t (1 : Fin 2) * 1024 + 1024
    rw [(idx5 t).2]
    omega

/-- Point `t`'s load of the row stream. -/
theorem load1 (c : Dev nD) (t : Fin cfg0.N) (p : Fin 512) (q : Fin 1024) : ((View.readAt (Elt Ideal) (ms0_1 t).view (Rect.unit (s := S512x1024) ![0, 0] S512x1024.size inb_S512x1024_S512x1024_0_0).toLoadRect ((hs0_1 t).unread (iblk m c 1 t))) : Vec Ideal S512x1024 .f32) (ix2 p q) = (m ((c : Thread nD τ).loc main_arg1)) (ix2 (row t p) q) := by
  refine ((hs0_1 t).readAt_unread _ _ _).trans ((block1 m c t _).trans (congrArg (m ((c : Thread nD τ).loc main_arg1)) (Shape.idx_ext₂ ?_ ?_)))
  · exact congrArg (fun z => t.val * 512 + z) ((Nat.zero_add _).trans (Nat.one_mul _))
  · exact (Nat.zero_add _).trans (Nat.one_mul _)

/-- Point `t`'s load of the residual's gradient. -/
theorem load2 (c : Dev nD) (t : Fin cfg0.N) (p : Fin 512) (q : Fin 1024) : ((View.readAt (Elt Ideal) (ms0_2 t).view (Rect.unit (s := S512x1024) ![0, 0] S512x1024.size inb_S512x1024_S512x1024_0_0).toLoadRect ((hs0_2 t).unread (iblk m c 2 t))) : Vec Ideal S512x1024 .f32) (ix2 p q) = (m ((c : Thread nD τ).loc main_arg2)) (ix2 (row t p) q) := by
  refine ((hs0_2 t).readAt_unread _ _ _).trans ((block2 m c t _).trans (congrArg (m ((c : Thread nD τ).loc main_arg2)) (Shape.idx_ext₂ ?_ ?_)))
  · exact congrArg (fun z => t.val * 512 + z) ((Nat.zero_add _).trans (Nat.one_mul _))
  · exact (Nat.zero_add _).trans (Nat.one_mul _)

/-- Point `t`'s load of the scale. -/
theorem load3 (c : Dev nD) (t : Fin cfg0.N) (p : Fin 1) (q : Fin 1024) : ((View.readAt (Elt Ideal) (ms0_3 t).view (Rect.unit (s := S1x1024) ![0, 0] S1x1024.size inb_S1x1024_S1x1024_0_0).toLoadRect ((hs0_3 t).unread (iblk m c 3 t))) : Vec Ideal S1x1024 .f32) (ix2 p q) = (m ((c : Thread nD τ).loc main_arg3)) (ix2 p q) := by
  refine ((hs0_3 t).readAt_unread _ _ _).trans ((block3 m c t _).trans (congrArg (m ((c : Thread nD τ).loc main_arg3)) (Shape.idx_ext₂ ?_ ?_)))
  · exact (Nat.zero_add _).trans (Nat.one_mul _)
  · exact (Nat.zero_add _).trans (Nat.one_mul _)

/-- One piece of point `t`'s product. -/
theorem piece (c : Dev nD) (t : Fin cfg0.N) (o : Nat) (ho : o + 1536 ≤ 4608) (ia : ∀ a, (![0, o] : Fin 2 → Nat) a + S512x1536.size a ≤ S512x4608.size a)
    (iw : ∀ a, (![o, 0] : Fin 2 → Nat) a + S1536x1024.size a ≤ S4608x1024.size a) (p : Fin 512) (q : Fin 1024) :
    (∑ k : Fin 1536, ((View.readAt (Elt Ideal) (ms0_0 t).view (Rect.unit (s := S512x4608) ![0, o] S512x1536.size ia).toLoadRect ((hs0_0 t).unread (iblk m c 0 t)) : Vec Ideal S512x1536 .bf16) (ix2 p k)
        * (View.readAt (Elt Ideal) (ms0_4 t).view (Rect.unit (s := S4608x1024) ![o, 0] S1536x1024.size iw).toLoadRect ((hs0_4 t).unread (iblk m c 4 t)) : Vec Ideal S1536x1024 .bf16) (ix2 k q) : EReal))
      = ∑ k : Fin 1536, prod (m ((c : Thread nD τ).loc main_arg0)) (m ((c : Thread nD τ).loc main_arg4)) (row t p) q ⟨o + k.val, by omega⟩ := by
  refine Finset.sum_congr rfl fun k _ => congrArg₂ (fun a b : EReal => a * b) ?_ ?_
  · refine ((hs0_0 t).readAt_unread _ _ _).trans ((block0 m c t _).trans (congrArg (m ((c : Thread nD τ).loc main_arg0)) (Shape.idx_ext₂ ?_ ?_)))
    · exact congrArg (fun z => t.val * 512 + z) ((Nat.zero_add _).trans (Nat.one_mul _))
    · exact congrArg (fun z => o + z) (Nat.one_mul _)
  · refine ((hs0_4 t).readAt_unread _ _ _).trans ((block4 m c t _).trans (congrArg (m ((c : Thread nD τ).loc main_arg4)) (Shape.idx_ext₂ ?_ ?_)))
    · exact (Nat.zero_add _).trans (Nat.one_mul _)
    · exact congrArg (fun z => o + z) (Nat.one_mul _)

/-- A sum over the contraction is the sum of its three pieces. -/
theorem three (f : Fin 4608 → EReal) : (∑ k : Fin 1536, f ⟨0 + k.val, by omega⟩) + (∑ k : Fin 1536, f ⟨1536 + k.val, by omega⟩) + (∑ k : Fin 1536, f ⟨3072 + k.val, by omega⟩)
    = ∑ k, f k := by
  refine Eq.trans ?_ (Fin.sum_univ_add (a := 3072) (b := 1536) f).symm
  refine congrArg₂ (fun a b : EReal => a + b) ?_ rfl
  refine Eq.trans ?_ (Fin.sum_univ_add (a := 1536) (b := 1536) fun k => f (Fin.castAdd 1536 k)).symm
  refine congrArg₂ (fun a b : EReal => a + b) (Finset.sum_congr rfl fun k _ => congrArg f (Fin.ext (Nat.zero_add _))) rfl

/-- Point `t`'s product. -/
theorem dh_at (c : Dev nD) (t : Fin cfg0.N) (p : Fin 512) (q : Fin 1024) :
    (k0_pay4 (F := Ideal) (View.readAt (Elt Ideal) (ms0_0 t).view (Rect.unit (s := S512x4608) ![0, 0] S512x1536.size inb_S512x4608_S512x1536_0_0).toLoadRect ((hs0_0 t).unread (iblk m c 0 t))) (View.readAt (Elt Ideal) (ms0_4 t).view (Rect.unit (s := S4608x1024) ![0, 0] S1536x1024.size inb_S4608x1024_S1536x1024_0_0).toLoadRect ((hs0_4 t).unread (iblk m c 4 t))) (View.readAt (Elt Ideal) (ms0_0 t).view (Rect.unit (s := S512x4608) ![0, 1536] S512x1536.size inb_S512x4608_S512x1536_0_1536).toLoadRect ((hs0_0 t).unread (iblk m c 0 t))) (View.readAt (Elt Ideal) (ms0_4 t).view (Rect.unit (s := S4608x1024) ![1536, 0] S1536x1024.size inb_S4608x1024_S1536x1024_1536_0).toLoadRect ((hs0_4 t).unread (iblk m c 4 t))) (View.readAt (Elt Ideal) (ms0_0 t).view (Rect.unit (s := S512x4608) ![0, 3072] S512x1536.size inb_S512x4608_S512x1536_0_3072).toLoadRect ((hs0_0 t).unread (iblk m c 0 t))) (View.readAt (Elt Ideal) (ms0_4 t).view (Rect.unit (s := S4608x1024) ![3072, 0] S1536x1024.size inb_S4608x1024_S1536x1024_3072_0).toLoadRect ((hs0_4 t).unread (iblk m c 4 t)))) (ix2 p q) = dh (m ((c : Thread nD τ).loc main_arg0)) (m ((c : Thread nD τ).loc main_arg4)) (row t p) q := by
  refine (pay_dh _ _ _ _ _ _ _).trans ?_
  exact (congrArg₂ (fun a b : EReal => a + b) (congrArg₂ (fun a b : EReal => a + b) (piece m c t 0 (by omega) _ _ p q) (piece m c t 1536 (by omega) _ _ p q))
    (piece m c t 3072 (by omega) _ _ p q)).trans (three (prod (m ((c : Thread nD τ).loc main_arg0)) (m ((c : Thread nD τ).loc main_arg4)) (row t p) q))

/-- Point `t`'s tile of the gradient. -/
theorem grad_at (c : Dev nD) (t : Fin cfg0.N) (j : S512x1024.Idx) :
    k0_pay2 (F := Ideal) (k0_pay4 (F := Ideal) (View.readAt (Elt Ideal) (ms0_0 t).view (Rect.unit (s := S512x4608) ![0, 0] S512x1536.size inb_S512x4608_S512x1536_0_0).toLoadRect ((hs0_0 t).unread (iblk m c 0 t))) (View.readAt (Elt Ideal) (ms0_4 t).view (Rect.unit (s := S4608x1024) ![0, 0] S1536x1024.size inb_S4608x1024_S1536x1024_0_0).toLoadRect ((hs0_4 t).unread (iblk m c 4 t))) (View.readAt (Elt Ideal) (ms0_0 t).view (Rect.unit (s := S512x4608) ![0, 1536] S512x1536.size inb_S512x4608_S512x1536_0_1536).toLoadRect ((hs0_0 t).unread (iblk m c 0 t))) (View.readAt (Elt Ideal) (ms0_4 t).view (Rect.unit (s := S4608x1024) ![1536, 0] S1536x1024.size inb_S4608x1024_S1536x1024_1536_0).toLoadRect ((hs0_4 t).unread (iblk m c 4 t))) (View.readAt (Elt Ideal) (ms0_0 t).view (Rect.unit (s := S512x4608) ![0, 3072] S512x1536.size inb_S512x4608_S512x1536_0_3072).toLoadRect ((hs0_0 t).unread (iblk m c 0 t))) (View.readAt (Elt Ideal) (ms0_4 t).view (Rect.unit (s := S4608x1024) ![3072, 0] S1536x1024.size inb_S4608x1024_S1536x1024_3072_0).toLoadRect ((hs0_4 t).unread (iblk m c 4 t)))) (k0_pay5 (F := Ideal) (View.readAt (Elt Ideal) (ms0_1 t).view (Rect.unit (s := S512x1024) ![0, 0] S512x1024.size inb_S512x1024_S512x1024_0_0).toLoadRect ((hs0_1 t).unread (iblk m c 1 t)))) (k0_pay6 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_3 t).view (Rect.unit (s := S1x1024) ![0, 0] S1x1024.size inb_S1x1024_S1x1024_0_0).toLoadRect ((hs0_3 t).unread (iblk m c 3 t))) (View.readAt (Elt Ideal) (ms0_2 t).view (Rect.unit (s := S512x1024) ![0, 0] S512x1024.size inb_S512x1024_S512x1024_0_0).toLoadRect ((hs0_2 t).unread (iblk m c 2 t))) j
      = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (j 0)) (j 1)) := by
  have e : j = ix2 (j 0) (j 1) := Shape.idx_ext₂ rfl rfl
  refine (congrArg (k0_pay2 (F := Ideal) (k0_pay4 (F := Ideal) (View.readAt (Elt Ideal) (ms0_0 t).view (Rect.unit (s := S512x4608) ![0, 0] S512x1536.size inb_S512x4608_S512x1536_0_0).toLoadRect ((hs0_0 t).unread (iblk m c 0 t))) (View.readAt (Elt Ideal) (ms0_4 t).view (Rect.unit (s := S4608x1024) ![0, 0] S1536x1024.size inb_S4608x1024_S1536x1024_0_0).toLoadRect ((hs0_4 t).unread (iblk m c 4 t))) (View.readAt (Elt Ideal) (ms0_0 t).view (Rect.unit (s := S512x4608) ![0, 1536] S512x1536.size inb_S512x4608_S512x1536_0_1536).toLoadRect ((hs0_0 t).unread (iblk m c 0 t))) (View.readAt (Elt Ideal) (ms0_4 t).view (Rect.unit (s := S4608x1024) ![1536, 0] S1536x1024.size inb_S4608x1024_S1536x1024_1536_0).toLoadRect ((hs0_4 t).unread (iblk m c 4 t))) (View.readAt (Elt Ideal) (ms0_0 t).view (Rect.unit (s := S512x4608) ![0, 3072] S512x1536.size inb_S512x4608_S512x1536_0_3072).toLoadRect ((hs0_0 t).unread (iblk m c 0 t))) (View.readAt (Elt Ideal) (ms0_4 t).view (Rect.unit (s := S4608x1024) ![3072, 0] S1536x1024.size inb_S4608x1024_S1536x1024_3072_0).toLoadRect ((hs0_4 t).unread (iblk m c 4 t)))) (k0_pay5 (F := Ideal) (View.readAt (Elt Ideal) (ms0_1 t).view (Rect.unit (s := S512x1024) ![0, 0] S512x1024.size inb_S512x1024_S512x1024_0_0).toLoadRect ((hs0_1 t).unread (iblk m c 1 t)))) (k0_pay6 (F := Ideal) (View.readAt (Elt Ideal) (ms0_1 t).view (Rect.unit (s := S512x1024) ![0, 0] S512x1024.size inb_S512x1024_S512x1024_0_0).toLoadRect ((hs0_1 t).unread (iblk m c 1 t)))) (View.readAt (Elt Ideal) (ms0_3 t).view (Rect.unit (s := S1x1024) ![0, 0] S1x1024.size inb_S1x1024_S1x1024_0_0).toLoadRect ((hs0_3 t).unread (iblk m c 3 t))) (View.readAt (Elt Ideal) (ms0_2 t).view (Rect.unit (s := S512x1024) ![0, 0] S512x1024.size inb_S512x1024_S512x1024_0_0).toLoadRect ((hs0_2 t).unread (iblk m c 2 t)))) e).trans ((pay_grad _ _ _ _ (j 0) (j 1)).trans ?_)
  exact normBack_congr (fun k => load1 m c t (j 0) k) (fun k => dh_at m c t (j 0) k) (fun k => load3 m c t 0 k) (fun k => load2 m c t (j 0) k) (j 1)

/-- Point `t`'s part of the gradient of the scale. -/
theorem row_at (c : Dev nD) (t : Fin cfg0.N) (o : Fin 1) (q : Fin 1024) :
    k0_pay8 (F := Ideal) (View.readAt (Elt Ideal) (ms0_0 t).view (Rect.unit (s := S512x4608) ![0, 0] S512x1536.size inb_S512x4608_S512x1536_0_0).toLoadRect ((hs0_0 t).unread (iblk m c 0 t))) (View.readAt (Elt Ideal) (ms0_4 t).view (Rect.unit (s := S4608x1024) ![0, 0] S1536x1024.size inb_S4608x1024_S1536x1024_0_0).toLoadRect ((hs0_4 t).unread (iblk m c 4 t))) (View.readAt (Elt Ideal) (ms0_0 t).view (Rect.unit (s := S512x4608) ![0, 1536] S512x1536.size inb_S512x4608_S512x1536_0_1536).toLoadRect ((hs0_0 t).unread (iblk m c 0 t))) (View.readAt (Elt Ideal) (ms0_4 t).view (Rect.unit (s := S4608x1024) ![1536, 0] S1536x1024.size inb_S4608x1024_S1536x1024_1536_0).toLoadRect ((hs0_4 t).unread (iblk m c 4 t))) (View.readAt (Elt Ideal) (ms0_0 t).view (Rect.unit (s := S512x4608) ![0, 3072] S512x1536.size inb_S512x4608_S512x1536_0_3072).toLoadRect ((hs0_0 t).unread (iblk m c 0 t))) (View.readAt (Elt Ideal) (ms0_4 t).view (Rect.unit (s := S4608x1024) ![3072, 0] S1536x1024.size inb_S4608x1024_S1536x1024_3072_0).toLoadRect ((hs0_4 t).unread (iblk m c 4 t))) (View.readAt (Elt Ideal) (ms0_1 t).view (Rect.unit (s := S512x1024) ![0, 0] S512x1024.size inb_S512x1024_S512x1024_0_0).toLoadRect ((hs0_1 t).unread (iblk m c 1 t))) (ix2 o q) = ∑ p : Fin 512, term (m ((c : Thread nD τ).loc main_arg0)) (m ((c : Thread nD τ).loc main_arg1)) (m ((c : Thread nD τ).loc main_arg4)) q (row t p) := by
  refine (pay_row _ _ _ _ _ _ _ o q).trans (Finset.sum_congr rfl fun p _ => ?_)
  exact congrArg₂ (fun a b : EReal => a * b) (dh_at m c t p q) (congrArg₂ (fun a b : EReal => a * b) (load1 m c t p q) (congrArg rms (funext fun k => load1 m c t p k)))

/-- What point `t`'s stores leave of the gradient's block. -/
theorem tile5_A (c : Dev nD) (t : Fin cfg0.N) (h0 : t.val % 8 = 0) (y : S512x1024.Idx) :
    (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) : Vec Ideal S512x1024 .f32) y = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  unfold out0_A_5
  rw [View.read_writes_eq_canon _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t))]
  have hp : View.PiecesOf (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t)).1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) _ (View.PiecesOf.mem hp) y (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) y)
  unfold kernelRun0_A
  refine ⟨fun (x : S512x1024.Idx) => ?_, trivial⟩
  unfold kernelRun0_A.sl.r kernelRun0_A.sl.r_1 kernelRun0_A.sl.r_2
  refine (grad_at m c t x).trans (congrArg (grad (m ((c : Thread nD τ).loc main_arg0)) (m ((c : Thread nD τ).loc main_arg1)) (m ((c : Thread nD τ).loc main_arg2)) (m ((c : Thread nD τ).loc main_arg3)) (m ((c : Thread nD τ).loc main_arg4))) (Shape.idx_ext₂ ?_ ?_))
  · show t.val * 512 + (x 0).val = t.val * 512 + (0 + 1 * (x 0).val); omega
  · show (x 1).val = 0 + 1 * (x 1).val; omega

/-- What point `t`'s stores leave of the gradient's block. -/
theorem tile5_B (c : Dev nD) (t : Fin cfg0.N) (h0 : ¬t.val % 8 = 0) (xo : Vec Ideal S8x1024 .f32) (y : S512x1024.Idx) :
    (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) xo : Vec Ideal S512x1024 .f32) y = grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1)) := by
  unfold out0_B_5
  rw [View.read_writes_eq_canon _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) xo)]
  have hp : View.PiecesOf (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) (kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) xo).1 := ?_
  · exact View.canon_apply_of_pieces (fun y : S512x1024.Idx => grad (m ((c : Thread nD τ).loc main_arg0)) (m ((c : Thread nD τ).loc main_arg1)) (m ((c : Thread nD τ).loc main_arg2)) (m ((c : Thread nD τ).loc main_arg3)) (m ((c : Thread nD τ).loc main_arg4)) (ix2 (row t (y 0)) (y 1))) _ (View.PiecesOf.mem hp) y (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) xo y)
  unfold kernelRun0_B
  refine ⟨fun (x : S512x1024.Idx) => ?_, trivial⟩
  unfold kernelRun0_B.sl.r kernelRun0_B.sl.r_1 kernelRun0_B.sl.r_2
  refine (grad_at m c t x).trans (congrArg (grad (m ((c : Thread nD τ).loc main_arg0)) (m ((c : Thread nD τ).loc main_arg1)) (m ((c : Thread nD τ).loc main_arg2)) (m ((c : Thread nD τ).loc main_arg3)) (m ((c : Thread nD τ).loc main_arg4))) (Shape.idx_ext₂ ?_ ?_))
  · show t.val * 512 + (x 0).val = t.val * 512 + (0 + 1 * (x 0).val); omega
  · show (x 1).val = 0 + 1 * (x 1).val; omega

/-- The gradient's array after the run. -/
theorem final5 (c : Dev nD) : (dats m 0 c).arrAt 5 cfg0.N = grad (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_cover 5 _ (fun t _ => ?_) cover5
  by_cases h0 : t.val % 8 = 0
  · rw [Value.flushed5_A m c t h0]
    funext j
    show (out0_A_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) : Vec Ideal S512x1024 .f32) j = grad (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
    rw [emb5, tile5_A (h0 := h0)]
    rfl
  · rw [Value.flushed5_B m c t h0]
    funext j
    show (out0_B_5 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2 : Vec Ideal S512x1024 .f32) j = grad (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb j)
    rw [emb5, tile5_B]
    rfl

/-- The accumulator after the first point. -/
theorem acc_A (c : Dev nD) (t : Fin cfg0.N) (h0 : t.val % 8 = 0) (y : S8x1024.Idx) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) : Vec Ideal S8x1024 .f32) y
      = if (y 0).val = 0 then 0 + ∑ p : Fin 512, term (m ((c : Thread nD τ).loc main_arg0)) (m ((c : Thread nD τ).loc main_arg1)) (m ((c : Thread nD τ).loc main_arg4)) (y 1) (row t p) else 0 := by
  unfold out0_A_6 kernelRun0_A
  by_cases h : (y 0).val = 0
  · rw [if_pos h]
    refine (View.read_writes_cons_unit_of_mem _ _ inb_S8x1024_S1x1024_0_0 _ _ y (ix2 (0 : Fin 1) (y 1)) rfl (fun a => ?_)).trans ?_
    · match a with
      | ⟨0, _⟩ => exact h
      | ⟨1, _⟩ => exact (Nat.zero_add _).symm
    · unfold kernelRun0_A.sl.r_3 kernelRun0_A.sl.r_4 kernelRun0_A.sl.v28 kernelRun0_A.sl.H6_1
      refine congrArg₂ (fun a b : EReal => a + b) ((pay_acc _ _).trans ?_) (row_at m c t 0 (y 1))
      refine (congrFun (View.readCov_eq_canon' _ _ _) _).trans ?_
      refine (congrFun (View.canon_unit_zero (funext fun a => by fin_cases a <;> rfl) _ _) _).trans ?_
      exact pay_zero _
  · rw [if_neg h]
    refine (View.read_writes_cons_unit_of_not_mem _ _ inb_S8x1024_S1x1024_0_0 _ _ y rfl (0 : Fin 2) (Or.inr ?_)).trans ?_
    · show 0 + 1 ≤ (y 0).val; omega
    · unfold kernelRun0_A.sl.H6_1
      refine (View.read_writes_cons_unit_of_mem _ _ inb_S8x1024_S8x1024_0_0 _ _ y y rfl (fun a => ?_)).trans (pay_zero _)
      match a with
      | ⟨0, _⟩ => exact (Nat.zero_add _).symm
      | ⟨1, _⟩ => exact (Nat.zero_add _).symm

/-- The accumulator after a later point. -/
theorem acc_B (c : Dev nD) (t : Fin cfg0.N) (h0 : ¬t.val % 8 = 0) (xo : Vec Ideal S8x1024 .f32) (y : S8x1024.Idx) :
    (out0_B_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (fun h => h0 ((hcond0_0 t).mp h)) (iblk m c 0 t) (iblk m c 1 t) (iblk m c 2 t) (iblk m c 3 t) (iblk m c 4 t) xo : Vec Ideal S8x1024 .f32) y
      = if (y 0).val = 0 then xo y + ∑ p : Fin 512, term (m ((c : Thread nD τ).loc main_arg0)) (m ((c : Thread nD τ).loc main_arg1)) (m ((c : Thread nD τ).loc main_arg4)) (y 1) (row t p) else xo y := by
  unfold out0_B_6 kernelRun0_B
  by_cases h : (y 0).val = 0
  · rw [if_pos h]
    refine (View.read_writes_cons_unit_of_mem _ _ inb_S8x1024_S1x1024_0_0 _ _ y (ix2 (0 : Fin 1) (y 1)) rfl (fun a => ?_)).trans ?_
    · match a with
      | ⟨0, _⟩ => exact h
      | ⟨1, _⟩ => exact (Nat.zero_add _).symm
    · unfold kernelRun0_B.sl.r_3 kernelRun0_B.sl.r_4
      refine congrArg₂ (fun a b : EReal => a + b) ((pay_acc _ _).trans ?_) (row_at m c t 0 (y 1))
      refine ((hs0_6 t).readAt_unread _ _ _).trans (congrArg xo (Shape.idx_ext₂ ?_ ?_))
      · exact h.symm
      · exact (Nat.zero_add _).trans (Nat.one_mul _)
  · rw [if_neg h]
    refine (View.read_writes_cons_unit_of_not_mem _ _ inb_S8x1024_S1x1024_0_0 _ _ y rfl (0 : Fin 2) (Or.inr ?_)).trans ?_
    · show 0 + 1 ≤ (y 0).val; omega
    · exact congrFun ((hs0_6 t).read_unread xo) y

/-- The first point's rows, as the sum over the rows so far. -/
theorem first_rows (f : Fin 4096 → EReal) (t : Fin cfg0.N) (ht : t.val = 0) : 0 + ∑ p : Fin 512, f (row t p) = upTo f ((t.val + 1) * 512) := by
  have e := upTo_add f t.val t.isLt (fun p => f (row t p)) fun p => rfl
  refine Eq.trans ?_ e
  refine congrArg (fun z : EReal => z + ∑ p : Fin 512, f (row t p)) ?_
  rw [ht, Nat.zero_mul]
  exact (upTo_zero f).symm

/-- The first point's accumulator at an index. -/
theorem acc_first_at (c : Dev nD) (t : Fin cfg0.N) (ht : t.val = 0) (h0 : t.val % 8 = 0) (y : S8x1024.Idx) :
    (out0_A_6 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) ((hcond0_0 t).mpr h0) (iblk m c 0 t) (iblk m c 1 t) (iblk m c 2 t) (iblk m c 3 t) (iblk m c 4 t) : Vec Ideal S8x1024 .f32) y = acc (m ((c : Thread nD τ).loc main_arg0)) (m ((c : Thread nD τ).loc main_arg1)) (m ((c : Thread nD τ).loc main_arg4)) ((t.val + 1) * 512) y := by
  refine (acc_A m c t h0 y).trans ?_
  unfold acc
  by_cases h : (y 0).val = 0
  · rw [if_pos h, if_pos h]
    exact first_rows _ t ht
  · rw [if_neg h, if_neg h]

/-- The accumulator after the first point, as a sum. -/
theorem acc_first (c : Dev nD) (t : Fin cfg0.N) (ht : t.val = 0) (h0 : t.val % 8 = 0) :
    (outsAt0 m c t.val t.isLt).2 = acc (m ((c : Thread nD τ).loc main_arg0)) (m ((c : Thread nD τ).loc main_arg1)) (m ((c : Thread nD τ).loc main_arg4)) ((t.val + 1) * 512) :=
  (snd_of (outsAt0_A m c t h0)).trans (funext fun y => acc_first_at m c t ht h0 y)

/-- A later point adds its rows. -/
theorem acc_succ (c : Dev nD) (n : ℕ) (hN : n + 1 < 8) (hn : n + 1 < cfg0.N) (ih : (outsAt0 m c n (Nat.lt_of_succ_lt hn)).2 = acc (m ((c : Thread nD τ).loc main_arg0)) (m ((c : Thread nD τ).loc main_arg1)) (m ((c : Thread nD τ).loc main_arg4)) ((n + 1) * 512)) :
    (outsAt0 m c (n + 1) hn).2 = acc (m ((c : Thread nD τ).loc main_arg0)) (m ((c : Thread nD τ).loc main_arg1)) (m ((c : Thread nD τ).loc main_arg4)) ((n + 1 + 1) * 512) := by
  have h0 : ¬(⟨n + 1, hn⟩ : Fin cfg0.N).val % 8 = 0 := by show ¬(n + 1) % 8 = 0; omega
  refine (snd_of (outsAt0_B m c ⟨n + 1, hn⟩ h0)).trans (funext fun y => ?_)
  refine (acc_B m c ⟨n + 1, hn⟩ h0 _ y).trans ?_
  have e := upTo_add (term (m ((c : Thread nD τ).loc main_arg0)) (m ((c : Thread nD τ).loc main_arg1)) (m ((c : Thread nD τ).loc main_arg4)) (y 1)) (n + 1) hN (fun p => term (m ((c : Thread nD τ).loc main_arg0)) (m ((c : Thread nD τ).loc main_arg1)) (m ((c : Thread nD τ).loc main_arg4)) (y 1) (row ⟨n + 1, hn⟩ p)) fun p => rfl
  have ihy : (outsAt0 m c n (Nat.lt_of_succ_lt hn)).2 y = if (y 0).val = 0 then upTo (term (m ((c : Thread nD τ).loc main_arg0)) (m ((c : Thread nD τ).loc main_arg1)) (m ((c : Thread nD τ).loc main_arg4)) (y 1)) ((n + 1) * 512) else 0 := congrFun ih y
  show (if (y 0).val = 0 then (outsAt0 m c n (Nat.lt_of_succ_lt hn)).2 y + ∑ p : Fin 512, term (m ((c : Thread nD τ).loc main_arg0)) (m ((c : Thread nD τ).loc main_arg1)) (m ((c : Thread nD τ).loc main_arg4)) (y 1) (row ⟨n + 1, hn⟩ p)
      else (outsAt0 m c n (Nat.lt_of_succ_lt hn)).2 y) = if (y 0).val = 0 then upTo (term (m ((c : Thread nD τ).loc main_arg0)) (m ((c : Thread nD τ).loc main_arg1)) (m ((c : Thread nD τ).loc main_arg4)) (y 1)) ((n + 1 + 1) * 512) else 0
  rw [ihy]
  by_cases h : (y 0).val = 0
  · rw [if_pos h, if_pos h, if_pos h, e]
  · rw [if_neg h, if_neg h, if_neg h]

/-- The accumulator after point `n`: the sum over the rows of the points so far. -/
theorem acc_at (c : Dev nD) (n : ℕ) : ∀ hn : n < cfg0.N, (outsAt0 m c n hn).2 = acc (m ((c : Thread nD τ).loc main_arg0)) (m ((c : Thread nD τ).loc main_arg1)) (m ((c : Thread nD τ).loc main_arg4)) ((n + 1) * 512) := by
  induction n with
  | zero => exact fun hn => acc_first m c ⟨0, hn⟩ rfl rfl
  | succ n ih => exact fun hn => acc_succ m c n hn hn (ih (Nat.lt_of_succ_lt hn))

/-- The accumulator's block is its array. -/
theorem idx6 : ∀ t : Fin cfg0.N, win0_6.index t (0 : Fin 2) = 0 ∧ win0_6.index t (1 : Fin 2) = 0 ∧ ((cfg0.win 6).flush t = true ↔ t.val = 7) :=
  (by decide +kernel : ∀ t : Fin grid0.N, _)

/-- So an index of the block is that index of the array. -/
theorem emb6 (t : Fin cfg0.N) (j : S8x1024.Idx) : ((cfg0.win 6).blk t).view.emb j = j := by
  refine Shape.idx_ext₂ ?_ ?_
  · refine (Window.rect_emb_val win0_6 t j (0 : Fin 2)).trans ?_
    rw [(idx6 t).1, Nat.zero_mul, Nat.zero_add]
  · refine (Window.rect_emb_val win0_6 t j (1 : Fin 2)).trans ?_
    rw [(idx6 t).2.1, Nat.zero_mul, Nat.zero_add]

/-- The last point writes all of it. -/
theorem cover6 (i : S8x1024.Idx) : ∃ t : Fin cfg0.N, (cfg0.win 6).flush t = true ∧ i ∈ ((cfg0.win 6).blk t).view.set := by
  have l0 : (i 0).val < 8 := (i 0).isLt
  have l1 : (i 1).val < 1024 := (i 1).isLt
  have hN : cfg0.N = 8 := by decide +kernel
  let t : Fin cfg0.N := ⟨7, by rw [hN]; omega⟩
  refine ⟨t, (idx6 t).2.2.2 rfl, ?_⟩
  show i ∈ ((View.whole (Pipeline.arrRef spec0 6)).slice (win0_6.rect t)).set
  rw [View.set_slice_whole, Rect.mem_set_unit]
  intro a
  match a with
  | ⟨0, _⟩ =>
    show win0_6.index t (0 : Fin 2) * 8 ≤ (i 0).val ∧ (i 0).val < win0_6.index t (0 : Fin 2) * 8 + 8
    rw [(idx6 t).1]
    omega
  | ⟨1, _⟩ =>
    show win0_6.index t (1 : Fin 2) * 1024 ≤ (i 1).val ∧ (i 1).val < win0_6.index t (1 : Fin 2) * 1024 + 1024
    rw [(idx6 t).2.1]
    omega

/-- The accumulator's array after the run. -/
theorem final6 (c : Dev nD) : (dats m 0 c).arrAt 6 cfg0.N = acc (m ((c : Thread nD τ).loc main_arg0)) (m ((c : Thread nD τ).loc main_arg1)) (m ((c : Thread nD τ).loc main_arg4)) 4096 := by
  refine (dats m 0 c).arrAt_eq_of_cover 6 _ (fun t hf => ?_) cover6
  have h7 : t.val = 7 := (idx6 t).2.2.1 hf
  rw [Value.flushed6]
  funext j
  show (outsAt0 m c t.val t.isLt).2 j = acc (m ((c : Thread nD τ).loc main_arg0)) (m ((c : Thread nD τ).loc main_arg1)) (m ((c : Thread nD τ).loc main_arg4)) 4096 (((cfg0.win 6).blk t).view.emb j)
  rw [acc_at, emb6]
  exact congrArg (fun n => acc (m ((c : Thread nD τ).loc main_arg0)) (m ((c : Thread nD τ).loc main_arg1)) (m ((c : Thread nD τ).loc main_arg4)) n j) (by rw [h7])

section Reference

variable (x0 : Vec Ideal S4096x4608 .bf16) (x1 x2 : Vec Ideal S4096x1024 .f32) (x3 : Vec Ideal S1x1024 .f32) (x4 : Vec Ideal S1024x4608 .f32)

open Cert.InBwdRefIdeal.Read

/-- The reference's mean square. -/
theorem ref_ms (i : Cert.InBwdRefIdeal.S4096x1.Idx) : Cert.InBwdRefIdeal.Read.val_main_v6 (F := Ideal) x1 i = meanSq fun k => x1 (ix2 (i 0) k) := by
  rw [val_main_v6_apply, val_main_v4_apply, val_main_v2_apply, val_main_v1_apply]
  refine congrArg (fun z : EReal => Ideal.div z (Ideal.ofBits .f32 0x44800000#32) + Ideal.ofBits .f32 0x358637BD#32) ?_
  refine (congrArg₂ (fun a b : EReal => a + b) bits_zero (Finset.sum_congr rfl fun k _ => ?_)).trans (zero_add _)
  exact congrArg (fun z : S4096x1024.Idx => (x1 z * x1 z : EReal)) (Shape.idx_ext₂ rfl rfl)

/-- The reference's reciprocal root. -/
theorem ref_rms (i : Cert.InBwdRefIdeal.S4096x1.Idx) : Cert.InBwdRefIdeal.Read.val_main_v7 (F := Ideal) x1 i = rms fun k => x1 (ix2 (i 0) k) := by
  rw [val_main_v7_apply]
  exact congrArg Ideal.rsqrt (ref_ms x1 i)

/-- The reference's normalised rows. -/
theorem ref_xh (i : S4096x1024.Idx) : Cert.InBwdRefIdeal.Read.val_main_v12 (F := Ideal) x1 i = (x1 i * rms fun k => x1 (ix2 (i 0) k) : EReal) := by
  rw [val_main_v12_apply, val_main_v11_apply]
  exact congrArg (fun z : EReal => x1 i * z) (ref_rms x1 _)

/-- The reference's projected cotangent. -/
theorem ref_dh (i : S4096x1024.Idx) : Cert.InBwdRefIdeal.Read.val_main_v17 (F := Ideal) x0 x4 i = dh x0 x4 (i 0) (i 1) := by
  rw [val_main_v17_apply]
  refine Finset.sum_congr rfl fun k _ => ?_
  exact congrArg₂ (fun a b : EReal => a * b) (congrArg x0 (Shape.idx_ext₂ rfl rfl)) (congrArg x4 (Shape.idx_ext₂ rfl rfl))

/-- Times the scale. -/
theorem ref_dhg (i : S4096x1024.Idx) : Cert.InBwdRefIdeal.Read.val_main_v22 (F := Ideal) x0 x3 x4 i = (dh x0 x4 (i 0) (i 1) * x3 (ix2 0 (i 1)) : EReal) := by
  rw [val_main_v22_apply, val_main_v21_apply]
  exact congrArg₂ (fun a b : EReal => a * b) (ref_dh x0 x4 i) (congrArg x3 (Shape.idx_ext₂ rfl rfl))

/-- The reference's gradient of the mean square. -/
theorem ref_mean (i : S4096x1024.Idx) : Cert.InBwdRefIdeal.Read.val_main_v33 (F := Ideal) x0 x1 x3 x4 i
    = normMean (fun k => x1 (ix2 (i 0) k)) (fun k => dh x0 x4 (i 0) k) (fun k => x3 (ix2 0 k)) := by
  rw [val_main_v33_apply, val_main_v32_apply, Fin.sum_univ_one, val_main_v31_apply, val_main_v29_apply, val_main_v25_apply, val_main_v24_apply,
    val_main_v10_apply, val_main_v8_apply, ref_rms, ref_ms]
  refine (congrArg₂ (fun a b : EReal => a + b) bits_zero ?_).trans (zero_add _)
  refine congrArg (fun z : EReal => Ideal.div z (Ideal.ofBits .f32 0x44800000#32)) ?_
  refine congrArg₂ (fun a b : EReal => a * b) ?_ rfl
  refine (congrArg₂ (fun a b : EReal => a + b) bits_zero (Finset.sum_congr rfl fun k _ => ?_)).trans (zero_add _)
  rw [val_main_v23_apply, ref_dhg]
  have e : idx_main_v24 (idx_main_v25 (idx_main_v32 (idx_main_v33 i) 0)) k = ix2 (i 0) k :=
    Shape.idx_ext₂ (by show (i 0).val * 1 + 0 = (i 0).val; omega) rfl
  rw [e]
  rfl

/-- The reference's gradient of the rows, at an index. -/
theorem ref_grad_at (p : Fin 4096) (q : Fin 1024) :
    Cert.InBwdRefIdeal.Read.val_main_v37 (F := Ideal) x0 x1 x2 x3 x4 (ix2 p q) = grad x0 x1 x2 x3 x4 (ix2 p q) := by
  rw [val_main_v37_apply, val_main_v36_apply, val_main_v35_apply, val_main_v34_apply, val_main_v28_apply, val_main_v27_apply, val_main_v26_apply,
    ref_mean, ref_dhg, ref_rms]
  exact normBack_eq (fun k => x1 (ix2 p k)) (fun k => dh x0 x4 p k) (fun k => x3 (ix2 0 k)) (fun k => x2 (ix2 p k)) q

/-- The reference's gradient of the rows. -/
theorem ref_grad :
    Cert.InBwdRefIdeal.Read.val_main_v37 (F := Ideal) x0 x1 x2 x3 x4 = grad x0 x1 x2 x3 x4 := by
  funext i
  have e : i = ix2 (i 0) (i 1) := Shape.idx_ext₂ rfl rfl
  exact (congrArg (Cert.InBwdRefIdeal.Read.val_main_v37 (F := Ideal) x0 x1 x2 x3 x4) e).trans ((ref_grad_at x0 x1 x2 x3 x4 (i 0) (i 1)).trans (congrArg (grad x0 x1 x2 x3 x4) e.symm))

/-- The reference's gradient of the scale. -/
theorem ref_row (i : S1x1024.Idx) : Cert.InBwdRefIdeal.Read.val_main_v20 (F := Ideal) x0 x1 x4 i = ∑ k, term x0 x1 x4 (i 1) k := by
  have l0 : (i 0).val < 1 := (i 0).isLt
  rw [val_main_v20_apply, val_main_v19_apply]
  refine (congrArg₂ (fun a b : EReal => a + b) bits_zero (Finset.sum_congr rfl fun k _ => ?_)).trans (zero_add _)
  rw [val_main_v18_apply, ref_xh, ref_dh]
  have e : idx_main_v19 (idx_main_v20 i) k = ix2 k (i 1) :=
    Shape.idx_ext₂ rfl (by show (i 0).val * 1024 + (i 1).val = (i 1).val; omega)
  rw [e]
  exact mul_comm _ _

/-- The reference's gradient of the scale, in the first of eight rows. -/
theorem ref_acc : Cert.InBwdRefIdeal.Read.val_main_v38 (F := Ideal) x0 x1 x4 = acc x0 x1 x4 4096 := by
  funext y
  have l : (y 0).val < 8 := (y 0).isLt
  unfold val_main_v38 acc
  by_cases h : (y 0).val = 0
  · rw [if_pos h, upTo_all]
    refine (pad_apply_of_inside _ _ _ _ _ _ _ y (ix2 (0 : Fin 1) (y 1)) (fun a => ?_)).trans ?_
    · match a with
      | ⟨0, _⟩ => exact h
      | ⟨1, _⟩ => show (y 1).val = 0 + (y 1).val * (0 + 1); omega
    · exact ref_row x0 x1 x4 (ix2 (0 : Fin 1) (y 1))
  · rw [if_neg h]
    refine (pad_apply_of_not_inside _ _ _ _ _ _ _ y (0 : Fin 2) (fun hin => h ?_)).trans ?_
    · have e : ((y 0).val - 0) / (0 + 1) < 1 := hin.2.2
      omega
    · rw [val_main_call0_v0_apply, val_main_c_apply]
      show (((0#32 : BitVec 32).toInt : ℝ) : EReal) = 0
      simp

end Reference

/-- The kernel's body table is the ideal kernel's, whose text is the same. -/
theorem defs₀_eq {F : FTy → Type} [FloatOps F] : Cert.InBwd.defs₀ (F := F) = Cert.InBwdIdeal.defs₀ (F := F) :=
  congrArg Defs.onTc (funext fun l => funext fun a => by
    match l, a with
    | 0, (t, s) => rfl)

/-- With the pipeline's labels, too. -/
theorem defs_eq {F : FTy → Type} [FloatOps F] : Cert.InBwd.defs (F := F) = Cert.InBwdIdeal.defs (F := F) :=
  congrArg (fun d => Pipeline.defs Cert.InBwd.pcfgs d) defs₀_eq

/-- The kernel's frame. -/
theorem frame_P : Cert.quiescent_InBwd := fun m ρ _ => by
  rw [defs_eq]
  exact Cert.InBwdIdeal.Gen.frame (F := Bits) m ρ

/-- The ideal kernel's frame. -/
theorem frame_PI : Cert.quiescent_InBwdIdeal := fun m ρ _ => Cert.InBwdIdeal.Gen.frame (F := Ideal) m ρ

/-- The reference's frame. -/
theorem frame_RI : Cert.quiescent_InBwdRefIdeal := fun m ρ _ =>
  (θ_run Cert.InBwdRefIdeal.defs _ _).mono (fun r h => ⟨fun c => (h c).2.2,
      Idealize.ShloMosaic.sem_eq_zero_of_no_sems (by decide) r.2⟩)
    (Cert.InBwdRefIdeal.Value.run (F := Ideal) m ρ)

/-- Kernel and reference agree at every index. -/
theorem algebraic : Cert.algebraic_InBwdIdeal_InBwdRefIdeal := by
  intro m g m' g' _ hargs
  refine ⟨fun c => grad (m ((c : Thread nD τ).loc main_arg0)) (m ((c : Thread nD τ).loc main_arg1)) (m ((c : Thread nD τ).loc main_arg2)) (m ((c : Thread nD τ).loc main_arg3)) (m ((c : Thread nD τ).loc main_arg4)), fun c => acc (m ((c : Thread nD τ).loc main_arg0)) (m ((c : Thread nD τ).loc main_arg1)) (m ((c : Thread nD τ).loc main_arg4)) 4096, ?_, ?_⟩
  · exact (θ_run _ _ _).mono (fun r h c => ⟨(h c).1.trans (final5 m c), (h c).2.1.trans (final6 m c), (h c).2.2⟩)
      (Value.run_blocks (F := Ideal) m g)
  · refine (θ_run _ _ _).mono (fun r h c => ⟨?_, ?_, (h c).2.2⟩) (Cert.InBwdRefIdeal.Value.run (F := Ideal) m' g')
    · obtain ⟨a0, a1, a2, a3, a4⟩ := hargs c
      refine (h c).1.trans ((Cert.InBwdRefIdeal.Read.val_main_v37_eq _ _).trans ?_)
      rw [a0, a1, a2, a3, a4]
      exact ref_grad _ _ _ _ _
    · obtain ⟨a0, a1, a2, a3, a4⟩ := hargs c
      refine (h c).2.1.trans ((Cert.InBwdRefIdeal.Read.val_main_v38_eq _ _ _).trans ?_)
      rw [a0, a1, a4]
      exact ref_acc _ _ _

end Cert.Proof.InBwd

end
-- ==== Proof.Merge.lean ====
/-
  `Merge`: the merge of the two mixers, the output projection and the norm after it (the call `merge_out`), as the kernel computes
  it on tiles of 512 rows, against the same lines written plainly.  The kernel writes the logistic function by the hyperbolic
  tangent; over the extended reals the two are one function (`Reals.sigmoid_eq`).
-/
module

public import proofs.«01_k».proof.Defs
public import proofs.«01_k».proof.Proof.Gen.Merge
public import proofs.«01_k».proof.Proof.Gen.MergeIdeal
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Reals
public import Idealize.ShloMosaic.Lib.Pointwise

@[expose] public section

set_option maxRecDepth 16384

noncomputable section

namespace Cert.Proof.Merge

open Idealize.ShloMosaic Idealize.ShloMosaic.TcCoe Idealize.SL.Sem
open Cert.MergeIdeal Cert.MergeIdeal.Gen
open Idealize.ShloMosaic.Pipeline (Dat Cfg Window)

variable (m : (ℓ : Loc nD τ sig) → Buf (Elt Ideal) ℓ)

/-- The merged mixers: each gated by the logistic function of its columns of the projection. -/
def mix (proj : Vec Ideal S4096x4608 .f32) (yp yr : Vec Ideal S4096x1024 .bf16) (p : Fin 4096) (q : Fin 1024) : EReal :=
  Ideal.logistic (proj (ix2 p (⟨2560 + q.val, by omega⟩ : Fin 4608))) * yp (ix2 p q)
    + Ideal.logistic (proj (ix2 p (⟨3584 + q.val, by omega⟩ : Fin 4608))) * yr (ix2 p q)

/-- The residual stream after the output projection. -/
def resid (x : Vec Ideal S4096x1024 .f32) (proj : Vec Ideal S4096x4608 .f32) (yp yr : Vec Ideal S4096x1024 .bf16)
    (w : Vec Ideal S1024x1024 .f32) (p : Fin 4096) (q : Fin 1024) : EReal :=
  x (ix2 p q) + ∑ k : Fin 1024, mix proj yp yr p k * w (ix2 k q)

/-- Its row normalised and scaled. -/
def normed (x : Vec Ideal S4096x1024 .f32) (proj : Vec Ideal S4096x4608 .f32) (yp yr : Vec Ideal S4096x1024 .bf16)
    (w : Vec Ideal S1024x1024 .f32) (g : Vec Ideal S1x1024 .f32) (p : Fin 4096) (q : Fin 1024) : EReal :=
  resid x proj yp yr w p q
    * Ideal.rsqrt (Ideal.div (∑ k : Fin 1024, resid x proj yp yr w p k * resid x proj yp yr w p k) (Ideal.ofBits .f32 0x44800000#32)
        + Ideal.ofBits .f32 0x358637BD#32)
    * g (ix2 0 q)

/-- The region's projection weights: the argument, its change of format the identity. -/
theorem V_w (c : Dev nD) : (V m c main_v0 : Vec Ideal S1024x1024 .bf16) = (m ((c : Thread nD τ).loc main_arg4) : Vec Ideal S1024x1024 .f32) := by
  unfold V
  after_results_simp
  rfl

/-- The array row that row `p` of point `t`'s block is. -/
abbrev row (t : Fin cfg0.N) (p : Fin 512) : Fin 4096 := ⟨t.val * 512 + p.val, by
  have h : t.val < 8 := t.isLt
  omega⟩

/-- Where window 0's block lies. -/
theorem idx0 : ∀ t : Fin cfg0.N, win0_0.index t (0 : Fin 2) = t.val ∧ win0_0.index t (1 : Fin 2) = 0 :=
  (by decide +kernel : ∀ t : Fin grid0.N, _)

/-- What window 0's block holds at point `t`. -/
theorem block0 (c : Dev nD) (t : Fin cfg0.N) (j : S512x1024.Idx) :
    (iblk m c 0 t : Vec Ideal S512x1024 .f32) j = (m ((c : Thread nD τ).loc main_arg0)) (ix2 (row t (j 0)) (j 1)) := by
  have e : ((cfg0.win 0).blk t).view.emb j = (ix2 (row t (j 0)) (j 1)) := by
    refine Shape.idx_ext₂ ?_ ?_
    · refine (Window.rect_emb_val win0_0 t j (0 : Fin 2)).trans ?_
      rw [(idx0 t).1]; rfl
    · refine (Window.rect_emb_val win0_0 t j (1 : Fin 2)).trans ?_
      rw [(idx0 t).2]; rw [Nat.zero_mul, Nat.zero_add]; rfl
  exact (congrFun (V_main_arg0 m c) _).trans (congrArg ((m ((c : Thread nD τ).loc main_arg0))) e)

/-- Where window 1's block lies. -/
theorem idx1 : ∀ t : Fin cfg0.N, win0_1.index t (0 : Fin 2) = t.val ∧ win0_1.index t (1 : Fin 2) = 5 :=
  (by decide +kernel : ∀ t : Fin grid0.N, _)

/-- What window 1's block holds at point `t`. -/
theorem block1 (c : Dev nD) (t : Fin cfg0.N) (j : S512x512.Idx) :
    (iblk m c 1 t : Vec Ideal S512x512 .f32) j = (m ((c : Thread nD τ).loc main_arg1)) (ix2 (row t (j 0)) (⟨2560 + (j 1).val, by have h : (j 1).val < 512 := (j 1).isLt; omega⟩ : Fin 4608)) := by
  have e : ((cfg0.win 1).blk t).view.emb j = (ix2 (row t (j 0)) (⟨2560 + (j 1).val, by have h : (j 1).val < 512 := (j 1).isLt; omega⟩ : Fin 4608)) := by
    refine Shape.idx_ext₂ ?_ ?_
    · refine (Window.rect_emb_val win0_1 t j (0 : Fin 2)).trans ?_
      rw [(idx1 t).1]; rfl
    · refine (Window.rect_emb_val win0_1 t j (1 : Fin 2)).trans ?_
      rw [(idx1 t).2]; rfl
  exact (congrFun (V_main_arg1 m c) _).trans (congrArg ((m ((c : Thread nD τ).loc main_arg1))) e)

/-- Where window 2's block lies. -/
theorem idx2 : ∀ t : Fin cfg0.N, win0_2.index t (0 : Fin 2) = t.val ∧ win0_2.index t (1 : Fin 2) = 6 :=
  (by decide +kernel : ∀ t : Fin grid0.N, _)

/-- What window 2's block holds at point `t`. -/
theorem block2 (c : Dev nD) (t : Fin cfg0.N) (j : S512x512.Idx) :
    (iblk m c 2 t : Vec Ideal S512x512 .f32) j = (m ((c : Thread nD τ).loc main_arg1)) (ix2 (row t (j 0)) (⟨3072 + (j 1).val, by have h : (j 1).val < 512 := (j 1).isLt; omega⟩ : Fin 4608)) := by
  have e : ((cfg0.win 2).blk t).view.emb j = (ix2 (row t (j 0)) (⟨3072 + (j 1).val, by have h : (j 1).val < 512 := (j 1).isLt; omega⟩ : Fin 4608)) := by
    refine Shape.idx_ext₂ ?_ ?_
    · refine (Window.rect_emb_val win0_2 t j (0 : Fin 2)).trans ?_
      rw [(idx2 t).1]; rfl
    · refine (Window.rect_emb_val win0_2 t j (1 : Fin 2)).trans ?_
      rw [(idx2 t).2]; rfl
  exact (congrFun (V_main_arg1 m c) _).trans (congrArg ((m ((c : Thread nD τ).loc main_arg1))) e)

/-- Where window 3's block lies. -/
theorem idx3 : ∀ t : Fin cfg0.N, win0_3.index t (0 : Fin 2) = t.val ∧ win0_3.index t (1 : Fin 2) = 7 :=
  (by decide +kernel : ∀ t : Fin grid0.N, _)

/-- What window 3's block holds at point `t`. -/
theorem block3 (c : Dev nD) (t : Fin cfg0.N) (j : S512x512.Idx) :
    (iblk m c 3 t : Vec Ideal S512x512 .f32) j = (m ((c : Thread nD τ).loc main_arg1)) (ix2 (row t (j 0)) (⟨3584 + (j 1).val, by have h : (j 1).val < 512 := (j 1).isLt; omega⟩ : Fin 4608)) := by
  have e : ((cfg0.win 3).blk t).view.emb j = (ix2 (row t (j 0)) (⟨3584 + (j 1).val, by have h : (j 1).val < 512 := (j 1).isLt; omega⟩ : Fin 4608)) := by
    refine Shape.idx_ext₂ ?_ ?_
    · refine (Window.rect_emb_val win0_3 t j (0 : Fin 2)).trans ?_
      rw [(idx3 t).1]; rfl
    · refine (Window.rect_emb_val win0_3 t j (1 : Fin 2)).trans ?_
      rw [(idx3 t).2]; rfl
  exact (congrFun (V_main_arg1 m c) _).trans (congrArg ((m ((c : Thread nD τ).loc main_arg1))) e)

/-- Where window 4's block lies. -/
theorem idx4 : ∀ t : Fin cfg0.N, win0_4.index t (0 : Fin 2) = t.val ∧ win0_4.index t (1 : Fin 2) = 8 :=
  (by decide +kernel : ∀ t : Fin grid0.N, _)

/-- What window 4's block holds at point `t`. -/
theorem block4 (c : Dev nD) (t : Fin cfg0.N) (j : S512x512.Idx) :
    (iblk m c 4 t : Vec Ideal S512x512 .f32) j = (m ((c : Thread nD τ).loc main_arg1)) (ix2 (row t (j 0)) (⟨4096 + (j 1).val, by have h : (j 1).val < 512 := (j 1).isLt; omega⟩ : Fin 4608)) := by
  have e : ((cfg0.win 4).blk t).view.emb j = (ix2 (row t (j 0)) (⟨4096 + (j 1).val, by have h : (j 1).val < 512 := (j 1).isLt; omega⟩ : Fin 4608)) := by
    refine Shape.idx_ext₂ ?_ ?_
    · refine (Window.rect_emb_val win0_4 t j (0 : Fin 2)).trans ?_
      rw [(idx4 t).1]; rfl
    · refine (Window.rect_emb_val win0_4 t j (1 : Fin 2)).trans ?_
      rw [(idx4 t).2]; rfl
  exact (congrFun (V_main_arg1 m c) _).trans (congrArg ((m ((c : Thread nD τ).loc main_arg1))) e)

/-- Where window 5's block lies. -/
theorem idx5 : ∀ t : Fin cfg0.N, win0_5.index t (0 : Fin 2) = t.val ∧ win0_5.index t (1 : Fin 2) = 0 :=
  (by decide +kernel : ∀ t : Fin grid0.N, _)

/-- What window 5's block holds at point `t`. -/
theorem block5 (c : Dev nD) (t : Fin cfg0.N) (j : S512x1024.Idx) :
    (iblk m c 5 t : Vec Ideal S512x1024 .bf16) j = (m ((c : Thread nD τ).loc main_arg2)) (ix2 (row t (j 0)) (j 1)) := by
  have e : ((cfg0.win 5).blk t).view.emb j = (ix2 (row t (j 0)) (j 1)) := by
    refine Shape.idx_ext₂ ?_ ?_
    · refine (Window.rect_emb_val win0_5 t j (0 : Fin 2)).trans ?_
      rw [(idx5 t).1]; rfl
    · refine (Window.rect_emb_val win0_5 t j (1 : Fin 2)).trans ?_
      rw [(idx5 t).2]; rw [Nat.zero_mul, Nat.zero_add]; rfl
  exact (congrFun (V_main_arg2 m c) _).trans (congrArg ((m ((c : Thread nD τ).loc main_arg2))) e)

/-- Where window 6's block lies. -/
theorem idx6 : ∀ t : Fin cfg0.N, win0_6.index t (0 : Fin 2) = t.val ∧ win0_6.index t (1 : Fin 2) = 0 :=
  (by decide +kernel : ∀ t : Fin grid0.N, _)

/-- What window 6's block holds at point `t`. -/
theorem block6 (c : Dev nD) (t : Fin cfg0.N) (j : S512x1024.Idx) :
    (iblk m c 6 t : Vec Ideal S512x1024 .bf16) j = (m ((c : Thread nD τ).loc main_arg3)) (ix2 (row t (j 0)) (j 1)) := by
  have e : ((cfg0.win 6).blk t).view.emb j = (ix2 (row t (j 0)) (j 1)) := by
    refine Shape.idx_ext₂ ?_ ?_
    · refine (Window.rect_emb_val win0_6 t j (0 : Fin 2)).trans ?_
      rw [(idx6 t).1]; rfl
    · refine (Window.rect_emb_val win0_6 t j (1 : Fin 2)).trans ?_
      rw [(idx6 t).2]; rw [Nat.zero_mul, Nat.zero_add]; rfl
  exact (congrFun (V_main_arg3 m c) _).trans (congrArg ((m ((c : Thread nD τ).loc main_arg3))) e)

/-- Where window 7's block lies. -/
theorem idx7 : ∀ t : Fin cfg0.N, win0_7.index t (0 : Fin 2) = 0 ∧ win0_7.index t (1 : Fin 2) = 0 :=
  (by decide +kernel : ∀ t : Fin grid0.N, _)

/-- What window 7's block holds at point `t`. -/
theorem block7 (c : Dev nD) (t : Fin cfg0.N) (j : S1024x1024.Idx) :
    (iblk m c 7 t : Vec Ideal S1024x1024 .bf16) j = (m ((c : Thread nD τ).loc main_arg4) : Vec Ideal S1024x1024 .f32) j := by
  have e : ((cfg0.win 7).blk t).view.emb j = j := by
    refine Shape.idx_ext₂ ?_ ?_
    · refine (Window.rect_emb_val win0_7 t j (0 : Fin 2)).trans ?_
      rw [(idx7 t).1]
      rw [Nat.zero_mul, Nat.zero_add]
    · refine (Window.rect_emb_val win0_7 t j (1 : Fin 2)).trans ?_
      rw [(idx7 t).2]; rw [Nat.zero_mul, Nat.zero_add]
  exact (congrFun (V_w m c) _).trans (congrArg ((m ((c : Thread nD τ).loc main_arg4) : Vec Ideal S1024x1024 .f32)) e)

/-- Where window 8's block lies. -/
theorem idx8 : ∀ t : Fin cfg0.N, win0_8.index t (0 : Fin 2) = 0 ∧ win0_8.index t (1 : Fin 2) = 0 :=
  (by decide +kernel : ∀ t : Fin grid0.N, _)

/-- What window 8's block holds at point `t`. -/
theorem block8 (c : Dev nD) (t : Fin cfg0.N) (j : S1x1024.Idx) :
    (iblk m c 8 t : Vec Ideal S1x1024 .f32) j = (m ((c : Thread nD τ).loc main_arg5)) j := by
  have e : ((cfg0.win 8).blk t).view.emb j = j := by
    refine Shape.idx_ext₂ ?_ ?_
    · refine (Window.rect_emb_val win0_8 t j (0 : Fin 2)).trans ?_
      rw [(idx8 t).1]
      rw [Nat.zero_mul, Nat.zero_add]
    · refine (Window.rect_emb_val win0_8 t j (1 : Fin 2)).trans ?_
      rw [(idx8 t).2]; rw [Nat.zero_mul, Nat.zero_add]
  exact (congrFun (V_main_arg5 m c) _).trans (congrArg ((m ((c : Thread nD τ).loc main_arg5))) e)

/-- Where window 9's block lies. -/
theorem idx9 : ∀ t : Fin cfg0.N, win0_9.index t (0 : Fin 2) = t.val ∧ win0_9.index t (1 : Fin 2) = 0 :=
  (by decide +kernel : ∀ t : Fin grid0.N, _)

/-- Where an index of window 9's block lies in the array. -/
theorem emb9 (t : Fin cfg0.N) (j : S512x1024.Idx) : ((cfg0.win 9).blk t).view.emb j = ix2 (row t (j 0)) (j 1) := by
  refine Shape.idx_ext₂ ?_ ?_
  · refine (Window.rect_emb_val win0_9 t j (0 : Fin 2)).trans ?_
    rw [(idx9 t).1]; rfl
  · refine (Window.rect_emb_val win0_9 t j (1 : Fin 2)).trans ?_
    rw [(idx9 t).2, Nat.zero_mul, Nat.zero_add]; rfl

/-- Every index of window 9's array is in some point's block. -/
theorem cover9 (i : S4096x1024.Idx) : ∃ t : Fin cfg0.N, (cfg0.win 9).flush t = true ∧ i ∈ ((cfg0.win 9).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 9).flush t = true) t, ?_⟩
  show i ∈ ((View.whole (Pipeline.arrRef spec0 9)).slice (win0_9.rect t)).set
  rw [View.set_slice_whole, Rect.mem_set_unit]
  intro a
  match a with
  | ⟨0, _⟩ =>
    show win0_9.index t (0 : Fin 2) * 512 ≤ (i 0).val ∧ (i 0).val < win0_9.index t (0 : Fin 2) * 512 + 512
    rw [(idx9 t).1]
    show (i 0).val / 512 * 512 ≤ (i 0).val ∧ (i 0).val < (i 0).val / 512 * 512 + 512
    omega
  | ⟨1, _⟩ =>
    show win0_9.index t (1 : Fin 2) * 1024 ≤ (i 1).val ∧ (i 1).val < win0_9.index t (1 : Fin 2) * 1024 + 1024
    rw [(idx9 t).2]
    omega

/-- Where window 10's block lies. -/
theorem idx10 : ∀ t : Fin cfg0.N, win0_10.index t (0 : Fin 2) = t.val ∧ win0_10.index t (1 : Fin 2) = 0 :=
  (by decide +kernel : ∀ t : Fin grid0.N, _)

/-- Where an index of window 10's block lies in the array. -/
theorem emb10 (t : Fin cfg0.N) (j : S512x1024.Idx) : ((cfg0.win 10).blk t).view.emb j = ix2 (row t (j 0)) (j 1) := by
  refine Shape.idx_ext₂ ?_ ?_
  · refine (Window.rect_emb_val win0_10 t j (0 : Fin 2)).trans ?_
    rw [(idx10 t).1]; rfl
  · refine (Window.rect_emb_val win0_10 t j (1 : Fin 2)).trans ?_
    rw [(idx10 t).2, Nat.zero_mul, Nat.zero_add]; rfl

/-- Every index of window 10's array is in some point's block. -/
theorem cover10 (i : S4096x1024.Idx) : ∃ t : Fin cfg0.N, (cfg0.win 10).flush t = true ∧ i ∈ ((cfg0.win 10).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 10).flush t = true) t, ?_⟩
  show i ∈ ((View.whole (Pipeline.arrRef spec0 10)).slice (win0_10.rect t)).set
  rw [View.set_slice_whole, Rect.mem_set_unit]
  intro a
  match a with
  | ⟨0, _⟩ =>
    show win0_10.index t (0 : Fin 2) * 512 ≤ (i 0).val ∧ (i 0).val < win0_10.index t (0 : Fin 2) * 512 + 512
    rw [(idx10 t).1]
    show (i 0).val / 512 * 512 ≤ (i 0).val ∧ (i 0).val < (i 0).val / 512 * 512 + 512
    omega
  | ⟨1, _⟩ =>
    show win0_10.index t (1 : Fin 2) * 1024 ≤ (i 1).val ∧ (i 1).val < win0_10.index t (1 : Fin 2) * 1024 + 1024
    rw [(idx10 t).2]
    omega

/-- Where window 11's block lies. -/
theorem idx11 : ∀ t : Fin cfg0.N, win0_11.index t (0 : Fin 2) = t.val ∧ win0_11.index t (1 : Fin 2) = 0 :=
  (by decide +kernel : ∀ t : Fin grid0.N, _)

/-- Where an index of window 11's block lies in the array. -/
theorem emb11 (t : Fin cfg0.N) (j : S512x1024.Idx) : ((cfg0.win 11).blk t).view.emb j = ix2 (row t (j 0)) (j 1) := by
  refine Shape.idx_ext₂ ?_ ?_
  · refine (Window.rect_emb_val win0_11 t j (0 : Fin 2)).trans ?_
    rw [(idx11 t).1]; rfl
  · refine (Window.rect_emb_val win0_11 t j (1 : Fin 2)).trans ?_
    rw [(idx11 t).2, Nat.zero_mul, Nat.zero_add]; rfl

/-- Every index of window 11's array is in some point's block. -/
theorem cover11 (i : S4096x1024.Idx) : ∃ t : Fin cfg0.N, (cfg0.win 11).flush t = true ∧ i ∈ ((cfg0.win 11).blk t).view.set := by
  have l0 : (i 0).val < 4096 := (i 0).isLt
  have l1 : (i 1).val < 1024 := (i 1).isLt
  have hN : cfg0.N = 8 := by decide +kernel
  let t : Fin cfg0.N := ⟨(i 0).val / 512, by rw [hN]; omega⟩
  refine ⟨t, (by decide +kernel : ∀ t : Fin grid0.N, (cfg0.win 11).flush t = true) t, ?_⟩
  show i ∈ ((View.whole (Pipeline.arrRef spec0 11)).slice (win0_11.rect t)).set
  rw [View.set_slice_whole, Rect.mem_set_unit]
  intro a
  match a with
  | ⟨0, _⟩ =>
    show win0_11.index t (0 : Fin 2) * 512 ≤ (i 0).val ∧ (i 0).val < win0_11.index t (0 : Fin 2) * 512 + 512
    rw [(idx11 t).1]
    show (i 0).val / 512 * 512 ≤ (i 0).val ∧ (i 0).val < (i 0).val / 512 * 512 + 512
    omega
  | ⟨1, _⟩ =>
    show win0_11.index t (1 : Fin 2) * 1024 ≤ (i 1).val ∧ (i 1).val < win0_11.index t (1 : Fin 2) * 1024 + 1024
    rw [(idx11 t).2]
    omega

/-- The zero offsets of a whole access. -/
theorem hz512x1024 : (![0, 0] : Fin S512x1024.rank → Nat) = fun _ => 0 := funext fun a => by fin_cases a <;> rfl

/-- A whole load of this shape is the buffer. -/
theorem ld_r0_0 {φ : EltTy} (x : Vec Ideal S512x512 φ) : View.ld x r0_0 = x :=
  View.ld_unit_zero (funext fun a => by fin_cases a <;> rfl) _ _

/-- A whole load of this shape is the buffer. -/
theorem ld_r0_1 {φ : EltTy} (x : Vec Ideal S512x1024 φ) : View.ld x r0_1 = x :=
  View.ld_unit_zero (funext fun a => by fin_cases a <;> rfl) _ _

/-- A whole load of this shape is the buffer. -/
theorem ld_r0_2 {φ : EltTy} (x : Vec Ideal S1024x1024 φ) : View.ld x r0_2 = x :=
  View.ld_unit_zero (funext fun a => by fin_cases a <;> rfl) _ _

/-- A whole load of this shape is the buffer. -/
theorem ld_r0_3 {φ : EltTy} (x : Vec Ideal S1x1024 φ) : View.ld x r0_3 = x :=
  View.ld_unit_zero (funext fun a => by fin_cases a <;> rfl) _ _

/-- The merged tile at an index, over its four gate blocks. -/
theorem pay3_apply (v0 v1 v10 v11 : Vec Ideal S512x512 .f32) (v20 v23 : Vec Ideal S512x1024 .bf16) (j : S512x1024.Idx) :
    k0_pay3 (F := Ideal) v0 v1 v10 v11 v20 v23 j
      = Ideal.logistic (if h : (j 1).val < 512 then v0 (ix2 (j 0) ⟨(j 1).val, h⟩) else v1 (ix2 (j 0) ⟨(j 1).val - 512, by have h : (j 1).val < 1024 := (j 1).isLt; omega⟩)) * v20 j
        + Ideal.logistic (if h : (j 1).val < 512 then v10 (ix2 (j 0) ⟨(j 1).val, h⟩) else v11 (ix2 (j 0) ⟨(j 1).val - 512, by have h : (j 1).val < 1024 := (j 1).isLt; omega⟩)) * v23 j := by
  unfold k0_pay3
  pointwise
  rw [sigmoid_eq, sigmoid_eq]

/-- The product's tile at an index. -/
theorem pay4_apply (v0 v1 v10 v11 : Vec Ideal S512x512 .f32) (v20 v23 : Vec Ideal S512x1024 .bf16) (w : Vec Ideal S1024x1024 .bf16) (j : S512x1024.Idx) :
    k0_pay4 (F := Ideal) v0 v1 v10 v11 v20 v23 w j
      = ∑ k : Fin 1024, (k0_pay3 (F := Ideal) v0 v1 v10 v11 v20 v23 (ix2 (j 0) k) : EReal) * w (ix2 k (j 1)) := by
  unfold k0_pay4
  pointwise [dot_S512x1024_S1024x1024_S512x1024_1_0_0_1_n_n]

/-- The residual tile at an index. -/
theorem pay1_apply (x y : Vec Ideal S512x1024 .f32) (j : S512x1024.Idx) : k0_pay1 (F := Ideal) x y j = (x j : EReal) + y j := rfl

/-- The normalised tile at an index. -/
theorem pay2_apply (x y : Vec Ideal S512x1024 .f32) (g : Vec Ideal S1x1024 .f32) (j : S512x1024.Idx) :
    k0_pay2 (F := Ideal) x y g j
      = (k0_pay1 (F := Ideal) x y j : EReal)
        * Ideal.rsqrt (Ideal.div (∑ k : Fin 1024, (k0_pay1 (F := Ideal) x y (ix2 (j 0) k) : EReal) * k0_pay1 (F := Ideal) x y (ix2 (j 0) k))
            (Ideal.ofBits .f32 0x44800000#32) + Ideal.ofBits .f32 0x358637BD#32)
        * g (ix2 0 (j 1)) := by
  unfold k0_pay2
  pointwise

/-- The merged tile of point `t`. -/
theorem mix_at (c : Dev nD) (t : Fin cfg0.N) (j : S512x1024.Idx) :
    k0_pay3 (F := Ideal) (iblk m c 1 t) (iblk m c 2 t) (iblk m c 3 t) (iblk m c 4 t) (iblk m c 5 t) (iblk m c 6 t) j
      = mix (m ((c : Thread nD τ).loc main_arg1)) (m ((c : Thread nD τ).loc main_arg2)) (m ((c : Thread nD τ).loc main_arg3)) (row t (j 0)) (j 1) := by
  rw [pay3_apply, block5, block6]
  unfold mix
  have e : ∀ (o : Nat) (h : o + 1024 ≤ 4608) (a b : EReal) (A : Vec Ideal S4096x4608 .f32) (q : Fin 1024)
      (_ : ∀ h' : q.val < 512, a = A (ix2 (row t (j 0)) (⟨o + q.val, by omega⟩ : Fin 4608)))
      (_ : ∀ h' : ¬ q.val < 512, b = A (ix2 (row t (j 0)) (⟨o + q.val, by omega⟩ : Fin 4608))),
      (if _ : q.val < 512 then a else b) = A (ix2 (row t (j 0)) (⟨o + q.val, by omega⟩ : Fin 4608)) := by
    intro o h a b A q ha hb
    split
    · exact ha ‹_›
    · exact hb ‹_›
  have l1 : (j 1).val < 1024 := (j 1).isLt
  have g1 : (if h : (j 1).val < 512 then (iblk m c 1 t : Vec Ideal S512x512 .f32) (ix2 (j 0) ⟨(j 1).val, h⟩) else (iblk m c 2 t : Vec Ideal S512x512 .f32) (ix2 (j 0) ⟨(j 1).val - 512, by omega⟩))
      = (m ((c : Thread nD τ).loc main_arg1)) (ix2 (row t (j 0)) (⟨2560 + (j 1).val, by omega⟩ : Fin 4608)) := by
    split
    · rw [block1]; rfl
    · rw [block2]; exact congrArg (m ((c : Thread nD τ).loc main_arg1)) (Shape.idx_ext₂ rfl (by show 3072 + ((j 1).val - 512) = 2560 + (j 1).val; omega))
  have g2 : (if h : (j 1).val < 512 then (iblk m c 3 t : Vec Ideal S512x512 .f32) (ix2 (j 0) ⟨(j 1).val, h⟩) else (iblk m c 4 t : Vec Ideal S512x512 .f32) (ix2 (j 0) ⟨(j 1).val - 512, by omega⟩))
      = (m ((c : Thread nD τ).loc main_arg1)) (ix2 (row t (j 0)) (⟨3584 + (j 1).val, by omega⟩ : Fin 4608)) := by
    split
    · rw [block3]; rfl
    · rw [block4]; exact congrArg (m ((c : Thread nD τ).loc main_arg1)) (Shape.idx_ext₂ rfl (by show 4096 + ((j 1).val - 512) = 3584 + (j 1).val; omega))
  rw [g1, g2]

/-- The product's tile of point `t`. -/
theorem dot_at (c : Dev nD) (t : Fin cfg0.N) (j : S512x1024.Idx) :
    k0_pay4 (F := Ideal) (iblk m c 1 t) (iblk m c 2 t) (iblk m c 3 t) (iblk m c 4 t) (iblk m c 5 t) (iblk m c 6 t) (iblk m c 7 t) j
      = ∑ k : Fin 1024, mix (m ((c : Thread nD τ).loc main_arg1)) (m ((c : Thread nD τ).loc main_arg2)) (m ((c : Thread nD τ).loc main_arg3)) (row t (j 0)) k * (m ((c : Thread nD τ).loc main_arg4)) (ix2 k (j 1)) := by
  rw [pay4_apply]
  refine Finset.sum_congr rfl fun k _ => ?_
  rw [mix_at, block7]
  rfl

/-- The residual tile of point `t`. -/
theorem resid_at (c : Dev nD) (t : Fin cfg0.N) (j : S512x1024.Idx) :
    k0_pay1 (F := Ideal) (iblk m c 0 t) (k0_pay4 (F := Ideal) (iblk m c 1 t) (iblk m c 2 t) (iblk m c 3 t) (iblk m c 4 t) (iblk m c 5 t) (iblk m c 6 t) (iblk m c 7 t)) j
      = resid (m ((c : Thread nD τ).loc main_arg0)) (m ((c : Thread nD τ).loc main_arg1)) (m ((c : Thread nD τ).loc main_arg2)) (m ((c : Thread nD τ).loc main_arg3)) (m ((c : Thread nD τ).loc main_arg4)) (row t (j 0)) (j 1) := by
  rw [pay1_apply, dot_at, block0]
  rfl

/-- The normalised tile of point `t`. -/
theorem normed_at (c : Dev nD) (t : Fin cfg0.N) (j : S512x1024.Idx) :
    k0_pay2 (F := Ideal) (iblk m c 0 t) (k0_pay4 (F := Ideal) (iblk m c 1 t) (iblk m c 2 t) (iblk m c 3 t) (iblk m c 4 t) (iblk m c 5 t) (iblk m c 6 t) (iblk m c 7 t)) (iblk m c 8 t) j
      = normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (row t (j 0)) (j 1) := by
  rw [pay2_apply, block8]
  simp only [resid_at]
  rfl

/-- The array of the merged mixers after the run. -/
theorem final9 (c : Dev nD) : (dats m 0 c).arrAt 9 cfg0.N = (fun i => mix (m ((c : Thread nD τ).loc main_arg1)) (m ((c : Thread nD τ).loc main_arg2)) (m ((c : Thread nD τ).loc main_arg3)) (i 0) (i 1) : Vec Ideal S4096x1024 .bf16) := by
  refine (dats m 0 c).arrAt_eq_of_cover 9 _ (fun t _ => ?_) cover9
  rw [Value.flushed9]
  unfold out0_9
  rw [View.canon_unit_zero hz512x1024]
  simp only [ld_r0_0, ld_r0_1, ld_r0_2, ld_r0_3]
  funext j
  show k0_pay3 (F := Ideal) (iblk m c 1 t) (iblk m c 2 t) (iblk m c 3 t) (iblk m c 4 t) (iblk m c 5 t) (iblk m c 6 t) j = (fun i => mix (m ((c : Thread nD τ).loc main_arg1)) (m ((c : Thread nD τ).loc main_arg2)) (m ((c : Thread nD τ).loc main_arg3)) (i 0) (i 1) : Vec Ideal S4096x1024 .bf16) (((cfg0.win 9).blk t).view.emb j)
  rw [emb9, mix_at]
  rfl

/-- The residual array after the run. -/
theorem final10 (c : Dev nD) : (dats m 0 c).arrAt 10 cfg0.N
    = (fun i => resid (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : Vec Ideal S4096x1024 .f32) := by
  refine (dats m 0 c).arrAt_eq_of_cover 10 _ (fun t _ => ?_) cover10
  rw [Value.flushed10]
  unfold out0_10 k0_pay5
  rw [View.canon_unit_zero hz512x1024]
  simp only [ld_r0_0, ld_r0_1, ld_r0_2, ld_r0_3]
  funext j
  show k0_pay1 (F := Ideal) (iblk m c 0 t) (k0_pay4 (F := Ideal) (iblk m c 1 t) (iblk m c 2 t) (iblk m c 3 t) (iblk m c 4 t) (iblk m c 5 t) (iblk m c 6 t) (iblk m c 7 t)) j = (fun i => resid (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : Vec Ideal S4096x1024 .f32) (((cfg0.win 10).blk t).view.emb j)
  rw [emb10, resid_at]
  rfl

/-- The normalised array after the run. -/
theorem final11 (c : Dev nD) : (dats m 0 c).arrAt 11 cfg0.N
    = (fun i => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) : Vec Ideal S4096x1024 .bf16) := by
  refine (dats m 0 c).arrAt_eq_of_cover 11 _ (fun t _ => ?_) cover11
  rw [Value.flushed11]
  unfold out0_11 k0_pay5
  rw [View.canon_unit_zero hz512x1024]
  simp only [ld_r0_0, ld_r0_1, ld_r0_2, ld_r0_3]
  funext j
  show k0_pay2 (F := Ideal) (iblk m c 0 t) (k0_pay4 (F := Ideal) (iblk m c 1 t) (iblk m c 2 t) (iblk m c 3 t) (iblk m c 4 t) (iblk m c 5 t) (iblk m c 6 t) (iblk m c 7 t)) (iblk m c 8 t) j = (fun i => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) : Vec Ideal S4096x1024 .bf16) (((cfg0.win 11).blk t).view.emb j)
  rw [emb11, normed_at]
  rfl

section Reference

variable (x0 : Vec Ideal S4096x1024 .f32) (x1 : Vec Ideal S4096x4608 .f32) (x2 x3 : Vec Ideal S4096x1024 .bf16)
  (x4 : Vec Ideal S1024x1024 .f32) (x5 : Vec Ideal S1x1024 .f32)

/-- The reference's gate at an index. -/
theorem ref_gate (i : Cert.MergeRefIdeal.S4096x2x1024.Idx) : Cert.MergeRefIdeal.Read.val_main_v7 (F := Ideal) x1 i
    = Ideal.logistic (x1 (Cert.MergeRefIdeal.Read.idx_main_v0 (Cert.MergeRefIdeal.Read.idx_main_v1 i))) := by
  open Cert.MergeRefIdeal.Read in
  rw [val_main_v7_apply, val_main_v6_apply, val_main_cst_0_apply, val_main_v5_apply, val_main_v4_apply, val_main_cst_apply, val_main_v3_apply,
    val_main_v2_apply, val_main_v1_apply, val_main_v0_apply]
  exact logistic_eq _

/-- The reference's merged mixers. -/
theorem ref_mix (i : S4096x1024.Idx) : Cert.MergeRefIdeal.Read.val_main_v16 (F := Ideal) x1 x2 x3 i = mix x1 x2 x3 (i 0) (i 1) := by
  open Cert.MergeRefIdeal.Read in
  rw [val_main_v16_apply, val_main_v15_apply, val_main_v14_apply, val_main_v13_apply, val_main_v12_apply, val_main_v11_apply, val_main_v10_apply,
    val_main_v9_apply, val_main_v8_apply, ref_gate, ref_gate]
  have l1 : (i 1).val < 1024 := (i 1).isLt
  refine congrArg₂ (fun a b : EReal => a + b) (congrArg₂ (fun a b : EReal => a * b) (congrArg Ideal.logistic (congrArg x1 (Shape.idx_ext₂ ?_ ?_))) (congrArg x2 (Shape.idx_ext₂ rfl rfl)))
    (congrArg₂ (fun a b : EReal => a * b) (congrArg Ideal.logistic (congrArg x1 (Shape.idx_ext₂ ?_ ?_))) (congrArg x3 (Shape.idx_ext₂ rfl rfl)))
  · show (((((i 0).val * 1024 + (i 1).val) / 1024 * 2 + 0) * 1024 + ((i 0).val * 1024 + (i 1).val) % 1024) / 2048 = (i 0).val); omega
  · show 2560 + (((((i 0).val * 1024 + (i 1).val) / 1024 * 2 + 0) * 1024 + ((i 0).val * 1024 + (i 1).val) % 1024) % 2048) = 2560 + (i 1).val; omega
  · show (((((i 0).val * 1024 + (i 1).val) / 1024 * 2 + (1 + 0)) * 1024 + ((i 0).val * 1024 + (i 1).val) % 1024) / 2048 = (i 0).val); omega
  · show 2560 + (((((i 0).val * 1024 + (i 1).val) / 1024 * 2 + (1 + 0)) * 1024 + ((i 0).val * 1024 + (i 1).val) % 1024) % 2048) = 3584 + (i 1).val; omega

/-- The reference's residual stream. -/
theorem ref_resid (i : S4096x1024.Idx) : Cert.MergeRefIdeal.Read.val_main_v18 (F := Ideal) x0 x1 x2 x3 x4 i = resid x0 x1 x2 x3 x4 (i 0) (i 1) := by
  open Cert.MergeRefIdeal.Read in
  rw [val_main_v18_apply, val_main_v17_apply]
  refine congrArg₂ (fun a b : EReal => a + b) (congrArg x0 (Shape.idx_ext₂ rfl rfl)) (Finset.sum_congr rfl fun k _ => ?_)
  rw [ref_mix]
  exact congrArg₂ (fun a b : EReal => a * b) rfl (congrArg x4 (Shape.idx_ext₂ rfl rfl))

/-- The reference's normalised row. -/
theorem ref_normed (i : S4096x1024.Idx) : Cert.MergeRefIdeal.Read.val_main_v32 (F := Ideal) x0 x1 x2 x3 x4 x5 i = normed x0 x1 x2 x3 x4 x5 (i 0) (i 1) := by
  open Cert.MergeRefIdeal.Read in
  rw [val_main_v32_apply, val_main_v31_apply, val_main_v30_apply, val_main_v29_apply, val_main_v28_apply, val_main_v27_apply, val_main_v26_apply,
    val_main_v25_apply, val_main_cst_3_apply, val_main_v24_apply, val_main_v23_apply, val_main_cst_2_apply, val_main_v22_apply, val_main_v21_apply,
    val_main_cst_1_apply]
  simp only [val_main_v20_apply, ref_resid]
  refine congrArg₂ (fun a b : EReal => a * b) (congrArg₂ (fun a b : EReal => a * b) rfl (congrArg Ideal.rsqrt (congrArg₂ (fun a b : EReal => a + b)
    (congrArg₂ Ideal.div ?_ rfl) rfl))) (congrArg x5 (Shape.idx_ext₂ rfl rfl))
  refine (congrArg₂ (fun a b : EReal => a + b) bits_zero rfl).trans ((zero_add _).trans ?_)
  rfl

end Reference

/-- The kernel's body table is the ideal kernel's, whose text is the same. -/
theorem defs₀_eq {F : FTy → Type} [FloatOps F] : Cert.Merge.defs₀ (F := F) = Cert.MergeIdeal.defs₀ (F := F) :=
  congrArg Defs.onTc (funext fun l => funext fun a => by
    match l, a with
    | 0, (t, s) => rfl)

/-- With the pipeline's labels, too. -/
theorem defs_eq {F : FTy → Type} [FloatOps F] : Cert.Merge.defs (F := F) = Cert.MergeIdeal.defs (F := F) :=
  congrArg (fun d => Pipeline.defs Cert.Merge.pcfgs d) defs₀_eq

/-- The kernel's frame. -/
theorem frame_P : Cert.quiescent_Merge := fun m ρ _ => by
  rw [defs_eq]
  exact Cert.MergeIdeal.Gen.frame (F := Bits) m ρ

/-- The ideal kernel's frame. -/
theorem frame_PI : Cert.quiescent_MergeIdeal := fun m ρ _ => Cert.MergeIdeal.Gen.frame (F := Ideal) m ρ

/-- The reference's frame. -/
theorem frame_RI : Cert.quiescent_MergeRefIdeal := fun m ρ _ =>
  (θ_run Cert.MergeRefIdeal.defs _ _).mono (fun r h => ⟨fun c => (h c).2.2.2,
      Idealize.ShloMosaic.sem_eq_zero_of_no_sems (by decide) r.2⟩)
    (Cert.MergeRefIdeal.Value.run (F := Ideal) m ρ)

/-- Kernel and reference agree at every index of the three results. -/
theorem algebraic : Cert.algebraic_MergeIdeal_MergeRefIdeal := by
  intro m g m' g' _ hargs
  refine ⟨fun c => (fun i => mix (m ((c : Thread nD τ).loc main_arg1)) (m ((c : Thread nD τ).loc main_arg2)) (m ((c : Thread nD τ).loc main_arg3)) (i 0) (i 1) : Vec Ideal S4096x1024 .bf16),
    fun c => (fun i => resid (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) : Vec Ideal S4096x1024 .f32),
    fun c => (fun i => normed (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (i 0) (i 1) : Vec Ideal S4096x1024 .bf16), ?_, ?_⟩
  · exact (θ_run _ _ _).mono (fun r h c => ⟨(h c).1.trans (final9 m c), (h c).2.1.trans (final10 m c), (h c).2.2.1.trans (final11 m c), (h c).2.2.2⟩)
      (Value.run_blocks (F := Ideal) m g)
  · refine (θ_run _ _ _).mono (fun r h c => ⟨?_, ?_, ?_, (h c).2.2.2⟩) (Cert.MergeRefIdeal.Value.run (F := Ideal) m' g')
    all_goals obtain ⟨a0, a1, a2, a3, a4, a5⟩ := hargs c
    · refine (h c).1.trans ((Cert.MergeRefIdeal.Read.val_main_v19_eq _ _ _).trans ?_)
      rw [a1, a2, a3]
      exact funext fun i => ref_mix _ _ _ i
    · refine (h c).2.1.trans ((Cert.MergeRefIdeal.Read.val_main_v18_eq _ _ _ _ _).trans ?_)
      rw [a0, a1, a2, a3, a4]
      exact funext fun i => ref_resid _ _ _ _ _ i
    · refine (h c).2.2.1.trans ((Cert.MergeRefIdeal.Read.val_main_v32_eq _ _).trans ?_)
      rw [a0, a1, a2, a3, a4, a5]
      exact funext fun i => ref_normed _ _ _ _ _ _ i

end Cert.Proof.Merge

end
-- ==== Proof.WFfnOut.lean ====
/-
  `WFfnOut`: the weight gradient of the feed-forward output projection, as the kernel computes it
  (one product of the two operands' column blocks per grid point, over all 4096 rows), against the reference's derivative of a
  product.  Over the extended reals both are, at every index, the sum over the rows of the products of the two entries.
-/
module

public import proofs.«01_k».proof.Defs
public import proofs.«01_k».proof.Proof.Gen.WFfnOut
public import proofs.«01_k».proof.Proof.Gen.WFfnOutIdeal
public import proofs.«01_k».proof.Proof.Gen.WFfnOutIdeal.Value
public import proofs.«01_k».proof.Proof.Gen.WFfnOutRefIdeal
public import proofs.«01_k».proof.Proof.Gen.WFfnOutRefIdeal.Run
public import proofs.«01_k».proof.Proof.Gen.WFfnOutRefIdeal.Read
public import Idealize.ShloMosaic.Lib.Pointwise

@[expose] public section

set_option maxRecDepth 16384

noncomputable section

namespace Cert.Proof.WFfnOut

open Idealize.ShloMosaic Idealize.ShloMosaic.TcCoe Idealize.SL.Sem
open Cert.WFfnOutIdeal Cert.WFfnOutIdeal.Gen
open Idealize.ShloMosaic.Pipeline (Dat Cfg Window)

variable (m : (ℓ : Loc nD τ sig) → Buf (Elt Ideal) ℓ)

/-- The weight gradient: the transposed activations times the cotangent. -/
def G (x0 : Vec Ideal S4096x2816 .bf16) (x1 : Vec Ideal S4096x1024 .bf16) : Vec Ideal S2816x1024 .bf16 := fun i =>
  (∑ k : Fin 4096, (x0 (ix2 k (i 0)) : EReal) * x1 (ix2 k (i 1)) : EReal)

/-- How the blocks move: the first operand's columns with the result's rows, the second's with its columns. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ (p : Fin 2) (q : Fin 2), ∃ t : Fin cfg0.N, win0_2.index t = ![p.val, q.val] :=
  (by decide +kernel : ∀ (p : Fin 2) (q : Fin 2), ∃ t : Fin grid0.N, _)

/-- The body's product at an index: the sum over the rows of the two blocks. -/
theorem pay_apply (x0 : Vec Ideal S4096x1408 .bf16) (x1 : Vec Ideal S4096x512 .bf16) (j : S1408x512.Idx) :
    k0_pay1 (F := Ideal) x0 x1 j = (∑ k : Fin 4096, (x0 (ix2 k (j 0)) : EReal) * x1 (ix2 k (j 1)) : EReal) := by
  unfold k0_pay1
  pointwise [dot_S4096x1408_S4096x512_S1408x512_0_0_1_1_n_n]

/-- What a point writes back is its block of `G`. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  have hz0 : (![0, 0] : Fin S4096x1408.rank → Nat) = fun _ => 0 := funext fun a => by fin_cases a <;> rfl
  have hz1 : (![0, 0] : Fin S4096x512.rank → Nat) = fun _ => 0 := funext fun a => by fin_cases a <;> rfl
  have hz2 : (![0, 0] : Fin S1408x512.rank → Nat) = fun _ => 0 := funext fun a => by fin_cases a <;> rfl
  rw [Value.flushed2]
  unfold out0_2
  rw [View.canon_unit_zero hz2, View.ld_unit_zero hz0, View.ld_unit_zero hz1]
  obtain ⟨h00, h01, h10, h11⟩ := idx_facts t
  funext j
  show k0_pay1 (F := Ideal) (iblk m c 0 t) (iblk m c 1 t) j = G _ _ (((cfg0.win 2).blk t).view.emb j)
  rw [pay_apply]
  unfold G
  refine Finset.sum_congr rfl fun k _ => ?_
  have e0 : ((cfg0.win 0).blk t).view.emb (ix2 k (j 0)) = ix2 k ((((cfg0.win 2).blk t).view.emb j) 0) := by
    refine Shape.idx_ext₂ ?_ ?_
    · refine (Window.rect_emb_val win0_0 t _ (0 : Fin 2)).trans ?_
      rw [h00, Nat.zero_mul, Nat.zero_add]; rfl
    · refine (Window.rect_emb_val win0_0 t _ (1 : Fin 2)).trans ?_
      rw [h01]; exact (Window.rect_emb_val win0_2 t j (0 : Fin 2)).symm
  have e1 : ((cfg0.win 1).blk t).view.emb (ix2 k (j 1)) = ix2 k ((((cfg0.win 2).blk t).view.emb j) 1) := by
    refine Shape.idx_ext₂ ?_ ?_
    · refine (Window.rect_emb_val win0_1 t _ (0 : Fin 2)).trans ?_
      rw [h10, Nat.zero_mul, Nat.zero_add]; rfl
    · refine (Window.rect_emb_val win0_1 t _ (1 : Fin 2)).trans ?_
      rw [h11]; exact (Window.rect_emb_val win0_2 t j (1 : Fin 2)).symm
  exact congrArg₂ (fun a b : EReal => a * b) (congrArg (m ((c : Thread nD τ).loc main_arg0)) e0) (congrArg (m ((c : Thread nD τ).loc main_arg1)) e1)

/-- Which indices a point's block holds. -/
theorem mem_blk (t : Fin cfg0.N) (i : S2816x1024.Idx) : i ∈ ((cfg0.win 2).blk t).view.set
    ↔ ∀ a : Fin 2, win0_2.index t a * S1408x512.size a ≤ (i a).val ∧ (i a).val < win0_2.index t a * S1408x512.size a + S1408x512.size a := by
  show i ∈ ((View.whole main_v0).slice (win0_2.rect t)).set ↔ _
  rw [View.set_slice_whole, Rect.mem_set_unit]; exact Iff.rfl

/-- Every index is in some point's block. -/
theorem cover (i : S2816x1024.Idx) : ∃ t : Fin cfg0.N, (cfg0.win 2).flush t = true ∧ i ∈ ((cfg0.win 2).blk t).view.set := by
  have l0 : (i 0).val < 2816 := (i 0).isLt
  have l1 : (i 1).val < 1024 := (i 1).isLt
  obtain ⟨t, ht⟩ := idx_onto ⟨(i 0).val / 1408, by omega⟩ ⟨(i 1).val / 512, by omega⟩
  refine ⟨t, (by decide +kernel : ∀ t : Fin grid0.N, (cfg0.win 2).flush t = true) t, ?_⟩
  rw [mem_blk, ht]
  intro a
  match a with
  | ⟨0, _⟩ => show (i 0).val / 1408 * 1408 ≤ (i 0).val ∧ (i 0).val < (i 0).val / 1408 * 1408 + 1408; omega
  | ⟨1, _⟩ => show (i 1).val / 512 * 512 ≤ (i 1).val ∧ (i 1).val < (i 1).val / 512 * 512 + 512; omega

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The reference's result is `G` of its arguments. -/
theorem ref_eq (x0 : Vec Ideal S4096x2816 .bf16) (x1 : Vec Ideal S4096x1024 .bf16) :
    Cert.WFfnOutRefIdeal.Read.val_main_v6 (F := Ideal) x0 x1 = G x0 x1 := by
  funext i
  open Cert.WFfnOutRefIdeal.Read in
  rw [val_main_v6_apply, val_main_v5_apply, val_main_v4_apply]
  simp only [Cert.WFfnOutRefIdeal.Read.val_main_v1_apply, Cert.WFfnOutRefIdeal.Read.val_main_v3_apply]
  unfold G
  refine Finset.sum_congr rfl fun k _ => ?_
  exact (mul_comm (x1 _ : EReal) (x0 _)).trans (congrArg₂ (fun a b : EReal => a * b) (congrArg x0 (Shape.idx_ext₂ rfl rfl)) (congrArg x1 (Shape.idx_ext₂ rfl rfl)))

/-- The kernel's body table is the ideal kernel's, whose text is the same. -/
theorem defs₀_eq {F : FTy → Type} [FloatOps F] : Cert.WFfnOut.defs₀ (F := F) = Cert.WFfnOutIdeal.defs₀ (F := F) :=
  congrArg Defs.onTc (funext fun l => funext fun a => by
    match l, a with
    | 0, (t, s) => rfl)

/-- With the pipeline's labels, too. -/
theorem defs_eq {F : FTy → Type} [FloatOps F] : Cert.WFfnOut.defs (F := F) = Cert.WFfnOutIdeal.defs (F := F) :=
  congrArg (fun d => Pipeline.defs Cert.WFfnOut.pcfgs d) defs₀_eq

/-- The kernel's frame. -/
theorem frame_P : Cert.quiescent_WFfnOut := fun m ρ _ => by
  rw [defs_eq]
  exact Cert.WFfnOutIdeal.Gen.frame (F := Bits) m ρ

/-- The ideal kernel's frame. -/
theorem frame_PI : Cert.quiescent_WFfnOutIdeal := fun m ρ _ => Cert.WFfnOutIdeal.Gen.frame (F := Ideal) m ρ

/-- The reference's frame. -/
theorem frame_RI : Cert.quiescent_WFfnOutRefIdeal := fun m ρ _ =>
  (θ_run Cert.WFfnOutRefIdeal.defs _ _).mono (fun r h => ⟨fun c => (h c).2,
      Idealize.ShloMosaic.sem_eq_zero_of_no_sems (by decide) r.2⟩)
    (Cert.WFfnOutRefIdeal.Value.run (F := Ideal) m ρ)

/-- Kernel and reference agree at every index. -/
theorem algebraic : Cert.algebraic_WFfnOutIdeal_WFfnOutRefIdeal := by
  intro m g m' g' _ hargs
  refine ⟨fun c => G (m ((c.tc : Thread nD τ).loc main_arg0)) (m ((c.tc : Thread nD τ).loc main_arg1)), ?_, ?_⟩
  · exact (θ_run _ _ _).mono (fun r h c => ⟨(h c).1.trans (final m c), (h c).2⟩) (Value.run_blocks (F := Ideal) m g)
  · refine (θ_run _ _ _).mono (fun r h c => ⟨?_, (h c).2⟩) (Cert.WFfnOutRefIdeal.Value.run (F := Ideal) m' g')
    refine (h c).1.trans ((Cert.WFfnOutRefIdeal.Read.val_main_v6_eq _ _).trans ?_)
    rw [(hargs c).1, (hargs c).2]
    exact ref_eq _ _

end Cert.Proof.WFfnOut

end
-- ==== Proof.WFfnIn.lean ====
/-
  `WFfnIn`: the weight gradient of the feed-forward input projection, laid out transposed, as the kernel computes it
  (one product of the two operands' column blocks per grid point, over all 4096 rows), against the reference's derivative of a
  product.  Over the extended reals both are, at every index, the sum over the rows of the products of the two entries.
-/
module

public import proofs.«01_k».proof.Defs
public import proofs.«01_k».proof.Proof.Gen.WFfnIn
public import proofs.«01_k».proof.Proof.Gen.WFfnInIdeal
public import proofs.«01_k».proof.Proof.Gen.WFfnInIdeal.Value
public import proofs.«01_k».proof.Proof.Gen.WFfnInRefIdeal
public import proofs.«01_k».proof.Proof.Gen.WFfnInRefIdeal.Run
public import proofs.«01_k».proof.Proof.Gen.WFfnInRefIdeal.Read
public import Idealize.ShloMosaic.Lib.Pointwise

@[expose] public section

set_option maxRecDepth 16384

noncomputable section

namespace Cert.Proof.WFfnIn

open Idealize.ShloMosaic Idealize.ShloMosaic.TcCoe Idealize.SL.Sem
open Cert.WFfnInIdeal Cert.WFfnInIdeal.Gen
open Idealize.ShloMosaic.Pipeline (Dat Cfg Window)

variable (m : (ℓ : Loc nD τ sig) → Buf (Elt Ideal) ℓ)

/-- The weight gradient: the transposed cotangent times the activations. -/
def G (x0 : Vec Ideal S4096x5632 .bf16) (x1 : Vec Ideal S4096x1024 .bf16) : Vec Ideal S5632x1024 .bf16 := fun i =>
  (∑ k : Fin 4096, (x0 (ix2 k (i 0)) : EReal) * x1 (ix2 k (i 1)) : EReal)

/-- How the blocks move: the first operand's columns with the result's rows, the second's with its columns. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ (p : Fin 4) (q : Fin 2), ∃ t : Fin cfg0.N, win0_2.index t = ![p.val, q.val] :=
  (by decide +kernel : ∀ (p : Fin 4) (q : Fin 2), ∃ t : Fin grid0.N, _)

/-- The body's product at an index: the sum over the rows of the two blocks. -/
theorem pay_apply (x0 : Vec Ideal S4096x1408 .bf16) (x1 : Vec Ideal S4096x512 .bf16) (j : S1408x512.Idx) :
    k0_pay1 (F := Ideal) x0 x1 j = (∑ k : Fin 4096, (x0 (ix2 k (j 0)) : EReal) * x1 (ix2 k (j 1)) : EReal) := by
  unfold k0_pay1
  pointwise [dot_S4096x1408_S4096x512_S1408x512_0_0_1_1_n_n]

/-- What a point writes back is its block of `G`. -/
theorem flushed_eq (c : Dev nD) (t : Fin cfg0.N) :
    (dats m 0 c).flushed 2 t
      = ((cfg0.win 2).blk t).view.read (Elt Ideal) (G (m ((c : Thread nD τ).loc main_arg1)) (m ((c : Thread nD τ).loc main_arg0))) := by
  have hz0 : (![0, 0] : Fin S4096x1408.rank → Nat) = fun _ => 0 := funext fun a => by fin_cases a <;> rfl
  have hz1 : (![0, 0] : Fin S4096x512.rank → Nat) = fun _ => 0 := funext fun a => by fin_cases a <;> rfl
  have hz2 : (![0, 0] : Fin S1408x512.rank → Nat) = fun _ => 0 := funext fun a => by fin_cases a <;> rfl
  rw [Value.flushed2]
  unfold out0_2
  rw [View.canon_unit_zero hz2, View.ld_unit_zero hz0, View.ld_unit_zero hz1]
  obtain ⟨h00, h01, h10, h11⟩ := idx_facts t
  funext j
  show k0_pay1 (F := Ideal) (iblk m c 0 t) (iblk m c 1 t) j = G _ _ (((cfg0.win 2).blk t).view.emb j)
  rw [pay_apply]
  unfold G
  refine Finset.sum_congr rfl fun k _ => ?_
  have e0 : ((cfg0.win 0).blk t).view.emb (ix2 k (j 0)) = ix2 k ((((cfg0.win 2).blk t).view.emb j) 0) := by
    refine Shape.idx_ext₂ ?_ ?_
    · refine (Window.rect_emb_val win0_0 t _ (0 : Fin 2)).trans ?_
      rw [h00, Nat.zero_mul, Nat.zero_add]; rfl
    · refine (Window.rect_emb_val win0_0 t _ (1 : Fin 2)).trans ?_
      rw [h01]; exact (Window.rect_emb_val win0_2 t j (0 : Fin 2)).symm
  have e1 : ((cfg0.win 1).blk t).view.emb (ix2 k (j 1)) = ix2 k ((((cfg0.win 2).blk t).view.emb j) 1) := by
    refine Shape.idx_ext₂ ?_ ?_
    · refine (Window.rect_emb_val win0_1 t _ (0 : Fin 2)).trans ?_
      rw [h10, Nat.zero_mul, Nat.zero_add]; rfl
    · refine (Window.rect_emb_val win0_1 t _ (1 : Fin 2)).trans ?_
      rw [h11]; exact (Window.rect_emb_val win0_2 t j (1 : Fin 2)).symm
  exact congrArg₂ (fun a b : EReal => a * b) (congrArg (m ((c : Thread nD τ).loc main_arg1)) e0) (congrArg (m ((c : Thread nD τ).loc main_arg0)) e1)

/-- Which indices a point's block holds. -/
theorem mem_blk (t : Fin cfg0.N) (i : S5632x1024.Idx) : i ∈ ((cfg0.win 2).blk t).view.set
    ↔ ∀ a : Fin 2, win0_2.index t a * S1408x512.size a ≤ (i a).val ∧ (i a).val < win0_2.index t a * S1408x512.size a + S1408x512.size a := by
  show i ∈ ((View.whole main_v0).slice (win0_2.rect t)).set ↔ _
  rw [View.set_slice_whole, Rect.mem_set_unit]; exact Iff.rfl

/-- Every index is in some point's block. -/
theorem cover (i : S5632x1024.Idx) : ∃ t : Fin cfg0.N, (cfg0.win 2).flush t = true ∧ i ∈ ((cfg0.win 2).blk t).view.set := by
  have l0 : (i 0).val < 5632 := (i 0).isLt
  have l1 : (i 1).val < 1024 := (i 1).isLt
  obtain ⟨t, ht⟩ := idx_onto ⟨(i 0).val / 1408, by omega⟩ ⟨(i 1).val / 512, by omega⟩
  refine ⟨t, (by decide +kernel : ∀ t : Fin grid0.N, (cfg0.win 2).flush t = true) t, ?_⟩
  rw [mem_blk, ht]
  intro a
  match a with
  | ⟨0, _⟩ => show (i 0).val / 1408 * 1408 ≤ (i 0).val ∧ (i 0).val < (i 0).val / 1408 * 1408 + 1408; omega
  | ⟨1, _⟩ => show (i 1).val / 512 * 512 ≤ (i 1).val ∧ (i 1).val < (i 1).val / 512 * 512 + 512; omega

/-- The result array after the run. -/
theorem final (c : Dev nD) : (dats m 0 c).arrAt 2 cfg0.N = G (m ((c : Thread nD τ).loc main_arg1)) (m ((c : Thread nD τ).loc main_arg0)) :=
  (dats m 0 c).arrAt_eq_of_cover 2 _ (fun t _ => flushed_eq m c t) cover

/-- The reference's result is `G` of its arguments. -/
theorem ref_eq (x0 : Vec Ideal S4096x5632 .bf16) (x1 : Vec Ideal S4096x1024 .bf16) :
    Cert.WFfnInRefIdeal.Read.val_main_v7 (F := Ideal) x1 x0 = G x0 x1 := by
  funext i
  open Cert.WFfnInRefIdeal.Read in
  rw [val_main_v7_apply, val_main_v6_apply, val_main_v5_apply, val_main_v4_apply]
  simp only [Cert.WFfnInRefIdeal.Read.val_main_v1_apply, Cert.WFfnInRefIdeal.Read.val_main_v3_apply]
  unfold G
  refine Finset.sum_congr rfl fun k _ => ?_
  exact congrArg₂ (fun a b : EReal => a * b) (congrArg x0 (Shape.idx_ext₂ rfl rfl)) (congrArg x1 (Shape.idx_ext₂ rfl rfl))

/-- The kernel's body table is the ideal kernel's, whose text is the same. -/
theorem defs₀_eq {F : FTy → Type} [FloatOps F] : Cert.WFfnIn.defs₀ (F := F) = Cert.WFfnInIdeal.defs₀ (F := F) :=
  congrArg Defs.onTc (funext fun l => funext fun a => by
    match l, a with
    | 0, (t, s) => rfl)

/-- With the pipeline's labels, too. -/
theorem defs_eq {F : FTy → Type} [FloatOps F] : Cert.WFfnIn.defs (F := F) = Cert.WFfnInIdeal.defs (F := F) :=
  congrArg (fun d => Pipeline.defs Cert.WFfnIn.pcfgs d) defs₀_eq

/-- The kernel's frame. -/
theorem frame_P : Cert.quiescent_WFfnIn := fun m ρ _ => by
  rw [defs_eq]
  exact Cert.WFfnInIdeal.Gen.frame (F := Bits) m ρ

/-- The ideal kernel's frame. -/
theorem frame_PI : Cert.quiescent_WFfnInIdeal := fun m ρ _ => Cert.WFfnInIdeal.Gen.frame (F := Ideal) m ρ

/-- The reference's frame. -/
theorem frame_RI : Cert.quiescent_WFfnInRefIdeal := fun m ρ _ =>
  (θ_run Cert.WFfnInRefIdeal.defs _ _).mono (fun r h => ⟨fun c => (h c).2,
      Idealize.ShloMosaic.sem_eq_zero_of_no_sems (by decide) r.2⟩)
    (Cert.WFfnInRefIdeal.Value.run (F := Ideal) m ρ)

/-- Kernel and reference agree at every index. -/
theorem algebraic : Cert.algebraic_WFfnInIdeal_WFfnInRefIdeal := by
  intro m g m' g' _ hargs
  refine ⟨fun c => G (m ((c.tc : Thread nD τ).loc main_arg1)) (m ((c.tc : Thread nD τ).loc main_arg0)), ?_, ?_⟩
  · exact (θ_run _ _ _).mono (fun r h c => ⟨(h c).1.trans (final m c), (h c).2⟩) (Value.run_blocks (F := Ideal) m g)
  · refine (θ_run _ _ _).mono (fun r h c => ⟨?_, (h c).2⟩) (Cert.WFfnInRefIdeal.Value.run (F := Ideal) m' g')
    refine (h c).1.trans ((Cert.WFfnInRefIdeal.Read.val_main_v7_eq _ _).trans ?_)
    rw [(hargs c).1, (hargs c).2]
    exact ref_eq _ _

end Cert.Proof.WFfnIn

end
-- ==== Proof.WO.lean ====
/-
  `WO`: the weight gradient of the mixer output projection, as the kernel computes it
  (one product of the two operands' column blocks per grid point, over all 4096 rows), against the reference's derivative of a
  product.  Over the extended reals both are, at every index, the sum over the rows of the products of the two entries.
-/
module

public import proofs.«01_k».proof.Defs
public import proofs.«01_k».proof.Proof.Gen.WO
public import proofs.«01_k».proof.Proof.Gen.WOIdeal
public import proofs.«01_k».proof.Proof.Gen.WOIdeal.Value
public import proofs.«01_k».proof.Proof.Gen.WORefIdeal
public import proofs.«01_k».proof.Proof.Gen.WORefIdeal.Run
public import proofs.«01_k».proof.Proof.Gen.WORefIdeal.Read
public import Idealize.ShloMosaic.Lib.Pointwise

@[expose] public section

set_option maxRecDepth 16384

noncomputable section

namespace Cert.Proof.WO

open Idealize.ShloMosaic Idealize.ShloMosaic.TcCoe Idealize.SL.Sem
open Cert.WOIdeal Cert.WOIdeal.Gen
open Idealize.ShloMosaic.Pipeline (Dat Cfg Window)

variable (m : (ℓ : Loc nD τ sig) → Buf (Elt Ideal) ℓ)

/-- The weight gradient: the transposed activations times the cotangent. -/
def G (x0 : Vec Ideal S4096x1024 .bf16) (x1 : Vec Ideal S4096x1024 .bf16) : Vec Ideal S1024x1024 .bf16 := fun i =>
  (∑ k : Fin 4096, (x0 (ix2 k (i 0)) : EReal) * x1 (ix2 k (i 1)) : EReal)

/-- How the blocks move: the first operand's columns with the result's rows, the second's with its columns. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ (p : Fin 1) (q : Fin 4), ∃ t : Fin cfg0.N, win0_2.index t = ![p.val, q.val] :=
  (by decide +kernel : ∀ (p : Fin 1) (q : Fin 4), ∃ t : Fin grid0.N, _)

/-- The body's product at an index: the sum over the rows of the two blocks. -/
theorem pay_apply (x0 : Vec Ideal S4096x1024 .bf16) (x1 : Vec Ideal S4096x256 .bf16) (j : S1024x256.Idx) :
    k0_pay1 (F := Ideal) x0 x1 j = (∑ k : Fin 4096, (x0 (ix2 k (j 0)) : EReal) * x1 (ix2 k (j 1)) : EReal) := by
  unfold k0_pay1
  pointwise [dot_S4096x1024_S4096x256_S1024x256_0_0_1_1_n_n]

/-- What a point writes back is its block of `G`. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  have hz0 : (![0, 0] : Fin S4096x1024.rank → Nat) = fun _ => 0 := funext fun a => by fin_cases a <;> rfl
  have hz1 : (![0, 0] : Fin S4096x256.rank → Nat) = fun _ => 0 := funext fun a => by fin_cases a <;> rfl
  have hz2 : (![0, 0] : Fin S1024x256.rank → Nat) = fun _ => 0 := funext fun a => by fin_cases a <;> rfl
  rw [Value.flushed2]
  unfold out0_2
  rw [View.canon_unit_zero hz2, View.ld_unit_zero hz0, View.ld_unit_zero hz1]
  obtain ⟨h00, h01, h10, h11⟩ := idx_facts t
  funext j
  show k0_pay1 (F := Ideal) (iblk m c 0 t) (iblk m c 1 t) j = G _ _ (((cfg0.win 2).blk t).view.emb j)
  rw [pay_apply]
  unfold G
  refine Finset.sum_congr rfl fun k _ => ?_
  have e0 : ((cfg0.win 0).blk t).view.emb (ix2 k (j 0)) = ix2 k ((((cfg0.win 2).blk t).view.emb j) 0) := by
    refine Shape.idx_ext₂ ?_ ?_
    · refine (Window.rect_emb_val win0_0 t _ (0 : Fin 2)).trans ?_
      rw [h00, Nat.zero_mul, Nat.zero_add]; rfl
    · refine (Window.rect_emb_val win0_0 t _ (1 : Fin 2)).trans ?_
      rw [h01]; exact (Window.rect_emb_val win0_2 t j (0 : Fin 2)).symm
  have e1 : ((cfg0.win 1).blk t).view.emb (ix2 k (j 1)) = ix2 k ((((cfg0.win 2).blk t).view.emb j) 1) := by
    refine Shape.idx_ext₂ ?_ ?_
    · refine (Window.rect_emb_val win0_1 t _ (0 : Fin 2)).trans ?_
      rw [h10, Nat.zero_mul, Nat.zero_add]; rfl
    · refine (Window.rect_emb_val win0_1 t _ (1 : Fin 2)).trans ?_
      rw [h11]; exact (Window.rect_emb_val win0_2 t j (1 : Fin 2)).symm
  exact congrArg₂ (fun a b : EReal => a * b) (congrArg (m ((c : Thread nD τ).loc main_arg0)) e0) (congrArg (m ((c : Thread nD τ).loc main_arg1)) e1)

/-- Which indices a point's block holds. -/
theorem mem_blk (t : Fin cfg0.N) (i : S1024x1024.Idx) : i ∈ ((cfg0.win 2).blk t).view.set
    ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]; exact Iff.rfl

/-- Every index is in some point's block. -/
theorem cover (i : S1024x1024.Idx) : ∃ t : Fin cfg0.N, (cfg0.win 2).flush t = true ∧ i ∈ ((cfg0.win 2).blk t).view.set := by
  have l0 : (i 0).val < 1024 := (i 0).isLt
  have l1 : (i 1).val < 1024 := (i 1).isLt
  obtain ⟨t, ht⟩ := idx_onto ⟨(i 0).val / 1024, by omega⟩ ⟨(i 1).val / 256, by omega⟩
  refine ⟨t, (by decide +kernel : ∀ t : Fin grid0.N, (cfg0.win 2).flush t = true) t, ?_⟩
  rw [mem_blk, ht]
  intro a
  match a with
  | ⟨0, _⟩ => show (i 0).val / 1024 * 1024 ≤ (i 0).val ∧ (i 0).val < (i 0).val / 1024 * 1024 + 1024; omega
  | ⟨1, _⟩ => show (i 1).val / 256 * 256 ≤ (i 1).val ∧ (i 1).val < (i 1).val / 256 * 256 + 256; omega

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The reference's result is `G` of its arguments. -/
theorem ref_eq (x0 : Vec Ideal S4096x1024 .bf16) (x1 : Vec Ideal S4096x1024 .bf16) :
    Cert.WORefIdeal.Read.val_main_v6 (F := Ideal) x0 x1 = G x0 x1 := by
  funext i
  open Cert.WORefIdeal.Read in
  rw [val_main_v6_apply, val_main_v5_apply, val_main_v4_apply]
  simp only [Cert.WORefIdeal.Read.val_main_v1_apply, Cert.WORefIdeal.Read.val_main_v3_apply]
  unfold G
  refine Finset.sum_congr rfl fun k _ => ?_
  exact (mul_comm (x1 _ : EReal) (x0 _)).trans (congrArg₂ (fun a b : EReal => a * b) (congrArg x0 (Shape.idx_ext₂ rfl rfl)) (congrArg x1 (Shape.idx_ext₂ rfl rfl)))

/-- The kernel's body table is the ideal kernel's, whose text is the same. -/
theorem defs₀_eq {F : FTy → Type} [FloatOps F] : Cert.WO.defs₀ (F := F) = Cert.WOIdeal.defs₀ (F := F) :=
  congrArg Defs.onTc (funext fun l => funext fun a => by
    match l, a with
    | 0, (t, s) => rfl)

/-- With the pipeline's labels, too. -/
theorem defs_eq {F : FTy → Type} [FloatOps F] : Cert.WO.defs (F := F) = Cert.WOIdeal.defs (F := F) :=
  congrArg (fun d => Pipeline.defs Cert.WO.pcfgs d) defs₀_eq

/-- The kernel's frame. -/
theorem frame_P : Cert.quiescent_WO := fun m ρ _ => by
  rw [defs_eq]
  exact Cert.WOIdeal.Gen.frame (F := Bits) m ρ

/-- The ideal kernel's frame. -/
theorem frame_PI : Cert.quiescent_WOIdeal := fun m ρ _ => Cert.WOIdeal.Gen.frame (F := Ideal) m ρ

/-- The reference's frame. -/
theorem frame_RI : Cert.quiescent_WORefIdeal := fun m ρ _ =>
  (θ_run Cert.WORefIdeal.defs _ _).mono (fun r h => ⟨fun c => (h c).2,
      Idealize.ShloMosaic.sem_eq_zero_of_no_sems (by decide) r.2⟩)
    (Cert.WORefIdeal.Value.run (F := Ideal) m ρ)

/-- Kernel and reference agree at every index. -/
theorem algebraic : Cert.algebraic_WOIdeal_WORefIdeal := by
  intro m g m' g' _ hargs
  refine ⟨fun c => G (m ((c.tc : Thread nD τ).loc main_arg0)) (m ((c.tc : Thread nD τ).loc main_arg1)), ?_, ?_⟩
  · exact (θ_run _ _ _).mono (fun r h c => ⟨(h c).1.trans (final m c), (h c).2⟩) (Value.run_blocks (F := Ideal) m g)
  · refine (θ_run _ _ _).mono (fun r h c => ⟨?_, (h c).2⟩) (Cert.WORefIdeal.Value.run (F := Ideal) m' g')
    refine (h c).1.trans ((Cert.WORefIdeal.Read.val_main_v6_eq _ _).trans ?_)
    rw [(hargs c).1, (hargs c).2]
    exact ref_eq _ _

end Cert.Proof.WO

end
-- ==== Proof.WPoolOut.lean ====
/-
  `WPoolOut`: the weight gradient of the pool branch's output projection, as the kernel computes it
  (one product of the two operands' column blocks per grid point, over all 4096 rows), against the reference's derivative of a
  product.  Over the extended reals both are, at every index, the sum over the rows of the products of the two entries.
-/
module

public import proofs.«01_k».proof.Defs
public import proofs.«01_k».proof.Proof.Gen.WPoolOut
public import proofs.«01_k».proof.Proof.Gen.WPoolOutIdeal
public import proofs.«01_k».proof.Proof.Gen.WPoolOutIdeal.Value
public import proofs.«01_k».proof.Proof.Gen.WPoolOutRefIdeal
public import proofs.«01_k».proof.Proof.Gen.WPoolOutRefIdeal.Run
public import proofs.«01_k».proof.Proof.Gen.WPoolOutRefIdeal.Read
public import Idealize.ShloMosaic.Lib.Pointwise

@[expose] public section

set_option maxRecDepth 16384

noncomputable section

namespace Cert.Proof.WPoolOut

open Idealize.ShloMosaic Idealize.ShloMosaic.TcCoe Idealize.SL.Sem
open Cert.WPoolOutIdeal Cert.WPoolOutIdeal.Gen
open Idealize.ShloMosaic.Pipeline (Dat Cfg Window)

variable (m : (ℓ : Loc nD τ sig) → Buf (Elt Ideal) ℓ)

/-- The weight gradient: the transposed activations times the cotangent. -/
def G (x0 : Vec Ideal S4096x512 .bf16) (x1 : Vec Ideal S4096x1024 .bf16) : Vec Ideal S512x1024 .bf16 := fun i =>
  (∑ k : Fin 4096, (x0 (ix2 k (i 0)) : EReal) * x1 (ix2 k (i 1)) : EReal)

/-- How the blocks move: the first operand's columns with the result's rows, the second's with its columns. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ (p : Fin 1) (q : Fin 4), ∃ t : Fin cfg0.N, win0_2.index t = ![p.val, q.val] :=
  (by decide +kernel : ∀ (p : Fin 1) (q : Fin 4), ∃ t : Fin grid0.N, _)

/-- The body's product at an index: the sum over the rows of the two blocks. -/
theorem pay_apply (x0 : Vec Ideal S4096x512 .bf16) (x1 : Vec Ideal S4096x256 .bf16) (j : S512x256.Idx) :
    k0_pay1 (F := Ideal) x0 x1 j = (∑ k : Fin 4096, (x0 (ix2 k (j 0)) : EReal) * x1 (ix2 k (j 1)) : EReal) := by
  unfold k0_pay1
  pointwise [dot_S4096x512_S4096x256_S512x256_0_0_1_1_n_n]

/-- What a point writes back is its block of `G`. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  have hz0 : (![0, 0] : Fin S4096x512.rank → Nat) = fun _ => 0 := funext fun a => by fin_cases a <;> rfl
  have hz1 : (![0, 0] : Fin S4096x256.rank → Nat) = fun _ => 0 := funext fun a => by fin_cases a <;> rfl
  have hz2 : (![0, 0] : Fin S512x256.rank → Nat) = fun _ => 0 := funext fun a => by fin_cases a <;> rfl
  rw [Value.flushed2]
  unfold out0_2
  rw [View.canon_unit_zero hz2, View.ld_unit_zero hz0, View.ld_unit_zero hz1]
  obtain ⟨h00, h01, h10, h11⟩ := idx_facts t
  funext j
  show k0_pay1 (F := Ideal) (iblk m c 0 t) (iblk m c 1 t) j = G _ _ (((cfg0.win 2).blk t).view.emb j)
  rw [pay_apply]
  unfold G
  refine Finset.sum_congr rfl fun k _ => ?_
  have e0 : ((cfg0.win 0).blk t).view.emb (ix2 k (j 0)) = ix2 k ((((cfg0.win 2).blk t).view.emb j) 0) := by
    refine Shape.idx_ext₂ ?_ ?_
    · refine (Window.rect_emb_val win0_0 t _ (0 : Fin 2)).trans ?_
      rw [h00, Nat.zero_mul, Nat.zero_add]; rfl
    · refine (Window.rect_emb_val win0_0 t _ (1 : Fin 2)).trans ?_
      rw [h01]; exact (Window.rect_emb_val win0_2 t j (0 : Fin 2)).symm
  have e1 : ((cfg0.win 1).blk t).view.emb (ix2 k (j 1)) = ix2 k ((((cfg0.win 2).blk t).view.emb j) 1) := by
    refine Shape.idx_ext₂ ?_ ?_
    · refine (Window.rect_emb_val win0_1 t _ (0 : Fin 2)).trans ?_
      rw [h10, Nat.zero_mul, Nat.zero_add]; rfl
    · refine (Window.rect_emb_val win0_1 t _ (1 : Fin 2)).trans ?_
      rw [h11]; exact (Window.rect_emb_val win0_2 t j (1 : Fin 2)).symm
  exact congrArg₂ (fun a b : EReal => a * b) (congrArg (m ((c : Thread nD τ).loc main_arg0)) e0) (congrArg (m ((c : Thread nD τ).loc main_arg1)) e1)

/-- Which indices a point's block holds. -/
theorem mem_blk (t : Fin cfg0.N) (i : S512x1024.Idx) : i ∈ ((cfg0.win 2).blk t).view.set
    ↔ ∀ a : Fin 2, win0_2.index t a * S512x256.size a ≤ (i a).val ∧ (i a).val < win0_2.index t a * S512x256.size a + S512x256.size a := by
  show i ∈ ((View.whole main_v0).slice (win0_2.rect t)).set ↔ _
  rw [View.set_slice_whole, Rect.mem_set_unit]; exact Iff.rfl

/-- Every index is in some point's block. -/
theorem cover (i : S512x1024.Idx) : ∃ t : Fin cfg0.N, (cfg0.win 2).flush t = true ∧ i ∈ ((cfg0.win 2).blk t).view.set := by
  have l0 : (i 0).val < 512 := (i 0).isLt
  have l1 : (i 1).val < 1024 := (i 1).isLt
  obtain ⟨t, ht⟩ := idx_onto ⟨(i 0).val / 512, by omega⟩ ⟨(i 1).val / 256, by omega⟩
  refine ⟨t, (by decide +kernel : ∀ t : Fin grid0.N, (cfg0.win 2).flush t = true) t, ?_⟩
  rw [mem_blk, ht]
  intro a
  match a with
  | ⟨0, _⟩ => show (i 0).val / 512 * 512 ≤ (i 0).val ∧ (i 0).val < (i 0).val / 512 * 512 + 512; omega
  | ⟨1, _⟩ => show (i 1).val / 256 * 256 ≤ (i 1).val ∧ (i 1).val < (i 1).val / 256 * 256 + 256; omega

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The reference's result is `G` of its arguments. -/
theorem ref_eq (x0 : Vec Ideal S4096x512 .bf16) (x1 : Vec Ideal S4096x1024 .bf16) :
    Cert.WPoolOutRefIdeal.Read.val_main_v6 (F := Ideal) x0 x1 = G x0 x1 := by
  funext i
  open Cert.WPoolOutRefIdeal.Read in
  rw [val_main_v6_apply, val_main_v5_apply, val_main_v4_apply]
  simp only [Cert.WPoolOutRefIdeal.Read.val_main_v1_apply, Cert.WPoolOutRefIdeal.Read.val_main_v3_apply]
  unfold G
  refine Finset.sum_congr rfl fun k _ => ?_
  exact (mul_comm (x1 _ : EReal) (x0 _)).trans (congrArg₂ (fun a b : EReal => a * b) (congrArg x0 (Shape.idx_ext₂ rfl rfl)) (congrArg x1 (Shape.idx_ext₂ rfl rfl)))

/-- The kernel's body table is the ideal kernel's, whose text is the same. -/
theorem defs₀_eq {F : FTy → Type} [FloatOps F] : Cert.WPoolOut.defs₀ (F := F) = Cert.WPoolOutIdeal.defs₀ (F := F) :=
  congrArg Defs.onTc (funext fun l => funext fun a => by
    match l, a with
    | 0, (t, s) => rfl)

/-- With the pipeline's labels, too. -/
theorem defs_eq {F : FTy → Type} [FloatOps F] : Cert.WPoolOut.defs (F := F) = Cert.WPoolOutIdeal.defs (F := F) :=
  congrArg (fun d => Pipeline.defs Cert.WPoolOut.pcfgs d) defs₀_eq

/-- The kernel's frame. -/
theorem frame_P : Cert.quiescent_WPoolOut := fun m ρ _ => by
  rw [defs_eq]
  exact Cert.WPoolOutIdeal.Gen.frame (F := Bits) m ρ

/-- The ideal kernel's frame. -/
theorem frame_PI : Cert.quiescent_WPoolOutIdeal := fun m ρ _ => Cert.WPoolOutIdeal.Gen.frame (F := Ideal) m ρ

/-- The reference's frame. -/
theorem frame_RI : Cert.quiescent_WPoolOutRefIdeal := fun m ρ _ =>
  (θ_run Cert.WPoolOutRefIdeal.defs _ _).mono (fun r h => ⟨fun c => (h c).2,
      Idealize.ShloMosaic.sem_eq_zero_of_no_sems (by decide) r.2⟩)
    (Cert.WPoolOutRefIdeal.Value.run (F := Ideal) m ρ)

/-- Kernel and reference agree at every index. -/
theorem algebraic : Cert.algebraic_WPoolOutIdeal_WPoolOutRefIdeal := by
  intro m g m' g' _ hargs
  refine ⟨fun c => G (m ((c.tc : Thread nD τ).loc main_arg0)) (m ((c.tc : Thread nD τ).loc main_arg1)), ?_, ?_⟩
  · exact (θ_run _ _ _).mono (fun r h c => ⟨(h c).1.trans (final m c), (h c).2⟩) (Value.run_blocks (F := Ideal) m g)
  · refine (θ_run _ _ _).mono (fun r h c => ⟨?_, (h c).2⟩) (Cert.WPoolOutRefIdeal.Value.run (F := Ideal) m' g')
    refine (h c).1.trans ((Cert.WPoolOutRefIdeal.Read.val_main_v6_eq _ _).trans ?_)
    rw [(hargs c).1, (hargs c).2]
    exact ref_eq _ _

end Cert.Proof.WPoolOut

end
-- ==== Proof.WRnnOut.lean ====
/-
  `WRnnOut`: the weight gradient of the recurrent branch's output projection, as the kernel computes it
  (one product of the two operands' column blocks per grid point, over all 4096 rows), against the reference's derivative of a
  product.  Over the extended reals both are, at every index, the sum over the rows of the products of the two entries.
-/
module

public import proofs.«01_k».proof.Defs
public import proofs.«01_k».proof.Proof.Gen.WRnnOut
public import proofs.«01_k».proof.Proof.Gen.WRnnOutIdeal
public import proofs.«01_k».proof.Proof.Gen.WRnnOutIdeal.Value
public import proofs.«01_k».proof.Proof.Gen.WRnnOutRefIdeal
public import proofs.«01_k».proof.Proof.Gen.WRnnOutRefIdeal.Run
public import proofs.«01_k».proof.Proof.Gen.WRnnOutRefIdeal.Read
public import Idealize.ShloMosaic.Lib.Pointwise

@[expose] public section

set_option maxRecDepth 16384

noncomputable section

namespace Cert.Proof.WRnnOut

open Idealize.ShloMosaic Idealize.ShloMosaic.TcCoe Idealize.SL.Sem
open Cert.WRnnOutIdeal Cert.WRnnOutIdeal.Gen
open Idealize.ShloMosaic.Pipeline (Dat Cfg Window)

variable (m : (ℓ : Loc nD τ sig) → Buf (Elt Ideal) ℓ)

/-- The weight gradient: the transposed activations times the cotangent. -/
def G (x0 : Vec Ideal S4096x1024 .bf16) (x1 : Vec Ideal S4096x1024 .bf16) : Vec Ideal S1024x1024 .bf16 := fun i =>
  (∑ k : Fin 4096, (x0 (ix2 k (i 0)) : EReal) * x1 (ix2 k (i 1)) : EReal)

/-- How the blocks move: the first operand's columns with the result's rows, the second's with its columns. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ (p : Fin 1) (q : Fin 4), ∃ t : Fin cfg0.N, win0_2.index t = ![p.val, q.val] :=
  (by decide +kernel : ∀ (p : Fin 1) (q : Fin 4), ∃ t : Fin grid0.N, _)

/-- The body's product at an index: the sum over the rows of the two blocks. -/
theorem pay_apply (x0 : Vec Ideal S4096x1024 .bf16) (x1 : Vec Ideal S4096x256 .bf16) (j : S1024x256.Idx) :
    k0_pay1 (F := Ideal) x0 x1 j = (∑ k : Fin 4096, (x0 (ix2 k (j 0)) : EReal) * x1 (ix2 k (j 1)) : EReal) := by
  unfold k0_pay1
  pointwise [dot_S4096x1024_S4096x256_S1024x256_0_0_1_1_n_n]

/-- What a point writes back is its block of `G`. -/
theorem flushed_eq (c : Dev nD) (t : Fin cfg0.N) :
    (dats m 0 c).flushed 2 t
      = ((cfg0.win 2).blk t).view.read (Elt Ideal) (G (m ((c : Thread nD τ).loc main_arg0)) (m ((c : Thread nD τ).loc main_arg1))) := by
  have hz0 : (![0, 0] : Fin S4096x1024.rank → Nat) = fun _ => 0 := funext fun a => by fin_cases a <;> rfl
  have hz1 : (![0, 0] : Fin S4096x256.rank → Nat) = fun _ => 0 := funext fun a => by fin_cases a <;> rfl
  have hz2 : (![0, 0] : Fin S1024x256.rank → Nat) = fun _ => 0 := funext fun a => by fin_cases a <;> rfl
  rw [Value.flushed2]
  unfold out0_2
  rw [View.canon_unit_zero hz2, View.ld_unit_zero hz0, View.ld_unit_zero hz1]
  obtain ⟨h00, h01, h10, h11⟩ := idx_facts t
  funext j
  show k0_pay1 (F := Ideal) (iblk m c 0 t) (iblk m c 1 t) j = G _ _ (((cfg0.win 2).blk t).view.emb j)
  rw [pay_apply]
  unfold G
  refine Finset.sum_congr rfl fun k _ => ?_
  have e0 : ((cfg0.win 0).blk t).view.emb (ix2 k (j 0)) = ix2 k ((((cfg0.win 2).blk t).view.emb j) 0) := by
    refine Shape.idx_ext₂ ?_ ?_
    · refine (Window.rect_emb_val win0_0 t _ (0 : Fin 2)).trans ?_
      rw [h00, Nat.zero_mul, Nat.zero_add]; rfl
    · refine (Window.rect_emb_val win0_0 t _ (1 : Fin 2)).trans ?_
      rw [h01]; exact (Window.rect_emb_val win0_2 t j (0 : Fin 2)).symm
  have e1 : ((cfg0.win 1).blk t).view.emb (ix2 k (j 1)) = ix2 k ((((cfg0.win 2).blk t).view.emb j) 1) := by
    refine Shape.idx_ext₂ ?_ ?_
    · refine (Window.rect_emb_val win0_1 t _ (0 : Fin 2)).trans ?_
      rw [h10, Nat.zero_mul, Nat.zero_add]; rfl
    · refine (Window.rect_emb_val win0_1 t _ (1 : Fin 2)).trans ?_
      rw [h11]; exact (Window.rect_emb_val win0_2 t j (1 : Fin 2)).symm
  exact congrArg₂ (fun a b : EReal => a * b) (congrArg (m ((c : Thread nD τ).loc main_arg0)) e0) (congrArg (m ((c : Thread nD τ).loc main_arg1)) e1)

/-- Which indices a point's block holds. -/
theorem mem_blk (t : Fin cfg0.N) (i : S1024x1024.Idx) : i ∈ ((cfg0.win 2).blk t).view.set
    ↔ ∀ a : Fin 2, win0_2.index t a * S1024x256.size a ≤ (i a).val ∧ (i a).val < win0_2.index t a * S1024x256.size a + S1024x256.size a := by
  show i ∈ ((View.whole main_v0).slice (win0_2.rect t)).set ↔ _
  rw [View.set_slice_whole, Rect.mem_set_unit]; exact Iff.rfl

/-- Every index is in some point's block. -/
theorem cover (i : S1024x1024.Idx) : ∃ t : Fin cfg0.N, (cfg0.win 2).flush t = true ∧ i ∈ ((cfg0.win 2).blk t).view.set := by
  have l0 : (i 0).val < 1024 := (i 0).isLt
  have l1 : (i 1).val < 1024 := (i 1).isLt
  obtain ⟨t, ht⟩ := idx_onto ⟨(i 0).val / 1024, by omega⟩ ⟨(i 1).val / 256, by omega⟩
  refine ⟨t, (by decide +kernel : ∀ t : Fin grid0.N, (cfg0.win 2).flush t = true) t, ?_⟩
  rw [mem_blk, ht]
  intro a
  match a with
  | ⟨0, _⟩ => show (i 0).val / 1024 * 1024 ≤ (i 0).val ∧ (i 0).val < (i 0).val / 1024 * 1024 + 1024; omega
  | ⟨1, _⟩ => show (i 1).val / 256 * 256 ≤ (i 1).val ∧ (i 1).val < (i 1).val / 256 * 256 + 256; omega

/-- The result array after the run. -/
theorem final (c : Dev nD) : (dats m 0 c).arrAt 2 cfg0.N = G (m ((c : Thread nD τ).loc main_arg0)) (m ((c : Thread nD τ).loc main_arg1)) :=
  (dats m 0 c).arrAt_eq_of_cover 2 _ (fun t _ => flushed_eq m c t) cover

/-- The reference's result is `G` of its arguments. -/
theorem ref_eq (x0 : Vec Ideal S4096x1024 .bf16) (x1 : Vec Ideal S4096x1024 .bf16) :
    Cert.WRnnOutRefIdeal.Read.val_main_v6 (F := Ideal) x0 x1 = G x0 x1 := by
  funext i
  open Cert.WRnnOutRefIdeal.Read in
  rw [val_main_v6_apply, val_main_v5_apply, val_main_v4_apply]
  simp only [Cert.WRnnOutRefIdeal.Read.val_main_v1_apply, Cert.WRnnOutRefIdeal.Read.val_main_v3_apply]
  unfold G
  refine Finset.sum_congr rfl fun k _ => ?_
  exact (mul_comm (x1 _ : EReal) (x0 _)).trans (congrArg₂ (fun a b : EReal => a * b) (congrArg x0 (Shape.idx_ext₂ rfl rfl)) (congrArg x1 (Shape.idx_ext₂ rfl rfl)))

/-- The kernel's body table is the ideal kernel's, whose text is the same. -/
theorem defs₀_eq {F : FTy → Type} [FloatOps F] : Cert.WRnnOut.defs₀ (F := F) = Cert.WRnnOutIdeal.defs₀ (F := F) :=
  congrArg Defs.onTc (funext fun l => funext fun a => by
    match l, a with
    | 0, (t, s) => rfl)

/-- With the pipeline's labels, too. -/
theorem defs_eq {F : FTy → Type} [FloatOps F] : Cert.WRnnOut.defs (F := F) = Cert.WRnnOutIdeal.defs (F := F) :=
  congrArg (fun d => Pipeline.defs Cert.WRnnOut.pcfgs d) defs₀_eq

/-- The kernel's frame. -/
theorem frame_P : Cert.quiescent_WRnnOut := fun m ρ _ => by
  rw [defs_eq]
  exact Cert.WRnnOutIdeal.Gen.frame (F := Bits) m ρ

/-- The ideal kernel's frame. -/
theorem frame_PI : Cert.quiescent_WRnnOutIdeal := fun m ρ _ => Cert.WRnnOutIdeal.Gen.frame (F := Ideal) m ρ

/-- The reference's frame. -/
theorem frame_RI : Cert.quiescent_WRnnOutRefIdeal := fun m ρ _ =>
  (θ_run Cert.WRnnOutRefIdeal.defs _ _).mono (fun r h => ⟨fun c => (h c).2,
      Idealize.ShloMosaic.sem_eq_zero_of_no_sems (by decide) r.2⟩)
    (Cert.WRnnOutRefIdeal.Value.run (F := Ideal) m ρ)

/-- Kernel and reference agree at every index. -/
theorem algebraic : Cert.algebraic_WRnnOutIdeal_WRnnOutRefIdeal := by
  intro m g m' g' _ hargs
  refine ⟨fun c => G (m ((c.tc : Thread nD τ).loc main_arg0)) (m ((c.tc : Thread nD τ).loc main_arg1)), ?_, ?_⟩
  · exact (θ_run _ _ _).mono (fun r h c => ⟨(h c).1.trans (final m c), (h c).2⟩) (Value.run_blocks (F := Ideal) m g)
  · refine (θ_run _ _ _).mono (fun r h c => ⟨?_, (h c).2⟩) (Cert.WRnnOutRefIdeal.Value.run (F := Ideal) m' g')
    refine (h c).1.trans ((Cert.WRnnOutRefIdeal.Read.val_main_v6_eq _ _).trans ?_)
    rw [(hargs c).1, (hargs c).2]
    exact ref_eq _ _

end Cert.Proof.WRnnOut

end
-- ==== Proof.WIn.lean ====
/-
  `WIn`: the weight gradient of the input projection, laid out transposed, as the kernel computes it
  (one product of the two operands' column blocks per grid point, over all 4096 rows), against the reference's derivative of a
  product.  Over the extended reals both are, at every index, the sum over the rows of the products of the two entries.
-/
module

public import proofs.«01_k».proof.Defs
public import proofs.«01_k».proof.Proof.Gen.WIn
public import proofs.«01_k».proof.Proof.Gen.WInIdeal
public import proofs.«01_k».proof.Proof.Gen.WInIdeal.Value
public import proofs.«01_k».proof.Proof.Gen.WInRefIdeal
public import proofs.«01_k».proof.Proof.Gen.WInRefIdeal.Run
public import proofs.«01_k».proof.Proof.Gen.WInRefIdeal.Read
public import Idealize.ShloMosaic.Lib.Pointwise

@[expose] public section

set_option maxRecDepth 16384

noncomputable section

namespace Cert.Proof.WIn

open Idealize.ShloMosaic Idealize.ShloMosaic.TcCoe Idealize.SL.Sem
open Cert.WInIdeal Cert.WInIdeal.Gen
open Idealize.ShloMosaic.Pipeline (Dat Cfg Window)

variable (m : (ℓ : Loc nD τ sig) → Buf (Elt Ideal) ℓ)

/-- The weight gradient: the transposed cotangent times the activations. -/
def G (x0 : Vec Ideal S4096x4608 .bf16) (x1 : Vec Ideal S4096x1024 .bf16) : Vec Ideal S4608x1024 .bf16 := fun i =>
  (∑ k : Fin 4096, (x0 (ix2 k (i 0)) : EReal) * x1 (ix2 k (i 1)) : EReal)

/-- How the blocks move: the first operand's columns with the result's rows, the second's with its columns. -/
theorem idx_facts : ∀ t : Fin cfg0.N, win0_0.index t (0 : Fin 2) = 0 ∧ win0_0.index t (1 : Fin 2) = win0_2.index t (0 : Fin 2)
    ∧ win0_1.index t (0 : Fin 2) = 0 ∧ win0_1.index t (1 : Fin 2) = win0_2.index t (1 : Fin 2) :=
  (by decide +kernel : ∀ t : Fin grid0.N, _)

/-- Every block of the result is some point's. -/
theorem idx_onto : ∀ (p : Fin 4) (q : Fin 1), ∃ t : Fin cfg0.N, win0_2.index t = ![p.val, q.val] :=
  (by decide +kernel : ∀ (p : Fin 4) (q : Fin 1), ∃ t : Fin grid0.N, _)

/-- The body's product at an index: the sum over the rows of the two blocks. -/
theorem pay_apply (x0 : Vec Ideal S4096x1152 .bf16) (x1 : Vec Ideal S4096x1024 .bf16) (j : S1152x1024.Idx) :
    k0_pay1 (F := Ideal) x0 x1 j = (∑ k : Fin 4096, (x0 (ix2 k (j 0)) : EReal) * x1 (ix2 k (j 1)) : EReal) := by
  unfold k0_pay1
  pointwise [dot_S4096x1152_S4096x1024_S1152x1024_0_0_1_1_n_n]

/-- What a point writes back is its block of `G`. -/
theorem flushed_eq (c : Dev nD) (t : Fin cfg0.N) :
    (dats m 0 c).flushed 2 t
      = ((cfg0.win 2).blk t).view.read (Elt Ideal) (G (m ((c : Thread nD τ).loc main_arg1)) (m ((c : Thread nD τ).loc main_arg0))) := by
  have hz0 : (![0, 0] : Fin S4096x1152.rank → Nat) = fun _ => 0 := funext fun a => by fin_cases a <;> rfl
  have hz1 : (![0, 0] : Fin S4096x1024.rank → Nat) = fun _ => 0 := funext fun a => by fin_cases a <;> rfl
  have hz2 : (![0, 0] : Fin S1152x1024.rank → Nat) = fun _ => 0 := funext fun a => by fin_cases a <;> rfl
  rw [Value.flushed2]
  unfold out0_2
  rw [View.canon_unit_zero hz2, View.ld_unit_zero hz0, View.ld_unit_zero hz1]
  obtain ⟨h00, h01, h10, h11⟩ := idx_facts t
  funext j
  show k0_pay1 (F := Ideal) (iblk m c 0 t) (iblk m c 1 t) j = G _ _ (((cfg0.win 2).blk t).view.emb j)
  rw [pay_apply]
  unfold G
  refine Finset.sum_congr rfl fun k _ => ?_
  have e0 : ((cfg0.win 0).blk t).view.emb (ix2 k (j 0)) = ix2 k ((((cfg0.win 2).blk t).view.emb j) 0) := by
    refine Shape.idx_ext₂ ?_ ?_
    · refine (Window.rect_emb_val win0_0 t _ (0 : Fin 2)).trans ?_
      rw [h00, Nat.zero_mul, Nat.zero_add]; rfl
    · refine (Window.rect_emb_val win0_0 t _ (1 : Fin 2)).trans ?_
      rw [h01]; exact (Window.rect_emb_val win0_2 t j (0 : Fin 2)).symm
  have e1 : ((cfg0.win 1).blk t).view.emb (ix2 k (j 1)) = ix2 k ((((cfg0.win 2).blk t).view.emb j) 1) := by
    refine Shape.idx_ext₂ ?_ ?_
    · refine (Window.rect_emb_val win0_1 t _ (0 : Fin 2)).trans ?_
      rw [h10, Nat.zero_mul, Nat.zero_add]; rfl
    · refine (Window.rect_emb_val win0_1 t _ (1 : Fin 2)).trans ?_
      rw [h11]; exact (Window.rect_emb_val win0_2 t j (1 : Fin 2)).symm
  exact congrArg₂ (fun a b : EReal => a * b) (congrArg (m ((c : Thread nD τ).loc main_arg1)) e0) (congrArg (m ((c : Thread nD τ).loc main_arg0)) e1)

/-- Which indices a point's block holds. -/
theorem mem_blk (t : Fin cfg0.N) (i : S4608x1024.Idx) : i ∈ ((cfg0.win 2).blk t).view.set
    ↔ ∀ a : Fin 2, win0_2.index t a * S1152x1024.size a ≤ (i a).val ∧ (i a).val < win0_2.index t a * S1152x1024.size a + S1152x1024.size a := by
  show i ∈ ((View.whole main_v0).slice (win0_2.rect t)).set ↔ _
  rw [View.set_slice_whole, Rect.mem_set_unit]; exact Iff.rfl

/-- Every index is in some point's block. -/
theorem cover (i : S4608x1024.Idx) : ∃ t : Fin cfg0.N, (cfg0.win 2).flush t = true ∧ i ∈ ((cfg0.win 2).blk t).view.set := by
  have l0 : (i 0).val < 4608 := (i 0).isLt
  have l1 : (i 1).val < 1024 := (i 1).isLt
  obtain ⟨t, ht⟩ := idx_onto ⟨(i 0).val / 1152, by omega⟩ ⟨(i 1).val / 1024, by omega⟩
  refine ⟨t, (by decide +kernel : ∀ t : Fin grid0.N, (cfg0.win 2).flush t = true) t, ?_⟩
  rw [mem_blk, ht]
  intro a
  match a with
  | ⟨0, _⟩ => show (i 0).val / 1152 * 1152 ≤ (i 0).val ∧ (i 0).val < (i 0).val / 1152 * 1152 + 1152; omega
  | ⟨1, _⟩ => show (i 1).val / 1024 * 1024 ≤ (i 1).val ∧ (i 1).val < (i 1).val / 1024 * 1024 + 1024; omega

/-- The result array after the run. -/
theorem final (c : Dev nD) : (dats m 0 c).arrAt 2 cfg0.N = G (m ((c : Thread nD τ).loc main_arg1)) (m ((c : Thread nD τ).loc main_arg0)) :=
  (dats m 0 c).arrAt_eq_of_cover 2 _ (fun t _ => flushed_eq m c t) cover

/-- The reference's result is `G` of its arguments. -/
theorem ref_eq (x0 : Vec Ideal S4096x4608 .bf16) (x1 : Vec Ideal S4096x1024 .bf16) :
    Cert.WInRefIdeal.Read.val_main_v7 (F := Ideal) x1 x0 = G x0 x1 := by
  funext i
  open Cert.WInRefIdeal.Read in
  rw [val_main_v7_apply, val_main_v6_apply, val_main_v5_apply, val_main_v4_apply]
  simp only [Cert.WInRefIdeal.Read.val_main_v1_apply, Cert.WInRefIdeal.Read.val_main_v3_apply]
  unfold G
  refine Finset.sum_congr rfl fun k _ => ?_
  exact congrArg₂ (fun a b : EReal => a * b) (congrArg x0 (Shape.idx_ext₂ rfl rfl)) (congrArg x1 (Shape.idx_ext₂ rfl rfl))

/-- The kernel's body table is the ideal kernel's, whose text is the same. -/
theorem defs₀_eq {F : FTy → Type} [FloatOps F] : Cert.WIn.defs₀ (F := F) = Cert.WInIdeal.defs₀ (F := F) :=
  congrArg Defs.onTc (funext fun l => funext fun a => by
    match l, a with
    | 0, (t, s) => rfl)

/-- With the pipeline's labels, too. -/
theorem defs_eq {F : FTy → Type} [FloatOps F] : Cert.WIn.defs (F := F) = Cert.WInIdeal.defs (F := F) :=
  congrArg (fun d => Pipeline.defs Cert.WIn.pcfgs d) defs₀_eq

/-- The kernel's frame. -/
theorem frame_P : Cert.quiescent_WIn := fun m ρ _ => by
  rw [defs_eq]
  exact Cert.WInIdeal.Gen.frame (F := Bits) m ρ

/-- The ideal kernel's frame. -/
theorem frame_PI : Cert.quiescent_WInIdeal := fun m ρ _ => Cert.WInIdeal.Gen.frame (F := Ideal) m ρ

/-- The reference's frame. -/
theorem frame_RI : Cert.quiescent_WInRefIdeal := fun m ρ _ =>
  (θ_run Cert.WInRefIdeal.defs _ _).mono (fun r h => ⟨fun c => (h c).2,
      Idealize.ShloMosaic.sem_eq_zero_of_no_sems (by decide) r.2⟩)
    (Cert.WInRefIdeal.Value.run (F := Ideal) m ρ)

/-- Kernel and reference agree at every index. -/
theorem algebraic : Cert.algebraic_WInIdeal_WInRefIdeal := by
  intro m g m' g' _ hargs
  refine ⟨fun c => G (m ((c.tc : Thread nD τ).loc main_arg1)) (m ((c.tc : Thread nD τ).loc main_arg0)), ?_, ?_⟩
  · exact (θ_run _ _ _).mono (fun r h c => ⟨(h c).1.trans (final m c), (h c).2⟩) (Value.run_blocks (F := Ideal) m g)
  · refine (θ_run _ _ _).mono (fun r h c => ⟨?_, (h c).2⟩) (Cert.WInRefIdeal.Value.run (F := Ideal) m' g')
    refine (h c).1.trans ((Cert.WInRefIdeal.Read.val_main_v7_eq _ _).trans ?_)
    rw [(hargs c).1, (hargs c).2]
    exact ref_eq _ _

end Cert.Proof.WIn

end
-- ==== Proof.Step.lean ====
/-
  What the optimiser's six reductions share: the sum of the partial gradients of one entry, AdamW's step on one entry,
  the device's own block picked out of eight, and the range of the device's index.
-/
module

public import Idealize.ShloMosaic.Lib.Pointwise
public import Idealize.ShloMosaic.PureOps.Ideal
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost

@[expose] public section

noncomputable section

namespace Cert.Proof.Step

open Idealize.ShloMosaic

/-- The reduced gradient of one entry: the device's own partial sum, the neighbour's, and the two scattered ones. -/
def total (own near far₀ far₁ : EReal) : EReal := own + near + far₀ + far₁

/-- The first moment after the step. -/
def newM (μ g : EReal) : EReal :=
  (FloatOps.ofBits (F := Ideal) .f32 0x3F666666#32 : EReal) * μ + (FloatOps.ofBits (F := Ideal) .f32 0x3DCCCCCD#32 : EReal) * g

/-- The second moment after the step. -/
def newV (ν g : EReal) : EReal :=
  (FloatOps.ofBits (F := Ideal) .f32 0x3F7FBE77#32 : EReal) * ν + (FloatOps.ofBits (F := Ideal) .f32 0x3A83126F#32 : EReal) * (g * g)

/-- The change of the weight: the corrected first moment over the root of the corrected second, and the weight's decay. -/
def delta (ω μ ν g : EReal) : EReal :=
  (FloatOps.ofBits (F := Ideal) .f32 0xBA83126F#32 : EReal)
    * (Ideal.div (Ideal.div (newM μ g) (FloatOps.ofBits (F := Ideal) .f32 0x3F26BD02#32 : EReal))
        (Ideal.sqrt (Ideal.div (newV ν g) (FloatOps.ofBits (F := Ideal) .f32 0x3C231ACC#32 : EReal))
          + (FloatOps.ofBits (F := Ideal) .f32 0x322BCC77#32 : EReal))
      + (FloatOps.ofBits (F := Ideal) .f32 0x3C23D70A#32 : EReal) * ω)

/-- The sum depends on its four arguments' values only. -/
theorem total_congr {a a' b b' c c' d d' : EReal} (ha : a = a') (hb : b = b') (hc : c = c') (hd : d = d') : total a b c d = total a' b' c' d' := by
  rw [ha, hb, hc, hd]

/-- The sum as two sums from zero give it, one after the other. -/
theorem total_eq {z z' : EReal} (hz : z = 0) (hz' : z' = 0) (own near far₀ far₁ : EReal) : z + own + near + (z' + (far₀ + far₁)) = total own near far₀ far₁ := by
  rw [hz, hz', zero_add, zero_add, ← add_assoc]
  rfl

/-- The change depends on its four arguments' values only. -/
theorem delta_congr {ω ω' μ μ' ν ν' g g' : EReal} (hω : ω = ω') (hμ : μ = μ') (hν : ν = ν') (hg : g = g') : delta ω μ ν g = delta ω' μ' ν' g' := by
  rw [hω, hμ, hν, hg]

/-- The entry of the block numbered `w` among eight. -/
def pick (w : BitVec 32) (f : Fin 8 → EReal) : EReal := ∑ k : Fin 8, if BitVec.ofNat 32 k.val = w then f k else 0

/-- The word of all zeros reads as zero. -/
theorem bits_zero : (FloatOps.ofBits (F := Ideal) .f32 0x00000000#32 : EReal) = 0 := Ideal.ofBits_zero .f32

/-- A word below eight is one of the eight numbers, and only its own block is left of the sum. -/
theorem pick_eq (w : BitVec 32) (h : w.toNat < 8) (f : Fin 8 → EReal) : pick w f = f ⟨w.toNat, h⟩ := by
  unfold pick
  rw [Finset.sum_eq_single (⟨w.toNat, h⟩ : Fin 8)]
  · exact if_pos (BitVec.eq_of_toNat_eq (by rw [BitVec.toNat_ofNat]; exact Nat.mod_eq_of_lt w.isLt))
  · intro k _ hk
    refine if_neg fun e => hk (Fin.ext ?_)
    have l : k.val < 8 := k.isLt
    have := congrArg BitVec.toNat e
    rw [BitVec.toNat_ofNat, Nat.mod_eq_of_lt (by omega)] at this
    exact this
  · intro hk
    exact absurd (Finset.mem_univ _) hk

/-- The comparison for equality chooses between two values as the equality itself does. -/
theorem select_eq (a b : BitVec 32) (x y : EReal) :
    Scalar.select (α := EReal) (IntOp.cmpi .eq a b) x y = if a = b then x else y := by
  by_cases h : a = b
  · subst h
    rw [if_pos rfl]
    simp [Scalar.select, IntOp.cmpi]
  · rw [if_neg h]
    simp [Scalar.select, IntOp.cmpi, show (a == b) = false from beq_eq_false_iff_ne.mpr h]

/-- A choice by equality depends on the values compared and chosen only. -/
theorem pick_term {a a' b b' : BitVec 32} {x x' y y' : EReal} (ha : a = a') (hb : b = b') (hx : x = x') (hy : y = y') :
    (if a = b then x else y) = if a' = b' then x' else y' := by
  rw [ha, hb, hx, hy]

/-- A word that both comparisons place between zero and eight is below eight. -/
theorem word_lt (w : BitVec 32) (h : IntOp.andi (IntOp.cmpi .sge w 0#32) (IntOp.cmpi .slt w 8#32) = 1#1) : w.toNat < 8 := by
  have andi_one (a b : BitVec 1) : IntOp.andi a b = 1#1 → a = 1#1 ∧ b = 1#1 := by revert a b; decide
  have ofBool_eq_one (p : Bool) : (BitVec.ofBool p = 1#1) ↔ p = true := by cases p <;> decide
  have hw := andi_one _ _ h
  simp only [ofBool_eq_one, IntOp.cmpi, BitVec.sle, BitVec.slt, decide_eq_true_eq, BitVec.toInt, BitVec.toNat_ofNat] at hw
  have hw1 := hw.1
  have hw2 := hw.2
  have := w.isLt
  clear hw h
  simp at hw1 hw2
  split at hw1 <;> split at hw2 <;> omega

/-- The number of a block counted from a word below eight. -/
theorem word_at (w : BitVec 32) (h : w.toNat < 8) (s k : ℕ) (hs : s ≤ 4) (hk : k < 4) : (w * BitVec.ofNat 32 s + BitVec.ofNat 32 k).toNat = w.toNat * s + k := by
  have l : w.toNat * s ≤ 7 * 4 := Nat.mul_le_mul (by omega) hs
  rw [BitVec.toNat_add, BitVec.toNat_mul, BitVec.toNat_ofNat, BitVec.toNat_ofNat, Nat.mod_eq_of_lt (a := s) (by omega), Nat.mod_eq_of_lt (a := k) (by omega),
    Nat.mod_eq_of_lt (a := w.toNat * s) (by omega), Nat.mod_eq_of_lt (by omega)]

/-- A table of one word has one index. -/
theorem one_idx (i : (⟨1, ![1]⟩ : Shape).Idx) : i = ix1 (0 : Fin 1) := by
  funext a
  obtain rfl : a = 0 := Subsingleton.elim _ _
  exact Fin.ext (by have : (i 0).val < 1 := (i 0).isLt; show (i 0).val = 0; omega)

/-- Two indices with the same three coordinates are the same. -/
theorem idx_ext₃ {n : Fin 3 → ℕ} {x y : (a : Fin 3) → Fin (n a)} (h0 : (x 0).val = (y 0).val) (h1 : (x 1).val = (y 1).val)
    (h2 : (x 2).val = (y 2).val) : x = y :=
  funext fun a => Fin.ext (match a with | ⟨0, _⟩ => h0 | ⟨1, _⟩ => h1 | ⟨2, _⟩ => h2)

/-- A slab read as a matrix. -/
theorem slab_cast {a b : ℕ} {e : EltTy} (v : Vec Ideal ⟨3, ![1, a, b]⟩ e) (h : (⟨3, ![1, a, b]⟩ : Shape).ShapeCasts ⟨2, ![a, b]⟩)
    (y : (⟨2, ![a, b]⟩ : Shape).Idx) : shapeCast ⟨2, ![a, b]⟩ v h y = v (ix3 (0 : Fin 1) (y 0) (y 1)) :=
  shapeCast_apply v _ y _ (by
    rw [Shape.rowMajor_val_three, Shape.rowMajor_val_two]
    show (0 * a + (y 0).val) * b + (y 1).val = (y 0).val * b + (y 1).val
    rw [Nat.zero_mul, Nat.zero_add])

/-- A whole block read back is the block. -/
theorem load_whole {sig : RefSig} {a b : ℕ} {e : EltTy} (arg : Memref sig .tc .vmem ⟨2, ![a, b]⟩ e) (h : arg.IsWhole) (inb) (x : Vec Ideal ⟨2, ![a, b]⟩ e) :
    View.readAt (Elt Ideal) arg.view (Rect.unit (s := ⟨2, ![a, b]⟩) ![0, 0] (⟨2, ![a, b]⟩ : Shape).size inb).toLoadRect (h.unread x) = x := by
  funext j
  refine (h.readAt_unread _ _ _).trans (congrArg x (Shape.idx_ext₂ ?_ ?_))
  · show 0 + 1 * (j 0).val = (j 0).val; omega
  · show 0 + 1 * (j 1).val = (j 1).val; omega

/-- One of two slabs read back. -/
theorem load_slab {sig : RefSig} {a b : ℕ} {e : EltTy} (arg : Memref sig .tc .vmem ⟨3, ![2, a, b]⟩ e) (h : arg.IsWhole) (k : Fin 2) (inb) (x : Vec Ideal ⟨3, ![2, a, b]⟩ e)
    (p : Fin a) (q : Fin b) :
    (View.readAt (Elt Ideal) arg.view (Rect.unit (s := ⟨3, ![2, a, b]⟩) ![k.val, 0, 0] (⟨3, ![1, a, b]⟩ : Shape).size inb).toLoadRect (h.unread x) : Vec Ideal ⟨3, ![1, a, b]⟩ e) (ix3 (0 : Fin 1) p q)
      = x (ix3 k p q) := by
  refine (h.readAt_unread _ _ _).trans (congrArg x (idx_ext₃ ?_ ?_ ?_))
  · show k.val + 1 * 0 = k.val; omega
  · show 0 + 1 * p.val = p.val; omega
  · show 0 + 1 * q.val = q.val; omega

end Cert.Proof.Step

end
-- ==== Proof.FIn.lean ====
/-
  `FIn`: the last sum of a weight's partial gradients (the device's own block of its partial gradient, the block one exchange
  brought and the two the other brought) and the step of the optimiser on the device's shard of that weight.  The kernel reads
  its own block through a window whose block index is the device's number, held in a table; the reference chooses it out of the
  eight blocks.  Both are, at every index, the same sum and the same step.
-/
module

public import proofs.«01_k».proof.Defs
public import proofs.«01_k».proof.Proof.Step
public import proofs.«01_k».proof.Proof.Gen.Pre_place_w_in
public import proofs.«01_k».proof.Proof.Gen.FIn
public import proofs.«01_k».proof.Proof.Gen.FIn.Frame
public import proofs.«01_k».proof.Proof.Gen.FInIdeal
public import proofs.«01_k».proof.Proof.Gen.FInIdeal.Frame
public import proofs.«01_k».proof.Proof.Gen.FInRefIdeal
public import proofs.«01_k».proof.Proof.Gen.FInRefIdeal.Run
public import proofs.«01_k».proof.Proof.Gen.FInRefIdeal.Read
public import Idealize.ShloMosaic.Lib.Pointwise
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.FIn

open Idealize.ShloMosaic Idealize.ShloMosaic.TcCoe Idealize.SL.Sem
open Cert.FInIdeal Cert.FInIdeal.Gen
open Cert.Proof.Step
open Idealize.ShloMosaic.Pipeline (Dat Cfg Window)

/-- The precondition bounds the device's index. -/
theorem word_of_pre {F : FTy → Type} [FloatOps F] [Cert.Pre_place_w_in.Facts] (x0 : IVec S1 32) (x1 : FVec F S4608x1024 .bf16)
    (x2 : FVec F S576x1024 .bf16) (x3 : FVec F S2x576x1024 .bf16) (x4 x5 x6 : FVec F S1024x576 .f32)
    (h : Cert.Pre_place_w_in.fn x0 x1 x2 x3 x4 x5 x6 = fun _ => 1#1) : (x0 (ix1 (0 : Fin 1))).toNat < 8 := by
  have e (i : S1.Idx) : x0 i = x0 (ix1 (0 : Fin 1)) := congrArg x0 (one_idx i)
  refine word_lt _ ?_
  have := congrFun h (fun a => a.elim0)
  simp only [Cert.Pre_place_w_in.fn, constantI, cmpi, andi, shapeCast, e] at this
  exact this

/-- The block the device's index names, by its number. -/
theorem ix_table {F : FTy → Type} [FloatOps F] (pf : pre0.Contents (Elt F)) (h : (pf 0 (ix1 (0 : Fin 1)) : BitVec 32).toNat < 8) (i : grid0.Coords) :
    cc0_transform_0 Facts₀.inb_S1_S1_0 Facts₀.numel1_S1 pf i = ![(pf 0 (ix1 (0 : Fin 1)) : BitVec 32).toNat * 4 + (i 0).val, 0] := by
  unfold cc0_transform_0
  refine congrArg (fun n : Nat => (![n, 0] : Fin 2 → Nat)) ?_
  have l : (i 0).val < 4 := (i 0).isLt
  refine Eq.trans (congrArg (fun z : BitVec 32 => (z * 4#32 + BitVec.ofNat 32 (i 0).val).toNat) ?_) (word_at (pf 0 (ix1 (0 : Fin 1)) : BitVec 32) h 4 (i 0).val (by omega) (by omega))
  exact congrArg (pf 0) (one_idx _)

/-- The pipeline at an index below eight. -/
theorem ok_of_word {F : FTy → Type} [FloatOps F] (pf : pre0.Contents (Elt F)) (h : (pf 0 (ix1 (0 : Fin 1)) : BitVec 32).toNat < 8) : ok0 pf := by
  intro i
  refine ⟨fun a => ?_, .inr (Affine.block_words_dvd (of_decide_eq_true rfl) (by decide))⟩
  rw [ix_table pf h]
  have l : (i 0).val < 4 := (i 0).isLt
  match a with
  | ⟨0, _⟩ => show ((pf 0 (ix1 (0 : Fin 1)) : BitVec 32).toNat * 4 + (i 0).val + 1) * 144 ≤ 4608; omega
  | ⟨1, _⟩ => show (0 + 1) * 1024 ≤ 1024; omega

variable [hPre : Cert.Pre_place_w_in.Facts]

/-- The precondition gives the pipeline's side condition, for the kernel itself. -/
theorem ok_P (m : (ℓ : Loc nD τ sig) → Buf (Elt Bits) ℓ) (h : Cert.Pre_FIn m) : Cert.FIn.Gen.Ok m :=
  ok_of_word (F := Bits) (fun j => m (((0 : Dev nD) : Thread nD τ).loc (pre0.ref j))) (word_of_pre _ _ _ _ _ _ _ (h 0))

/-- The precondition gives the pipeline's side condition. -/
theorem ok_PI (m : (ℓ : Loc nD τ sig) → Buf (Elt Ideal) ℓ) (h : Cert.Pre_FInIdeal m) : Ok m :=
  ok_of_word _ (word_of_pre _ _ _ _ _ _ _ (h 0))

/-- The kernel's frame. -/
theorem frame_P : Cert.quiescent_FIn := fun m ρ h => Cert.FIn.Gen.frame (F := Bits) m ρ (ok_P m h)

/-- The ideal kernel's frame. -/
theorem frame_PI : Cert.quiescent_FInIdeal := fun m ρ h => Cert.FInIdeal.Gen.frame (F := Ideal) m ρ (ok_PI m h)

/-- The reference's frame. -/
theorem frame_RI : Cert.quiescent_FInRefIdeal := fun m ρ _ =>
  (θ_run Cert.FInRefIdeal.defs _ _).mono (fun r h => ⟨fun c => (h c).2.2.2.2,
      Idealize.ShloMosaic.sem_eq_zero_of_no_sems (by decide) r.2⟩)
    (Cert.FInRefIdeal.Value.run (F := Ideal) m ρ)

/-- The reference's frame under the claim's precondition. -/
theorem frame_RI_pre : Cert.quiescent_FInRefIdeal_pre_place_w_in := fun m ρ _ => frame_RI m ρ trivial

section Value

variable (m : (ℓ : Loc nD τ sig) → Buf (Elt Ideal) ℓ) (hO : Ok m)

/-- A buffer of a device in a memory. -/
abbrev arr (m : (ℓ : Loc nD τ sig) → Buf (Elt Ideal) ℓ) (c : Dev nD) (b : Ref sig .tc) := m ((c : Thread nD τ).loc b)

/-- The device's index, as a number. -/
abbrev word : Nat := (arr m 0 main_arg0 (ix1 (0 : Fin 1)) : BitVec 32).toNat

/-- The reduced gradient at a row and a column. -/
def sum (x0 : IVec S1 32) (x1 : FVec Ideal S4608x1024 .bf16) (x2 : FVec Ideal S576x1024 .bf16) (x3 : FVec Ideal S2x576x1024 .bf16)
    (p : Fin 576) (q : Fin 1024) : EReal :=
  total (pick (x0 (ix1 (0 : Fin 1))) fun k => x1 (ix2 ⟨k.val * 576 + p.val, by omega⟩ q)) (x2 (ix2 p q))
    (x3 (ix3 (0 : Fin 2) p q)) (x3 (ix3 (1 : Fin 2) p q))

/-- The reduced gradient of a run's arguments. -/
def sumOf (c : Dev nD) (p : Fin 576) (q : Fin 1024) : EReal :=
  sum (arr m c main_arg0) (arr m c main_arg1) (arr m c main_arg2) (arr m c main_arg3) p q

/-- The grid has 4 points. -/
theorem point_lt (t : Fin (cfgM m hO).N) : t.val < 4 := lt_of_lt_of_eq t.isLt (by decide +kernel : grid0.N = 4)

/-- A row of a point's block, in the whole array. -/
def row (t : Fin (cfgM m hO).N) (p : Fin 144) : Fin 576 := ⟨t.val * 144 + p.val, by have := point_lt m hO t; omega⟩

/-- The block a point takes of the arrays that are divided by rows. -/
theorem idx_row (t : Fin (cfgM m hO).N) : cc0_transform_1 (grid0.coords t) = ![t.val, 0] :=
  (by decide +kernel : ∀ t : Fin grid0.N, cc0_transform_1 (grid0.coords t) = ![t.val, 0]) t

/-- The block a point takes of the scattered partial sums. -/
theorem idx_slab (t : Fin (cfgM m hO).N) : cc0_transform_2 (grid0.coords t) = ![0, t.val, 0] :=
  (by decide +kernel : ∀ t : Fin grid0.N, cc0_transform_2 (grid0.coords t) = ![0, t.val, 0]) t

/-- An index of a block of rows, by its two coordinates, is the index of the array at the block's row. -/
theorem emb_row (t : Fin (cfgM m hO).N) (j : S144x1024.Idx) (x : S576x1024.Idx) (n : Fin 2 → ℕ) (hn : n = ![t.val, 0])
    (h0 : (x 0).val = n 0 * 144 + (j 0).val) (h1 : (x 1).val = n 1 * 1024 + (j 1).val) : x = ix2 (row m hO t (j 0)) (j 1) := by
  subst hn
  refine Shape.idx_ext₂ h0 (h1.trans ?_)
  exact (congrArg (· + (j 1).val) (Nat.zero_mul 1024)).trans (Nat.zero_add _)

section Places

variable (t : Fin (cfgM m hO).N) (j : S144x1024.Idx)

/-- Where an index of each window's block lies in its array. -/
theorem emb1 : (((cfgM m hO).win 1).blk t).view.emb j = ix2 (row m hO t (j 0)) (j 1) :=
  emb_row m hO t j _ _ (idx_row m hO t) (Window.rect_emb_val ((cfgM m hO).win 1) t j (0 : Fin 2)) (Window.rect_emb_val ((cfgM m hO).win 1) t j (1 : Fin 2))
/-- The same for window 3. -/
theorem emb3 : (((cfgM m hO).win 3).blk t).view.emb j = ix2 (row m hO t (j 0)) (j 1) :=
  emb_row m hO t j _ _ (idx_row m hO t) (Window.rect_emb_val ((cfgM m hO).win 3) t j (0 : Fin 2)) (Window.rect_emb_val ((cfgM m hO).win 3) t j (1 : Fin 2))
/-- The same for window 4. -/
theorem emb4 : (((cfgM m hO).win 4).blk t).view.emb j = ix2 (row m hO t (j 0)) (j 1) :=
  emb_row m hO t j _ _ (idx_row m hO t) (Window.rect_emb_val ((cfgM m hO).win 4) t j (0 : Fin 2)) (Window.rect_emb_val ((cfgM m hO).win 4) t j (1 : Fin 2))
/-- The same for window 5. -/
theorem emb5 : (((cfgM m hO).win 5).blk t).view.emb j = ix2 (row m hO t (j 0)) (j 1) :=
  emb_row m hO t j _ _ (idx_row m hO t) (Window.rect_emb_val ((cfgM m hO).win 5) t j (0 : Fin 2)) (Window.rect_emb_val ((cfgM m hO).win 5) t j (1 : Fin 2))
/-- The same for window 6. -/
theorem emb6 : (((cfgM m hO).win 6).blk t).view.emb j = ix2 (row m hO t (j 0)) (j 1) :=
  emb_row m hO t j _ _ (idx_row m hO t) (Window.rect_emb_val ((cfgM m hO).win 6) t j (0 : Fin 2)) (Window.rect_emb_val ((cfgM m hO).win 6) t j (1 : Fin 2))
/-- The same for window 7. -/
theorem emb7 : (((cfgM m hO).win 7).blk t).view.emb j = ix2 (row m hO t (j 0)) (j 1) :=
  emb_row m hO t j _ _ (idx_row m hO t) (Window.rect_emb_val ((cfgM m hO).win 7) t j (0 : Fin 2)) (Window.rect_emb_val ((cfgM m hO).win 7) t j (1 : Fin 2))
/-- The same for window 8. -/
theorem emb8 : (((cfgM m hO).win 8).blk t).view.emb j = ix2 (row m hO t (j 0)) (j 1) :=
  emb_row m hO t j _ _ (idx_row m hO t) (Window.rect_emb_val ((cfgM m hO).win 8) t j (0 : Fin 2)) (Window.rect_emb_val ((cfgM m hO).win 8) t j (1 : Fin 2))
/-- The same for window 9. -/
theorem emb9 : (((cfgM m hO).win 9).blk t).view.emb j = ix2 (row m hO t (j 0)) (j 1) :=
  emb_row m hO t j _ _ (idx_row m hO t) (Window.rect_emb_val ((cfgM m hO).win 9) t j (0 : Fin 2)) (Window.rect_emb_val ((cfgM m hO).win 9) t j (1 : Fin 2))

end Places

/-- The own block at a point. -/
theorem block0 (h : word m < 8) (c : Dev nD) (t : Fin (cfgM m hO).N) (j : S144x1024.Idx) :
    (iblk m hO c 0 t : Vec Ideal S144x1024 .bf16) j
      = pick (arr m c main_arg0 (ix1 (0 : Fin 1))) fun k => arr m c main_arg1 (ix2 ⟨k.val * 576 + (row m hO t (j 0)).val, by have := k.isLt; have := (row m hO t (j 0)).isLt; omega⟩ (j 1)) := by
  obtain rfl : c = 0 := Subsingleton.elim _ _
  rw [pick_eq _ h]
  have hc : (grid0.coords t 0).val = t.val := (by decide +kernel : ∀ t : Fin grid0.N, (grid0.coords t 0).val = t.val) t
  have ht := point_lt m hO t
  have l0 : (j 0).val < 144 := (j 0).isLt
  have l1 : (j 1).val < 1024 := (j 1).isLt
  have hi : ((cfgM m hO).win 0).index t = _ := ix_table (tbl m) h (grid0.coords t)
  refine (congrArg (V m 0 (Pipeline.arrRef spec0 0)) (?_ : (((cfgM m hO).win 0).blk t).view.emb j = _)).trans (congrFun (V_main_arg1 m 0) _)
  refine Shape.idx_ext₂ ?_ ?_
  · refine (Window.rect_emb_val ((cfgM m hO).win 0) t j (0 : Fin 2)).trans ?_
    rw [hi]
    show (word m * 4 + (grid0.coords t 0).val) * 144 + (j 0).val = word m * 576 + (t.val * 144 + (j 0).val)
    rw [hc]
    omega
  · refine (Window.rect_emb_val ((cfgM m hO).win 0) t j (1 : Fin 2)).trans ?_
    rw [hi]
    exact (congrArg (· + (j 1).val) (Nat.zero_mul 1024)).trans (Nat.zero_add _)

/-- The neighbour's partial sum at a point. -/
theorem block1 (c : Dev nD) (t : Fin (cfgM m hO).N) (j : S144x1024.Idx) :
    (iblk m hO c 1 t : Vec Ideal S144x1024 .bf16) j = arr m c main_arg2 (ix2 (row m hO t (j 0)) (j 1)) :=
  (congrArg (V m c (Pipeline.arrRef spec0 1)) (emb1 m hO t j)).trans (congrFun (V_main_arg2 m c) _)

/-- The scattered partial sums at a point. -/
theorem block2 (c : Dev nD) (t : Fin (cfgM m hO).N) (k : Fin 2) (p : Fin 144) (q : Fin 1024) :
    (iblk m hO c 2 t : Vec Ideal S2x144x1024 .bf16) (ix3 k p q) = arr m c main_arg3 (ix3 k (row m hO t p) q) := by
  have hi : ((cfgM m hO).win 2).index t = _ := idx_slab m hO t
  refine (congrArg (V m c (Pipeline.arrRef spec0 2)) (?_ : (((cfgM m hO).win 2).blk t).view.emb (ix3 k p q) = _)).trans (congrFun (V_main_arg3 m c) _)
  refine idx_ext₃ ?_ ?_ ?_
  · refine (Window.rect_emb_val ((cfgM m hO).win 2) t (ix3 k p q) (0 : Fin 3)).trans ?_
    rw [hi]
    exact (congrArg (· + k.val) (Nat.zero_mul 2)).trans (Nat.zero_add _)
  · refine (Window.rect_emb_val ((cfgM m hO).win 2) t (ix3 k p q) (1 : Fin 3)).trans ?_
    rw [hi]
    rfl
  · refine (Window.rect_emb_val ((cfgM m hO).win 2) t (ix3 k p q) (2 : Fin 3)).trans ?_
    rw [hi]
    exact (congrArg (· + q.val) (Nat.zero_mul 1024)).trans (Nat.zero_add _)

/-- Where an entry of the weight's shard is held: transposed. -/
def held (p : Fin 576) (q : Fin 1024) : S1024x576.Idx := ix2 q p

/-- An array as the program transposes it before the region. -/
theorem turned (x : Vec Ideal S1024x576 .f32) (p : Fin 576) (q : Fin 1024) :
    transpose S576x1024 [1, 0] x transposes_S1024x576_S576x1024_1_0 (ix2 p q) = x (held p q) :=
  ValueIdx.transpose_ix2_apply x _ p q

/-- The weight as the region finds it. -/
theorem V_w (c : Dev nD) : V m c main_v0 = transpose S576x1024 [1, 0] (arr m c main_arg4) transposes_S1024x576_S576x1024_1_0 := by
  unfold V; simp only [hostOps0, List.flatten_cons, List.flatten_nil, List.append_nil, List.cons_append, List.nil_append]; after_results_simp <;> rfl

/-- The first moment as the region finds it. -/
theorem V_m (c : Dev nD) : V m c main_v1 = transpose S576x1024 [1, 0] (arr m c main_arg5) transposes_S1024x576_S576x1024_1_0 := by
  unfold V; simp only [hostOps0, List.flatten_cons, List.flatten_nil, List.append_nil, List.cons_append, List.nil_append]; after_results_simp <;> rfl

/-- The second moment as the region finds it. -/
theorem V_v (c : Dev nD) : V m c main_v2 = transpose S576x1024 [1, 0] (arr m c main_arg6) transposes_S1024x576_S576x1024_1_0 := by
  unfold V; simp only [hostOps0, List.flatten_cons, List.flatten_nil, List.append_nil, List.cons_append, List.nil_append]; after_results_simp <;> rfl

/-- The weight at a point. -/
theorem block3 (c : Dev nD) (t : Fin (cfgM m hO).N) (j : S144x1024.Idx) :
    (iblk m hO c 3 t : Vec Ideal S144x1024 .f32) j = arr m c main_arg4 (held (row m hO t (j 0)) (j 1)) :=
  (congrArg (V m c (Pipeline.arrRef spec0 3)) (emb3 m hO t j)).trans ((congrFun (V_w m c) _).trans (turned _ _ _))

/-- The first moment at a point. -/
theorem block4 (c : Dev nD) (t : Fin (cfgM m hO).N) (j : S144x1024.Idx) :
    (iblk m hO c 4 t : Vec Ideal S144x1024 .f32) j = arr m c main_arg5 (held (row m hO t (j 0)) (j 1)) :=
  (congrArg (V m c (Pipeline.arrRef spec0 4)) (emb4 m hO t j)).trans ((congrFun (V_m m c) _).trans (turned _ _ _))

/-- The second moment at a point. -/
theorem block5 (c : Dev nD) (t : Fin (cfgM m hO).N) (j : S144x1024.Idx) :
    (iblk m hO c 5 t : Vec Ideal S144x1024 .f32) j = arr m c main_arg6 (held (row m hO t (j 0)) (j 1)) :=
  (congrArg (V m c (Pipeline.arrRef spec0 5)) (emb5 m hO t j)).trans ((congrFun (V_v m c) _).trans (turned _ _ _))

section Body

variable (c : Dev nD) (i : grid0.Coords) (arg2 : Memref sig .tc .vmem S144x1024 .bf16) (harg2 : arg2.IsWhole)
  (arg3 : Memref sig .tc .vmem S144x1024 .bf16) (harg3 : arg3.IsWhole) (arg4 : Memref sig .tc .vmem S2x144x1024 .bf16) (harg4 : arg4.IsWhole)
  (arg5 : Memref sig .tc .vmem S144x1024 .f32) (harg5 : arg5.IsWhole) (arg6 : Memref sig .tc .vmem S144x1024 .f32) (harg6 : arg6.IsWhole)
  (arg7 : Memref sig .tc .vmem S144x1024 .f32) (harg7 : arg7.IsWhole) (arg8 : Memref sig .tc .vmem S144x1024 .f32) (harg8 : arg8.IsWhole)
  (arg9 : Memref sig .tc .vmem S144x1024 .f32) (harg9 : arg9.IsWhole) (arg10 : Memref sig .tc .vmem S144x1024 .f32) (harg10 : arg10.IsWhole)
  (arg11 : Memref sig .tc .vmem S144x1024 .f32) (harg11 : arg11.IsWhole)
  (x0 x1 : Vec Ideal S144x1024 .bf16) (x2 : Vec Ideal S2x144x1024 .bf16) (x3 x4 x5 : Vec Ideal S144x1024 .f32) (xt0 : TbBuf0 (F := Ideal) c tbM0_0)
  (y : S144x1024.Idx)

/-- The body's stores begin at the block's first entry. -/
theorem zero_off : (![0, 0] : Fin S144x1024.rank → Nat) = fun _ => 0 := funext fun a => by fin_cases a <;> rfl

/-- The body's sum of the partial gradients at an index. -/
theorem pay2_apply (v0 v2 : Vec Ideal S144x1024 .bf16) (v5 v9 : Vec Ideal S1x144x1024 .bf16) :
    k0_pay2 (F := Ideal) v0 v2 v5 v9 y = total (v0 y) (v2 y) (v5 (ix3 (0 : Fin 1) (y 0) (y 1))) (v9 (ix3 (0 : Fin 1) (y 0) (y 1))) := by
  show (v0 y : EReal) + v2 y + shapeCast S144x1024 v5 shapeCasts_S1x144x1024_S144x1024 y + shapeCast S144x1024 v9 shapeCasts_S1x144x1024_S144x1024 y = _
  rw [slab_cast, slab_cast]
  rfl

/-- The sum of the partial gradients in a point's blocks. -/
def sumAt : EReal := total (x0 y) (x1 y) (x2 (ix3 (0 : Fin 2) (y 0) (y 1))) (x2 (ix3 (1 : Fin 2) (y 0) (y 1)))

/-- A whole block as the body loads it. -/
abbrev loaded {e : EltTy} (arg : Memref sig .tc .vmem S144x1024 e) (h : arg.IsWhole) (x : Vec Ideal S144x1024 e) : Vec Ideal S144x1024 e :=
  View.readAt (Elt Ideal) arg.view (Rect.unit (s := S144x1024) ![0, 0] S144x1024.size inb_S144x1024_S144x1024_0_0).toLoadRect (h.unread x)

/-- The body's sum of the partial gradients as it loads them. -/
abbrev summed : Vec Ideal S144x1024 .f32 :=
  k0_pay2 (F := Ideal) (loaded arg2 harg2 x0) (loaded arg3 harg3 x1)
    (View.readAt (Elt Ideal) arg4.view (Rect.unit (s := S2x144x1024) ![0, 0, 0] S1x144x1024.size inb_S2x144x1024_S1x144x1024_0_0_0).toLoadRect (harg4.unread x2))
    (View.readAt (Elt Ideal) arg4.view (Rect.unit (s := S2x144x1024) ![1, 0, 0] S1x144x1024.size inb_S2x144x1024_S1x144x1024_1_0_0).toLoadRect (harg4.unread x2))

/-- That sum at an index. -/
theorem summed_apply : summed arg2 harg2 arg3 harg3 arg4 harg4 x0 x1 x2 y = sumAt x0 x1 x2 y := by
  refine (pay2_apply y _ _ _ _).trans ?_
  exact total_congr (congrFun (load_whole arg2 harg2 _ x0) y) (congrFun (load_whole arg3 harg3 _ x1) y) (load_slab arg4 harg4 0 _ x2 (y 0) (y 1)) (load_slab arg4 harg4 1 _ x2 (y 0) (y 1))

/-- A block of the weight or of a moment as the body uses it. -/
abbrev used (arg : Memref sig .tc .vmem S144x1024 .f32) (h : arg.IsWhole) (x : Vec Ideal S144x1024 .f32) : Vec Ideal S144x1024 .f32 := shapeCast S144x1024 (loaded arg h x) shapeCasts_S144x1024_S144x1024

/-- That block at an index. -/
theorem used_apply (arg : Memref sig .tc .vmem S144x1024 .f32) (h : arg.IsWhole) (x : Vec Ideal S144x1024 .f32) : used arg h x y = x y :=
  (shapeCast_apply _ _ y y rfl).trans (congrFun (load_whole arg h _ x) y)

/-- The first output's block: the sum. -/
theorem out6_apply : out0_A_6 (F := Ideal) c i arg2 harg2 arg3 harg3 arg4 harg4 arg5 harg5 arg6 harg6 arg7 harg7 arg8 harg8 arg9 harg9 arg10 harg10 arg11 harg11 x0 x1 x2 x3 x4 x5 xt0 y
    = sumAt x0 x1 x2 y := by
  unfold out0_A_6
  rw [View.read_writes_eq_canon _ _ _ (fun y => cover0_A_6 ..)]
  unfold kernelRun0_A
  dsimp only
  exact (congrFun (View.canon_unit_zero zero_off _ _) y).trans (summed_apply ..)

/-- The second output's block: the change of the weight. -/
theorem out7_apply : out0_A_7 (F := Ideal) c i arg2 harg2 arg3 harg3 arg4 harg4 arg5 harg5 arg6 harg6 arg7 harg7 arg8 harg8 arg9 harg9 arg10 harg10 arg11 harg11 x0 x1 x2 x3 x4 x5 xt0 y
    = delta (x3 y) (x4 y) (x5 y) (sumAt x0 x1 x2 y) := by
  unfold out0_A_7
  rw [View.read_writes_eq_canon _ _ _ (fun y => cover0_A_7 ..)]
  unfold kernelRun0_A
  dsimp only
  refine (congrFun (View.canon_unit_zero zero_off _ _) y).trans ?_
  refine Eq.trans ?_ (delta_congr (used_apply y arg5 harg5 x3) (used_apply y arg6 harg6 x4) (used_apply y arg7 harg7 x5) (summed_apply arg2 harg2 arg3 harg3 arg4 harg4 x0 x1 x2 y))
  rfl

/-- The third output's block: the first moment after the step. -/
theorem out8_apply : out0_A_8 (F := Ideal) c i arg2 harg2 arg3 harg3 arg4 harg4 arg5 harg5 arg6 harg6 arg7 harg7 arg8 harg8 arg9 harg9 arg10 harg10 arg11 harg11 x0 x1 x2 x3 x4 x5 xt0 y
    = newM (x4 y) (sumAt x0 x1 x2 y) := by
  unfold out0_A_8
  rw [View.read_writes_eq_canon _ _ _ (fun y => cover0_A_8 ..)]
  unfold kernelRun0_A
  dsimp only
  refine (congrFun (View.canon_unit_zero zero_off _ _) y).trans ?_
  refine Eq.trans ?_ (congrArg₂ newM (used_apply y arg6 harg6 x4) (summed_apply arg2 harg2 arg3 harg3 arg4 harg4 x0 x1 x2 y))
  rfl

/-- The fourth output's block: the second moment after the step. -/
theorem out9_apply : out0_A_9 (F := Ideal) c i arg2 harg2 arg3 harg3 arg4 harg4 arg5 harg5 arg6 harg6 arg7 harg7 arg8 harg8 arg9 harg9 arg10 harg10 arg11 harg11 x0 x1 x2 x3 x4 x5 xt0 y
    = newV (x5 y) (sumAt x0 x1 x2 y) := by
  unfold out0_A_9
  rw [View.read_writes_eq_canon _ _ _ (fun y => cover0_A_9 ..)]
  unfold kernelRun0_A
  dsimp only
  refine (congrFun (View.canon_unit_zero zero_off _ _) y).trans ?_
  refine Eq.trans ?_ (congrArg₂ newV (used_apply y arg7 harg7 x5) (summed_apply arg2 harg2 arg3 harg3 arg4 harg4 x0 x1 x2 y))
  rfl

end Body

/-- The sum in a point's blocks is the reduced gradient at the block's rows. -/
theorem sum_at (h : word m < 8) (c : Dev nD) (t : Fin (cfgM m hO).N) (j : S144x1024.Idx) :
    sumAt (iblk m hO c 0 t) (iblk m hO c 1 t) (iblk m hO c 2 t) j = sumOf m c (row m hO t (j 0)) (j 1) := by
  unfold sumAt sumOf sum
  exact total_congr (block0 m hO h c t j) (block1 m hO c t j) (block2 m hO c t 0 (j 0) (j 1)) (block2 m hO c t 1 (j 0) (j 1))

/-- The point whose block holds an index. -/
def pt (i : S576x1024.Idx) : Fin (cfgM m hO).N :=
  ⟨(i 0).val / 144, lt_of_lt_of_eq (by have : (i 0).val < 576 := (i 0).isLt; omega : (i 0).val / 144 < 4) (by decide +kernel : 4 = grid0.N)⟩

/-- The index within that block. -/
def inner (i : S576x1024.Idx) : S144x1024.Idx := ix2 (⟨(i 0).val % 144, Nat.mod_lt _ (by decide)⟩ : Fin 144) (i 1)

/-- The index found again from its point and the index within. -/
theorem pt_inner (i : S576x1024.Idx) : (ix2 (row m hO (pt m hO i) (inner i 0)) (inner i 1) : S576x1024.Idx) = i :=
  Shape.idx_ext₂ (by show (i 0).val / 144 * 144 + (i 0).val % 144 = (i 0).val; omega) rfl

/-- Every index of each output is in some point's block. -/
theorem cover6 (i : S576x1024.Idx) : ∃ t : Fin (cfgM m hO).N, ((cfgM m hO).win 6).flush t = true ∧ i ∈ (((cfgM m hO).win 6).blk t).view.set :=
  ⟨pt m hO i, flush0_6 (adm m hO) _, (congrArg (· ∈ (((cfgM m hO).win 6).blk (pt m hO i)).view.set) ((emb6 m hO _ (inner i)).trans (pt_inner m hO i))).mp (View.emb_mem_set _ _)⟩
/-- The same for window 7. -/
theorem cover7 (i : S576x1024.Idx) : ∃ t : Fin (cfgM m hO).N, ((cfgM m hO).win 7).flush t = true ∧ i ∈ (((cfgM m hO).win 7).blk t).view.set :=
  ⟨pt m hO i, flush0_7 (adm m hO) _, (congrArg (· ∈ (((cfgM m hO).win 7).blk (pt m hO i)).view.set) ((emb7 m hO _ (inner i)).trans (pt_inner m hO i))).mp (View.emb_mem_set _ _)⟩
/-- The same for window 8. -/
theorem cover8 (i : S576x1024.Idx) : ∃ t : Fin (cfgM m hO).N, ((cfgM m hO).win 8).flush t = true ∧ i ∈ (((cfgM m hO).win 8).blk t).view.set :=
  ⟨pt m hO i, flush0_8 (adm m hO) _, (congrArg (· ∈ (((cfgM m hO).win 8).blk (pt m hO i)).view.set) ((emb8 m hO _ (inner i)).trans (pt_inner m hO i))).mp (View.emb_mem_set _ _)⟩
/-- The same for window 9. -/
theorem cover9 (i : S576x1024.Idx) : ∃ t : Fin (cfgM m hO).N, ((cfgM m hO).win 9).flush t = true ∧ i ∈ (((cfgM m hO).win 9).blk t).view.set :=
  ⟨pt m hO i, flush0_9 (adm m hO) _, (congrArg (· ∈ (((cfgM m hO).win 9).blk (pt m hO i)).view.set) ((emb9 m hO _ (inner i)).trans (pt_inner m hO i))).mp (View.emb_mem_set _ _)⟩

variable (h : word m < 8)

/-- The change of the weight of a run's arguments. -/
def deltaOf (c : Dev nD) (p : Fin 576) (q : Fin 1024) : EReal :=
  delta (arr m c main_arg4 (held p q)) (arr m c main_arg5 (held p q)) (arr m c main_arg6 (held p q)) (sumOf m c p q)

include h in
/-- The reduced gradient after the run. -/
theorem final6 (c : Dev nD) : (dats m hO 0 c).arrAt 6 (cfgM m hO).N = (fun i => sumOf m c (i 0) (i 1) : Vec Ideal S576x1024 .f32) := by
  refine (dats m hO 0 c).arrAt_eq_of_cover 6 _ (fun t _ => ?_) (cover6 m hO)
  show ((cfgM m hO).win 6).cut (grid0.coords t) ((dats m hO 0 c).after 6 t) = _
  rw [after0_6]
  unfold outsAt0
  dsimp only
  funext j
  refine (out6_apply ..).trans ((sum_at m hO h c t j).trans ?_)
  exact (congrArg (fun i : S576x1024.Idx => sumOf m c (i 0) (i 1)) (emb6 m hO t j)).symm

include h in
/-- The change of the weight after the run. -/
theorem final7 (c : Dev nD) : (dats m hO 0 c).arrAt 7 (cfgM m hO).N = (fun i => deltaOf m c (i 0) (i 1) : Vec Ideal S576x1024 .f32) := by
  refine (dats m hO 0 c).arrAt_eq_of_cover 7 _ (fun t _ => ?_) (cover7 m hO)
  show ((cfgM m hO).win 7).cut (grid0.coords t) ((dats m hO 0 c).after 7 t) = _
  rw [after0_7]
  unfold outsAt0
  dsimp only
  funext j
  refine (out7_apply ..).trans (Eq.trans ?_ (congrArg (fun i : S576x1024.Idx => deltaOf m c (i 0) (i 1)) (emb7 m hO t j)).symm)
  exact delta_congr (block3 m hO c t j) (block4 m hO c t j) (block5 m hO c t j) (sum_at m hO h c t j)

include h in
/-- The first moment after the run. -/
theorem final8 (c : Dev nD) : (dats m hO 0 c).arrAt 8 (cfgM m hO).N
    = (fun i => newM (arr m c main_arg5 (held (i 0) (i 1))) (sumOf m c (i 0) (i 1)) : Vec Ideal S576x1024 .f32) := by
  refine (dats m hO 0 c).arrAt_eq_of_cover 8 _ (fun t _ => ?_) (cover8 m hO)
  show ((cfgM m hO).win 8).cut (grid0.coords t) ((dats m hO 0 c).after 8 t) = _
  rw [after0_8]
  unfold outsAt0
  dsimp only
  funext j
  refine (out8_apply ..).trans (Eq.trans ?_ (congrArg (fun i : S576x1024.Idx => newM (arr m c main_arg5 (held (i 0) (i 1))) (sumOf m c (i 0) (i 1))) (emb8 m hO t j)).symm)
  exact congrArg₂ newM (block4 m hO c t j) (sum_at m hO h c t j)

include h in
/-- The second moment after the run. -/
theorem final9 (c : Dev nD) : (dats m hO 0 c).arrAt 9 (cfgM m hO).N
    = (fun i => newV (arr m c main_arg6 (held (i 0) (i 1))) (sumOf m c (i 0) (i 1)) : Vec Ideal S576x1024 .f32) := by
  refine (dats m hO 0 c).arrAt_eq_of_cover 9 _ (fun t _ => ?_) (cover9 m hO)
  show ((cfgM m hO).win 9).cut (grid0.coords t) ((dats m hO 0 c).after 9 t) = _
  rw [after0_9]
  unfold outsAt0
  dsimp only
  funext j
  refine (out9_apply ..).trans (Eq.trans ?_ (congrArg (fun i : S576x1024.Idx => newV (arr m c main_arg6 (held (i 0) (i 1))) (sumOf m c (i 0) (i 1))) (emb9 m hO t j)).symm)
  exact congrArg₂ newV (block5 m hO c t j) (sum_at m hO h c t j)

/-- The arguments after the run. -/
theorem unchanged (r : PUnit × MemSt nD τ sig (Elt Ideal))
    (hr : Pipeline.FramePost (Pipeline.pin pcfgs fun _ => adm m hO) (dats m hO) 0 (V m) r) (c : Dev nD) :
    arr r.2.mem c main_arg0 = arr m c main_arg0
      ∧ arr r.2.mem c main_arg1 = arr m c main_arg1
      ∧ arr r.2.mem c main_arg2 = arr m c main_arg2
      ∧ arr r.2.mem c main_arg3 = arr m c main_arg3
      ∧ arr r.2.mem c main_arg4 = arr m c main_arg4
      ∧ arr r.2.mem c main_arg5 = arr m c main_arg5
      ∧ arr r.2.mem c main_arg6 = arr m c main_arg6 :=
  ⟨((hr c).2 main_arg0 (by decide : main_arg0 ∈ Pipeline.restRefs sig spec0)).trans (V_main_arg0 m c),
    ((hr c).1 0).trans (((dats m hO 0 c).arrAt_in 0 rfl _).trans ((A_eq m hO c 0).trans (V_main_arg1 m c))),
    ((hr c).1 1).trans (((dats m hO 0 c).arrAt_in 1 rfl _).trans ((A_eq m hO c 1).trans (V_main_arg2 m c))),
    ((hr c).1 2).trans (((dats m hO 0 c).arrAt_in 2 rfl _).trans ((A_eq m hO c 2).trans (V_main_arg3 m c))),
    ((hr c).2 main_arg4 (by decide : main_arg4 ∈ Pipeline.restRefs sig spec0)).trans (V_main_arg4 m c),
    ((hr c).2 main_arg5 (by decide : main_arg5 ∈ Pipeline.restRefs sig spec0)).trans (V_main_arg5 m c),
    ((hr c).2 main_arg6 (by decide : main_arg6 ∈ Pipeline.restRefs sig spec0)).trans (V_main_arg6 m c)⟩

end Value

section Reference

open Cert.FInRefIdeal.Read

variable (x0 : IVec S1 32) (x1 : FVec Ideal S4608x1024 .bf16) (x2 : FVec Ideal S576x1024 .bf16) (x3 : FVec Ideal S2x576x1024 .bf16) (x4 x5 x6 : FVec Ideal S1024x576 .f32)

/-- The reference's choice of the device's own block, one block of the eight. -/
theorem ref_own (k : Fin 8) (i : S576x1024.Idx) : val_main_v7 (F := Ideal) x0 x1 (idx_main_v8 i k)
    = if BitVec.ofNat 32 k.val = x0 (ix1 (0 : Fin 1)) then x1 (ix2 ⟨k.val * 576 + (i 0).val, by have := k.isLt; have : (i 0).val < 576 := (i 0).isLt; omega⟩ (i 1)) else 0 := by
  rw [val_main_v7_apply, val_main_call0_v1_apply, val_main_v6_apply, val_main_v5_apply, val_main_v3_apply, val_main_v1_apply, val_main_v0_apply,
    val_main_call0_v2_apply]
  refine (select_eq _ _ _ _).trans ?_
  have l0 : (i 0).val < 576 := (i 0).isLt
  have l1 : (i 1).val < 1024 := (i 1).isLt
  have l2 := k.isLt
  refine pick_term (congrArg (BitVec.ofNat 32) ?_) (congrArg x0 (one_idx _)) (congrArg x1 (Shape.idx_ext₂ ?_ ?_)) bits_zero
  · show (k.val * 1 + 0) * 1 + 0 = k.val; omega
  · show ((k.val * 576 + (i 0).val) * 1024 + (i 1).val) / 1024 = k.val * 576 + (i 0).val; omega
  · show ((k.val * 576 + (i 0).val) * 1024 + (i 1).val) % 1024 = (i 1).val; omega

/-- The reference's reduced gradient. -/
theorem ref_sum (i : S576x1024.Idx) : val_main_v13 (F := Ideal) x0 x1 x2 x3 i = sum x0 x1 x2 x3 (i 0) (i 1) := by
  rw [val_main_v13_apply, val_main_v10_apply, val_main_v8_apply, val_main_v12_apply, Fin.sum_univ_two]
  simp only [ref_own]
  exact (total_eq bits_zero bits_zero _ _ _ _).trans (total_congr rfl (congrArg x2 (Shape.idx_ext₂ rfl rfl)) (congrArg x3 (idx_ext₃ rfl rfl rfl)) (congrArg x3 (idx_ext₃ rfl rfl rfl)))

/-- The reference's reduced gradient, transposed as the shard is held. -/
theorem ref_grad (i : S1024x576.Idx) : val_main_v14 (F := Ideal) x0 x1 x2 x3 i = sum x0 x1 x2 x3 (i 1) (i 0) := by
  rw [val_main_v14_apply]
  exact ref_sum x0 x1 x2 x3 _

/-- The reference's first moment. -/
theorem ref_m (i : S1024x576.Idx) : val_main_v19 (F := Ideal) x0 x1 x2 x3 x5 i = newM (x5 i) (sum x0 x1 x2 x3 (i 1) (i 0)) := by
  rw [val_main_v19_apply, val_main_v18_apply, val_main_v17_apply, val_main_v16_apply, val_main_v15_apply, val_main_cst_2_apply, val_main_cst_3_apply, ref_grad]
  rfl

/-- The reference's second moment. -/
theorem ref_v (i : S1024x576.Idx) : val_main_v25 (F := Ideal) x0 x1 x2 x3 x6 i = newV (x6 i) (sum x0 x1 x2 x3 (i 1) (i 0)) := by
  rw [val_main_v25_apply, val_main_v24_apply, val_main_v23_apply, val_main_v22_apply, val_main_v21_apply, val_main_v20_apply, val_main_cst_4_apply, val_main_cst_5_apply, ref_grad]
  rfl

/-- The reference's change of the weight. -/
theorem ref_d (i : S1024x576.Idx) : val_main_v38 (F := Ideal) x0 x1 x2 x3 x4 x5 x6 i = delta (x4 i) (x5 i) (x6 i) (sum x0 x1 x2 x3 (i 1) (i 0)) := by
  rw [val_main_v38_apply, val_main_v37_apply, val_main_v36_apply, val_main_v35_apply, val_main_v34_apply, val_main_v33_apply, val_main_v32_apply, val_main_v31_apply, val_main_v30_apply, val_main_v29_apply,
    val_main_v28_apply, val_main_v27_apply, val_main_v26_apply, ref_m, ref_v, val_main_cst_6_apply, val_main_cst_7_apply, val_main_cst_8_apply, val_main_cst_9_apply,
    val_main_cst_10_apply]
  rfl

/-- Kernel and reference agree at every index of the four results. -/
theorem algebraic : Cert.algebraic_FInIdeal_FInRefIdeal := by
  intro m g m' g' hpre hargs
  have h : word m < 8 := word_of_pre _ _ _ _ _ _ _ (hpre 0)
  have hO := ok_PI m hpre
  refine ⟨fun c => (fun i => sumOf m c (i 0) (i 1) : Vec Ideal S576x1024 .f32), fun c => (fun i => deltaOf m c (i 0) (i 1) : Vec Ideal S576x1024 .f32),
    fun c => (fun i => newM (arr m c main_arg5 (held (i 0) (i 1))) (sumOf m c (i 0) (i 1)) : Vec Ideal S576x1024 .f32),
    fun c => (fun i => newV (arr m c main_arg6 (held (i 0) (i 1))) (sumOf m c (i 0) (i 1)) : Vec Ideal S576x1024 .f32), ?_, ?_⟩
  · exact (θ_run _ _ _).mono (fun r hr c => ⟨((hr c).1 6).trans (final6 m hO h c), ((hr c).1 7).trans (final7 m hO h c), ((hr c).1 8).trans (final8 m hO h c),
      ((hr c).1 9).trans (final9 m hO h c), unchanged m hO r hr c⟩) (run_main m g hO)
  · refine (θ_run _ _ _).mono (fun r h c => ⟨?_, ?_, ?_, ?_, (h c).2.2.2.2⟩) (Cert.FInRefIdeal.Value.run (F := Ideal) m' g')
    all_goals obtain ⟨a0, a1, a2, a3, a4, a5, a6⟩ := hargs c
    · refine (h c).1.trans ((val_main_v13_eq _ _ _ _).trans ?_)
      rw [a0, a1, a2, a3]
      exact funext fun i => ref_sum _ _ _ _ i
    · refine (h c).2.1.trans ((val_main_v39_eq _ _ _ _ _ _ _).trans ?_)
      rw [a0, a1, a2, a3, a4, a5, a6]
      exact funext fun i => (val_main_v39_apply _ _ _ _ _ _ _ i).trans ((ref_d _ _ _ _ _ _ _ _).trans (congrArg (fun j : S1024x576.Idx => delta (arr m c main_arg4 j) (arr m c main_arg5 j) (arr m c main_arg6 j) (sumOf m c (i 0) (i 1))) (Shape.idx_ext₂ rfl rfl : idx_main_v39 i = held (i 0) (i 1))))
    · refine (h c).2.2.1.trans ((val_main_v40_eq _ _ _ _ _).trans ?_)
      rw [a0, a1, a2, a3, a5]
      exact funext fun i => (val_main_v40_apply _ _ _ _ _ i).trans ((ref_m _ _ _ _ _ _).trans (congrArg (fun j : S1024x576.Idx => newM (arr m c main_arg5 j) (sumOf m c (i 0) (i 1))) (Shape.idx_ext₂ rfl rfl : idx_main_v40 i = held (i 0) (i 1))))
    · refine (h c).2.2.2.1.trans ((val_main_v41_eq _ _ _ _ _).trans ?_)
      rw [a0, a1, a2, a3, a6]
      exact funext fun i => (val_main_v41_apply _ _ _ _ _ i).trans ((ref_v _ _ _ _ _ _).trans (congrArg (fun j : S1024x576.Idx => newV (arr m c main_arg6 j) (sumOf m c (i 0) (i 1))) (Shape.idx_ext₂ rfl rfl : idx_main_v41 i = held (i 0) (i 1))))

end Reference

end Cert.Proof.FIn

end
-- ==== Proof.FPoolOut.lean ====
/-
  `FPoolOut`: the last sum of a weight's partial gradients (the device's own block of its partial gradient, the block one exchange
  brought and the two the other brought) and the step of the optimiser on the device's shard of that weight.  The kernel reads
  its own block through a window whose block index is the device's number, held in a table; the reference chooses it out of the
  eight blocks.  Both are, at every index, the same sum and the same step.
-/
module

public import proofs.«01_k».proof.Defs
public import proofs.«01_k».proof.Proof.Step
public import proofs.«01_k».proof.Proof.Gen.Pre_place_w_pool_out
public import proofs.«01_k».proof.Proof.Gen.FPoolOut
public import proofs.«01_k».proof.Proof.Gen.FPoolOut.Frame
public import proofs.«01_k».proof.Proof.Gen.FPoolOutIdeal
public import proofs.«01_k».proof.Proof.Gen.FPoolOutIdeal.Frame
public import proofs.«01_k».proof.Proof.Gen.FPoolOutRefIdeal
public import proofs.«01_k».proof.Proof.Gen.FPoolOutRefIdeal.Run
public import proofs.«01_k».proof.Proof.Gen.FPoolOutRefIdeal.Read
public import Idealize.ShloMosaic.Lib.Pointwise
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.FPoolOut

open Idealize.ShloMosaic Idealize.ShloMosaic.TcCoe Idealize.SL.Sem
open Cert.FPoolOutIdeal Cert.FPoolOutIdeal.Gen
open Cert.Proof.Step
open Idealize.ShloMosaic.Pipeline (Dat Cfg Window)

/-- The precondition bounds the device's index. -/
theorem word_of_pre {F : FTy → Type} [FloatOps F] [Cert.Pre_place_w_pool_out.Facts] (x0 : IVec S1 32) (x1 : FVec F S512x1024 .bf16)
    (x2 : FVec F S512x128 .bf16) (x3 : FVec F S2x512x128 .bf16) (x4 x5 x6 : FVec F S512x128 .f32)
    (h : Cert.Pre_place_w_pool_out.fn x0 x1 x2 x3 x4 x5 x6 = fun _ => 1#1) : (x0 (ix1 (0 : Fin 1))).toNat < 8 := by
  have e (i : S1.Idx) : x0 i = x0 (ix1 (0 : Fin 1)) := congrArg x0 (one_idx i)
  refine word_lt _ ?_
  have := congrFun h (fun a => a.elim0)
  simp only [Cert.Pre_place_w_pool_out.fn, constantI, cmpi, andi, shapeCast, e] at this
  exact this

/-- The block the device's index names, by its number. -/
theorem ix_table {F : FTy → Type} [FloatOps F] (pf : pre0.Contents (Elt F)) (_ : (pf 0 (ix1 (0 : Fin 1)) : BitVec 32).toNat < 8) (i : grid0.Coords) :
    cc0_transform_0 Facts₀.inb_S1_S1_0 Facts₀.numel1_S1 pf i = ![0, (pf 0 (ix1 (0 : Fin 1)) : BitVec 32).toNat] := by
  unfold cc0_transform_0
  refine congrArg (fun z : BitVec 32 => (![0, z.toNat] : Fin 2 → Nat)) ?_
  exact congrArg (pf 0) (one_idx _)

/-- The pipeline at an index below eight. -/
theorem ok_of_word {F : FTy → Type} [FloatOps F] (pf : pre0.Contents (Elt F)) (h : (pf 0 (ix1 (0 : Fin 1)) : BitVec 32).toNat < 8) : ok0 pf := by
  intro i
  refine ⟨fun a => ?_, .inr (Affine.block_words_dvd (of_decide_eq_true rfl) (by decide))⟩
  rw [ix_table pf h]
  match a with
  | ⟨0, _⟩ => show (0 + 1) * 512 ≤ 512; omega
  | ⟨1, _⟩ => show ((pf 0 (ix1 (0 : Fin 1)) : BitVec 32).toNat + 1) * 128 ≤ 1024; omega

variable [hPre : Cert.Pre_place_w_pool_out.Facts]

/-- The precondition gives the pipeline's side condition, for the kernel itself. -/
theorem ok_P (m : (ℓ : Loc nD τ sig) → Buf (Elt Bits) ℓ) (h : Cert.Pre_FPoolOut m) : Cert.FPoolOut.Gen.Ok m :=
  ok_of_word (F := Bits) (fun j => m (((0 : Dev nD) : Thread nD τ).loc (pre0.ref j))) (word_of_pre _ _ _ _ _ _ _ (h 0))

/-- The precondition gives the pipeline's side condition. -/
theorem ok_PI (m : (ℓ : Loc nD τ sig) → Buf (Elt Ideal) ℓ) (h : Cert.Pre_FPoolOutIdeal m) : Ok m :=
  ok_of_word _ (word_of_pre _ _ _ _ _ _ _ (h 0))

/-- The kernel's frame. -/
theorem frame_P : Cert.quiescent_FPoolOut := fun m ρ h => Cert.FPoolOut.Gen.frame (F := Bits) m ρ (ok_P m h)

/-- The ideal kernel's frame. -/
theorem frame_PI : Cert.quiescent_FPoolOutIdeal := fun m ρ h => Cert.FPoolOutIdeal.Gen.frame (F := Ideal) m ρ (ok_PI m h)

/-- The reference's frame. -/
theorem frame_RI : Cert.quiescent_FPoolOutRefIdeal := fun m ρ _ =>
  (θ_run Cert.FPoolOutRefIdeal.defs _ _).mono (fun r h => ⟨fun c => (h c).2.2.2.2,
      Idealize.ShloMosaic.sem_eq_zero_of_no_sems (by decide) r.2⟩)
    (Cert.FPoolOutRefIdeal.Value.run (F := Ideal) m ρ)

/-- The reference's frame under the claim's precondition. -/
theorem frame_RI_pre : Cert.quiescent_FPoolOutRefIdeal_pre_place_w_pool_out := fun m ρ _ => frame_RI m ρ trivial

section Value

variable (m : (ℓ : Loc nD τ sig) → Buf (Elt Ideal) ℓ) (hO : Ok m)

/-- A buffer of a device in a memory. -/
abbrev arr (m : (ℓ : Loc nD τ sig) → Buf (Elt Ideal) ℓ) (c : Dev nD) (b : Ref sig .tc) := m ((c : Thread nD τ).loc b)

/-- The device's index, as a number. -/
abbrev word : Nat := (arr m 0 main_arg0 (ix1 (0 : Fin 1)) : BitVec 32).toNat

/-- The reduced gradient at a row and a column. -/
def sum (x0 : IVec S1 32) (x1 : FVec Ideal S512x1024 .bf16) (x2 : FVec Ideal S512x128 .bf16) (x3 : FVec Ideal S2x512x128 .bf16)
    (p : Fin 512) (q : Fin 128) : EReal :=
  total (pick (x0 (ix1 (0 : Fin 1))) fun k => x1 (ix2 p ⟨k.val * 128 + q.val, by omega⟩)) (x2 (ix2 p q))
    (x3 (ix3 (0 : Fin 2) p q)) (x3 (ix3 (1 : Fin 2) p q))

/-- The reduced gradient of a run's arguments. -/
def sumOf (c : Dev nD) (p : Fin 512) (q : Fin 128) : EReal :=
  sum (arr m c main_arg0) (arr m c main_arg1) (arr m c main_arg2) (arr m c main_arg3) p q

/-- The grid has 1 points. -/
theorem point_lt (t : Fin (cfgM m hO).N) : t.val < 1 := lt_of_lt_of_eq t.isLt (by decide +kernel : grid0.N = 1)

/-- A row of a point's block, in the whole array. -/
def row (t : Fin (cfgM m hO).N) (p : Fin 512) : Fin 512 := ⟨t.val * 512 + p.val, by have := point_lt m hO t; omega⟩

/-- The block a point takes of the arrays that are divided by rows. -/
theorem idx_row (t : Fin (cfgM m hO).N) : cc0_transform_1 (grid0.coords t) = ![t.val, 0] :=
  (by decide +kernel : ∀ t : Fin grid0.N, cc0_transform_1 (grid0.coords t) = ![t.val, 0]) t

/-- The block a point takes of the scattered partial sums. -/
theorem idx_slab (t : Fin (cfgM m hO).N) : cc0_transform_2 (grid0.coords t) = ![0, t.val, 0] :=
  (by decide +kernel : ∀ t : Fin grid0.N, cc0_transform_2 (grid0.coords t) = ![0, t.val, 0]) t

/-- An index of a block of rows, by its two coordinates, is the index of the array at the block's row. -/
theorem emb_row (t : Fin (cfgM m hO).N) (j : S512x128.Idx) (x : S512x128.Idx) (n : Fin 2 → ℕ) (hn : n = ![t.val, 0])
    (h0 : (x 0).val = n 0 * 512 + (j 0).val) (h1 : (x 1).val = n 1 * 128 + (j 1).val) : x = ix2 (row m hO t (j 0)) (j 1) := by
  subst hn
  refine Shape.idx_ext₂ h0 (h1.trans ?_)
  exact (congrArg (· + (j 1).val) (Nat.zero_mul 128)).trans (Nat.zero_add _)

section Places

variable (t : Fin (cfgM m hO).N) (j : S512x128.Idx)

/-- Where an index of each window's block lies in its array. -/
theorem emb1 : (((cfgM m hO).win 1).blk t).view.emb j = ix2 (row m hO t (j 0)) (j 1) :=
  emb_row m hO t j _ _ (idx_row m hO t) (Window.rect_emb_val ((cfgM m hO).win 1) t j (0 : Fin 2)) (Window.rect_emb_val ((cfgM m hO).win 1) t j (1 : Fin 2))
/-- The same for window 3. -/
theorem emb3 : (((cfgM m hO).win 3).blk t).view.emb j = ix2 (row m hO t (j 0)) (j 1) :=
  emb_row m hO t j _ _ (idx_row m hO t) (Window.rect_emb_val ((cfgM m hO).win 3) t j (0 : Fin 2)) (Window.rect_emb_val ((cfgM m hO).win 3) t j (1 : Fin 2))
/-- The same for window 4. -/
theorem emb4 : (((cfgM m hO).win 4).blk t).view.emb j = ix2 (row m hO t (j 0)) (j 1) :=
  emb_row m hO t j _ _ (idx_row m hO t) (Window.rect_emb_val ((cfgM m hO).win 4) t j (0 : Fin 2)) (Window.rect_emb_val ((cfgM m hO).win 4) t j (1 : Fin 2))
/-- The same for window 5. -/
theorem emb5 : (((cfgM m hO).win 5).blk t).view.emb j = ix2 (row m hO t (j 0)) (j 1) :=
  emb_row m hO t j _ _ (idx_row m hO t) (Window.rect_emb_val ((cfgM m hO).win 5) t j (0 : Fin 2)) (Window.rect_emb_val ((cfgM m hO).win 5) t j (1 : Fin 2))
/-- The same for window 6. -/
theorem emb6 : (((cfgM m hO).win 6).blk t).view.emb j = ix2 (row m hO t (j 0)) (j 1) :=
  emb_row m hO t j _ _ (idx_row m hO t) (Window.rect_emb_val ((cfgM m hO).win 6) t j (0 : Fin 2)) (Window.rect_emb_val ((cfgM m hO).win 6) t j (1 : Fin 2))
/-- The same for window 7. -/
theorem emb7 : (((cfgM m hO).win 7).blk t).view.emb j = ix2 (row m hO t (j 0)) (j 1) :=
  emb_row m hO t j _ _ (idx_row m hO t) (Window.rect_emb_val ((cfgM m hO).win 7) t j (0 : Fin 2)) (Window.rect_emb_val ((cfgM m hO).win 7) t j (1 : Fin 2))
/-- The same for window 8. -/
theorem emb8 : (((cfgM m hO).win 8).blk t).view.emb j = ix2 (row m hO t (j 0)) (j 1) :=
  emb_row m hO t j _ _ (idx_row m hO t) (Window.rect_emb_val ((cfgM m hO).win 8) t j (0 : Fin 2)) (Window.rect_emb_val ((cfgM m hO).win 8) t j (1 : Fin 2))
/-- The same for window 9. -/
theorem emb9 : (((cfgM m hO).win 9).blk t).view.emb j = ix2 (row m hO t (j 0)) (j 1) :=
  emb_row m hO t j _ _ (idx_row m hO t) (Window.rect_emb_val ((cfgM m hO).win 9) t j (0 : Fin 2)) (Window.rect_emb_val ((cfgM m hO).win 9) t j (1 : Fin 2))

end Places

/-- The own block at a point. -/
theorem block0 (h : word m < 8) (c : Dev nD) (t : Fin (cfgM m hO).N) (j : S512x128.Idx) :
    (iblk m hO c 0 t : Vec Ideal S512x128 .bf16) j
      = pick (arr m c main_arg0 (ix1 (0 : Fin 1))) fun k => arr m c main_arg1 (ix2 (row m hO t (j 0)) ⟨k.val * 128 + (j 1).val, by have := k.isLt; have : (j 1).val < 128 := (j 1).isLt; omega⟩) := by
  obtain rfl : c = 0 := Subsingleton.elim _ _
  rw [pick_eq _ h]
  have hc : (grid0.coords t 0).val = t.val := (by decide +kernel : ∀ t : Fin grid0.N, (grid0.coords t 0).val = t.val) t
  have ht := point_lt m hO t
  have l0 : (j 0).val < 512 := (j 0).isLt
  have l1 : (j 1).val < 128 := (j 1).isLt
  have hi : ((cfgM m hO).win 0).index t = _ := ix_table (tbl m) h (grid0.coords t)
  refine (congrArg (V m 0 (Pipeline.arrRef spec0 0)) (?_ : (((cfgM m hO).win 0).blk t).view.emb j = _)).trans (congrFun (V_main_arg1 m 0) _)
  refine Shape.idx_ext₂ ?_ ?_
  · refine (Window.rect_emb_val ((cfgM m hO).win 0) t j (0 : Fin 2)).trans ?_
    rw [hi]
    show 0 * 512 + (j 0).val = t.val * 512 + (j 0).val
    omega
  · refine (Window.rect_emb_val ((cfgM m hO).win 0) t j (1 : Fin 2)).trans ?_
    rw [hi]
    rfl

/-- The neighbour's partial sum at a point. -/
theorem block1 (c : Dev nD) (t : Fin (cfgM m hO).N) (j : S512x128.Idx) :
    (iblk m hO c 1 t : Vec Ideal S512x128 .bf16) j = arr m c main_arg2 (ix2 (row m hO t (j 0)) (j 1)) :=
  (congrArg (V m c (Pipeline.arrRef spec0 1)) (emb1 m hO t j)).trans (congrFun (V_main_arg2 m c) _)

/-- The scattered partial sums at a point. -/
theorem block2 (c : Dev nD) (t : Fin (cfgM m hO).N) (k : Fin 2) (p : Fin 512) (q : Fin 128) :
    (iblk m hO c 2 t : Vec Ideal S2x512x128 .bf16) (ix3 k p q) = arr m c main_arg3 (ix3 k (row m hO t p) q) := by
  have hi : ((cfgM m hO).win 2).index t = _ := idx_slab m hO t
  refine (congrArg (V m c (Pipeline.arrRef spec0 2)) (?_ : (((cfgM m hO).win 2).blk t).view.emb (ix3 k p q) = _)).trans (congrFun (V_main_arg3 m c) _)
  refine idx_ext₃ ?_ ?_ ?_
  · refine (Window.rect_emb_val ((cfgM m hO).win 2) t (ix3 k p q) (0 : Fin 3)).trans ?_
    rw [hi]
    exact (congrArg (· + k.val) (Nat.zero_mul 2)).trans (Nat.zero_add _)
  · refine (Window.rect_emb_val ((cfgM m hO).win 2) t (ix3 k p q) (1 : Fin 3)).trans ?_
    rw [hi]
    rfl
  · refine (Window.rect_emb_val ((cfgM m hO).win 2) t (ix3 k p q) (2 : Fin 3)).trans ?_
    rw [hi]
    exact (congrArg (· + q.val) (Nat.zero_mul 128)).trans (Nat.zero_add _)

/-- Where an entry of the weight's shard is held. -/
def held (p : Fin 512) (q : Fin 128) : S512x128.Idx := ix2 p q

/-- An index is the one its coordinates are held at. -/
theorem ix_held (i : S512x128.Idx) : i = held (i 0) (i 1) := Shape.idx_ext₂ rfl rfl

/-- The weight at a point. -/
theorem block3 (c : Dev nD) (t : Fin (cfgM m hO).N) (j : S512x128.Idx) :
    (iblk m hO c 3 t : Vec Ideal S512x128 .f32) j = arr m c main_arg4 (held (row m hO t (j 0)) (j 1)) :=
  (congrArg (V m c (Pipeline.arrRef spec0 3)) (emb3 m hO t j)).trans (congrFun (V_main_arg4 m c) _)

/-- The first moment at a point. -/
theorem block4 (c : Dev nD) (t : Fin (cfgM m hO).N) (j : S512x128.Idx) :
    (iblk m hO c 4 t : Vec Ideal S512x128 .f32) j = arr m c main_arg5 (held (row m hO t (j 0)) (j 1)) :=
  (congrArg (V m c (Pipeline.arrRef spec0 4)) (emb4 m hO t j)).trans (congrFun (V_main_arg5 m c) _)

/-- The second moment at a point. -/
theorem block5 (c : Dev nD) (t : Fin (cfgM m hO).N) (j : S512x128.Idx) :
    (iblk m hO c 5 t : Vec Ideal S512x128 .f32) j = arr m c main_arg6 (held (row m hO t (j 0)) (j 1)) :=
  (congrArg (V m c (Pipeline.arrRef spec0 5)) (emb5 m hO t j)).trans (congrFun (V_main_arg6 m c) _)

section Body

variable (c : Dev nD) (i : grid0.Coords) (arg2 : Memref sig .tc .vmem S512x128 .bf16) (harg2 : arg2.IsWhole)
  (arg3 : Memref sig .tc .vmem S512x128 .bf16) (harg3 : arg3.IsWhole) (arg4 : Memref sig .tc .vmem S2x512x128 .bf16) (harg4 : arg4.IsWhole)
  (arg5 : Memref sig .tc .vmem S512x128 .f32) (harg5 : arg5.IsWhole) (arg6 : Memref sig .tc .vmem S512x128 .f32) (harg6 : arg6.IsWhole)
  (arg7 : Memref sig .tc .vmem S512x128 .f32) (harg7 : arg7.IsWhole) (arg8 : Memref sig .tc .vmem S512x128 .f32) (harg8 : arg8.IsWhole)
  (arg9 : Memref sig .tc .vmem S512x128 .f32) (harg9 : arg9.IsWhole) (arg10 : Memref sig .tc .vmem S512x128 .f32) (harg10 : arg10.IsWhole)
  (arg11 : Memref sig .tc .vmem S512x128 .f32) (harg11 : arg11.IsWhole)
  (x0 x1 : Vec Ideal S512x128 .bf16) (x2 : Vec Ideal S2x512x128 .bf16) (x3 x4 x5 : Vec Ideal S512x128 .f32) (xt0 : TbBuf0 (F := Ideal) c tbM0_0)
  (y : S512x128.Idx)

/-- The body's stores begin at the block's first entry. -/
theorem zero_off : (![0, 0] : Fin S512x128.rank → Nat) = fun _ => 0 := funext fun a => by fin_cases a <;> rfl

/-- The body's sum of the partial gradients at an index. -/
theorem pay2_apply (v0 v2 : Vec Ideal S512x128 .bf16) (v5 v9 : Vec Ideal S1x512x128 .bf16) :
    k0_pay2 (F := Ideal) v0 v2 v5 v9 y = total (v0 y) (v2 y) (v5 (ix3 (0 : Fin 1) (y 0) (y 1))) (v9 (ix3 (0 : Fin 1) (y 0) (y 1))) := by
  show (v0 y : EReal) + v2 y + shapeCast S512x128 v5 shapeCasts_S1x512x128_S512x128 y + shapeCast S512x128 v9 shapeCasts_S1x512x128_S512x128 y = _
  rw [slab_cast, slab_cast]
  rfl

/-- The sum of the partial gradients in a point's blocks. -/
def sumAt : EReal := total (x0 y) (x1 y) (x2 (ix3 (0 : Fin 2) (y 0) (y 1))) (x2 (ix3 (1 : Fin 2) (y 0) (y 1)))

/-- A whole block as the body loads it. -/
abbrev loaded {e : EltTy} (arg : Memref sig .tc .vmem S512x128 e) (h : arg.IsWhole) (x : Vec Ideal S512x128 e) : Vec Ideal S512x128 e :=
  View.readAt (Elt Ideal) arg.view (Rect.unit (s := S512x128) ![0, 0] S512x128.size inb_S512x128_S512x128_0_0).toLoadRect (h.unread x)

/-- The body's sum of the partial gradients as it loads them. -/
abbrev summed : Vec Ideal S512x128 .f32 :=
  k0_pay2 (F := Ideal) (loaded arg2 harg2 x0) (loaded arg3 harg3 x1)
    (View.readAt (Elt Ideal) arg4.view (Rect.unit (s := S2x512x128) ![0, 0, 0] S1x512x128.size inb_S2x512x128_S1x512x128_0_0_0).toLoadRect (harg4.unread x2))
    (View.readAt (Elt Ideal) arg4.view (Rect.unit (s := S2x512x128) ![1, 0, 0] S1x512x128.size inb_S2x512x128_S1x512x128_1_0_0).toLoadRect (harg4.unread x2))

/-- That sum at an index. -/
theorem summed_apply : summed arg2 harg2 arg3 harg3 arg4 harg4 x0 x1 x2 y = sumAt x0 x1 x2 y := by
  refine (pay2_apply y _ _ _ _).trans ?_
  exact total_congr (congrFun (load_whole arg2 harg2 _ x0) y) (congrFun (load_whole arg3 harg3 _ x1) y) (load_slab arg4 harg4 0 _ x2 (y 0) (y 1)) (load_slab arg4 harg4 1 _ x2 (y 0) (y 1))

/-- A block of the weight or of a moment as the body uses it. -/
abbrev used (arg : Memref sig .tc .vmem S512x128 .f32) (h : arg.IsWhole) (x : Vec Ideal S512x128 .f32) : Vec Ideal S512x128 .f32 := loaded arg h x

/-- That block at an index. -/
theorem used_apply (arg : Memref sig .tc .vmem S512x128 .f32) (h : arg.IsWhole) (x : Vec Ideal S512x128 .f32) : used arg h x y = x y :=
  congrFun (load_whole arg h _ x) y

/-- The first output's block: the sum. -/
theorem out6_apply : out0_A_6 (F := Ideal) c i arg2 harg2 arg3 harg3 arg4 harg4 arg5 harg5 arg6 harg6 arg7 harg7 arg8 harg8 arg9 harg9 arg10 harg10 arg11 harg11 x0 x1 x2 x3 x4 x5 xt0 y
    = sumAt x0 x1 x2 y := by
  unfold out0_A_6
  rw [View.read_writes_eq_canon _ _ _ (fun y => cover0_A_6 ..)]
  unfold kernelRun0_A
  dsimp only
  exact (congrFun (View.canon_unit_zero zero_off _ _) y).trans (summed_apply ..)

/-- The second output's block: the change of the weight. -/
theorem out7_apply : out0_A_7 (F := Ideal) c i arg2 harg2 arg3 harg3 arg4 harg4 arg5 harg5 arg6 harg6 arg7 harg7 arg8 harg8 arg9 harg9 arg10 harg10 arg11 harg11 x0 x1 x2 x3 x4 x5 xt0 y
    = delta (x3 y) (x4 y) (x5 y) (sumAt x0 x1 x2 y) := by
  unfold out0_A_7
  rw [View.read_writes_eq_canon _ _ _ (fun y => cover0_A_7 ..)]
  unfold kernelRun0_A
  dsimp only
  refine (congrFun (View.canon_unit_zero zero_off _ _) y).trans ?_
  refine Eq.trans ?_ (delta_congr (used_apply y arg5 harg5 x3) (used_apply y arg6 harg6 x4) (used_apply y arg7 harg7 x5) (summed_apply arg2 harg2 arg3 harg3 arg4 harg4 x0 x1 x2 y))
  rfl

/-- The third output's block: the first moment after the step. -/
theorem out8_apply : out0_A_8 (F := Ideal) c i arg2 harg2 arg3 harg3 arg4 harg4 arg5 harg5 arg6 harg6 arg7 harg7 arg8 harg8 arg9 harg9 arg10 harg10 arg11 harg11 x0 x1 x2 x3 x4 x5 xt0 y
    = newM (x4 y) (sumAt x0 x1 x2 y) := by
  unfold out0_A_8
  rw [View.read_writes_eq_canon _ _ _ (fun y => cover0_A_8 ..)]
  unfold kernelRun0_A
  dsimp only
  refine (congrFun (View.canon_unit_zero zero_off _ _) y).trans ?_
  refine Eq.trans ?_ (congrArg₂ newM (used_apply y arg6 harg6 x4) (summed_apply arg2 harg2 arg3 harg3 arg4 harg4 x0 x1 x2 y))
  rfl

/-- The fourth output's block: the second moment after the step. -/
theorem out9_apply : out0_A_9 (F := Ideal) c i arg2 harg2 arg3 harg3 arg4 harg4 arg5 harg5 arg6 harg6 arg7 harg7 arg8 harg8 arg9 harg9 arg10 harg10 arg11 harg11 x0 x1 x2 x3 x4 x5 xt0 y
    = newV (x5 y) (sumAt x0 x1 x2 y) := by
  unfold out0_A_9
  rw [View.read_writes_eq_canon _ _ _ (fun y => cover0_A_9 ..)]
  unfold kernelRun0_A
  dsimp only
  refine (congrFun (View.canon_unit_zero zero_off _ _) y).trans ?_
  refine Eq.trans ?_ (congrArg₂ newV (used_apply y arg7 harg7 x5) (summed_apply arg2 harg2 arg3 harg3 arg4 harg4 x0 x1 x2 y))
  rfl

end Body

/-- The sum in a point's blocks is the reduced gradient at the block's rows. -/
theorem sum_at (h : word m < 8) (c : Dev nD) (t : Fin (cfgM m hO).N) (j : S512x128.Idx) :
    sumAt (iblk m hO c 0 t) (iblk m hO c 1 t) (iblk m hO c 2 t) j = sumOf m c (row m hO t (j 0)) (j 1) := by
  unfold sumAt sumOf sum
  exact total_congr (block0 m hO h c t j) (block1 m hO c t j) (block2 m hO c t 0 (j 0) (j 1)) (block2 m hO c t 1 (j 0) (j 1))

/-- The point whose block holds an index. -/
def pt (i : S512x128.Idx) : Fin (cfgM m hO).N :=
  ⟨(i 0).val / 512, lt_of_lt_of_eq (by have : (i 0).val < 512 := (i 0).isLt; omega : (i 0).val / 512 < 1) (by decide +kernel : 1 = grid0.N)⟩

/-- The index within that block. -/
def inner (i : S512x128.Idx) : S512x128.Idx := ix2 (⟨(i 0).val % 512, Nat.mod_lt _ (by decide)⟩ : Fin 512) (i 1)

/-- The index found again from its point and the index within. -/
theorem pt_inner (i : S512x128.Idx) : (ix2 (row m hO (pt m hO i) (inner i 0)) (inner i 1) : S512x128.Idx) = i :=
  Shape.idx_ext₂ (by show (i 0).val / 512 * 512 + (i 0).val % 512 = (i 0).val; omega) rfl

/-- Every index of each output is in some point's block. -/
theorem cover6 (i : S512x128.Idx) : ∃ t : Fin (cfgM m hO).N, ((cfgM m hO).win 6).flush t = true ∧ i ∈ (((cfgM m hO).win 6).blk t).view.set :=
  ⟨pt m hO i, flush0_6 (adm m hO) _, (congrArg (· ∈ (((cfgM m hO).win 6).blk (pt m hO i)).view.set) ((emb6 m hO _ (inner i)).trans (pt_inner m hO i))).mp (View.emb_mem_set _ _)⟩
/-- The same for window 7. -/
theorem cover7 (i : S512x128.Idx) : ∃ t : Fin (cfgM m hO).N, ((cfgM m hO).win 7).flush t = true ∧ i ∈ (((cfgM m hO).win 7).blk t).view.set :=
  ⟨pt m hO i, flush0_7 (adm m hO) _, (congrArg (· ∈ (((cfgM m hO).win 7).blk (pt m hO i)).view.set) ((emb7 m hO _ (inner i)).trans (pt_inner m hO i))).mp (View.emb_mem_set _ _)⟩
/-- The same for window 8. -/
theorem cover8 (i : S512x128.Idx) : ∃ t : Fin (cfgM m hO).N, ((cfgM m hO).win 8).flush t = true ∧ i ∈ (((cfgM m hO).win 8).blk t).view.set :=
  ⟨pt m hO i, flush0_8 (adm m hO) _, (congrArg (· ∈ (((cfgM m hO).win 8).blk (pt m hO i)).view.set) ((emb8 m hO _ (inner i)).trans (pt_inner m hO i))).mp (View.emb_mem_set _ _)⟩
/-- The same for window 9. -/
theorem cover9 (i : S512x128.Idx) : ∃ t : Fin (cfgM m hO).N, ((cfgM m hO).win 9).flush t = true ∧ i ∈ (((cfgM m hO).win 9).blk t).view.set :=
  ⟨pt m hO i, flush0_9 (adm m hO) _, (congrArg (· ∈ (((cfgM m hO).win 9).blk (pt m hO i)).view.set) ((emb9 m hO _ (inner i)).trans (pt_inner m hO i))).mp (View.emb_mem_set _ _)⟩

variable (h : word m < 8)

/-- The change of the weight of a run's arguments. -/
def deltaOf (c : Dev nD) (p : Fin 512) (q : Fin 128) : EReal :=
  delta (arr m c main_arg4 (held p q)) (arr m c main_arg5 (held p q)) (arr m c main_arg6 (held p q)) (sumOf m c p q)

include h in
/-- The reduced gradient after the run. -/
theorem final6 (c : Dev nD) : (dats m hO 0 c).arrAt 6 (cfgM m hO).N = (fun i => sumOf m c (i 0) (i 1) : Vec Ideal S512x128 .f32) := by
  refine (dats m hO 0 c).arrAt_eq_of_cover 6 _ (fun t _ => ?_) (cover6 m hO)
  show ((cfgM m hO).win 6).cut (grid0.coords t) ((dats m hO 0 c).after 6 t) = _
  rw [after0_6]
  unfold outsAt0
  dsimp only
  funext j
  refine (out6_apply ..).trans ((sum_at m hO h c t j).trans ?_)
  exact (congrArg (fun i : S512x128.Idx => sumOf m c (i 0) (i 1)) (emb6 m hO t j)).symm

include h in
/-- The change of the weight after the run. -/
theorem final7 (c : Dev nD) : (dats m hO 0 c).arrAt 7 (cfgM m hO).N = (fun i => deltaOf m c (i 0) (i 1) : Vec Ideal S512x128 .f32) := by
  refine (dats m hO 0 c).arrAt_eq_of_cover 7 _ (fun t _ => ?_) (cover7 m hO)
  show ((cfgM m hO).win 7).cut (grid0.coords t) ((dats m hO 0 c).after 7 t) = _
  rw [after0_7]
  unfold outsAt0
  dsimp only
  funext j
  refine (out7_apply ..).trans (Eq.trans ?_ (congrArg (fun i : S512x128.Idx => deltaOf m c (i 0) (i 1)) (emb7 m hO t j)).symm)
  exact delta_congr (block3 m hO c t j) (block4 m hO c t j) (block5 m hO c t j) (sum_at m hO h c t j)

include h in
/-- The first moment after the run. -/
theorem final8 (c : Dev nD) : (dats m hO 0 c).arrAt 8 (cfgM m hO).N
    = (fun i => newM (arr m c main_arg5 (held (i 0) (i 1))) (sumOf m c (i 0) (i 1)) : Vec Ideal S512x128 .f32) := by
  refine (dats m hO 0 c).arrAt_eq_of_cover 8 _ (fun t _ => ?_) (cover8 m hO)
  show ((cfgM m hO).win 8).cut (grid0.coords t) ((dats m hO 0 c).after 8 t) = _
  rw [after0_8]
  unfold outsAt0
  dsimp only
  funext j
  refine (out8_apply ..).trans (Eq.trans ?_ (congrArg (fun i : S512x128.Idx => newM (arr m c main_arg5 (held (i 0) (i 1))) (sumOf m c (i 0) (i 1))) (emb8 m hO t j)).symm)
  exact congrArg₂ newM (block4 m hO c t j) (sum_at m hO h c t j)

include h in
/-- The second moment after the run. -/
theorem final9 (c : Dev nD) : (dats m hO 0 c).arrAt 9 (cfgM m hO).N
    = (fun i => newV (arr m c main_arg6 (held (i 0) (i 1))) (sumOf m c (i 0) (i 1)) : Vec Ideal S512x128 .f32) := by
  refine (dats m hO 0 c).arrAt_eq_of_cover 9 _ (fun t _ => ?_) (cover9 m hO)
  show ((cfgM m hO).win 9).cut (grid0.coords t) ((dats m hO 0 c).after 9 t) = _
  rw [after0_9]
  unfold outsAt0
  dsimp only
  funext j
  refine (out9_apply ..).trans (Eq.trans ?_ (congrArg (fun i : S512x128.Idx => newV (arr m c main_arg6 (held (i 0) (i 1))) (sumOf m c (i 0) (i 1))) (emb9 m hO t j)).symm)
  exact congrArg₂ newV (block5 m hO c t j) (sum_at m hO h c t j)

/-- The arguments after the run. -/
theorem unchanged (r : PUnit × MemSt nD τ sig (Elt Ideal))
    (hr : Pipeline.FramePost (Pipeline.pin pcfgs fun _ => adm m hO) (dats m hO) 0 (V m) r) (c : Dev nD) :
    arr r.2.mem c main_arg0 = arr m c main_arg0
      ∧ arr r.2.mem c main_arg1 = arr m c main_arg1
      ∧ arr r.2.mem c main_arg2 = arr m c main_arg2
      ∧ arr r.2.mem c main_arg3 = arr m c main_arg3
      ∧ arr r.2.mem c main_arg4 = arr m c main_arg4
      ∧ arr r.2.mem c main_arg5 = arr m c main_arg5
      ∧ arr r.2.mem c main_arg6 = arr m c main_arg6 :=
  ⟨((hr c).2 main_arg0 (by decide : main_arg0 ∈ Pipeline.restRefs sig spec0)).trans (V_main_arg0 m c),
    ((hr c).1 0).trans (((dats m hO 0 c).arrAt_in 0 rfl _).trans ((A_eq m hO c 0).trans (V_main_arg1 m c))),
    ((hr c).1 1).trans (((dats m hO 0 c).arrAt_in 1 rfl _).trans ((A_eq m hO c 1).trans (V_main_arg2 m c))),
    ((hr c).1 2).trans (((dats m hO 0 c).arrAt_in 2 rfl _).trans ((A_eq m hO c 2).trans (V_main_arg3 m c))),
    ((hr c).1 3).trans (((dats m hO 0 c).arrAt_in 3 rfl _).trans ((A_eq m hO c 3).trans (V_main_arg4 m c))),
    ((hr c).1 4).trans (((dats m hO 0 c).arrAt_in 4 rfl _).trans ((A_eq m hO c 4).trans (V_main_arg5 m c))),
    ((hr c).1 5).trans (((dats m hO 0 c).arrAt_in 5 rfl _).trans ((A_eq m hO c 5).trans (V_main_arg6 m c)))⟩

end Value

section Reference

open Cert.FPoolOutRefIdeal.Read

variable (x0 : IVec S1 32) (x1 : FVec Ideal S512x1024 .bf16) (x2 : FVec Ideal S512x128 .bf16) (x3 : FVec Ideal S2x512x128 .bf16) (x4 x5 x6 : FVec Ideal S512x128 .f32)

/-- The reference's choice of the device's own block, one block of the eight. -/
theorem ref_own (k : Fin 8) (i : S512x128.Idx) : val_main_v7 (F := Ideal) x0 x1 (idx_main_v8 i k)
    = if BitVec.ofNat 32 k.val = x0 (ix1 (0 : Fin 1)) then x1 (ix2 (i 0) ⟨k.val * 128 + (i 1).val, by have := k.isLt; have : (i 1).val < 128 := (i 1).isLt; omega⟩) else 0 := by
  rw [val_main_v7_apply, val_main_call0_v1_apply, val_main_v6_apply, val_main_v5_apply, val_main_v3_apply, val_main_v1_apply, val_main_v0_apply,
    val_main_call0_v2_apply]
  refine (select_eq _ _ _ _).trans ?_
  have l0 : (i 0).val < 512 := (i 0).isLt
  have l1 : (i 1).val < 128 := (i 1).isLt
  have l2 := k.isLt
  refine pick_term (congrArg (BitVec.ofNat 32) ?_) (congrArg x0 (one_idx _)) (congrArg x1 (Shape.idx_ext₂ ?_ ?_)) bits_zero
  · show k.val * 1 + 0 = k.val; omega
  · show (((i 0).val * 8 + k.val) * 128 + (i 1).val) / 1024 = (i 0).val; omega
  · show (((i 0).val * 8 + k.val) * 128 + (i 1).val) % 1024 = k.val * 128 + (i 1).val; omega

/-- The reference's reduced gradient. -/
theorem ref_sum (i : S512x128.Idx) : val_main_v13 (F := Ideal) x0 x1 x2 x3 i = sum x0 x1 x2 x3 (i 0) (i 1) := by
  rw [val_main_v13_apply, val_main_v10_apply, val_main_v8_apply, val_main_v12_apply, Fin.sum_univ_two]
  simp only [ref_own]
  exact (total_eq bits_zero bits_zero _ _ _ _).trans (total_congr rfl (congrArg x2 (Shape.idx_ext₂ rfl rfl)) (congrArg x3 (idx_ext₃ rfl rfl rfl)) (congrArg x3 (idx_ext₃ rfl rfl rfl)))

/-- The reference's reduced gradient, as the shard is held. -/
theorem ref_grad (i : S512x128.Idx) : val_main_v13 (F := Ideal) x0 x1 x2 x3 i = sum x0 x1 x2 x3 (i 0) (i 1) := ref_sum x0 x1 x2 x3 i

/-- The reference's first moment. -/
theorem ref_m (i : S512x128.Idx) : val_main_v18 (F := Ideal) x0 x1 x2 x3 x5 i = newM (x5 i) (sum x0 x1 x2 x3 (i 0) (i 1)) := by
  rw [val_main_v18_apply, val_main_v17_apply, val_main_v16_apply, val_main_v15_apply, val_main_v14_apply, val_main_cst_2_apply, val_main_cst_3_apply, ref_grad]
  rfl

/-- The reference's second moment. -/
theorem ref_v (i : S512x128.Idx) : val_main_v24 (F := Ideal) x0 x1 x2 x3 x6 i = newV (x6 i) (sum x0 x1 x2 x3 (i 0) (i 1)) := by
  rw [val_main_v24_apply, val_main_v23_apply, val_main_v22_apply, val_main_v21_apply, val_main_v20_apply, val_main_v19_apply, val_main_cst_4_apply, val_main_cst_5_apply, ref_grad]
  rfl

/-- The reference's change of the weight. -/
theorem ref_d (i : S512x128.Idx) : val_main_v37 (F := Ideal) x0 x1 x2 x3 x4 x5 x6 i = delta (x4 i) (x5 i) (x6 i) (sum x0 x1 x2 x3 (i 0) (i 1)) := by
  rw [val_main_v37_apply, val_main_v36_apply, val_main_v35_apply, val_main_v34_apply, val_main_v33_apply, val_main_v32_apply, val_main_v31_apply, val_main_v30_apply, val_main_v29_apply, val_main_v28_apply,
    val_main_v27_apply, val_main_v26_apply, val_main_v25_apply, ref_m, ref_v, val_main_cst_6_apply, val_main_cst_7_apply, val_main_cst_8_apply, val_main_cst_9_apply,
    val_main_cst_10_apply]
  rfl

/-- Kernel and reference agree at every index of the four results. -/
theorem algebraic : Cert.algebraic_FPoolOutIdeal_FPoolOutRefIdeal := by
  intro m g m' g' hpre hargs
  have h : word m < 8 := word_of_pre _ _ _ _ _ _ _ (hpre 0)
  have hO := ok_PI m hpre
  refine ⟨fun c => (fun i => sumOf m c (i 0) (i 1) : Vec Ideal S512x128 .f32), fun c => (fun i => deltaOf m c (i 0) (i 1) : Vec Ideal S512x128 .f32),
    fun c => (fun i => newM (arr m c main_arg5 (held (i 0) (i 1))) (sumOf m c (i 0) (i 1)) : Vec Ideal S512x128 .f32),
    fun c => (fun i => newV (arr m c main_arg6 (held (i 0) (i 1))) (sumOf m c (i 0) (i 1)) : Vec Ideal S512x128 .f32), ?_, ?_⟩
  · exact (θ_run _ _ _).mono (fun r hr c => ⟨((hr c).1 6).trans (final6 m hO h c), ((hr c).1 7).trans (final7 m hO h c), ((hr c).1 8).trans (final8 m hO h c),
      ((hr c).1 9).trans (final9 m hO h c), unchanged m hO r hr c⟩) (run_main m g hO)
  · refine (θ_run _ _ _).mono (fun r h c => ⟨?_, ?_, ?_, ?_, (h c).2.2.2.2⟩) (Cert.FPoolOutRefIdeal.Value.run (F := Ideal) m' g')
    all_goals obtain ⟨a0, a1, a2, a3, a4, a5, a6⟩ := hargs c
    · refine (h c).1.trans ((val_main_v13_eq _ _ _ _).trans ?_)
      rw [a0, a1, a2, a3]
      exact funext fun i => ref_sum _ _ _ _ i
    · refine (h c).2.1.trans ((val_main_v37_eq _ _ _ _ _ _ _).trans ?_)
      rw [a0, a1, a2, a3, a4, a5, a6]
      exact funext fun i => (ref_d _ _ _ _ _ _ _ i).trans (congrArg (fun j : S512x128.Idx => delta (arr m c main_arg4 j) (arr m c main_arg5 j) (arr m c main_arg6 j) (sumOf m c (i 0) (i 1))) (ix_held i))
    · refine (h c).2.2.1.trans ((val_main_v18_eq _ _ _ _ _).trans ?_)
      rw [a0, a1, a2, a3, a5]
      exact funext fun i => (ref_m _ _ _ _ _ i).trans (congrArg (fun j : S512x128.Idx => newM (arr m c main_arg5 j) (sumOf m c (i 0) (i 1))) (ix_held i))
    · refine (h c).2.2.2.1.trans ((val_main_v24_eq _ _ _ _ _).trans ?_)
      rw [a0, a1, a2, a3, a6]
      exact funext fun i => (ref_v _ _ _ _ _ i).trans (congrArg (fun j : S512x128.Idx => newV (arr m c main_arg6 j) (sumOf m c (i 0) (i 1))) (ix_held i))

end Reference

end Cert.Proof.FPoolOut

end
-- ==== Proof.FRnnOut.lean ====
/-
  `FRnnOut`: the last sum of a weight's partial gradients (the device's own block of its partial gradient, the block one exchange
  brought and the two the other brought) and the step of the optimiser on the device's shard of that weight.  The kernel reads
  its own block through a window whose block index is the device's number, held in a table; the reference chooses it out of the
  eight blocks.  Both are, at every index, the same sum and the same step.
-/
module

public import proofs.«01_k».proof.Defs
public import proofs.«01_k».proof.Proof.Step
public import proofs.«01_k».proof.Proof.Gen.Pre_place_w_rnn_out
public import proofs.«01_k».proof.Proof.Gen.FRnnOut
public import proofs.«01_k».proof.Proof.Gen.FRnnOut.Frame
public import proofs.«01_k».proof.Proof.Gen.FRnnOutIdeal
public import proofs.«01_k».proof.Proof.Gen.FRnnOutIdeal.Frame
public import proofs.«01_k».proof.Proof.Gen.FRnnOutRefIdeal
public import proofs.«01_k».proof.Proof.Gen.FRnnOutRefIdeal.Run
public import proofs.«01_k».proof.Proof.Gen.FRnnOutRefIdeal.Read
public import Idealize.ShloMosaic.Lib.Pointwise
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.FRnnOut

open Idealize.ShloMosaic Idealize.ShloMosaic.TcCoe Idealize.SL.Sem
open Cert.FRnnOutIdeal Cert.FRnnOutIdeal.Gen
open Cert.Proof.Step
open Idealize.ShloMosaic.Pipeline (Dat Cfg Window)

/-- The precondition bounds the device's index. -/
theorem word_of_pre {F : FTy → Type} [FloatOps F] [Cert.Pre_place_w_rnn_out.Facts] (x0 : IVec S1 32) (x1 : FVec F S1024x1024 .bf16)
    (x2 : FVec F S128x1024 .bf16) (x3 : FVec F S2x128x1024 .bf16) (x4 x5 x6 : FVec F S128x1024 .f32)
    (h : Cert.Pre_place_w_rnn_out.fn x0 x1 x2 x3 x4 x5 x6 = fun _ => 1#1) : (x0 (ix1 (0 : Fin 1))).toNat < 8 := by
  have e (i : S1.Idx) : x0 i = x0 (ix1 (0 : Fin 1)) := congrArg x0 (one_idx i)
  refine word_lt _ ?_
  have := congrFun h (fun a => a.elim0)
  simp only [Cert.Pre_place_w_rnn_out.fn, constantI, cmpi, andi, shapeCast, e] at this
  exact this

/-- The block the device's index names, by its number. -/
theorem ix_table {F : FTy → Type} [FloatOps F] (pf : pre0.Contents (Elt F)) (h : (pf 0 (ix1 (0 : Fin 1)) : BitVec 32).toNat < 8) (i : grid0.Coords) :
    cc0_transform_0 Facts₀.inb_S1_S1_0 Facts₀.numel1_S1 pf i = ![(pf 0 (ix1 (0 : Fin 1)) : BitVec 32).toNat * 1 + (i 0).val, 0] := by
  unfold cc0_transform_0
  refine congrArg (fun n : Nat => (![n, 0] : Fin 2 → Nat)) ?_
  have l : (i 0).val < 1 := (i 0).isLt
  refine Eq.trans (congrArg (fun z : BitVec 32 => (z * 1#32 + BitVec.ofNat 32 (i 0).val).toNat) ?_) (word_at (pf 0 (ix1 (0 : Fin 1)) : BitVec 32) h 1 (i 0).val (by omega) (by omega))
  exact congrArg (pf 0) (one_idx _)

/-- The pipeline at an index below eight. -/
theorem ok_of_word {F : FTy → Type} [FloatOps F] (pf : pre0.Contents (Elt F)) (h : (pf 0 (ix1 (0 : Fin 1)) : BitVec 32).toNat < 8) : ok0 pf := by
  intro i
  refine ⟨fun a => ?_, .inr (Affine.block_words_dvd (of_decide_eq_true rfl) (by decide))⟩
  rw [ix_table pf h]
  have l : (i 0).val < 1 := (i 0).isLt
  match a with
  | ⟨0, _⟩ => show ((pf 0 (ix1 (0 : Fin 1)) : BitVec 32).toNat * 1 + (i 0).val + 1) * 128 ≤ 1024; omega
  | ⟨1, _⟩ => show (0 + 1) * 1024 ≤ 1024; omega

variable [hPre : Cert.Pre_place_w_rnn_out.Facts]

/-- The precondition gives the pipeline's side condition, for the kernel itself. -/
theorem ok_P (m : (ℓ : Loc nD τ sig) → Buf (Elt Bits) ℓ) (h : Cert.Pre_FRnnOut m) : Cert.FRnnOut.Gen.Ok m :=
  ok_of_word (F := Bits) (fun j => m (((0 : Dev nD) : Thread nD τ).loc (pre0.ref j))) (word_of_pre _ _ _ _ _ _ _ (h 0))

/-- The precondition gives the pipeline's side condition. -/
theorem ok_PI (m : (ℓ : Loc nD τ sig) → Buf (Elt Ideal) ℓ) (h : Cert.Pre_FRnnOutIdeal m) : Ok m :=
  ok_of_word _ (word_of_pre _ _ _ _ _ _ _ (h 0))

/-- The kernel's frame. -/
theorem frame_P : Cert.quiescent_FRnnOut := fun m ρ h => Cert.FRnnOut.Gen.frame (F := Bits) m ρ (ok_P m h)

/-- The ideal kernel's frame. -/
theorem frame_PI : Cert.quiescent_FRnnOutIdeal := fun m ρ h => Cert.FRnnOutIdeal.Gen.frame (F := Ideal) m ρ (ok_PI m h)

/-- The reference's frame. -/
theorem frame_RI : Cert.quiescent_FRnnOutRefIdeal := fun m ρ _ =>
  (θ_run Cert.FRnnOutRefIdeal.defs _ _).mono (fun r h => ⟨fun c => (h c).2.2.2.2,
      Idealize.ShloMosaic.sem_eq_zero_of_no_sems (by decide) r.2⟩)
    (Cert.FRnnOutRefIdeal.Value.run (F := Ideal) m ρ)

/-- The reference's frame under the claim's precondition. -/
theorem frame_RI_pre : Cert.quiescent_FRnnOutRefIdeal_pre_place_w_rnn_out := fun m ρ _ => frame_RI m ρ trivial

section Value

variable (m : (ℓ : Loc nD τ sig) → Buf (Elt Ideal) ℓ) (hO : Ok m)

/-- A buffer of a device in a memory. -/
abbrev arr (m : (ℓ : Loc nD τ sig) → Buf (Elt Ideal) ℓ) (c : Dev nD) (b : Ref sig .tc) := m ((c : Thread nD τ).loc b)

/-- The device's index, as a number. -/
abbrev word : Nat := (arr m 0 main_arg0 (ix1 (0 : Fin 1)) : BitVec 32).toNat

/-- The reduced gradient at a row and a column. -/
def sum (x0 : IVec S1 32) (x1 : FVec Ideal S1024x1024 .bf16) (x2 : FVec Ideal S128x1024 .bf16) (x3 : FVec Ideal S2x128x1024 .bf16)
    (p : Fin 128) (q : Fin 1024) : EReal :=
  total (pick (x0 (ix1 (0 : Fin 1))) fun k => x1 (ix2 ⟨k.val * 128 + p.val, by omega⟩ q)) (x2 (ix2 p q))
    (x3 (ix3 (0 : Fin 2) p q)) (x3 (ix3 (1 : Fin 2) p q))

/-- The reduced gradient of a run's arguments. -/
def sumOf (c : Dev nD) (p : Fin 128) (q : Fin 1024) : EReal :=
  sum (arr m c main_arg0) (arr m c main_arg1) (arr m c main_arg2) (arr m c main_arg3) p q

/-- The grid has 1 points. -/
theorem point_lt (t : Fin (cfgM m hO).N) : t.val < 1 := lt_of_lt_of_eq t.isLt (by decide +kernel : grid0.N = 1)

/-- A row of a point's block, in the whole array. -/
def row (t : Fin (cfgM m hO).N) (p : Fin 128) : Fin 128 := ⟨t.val * 128 + p.val, by have := point_lt m hO t; omega⟩

/-- The block a point takes of the arrays that are divided by rows. -/
theorem idx_row (t : Fin (cfgM m hO).N) : cc0_transform_1 (grid0.coords t) = ![t.val, 0] :=
  (by decide +kernel : ∀ t : Fin grid0.N, cc0_transform_1 (grid0.coords t) = ![t.val, 0]) t

/-- The block a point takes of the scattered partial sums. -/
theorem idx_slab (t : Fin (cfgM m hO).N) : cc0_transform_2 (grid0.coords t) = ![0, t.val, 0] :=
  (by decide +kernel : ∀ t : Fin grid0.N, cc0_transform_2 (grid0.coords t) = ![0, t.val, 0]) t

/-- An index of a block of rows, by its two coordinates, is the index of the array at the block's row. -/
theorem emb_row (t : Fin (cfgM m hO).N) (j : S128x1024.Idx) (x : S128x1024.Idx) (n : Fin 2 → ℕ) (hn : n = ![t.val, 0])
    (h0 : (x 0).val = n 0 * 128 + (j 0).val) (h1 : (x 1).val = n 1 * 1024 + (j 1).val) : x = ix2 (row m hO t (j 0)) (j 1) := by
  subst hn
  refine Shape.idx_ext₂ h0 (h1.trans ?_)
  exact (congrArg (· + (j 1).val) (Nat.zero_mul 1024)).trans (Nat.zero_add _)

section Places

variable (t : Fin (cfgM m hO).N) (j : S128x1024.Idx)

/-- Where an index of each window's block lies in its array. -/
theorem emb1 : (((cfgM m hO).win 1).blk t).view.emb j = ix2 (row m hO t (j 0)) (j 1) :=
  emb_row m hO t j _ _ (idx_row m hO t) (Window.rect_emb_val ((cfgM m hO).win 1) t j (0 : Fin 2)) (Window.rect_emb_val ((cfgM m hO).win 1) t j (1 : Fin 2))
/-- The same for window 3. -/
theorem emb3 : (((cfgM m hO).win 3).blk t).view.emb j = ix2 (row m hO t (j 0)) (j 1) :=
  emb_row m hO t j _ _ (idx_row m hO t) (Window.rect_emb_val ((cfgM m hO).win 3) t j (0 : Fin 2)) (Window.rect_emb_val ((cfgM m hO).win 3) t j (1 : Fin 2))
/-- The same for window 4. -/
theorem emb4 : (((cfgM m hO).win 4).blk t).view.emb j = ix2 (row m hO t (j 0)) (j 1) :=
  emb_row m hO t j _ _ (idx_row m hO t) (Window.rect_emb_val ((cfgM m hO).win 4) t j (0 : Fin 2)) (Window.rect_emb_val ((cfgM m hO).win 4) t j (1 : Fin 2))
/-- The same for window 5. -/
theorem emb5 : (((cfgM m hO).win 5).blk t).view.emb j = ix2 (row m hO t (j 0)) (j 1) :=
  emb_row m hO t j _ _ (idx_row m hO t) (Window.rect_emb_val ((cfgM m hO).win 5) t j (0 : Fin 2)) (Window.rect_emb_val ((cfgM m hO).win 5) t j (1 : Fin 2))
/-- The same for window 6. -/
theorem emb6 : (((cfgM m hO).win 6).blk t).view.emb j = ix2 (row m hO t (j 0)) (j 1) :=
  emb_row m hO t j _ _ (idx_row m hO t) (Window.rect_emb_val ((cfgM m hO).win 6) t j (0 : Fin 2)) (Window.rect_emb_val ((cfgM m hO).win 6) t j (1 : Fin 2))
/-- The same for window 7. -/
theorem emb7 : (((cfgM m hO).win 7).blk t).view.emb j = ix2 (row m hO t (j 0)) (j 1) :=
  emb_row m hO t j _ _ (idx_row m hO t) (Window.rect_emb_val ((cfgM m hO).win 7) t j (0 : Fin 2)) (Window.rect_emb_val ((cfgM m hO).win 7) t j (1 : Fin 2))
/-- The same for window 8. -/
theorem emb8 : (((cfgM m hO).win 8).blk t).view.emb j = ix2 (row m hO t (j 0)) (j 1) :=
  emb_row m hO t j _ _ (idx_row m hO t) (Window.rect_emb_val ((cfgM m hO).win 8) t j (0 : Fin 2)) (Window.rect_emb_val ((cfgM m hO).win 8) t j (1 : Fin 2))
/-- The same for window 9. -/
theorem emb9 : (((cfgM m hO).win 9).blk t).view.emb j = ix2 (row m hO t (j 0)) (j 1) :=
  emb_row m hO t j _ _ (idx_row m hO t) (Window.rect_emb_val ((cfgM m hO).win 9) t j (0 : Fin 2)) (Window.rect_emb_val ((cfgM m hO).win 9) t j (1 : Fin 2))

end Places

/-- The own block at a point. -/
theorem block0 (h : word m < 8) (c : Dev nD) (t : Fin (cfgM m hO).N) (j : S128x1024.Idx) :
    (iblk m hO c 0 t : Vec Ideal S128x1024 .bf16) j
      = pick (arr m c main_arg0 (ix1 (0 : Fin 1))) fun k => arr m c main_arg1 (ix2 ⟨k.val * 128 + (row m hO t (j 0)).val, by have := k.isLt; have := (row m hO t (j 0)).isLt; omega⟩ (j 1)) := by
  obtain rfl : c = 0 := Subsingleton.elim _ _
  rw [pick_eq _ h]
  have hc : (grid0.coords t 0).val = t.val := (by decide +kernel : ∀ t : Fin grid0.N, (grid0.coords t 0).val = t.val) t
  have ht := point_lt m hO t
  have l0 : (j 0).val < 128 := (j 0).isLt
  have l1 : (j 1).val < 1024 := (j 1).isLt
  have hi : ((cfgM m hO).win 0).index t = _ := ix_table (tbl m) h (grid0.coords t)
  refine (congrArg (V m 0 (Pipeline.arrRef spec0 0)) (?_ : (((cfgM m hO).win 0).blk t).view.emb j = _)).trans (congrFun (V_main_arg1 m 0) _)
  refine Shape.idx_ext₂ ?_ ?_
  · refine (Window.rect_emb_val ((cfgM m hO).win 0) t j (0 : Fin 2)).trans ?_
    rw [hi]
    show (word m * 1 + (grid0.coords t 0).val) * 128 + (j 0).val = word m * 128 + (t.val * 128 + (j 0).val)
    rw [hc]
    omega
  · refine (Window.rect_emb_val ((cfgM m hO).win 0) t j (1 : Fin 2)).trans ?_
    rw [hi]
    exact (congrArg (· + (j 1).val) (Nat.zero_mul 1024)).trans (Nat.zero_add _)

/-- The neighbour's partial sum at a point. -/
theorem block1 (c : Dev nD) (t : Fin (cfgM m hO).N) (j : S128x1024.Idx) :
    (iblk m hO c 1 t : Vec Ideal S128x1024 .bf16) j = arr m c main_arg2 (ix2 (row m hO t (j 0)) (j 1)) :=
  (congrArg (V m c (Pipeline.arrRef spec0 1)) (emb1 m hO t j)).trans (congrFun (V_main_arg2 m c) _)

/-- The scattered partial sums at a point. -/
theorem block2 (c : Dev nD) (t : Fin (cfgM m hO).N) (k : Fin 2) (p : Fin 128) (q : Fin 1024) :
    (iblk m hO c 2 t : Vec Ideal S2x128x1024 .bf16) (ix3 k p q) = arr m c main_arg3 (ix3 k (row m hO t p) q) := by
  have hi : ((cfgM m hO).win 2).index t = _ := idx_slab m hO t
  refine (congrArg (V m c (Pipeline.arrRef spec0 2)) (?_ : (((cfgM m hO).win 2).blk t).view.emb (ix3 k p q) = _)).trans (congrFun (V_main_arg3 m c) _)
  refine idx_ext₃ ?_ ?_ ?_
  · refine (Window.rect_emb_val ((cfgM m hO).win 2) t (ix3 k p q) (0 : Fin 3)).trans ?_
    rw [hi]
    exact (congrArg (· + k.val) (Nat.zero_mul 2)).trans (Nat.zero_add _)
  · refine (Window.rect_emb_val ((cfgM m hO).win 2) t (ix3 k p q) (1 : Fin 3)).trans ?_
    rw [hi]
    rfl
  · refine (Window.rect_emb_val ((cfgM m hO).win 2) t (ix3 k p q) (2 : Fin 3)).trans ?_
    rw [hi]
    exact (congrArg (· + q.val) (Nat.zero_mul 1024)).trans (Nat.zero_add _)

/-- Where an entry of the weight's shard is held. -/
def held (p : Fin 128) (q : Fin 1024) : S128x1024.Idx := ix2 p q

/-- An index is the one its coordinates are held at. -/
theorem ix_held (i : S128x1024.Idx) : i = held (i 0) (i 1) := Shape.idx_ext₂ rfl rfl

/-- The weight at a point. -/
theorem block3 (c : Dev nD) (t : Fin (cfgM m hO).N) (j : S128x1024.Idx) :
    (iblk m hO c 3 t : Vec Ideal S128x1024 .f32) j = arr m c main_arg4 (held (row m hO t (j 0)) (j 1)) :=
  (congrArg (V m c (Pipeline.arrRef spec0 3)) (emb3 m hO t j)).trans (congrFun (V_main_arg4 m c) _)

/-- The first moment at a point. -/
theorem block4 (c : Dev nD) (t : Fin (cfgM m hO).N) (j : S128x1024.Idx) :
    (iblk m hO c 4 t : Vec Ideal S128x1024 .f32) j = arr m c main_arg5 (held (row m hO t (j 0)) (j 1)) :=
  (congrArg (V m c (Pipeline.arrRef spec0 4)) (emb4 m hO t j)).trans (congrFun (V_main_arg5 m c) _)

/-- The second moment at a point. -/
theorem block5 (c : Dev nD) (t : Fin (cfgM m hO).N) (j : S128x1024.Idx) :
    (iblk m hO c 5 t : Vec Ideal S128x1024 .f32) j = arr m c main_arg6 (held (row m hO t (j 0)) (j 1)) :=
  (congrArg (V m c (Pipeline.arrRef spec0 5)) (emb5 m hO t j)).trans (congrFun (V_main_arg6 m c) _)

section Body

variable (c : Dev nD) (i : grid0.Coords) (arg2 : Memref sig .tc .vmem S128x1024 .bf16) (harg2 : arg2.IsWhole)
  (arg3 : Memref sig .tc .vmem S128x1024 .bf16) (harg3 : arg3.IsWhole) (arg4 : Memref sig .tc .vmem S2x128x1024 .bf16) (harg4 : arg4.IsWhole)
  (arg5 : Memref sig .tc .vmem S128x1024 .f32) (harg5 : arg5.IsWhole) (arg6 : Memref sig .tc .vmem S128x1024 .f32) (harg6 : arg6.IsWhole)
  (arg7 : Memref sig .tc .vmem S128x1024 .f32) (harg7 : arg7.IsWhole) (arg8 : Memref sig .tc .vmem S128x1024 .f32) (harg8 : arg8.IsWhole)
  (arg9 : Memref sig .tc .vmem S128x1024 .f32) (harg9 : arg9.IsWhole) (arg10 : Memref sig .tc .vmem S128x1024 .f32) (harg10 : arg10.IsWhole)
  (arg11 : Memref sig .tc .vmem S128x1024 .f32) (harg11 : arg11.IsWhole)
  (x0 x1 : Vec Ideal S128x1024 .bf16) (x2 : Vec Ideal S2x128x1024 .bf16) (x3 x4 x5 : Vec Ideal S128x1024 .f32) (xt0 : TbBuf0 (F := Ideal) c tbM0_0)
  (y : S128x1024.Idx)

/-- The body's stores begin at the block's first entry. -/
theorem zero_off : (![0, 0] : Fin S128x1024.rank → Nat) = fun _ => 0 := funext fun a => by fin_cases a <;> rfl

/-- The body's sum of the partial gradients at an index. -/
theorem pay2_apply (v0 v2 : Vec Ideal S128x1024 .bf16) (v5 v9 : Vec Ideal S1x128x1024 .bf16) :
    k0_pay2 (F := Ideal) v0 v2 v5 v9 y = total (v0 y) (v2 y) (v5 (ix3 (0 : Fin 1) (y 0) (y 1))) (v9 (ix3 (0 : Fin 1) (y 0) (y 1))) := by
  show (v0 y : EReal) + v2 y + shapeCast S128x1024 v5 shapeCasts_S1x128x1024_S128x1024 y + shapeCast S128x1024 v9 shapeCasts_S1x128x1024_S128x1024 y = _
  rw [slab_cast, slab_cast]
  rfl

/-- The sum of the partial gradients in a point's blocks. -/
def sumAt : EReal := total (x0 y) (x1 y) (x2 (ix3 (0 : Fin 2) (y 0) (y 1))) (x2 (ix3 (1 : Fin 2) (y 0) (y 1)))

/-- A whole block as the body loads it. -/
abbrev loaded {e : EltTy} (arg : Memref sig .tc .vmem S128x1024 e) (h : arg.IsWhole) (x : Vec Ideal S128x1024 e) : Vec Ideal S128x1024 e :=
  View.readAt (Elt Ideal) arg.view (Rect.unit (s := S128x1024) ![0, 0] S128x1024.size inb_S128x1024_S128x1024_0_0).toLoadRect (h.unread x)

/-- The body's sum of the partial gradients as it loads them. -/
abbrev summed : Vec Ideal S128x1024 .f32 :=
  k0_pay2 (F := Ideal) (loaded arg2 harg2 x0) (loaded arg3 harg3 x1)
    (View.readAt (Elt Ideal) arg4.view (Rect.unit (s := S2x128x1024) ![0, 0, 0] S1x128x1024.size inb_S2x128x1024_S1x128x1024_0_0_0).toLoadRect (harg4.unread x2))
    (View.readAt (Elt Ideal) arg4.view (Rect.unit (s := S2x128x1024) ![1, 0, 0] S1x128x1024.size inb_S2x128x1024_S1x128x1024_1_0_0).toLoadRect (harg4.unread x2))

/-- That sum at an index. -/
theorem summed_apply : summed arg2 harg2 arg3 harg3 arg4 harg4 x0 x1 x2 y = sumAt x0 x1 x2 y := by
  refine (pay2_apply y _ _ _ _).trans ?_
  exact total_congr (congrFun (load_whole arg2 harg2 _ x0) y) (congrFun (load_whole arg3 harg3 _ x1) y) (load_slab arg4 harg4 0 _ x2 (y 0) (y 1)) (load_slab arg4 harg4 1 _ x2 (y 0) (y 1))

/-- A block of the weight or of a moment as the body uses it. -/
abbrev used (arg : Memref sig .tc .vmem S128x1024 .f32) (h : arg.IsWhole) (x : Vec Ideal S128x1024 .f32) : Vec Ideal S128x1024 .f32 := loaded arg h x

/-- That block at an index. -/
theorem used_apply (arg : Memref sig .tc .vmem S128x1024 .f32) (h : arg.IsWhole) (x : Vec Ideal S128x1024 .f32) : used arg h x y = x y :=
  congrFun (load_whole arg h _ x) y

/-- The first output's block: the sum. -/
theorem out6_apply : out0_A_6 (F := Ideal) c i arg2 harg2 arg3 harg3 arg4 harg4 arg5 harg5 arg6 harg6 arg7 harg7 arg8 harg8 arg9 harg9 arg10 harg10 arg11 harg11 x0 x1 x2 x3 x4 x5 xt0 y
    = sumAt x0 x1 x2 y := by
  unfold out0_A_6
  rw [View.read_writes_eq_canon _ _ _ (fun y => cover0_A_6 ..)]
  unfold kernelRun0_A
  dsimp only
  exact (congrFun (View.canon_unit_zero zero_off _ _) y).trans (summed_apply ..)

/-- The second output's block: the change of the weight. -/
theorem out7_apply : out0_A_7 (F := Ideal) c i arg2 harg2 arg3 harg3 arg4 harg4 arg5 harg5 arg6 harg6 arg7 harg7 arg8 harg8 arg9 harg9 arg10 harg10 arg11 harg11 x0 x1 x2 x3 x4 x5 xt0 y
    = delta (x3 y) (x4 y) (x5 y) (sumAt x0 x1 x2 y) := by
  unfold out0_A_7
  rw [View.read_writes_eq_canon _ _ _ (fun y => cover0_A_7 ..)]
  unfold kernelRun0_A
  dsimp only
  refine (congrFun (View.canon_unit_zero zero_off _ _) y).trans ?_
  refine Eq.trans ?_ (delta_congr (used_apply y arg5 harg5 x3) (used_apply y arg6 harg6 x4) (used_apply y arg7 harg7 x5) (summed_apply arg2 harg2 arg3 harg3 arg4 harg4 x0 x1 x2 y))
  rfl

/-- The third output's block: the first moment after the step. -/
theorem out8_apply : out0_A_8 (F := Ideal) c i arg2 harg2 arg3 harg3 arg4 harg4 arg5 harg5 arg6 harg6 arg7 harg7 arg8 harg8 arg9 harg9 arg10 harg10 arg11 harg11 x0 x1 x2 x3 x4 x5 xt0 y
    = newM (x4 y) (sumAt x0 x1 x2 y) := by
  unfold out0_A_8
  rw [View.read_writes_eq_canon _ _ _ (fun y => cover0_A_8 ..)]
  unfold kernelRun0_A
  dsimp only
  refine (congrFun (View.canon_unit_zero zero_off _ _) y).trans ?_
  refine Eq.trans ?_ (congrArg₂ newM (used_apply y arg6 harg6 x4) (summed_apply arg2 harg2 arg3 harg3 arg4 harg4 x0 x1 x2 y))
  rfl

/-- The fourth output's block: the second moment after the step. -/
theorem out9_apply : out0_A_9 (F := Ideal) c i arg2 harg2 arg3 harg3 arg4 harg4 arg5 harg5 arg6 harg6 arg7 harg7 arg8 harg8 arg9 harg9 arg10 harg10 arg11 harg11 x0 x1 x2 x3 x4 x5 xt0 y
    = newV (x5 y) (sumAt x0 x1 x2 y) := by
  unfold out0_A_9
  rw [View.read_writes_eq_canon _ _ _ (fun y => cover0_A_9 ..)]
  unfold kernelRun0_A
  dsimp only
  refine (congrFun (View.canon_unit_zero zero_off _ _) y).trans ?_
  refine Eq.trans ?_ (congrArg₂ newV (used_apply y arg7 harg7 x5) (summed_apply arg2 harg2 arg3 harg3 arg4 harg4 x0 x1 x2 y))
  rfl

end Body

/-- The sum in a point's blocks is the reduced gradient at the block's rows. -/
theorem sum_at (h : word m < 8) (c : Dev nD) (t : Fin (cfgM m hO).N) (j : S128x1024.Idx) :
    sumAt (iblk m hO c 0 t) (iblk m hO c 1 t) (iblk m hO c 2 t) j = sumOf m c (row m hO t (j 0)) (j 1) := by
  unfold sumAt sumOf sum
  exact total_congr (block0 m hO h c t j) (block1 m hO c t j) (block2 m hO c t 0 (j 0) (j 1)) (block2 m hO c t 1 (j 0) (j 1))

/-- The point whose block holds an index. -/
def pt (i : S128x1024.Idx) : Fin (cfgM m hO).N :=
  ⟨(i 0).val / 128, lt_of_lt_of_eq (by have : (i 0).val < 128 := (i 0).isLt; omega : (i 0).val / 128 < 1) (by decide +kernel : 1 = grid0.N)⟩

/-- The index within that block. -/
def inner (i : S128x1024.Idx) : S128x1024.Idx := ix2 (⟨(i 0).val % 128, Nat.mod_lt _ (by decide)⟩ : Fin 128) (i 1)

/-- The index found again from its point and the index within. -/
theorem pt_inner (i : S128x1024.Idx) : (ix2 (row m hO (pt m hO i) (inner i 0)) (inner i 1) : S128x1024.Idx) = i :=
  Shape.idx_ext₂ (by show (i 0).val / 128 * 128 + (i 0).val % 128 = (i 0).val; omega) rfl

/-- Every index of each output is in some point's block. -/
theorem cover6 (i : S128x1024.Idx) : ∃ t : Fin (cfgM m hO).N, ((cfgM m hO).win 6).flush t = true ∧ i ∈ (((cfgM m hO).win 6).blk t).view.set :=
  ⟨pt m hO i, flush0_6 (adm m hO) _, (congrArg (· ∈ (((cfgM m hO).win 6).blk (pt m hO i)).view.set) ((emb6 m hO _ (inner i)).trans (pt_inner m hO i))).mp (View.emb_mem_set _ _)⟩
/-- The same for window 7. -/
theorem cover7 (i : S128x1024.Idx) : ∃ t : Fin (cfgM m hO).N, ((cfgM m hO).win 7).flush t = true ∧ i ∈ (((cfgM m hO).win 7).blk t).view.set :=
  ⟨pt m hO i, flush0_7 (adm m hO) _, (congrArg (· ∈ (((cfgM m hO).win 7).blk (pt m hO i)).view.set) ((emb7 m hO _ (inner i)).trans (pt_inner m hO i))).mp (View.emb_mem_set _ _)⟩
/-- The same for window 8. -/
theorem cover8 (i : S128x1024.Idx) : ∃ t : Fin (cfgM m hO).N, ((cfgM m hO).win 8).flush t = true ∧ i ∈ (((cfgM m hO).win 8).blk t).view.set :=
  ⟨pt m hO i, flush0_8 (adm m hO) _, (congrArg (· ∈ (((cfgM m hO).win 8).blk (pt m hO i)).view.set) ((emb8 m hO _ (inner i)).trans (pt_inner m hO i))).mp (View.emb_mem_set _ _)⟩
/-- The same for window 9. -/
theorem cover9 (i : S128x1024.Idx) : ∃ t : Fin (cfgM m hO).N, ((cfgM m hO).win 9).flush t = true ∧ i ∈ (((cfgM m hO).win 9).blk t).view.set :=
  ⟨pt m hO i, flush0_9 (adm m hO) _, (congrArg (· ∈ (((cfgM m hO).win 9).blk (pt m hO i)).view.set) ((emb9 m hO _ (inner i)).trans (pt_inner m hO i))).mp (View.emb_mem_set _ _)⟩

variable (h : word m < 8)

/-- The change of the weight of a run's arguments. -/
def deltaOf (c : Dev nD) (p : Fin 128) (q : Fin 1024) : EReal :=
  delta (arr m c main_arg4 (held p q)) (arr m c main_arg5 (held p q)) (arr m c main_arg6 (held p q)) (sumOf m c p q)

include h in
/-- The reduced gradient after the run. -/
theorem final6 (c : Dev nD) : (dats m hO 0 c).arrAt 6 (cfgM m hO).N = (fun i => sumOf m c (i 0) (i 1) : Vec Ideal S128x1024 .f32) := by
  refine (dats m hO 0 c).arrAt_eq_of_cover 6 _ (fun t _ => ?_) (cover6 m hO)
  show ((cfgM m hO).win 6).cut (grid0.coords t) ((dats m hO 0 c).after 6 t) = _
  rw [after0_6]
  unfold outsAt0
  dsimp only
  funext j
  refine (out6_apply ..).trans ((sum_at m hO h c t j).trans ?_)
  exact (congrArg (fun i : S128x1024.Idx => sumOf m c (i 0) (i 1)) (emb6 m hO t j)).symm

include h in
/-- The change of the weight after the run. -/
theorem final7 (c : Dev nD) : (dats m hO 0 c).arrAt 7 (cfgM m hO).N = (fun i => deltaOf m c (i 0) (i 1) : Vec Ideal S128x1024 .f32) := by
  refine (dats m hO 0 c).arrAt_eq_of_cover 7 _ (fun t _ => ?_) (cover7 m hO)
  show ((cfgM m hO).win 7).cut (grid0.coords t) ((dats m hO 0 c).after 7 t) = _
  rw [after0_7]
  unfold outsAt0
  dsimp only
  funext j
  refine (out7_apply ..).trans (Eq.trans ?_ (congrArg (fun i : S128x1024.Idx => deltaOf m c (i 0) (i 1)) (emb7 m hO t j)).symm)
  exact delta_congr (block3 m hO c t j) (block4 m hO c t j) (block5 m hO c t j) (sum_at m hO h c t j)

include h in
/-- The first moment after the run. -/
theorem final8 (c : Dev nD) : (dats m hO 0 c).arrAt 8 (cfgM m hO).N
    = (fun i => newM (arr m c main_arg5 (held (i 0) (i 1))) (sumOf m c (i 0) (i 1)) : Vec Ideal S128x1024 .f32) := by
  refine (dats m hO 0 c).arrAt_eq_of_cover 8 _ (fun t _ => ?_) (cover8 m hO)
  show ((cfgM m hO).win 8).cut (grid0.coords t) ((dats m hO 0 c).after 8 t) = _
  rw [after0_8]
  unfold outsAt0
  dsimp only
  funext j
  refine (out8_apply ..).trans (Eq.trans ?_ (congrArg (fun i : S128x1024.Idx => newM (arr m c main_arg5 (held (i 0) (i 1))) (sumOf m c (i 0) (i 1))) (emb8 m hO t j)).symm)
  exact congrArg₂ newM (block4 m hO c t j) (sum_at m hO h c t j)

include h in
/-- The second moment after the run. -/
theorem final9 (c : Dev nD) : (dats m hO 0 c).arrAt 9 (cfgM m hO).N
    = (fun i => newV (arr m c main_arg6 (held (i 0) (i 1))) (sumOf m c (i 0) (i 1)) : Vec Ideal S128x1024 .f32) := by
  refine (dats m hO 0 c).arrAt_eq_of_cover 9 _ (fun t _ => ?_) (cover9 m hO)
  show ((cfgM m hO).win 9).cut (grid0.coords t) ((dats m hO 0 c).after 9 t) = _
  rw [after0_9]
  unfold outsAt0
  dsimp only
  funext j
  refine (out9_apply ..).trans (Eq.trans ?_ (congrArg (fun i : S128x1024.Idx => newV (arr m c main_arg6 (held (i 0) (i 1))) (sumOf m c (i 0) (i 1))) (emb9 m hO t j)).symm)
  exact congrArg₂ newV (block5 m hO c t j) (sum_at m hO h c t j)

/-- The arguments after the run. -/
theorem unchanged (r : PUnit × MemSt nD τ sig (Elt Ideal))
    (hr : Pipeline.FramePost (Pipeline.pin pcfgs fun _ => adm m hO) (dats m hO) 0 (V m) r) (c : Dev nD) :
    arr r.2.mem c main_arg0 = arr m c main_arg0
      ∧ arr r.2.mem c main_arg1 = arr m c main_arg1
      ∧ arr r.2.mem c main_arg2 = arr m c main_arg2
      ∧ arr r.2.mem c main_arg3 = arr m c main_arg3
      ∧ arr r.2.mem c main_arg4 = arr m c main_arg4
      ∧ arr r.2.mem c main_arg5 = arr m c main_arg5
      ∧ arr r.2.mem c main_arg6 = arr m c main_arg6 :=
  ⟨((hr c).2 main_arg0 (by decide : main_arg0 ∈ Pipeline.restRefs sig spec0)).trans (V_main_arg0 m c),
    ((hr c).1 0).trans (((dats m hO 0 c).arrAt_in 0 rfl _).trans ((A_eq m hO c 0).trans (V_main_arg1 m c))),
    ((hr c).1 1).trans (((dats m hO 0 c).arrAt_in 1 rfl _).trans ((A_eq m hO c 1).trans (V_main_arg2 m c))),
    ((hr c).1 2).trans (((dats m hO 0 c).arrAt_in 2 rfl _).trans ((A_eq m hO c 2).trans (V_main_arg3 m c))),
    ((hr c).1 3).trans (((dats m hO 0 c).arrAt_in 3 rfl _).trans ((A_eq m hO c 3).trans (V_main_arg4 m c))),
    ((hr c).1 4).trans (((dats m hO 0 c).arrAt_in 4 rfl _).trans ((A_eq m hO c 4).trans (V_main_arg5 m c))),
    ((hr c).1 5).trans (((dats m hO 0 c).arrAt_in 5 rfl _).trans ((A_eq m hO c 5).trans (V_main_arg6 m c)))⟩

end Value

section Reference

open Cert.FRnnOutRefIdeal.Read

variable (x0 : IVec S1 32) (x1 : FVec Ideal S1024x1024 .bf16) (x2 : FVec Ideal S128x1024 .bf16) (x3 : FVec Ideal S2x128x1024 .bf16) (x4 x5 x6 : FVec Ideal S128x1024 .f32)

/-- The reference's choice of the device's own block, one block of the eight. -/
theorem ref_own (k : Fin 8) (i : S128x1024.Idx) : val_main_v7 (F := Ideal) x0 x1 (idx_main_v8 i k)
    = if BitVec.ofNat 32 k.val = x0 (ix1 (0 : Fin 1)) then x1 (ix2 ⟨k.val * 128 + (i 0).val, by have := k.isLt; have : (i 0).val < 128 := (i 0).isLt; omega⟩ (i 1)) else 0 := by
  rw [val_main_v7_apply, val_main_call0_v1_apply, val_main_v6_apply, val_main_v5_apply, val_main_v3_apply, val_main_v1_apply, val_main_v0_apply,
    val_main_call0_v2_apply]
  refine (select_eq _ _ _ _).trans ?_
  have l0 : (i 0).val < 128 := (i 0).isLt
  have l1 : (i 1).val < 1024 := (i 1).isLt
  have l2 := k.isLt
  refine pick_term (congrArg (BitVec.ofNat 32) ?_) (congrArg x0 (one_idx _)) (congrArg x1 (Shape.idx_ext₂ ?_ ?_)) bits_zero
  · show (k.val * 1 + 0) * 1 + 0 = k.val; omega
  · show ((k.val * 128 + (i 0).val) * 1024 + (i 1).val) / 1024 = k.val * 128 + (i 0).val; omega
  · show ((k.val * 128 + (i 0).val) * 1024 + (i 1).val) % 1024 = (i 1).val; omega

/-- The reference's reduced gradient. -/
theorem ref_sum (i : S128x1024.Idx) : val_main_v13 (F := Ideal) x0 x1 x2 x3 i = sum x0 x1 x2 x3 (i 0) (i 1) := by
  rw [val_main_v13_apply, val_main_v10_apply, val_main_v8_apply, val_main_v12_apply, Fin.sum_univ_two]
  simp only [ref_own]
  exact (total_eq bits_zero bits_zero _ _ _ _).trans (total_congr rfl (congrArg x2 (Shape.idx_ext₂ rfl rfl)) (congrArg x3 (idx_ext₃ rfl rfl rfl)) (congrArg x3 (idx_ext₃ rfl rfl rfl)))

/-- The reference's reduced gradient, as the shard is held. -/
theorem ref_grad (i : S128x1024.Idx) : val_main_v13 (F := Ideal) x0 x1 x2 x3 i = sum x0 x1 x2 x3 (i 0) (i 1) := ref_sum x0 x1 x2 x3 i

/-- The reference's first moment. -/
theorem ref_m (i : S128x1024.Idx) : val_main_v18 (F := Ideal) x0 x1 x2 x3 x5 i = newM (x5 i) (sum x0 x1 x2 x3 (i 0) (i 1)) := by
  rw [val_main_v18_apply, val_main_v17_apply, val_main_v16_apply, val_main_v15_apply, val_main_v14_apply, val_main_cst_2_apply, val_main_cst_3_apply, ref_grad]
  rfl

/-- The reference's second moment. -/
theorem ref_v (i : S128x1024.Idx) : val_main_v24 (F := Ideal) x0 x1 x2 x3 x6 i = newV (x6 i) (sum x0 x1 x2 x3 (i 0) (i 1)) := by
  rw [val_main_v24_apply, val_main_v23_apply, val_main_v22_apply, val_main_v21_apply, val_main_v20_apply, val_main_v19_apply, val_main_cst_4_apply, val_main_cst_5_apply, ref_grad]
  rfl

/-- The reference's change of the weight. -/
theorem ref_d (i : S128x1024.Idx) : val_main_v37 (F := Ideal) x0 x1 x2 x3 x4 x5 x6 i = delta (x4 i) (x5 i) (x6 i) (sum x0 x1 x2 x3 (i 0) (i 1)) := by
  rw [val_main_v37_apply, val_main_v36_apply, val_main_v35_apply, val_main_v34_apply, val_main_v33_apply, val_main_v32_apply, val_main_v31_apply, val_main_v30_apply, val_main_v29_apply, val_main_v28_apply,
    val_main_v27_apply, val_main_v26_apply, val_main_v25_apply, ref_m, ref_v, val_main_cst_6_apply, val_main_cst_7_apply, val_main_cst_8_apply, val_main_cst_9_apply,
    val_main_cst_10_apply]
  rfl

/-- Kernel and reference agree at every index of the four results. -/
theorem algebraic : Cert.algebraic_FRnnOutIdeal_FRnnOutRefIdeal := by
  intro m g m' g' hpre hargs
  have h : word m < 8 := word_of_pre _ _ _ _ _ _ _ (hpre 0)
  have hO := ok_PI m hpre
  refine ⟨fun c => (fun i => sumOf m c (i 0) (i 1) : Vec Ideal S128x1024 .f32), fun c => (fun i => deltaOf m c (i 0) (i 1) : Vec Ideal S128x1024 .f32),
    fun c => (fun i => newM (arr m c main_arg5 (held (i 0) (i 1))) (sumOf m c (i 0) (i 1)) : Vec Ideal S128x1024 .f32),
    fun c => (fun i => newV (arr m c main_arg6 (held (i 0) (i 1))) (sumOf m c (i 0) (i 1)) : Vec Ideal S128x1024 .f32), ?_, ?_⟩
  · exact (θ_run _ _ _).mono (fun r hr c => ⟨((hr c).1 6).trans (final6 m hO h c), ((hr c).1 7).trans (final7 m hO h c), ((hr c).1 8).trans (final8 m hO h c),
      ((hr c).1 9).trans (final9 m hO h c), unchanged m hO r hr c⟩) (run_main m g hO)
  · refine (θ_run _ _ _).mono (fun r h c => ⟨?_, ?_, ?_, ?_, (h c).2.2.2.2⟩) (Cert.FRnnOutRefIdeal.Value.run (F := Ideal) m' g')
    all_goals obtain ⟨a0, a1, a2, a3, a4, a5, a6⟩ := hargs c
    · refine (h c).1.trans ((val_main_v13_eq _ _ _ _).trans ?_)
      rw [a0, a1, a2, a3]
      exact funext fun i => ref_sum _ _ _ _ i
    · refine (h c).2.1.trans ((val_main_v37_eq _ _ _ _ _ _ _).trans ?_)
      rw [a0, a1, a2, a3, a4, a5, a6]
      exact funext fun i => (ref_d _ _ _ _ _ _ _ i).trans (congrArg (fun j : S128x1024.Idx => delta (arr m c main_arg4 j) (arr m c main_arg5 j) (arr m c main_arg6 j) (sumOf m c (i 0) (i 1))) (ix_held i))
    · refine (h c).2.2.1.trans ((val_main_v18_eq _ _ _ _ _).trans ?_)
      rw [a0, a1, a2, a3, a5]
      exact funext fun i => (ref_m _ _ _ _ _ i).trans (congrArg (fun j : S128x1024.Idx => newM (arr m c main_arg5 j) (sumOf m c (i 0) (i 1))) (ix_held i))
    · refine (h c).2.2.2.1.trans ((val_main_v24_eq _ _ _ _ _).trans ?_)
      rw [a0, a1, a2, a3, a6]
      exact funext fun i => (ref_v _ _ _ _ _ i).trans (congrArg (fun j : S128x1024.Idx => newV (arr m c main_arg6 j) (sumOf m c (i 0) (i 1))) (ix_held i))

end Reference

end Cert.Proof.FRnnOut

end
-- ==== Proof.FO.lean ====
/-
  `FO`: the last sum of the attention output weight's partial gradients and the step of the optimiser on the device's shard of
  that weight.  The weight has the shape of the recurrent branch's output weight, and the two calls are the same program: every
  statement about this one is the statement about that one.
-/
module

public import proofs.«01_k».proof.Defs
public import proofs.«01_k».proof.Proof.FRnnOut
public import proofs.«01_k».proof.Proof.Gen.Pre_place_w_rnn_out
public import proofs.«01_k».proof.Proof.Gen.Pre_place_w_o
public import proofs.«01_k».proof.Proof.Gen.FRnnOut
public import proofs.«01_k».proof.Proof.Gen.FRnnOutIdeal
public import proofs.«01_k».proof.Proof.Gen.FRnnOutRefIdeal
public import proofs.«01_k».proof.Proof.Gen.FO
public import proofs.«01_k».proof.Proof.Gen.FOIdeal
public import proofs.«01_k».proof.Proof.Gen.FORefIdeal

@[expose] public section

set_option maxRecDepth 16384

noncomputable section

namespace Cert.Proof.FO

open Idealize.ShloMosaic Idealize.ShloMosaic.TcCoe Idealize.SL.Sem

variable [hPre : Cert.Pre_place_w_o.Facts]

set_option smartUnfolding false in
/-- The kernel's frame. -/
theorem frame_P : Cert.quiescent_FO := FRnnOut.frame_P (hPre := Cert.Pre_place_w_rnn_out.Gen.facts)

set_option smartUnfolding false in
/-- The ideal kernel's frame. -/
theorem frame_PI : Cert.quiescent_FOIdeal := FRnnOut.frame_PI (hPre := Cert.Pre_place_w_rnn_out.Gen.facts)

/-- The reference's frame. -/
theorem frame_RI : Cert.quiescent_FORefIdeal := FRnnOut.frame_RI

/-- The reference's frame under the claim's precondition. -/
theorem frame_RI_pre : Cert.quiescent_FORefIdeal_pre_place_w_o := FRnnOut.frame_RI_pre (hPre := Cert.Pre_place_w_rnn_out.Gen.facts)

/-- Kernel and reference agree at every index of the four results. -/
theorem algebraic : Cert.algebraic_FOIdeal_FORefIdeal := by
  intro m g m' g' hpre hargs
  obtain ⟨o0, o1, o2, o3, h, h'⟩ := FRnnOut.algebraic (hPre := Cert.Pre_place_w_rnn_out.Gen.facts) m g m' g' hpre hargs
  refine ⟨o0, o1, o2, o3, ?_, h'⟩
  set_option smartUnfolding false in exact h

end Cert.Proof.FO

end
-- ==== Proof.FFfnIn.lean ====
/-
  `FFfnIn`: the last sum of a weight's partial gradients (the device's own block of its partial gradient, the block one exchange
  brought and the two the other brought) and the step of the optimiser on the device's shard of that weight.  The kernel reads
  its own block through a window whose block index is the device's number, held in a table; the reference chooses it out of the
  eight blocks.  Both are, at every index, the same sum and the same step.
-/
module

public import proofs.«01_k».proof.Defs
public import proofs.«01_k».proof.Proof.Step
public import proofs.«01_k».proof.Proof.Gen.Pre_place_w_ffn_in
public import proofs.«01_k».proof.Proof.Gen.FFfnIn
public import proofs.«01_k».proof.Proof.Gen.FFfnIn.Frame
public import proofs.«01_k».proof.Proof.Gen.FFfnInIdeal
public import proofs.«01_k».proof.Proof.Gen.FFfnInIdeal.Frame
public import proofs.«01_k».proof.Proof.Gen.FFfnInRefIdeal
public import proofs.«01_k».proof.Proof.Gen.FFfnInRefIdeal.Run
public import proofs.«01_k».proof.Proof.Gen.FFfnInRefIdeal.Read
public import Idealize.ShloMosaic.Lib.Pointwise
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.FFfnIn

open Idealize.ShloMosaic Idealize.ShloMosaic.TcCoe Idealize.SL.Sem
open Cert.FFfnInIdeal Cert.FFfnInIdeal.Gen
open Cert.Proof.Step
open Idealize.ShloMosaic.Pipeline (Dat Cfg Window)

/-- The precondition bounds the device's index. -/
theorem word_of_pre {F : FTy → Type} [FloatOps F] [Cert.Pre_place_w_ffn_in.Facts] (x0 : IVec S1 32) (x1 : FVec F S5632x1024 .bf16)
    (x2 : FVec F S704x1024 .bf16) (x3 : FVec F S2x704x1024 .bf16) (x4 x5 x6 : FVec F S1024x704 .f32)
    (h : Cert.Pre_place_w_ffn_in.fn x0 x1 x2 x3 x4 x5 x6 = fun _ => 1#1) : (x0 (ix1 (0 : Fin 1))).toNat < 8 := by
  have e (i : S1.Idx) : x0 i = x0 (ix1 (0 : Fin 1)) := congrArg x0 (one_idx i)
  refine word_lt _ ?_
  have := congrFun h (fun a => a.elim0)
  simp only [Cert.Pre_place_w_ffn_in.fn, constantI, cmpi, andi, shapeCast, e] at this
  exact this

/-- The block the device's index names, by its number. -/
theorem ix_table {F : FTy → Type} [FloatOps F] (pf : pre0.Contents (Elt F)) (h : (pf 0 (ix1 (0 : Fin 1)) : BitVec 32).toNat < 8) (i : grid0.Coords) :
    cc0_transform_0 Facts₀.inb_S1_S1_0 Facts₀.numel1_S1 pf i = ![(pf 0 (ix1 (0 : Fin 1)) : BitVec 32).toNat * 4 + (i 0).val, 0] := by
  unfold cc0_transform_0
  refine congrArg (fun n : Nat => (![n, 0] : Fin 2 → Nat)) ?_
  have l : (i 0).val < 4 := (i 0).isLt
  refine Eq.trans (congrArg (fun z : BitVec 32 => (z * 4#32 + BitVec.ofNat 32 (i 0).val).toNat) ?_) (word_at (pf 0 (ix1 (0 : Fin 1)) : BitVec 32) h 4 (i 0).val (by omega) (by omega))
  exact congrArg (pf 0) (one_idx _)

/-- The pipeline at an index below eight. -/
theorem ok_of_word {F : FTy → Type} [FloatOps F] (pf : pre0.Contents (Elt F)) (h : (pf 0 (ix1 (0 : Fin 1)) : BitVec 32).toNat < 8) : ok0 pf := by
  intro i
  refine ⟨fun a => ?_, .inr (Affine.block_words_dvd (of_decide_eq_true rfl) (by decide))⟩
  rw [ix_table pf h]
  have l : (i 0).val < 4 := (i 0).isLt
  match a with
  | ⟨0, _⟩ => show ((pf 0 (ix1 (0 : Fin 1)) : BitVec 32).toNat * 4 + (i 0).val + 1) * 176 ≤ 5632; omega
  | ⟨1, _⟩ => show (0 + 1) * 1024 ≤ 1024; omega

variable [hPre : Cert.Pre_place_w_ffn_in.Facts]

/-- The precondition gives the pipeline's side condition, for the kernel itself. -/
theorem ok_P (m : (ℓ : Loc nD τ sig) → Buf (Elt Bits) ℓ) (h : Cert.Pre_FFfnIn m) : Cert.FFfnIn.Gen.Ok m :=
  ok_of_word (F := Bits) (fun j => m (((0 : Dev nD) : Thread nD τ).loc (pre0.ref j))) (word_of_pre _ _ _ _ _ _ _ (h 0))

/-- The precondition gives the pipeline's side condition. -/
theorem ok_PI (m : (ℓ : Loc nD τ sig) → Buf (Elt Ideal) ℓ) (h : Cert.Pre_FFfnInIdeal m) : Ok m :=
  ok_of_word _ (word_of_pre _ _ _ _ _ _ _ (h 0))

/-- The kernel's frame. -/
theorem frame_P : Cert.quiescent_FFfnIn := fun m ρ h => Cert.FFfnIn.Gen.frame (F := Bits) m ρ (ok_P m h)

/-- The ideal kernel's frame. -/
theorem frame_PI : Cert.quiescent_FFfnInIdeal := fun m ρ h => Cert.FFfnInIdeal.Gen.frame (F := Ideal) m ρ (ok_PI m h)

/-- The reference's frame. -/
theorem frame_RI : Cert.quiescent_FFfnInRefIdeal := fun m ρ _ =>
  (θ_run Cert.FFfnInRefIdeal.defs _ _).mono (fun r h => ⟨fun c => (h c).2.2.2.2,
      Idealize.ShloMosaic.sem_eq_zero_of_no_sems (by decide) r.2⟩)
    (Cert.FFfnInRefIdeal.Value.run (F := Ideal) m ρ)

/-- The reference's frame under the claim's precondition. -/
theorem frame_RI_pre : Cert.quiescent_FFfnInRefIdeal_pre_place_w_ffn_in := fun m ρ _ => frame_RI m ρ trivial

section Value

variable (m : (ℓ : Loc nD τ sig) → Buf (Elt Ideal) ℓ) (hO : Ok m)

/-- A buffer of a device in a memory. -/
abbrev arr (m : (ℓ : Loc nD τ sig) → Buf (Elt Ideal) ℓ) (c : Dev nD) (b : Ref sig .tc) := m ((c : Thread nD τ).loc b)

/-- The device's index, as a number. -/
abbrev word : Nat := (arr m 0 main_arg0 (ix1 (0 : Fin 1)) : BitVec 32).toNat

/-- The reduced gradient at a row and a column. -/
def sum (x0 : IVec S1 32) (x1 : FVec Ideal S5632x1024 .bf16) (x2 : FVec Ideal S704x1024 .bf16) (x3 : FVec Ideal S2x704x1024 .bf16)
    (p : Fin 704) (q : Fin 1024) : EReal :=
  total (pick (x0 (ix1 (0 : Fin 1))) fun k => x1 (ix2 ⟨k.val * 704 + p.val, by omega⟩ q)) (x2 (ix2 p q))
    (x3 (ix3 (0 : Fin 2) p q)) (x3 (ix3 (1 : Fin 2) p q))

/-- The reduced gradient of a run's arguments. -/
def sumOf (c : Dev nD) (p : Fin 704) (q : Fin 1024) : EReal :=
  sum (arr m c main_arg0) (arr m c main_arg1) (arr m c main_arg2) (arr m c main_arg3) p q

/-- The grid has 4 points. -/
theorem point_lt (t : Fin (cfgM m hO).N) : t.val < 4 := lt_of_lt_of_eq t.isLt (by decide +kernel : grid0.N = 4)

/-- A row of a point's block, in the whole array. -/
def row (t : Fin (cfgM m hO).N) (p : Fin 176) : Fin 704 := ⟨t.val * 176 + p.val, by have := point_lt m hO t; omega⟩

/-- The block a point takes of the arrays that are divided by rows. -/
theorem idx_row (t : Fin (cfgM m hO).N) : cc0_transform_1 (grid0.coords t) = ![t.val, 0] :=
  (by decide +kernel : ∀ t : Fin grid0.N, cc0_transform_1 (grid0.coords t) = ![t.val, 0]) t

/-- The block a point takes of the scattered partial sums. -/
theorem idx_slab (t : Fin (cfgM m hO).N) : cc0_transform_2 (grid0.coords t) = ![0, t.val, 0] :=
  (by decide +kernel : ∀ t : Fin grid0.N, cc0_transform_2 (grid0.coords t) = ![0, t.val, 0]) t

/-- An index of a block of rows, by its two coordinates, is the index of the array at the block's row. -/
theorem emb_row (t : Fin (cfgM m hO).N) (j : S176x1024.Idx) (x : S704x1024.Idx) (n : Fin 2 → ℕ) (hn : n = ![t.val, 0])
    (h0 : (x 0).val = n 0 * 176 + (j 0).val) (h1 : (x 1).val = n 1 * 1024 + (j 1).val) : x = ix2 (row m hO t (j 0)) (j 1) := by
  subst hn
  refine Shape.idx_ext₂ h0 (h1.trans ?_)
  exact (congrArg (· + (j 1).val) (Nat.zero_mul 1024)).trans (Nat.zero_add _)

section Places

variable (t : Fin (cfgM m hO).N) (j : S176x1024.Idx)

/-- Where an index of each window's block lies in its array. -/
theorem emb1 : (((cfgM m hO).win 1).blk t).view.emb j = ix2 (row m hO t (j 0)) (j 1) :=
  emb_row m hO t j _ _ (idx_row m hO t) (Window.rect_emb_val ((cfgM m hO).win 1) t j (0 : Fin 2)) (Window.rect_emb_val ((cfgM m hO).win 1) t j (1 : Fin 2))
/-- The same for window 3. -/
theorem emb3 : (((cfgM m hO).win 3).blk t).view.emb j = ix2 (row m hO t (j 0)) (j 1) :=
  emb_row m hO t j _ _ (idx_row m hO t) (Window.rect_emb_val ((cfgM m hO).win 3) t j (0 : Fin 2)) (Window.rect_emb_val ((cfgM m hO).win 3) t j (1 : Fin 2))
/-- The same for window 4. -/
theorem emb4 : (((cfgM m hO).win 4).blk t).view.emb j = ix2 (row m hO t (j 0)) (j 1) :=
  emb_row m hO t j _ _ (idx_row m hO t) (Window.rect_emb_val ((cfgM m hO).win 4) t j (0 : Fin 2)) (Window.rect_emb_val ((cfgM m hO).win 4) t j (1 : Fin 2))
/-- The same for window 5. -/
theorem emb5 : (((cfgM m hO).win 5).blk t).view.emb j = ix2 (row m hO t (j 0)) (j 1) :=
  emb_row m hO t j _ _ (idx_row m hO t) (Window.rect_emb_val ((cfgM m hO).win 5) t j (0 : Fin 2)) (Window.rect_emb_val ((cfgM m hO).win 5) t j (1 : Fin 2))
/-- The same for window 6. -/
theorem emb6 : (((cfgM m hO).win 6).blk t).view.emb j = ix2 (row m hO t (j 0)) (j 1) :=
  emb_row m hO t j _ _ (idx_row m hO t) (Window.rect_emb_val ((cfgM m hO).win 6) t j (0 : Fin 2)) (Window.rect_emb_val ((cfgM m hO).win 6) t j (1 : Fin 2))
/-- The same for window 7. -/
theorem emb7 : (((cfgM m hO).win 7).blk t).view.emb j = ix2 (row m hO t (j 0)) (j 1) :=
  emb_row m hO t j _ _ (idx_row m hO t) (Window.rect_emb_val ((cfgM m hO).win 7) t j (0 : Fin 2)) (Window.rect_emb_val ((cfgM m hO).win 7) t j (1 : Fin 2))
/-- The same for window 8. -/
theorem emb8 : (((cfgM m hO).win 8).blk t).view.emb j = ix2 (row m hO t (j 0)) (j 1) :=
  emb_row m hO t j _ _ (idx_row m hO t) (Window.rect_emb_val ((cfgM m hO).win 8) t j (0 : Fin 2)) (Window.rect_emb_val ((cfgM m hO).win 8) t j (1 : Fin 2))
/-- The same for window 9. -/
theorem emb9 : (((cfgM m hO).win 9).blk t).view.emb j = ix2 (row m hO t (j 0)) (j 1) :=
  emb_row m hO t j _ _ (idx_row m hO t) (Window.rect_emb_val ((cfgM m hO).win 9) t j (0 : Fin 2)) (Window.rect_emb_val ((cfgM m hO).win 9) t j (1 : Fin 2))

end Places

/-- The own block at a point. -/
theorem block0 (h : word m < 8) (c : Dev nD) (t : Fin (cfgM m hO).N) (j : S176x1024.Idx) :
    (iblk m hO c 0 t : Vec Ideal S176x1024 .bf16) j
      = pick (arr m c main_arg0 (ix1 (0 : Fin 1))) fun k => arr m c main_arg1 (ix2 ⟨k.val * 704 + (row m hO t (j 0)).val, by have := k.isLt; have := (row m hO t (j 0)).isLt; omega⟩ (j 1)) := by
  obtain rfl : c = 0 := Subsingleton.elim _ _
  rw [pick_eq _ h]
  have hc : (grid0.coords t 0).val = t.val := (by decide +kernel : ∀ t : Fin grid0.N, (grid0.coords t 0).val = t.val) t
  have ht := point_lt m hO t
  have l0 : (j 0).val < 176 := (j 0).isLt
  have l1 : (j 1).val < 1024 := (j 1).isLt
  have hi : ((cfgM m hO).win 0).index t = _ := ix_table (tbl m) h (grid0.coords t)
  refine (congrArg (V m 0 (Pipeline.arrRef spec0 0)) (?_ : (((cfgM m hO).win 0).blk t).view.emb j = _)).trans (congrFun (V_main_arg1 m 0) _)
  refine Shape.idx_ext₂ ?_ ?_
  · refine (Window.rect_emb_val ((cfgM m hO).win 0) t j (0 : Fin 2)).trans ?_
    rw [hi]
    show (word m * 4 + (grid0.coords t 0).val) * 176 + (j 0).val = word m * 704 + (t.val * 176 + (j 0).val)
    rw [hc]
    omega
  · refine (Window.rect_emb_val ((cfgM m hO).win 0) t j (1 : Fin 2)).trans ?_
    rw [hi]
    exact (congrArg (· + (j 1).val) (Nat.zero_mul 1024)).trans (Nat.zero_add _)

/-- The neighbour's partial sum at a point. -/
theorem block1 (c : Dev nD) (t : Fin (cfgM m hO).N) (j : S176x1024.Idx) :
    (iblk m hO c 1 t : Vec Ideal S176x1024 .bf16) j = arr m c main_arg2 (ix2 (row m hO t (j 0)) (j 1)) :=
  (congrArg (V m c (Pipeline.arrRef spec0 1)) (emb1 m hO t j)).trans (congrFun (V_main_arg2 m c) _)

/-- The scattered partial sums at a point. -/
theorem block2 (c : Dev nD) (t : Fin (cfgM m hO).N) (k : Fin 2) (p : Fin 176) (q : Fin 1024) :
    (iblk m hO c 2 t : Vec Ideal S2x176x1024 .bf16) (ix3 k p q) = arr m c main_arg3 (ix3 k (row m hO t p) q) := by
  have hi : ((cfgM m hO).win 2).index t = _ := idx_slab m hO t
  refine (congrArg (V m c (Pipeline.arrRef spec0 2)) (?_ : (((cfgM m hO).win 2).blk t).view.emb (ix3 k p q) = _)).trans (congrFun (V_main_arg3 m c) _)
  refine idx_ext₃ ?_ ?_ ?_
  · refine (Window.rect_emb_val ((cfgM m hO).win 2) t (ix3 k p q) (0 : Fin 3)).trans ?_
    rw [hi]
    exact (congrArg (· + k.val) (Nat.zero_mul 2)).trans (Nat.zero_add _)
  · refine (Window.rect_emb_val ((cfgM m hO).win 2) t (ix3 k p q) (1 : Fin 3)).trans ?_
    rw [hi]
    rfl
  · refine (Window.rect_emb_val ((cfgM m hO).win 2) t (ix3 k p q) (2 : Fin 3)).trans ?_
    rw [hi]
    exact (congrArg (· + q.val) (Nat.zero_mul 1024)).trans (Nat.zero_add _)

/-- Where an entry of the weight's shard is held: transposed. -/
def held (p : Fin 704) (q : Fin 1024) : S1024x704.Idx := ix2 q p

/-- An array as the program transposes it before the region. -/
theorem turned (x : Vec Ideal S1024x704 .f32) (p : Fin 704) (q : Fin 1024) :
    transpose S704x1024 [1, 0] x transposes_S1024x704_S704x1024_1_0 (ix2 p q) = x (held p q) :=
  ValueIdx.transpose_ix2_apply x _ p q

/-- The weight as the region finds it. -/
theorem V_w (c : Dev nD) : V m c main_v0 = transpose S704x1024 [1, 0] (arr m c main_arg4) transposes_S1024x704_S704x1024_1_0 := by
  unfold V; simp only [hostOps0, List.flatten_cons, List.flatten_nil, List.append_nil, List.cons_append, List.nil_append]; after_results_simp <;> rfl

/-- The first moment as the region finds it. -/
theorem V_m (c : Dev nD) : V m c main_v1 = transpose S704x1024 [1, 0] (arr m c main_arg5) transposes_S1024x704_S704x1024_1_0 := by
  unfold V; simp only [hostOps0, List.flatten_cons, List.flatten_nil, List.append_nil, List.cons_append, List.nil_append]; after_results_simp <;> rfl

/-- The second moment as the region finds it. -/
theorem V_v (c : Dev nD) : V m c main_v2 = transpose S704x1024 [1, 0] (arr m c main_arg6) transposes_S1024x704_S704x1024_1_0 := by
  unfold V; simp only [hostOps0, List.flatten_cons, List.flatten_nil, List.append_nil, List.cons_append, List.nil_append]; after_results_simp <;> rfl

/-- The weight at a point. -/
theorem block3 (c : Dev nD) (t : Fin (cfgM m hO).N) (j : S176x1024.Idx) :
    (iblk m hO c 3 t : Vec Ideal S176x1024 .f32) j = arr m c main_arg4 (held (row m hO t (j 0)) (j 1)) :=
  (congrArg (V m c (Pipeline.arrRef spec0 3)) (emb3 m hO t j)).trans ((congrFun (V_w m c) _).trans (turned _ _ _))

/-- The first moment at a point. -/
theorem block4 (c : Dev nD) (t : Fin (cfgM m hO).N) (j : S176x1024.Idx) :
    (iblk m hO c 4 t : Vec Ideal S176x1024 .f32) j = arr m c main_arg5 (held (row m hO t (j 0)) (j 1)) :=
  (congrArg (V m c (Pipeline.arrRef spec0 4)) (emb4 m hO t j)).trans ((congrFun (V_m m c) _).trans (turned _ _ _))

/-- The second moment at a point. -/
theorem block5 (c : Dev nD) (t : Fin (cfgM m hO).N) (j : S176x1024.Idx) :
    (iblk m hO c 5 t : Vec Ideal S176x1024 .f32) j = arr m c main_arg6 (held (row m hO t (j 0)) (j 1)) :=
  (congrArg (V m c (Pipeline.arrRef spec0 5)) (emb5 m hO t j)).trans ((congrFun (V_v m c) _).trans (turned _ _ _))

section Body

variable (c : Dev nD) (i : grid0.Coords) (arg2 : Memref sig .tc .vmem S176x1024 .bf16) (harg2 : arg2.IsWhole)
  (arg3 : Memref sig .tc .vmem S176x1024 .bf16) (harg3 : arg3.IsWhole) (arg4 : Memref sig .tc .vmem S2x176x1024 .bf16) (harg4 : arg4.IsWhole)
  (arg5 : Memref sig .tc .vmem S176x1024 .f32) (harg5 : arg5.IsWhole) (arg6 : Memref sig .tc .vmem S176x1024 .f32) (harg6 : arg6.IsWhole)
  (arg7 : Memref sig .tc .vmem S176x1024 .f32) (harg7 : arg7.IsWhole) (arg8 : Memref sig .tc .vmem S176x1024 .f32) (harg8 : arg8.IsWhole)
  (arg9 : Memref sig .tc .vmem S176x1024 .f32) (harg9 : arg9.IsWhole) (arg10 : Memref sig .tc .vmem S176x1024 .f32) (harg10 : arg10.IsWhole)
  (arg11 : Memref sig .tc .vmem S176x1024 .f32) (harg11 : arg11.IsWhole)
  (x0 x1 : Vec Ideal S176x1024 .bf16) (x2 : Vec Ideal S2x176x1024 .bf16) (x3 x4 x5 : Vec Ideal S176x1024 .f32) (xt0 : TbBuf0 (F := Ideal) c tbM0_0)
  (y : S176x1024.Idx)

/-- The body's stores begin at the block's first entry. -/
theorem zero_off : (![0, 0] : Fin S176x1024.rank → Nat) = fun _ => 0 := funext fun a => by fin_cases a <;> rfl

/-- The body's sum of the partial gradients at an index. -/
theorem pay2_apply (v0 v2 : Vec Ideal S176x1024 .bf16) (v5 v9 : Vec Ideal S1x176x1024 .bf16) :
    k0_pay2 (F := Ideal) v0 v2 v5 v9 y = total (v0 y) (v2 y) (v5 (ix3 (0 : Fin 1) (y 0) (y 1))) (v9 (ix3 (0 : Fin 1) (y 0) (y 1))) := by
  show (v0 y : EReal) + v2 y + shapeCast S176x1024 v5 shapeCasts_S1x176x1024_S176x1024 y + shapeCast S176x1024 v9 shapeCasts_S1x176x1024_S176x1024 y = _
  rw [slab_cast, slab_cast]
  rfl

/-- The sum of the partial gradients in a point's blocks. -/
def sumAt : EReal := total (x0 y) (x1 y) (x2 (ix3 (0 : Fin 2) (y 0) (y 1))) (x2 (ix3 (1 : Fin 2) (y 0) (y 1)))

/-- A whole block as the body loads it. -/
abbrev loaded {e : EltTy} (arg : Memref sig .tc .vmem S176x1024 e) (h : arg.IsWhole) (x : Vec Ideal S176x1024 e) : Vec Ideal S176x1024 e :=
  View.readAt (Elt Ideal) arg.view (Rect.unit (s := S176x1024) ![0, 0] S176x1024.size inb_S176x1024_S176x1024_0_0).toLoadRect (h.unread x)

/-- The body's sum of the partial gradients as it loads them. -/
abbrev summed : Vec Ideal S176x1024 .f32 :=
  k0_pay2 (F := Ideal) (loaded arg2 harg2 x0) (loaded arg3 harg3 x1)
    (View.readAt (Elt Ideal) arg4.view (Rect.unit (s := S2x176x1024) ![0, 0, 0] S1x176x1024.size inb_S2x176x1024_S1x176x1024_0_0_0).toLoadRect (harg4.unread x2))
    (View.readAt (Elt Ideal) arg4.view (Rect.unit (s := S2x176x1024) ![1, 0, 0] S1x176x1024.size inb_S2x176x1024_S1x176x1024_1_0_0).toLoadRect (harg4.unread x2))

/-- That sum at an index. -/
theorem summed_apply : summed arg2 harg2 arg3 harg3 arg4 harg4 x0 x1 x2 y = sumAt x0 x1 x2 y := by
  refine (pay2_apply y _ _ _ _).trans ?_
  exact total_congr (congrFun (load_whole arg2 harg2 _ x0) y) (congrFun (load_whole arg3 harg3 _ x1) y) (load_slab arg4 harg4 0 _ x2 (y 0) (y 1)) (load_slab arg4 harg4 1 _ x2 (y 0) (y 1))

/-- A block of the weight or of a moment as the body uses it. -/
abbrev used (arg : Memref sig .tc .vmem S176x1024 .f32) (h : arg.IsWhole) (x : Vec Ideal S176x1024 .f32) : Vec Ideal S176x1024 .f32 := shapeCast S176x1024 (loaded arg h x) shapeCasts_S176x1024_S176x1024

/-- That block at an index. -/
theorem used_apply (arg : Memref sig .tc .vmem S176x1024 .f32) (h : arg.IsWhole) (x : Vec Ideal S176x1024 .f32) : used arg h x y = x y :=
  (shapeCast_apply _ _ y y rfl).trans (congrFun (load_whole arg h _ x) y)

/-- The first output's block: the sum. -/
theorem out6_apply : out0_A_6 (F := Ideal) c i arg2 harg2 arg3 harg3 arg4 harg4 arg5 harg5 arg6 harg6 arg7 harg7 arg8 harg8 arg9 harg9 arg10 harg10 arg11 harg11 x0 x1 x2 x3 x4 x5 xt0 y
    = sumAt x0 x1 x2 y := by
  unfold out0_A_6
  rw [View.read_writes_eq_canon _ _ _ (fun y => cover0_A_6 ..)]
  unfold kernelRun0_A
  dsimp only
  exact (congrFun (View.canon_unit_zero zero_off _ _) y).trans (summed_apply ..)

/-- The second output's block: the change of the weight. -/
theorem out7_apply : out0_A_7 (F := Ideal) c i arg2 harg2 arg3 harg3 arg4 harg4 arg5 harg5 arg6 harg6 arg7 harg7 arg8 harg8 arg9 harg9 arg10 harg10 arg11 harg11 x0 x1 x2 x3 x4 x5 xt0 y
    = delta (x3 y) (x4 y) (x5 y) (sumAt x0 x1 x2 y) := by
  unfold out0_A_7
  rw [View.read_writes_eq_canon _ _ _ (fun y => cover0_A_7 ..)]
  unfold kernelRun0_A
  dsimp only
  refine (congrFun (View.canon_unit_zero zero_off _ _) y).trans ?_
  refine Eq.trans ?_ (delta_congr (used_apply y arg5 harg5 x3) (used_apply y arg6 harg6 x4) (used_apply y arg7 harg7 x5) (summed_apply arg2 harg2 arg3 harg3 arg4 harg4 x0 x1 x2 y))
  rfl

/-- The third output's block: the first moment after the step. -/
theorem out8_apply : out0_A_8 (F := Ideal) c i arg2 harg2 arg3 harg3 arg4 harg4 arg5 harg5 arg6 harg6 arg7 harg7 arg8 harg8 arg9 harg9 arg10 harg10 arg11 harg11 x0 x1 x2 x3 x4 x5 xt0 y
    = newM (x4 y) (sumAt x0 x1 x2 y) := by
  unfold out0_A_8
  rw [View.read_writes_eq_canon _ _ _ (fun y => cover0_A_8 ..)]
  unfold kernelRun0_A
  dsimp only
  refine (congrFun (View.canon_unit_zero zero_off _ _) y).trans ?_
  refine Eq.trans ?_ (congrArg₂ newM (used_apply y arg6 harg6 x4) (summed_apply arg2 harg2 arg3 harg3 arg4 harg4 x0 x1 x2 y))
  rfl

/-- The fourth output's block: the second moment after the step. -/
theorem out9_apply : out0_A_9 (F := Ideal) c i arg2 harg2 arg3 harg3 arg4 harg4 arg5 harg5 arg6 harg6 arg7 harg7 arg8 harg8 arg9 harg9 arg10 harg10 arg11 harg11 x0 x1 x2 x3 x4 x5 xt0 y
    = newV (x5 y) (sumAt x0 x1 x2 y) := by
  unfold out0_A_9
  rw [View.read_writes_eq_canon _ _ _ (fun y => cover0_A_9 ..)]
  unfold kernelRun0_A
  dsimp only
  refine (congrFun (View.canon_unit_zero zero_off _ _) y).trans ?_
  refine Eq.trans ?_ (congrArg₂ newV (used_apply y arg7 harg7 x5) (summed_apply arg2 harg2 arg3 harg3 arg4 harg4 x0 x1 x2 y))
  rfl

end Body

/-- The sum in a point's blocks is the reduced gradient at the block's rows. -/
theorem sum_at (h : word m < 8) (c : Dev nD) (t : Fin (cfgM m hO).N) (j : S176x1024.Idx) :
    sumAt (iblk m hO c 0 t) (iblk m hO c 1 t) (iblk m hO c 2 t) j = sumOf m c (row m hO t (j 0)) (j 1) := by
  unfold sumAt sumOf sum
  exact total_congr (block0 m hO h c t j) (block1 m hO c t j) (block2 m hO c t 0 (j 0) (j 1)) (block2 m hO c t 1 (j 0) (j 1))

/-- The point whose block holds an index. -/
def pt (i : S704x1024.Idx) : Fin (cfgM m hO).N :=
  ⟨(i 0).val / 176, lt_of_lt_of_eq (by have : (i 0).val < 704 := (i 0).isLt; omega : (i 0).val / 176 < 4) (by decide +kernel : 4 = grid0.N)⟩

/-- The index within that block. -/
def inner (i : S704x1024.Idx) : S176x1024.Idx := ix2 (⟨(i 0).val % 176, Nat.mod_lt _ (by decide)⟩ : Fin 176) (i 1)

/-- The index found again from its point and the index within. -/
theorem pt_inner (i : S704x1024.Idx) : (ix2 (row m hO (pt m hO i) (inner i 0)) (inner i 1) : S704x1024.Idx) = i :=
  Shape.idx_ext₂ (by show (i 0).val / 176 * 176 + (i 0).val % 176 = (i 0).val; omega) rfl

/-- Every index of each output is in some point's block. -/
theorem cover6 (i : S704x1024.Idx) : ∃ t : Fin (cfgM m hO).N, ((cfgM m hO).win 6).flush t = true ∧ i ∈ (((cfgM m hO).win 6).blk t).view.set :=
  ⟨pt m hO i, flush0_6 (adm m hO) _, (congrArg (· ∈ (((cfgM m hO).win 6).blk (pt m hO i)).view.set) ((emb6 m hO _ (inner i)).trans (pt_inner m hO i))).mp (View.emb_mem_set _ _)⟩
/-- The same for window 7. -/
theorem cover7 (i : S704x1024.Idx) : ∃ t : Fin (cfgM m hO).N, ((cfgM m hO).win 7).flush t = true ∧ i ∈ (((cfgM m hO).win 7).blk t).view.set :=
  ⟨pt m hO i, flush0_7 (adm m hO) _, (congrArg (· ∈ (((cfgM m hO).win 7).blk (pt m hO i)).view.set) ((emb7 m hO _ (inner i)).trans (pt_inner m hO i))).mp (View.emb_mem_set _ _)⟩
/-- The same for window 8. -/
theorem cover8 (i : S704x1024.Idx) : ∃ t : Fin (cfgM m hO).N, ((cfgM m hO).win 8).flush t = true ∧ i ∈ (((cfgM m hO).win 8).blk t).view.set :=
  ⟨pt m hO i, flush0_8 (adm m hO) _, (congrArg (· ∈ (((cfgM m hO).win 8).blk (pt m hO i)).view.set) ((emb8 m hO _ (inner i)).trans (pt_inner m hO i))).mp (View.emb_mem_set _ _)⟩
/-- The same for window 9. -/
theorem cover9 (i : S704x1024.Idx) : ∃ t : Fin (cfgM m hO).N, ((cfgM m hO).win 9).flush t = true ∧ i ∈ (((cfgM m hO).win 9).blk t).view.set :=
  ⟨pt m hO i, flush0_9 (adm m hO) _, (congrArg (· ∈ (((cfgM m hO).win 9).blk (pt m hO i)).view.set) ((emb9 m hO _ (inner i)).trans (pt_inner m hO i))).mp (View.emb_mem_set _ _)⟩

variable (h : word m < 8)

/-- The change of the weight of a run's arguments. -/
def deltaOf (c : Dev nD) (p : Fin 704) (q : Fin 1024) : EReal :=
  delta (arr m c main_arg4 (held p q)) (arr m c main_arg5 (held p q)) (arr m c main_arg6 (held p q)) (sumOf m c p q)

include h in
/-- The reduced gradient after the run. -/
theorem final6 (c : Dev nD) : (dats m hO 0 c).arrAt 6 (cfgM m hO).N = (fun i => sumOf m c (i 0) (i 1) : Vec Ideal S704x1024 .f32) := by
  refine (dats m hO 0 c).arrAt_eq_of_cover 6 _ (fun t _ => ?_) (cover6 m hO)
  show ((cfgM m hO).win 6).cut (grid0.coords t) ((dats m hO 0 c).after 6 t) = _
  rw [after0_6]
  unfold outsAt0
  dsimp only
  funext j
  refine (out6_apply ..).trans ((sum_at m hO h c t j).trans ?_)
  exact (congrArg (fun i : S704x1024.Idx => sumOf m c (i 0) (i 1)) (emb6 m hO t j)).symm

include h in
/-- The change of the weight after the run. -/
theorem final7 (c : Dev nD) : (dats m hO 0 c).arrAt 7 (cfgM m hO).N = (fun i => deltaOf m c (i 0) (i 1) : Vec Ideal S704x1024 .f32) := by
  refine (dats m hO 0 c).arrAt_eq_of_cover 7 _ (fun t _ => ?_) (cover7 m hO)
  show ((cfgM m hO).win 7).cut (grid0.coords t) ((dats m hO 0 c).after 7 t) = _
  rw [after0_7]
  unfold outsAt0
  dsimp only
  funext j
  refine (out7_apply ..).trans (Eq.trans ?_ (congrArg (fun i : S704x1024.Idx => deltaOf m c (i 0) (i 1)) (emb7 m hO t j)).symm)
  exact delta_congr (block3 m hO c t j) (block4 m hO c t j) (block5 m hO c t j) (sum_at m hO h c t j)

include h in
/-- The first moment after the run. -/
theorem final8 (c : Dev nD) : (dats m hO 0 c).arrAt 8 (cfgM m hO).N
    = (fun i => newM (arr m c main_arg5 (held (i 0) (i 1))) (sumOf m c (i 0) (i 1)) : Vec Ideal S704x1024 .f32) := by
  refine (dats m hO 0 c).arrAt_eq_of_cover 8 _ (fun t _ => ?_) (cover8 m hO)
  show ((cfgM m hO).win 8).cut (grid0.coords t) ((dats m hO 0 c).after 8 t) = _
  rw [after0_8]
  unfold outsAt0
  dsimp only
  funext j
  refine (out8_apply ..).trans (Eq.trans ?_ (congrArg (fun i : S704x1024.Idx => newM (arr m c main_arg5 (held (i 0) (i 1))) (sumOf m c (i 0) (i 1))) (emb8 m hO t j)).symm)
  exact congrArg₂ newM (block4 m hO c t j) (sum_at m hO h c t j)

include h in
/-- The second moment after the run. -/
theorem final9 (c : Dev nD) : (dats m hO 0 c).arrAt 9 (cfgM m hO).N
    = (fun i => newV (arr m c main_arg6 (held (i 0) (i 1))) (sumOf m c (i 0) (i 1)) : Vec Ideal S704x1024 .f32) := by
  refine (dats m hO 0 c).arrAt_eq_of_cover 9 _ (fun t _ => ?_) (cover9 m hO)
  show ((cfgM m hO).win 9).cut (grid0.coords t) ((dats m hO 0 c).after 9 t) = _
  rw [after0_9]
  unfold outsAt0
  dsimp only
  funext j
  refine (out9_apply ..).trans (Eq.trans ?_ (congrArg (fun i : S704x1024.Idx => newV (arr m c main_arg6 (held (i 0) (i 1))) (sumOf m c (i 0) (i 1))) (emb9 m hO t j)).symm)
  exact congrArg₂ newV (block5 m hO c t j) (sum_at m hO h c t j)

/-- The arguments after the run. -/
theorem unchanged (r : PUnit × MemSt nD τ sig (Elt Ideal))
    (hr : Pipeline.FramePost (Pipeline.pin pcfgs fun _ => adm m hO) (dats m hO) 0 (V m) r) (c : Dev nD) :
    arr r.2.mem c main_arg0 = arr m c main_arg0
      ∧ arr r.2.mem c main_arg1 = arr m c main_arg1
      ∧ arr r.2.mem c main_arg2 = arr m c main_arg2
      ∧ arr r.2.mem c main_arg3 = arr m c main_arg3
      ∧ arr r.2.mem c main_arg4 = arr m c main_arg4
      ∧ arr r.2.mem c main_arg5 = arr m c main_arg5
      ∧ arr r.2.mem c main_arg6 = arr m c main_arg6 :=
  ⟨((hr c).2 main_arg0 (by decide : main_arg0 ∈ Pipeline.restRefs sig spec0)).trans (V_main_arg0 m c),
    ((hr c).1 0).trans (((dats m hO 0 c).arrAt_in 0 rfl _).trans ((A_eq m hO c 0).trans (V_main_arg1 m c))),
    ((hr c).1 1).trans (((dats m hO 0 c).arrAt_in 1 rfl _).trans ((A_eq m hO c 1).trans (V_main_arg2 m c))),
    ((hr c).1 2).trans (((dats m hO 0 c).arrAt_in 2 rfl _).trans ((A_eq m hO c 2).trans (V_main_arg3 m c))),
    ((hr c).2 main_arg4 (by decide : main_arg4 ∈ Pipeline.restRefs sig spec0)).trans (V_main_arg4 m c),
    ((hr c).2 main_arg5 (by decide : main_arg5 ∈ Pipeline.restRefs sig spec0)).trans (V_main_arg5 m c),
    ((hr c).2 main_arg6 (by decide : main_arg6 ∈ Pipeline.restRefs sig spec0)).trans (V_main_arg6 m c)⟩

end Value

section Reference

open Cert.FFfnInRefIdeal.Read

variable (x0 : IVec S1 32) (x1 : FVec Ideal S5632x1024 .bf16) (x2 : FVec Ideal S704x1024 .bf16) (x3 : FVec Ideal S2x704x1024 .bf16) (x4 x5 x6 : FVec Ideal S1024x704 .f32)

/-- The reference's choice of the device's own block, one block of the eight. -/
theorem ref_own (k : Fin 8) (i : S704x1024.Idx) : val_main_v7 (F := Ideal) x0 x1 (idx_main_v8 i k)
    = if BitVec.ofNat 32 k.val = x0 (ix1 (0 : Fin 1)) then x1 (ix2 ⟨k.val * 704 + (i 0).val, by have := k.isLt; have : (i 0).val < 704 := (i 0).isLt; omega⟩ (i 1)) else 0 := by
  rw [val_main_v7_apply, val_main_call0_v1_apply, val_main_v6_apply, val_main_v5_apply, val_main_v3_apply, val_main_v1_apply, val_main_v0_apply,
    val_main_call0_v2_apply]
  refine (select_eq _ _ _ _).trans ?_
  have l0 : (i 0).val < 704 := (i 0).isLt
  have l1 : (i 1).val < 1024 := (i 1).isLt
  have l2 := k.isLt
  refine pick_term (congrArg (BitVec.ofNat 32) ?_) (congrArg x0 (one_idx _)) (congrArg x1 (Shape.idx_ext₂ ?_ ?_)) bits_zero
  · show (k.val * 1 + 0) * 1 + 0 = k.val; omega
  · show ((k.val * 704 + (i 0).val) * 1024 + (i 1).val) / 1024 = k.val * 704 + (i 0).val; omega
  · show ((k.val * 704 + (i 0).val) * 1024 + (i 1).val) % 1024 = (i 1).val; omega

/-- The reference's reduced gradient. -/
theorem ref_sum (i : S704x1024.Idx) : val_main_v13 (F := Ideal) x0 x1 x2 x3 i = sum x0 x1 x2 x3 (i 0) (i 1) := by
  rw [val_main_v13_apply, val_main_v10_apply, val_main_v8_apply, val_main_v12_apply, Fin.sum_univ_two]
  simp only [ref_own]
  exact (total_eq bits_zero bits_zero _ _ _ _).trans (total_congr rfl (congrArg x2 (Shape.idx_ext₂ rfl rfl)) (congrArg x3 (idx_ext₃ rfl rfl rfl)) (congrArg x3 (idx_ext₃ rfl rfl rfl)))

/-- The reference's reduced gradient, transposed as the shard is held. -/
theorem ref_grad (i : S1024x704.Idx) : val_main_v14 (F := Ideal) x0 x1 x2 x3 i = sum x0 x1 x2 x3 (i 1) (i 0) := by
  rw [val_main_v14_apply]
  exact ref_sum x0 x1 x2 x3 _

/-- The reference's first moment. -/
theorem ref_m (i : S1024x704.Idx) : val_main_v19 (F := Ideal) x0 x1 x2 x3 x5 i = newM (x5 i) (sum x0 x1 x2 x3 (i 1) (i 0)) := by
  rw [val_main_v19_apply, val_main_v18_apply, val_main_v17_apply, val_main_v16_apply, val_main_v15_apply, val_main_cst_2_apply, val_main_cst_3_apply, ref_grad]
  rfl

/-- The reference's second moment. -/
theorem ref_v (i : S1024x704.Idx) : val_main_v25 (F := Ideal) x0 x1 x2 x3 x6 i = newV (x6 i) (sum x0 x1 x2 x3 (i 1) (i 0)) := by
  rw [val_main_v25_apply, val_main_v24_apply, val_main_v23_apply, val_main_v22_apply, val_main_v21_apply, val_main_v20_apply, val_main_cst_4_apply, val_main_cst_5_apply, ref_grad]
  rfl

/-- The reference's change of the weight. -/
theorem ref_d (i : S1024x704.Idx) : val_main_v38 (F := Ideal) x0 x1 x2 x3 x4 x5 x6 i = delta (x4 i) (x5 i) (x6 i) (sum x0 x1 x2 x3 (i 1) (i 0)) := by
  rw [val_main_v38_apply, val_main_v37_apply, val_main_v36_apply, val_main_v35_apply, val_main_v34_apply, val_main_v33_apply, val_main_v32_apply, val_main_v31_apply, val_main_v30_apply, val_main_v29_apply,
    val_main_v28_apply, val_main_v27_apply, val_main_v26_apply, ref_m, ref_v, val_main_cst_6_apply, val_main_cst_7_apply, val_main_cst_8_apply, val_main_cst_9_apply,
    val_main_cst_10_apply]
  rfl

/-- Kernel and reference agree at every index of the four results. -/
theorem algebraic : Cert.algebraic_FFfnInIdeal_FFfnInRefIdeal := by
  intro m g m' g' hpre hargs
  have h : word m < 8 := word_of_pre _ _ _ _ _ _ _ (hpre 0)
  have hO := ok_PI m hpre
  refine ⟨fun c => (fun i => sumOf m c (i 0) (i 1) : Vec Ideal S704x1024 .f32), fun c => (fun i => deltaOf m c (i 0) (i 1) : Vec Ideal S704x1024 .f32),
    fun c => (fun i => newM (arr m c main_arg5 (held (i 0) (i 1))) (sumOf m c (i 0) (i 1)) : Vec Ideal S704x1024 .f32),
    fun c => (fun i => newV (arr m c main_arg6 (held (i 0) (i 1))) (sumOf m c (i 0) (i 1)) : Vec Ideal S704x1024 .f32), ?_, ?_⟩
  · exact (θ_run _ _ _).mono (fun r hr c => ⟨((hr c).1 6).trans (final6 m hO h c), ((hr c).1 7).trans (final7 m hO h c), ((hr c).1 8).trans (final8 m hO h c),
      ((hr c).1 9).trans (final9 m hO h c), unchanged m hO r hr c⟩) (run_main m g hO)
  · refine (θ_run _ _ _).mono (fun r h c => ⟨?_, ?_, ?_, ?_, (h c).2.2.2.2⟩) (Cert.FFfnInRefIdeal.Value.run (F := Ideal) m' g')
    all_goals obtain ⟨a0, a1, a2, a3, a4, a5, a6⟩ := hargs c
    · refine (h c).1.trans ((val_main_v13_eq _ _ _ _).trans ?_)
      rw [a0, a1, a2, a3]
      exact funext fun i => ref_sum _ _ _ _ i
    · refine (h c).2.1.trans ((val_main_v39_eq _ _ _ _ _ _ _).trans ?_)
      rw [a0, a1, a2, a3, a4, a5, a6]
      exact funext fun i => (val_main_v39_apply _ _ _ _ _ _ _ i).trans ((ref_d _ _ _ _ _ _ _ _).trans (congrArg (fun j : S1024x704.Idx => delta (arr m c main_arg4 j) (arr m c main_arg5 j) (arr m c main_arg6 j) (sumOf m c (i 0) (i 1))) (Shape.idx_ext₂ rfl rfl : idx_main_v39 i = held (i 0) (i 1))))
    · refine (h c).2.2.1.trans ((val_main_v40_eq _ _ _ _ _).trans ?_)
      rw [a0, a1, a2, a3, a5]
      exact funext fun i => (val_main_v40_apply _ _ _ _ _ i).trans ((ref_m _ _ _ _ _ _).trans (congrArg (fun j : S1024x704.Idx => newM (arr m c main_arg5 j) (sumOf m c (i 0) (i 1))) (Shape.idx_ext₂ rfl rfl : idx_main_v40 i = held (i 0) (i 1))))
    · refine (h c).2.2.2.1.trans ((val_main_v41_eq _ _ _ _ _).trans ?_)
      rw [a0, a1, a2, a3, a6]
      exact funext fun i => (val_main_v41_apply _ _ _ _ _ i).trans ((ref_v _ _ _ _ _ _).trans (congrArg (fun j : S1024x704.Idx => newV (arr m c main_arg6 j) (sumOf m c (i 0) (i 1))) (Shape.idx_ext₂ rfl rfl : idx_main_v41 i = held (i 0) (i 1))))

end Reference

end Cert.Proof.FFfnIn

end
-- ==== Proof.FFfnOut.lean ====
/-
  `FFfnOut`: the last sum of a weight's partial gradients (the device's own block of its partial gradient, the block one exchange
  brought and the two the other brought) and the step of the optimiser on the device's shard of that weight.  The kernel reads
  its own block through a window whose block index is the device's number, held in a table; the reference chooses it out of the
  eight blocks.  Both are, at every index, the same sum and the same step.
-/
module

public import proofs.«01_k».proof.Defs
public import proofs.«01_k».proof.Proof.Step
public import proofs.«01_k».proof.Proof.Gen.Pre_place_w_ffn_out
public import proofs.«01_k».proof.Proof.Gen.FFfnOut
public import proofs.«01_k».proof.Proof.Gen.FFfnOut.Frame
public import proofs.«01_k».proof.Proof.Gen.FFfnOutIdeal
public import proofs.«01_k».proof.Proof.Gen.FFfnOutIdeal.Frame
public import proofs.«01_k».proof.Proof.Gen.FFfnOutRefIdeal
public import proofs.«01_k».proof.Proof.Gen.FFfnOutRefIdeal.Run
public import proofs.«01_k».proof.Proof.Gen.FFfnOutRefIdeal.Read
public import Idealize.ShloMosaic.Lib.Pointwise
public import Idealize.ShloMosaic.Lib.ReduceAll
public import Idealize.ShloMosaic.Lib.ValueLayout
public import Idealize.ShloMosaic.Lib.WholeRead
public import Idealize.ShloMosaic.Lib.WritesUnit
public import Idealize.ShloMosaic.Lib.KernelVsHost
public import Idealize.ShloMosaic.Lib.Pipeline.ReadBack

@[expose] public section

set_option maxRecDepth 16384

noncomputable section

namespace Cert.Proof.FFfnOut

open Idealize.ShloMosaic Idealize.ShloMosaic.TcCoe Idealize.SL.Sem
open Cert.FFfnOutIdeal Cert.FFfnOutIdeal.Gen
open Cert.Proof.Step
open Idealize.ShloMosaic.Pipeline (Dat Cfg Window)

/-- The precondition bounds the device's index. -/
theorem word_of_pre {F : FTy → Type} [FloatOps F] [Cert.Pre_place_w_ffn_out.Facts] (x0 : IVec S1 32) (x1 : FVec F S2816x1024 .bf16)
    (x2 : FVec F S352x1024 .bf16) (x3 : FVec F S2x352x1024 .bf16) (x4 x5 x6 : FVec F S352x1024 .f32)
    (h : Cert.Pre_place_w_ffn_out.fn x0 x1 x2 x3 x4 x5 x6 = fun _ => 1#1) : (x0 (ix1 (0 : Fin 1))).toNat < 8 := by
  have e (i : S1.Idx) : x0 i = x0 (ix1 (0 : Fin 1)) := congrArg x0 (one_idx i)
  refine word_lt _ ?_
  have := congrFun h (fun a => a.elim0)
  simp only [Cert.Pre_place_w_ffn_out.fn, constantI, cmpi, andi, shapeCast, e] at this
  exact this

/-- The block the device's index names, by its number. -/
theorem ix_table {F : FTy → Type} [FloatOps F] (pf : pre0.Contents (Elt F)) (h : (pf 0 (ix1 (0 : Fin 1)) : BitVec 32).toNat < 8) (i : grid0.Coords) :
    cc0_transform_0 Facts₀.inb_S1_S1_0 Facts₀.numel1_S1 pf i = ![(pf 0 (ix1 (0 : Fin 1)) : BitVec 32).toNat * 1 + (i 0).val, 0] := by
  unfold cc0_transform_0
  refine congrArg (fun n : Nat => (![n, 0] : Fin 2 → Nat)) ?_
  have l : (i 0).val < 1 := (i 0).isLt
  refine Eq.trans (congrArg (fun z : BitVec 32 => (z * 1#32 + BitVec.ofNat 32 (i 0).val).toNat) ?_) (word_at (pf 0 (ix1 (0 : Fin 1)) : BitVec 32) h 1 (i 0).val (by omega) (by omega))
  exact congrArg (pf 0) (one_idx _)

/-- The pipeline at an index below eight. -/
theorem ok_of_word {F : FTy → Type} [FloatOps F] (pf : pre0.Contents (Elt F)) (h : (pf 0 (ix1 (0 : Fin 1)) : BitVec 32).toNat < 8) : ok0 pf := by
  intro i
  refine ⟨fun a => ?_, .inr (Affine.block_words_dvd (of_decide_eq_true rfl) (by decide))⟩
  rw [ix_table pf h]
  have l : (i 0).val < 1 := (i 0).isLt
  match a with
  | ⟨0, _⟩ => show ((pf 0 (ix1 (0 : Fin 1)) : BitVec 32).toNat * 1 + (i 0).val + 1) * 352 ≤ 2816; omega
  | ⟨1, _⟩ => show (0 + 1) * 1024 ≤ 1024; omega

variable [hPre : Cert.Pre_place_w_ffn_out.Facts]

/-- The precondition gives the pipeline's side condition, for the kernel itself. -/
theorem ok_P (m : (ℓ : Loc nD τ sig) → Buf (Elt Bits) ℓ) (h : Cert.Pre_FFfnOut m) : Cert.FFfnOut.Gen.Ok m :=
  ok_of_word (F := Bits) (fun j => m (((0 : Dev nD) : Thread nD τ).loc (pre0.ref j))) (word_of_pre _ _ _ _ _ _ _ (h 0))

/-- The precondition gives the pipeline's side condition. -/
theorem ok_PI (m : (ℓ : Loc nD τ sig) → Buf (Elt Ideal) ℓ) (h : Cert.Pre_FFfnOutIdeal m) : Ok m :=
  ok_of_word _ (word_of_pre _ _ _ _ _ _ _ (h 0))

/-- The kernel's frame. -/
theorem frame_P : Cert.quiescent_FFfnOut := fun m ρ h => Cert.FFfnOut.Gen.frame (F := Bits) m ρ (ok_P m h)

/-- The ideal kernel's frame. -/
theorem frame_PI : Cert.quiescent_FFfnOutIdeal := fun m ρ h => Cert.FFfnOutIdeal.Gen.frame (F := Ideal) m ρ (ok_PI m h)

/-- The reference's frame. -/
theorem frame_RI : Cert.quiescent_FFfnOutRefIdeal := fun m ρ _ =>
  (θ_run Cert.FFfnOutRefIdeal.defs _ _).mono (fun r h => ⟨fun c => (h c).2.2.2.2,
      Idealize.ShloMosaic.sem_eq_zero_of_no_sems (by decide) r.2⟩)
    (Cert.FFfnOutRefIdeal.Value.run (F := Ideal) m ρ)

/-- The reference's frame under the claim's precondition. -/
theorem frame_RI_pre : Cert.quiescent_FFfnOutRefIdeal_pre_place_w_ffn_out := fun m ρ _ => frame_RI m ρ trivial

section Value

variable (m : (ℓ : Loc nD τ sig) → Buf (Elt Ideal) ℓ) (hO : Ok m)

/-- A buffer of a device in a memory. -/
abbrev arr (m : (ℓ : Loc nD τ sig) → Buf (Elt Ideal) ℓ) (c : Dev nD) (b : Ref sig .tc) := m ((c : Thread nD τ).loc b)

/-- The device's index, as a number. -/
abbrev word : Nat := (arr m 0 main_arg0 (ix1 (0 : Fin 1)) : BitVec 32).toNat

/-- The reduced gradient at a row and a column. -/
def sum (x0 : IVec S1 32) (x1 : FVec Ideal S2816x1024 .bf16) (x2 : FVec Ideal S352x1024 .bf16) (x3 : FVec Ideal S2x352x1024 .bf16)
    (p : Fin 352) (q : Fin 1024) : EReal :=
  total (pick (x0 (ix1 (0 : Fin 1))) fun k => x1 (ix2 ⟨k.val * 352 + p.val, by omega⟩ q)) (x2 (ix2 p q))
    (x3 (ix3 (0 : Fin 2) p q)) (x3 (ix3 (1 : Fin 2) p q))

/-- The reduced gradient of a run's arguments. -/
def sumOf (c : Dev nD) (p : Fin 352) (q : Fin 1024) : EReal :=
  sum (arr m c main_arg0) (arr m c main_arg1) (arr m c main_arg2) (arr m c main_arg3) p q

/-- The grid has 1 points. -/
theorem point_lt (t : Fin (cfgM m hO).N) : t.val < 1 := lt_of_lt_of_eq t.isLt (by decide +kernel : grid0.N = 1)

/-- A row of a point's block, in the whole array. -/
def row (t : Fin (cfgM m hO).N) (p : Fin 352) : Fin 352 := ⟨t.val * 352 + p.val, by have := point_lt m hO t; omega⟩

/-- The block a point takes of the arrays that are divided by rows. -/
theorem idx_row (t : Fin (cfgM m hO).N) : cc0_transform_1 (grid0.coords t) = ![t.val, 0] :=
  (by decide +kernel : ∀ t : Fin grid0.N, cc0_transform_1 (grid0.coords t) = ![t.val, 0]) t

/-- The block a point takes of the scattered partial sums. -/
theorem idx_slab (t : Fin (cfgM m hO).N) : cc0_transform_2 (grid0.coords t) = ![0, t.val, 0] :=
  (by decide +kernel : ∀ t : Fin grid0.N, cc0_transform_2 (grid0.coords t) = ![0, t.val, 0]) t

/-- An index of a block of rows, by its two coordinates, is the index of the array at the block's row. -/
theorem emb_row (t : Fin (cfgM m hO).N) (j : S352x1024.Idx) (x : S352x1024.Idx) (n : Fin 2 → ℕ) (hn : n = ![t.val, 0])
    (h0 : (x 0).val = n 0 * 352 + (j 0).val) (h1 : (x 1).val = n 1 * 1024 + (j 1).val) : x = ix2 (row m hO t (j 0)) (j 1) := by
  subst hn
  refine Shape.idx_ext₂ h0 (h1.trans ?_)
  exact (congrArg (· + (j 1).val) (Nat.zero_mul 1024)).trans (Nat.zero_add _)

section Places

variable (t : Fin (cfgM m hO).N) (j : S352x1024.Idx)

/-- Where an index of each window's block lies in its array. -/
theorem emb1 : (((cfgM m hO).win 1).blk t).view.emb j = ix2 (row m hO t (j 0)) (j 1) :=
  emb_row m hO t j _ _ (idx_row m hO t) (Window.rect_emb_val ((cfgM m hO).win 1) t j (0 : Fin 2)) (Window.rect_emb_val ((cfgM m hO).win 1) t j (1 : Fin 2))
/-- The same for window 3. -/
theorem emb3 : (((cfgM m hO).win 3).blk t).view.emb j = ix2 (row m hO t (j 0)) (j 1) :=
  emb_row m hO t j _ _ (idx_row m hO t) (Window.rect_emb_val ((cfgM m hO).win 3) t j (0 : Fin 2)) (Window.rect_emb_val ((cfgM m hO).win 3) t j (1 : Fin 2))
/-- The same for window 4. -/
theorem emb4 : (((cfgM m hO).win 4).blk t).view.emb j = ix2 (row m hO t (j 0)) (j 1) :=
  emb_row m hO t j _ _ (idx_row m hO t) (Window.rect_emb_val ((cfgM m hO).win 4) t j (0 : Fin 2)) (Window.rect_emb_val ((cfgM m hO).win 4) t j (1 : Fin 2))
/-- The same for window 5. -/
theorem emb5 : (((cfgM m hO).win 5).blk t).view.emb j = ix2 (row m hO t (j 0)) (j 1) :=
  emb_row m hO t j _ _ (idx_row m hO t) (Window.rect_emb_val ((cfgM m hO).win 5) t j (0 : Fin 2)) (Window.rect_emb_val ((cfgM m hO).win 5) t j (1 : Fin 2))
/-- The same for window 6. -/
theorem emb6 : (((cfgM m hO).win 6).blk t).view.emb j = ix2 (row m hO t (j 0)) (j 1) :=
  emb_row m hO t j _ _ (idx_row m hO t) (Window.rect_emb_val ((cfgM m hO).win 6) t j (0 : Fin 2)) (Window.rect_emb_val ((cfgM m hO).win 6) t j (1 : Fin 2))
/-- The same for window 7. -/
theorem emb7 : (((cfgM m hO).win 7).blk t).view.emb j = ix2 (row m hO t (j 0)) (j 1) :=
  emb_row m hO t j _ _ (idx_row m hO t) (Window.rect_emb_val ((cfgM m hO).win 7) t j (0 : Fin 2)) (Window.rect_emb_val ((cfgM m hO).win 7) t j (1 : Fin 2))
/-- The same for window 8. -/
theorem emb8 : (((cfgM m hO).win 8).blk t).view.emb j = ix2 (row m hO t (j 0)) (j 1) :=
  emb_row m hO t j _ _ (idx_row m hO t) (Window.rect_emb_val ((cfgM m hO).win 8) t j (0 : Fin 2)) (Window.rect_emb_val ((cfgM m hO).win 8) t j (1 : Fin 2))
/-- The same for window 9. -/
theorem emb9 : (((cfgM m hO).win 9).blk t).view.emb j = ix2 (row m hO t (j 0)) (j 1) :=
  emb_row m hO t j _ _ (idx_row m hO t) (Window.rect_emb_val ((cfgM m hO).win 9) t j (0 : Fin 2)) (Window.rect_emb_val ((cfgM m hO).win 9) t j (1 : Fin 2))

end Places

/-- The own block at a point. -/
theorem block0 (h : word m < 8) (c : Dev nD) (t : Fin (cfgM m hO).N) (j : S352x1024.Idx) :
    (iblk m hO c 0 t : Vec Ideal S352x1024 .bf16) j
      = pick (arr m c main_arg0 (ix1 (0 : Fin 1))) fun k => arr m c main_arg1 (ix2 ⟨k.val * 352 + (row m hO t (j 0)).val, by have := k.isLt; have := (row m hO t (j 0)).isLt; omega⟩ (j 1)) := by
  obtain rfl : c = 0 := Subsingleton.elim _ _
  rw [pick_eq _ h]
  have hc : (grid0.coords t 0).val = t.val := (by decide +kernel : ∀ t : Fin grid0.N, (grid0.coords t 0).val = t.val) t
  have ht := point_lt m hO t
  have l0 : (j 0).val < 352 := (j 0).isLt
  have l1 : (j 1).val < 1024 := (j 1).isLt
  have hi : ((cfgM m hO).win 0).index t = _ := ix_table (tbl m) h (grid0.coords t)
  refine (congrArg (V m 0 (Pipeline.arrRef spec0 0)) (?_ : (((cfgM m hO).win 0).blk t).view.emb j = _)).trans (congrFun (V_main_arg1 m 0) _)
  refine Shape.idx_ext₂ ?_ ?_
  · refine (Window.rect_emb_val ((cfgM m hO).win 0) t j (0 : Fin 2)).trans ?_
    rw [hi]
    show (word m * 1 + (grid0.coords t 0).val) * 352 + (j 0).val = word m * 352 + (t.val * 352 + (j 0).val)
    rw [hc]
    omega
  · refine (Window.rect_emb_val ((cfgM m hO).win 0) t j (1 : Fin 2)).trans ?_
    rw [hi]
    exact (congrArg (· + (j 1).val) (Nat.zero_mul 1024)).trans (Nat.zero_add _)

/-- The neighbour's partial sum at a point. -/
theorem block1 (c : Dev nD) (t : Fin (cfgM m hO).N) (j : S352x1024.Idx) :
    (iblk m hO c 1 t : Vec Ideal S352x1024 .bf16) j = arr m c main_arg2 (ix2 (row m hO t (j 0)) (j 1)) :=
  (congrArg (V m c (Pipeline.arrRef spec0 1)) (emb1 m hO t j)).trans (congrFun (V_main_arg2 m c) _)

/-- The scattered partial sums at a point. -/
theorem block2 (c : Dev nD) (t : Fin (cfgM m hO).N) (k : Fin 2) (p : Fin 352) (q : Fin 1024) :
    (iblk m hO c 2 t : Vec Ideal S2x352x1024 .bf16) (ix3 k p q) = arr m c main_arg3 (ix3 k (row m hO t p) q) := by
  have hi : ((cfgM m hO).win 2).index t = _ := idx_slab m hO t
  refine (congrArg (V m c (Pipeline.arrRef spec0 2)) (?_ : (((cfgM m hO).win 2).blk t).view.emb (ix3 k p q) = _)).trans (congrFun (V_main_arg3 m c) _)
  refine idx_ext₃ ?_ ?_ ?_
  · refine (Window.rect_emb_val ((cfgM m hO).win 2) t (ix3 k p q) (0 : Fin 3)).trans ?_
    rw [hi]
    exact (congrArg (· + k.val) (Nat.zero_mul 2)).trans (Nat.zero_add _)
  · refine (Window.rect_emb_val ((cfgM m hO).win 2) t (ix3 k p q) (1 : Fin 3)).trans ?_
    rw [hi]
    rfl
  · refine (Window.rect_emb_val ((cfgM m hO).win 2) t (ix3 k p q) (2 : Fin 3)).trans ?_
    rw [hi]
    exact (congrArg (· + q.val) (Nat.zero_mul 1024)).trans (Nat.zero_add _)

/-- Where an entry of the weight's shard is held. -/
def held (p : Fin 352) (q : Fin 1024) : S352x1024.Idx := ix2 p q

/-- An index is the one its coordinates are held at. -/
theorem ix_held (i : S352x1024.Idx) : i = held (i 0) (i 1) := Shape.idx_ext₂ rfl rfl

/-- The weight at a point. -/
theorem block3 (c : Dev nD) (t : Fin (cfgM m hO).N) (j : S352x1024.Idx) :
    (iblk m hO c 3 t : Vec Ideal S352x1024 .f32) j = arr m c main_arg4 (held (row m hO t (j 0)) (j 1)) :=
  (congrArg (V m c (Pipeline.arrRef spec0 3)) (emb3 m hO t j)).trans (congrFun (V_main_arg4 m c) _)

/-- The first moment at a point. -/
theorem block4 (c : Dev nD) (t : Fin (cfgM m hO).N) (j : S352x1024.Idx) :
    (iblk m hO c 4 t : Vec Ideal S352x1024 .f32) j = arr m c main_arg5 (held (row m hO t (j 0)) (j 1)) :=
  (congrArg (V m c (Pipeline.arrRef spec0 4)) (emb4 m hO t j)).trans (congrFun (V_main_arg5 m c) _)

/-- The second moment at a point. -/
theorem block5 (c : Dev nD) (t : Fin (cfgM m hO).N) (j : S352x1024.Idx) :
    (iblk m hO c 5 t : Vec Ideal S352x1024 .f32) j = arr m c main_arg6 (held (row m hO t (j 0)) (j 1)) :=
  (congrArg (V m c (Pipeline.arrRef spec0 5)) (emb5 m hO t j)).trans (congrFun (V_main_arg6 m c) _)

section Body

variable (c : Dev nD) (i : grid0.Coords) (arg2 : Memref sig .tc .vmem S352x1024 .bf16) (harg2 : arg2.IsWhole)
  (arg3 : Memref sig .tc .vmem S352x1024 .bf16) (harg3 : arg3.IsWhole) (arg4 : Memref sig .tc .vmem S2x352x1024 .bf16) (harg4 : arg4.IsWhole)
  (arg5 : Memref sig .tc .vmem S352x1024 .f32) (harg5 : arg5.IsWhole) (arg6 : Memref sig .tc .vmem S352x1024 .f32) (harg6 : arg6.IsWhole)
  (arg7 : Memref sig .tc .vmem S352x1024 .f32) (harg7 : arg7.IsWhole) (arg8 : Memref sig .tc .vmem S352x1024 .f32) (harg8 : arg8.IsWhole)
  (arg9 : Memref sig .tc .vmem S352x1024 .f32) (harg9 : arg9.IsWhole) (arg10 : Memref sig .tc .vmem S352x1024 .f32) (harg10 : arg10.IsWhole)
  (arg11 : Memref sig .tc .vmem S352x1024 .f32) (harg11 : arg11.IsWhole)
  (x0 x1 : Vec Ideal S352x1024 .bf16) (x2 : Vec Ideal S2x352x1024 .bf16) (x3 x4 x5 : Vec Ideal S352x1024 .f32) (xt0 : TbBuf0 (F := Ideal) c tbM0_0)
  (y : S352x1024.Idx)

/-- The body's stores begin at the block's first entry. -/
theorem zero_off : (![0, 0] : Fin S352x1024.rank → Nat) = fun _ => 0 := funext fun a => by fin_cases a <;> rfl

/-- The body's sum of the partial gradients at an index. -/
theorem pay2_apply (v0 v2 : Vec Ideal S352x1024 .bf16) (v5 v9 : Vec Ideal S1x352x1024 .bf16) :
    k0_pay2 (F := Ideal) v0 v2 v5 v9 y = total (v0 y) (v2 y) (v5 (ix3 (0 : Fin 1) (y 0) (y 1))) (v9 (ix3 (0 : Fin 1) (y 0) (y 1))) := by
  show (v0 y : EReal) + v2 y + shapeCast S352x1024 v5 shapeCasts_S1x352x1024_S352x1024 y + shapeCast S352x1024 v9 shapeCasts_S1x352x1024_S352x1024 y = _
  rw [slab_cast, slab_cast]
  rfl

/-- The sum of the partial gradients in a point's blocks. -/
def sumAt : EReal := total (x0 y) (x1 y) (x2 (ix3 (0 : Fin 2) (y 0) (y 1))) (x2 (ix3 (1 : Fin 2) (y 0) (y 1)))

/-- A whole block as the body loads it. -/
abbrev loaded {e : EltTy} (arg : Memref sig .tc .vmem S352x1024 e) (h : arg.IsWhole) (x : Vec Ideal S352x1024 e) : Vec Ideal S352x1024 e :=
  View.readAt (Elt Ideal) arg.view (Rect.unit (s := S352x1024) ![0, 0] S352x1024.size inb_S352x1024_S352x1024_0_0).toLoadRect (h.unread x)

/-- The body's sum of the partial gradients as it loads them. -/
abbrev summed : Vec Ideal S352x1024 .f32 :=
  k0_pay2 (F := Ideal) (loaded arg2 harg2 x0) (loaded arg3 harg3 x1)
    (View.readAt (Elt Ideal) arg4.view (Rect.unit (s := S2x352x1024) ![0, 0, 0] S1x352x1024.size inb_S2x352x1024_S1x352x1024_0_0_0).toLoadRect (harg4.unread x2))
    (View.readAt (Elt Ideal) arg4.view (Rect.unit (s := S2x352x1024) ![1, 0, 0] S1x352x1024.size inb_S2x352x1024_S1x352x1024_1_0_0).toLoadRect (harg4.unread x2))

/-- That sum at an index. -/
theorem summed_apply : summed arg2 harg2 arg3 harg3 arg4 harg4 x0 x1 x2 y = sumAt x0 x1 x2 y := by
  refine (pay2_apply y _ _ _ _).trans ?_
  exact total_congr (congrFun (load_whole arg2 harg2 _ x0) y) (congrFun (load_whole arg3 harg3 _ x1) y) (load_slab arg4 harg4 0 _ x2 (y 0) (y 1)) (load_slab arg4 harg4 1 _ x2 (y 0) (y 1))

/-- A block of the weight or of a moment as the body uses it. -/
abbrev used (arg : Memref sig .tc .vmem S352x1024 .f32) (h : arg.IsWhole) (x : Vec Ideal S352x1024 .f32) : Vec Ideal S352x1024 .f32 := loaded arg h x

/-- That block at an index. -/
theorem used_apply (arg : Memref sig .tc .vmem S352x1024 .f32) (h : arg.IsWhole) (x : Vec Ideal S352x1024 .f32) : used arg h x y = x y :=
  congrFun (load_whole arg h _ x) y

/-- The first output's block: the sum. -/
theorem out6_apply : out0_A_6 (F := Ideal) c i arg2 harg2 arg3 harg3 arg4 harg4 arg5 harg5 arg6 harg6 arg7 harg7 arg8 harg8 arg9 harg9 arg10 harg10 arg11 harg11 x0 x1 x2 x3 x4 x5 xt0 y
    = sumAt x0 x1 x2 y := by
  unfold out0_A_6
  rw [View.read_writes_eq_canon _ _ _ (fun y => cover0_A_6 ..)]
  unfold kernelRun0_A
  dsimp only
  exact (congrFun (View.canon_unit_zero zero_off _ _) y).trans (summed_apply ..)

/-- The second output's block: the change of the weight. -/
theorem out7_apply : out0_A_7 (F := Ideal) c i arg2 harg2 arg3 harg3 arg4 harg4 arg5 harg5 arg6 harg6 arg7 harg7 arg8 harg8 arg9 harg9 arg10 harg10 arg11 harg11 x0 x1 x2 x3 x4 x5 xt0 y
    = delta (x3 y) (x4 y) (x5 y) (sumAt x0 x1 x2 y) := by
  unfold out0_A_7
  rw [View.read_writes_eq_canon _ _ _ (fun y => cover0_A_7 ..)]
  unfold kernelRun0_A
  dsimp only
  refine (congrFun (View.canon_unit_zero zero_off _ _) y).trans ?_
  refine Eq.trans ?_ (delta_congr (used_apply y arg5 harg5 x3) (used_apply y arg6 harg6 x4) (used_apply y arg7 harg7 x5) (summed_apply arg2 harg2 arg3 harg3 arg4 harg4 x0 x1 x2 y))
  rfl

/-- The third output's block: the first moment after the step. -/
theorem out8_apply : out0_A_8 (F := Ideal) c i arg2 harg2 arg3 harg3 arg4 harg4 arg5 harg5 arg6 harg6 arg7 harg7 arg8 harg8 arg9 harg9 arg10 harg10 arg11 harg11 x0 x1 x2 x3 x4 x5 xt0 y
    = newM (x4 y) (sumAt x0 x1 x2 y) := by
  unfold out0_A_8
  rw [View.read_writes_eq_canon _ _ _ (fun y => cover0_A_8 ..)]
  unfold kernelRun0_A
  dsimp only
  refine (congrFun (View.canon_unit_zero zero_off _ _) y).trans ?_
  refine Eq.trans ?_ (congrArg₂ newM (used_apply y arg6 harg6 x4) (summed_apply arg2 harg2 arg3 harg3 arg4 harg4 x0 x1 x2 y))
  rfl

/-- The fourth output's block: the second moment after the step. -/
theorem out9_apply : out0_A_9 (F := Ideal) c i arg2 harg2 arg3 harg3 arg4 harg4 arg5 harg5 arg6 harg6 arg7 harg7 arg8 harg8 arg9 harg9 arg10 harg10 arg11 harg11 x0 x1 x2 x3 x4 x5 xt0 y
    = newV (x5 y) (sumAt x0 x1 x2 y) := by
  unfold out0_A_9
  rw [View.read_writes_eq_canon _ _ _ (fun y => cover0_A_9 ..)]
  unfold kernelRun0_A
  dsimp only
  refine (congrFun (View.canon_unit_zero zero_off _ _) y).trans ?_
  refine Eq.trans ?_ (congrArg₂ newV (used_apply y arg7 harg7 x5) (summed_apply arg2 harg2 arg3 harg3 arg4 harg4 x0 x1 x2 y))
  rfl

end Body

/-- The sum in a point's blocks is the reduced gradient at the block's rows. -/
theorem sum_at (h : word m < 8) (c : Dev nD) (t : Fin (cfgM m hO).N) (j : S352x1024.Idx) :
    sumAt (iblk m hO c 0 t) (iblk m hO c 1 t) (iblk m hO c 2 t) j = sumOf m c (row m hO t (j 0)) (j 1) := by
  unfold sumAt sumOf sum
  exact total_congr (block0 m hO h c t j) (block1 m hO c t j) (block2 m hO c t 0 (j 0) (j 1)) (block2 m hO c t 1 (j 0) (j 1))

/-- The point whose block holds an index. -/
def pt (i : S352x1024.Idx) : Fin (cfgM m hO).N :=
  ⟨(i 0).val / 352, lt_of_lt_of_eq (by have : (i 0).val < 352 := (i 0).isLt; omega : (i 0).val / 352 < 1) (by decide +kernel : 1 = grid0.N)⟩

/-- The index within that block. -/
def inner (i : S352x1024.Idx) : S352x1024.Idx := ix2 (⟨(i 0).val % 352, Nat.mod_lt _ (by decide)⟩ : Fin 352) (i 1)

/-- The index found again from its point and the index within. -/
theorem pt_inner (i : S352x1024.Idx) : (ix2 (row m hO (pt m hO i) (inner i 0)) (inner i 1) : S352x1024.Idx) = i :=
  Shape.idx_ext₂ (by show (i 0).val / 352 * 352 + (i 0).val % 352 = (i 0).val; omega) rfl

/-- Every index of each output is in some point's block. -/
theorem cover6 (i : S352x1024.Idx) : ∃ t : Fin (cfgM m hO).N, ((cfgM m hO).win 6).flush t = true ∧ i ∈ (((cfgM m hO).win 6).blk t).view.set :=
  ⟨pt m hO i, flush0_6 (adm m hO) _, (congrArg (· ∈ (((cfgM m hO).win 6).blk (pt m hO i)).view.set) ((emb6 m hO _ (inner i)).trans (pt_inner m hO i))).mp (View.emb_mem_set _ _)⟩
/-- The same for window 7. -/
theorem cover7 (i : S352x1024.Idx) : ∃ t : Fin (cfgM m hO).N, ((cfgM m hO).win 7).flush t = true ∧ i ∈ (((cfgM m hO).win 7).blk t).view.set :=
  ⟨pt m hO i, flush0_7 (adm m hO) _, (congrArg (· ∈ (((cfgM m hO).win 7).blk (pt m hO i)).view.set) ((emb7 m hO _ (inner i)).trans (pt_inner m hO i))).mp (View.emb_mem_set _ _)⟩
/-- The same for window 8. -/
theorem cover8 (i : S352x1024.Idx) : ∃ t : Fin (cfgM m hO).N, ((cfgM m hO).win 8).flush t = true ∧ i ∈ (((cfgM m hO).win 8).blk t).view.set :=
  ⟨pt m hO i, flush0_8 (adm m hO) _, (congrArg (· ∈ (((cfgM m hO).win 8).blk (pt m hO i)).view.set) ((emb8 m hO _ (inner i)).trans (pt_inner m hO i))).mp (View.emb_mem_set _ _)⟩
/-- The same for window 9. -/
theorem cover9 (i : S352x1024.Idx) : ∃ t : Fin (cfgM m hO).N, ((cfgM m hO).win 9).flush t = true ∧ i ∈ (((cfgM m hO).win 9).blk t).view.set :=
  ⟨pt m hO i, flush0_9 (adm m hO) _, (congrArg (· ∈ (((cfgM m hO).win 9).blk (pt m hO i)).view.set) ((emb9 m hO _ (inner i)).trans (pt_inner m hO i))).mp (View.emb_mem_set _ _)⟩

variable (h : word m < 8)

/-- The change of the weight of a run's arguments. -/
def deltaOf (c : Dev nD) (p : Fin 352) (q : Fin 1024) : EReal :=
  delta (arr m c main_arg4 (held p q)) (arr m c main_arg5 (held p q)) (arr m c main_arg6 (held p q)) (sumOf m c p q)

include h in
/-- The reduced gradient after the run. -/
theorem final6 (c : Dev nD) : (dats m hO 0 c).arrAt 6 (cfgM m hO).N = (fun i => sumOf m c (i 0) (i 1) : Vec Ideal S352x1024 .f32) := by
  refine (dats m hO 0 c).arrAt_eq_of_cover 6 _ (fun t _ => ?_) (cover6 m hO)
  show ((cfgM m hO).win 6).cut (grid0.coords t) ((dats m hO 0 c).after 6 t) = _
  rw [after0_6]
  unfold outsAt0
  dsimp only
  funext j
  refine (out6_apply ..).trans ((sum_at m hO h c t j).trans ?_)
  exact (congrArg (fun i : S352x1024.Idx => sumOf m c (i 0) (i 1)) (emb6 m hO t j)).symm

include h in
/-- The change of the weight after the run. -/
theorem final7 (c : Dev nD) : (dats m hO 0 c).arrAt 7 (cfgM m hO).N = (fun i => deltaOf m c (i 0) (i 1) : Vec Ideal S352x1024 .f32) := by
  refine (dats m hO 0 c).arrAt_eq_of_cover 7 _ (fun t _ => ?_) (cover7 m hO)
  show ((cfgM m hO).win 7).cut (grid0.coords t) ((dats m hO 0 c).after 7 t) = _
  rw [after0_7]
  unfold outsAt0
  dsimp only
  funext j
  refine (out7_apply ..).trans (Eq.trans ?_ (congrArg (fun i : S352x1024.Idx => deltaOf m c (i 0) (i 1)) (emb7 m hO t j)).symm)
  exact delta_congr (block3 m hO c t j) (block4 m hO c t j) (block5 m hO c t j) (sum_at m hO h c t j)

include h in
/-- The first moment after the run. -/
theorem final8 (c : Dev nD) : (dats m hO 0 c).arrAt 8 (cfgM m hO).N
    = (fun i => newM (arr m c main_arg5 (held (i 0) (i 1))) (sumOf m c (i 0) (i 1)) : Vec Ideal S352x1024 .f32) := by
  refine (dats m hO 0 c).arrAt_eq_of_cover 8 _ (fun t _ => ?_) (cover8 m hO)
  show ((cfgM m hO).win 8).cut (grid0.coords t) ((dats m hO 0 c).after 8 t) = _
  rw [after0_8]
  unfold outsAt0
  dsimp only
  funext j
  refine (out8_apply ..).trans (Eq.trans ?_ (congrArg (fun i : S352x1024.Idx => newM (arr m c main_arg5 (held (i 0) (i 1))) (sumOf m c (i 0) (i 1))) (emb8 m hO t j)).symm)
  exact congrArg₂ newM (block4 m hO c t j) (sum_at m hO h c t j)

include h in
/-- The second moment after the run. -/
theorem final9 (c : Dev nD) : (dats m hO 0 c).arrAt 9 (cfgM m hO).N
    = (fun i => newV (arr m c main_arg6 (held (i 0) (i 1))) (sumOf m c (i 0) (i 1)) : Vec Ideal S352x1024 .f32) := by
  refine (dats m hO 0 c).arrAt_eq_of_cover 9 _ (fun t _ => ?_) (cover9 m hO)
  show ((cfgM m hO).win 9).cut (grid0.coords t) ((dats m hO 0 c).after 9 t) = _
  rw [after0_9]
  unfold outsAt0
  dsimp only
  funext j
  refine (out9_apply ..).trans (Eq.trans ?_ (congrArg (fun i : S352x1024.Idx => newV (arr m c main_arg6 (held (i 0) (i 1))) (sumOf m c (i 0) (i 1))) (emb9 m hO t j)).symm)
  exact congrArg₂ newV (block5 m hO c t j) (sum_at m hO h c t j)

/-- The arguments after the run. -/
theorem unchanged (r : PUnit × MemSt nD τ sig (Elt Ideal))
    (hr : Pipeline.FramePost (Pipeline.pin pcfgs fun _ => adm m hO) (dats m hO) 0 (V m) r) (c : Dev nD) :
    arr r.2.mem c main_arg0 = arr m c main_arg0
      ∧ arr r.2.mem c main_arg1 = arr m c main_arg1
      ∧ arr r.2.mem c main_arg2 = arr m c main_arg2
      ∧ arr r.2.mem c main_arg3 = arr m c main_arg3
      ∧ arr r.2.mem c main_arg4 = arr m c main_arg4
      ∧ arr r.2.mem c main_arg5 = arr m c main_arg5
      ∧ arr r.2.mem c main_arg6 = arr m c main_arg6 :=
  ⟨((hr c).2 main_arg0 (by decide : main_arg0 ∈ Pipeline.restRefs sig spec0)).trans (V_main_arg0 m c),
    ((hr c).1 0).trans (((dats m hO 0 c).arrAt_in 0 rfl _).trans ((A_eq m hO c 0).trans (V_main_arg1 m c))),
    ((hr c).1 1).trans (((dats m hO 0 c).arrAt_in 1 rfl _).trans ((A_eq m hO c 1).trans (V_main_arg2 m c))),
    ((hr c).1 2).trans (((dats m hO 0 c).arrAt_in 2 rfl _).trans ((A_eq m hO c 2).trans (V_main_arg3 m c))),
    ((hr c).1 3).trans (((dats m hO 0 c).arrAt_in 3 rfl _).trans ((A_eq m hO c 3).trans (V_main_arg4 m c))),
    ((hr c).1 4).trans (((dats m hO 0 c).arrAt_in 4 rfl _).trans ((A_eq m hO c 4).trans (V_main_arg5 m c))),
    ((hr c).1 5).trans (((dats m hO 0 c).arrAt_in 5 rfl _).trans ((A_eq m hO c 5).trans (V_main_arg6 m c)))⟩

end Value

section Reference

open Cert.FFfnOutRefIdeal.Read

variable (x0 : IVec S1 32) (x1 : FVec Ideal S2816x1024 .bf16) (x2 : FVec Ideal S352x1024 .bf16) (x3 : FVec Ideal S2x352x1024 .bf16) (x4 x5 x6 : FVec Ideal S352x1024 .f32)

/-- The reference's choice of the device's own block, one block of the eight. -/
theorem ref_own (k : Fin 8) (i : S352x1024.Idx) : val_main_v7 (F := Ideal) x0 x1 (idx_main_v8 i k)
    = if BitVec.ofNat 32 k.val = x0 (ix1 (0 : Fin 1)) then x1 (ix2 ⟨k.val * 352 + (i 0).val, by have := k.isLt; have : (i 0).val < 352 := (i 0).isLt; omega⟩ (i 1)) else 0 := by
  rw [val_main_v7_apply, val_main_call0_v1_apply, val_main_v6_apply, val_main_v5_apply, val_main_v3_apply, val_main_v1_apply, val_main_v0_apply,
    val_main_call0_v2_apply]
  refine (select_eq _ _ _ _).trans ?_
  have l0 : (i 0).val < 352 := (i 0).isLt
  have l1 : (i 1).val < 1024 := (i 1).isLt
  have l2 := k.isLt
  refine pick_term (congrArg (BitVec.ofNat 32) ?_) (congrArg x0 (one_idx _)) (congrArg x1 (Shape.idx_ext₂ ?_ ?_)) bits_zero
  · show (k.val * 1 + 0) * 1 + 0 = k.val; omega
  · show ((k.val * 352 + (i 0).val) * 1024 + (i 1).val) / 1024 = k.val * 352 + (i 0).val; omega
  · show ((k.val * 352 + (i 0).val) * 1024 + (i 1).val) % 1024 = (i 1).val; omega

/-- The reference's reduced gradient. -/
theorem ref_sum (i : S352x1024.Idx) : val_main_v13 (F := Ideal) x0 x1 x2 x3 i = sum x0 x1 x2 x3 (i 0) (i 1) := by
  rw [val_main_v13_apply, val_main_v10_apply, val_main_v8_apply, val_main_v12_apply, Fin.sum_univ_two]
  simp only [ref_own]
  exact (total_eq bits_zero bits_zero _ _ _ _).trans (total_congr rfl (congrArg x2 (Shape.idx_ext₂ rfl rfl)) (congrArg x3 (idx_ext₃ rfl rfl rfl)) (congrArg x3 (idx_ext₃ rfl rfl rfl)))

/-- The reference's reduced gradient, as the shard is held. -/
theorem ref_grad (i : S352x1024.Idx) : val_main_v13 (F := Ideal) x0 x1 x2 x3 i = sum x0 x1 x2 x3 (i 0) (i 1) := ref_sum x0 x1 x2 x3 i

/-- The reference's first moment. -/
theorem ref_m (i : S352x1024.Idx) : val_main_v18 (F := Ideal) x0 x1 x2 x3 x5 i = newM (x5 i) (sum x0 x1 x2 x3 (i 0) (i 1)) := by
  rw [val_main_v18_apply, val_main_v17_apply, val_main_v16_apply, val_main_v15_apply, val_main_v14_apply, val_main_cst_2_apply, val_main_cst_3_apply, ref_grad]
  rfl

/-- The reference's second moment. -/
theorem ref_v (i : S352x1024.Idx) : val_main_v24 (F := Ideal) x0 x1 x2 x3 x6 i = newV (x6 i) (sum x0 x1 x2 x3 (i 0) (i 1)) := by
  rw [val_main_v24_apply, val_main_v23_apply, val_main_v22_apply, val_main_v21_apply, val_main_v20_apply, val_main_v19_apply, val_main_cst_4_apply, val_main_cst_5_apply, ref_grad]
  rfl

/-- The reference's change of the weight. -/
theorem ref_d (i : S352x1024.Idx) : val_main_v37 (F := Ideal) x0 x1 x2 x3 x4 x5 x6 i = delta (x4 i) (x5 i) (x6 i) (sum x0 x1 x2 x3 (i 0) (i 1)) := by
  rw [val_main_v37_apply, val_main_v36_apply, val_main_v35_apply, val_main_v34_apply, val_main_v33_apply, val_main_v32_apply, val_main_v31_apply, val_main_v30_apply, val_main_v29_apply, val_main_v28_apply,
    val_main_v27_apply, val_main_v26_apply, val_main_v25_apply, ref_m, ref_v, val_main_cst_6_apply, val_main_cst_7_apply, val_main_cst_8_apply, val_main_cst_9_apply,
    val_main_cst_10_apply]
  rfl

/-- Kernel and reference agree at every index of the four results. -/
theorem algebraic : Cert.algebraic_FFfnOutIdeal_FFfnOutRefIdeal := by
  intro m g m' g' hpre hargs
  have h : word m < 8 := word_of_pre _ _ _ _ _ _ _ (hpre 0)
  have hO := ok_PI m hpre
  refine ⟨fun c => (fun i => sumOf m c (i 0) (i 1) : Vec Ideal S352x1024 .f32), fun c => (fun i => deltaOf m c (i 0) (i 1) : Vec Ideal S352x1024 .f32),
    fun c => (fun i => newM (arr m c main_arg5 (held (i 0) (i 1))) (sumOf m c (i 0) (i 1)) : Vec Ideal S352x1024 .f32),
    fun c => (fun i => newV (arr m c main_arg6 (held (i 0) (i 1))) (sumOf m c (i 0) (i 1)) : Vec Ideal S352x1024 .f32), ?_, ?_⟩
  · exact (θ_run _ _ _).mono (fun r hr c => ⟨((hr c).1 6).trans (final6 m hO h c), ((hr c).1 7).trans (final7 m hO h c), ((hr c).1 8).trans (final8 m hO h c),
      ((hr c).1 9).trans (final9 m hO h c), unchanged m hO r hr c⟩) (run_main m g hO)
  · refine (θ_run _ _ _).mono (fun r h c => ⟨?_, ?_, ?_, ?_, (h c).2.2.2.2⟩) (Cert.FFfnOutRefIdeal.Value.run (F := Ideal) m' g')
    all_goals obtain ⟨a0, a1, a2, a3, a4, a5, a6⟩ := hargs c
    · refine (h c).1.trans ((val_main_v13_eq _ _ _ _).trans ?_)
      rw [a0, a1, a2, a3]
      exact funext fun i => ref_sum _ _ _ _ i
    · refine (h c).2.1.trans ((val_main_v37_eq _ _ _ _ _ _ _).trans ?_)
      rw [a0, a1, a2, a3, a4, a5, a6]
      exact funext fun i => (ref_d _ _ _ _ _ _ _ i).trans (congrArg (fun j : S352x1024.Idx => delta (arr m c main_arg4 j) (arr m c main_arg5 j) (arr m c main_arg6 j) (sumOf m c (i 0) (i 1))) (ix_held i))
    · refine (h c).2.2.1.trans ((val_main_v18_eq _ _ _ _ _).trans ?_)
      rw [a0, a1, a2, a3, a5]
      exact funext fun i => (ref_m _ _ _ _ _ i).trans (congrArg (fun j : S352x1024.Idx => newM (arr m c main_arg5 j) (sumOf m c (i 0) (i 1))) (ix_held i))
    · refine (h c).2.2.2.1.trans ((val_main_v24_eq _ _ _ _ _).trans ?_)
      rw [a0, a1, a2, a3, a6]
      exact funext fun i => (ref_v _ _ _ _ _ i).trans (congrArg (fun j : S352x1024.Idx => newV (arr m c main_arg6 j) (sumOf m c (i 0) (i 1))) (ix_held i))

end Reference

end Cert.Proof.FFfnOut

end
-- ==== Proof.lean ====
/-
  The certificate: for every call the frames of its program, of the same program over the extended reals and of its reference,
  that the two programs of the kernel are the same text, and that kernel and reference compute equal results.
  Each call is proved in a module of its own; this file collects them.
-/
module

public import proofs.«01_k».proof.Defs
public import proofs.«01_k».proof.Proof.Gen.Up
public import proofs.«01_k».proof.Proof.Gen.UpIdeal
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.Loss
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Down
public import proofs.«01_k».proof.Proof.Gen.DownIdeal
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.BwdUp
public import proofs.«01_k».proof.Proof.Gen.BwdUpIdeal
public import proofs.«01_k».proof.Proof.Gen.BwdUpIdeal.Frame
public import proofs.«01_k».proof.Proof.Gen.BwdUpIdeal.Value
public import proofs.«01_k».proof.Proof.Gen.BwdUpRefIdeal
public import proofs.«01_k».proof.Proof.Gen.BwdUpRefIdeal.Run
public import proofs.«01_k».proof.Proof.Gen.BwdUpRefIdeal.Read
public import proofs.«01_k».proof.Proof.Gen.InBwd
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.Gen.Merge
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.WFfnOut
public import proofs.«01_k».proof.Proof.Gen.WFfnOutIdeal
public import proofs.«01_k».proof.Proof.Gen.WFfnOutIdeal.Frame
public import proofs.«01_k».proof.Proof.Gen.WFfnOutIdeal.Value
public import proofs.«01_k».proof.Proof.Gen.WFfnOutRefIdeal
public import proofs.«01_k».proof.Proof.Gen.WFfnOutRefIdeal.Run
public import proofs.«01_k».proof.Proof.Gen.WFfnOutRefIdeal.Read
public import proofs.«01_k».proof.Proof.Gen.WFfnIn
public import proofs.«01_k».proof.Proof.Gen.WFfnInIdeal
public import proofs.«01_k».proof.Proof.Gen.WFfnInIdeal.Frame
public import proofs.«01_k».proof.Proof.Gen.WFfnInIdeal.Value
public import proofs.«01_k».proof.Proof.Gen.WFfnInRefIdeal
public import proofs.«01_k».proof.Proof.Gen.WFfnInRefIdeal.Run
public import proofs.«01_k».proof.Proof.Gen.WFfnInRefIdeal.Read
public import proofs.«01_k».proof.Proof.Gen.WO
public import proofs.«01_k».proof.Proof.Gen.WOIdeal
public import proofs.«01_k».proof.Proof.Gen.WOIdeal.Frame
public import proofs.«01_k».proof.Proof.Gen.WOIdeal.Value
public import proofs.«01_k».proof.Proof.Gen.WORefIdeal
public import proofs.«01_k».proof.Proof.Gen.WORefIdeal.Run
public import proofs.«01_k».proof.Proof.Gen.WORefIdeal.Read
public import proofs.«01_k».proof.Proof.Gen.WPoolOut
public import proofs.«01_k».proof.Proof.Gen.WPoolOutIdeal
public import proofs.«01_k».proof.Proof.Gen.WPoolOutIdeal.Frame
public import proofs.«01_k».proof.Proof.Gen.WPoolOutIdeal.Value
public import proofs.«01_k».proof.Proof.Gen.WPoolOutRefIdeal
public import proofs.«01_k».proof.Proof.Gen.WPoolOutRefIdeal.Run
public import proofs.«01_k».proof.Proof.Gen.WPoolOutRefIdeal.Read
public import proofs.«01_k».proof.Proof.Gen.WRnnOut
public import proofs.«01_k».proof.Proof.Gen.WRnnOutIdeal
public import proofs.«01_k».proof.Proof.Gen.WRnnOutIdeal.Frame
public import proofs.«01_k».proof.Proof.Gen.WRnnOutIdeal.Value
public import proofs.«01_k».proof.Proof.Gen.WRnnOutRefIdeal
public import proofs.«01_k».proof.Proof.Gen.WRnnOutRefIdeal.Run
public import proofs.«01_k».proof.Proof.Gen.WRnnOutRefIdeal.Read
public import proofs.«01_k».proof.Proof.Gen.WIn
public import proofs.«01_k».proof.Proof.Gen.WInIdeal
public import proofs.«01_k».proof.Proof.Gen.WInIdeal.Frame
public import proofs.«01_k».proof.Proof.Gen.WInIdeal.Value
public import proofs.«01_k».proof.Proof.Gen.WInRefIdeal
public import proofs.«01_k».proof.Proof.Gen.WInRefIdeal.Run
public import proofs.«01_k».proof.Proof.Gen.WInRefIdeal.Read
public import proofs.«01_k».proof.Proof.Gen.FIn
public import proofs.«01_k».proof.Proof.Gen.FIn.Frame
public import proofs.«01_k».proof.Proof.Gen.FInIdeal
public import proofs.«01_k».proof.Proof.Gen.FInIdeal.Frame
public import proofs.«01_k».proof.Proof.Gen.FInRefIdeal
public import proofs.«01_k».proof.Proof.Gen.FInRefIdeal.Run
public import proofs.«01_k».proof.Proof.Gen.FInRefIdeal.Read
public import proofs.«01_k».proof.Proof.Gen.Pre_place_w_in
public import proofs.«01_k».proof.Proof.Gen.FPoolOut
public import proofs.«01_k».proof.Proof.Gen.FPoolOut.Frame
public import proofs.«01_k».proof.Proof.Gen.FPoolOutIdeal
public import proofs.«01_k».proof.Proof.Gen.FPoolOutIdeal.Frame
public import proofs.«01_k».proof.Proof.Gen.FPoolOutRefIdeal
public import proofs.«01_k».proof.Proof.Gen.FPoolOutRefIdeal.Run
public import proofs.«01_k».proof.Proof.Gen.FPoolOutRefIdeal.Read
public import proofs.«01_k».proof.Proof.Gen.Pre_place_w_pool_out
public import proofs.«01_k».proof.Proof.Gen.FRnnOut
public import proofs.«01_k».proof.Proof.Gen.FRnnOut.Frame
public import proofs.«01_k».proof.Proof.Gen.FRnnOutIdeal
public import proofs.«01_k».proof.Proof.Gen.FRnnOutIdeal.Frame
public import proofs.«01_k».proof.Proof.Gen.FRnnOutRefIdeal
public import proofs.«01_k».proof.Proof.Gen.FRnnOutRefIdeal.Run
public import proofs.«01_k».proof.Proof.Gen.FRnnOutRefIdeal.Read
public import proofs.«01_k».proof.Proof.Gen.Pre_place_w_rnn_out
public import proofs.«01_k».proof.Proof.Gen.FO
public import proofs.«01_k».proof.Proof.Gen.FO.Frame
public import proofs.«01_k».proof.Proof.Gen.FOIdeal
public import proofs.«01_k».proof.Proof.Gen.FOIdeal.Frame
public import proofs.«01_k».proof.Proof.Gen.FORefIdeal
public import proofs.«01_k».proof.Proof.Gen.FORefIdeal.Run
public import proofs.«01_k».proof.Proof.Gen.FORefIdeal.Read
public import proofs.«01_k».proof.Proof.Gen.Pre_place_w_o
public import proofs.«01_k».proof.Proof.Gen.FFfnIn
public import proofs.«01_k».proof.Proof.Gen.FFfnIn.Frame
public import proofs.«01_k».proof.Proof.Gen.FFfnInIdeal
public import proofs.«01_k».proof.Proof.Gen.FFfnInIdeal.Frame
public import proofs.«01_k».proof.Proof.Gen.FFfnInRefIdeal
public import proofs.«01_k».proof.Proof.Gen.FFfnInRefIdeal.Run
public import proofs.«01_k».proof.Proof.Gen.FFfnInRefIdeal.Read
public import proofs.«01_k».proof.Proof.Gen.Pre_place_w_ffn_in
public import proofs.«01_k».proof.Proof.Gen.FFfnOut
public import proofs.«01_k».proof.Proof.Gen.FFfnOut.Frame
public import proofs.«01_k».proof.Proof.Gen.FFfnOutIdeal
public import proofs.«01_k».proof.Proof.Gen.FFfnOutIdeal.Frame
public import proofs.«01_k».proof.Proof.Gen.FFfnOutRefIdeal
public import proofs.«01_k».proof.Proof.Gen.FFfnOutRefIdeal.Run
public import proofs.«01_k».proof.Proof.Gen.FFfnOutRefIdeal.Read
public import proofs.«01_k».proof.Proof.Gen.Pre_place_w_ffn_out
public import proofs.«01_k».proof.Proof.Up
public import proofs.«01_k».proof.Proof.Loss
public import proofs.«01_k».proof.Proof.Down
public import proofs.«01_k».proof.Proof.BwdUp
public import proofs.«01_k».proof.Proof.InBwd
public import proofs.«01_k».proof.Proof.Merge
public import proofs.«01_k».proof.Proof.WFfnOut
public import proofs.«01_k».proof.Proof.WFfnIn
public import proofs.«01_k».proof.Proof.WO
public import proofs.«01_k».proof.Proof.WPoolOut
public import proofs.«01_k».proof.Proof.WRnnOut
public import proofs.«01_k».proof.Proof.WIn
public import proofs.«01_k».proof.Proof.FIn
public import proofs.«01_k».proof.Proof.FPoolOut
public import proofs.«01_k».proof.Proof.FRnnOut
public import proofs.«01_k».proof.Proof.FO
public import proofs.«01_k».proof.Proof.FFfnIn
public import proofs.«01_k».proof.Proof.FFfnOut

@[expose] public section

noncomputable section

namespace Cert.Proof

/-- Every claim of the certificate. -/
theorem claim : Cert.Claim := ⟨
  Cert.Up.Gen.facts, Cert.UpIdeal.Gen.facts, Cert.UpRefIdeal.Gen.facts,
  Cert.Loss.Gen.facts, Cert.LossIdeal.Gen.facts, Cert.LossRefIdeal.Gen.facts,
  Cert.Down.Gen.facts, Cert.DownIdeal.Gen.facts, Cert.DownRefIdeal.Gen.facts,
  Cert.BwdUp.Gen.facts, Cert.BwdUpIdeal.Gen.facts, Cert.BwdUpRefIdeal.Gen.facts,
  Cert.InBwd.Gen.facts, Cert.InBwdIdeal.Gen.facts, Cert.InBwdRefIdeal.Gen.facts,
  Cert.Merge.Gen.facts, Cert.MergeIdeal.Gen.facts, Cert.MergeRefIdeal.Gen.facts,
  Cert.WFfnOut.Gen.facts, Cert.WFfnOutIdeal.Gen.facts, Cert.WFfnOutRefIdeal.Gen.facts,
  Cert.WFfnIn.Gen.facts, Cert.WFfnInIdeal.Gen.facts, Cert.WFfnInRefIdeal.Gen.facts,
  Cert.WO.Gen.facts, Cert.WOIdeal.Gen.facts, Cert.WORefIdeal.Gen.facts,
  Cert.WPoolOut.Gen.facts, Cert.WPoolOutIdeal.Gen.facts, Cert.WPoolOutRefIdeal.Gen.facts,
  Cert.WRnnOut.Gen.facts, Cert.WRnnOutIdeal.Gen.facts, Cert.WRnnOutRefIdeal.Gen.facts,
  Cert.WIn.Gen.facts, Cert.WInIdeal.Gen.facts, Cert.WInRefIdeal.Gen.facts,
  Cert.FIn.Gen.facts, Cert.FInIdeal.Gen.facts, Cert.FInRefIdeal.Gen.facts,
  Cert.FPoolOut.Gen.facts, Cert.FPoolOutIdeal.Gen.facts, Cert.FPoolOutRefIdeal.Gen.facts,
  Cert.FRnnOut.Gen.facts, Cert.FRnnOutIdeal.Gen.facts, Cert.FRnnOutRefIdeal.Gen.facts,
  Cert.FO.Gen.facts, Cert.FOIdeal.Gen.facts, Cert.FORefIdeal.Gen.facts,
  Cert.FFfnIn.Gen.facts, Cert.FFfnInIdeal.Gen.facts, Cert.FFfnInRefIdeal.Gen.facts,
  Cert.FFfnOut.Gen.facts, Cert.FFfnOutIdeal.Gen.facts, Cert.FFfnOutRefIdeal.Gen.facts,
  Up.pre_facts,
  Down.pre_facts,
  Cert.Pre_place_w_in.Gen.facts,
  Cert.Pre_place_w_pool_out.Gen.facts,
  Cert.Pre_place_w_rnn_out.Gen.facts,
  Cert.Pre_place_w_o.Gen.facts,
  Cert.Pre_place_w_ffn_in.Gen.facts,
  Cert.Pre_place_w_ffn_out.Gen.facts,
  Up.frame_P, Up.frame_PI, Up.frame_PI_pre (hPre := Up.pre_facts), Up.frame_RI, Up.frame_RI_pre (hPre := Up.pre_facts),
  Loss.frame_P, Loss.frame_PI, Loss.frame_RI,
  Down.frame_P, Down.frame_PI, Down.frame_PI_pre (hPre := Down.pre_facts), Down.frame_RI, Down.frame_RI_pre (hPre := Down.pre_facts),
  BwdUp.frame_P, BwdUp.frame_PI, BwdUp.frame_RI,
  InBwd.frame_P, InBwd.frame_PI, InBwd.frame_RI,
  Merge.frame_P, Merge.frame_PI, Merge.frame_RI,
  WFfnOut.frame_P, WFfnOut.frame_PI, WFfnOut.frame_RI,
  WFfnIn.frame_P, WFfnIn.frame_PI, WFfnIn.frame_RI,
  WO.frame_P, WO.frame_PI, WO.frame_RI,
  WPoolOut.frame_P, WPoolOut.frame_PI, WPoolOut.frame_RI,
  WRnnOut.frame_P, WRnnOut.frame_PI, WRnnOut.frame_RI,
  WIn.frame_P, WIn.frame_PI, WIn.frame_RI,
  FIn.frame_P (hPre := Cert.Pre_place_w_in.Gen.facts), FIn.frame_PI (hPre := Cert.Pre_place_w_in.Gen.facts), FIn.frame_RI, FIn.frame_RI_pre (hPre := Cert.Pre_place_w_in.Gen.facts),
  FPoolOut.frame_P (hPre := Cert.Pre_place_w_pool_out.Gen.facts), FPoolOut.frame_PI (hPre := Cert.Pre_place_w_pool_out.Gen.facts), FPoolOut.frame_RI, FPoolOut.frame_RI_pre (hPre := Cert.Pre_place_w_pool_out.Gen.facts),
  FRnnOut.frame_P (hPre := Cert.Pre_place_w_rnn_out.Gen.facts), FRnnOut.frame_PI (hPre := Cert.Pre_place_w_rnn_out.Gen.facts), FRnnOut.frame_RI, FRnnOut.frame_RI_pre (hPre := Cert.Pre_place_w_rnn_out.Gen.facts),
  FO.frame_P (hPre := Cert.Pre_place_w_o.Gen.facts), FO.frame_PI (hPre := Cert.Pre_place_w_o.Gen.facts), FO.frame_RI, FO.frame_RI_pre (hPre := Cert.Pre_place_w_o.Gen.facts),
  FFfnIn.frame_P (hPre := Cert.Pre_place_w_ffn_in.Gen.facts), FFfnIn.frame_PI (hPre := Cert.Pre_place_w_ffn_in.Gen.facts), FFfnIn.frame_RI, FFfnIn.frame_RI_pre (hPre := Cert.Pre_place_w_ffn_in.Gen.facts),
  FFfnOut.frame_P (hPre := Cert.Pre_place_w_ffn_out.Gen.facts), FFfnOut.frame_PI (hPre := Cert.Pre_place_w_ffn_out.Gen.facts), FFfnOut.frame_RI, FFfnOut.frame_RI_pre (hPre := Cert.Pre_place_w_ffn_out.Gen.facts),
  trivial, Up.algebraic (hPre := Up.pre_facts),
  trivial, Loss.algebraic,
  trivial, Down.algebraic (hPre := Down.pre_facts),
  trivial, BwdUp.algebraic,
  trivial, InBwd.algebraic,
  trivial, Merge.algebraic,
  trivial, WFfnOut.algebraic,
  trivial, WFfnIn.algebraic,
  trivial, WO.algebraic,
  trivial, WPoolOut.algebraic,
  trivial, WRnnOut.algebraic,
  trivial, WIn.algebraic,
  trivial, FIn.algebraic (hPre := Cert.Pre_place_w_in.Gen.facts),
  trivial, FPoolOut.algebraic (hPre := Cert.Pre_place_w_pool_out.Gen.facts),
  trivial, FRnnOut.algebraic (hPre := Cert.Pre_place_w_rnn_out.Gen.facts),
  trivial, FO.algebraic (hPre := Cert.Pre_place_w_o.Gen.facts),
  trivial, FFfnIn.algebraic (hPre := Cert.Pre_place_w_ffn_in.Gen.facts),
  trivial, FFfnOut.algebraic (hPre := Cert.Pre_place_w_ffn_out.Gen.facts)⟩

end Cert.Proof

end
